-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5)
      ∧ r.2.mem ((c.tc : Thread Cert.Kernel12.nD Cert.Kernel12.τ).loc Cert.Kernel12.main_arg6) = m ((c.tc : Thread Cert.Kernel12.nD Cert.Kernel12.τ).loc Cert.Kernel12.main_arg6)
      ∧ r.2.mem ((c.tc : Thread Cert.Kernel12.nD Cert.Kernel12.τ).loc Cert.Kernel12.main_arg7) = m ((c.tc : Thread Cert.Kernel12.nD Cert.Kernel12.τ).loc Cert.Kernel12.main_arg7)
      ∧ r.2.mem ((c.tc : Thread Cert.Kernel12.nD Cert.Kernel12.τ).loc Cert.Kernel12.main_arg8) = m ((c.tc : Thread Cert.Kernel12.nD Cert.Kernel12.τ).loc Cert.Kernel12.main_arg8)
      ∧ r.2.mem ((c.tc : Thread Cert.Kernel12.nD Cert.Kernel12.τ).loc Cert.Kernel12.main_arg9) = m ((c.tc : Thread Cert.Kernel12.nD Cert.Kernel12.τ).loc Cert.Kernel12.main_arg9)
      ∧ r.2.mem ((c.tc : Thread Cert.Kernel12.nD Cert.Kernel12.τ).loc Cert.Kernel12.main_arg10) = m ((c.tc : Thread Cert.Kernel12.nD Cert.Kernel12.τ).loc Cert.Kernel12.main_arg10)
      ∧ r.2.mem ((c.tc : Thread Cert.Kernel12.nD Cert.Kernel12.τ).loc Cert.Kernel12.main_arg11) = m ((c.tc : Thread Cert.Kernel12.nD Cert.Kernel12.τ).loc Cert.Kernel12.main_arg11)
      ∧ r.2.mem ((c.tc : Thread Cert.Kernel12.nD Cert.Kernel12.τ).loc Cert.Kernel12.main_arg12) = m ((c.tc : Thread Cert.Kernel12.nD Cert.Kernel12.τ).loc Cert.Kernel12.main_arg12)
      ∧ r.2.mem ((c.tc : Thread Cert.Kernel12.nD Cert.Kernel12.τ).loc Cert.Kernel12.main_arg13) = m ((c.tc : Thread Cert.Kernel12.nD Cert.Kernel12.τ).loc Cert.Kernel12.main_arg13)
      ∧ r.2.mem ((c.tc : Thread Cert.Kernel12.nD Cert.Kernel12.τ).loc Cert.Kernel12.main_arg14) = m ((c.tc : Thread Cert.Kernel12.nD Cert.Kernel12.τ).loc Cert.Kernel12.main_arg14)
      ∧ r.2.mem ((c.tc : Thread Cert.Kernel12.nD Cert.Kernel12.τ).loc Cert.Kernel12.main_arg15) = m ((c.tc : Thread Cert.Kernel12.nD Cert.Kernel12.τ).loc Cert.Kernel12.main_arg15)
      ∧ r.2.mem ((c.tc : Thread Cert.Kernel12.nD Cert.Kernel12.τ).loc Cert.Kernel12.main_arg16) = m ((c.tc : Thread Cert.Kernel12.nD Cert.Kernel12.τ).loc Cert.Kernel12.main_arg16)
      ∧ r.2.mem ((c.tc : Thread Cert.Kernel12.nD Cert.Kernel12.τ).loc Cert.Kernel12.main_arg17) = m ((c.tc : Thread Cert.Kernel12.nD Cert.Kernel12.τ).loc Cert.Kernel12.main_arg17)
      ∧ r.2.mem ((c.tc : Thread Cert.Kernel12.nD Cert.Kernel12.τ).loc Cert.Kernel12.main_arg18) = m ((c.tc : Thread Cert.Kernel12.nD Cert.Kernel12.τ).loc Cert.Kernel12.main_arg18)
      ∧ r.2.mem ((c.tc : Thread Cert.Kernel12.nD Cert.Kernel12.τ).loc Cert.Kernel12.main_arg19) = m ((c.tc : Thread Cert.Kernel12.nD Cert.Kernel12.τ).loc Cert.Kernel12.main_arg19)
      ∧ r.2.mem ((c.tc : Thread Cert.Kernel12.nD Cert.Kernel12.τ).loc Cert.Kernel12.main_arg20) = m ((c.tc : Thread Cert.Kernel12.nD Cert.Kernel12.τ).loc Cert.Kernel12.main_arg20)
      ∧ r.2.mem ((c.tc : Thread Cert.Kernel12.nD Cert.Kernel12.τ).loc Cert.Kernel12.main_arg21) = m ((c.tc : Thread Cert.Kernel12.nD Cert.Kernel12.τ).loc Cert.Kernel12.main_arg21)
      ∧ r.2.mem ((c.tc : Thread Cert.Kernel12.nD Cert.Kernel12.τ).loc Cert.Kernel12.main_arg22) = m ((c.tc : Thread Cert.Kernel12.nD Cert.Kernel12.τ).loc Cert.Kernel12.main_arg22)
      ∧ r.2.mem ((c.tc : Thread Cert.Kernel12.nD Cert.Kernel12.τ).loc Cert.Kernel12.main_arg23) = m ((c.tc : Thread Cert.Kernel12.nD Cert.Kernel12.τ).loc Cert.Kernel12.main_arg23)
      ∧ r.2.mem ((c.tc : Thread Cert.Kernel12.nD Cert.Kernel12.τ).loc Cert.Kernel12.main_arg24) = m ((c.tc : Thread Cert.Kernel12.nD Cert.Kernel12.τ).loc Cert.Kernel12.main_arg24)
      ∧ r.2.mem ((c.tc : Thread Cert.Kernel12.nD Cert.Kernel12.τ).loc Cert.Kernel12.main_arg25) = m ((c.tc : Thread Cert.Kernel12.nD Cert.Kernel12.τ).loc Cert.Kernel12.main_arg25)
      ∧ r.2.mem ((c.tc : Thread Cert.Kernel12.nD Cert.Kernel12.τ).loc Cert.Kernel12.main_arg26) = m ((c.tc : Thread Cert.Kernel12.nD Cert.Kernel12.τ).loc Cert.Kernel12.main_arg26)
      ∧ r.2.mem ((c.tc : Thread Cert.Kernel12.nD Cert.Kernel12.τ).loc Cert.Kernel12.main_arg27) = m ((c.tc : Thread Cert.Kernel12.nD Cert.Kernel12.τ).loc Cert.Kernel12.main_arg27)
      ∧ r.2.mem ((c.tc : Thread Cert.Kernel12.nD Cert.Kernel12.τ).loc Cert.Kernel12.main_arg28) = m ((c.tc : Thread Cert.Kernel12.nD Cert.Kernel12.τ).loc Cert.Kernel12.main_arg28)
      ∧ r.2.mem ((c.tc : Thread Cert.Kernel12.nD Cert.Kernel12.τ).loc Cert.Kernel12.main_arg29) = m ((c.tc : Thread Cert.Kernel12.nD Cert.Kernel12.τ).loc Cert.Kernel12.main_arg29)
      ∧ r.2.mem ((c.tc : Thread Cert.Kernel12.nD Cert.Kernel12.τ).loc Cert.Kernel12.main_arg30) = m ((c.tc : Thread Cert.Kernel12.nD Cert.Kernel12.τ).loc Cert.Kernel12.main_arg30)
      ∧ r.2.mem ((c.tc : Thread Cert.Kernel12.nD Cert.Kernel12.τ).loc Cert.Kernel12.main_arg31) = m ((c.tc : Thread Cert.Kernel12.nD Cert.Kernel12.τ).loc Cert.Kernel12.main_arg31)
      ∧ r.2.mem ((c.tc : Thread Cert.Kernel12.nD Cert.Kernel12.τ).loc Cert.Kernel12.main_arg32) = m ((c.tc : Thread Cert.Kernel12.nD Cert.Kernel12.τ).loc Cert.Kernel12.main_arg32)
      ∧ r.2.mem ((c.tc : Thread Cert.Kernel12.nD Cert.Kernel12.τ).loc Cert.Kernel12.main_arg33) = m ((c.tc : Thread Cert.Kernel12.nD Cert.Kernel12.τ).loc Cert.Kernel12.main_arg33)
      ∧ r.2.mem ((c.tc : Thread Cert.Kernel12.nD Cert.Kernel12.τ).loc Cert.Kernel12.main_arg34) = m ((c.tc : Thread Cert.Kernel12.nD Cert.Kernel12.τ).loc Cert.Kernel12.main_arg34)
      ∧ r.2.mem ((c.tc : Thread Cert.Kernel12.nD Cert.Kernel12.τ).loc Cert.Kernel12.main_arg35) = m ((c.tc : Thread Cert.Kernel12.nD Cert.Kernel12.τ).loc Cert.Kernel12.main_arg35)
      ∧ r.2.mem ((c.tc : Thread Cert.Kernel12.nD Cert.Kernel12.τ).loc Cert.Kernel12.main_arg36) = m ((c.tc : Thread Cert.Kernel12.nD Cert.Kernel12.τ).loc Cert.Kernel12.main_arg36)
      ∧ r.2.mem ((c.tc : Thread Cert.Kernel12.nD Cert.Kernel12.τ).loc Cert.Kernel12.main_arg37) = m ((c.tc : Thread Cert.Kernel12.nD Cert.Kernel12.τ).loc Cert.Kernel12.main_arg37)
      ∧ r.2.mem ((c.tc : Thread Cert.Kernel12.nD Cert.Kernel12.τ).loc Cert.Kernel12.main_arg38) = m ((c.tc : Thread Cert.Kernel12.nD Cert.Kernel12.τ).loc Cert.Kernel12.main_arg38)
      ∧ r.2.mem ((c.tc : Thread Cert.Kernel12.nD Cert.Kernel12.τ).loc Cert.Kernel12.main_arg39) = m ((c.tc : Thread Cert.Kernel12.nD Cert.Kernel12.τ).loc Cert.Kernel12.main_arg39)
      ∧ r.2.mem ((c.tc : Thread Cert.Kernel12.nD Cert.Kernel12.τ).loc Cert.Kernel12.main_arg40) = m ((c.tc : Thread Cert.Kernel12.nD Cert.Kernel12.τ).loc Cert.Kernel12.main_arg40)
      ∧ r.2.mem ((c.tc : Thread Cert.Kernel12.nD Cert.Kernel12.τ).loc Cert.Kernel12.main_arg41) = m ((c.tc : Thread Cert.Kernel12.nD Cert.Kernel12.τ).loc Cert.Kernel12.main_arg41)
      ∧ r.2.mem ((c.tc : Thread Cert.Kernel12.nD Cert.Kernel12.τ).loc Cert.Kernel12.main_arg42) = m ((c.tc : Thread Cert.Kernel12.nD Cert.Kernel12.τ).loc Cert.Kernel12.main_arg42)
      ∧ r.2.mem ((c.tc : Thread Cert.Kernel12.nD Cert.Kernel12.τ).loc Cert.Kernel12.main_arg43) = m ((c.tc : Thread Cert.Kernel12.nD Cert.Kernel12.τ).loc Cert.Kernel12.main_arg43)
      ∧ r.2.mem ((c.tc : Thread Cert.Kernel12.nD Cert.Kernel12.τ).loc Cert.Kernel12.main_arg44) = m ((c.tc : Thread Cert.Kernel12.nD Cert.Kernel12.τ).loc Cert.Kernel12.main_arg44)
      ∧ r.2.mem ((c.tc : Thread Cert.Kernel12.nD Cert.Kernel12.τ).loc Cert.Kernel12.main_arg45) = m ((c.tc : Thread Cert.Kernel12.nD Cert.Kernel12.τ).loc Cert.Kernel12.main_arg45)
      ∧ r.2.mem ((c.tc : Thread Cert.Kernel12.nD Cert.Kernel12.τ).loc Cert.Kernel12.main_arg46) = m ((c.tc : Thread Cert.Kernel12.nD Cert.Kernel12.τ).loc Cert.Kernel12.main_arg46)
      ∧ r.2.mem ((c.tc : Thread Cert.Kernel12.nD Cert.Kernel12.τ).loc Cert.Kernel12.main_arg47) = m ((c.tc : Thread Cert.Kernel12.nD Cert.Kernel12.τ).loc Cert.Kernel12.main_arg47))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
      ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
      ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7)
      ∧ r.2.mem ((c.tc : Thread Cert.Kernel12Ideal.nD Cert.Kernel12Ideal.τ).loc Cert.Kernel12Ideal.main_arg8) = m ((c.tc : Thread Cert.Kernel12Ideal.nD Cert.Kernel12Ideal.τ).loc Cert.Kernel12Ideal.main_arg8)
      ∧ r.2.mem ((c.tc : Thread Cert.Kernel12Ideal.nD Cert.Kernel12Ideal.τ).loc Cert.Kernel12Ideal.main_arg9) = m ((c.tc : Thread Cert.Kernel12Ideal.nD Cert.Kernel12Ideal.τ).loc Cert.Kernel12Ideal.main_arg9)
      ∧ r.2.mem ((c.tc : Thread Cert.Kernel12Ideal.nD Cert.Kernel12Ideal.τ).loc Cert.Kernel12Ideal.main_arg10) = m ((c.tc : Thread Cert.Kernel12Ideal.nD Cert.Kernel12Ideal.τ).loc Cert.Kernel12Ideal.main_arg10)
      ∧ r.2.mem ((c.tc : Thread Cert.Kernel12Ideal.nD Cert.Kernel12Ideal.τ).loc Cert.Kernel12Ideal.main_arg11) = m ((c.tc : Thread Cert.Kernel12Ideal.nD Cert.Kernel12Ideal.τ).loc Cert.Kernel12Ideal.main_arg11)
      ∧ r.2.mem ((c.tc : Thread Cert.Kernel12Ideal.nD Cert.Kernel12Ideal.τ).loc Cert.Kernel12Ideal.main_arg12) = m ((c.tc : Thread Cert.Kernel12Ideal.nD Cert.Kernel12Ideal.τ).loc Cert.Kernel12Ideal.main_arg12)
      ∧ r.2.mem ((c.tc : Thread Cert.Kernel12Ideal.nD Cert.Kernel12Ideal.τ).loc Cert.Kernel12Ideal.main_arg13) = m ((c.tc : Thread Cert.Kernel12Ideal.nD Cert.Kernel12Ideal.τ).loc Cert.Kernel12Ideal.main_arg13)
      ∧ r.2.mem ((c.tc : Thread Cert.Kernel12Ideal.nD Cert.Kernel12Ideal.τ).loc Cert.Kernel12Ideal.main_arg14) = m ((c.tc : Thread Cert.Kernel12Ideal.nD Cert.Kernel12Ideal.τ).loc Cert.Kernel12Ideal.main_arg14)
      ∧ r.2.mem ((c.tc : Thread Cert.Kernel12Ideal.nD Cert.Kernel12Ideal.τ).loc Cert.Kernel12Ideal.main_arg15) = m ((c.tc : Thread Cert.Kernel12Ideal.nD Cert.Kernel12Ideal.τ).loc Cert.Kernel12Ideal.main_arg15)
      ∧ r.2.mem ((c.tc : Thread Cert.Kernel12Ideal.nD Cert.Kernel12Ideal.τ).loc Cert.Kernel12Ideal.main_arg16) = m ((c.tc : Thread Cert.Kernel12Ideal.nD Cert.Kernel12Ideal.τ).loc Cert.Kernel12Ideal.main_arg16)
      ∧ r.2.mem ((c.tc : Thread Cert.Kernel12Ideal.nD Cert.Kernel12Ideal.τ).loc Cert.Kernel12Ideal.main_arg17) = m ((c.tc : Thread Cert.Kernel12Ideal.nD Cert.Kernel12Ideal.τ).loc Cert.Kernel12Ideal.main_arg17)
      ∧ r.2.mem ((c.tc : Thread Cert.Kernel12Ideal.nD Cert.Kernel12Ideal.τ).loc Cert.Kernel12Ideal.main_arg18) = m ((c.tc : Thread Cert.Kernel12Ideal.nD Cert.Kernel12Ideal.τ).loc Cert.Kernel12Ideal.main_arg18)
      ∧ r.2.mem ((c.tc : Thread Cert.Kernel12Ideal.nD Cert.Kernel12Ideal.τ).loc Cert.Kernel12Ideal.main_arg19) = m ((c.tc : Thread Cert.Kernel12Ideal.nD Cert.Kernel12Ideal.τ).loc Cert.Kernel12Ideal.main_arg19)
      ∧ r.2.mem ((c.tc : Thread Cert.Kernel12Ideal.nD Cert.Kernel12Ideal.τ).loc Cert.Kernel12Ideal.main_arg20) = m ((c.tc : Thread Cert.Kernel12Ideal.nD Cert.Kernel12Ideal.τ).loc Cert.Kernel12Ideal.main_arg20)
      ∧ r.2.mem ((c.tc : Thread Cert.Kernel12Ideal.nD Cert.Kernel12Ideal.τ).loc Cert.Kernel12Ideal.main_arg21) = m ((c.tc : Thread Cert.Kernel12Ideal.nD Cert.Kernel12Ideal.τ).loc Cert.Kernel12Ideal.main_arg21)
      ∧ r.2.mem ((c.tc : Thread Cert.Kernel12Ideal.nD Cert.Kernel12Ideal.τ).loc Cert.Kernel12Ideal.main_arg22) = m ((c.tc : Thread Cert.Kernel12Ideal.nD Cert.Kernel12Ideal.τ).loc Cert.Kernel12Ideal.main_arg22)
      ∧ r.2.mem ((c.tc : Thread Cert.Kernel12Ideal.nD Cert.Kernel12Ideal.τ).loc Cert.Kernel12Ideal.main_arg23) = m ((c.tc : Thread Cert.Kernel12Ideal.nD Cert.Kernel12Ideal.τ).loc Cert.Kernel12Ideal.main_arg23)
      ∧ r.2.mem ((c.tc : Thread Cert.Kernel12Ideal.nD Cert.Kernel12Ideal.τ).loc Cert.Kernel12Ideal.main_arg24) = m ((c.tc : Thread Cert.Kernel12Ideal.nD Cert.Kernel12Ideal.τ).loc Cert.Kernel12Ideal.main_arg24)
      ∧ r.2.mem ((c.tc : Thread Cert.Kernel12Ideal.nD Cert.Kernel12Ideal.τ).loc Cert.Kernel12Ideal.main_arg25) = m ((c.tc : Thread Cert.Kernel12Ideal.nD Cert.Kernel12Ideal.τ).loc Cert.Kernel12Ideal.main_arg25)
      ∧ r.2.mem ((c.tc : Thread Cert.Kernel12Ideal.nD Cert.Kernel12Ideal.τ).loc Cert.Kernel12Ideal.main_arg26) = m ((c.tc : Thread Cert.Kernel12Ideal.nD Cert.Kernel12Ideal.τ).loc Cert.Kernel12Ideal.main_arg26)
      ∧ r.2.mem ((c.tc : Thread Cert.Kernel12Ideal.nD Cert.Kernel12Ideal.τ).loc Cert.Kernel12Ideal.main_arg27) = m ((c.tc : Thread Cert.Kernel12Ideal.nD Cert.Kernel12Ideal.τ).loc Cert.Kernel12Ideal.main_arg27)
      ∧ r.2.mem ((c.tc : Thread Cert.Kernel12Ideal.nD Cert.Kernel12Ideal.τ).loc Cert.Kernel12Ideal.main_arg28) = m ((c.tc : Thread Cert.Kernel12Ideal.nD Cert.Kernel12Ideal.τ).loc Cert.Kernel12Ideal.main_arg28)
      ∧ r.2.mem ((c.tc : Thread Cert.Kernel12Ideal.nD Cert.Kernel12Ideal.τ).loc Cert.Kernel12Ideal.main_arg29) = m ((c.tc : Thread Cert.Kernel12Ideal.nD Cert.Kernel12Ideal.τ).loc Cert.Kernel12Ideal.main_arg29)
      ∧ r.2.mem ((c.tc : Thread Cert.Kernel12Ideal.nD Cert.Kernel12Ideal.τ).loc Cert.Kernel12Ideal.main_arg30) = m ((c.tc : Thread Cert.Kernel12Ideal.nD Cert.Kernel12Ideal.τ).loc Cert.Kernel12Ideal.main_arg30)
      ∧ r.2.mem ((c.tc : Thread Cert.Kernel12Ideal.nD Cert.Kernel12Ideal.τ).loc Cert.Kernel12Ideal.main_arg31) = m ((c.tc : Thread Cert.Kernel12Ideal.nD Cert.Kernel12Ideal.τ).loc Cert.Kernel12Ideal.main_arg31)
      ∧ r.2.mem ((c.tc : Thread Cert.Kernel12Ideal.nD Cert.Kernel12Ideal.τ).loc Cert.Kernel12Ideal.main_arg32) = m ((c.tc : Thread Cert.Kernel12Ideal.nD Cert.Kernel12Ideal.τ).loc Cert.Kernel12Ideal.main_arg32)
      ∧ r.2.mem ((c.tc : Thread Cert.Kernel12Ideal.nD Cert.Kernel12Ideal.τ).loc Cert.Kernel12Ideal.main_arg33) = m ((c.tc : Thread Cert.Kernel12Ideal.nD Cert.Kernel12Ideal.τ).loc Cert.Kernel12Ideal.main_arg33)
      ∧ r.2.mem ((c.tc : Thread Cert.Kernel12Ideal.nD Cert.Kernel12Ideal.τ).loc Cert.Kernel12Ideal.main_arg34) = m ((c.tc : Thread Cert.Kernel12Ideal.nD Cert.Kernel12Ideal.τ).loc Cert.Kernel12Ideal.main_arg34)
      ∧ r.2.mem ((c.tc : Thread Cert.Kernel12Ideal.nD Cert.Kernel12Ideal.τ).loc Cert.Kernel12Ideal.main_arg35) = m ((c.tc : Thread Cert.Kernel12Ideal.nD Cert.Kernel12Ideal.τ).loc Cert.Kernel12Ideal.main_arg35)
      ∧ r.2.mem ((c.tc : Thread Cert.Kernel12Ideal.nD Cert.Kernel12Ideal.τ).loc Cert.Kernel12Ideal.main_arg36) = m ((c.tc : Thread Cert.Kernel12Ideal.nD Cert.Kernel12Ideal.τ).loc Cert.Kernel12Ideal.main_arg36)
      ∧ r.2.mem ((c.tc : Thread Cert.Kernel12Ideal.nD Cert.Kernel12Ideal.τ).loc Cert.Kernel12Ideal.main_arg37) = m ((c.tc : Thread Cert.Kernel12Ideal.nD Cert.Kernel12Ideal.τ).loc Cert.Kernel12Ideal.main_arg37)
      ∧ r.2.mem ((c.tc : Thread Cert.Kernel12Ideal.nD Cert.Kernel12Ideal.τ).loc Cert.Kernel12Ideal.main_arg38) = m ((c.tc : Thread Cert.Kernel12Ideal.nD Cert.Kernel12Ideal.τ).loc Cert.Kernel12Ideal.main_arg38)
      ∧ r.2.mem ((c.tc : Thread Cert.Kernel12Ideal.nD Cert.Kernel12Ideal.τ).loc Cert.Kernel12Ideal.main_arg39) = m ((c.tc : Thread Cert.Kernel12Ideal.nD Cert.Kernel12Ideal.τ).loc Cert.Kernel12Ideal.main_arg39)
      ∧ r.2.mem ((c.tc : Thread Cert.Kernel12Ideal.nD Cert.Kernel12Ideal.τ).loc Cert.Kernel12Ideal.main_arg40) = m ((c.tc : Thread Cert.Kernel12Ideal.nD Cert.Kernel12Ideal.τ).loc Cert.Kernel12Ideal.main_arg40)
      ∧ r.2.mem ((c.tc : Thread Cert.Kernel12Ideal.nD Cert.Kernel12Ideal.τ).loc Cert.Kernel12Ideal.main_arg41) = m ((c.tc : Thread Cert.Kernel12Ideal.nD Cert.Kernel12Ideal.τ).loc Cert.Kernel12Ideal.main_arg41)
      ∧ r.2.mem ((c.tc : Thread Cert.Kernel12Ideal.nD Cert.Kernel12Ideal.τ).loc Cert.Kernel12Ideal.main_arg42) = m ((c.tc : Thread Cert.Kernel12Ideal.nD Cert.Kernel12Ideal.τ).loc Cert.Kernel12Ideal.main_arg42)
      ∧ r.2.mem ((c.tc : Thread Cert.Kernel12Ideal.nD Cert.Kernel12Ideal.τ).loc Cert.Kernel12Ideal.main_arg43) = m ((c.tc : Thread Cert.Kernel12Ideal.nD Cert.Kernel12Ideal.τ).loc Cert.Kernel12Ideal.main_arg43)
      ∧ r.2.mem ((c.tc : Thread Cert.Kernel12Ideal.nD Cert.Kernel12Ideal.τ).loc Cert.Kernel12Ideal.main_arg44) = m ((c.tc : Thread Cert.Kernel12Ideal.nD Cert.Kernel12Ideal.τ).loc Cert.Kernel12Ideal.main_arg44)
      ∧ r.2.mem ((c.tc : Thread Cert.Kernel12Ideal.nD Cert.Kernel12Ideal.τ).loc Cert.Kernel12Ideal.main_arg45) = m ((c.tc : Thread Cert.Kernel12Ideal.nD Cert.Kernel12Ideal.τ).loc Cert.Kernel12Ideal.main_arg45)
      ∧ r.2.mem ((c.tc : Thread Cert.Kernel12Ideal.nD Cert.Kernel12Ideal.τ).loc Cert.Kernel12Ideal.main_arg46) = m ((c.tc : Thread Cert.Kernel12Ideal.nD Cert.Kernel12Ideal.τ).loc Cert.Kernel12Ideal.main_arg46)
      ∧ r.2.mem ((c.tc : Thread Cert.Kernel12Ideal.nD Cert.Kernel12Ideal.τ).loc Cert.Kernel12Ideal.main_arg47) = m ((c.tc : Thread Cert.Kernel12Ideal.nD Cert.Kernel12Ideal.τ).loc Cert.Kernel12Ideal.main_arg47))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5)
      ∧ r.2.mem ((c.tc : Thread Cert.Reference12Ideal.nD Cert.Reference12Ideal.τ).loc Cert.Reference12Ideal.main_arg6) = m ((c.tc : Thread Cert.Reference12Ideal.nD Cert.Reference12Ideal.τ).loc Cert.Reference12Ideal.main_arg6)
      ∧ r.2.mem ((c.tc : Thread Cert.Reference12Ideal.nD Cert.Reference12Ideal.τ).loc Cert.Reference12Ideal.main_arg7) = m ((c.tc : Thread Cert.Reference12Ideal.nD Cert.Reference12Ideal.τ).loc Cert.Reference12Ideal.main_arg7)
      ∧ r.2.mem ((c.tc : Thread Cert.Reference12Ideal.nD Cert.Reference12Ideal.τ).loc Cert.Reference12Ideal.main_arg8) = m ((c.tc : Thread Cert.Reference12Ideal.nD Cert.Reference12Ideal.τ).loc Cert.Reference12Ideal.main_arg8)
      ∧ r.2.mem ((c.tc : Thread Cert.Reference12Ideal.nD Cert.Reference12Ideal.τ).loc Cert.Reference12Ideal.main_arg9) = m ((c.tc : Thread Cert.Reference12Ideal.nD Cert.Reference12Ideal.τ).loc Cert.Reference12Ideal.main_arg9)
      ∧ r.2.mem ((c.tc : Thread Cert.Reference12Ideal.nD Cert.Reference12Ideal.τ).loc Cert.Reference12Ideal.main_arg10) = m ((c.tc : Thread Cert.Reference12Ideal.nD Cert.Reference12Ideal.τ).loc Cert.Reference12Ideal.main_arg10)
      ∧ r.2.mem ((c.tc : Thread Cert.Reference12Ideal.nD Cert.Reference12Ideal.τ).loc Cert.Reference12Ideal.main_arg11) = m ((c.tc : Thread Cert.Reference12Ideal.nD Cert.Reference12Ideal.τ).loc Cert.Reference12Ideal.main_arg11)
      ∧ r.2.mem ((c.tc : Thread Cert.Reference12Ideal.nD Cert.Reference12Ideal.τ).loc Cert.Reference12Ideal.main_arg12) = m ((c.tc : Thread Cert.Reference12Ideal.nD Cert.Reference12Ideal.τ).loc Cert.Reference12Ideal.main_arg12)
      ∧ r.2.mem ((c.tc : Thread Cert.Reference12Ideal.nD Cert.Reference12Ideal.τ).loc Cert.Reference12Ideal.main_arg13) = m ((c.tc : Thread Cert.Reference12Ideal.nD Cert.Reference12Ideal.τ).loc Cert.Reference12Ideal.main_arg13)
      ∧ r.2.mem ((c.tc : Thread Cert.Reference12Ideal.nD Cert.Reference12Ideal.τ).loc Cert.Reference12Ideal.main_arg14) = m ((c.tc : Thread Cert.Reference12Ideal.nD Cert.Reference12Ideal.τ).loc Cert.Reference12Ideal.main_arg14)
      ∧ r.2.mem ((c.tc : Thread Cert.Reference12Ideal.nD Cert.Reference12Ideal.τ).loc Cert.Reference12Ideal.main_arg15) = m ((c.tc : Thread Cert.Reference12Ideal.nD Cert.Reference12Ideal.τ).loc Cert.Reference12Ideal.main_arg15)
      ∧ r.2.mem ((c.tc : Thread Cert.Reference12Ideal.nD Cert.Reference12Ideal.τ).loc Cert.Reference12Ideal.main_arg16) = m ((c.tc : Thread Cert.Reference12Ideal.nD Cert.Reference12Ideal.τ).loc Cert.Reference12Ideal.main_arg16)
      ∧ r.2.mem ((c.tc : Thread Cert.Reference12Ideal.nD Cert.Reference12Ideal.τ).loc Cert.Reference12Ideal.main_arg17) = m ((c.tc : Thread Cert.Reference12Ideal.nD Cert.Reference12Ideal.τ).loc Cert.Reference12Ideal.main_arg17)
      ∧ r.2.mem ((c.tc : Thread Cert.Reference12Ideal.nD Cert.Reference12Ideal.τ).loc Cert.Reference12Ideal.main_arg18) = m ((c.tc : Thread Cert.Reference12Ideal.nD Cert.Reference12Ideal.τ).loc Cert.Reference12Ideal.main_arg18)
      ∧ r.2.mem ((c.tc : Thread Cert.Reference12Ideal.nD Cert.Reference12Ideal.τ).loc Cert.Reference12Ideal.main_arg19) = m ((c.tc : Thread Cert.Reference12Ideal.nD Cert.Reference12Ideal.τ).loc Cert.Reference12Ideal.main_arg19)
      ∧ r.2.mem ((c.tc : Thread Cert.Reference12Ideal.nD Cert.Reference12Ideal.τ).loc Cert.Reference12Ideal.main_arg20) = m ((c.tc : Thread Cert.Reference12Ideal.nD Cert.Reference12Ideal.τ).loc Cert.Reference12Ideal.main_arg20)
      ∧ r.2.mem ((c.tc : Thread Cert.Reference12Ideal.nD Cert.Reference12Ideal.τ).loc Cert.Reference12Ideal.main_arg21) = m ((c.tc : Thread Cert.Reference12Ideal.nD Cert.Reference12Ideal.τ).loc Cert.Reference12Ideal.main_arg21)
      ∧ r.2.mem ((c.tc : Thread Cert.Reference12Ideal.nD Cert.Reference12Ideal.τ).loc Cert.Reference12Ideal.main_arg22) = m ((c.tc : Thread Cert.Reference12Ideal.nD Cert.Reference12Ideal.τ).loc Cert.Reference12Ideal.main_arg22)
      ∧ r.2.mem ((c.tc : Thread Cert.Reference12Ideal.nD Cert.Reference12Ideal.τ).loc Cert.Reference12Ideal.main_arg23) = m ((c.tc : Thread Cert.Reference12Ideal.nD Cert.Reference12Ideal.τ).loc Cert.Reference12Ideal.main_arg23)
      ∧ r.2.mem ((c.tc : Thread Cert.Reference12Ideal.nD Cert.Reference12Ideal.τ).loc Cert.Reference12Ideal.main_arg24) = m ((c.tc : Thread Cert.Reference12Ideal.nD Cert.Reference12Ideal.τ).loc Cert.Reference12Ideal.main_arg24)
      ∧ r.2.mem ((c.tc : Thread Cert.Reference12Ideal.nD Cert.Reference12Ideal.τ).loc Cert.Reference12Ideal.main_arg25) = m ((c.tc : Thread Cert.Reference12Ideal.nD Cert.Reference12Ideal.τ).loc Cert.Reference12Ideal.main_arg25)
      ∧ r.2.mem ((c.tc : Thread Cert.Reference12Ideal.nD Cert.Reference12Ideal.τ).loc Cert.Reference12Ideal.main_arg26) = m ((c.tc : Thread Cert.Reference12Ideal.nD Cert.Reference12Ideal.τ).loc Cert.Reference12Ideal.main_arg26)
      ∧ r.2.mem ((c.tc : Thread Cert.Reference12Ideal.nD Cert.Reference12Ideal.τ).loc Cert.Reference12Ideal.main_arg27) = m ((c.tc : Thread Cert.Reference12Ideal.nD Cert.Reference12Ideal.τ).loc Cert.Reference12Ideal.main_arg27)
      ∧ r.2.mem ((c.tc : Thread Cert.Reference12Ideal.nD Cert.Reference12Ideal.τ).loc Cert.Reference12Ideal.main_arg28) = m ((c.tc : Thread Cert.Reference12Ideal.nD Cert.Reference12Ideal.τ).loc Cert.Reference12Ideal.main_arg28)
      ∧ r.2.mem ((c.tc : Thread Cert.Reference12Ideal.nD Cert.Reference12Ideal.τ).loc Cert.Reference12Ideal.main_arg29) = m ((c.tc : Thread Cert.Reference12Ideal.nD Cert.Reference12Ideal.τ).loc Cert.Reference12Ideal.main_arg29)
      ∧ r.2.mem ((c.tc : Thread Cert.Reference12Ideal.nD Cert.Reference12Ideal.τ).loc Cert.Reference12Ideal.main_arg30) = m ((c.tc : Thread Cert.Reference12Ideal.nD Cert.Reference12Ideal.τ).loc Cert.Reference12Ideal.main_arg30)
      ∧ r.2.mem ((c.tc : Thread Cert.Reference12Ideal.nD Cert.Reference12Ideal.τ).loc Cert.Reference12Ideal.main_arg31) = m ((c.tc : Thread Cert.Reference12Ideal.nD Cert.Reference12Ideal.τ).loc Cert.Reference12Ideal.main_arg31)
      ∧ r.2.mem ((c.tc : Thread Cert.Reference12Ideal.nD Cert.Reference12Ideal.τ).loc Cert.Reference12Ideal.main_arg32) = m ((c.tc : Thread Cert.Reference12Ideal.nD Cert.Reference12Ideal.τ).loc Cert.Reference12Ideal.main_arg32)
      ∧ r.2.mem ((c.tc : Thread Cert.Reference12Ideal.nD Cert.Reference12Ideal.τ).loc Cert.Reference12Ideal.main_arg33) = m ((c.tc : Thread Cert.Reference12Ideal.nD Cert.Reference12Ideal.τ).loc Cert.Reference12Ideal.main_arg33)
      ∧ r.2.mem ((c.tc : Thread Cert.Reference12Ideal.nD Cert.Reference12Ideal.τ).loc Cert.Reference12Ideal.main_arg34) = m ((c.tc : Thread Cert.Reference12Ideal.nD Cert.Reference12Ideal.τ).loc Cert.Reference12Ideal.main_arg34)
      ∧ r.2.mem ((c.tc : Thread Cert.Reference12Ideal.nD Cert.Reference12Ideal.τ).loc Cert.Reference12Ideal.main_arg35) = m ((c.tc : Thread Cert.Reference12Ideal.nD Cert.Reference12Ideal.τ).loc Cert.Reference12Ideal.main_arg35)
      ∧ r.2.mem ((c.tc : Thread Cert.Reference12Ideal.nD Cert.Reference12Ideal.τ).loc Cert.Reference12Ideal.main_arg36) = m ((c.tc : Thread Cert.Reference12Ideal.nD Cert.Reference12Ideal.τ).loc Cert.Reference12Ideal.main_arg36)
      ∧ r.2.mem ((c.tc : Thread Cert.Reference12Ideal.nD Cert.Reference12Ideal.τ).loc Cert.Reference12Ideal.main_arg37) = m ((c.tc : Thread Cert.Reference12Ideal.nD Cert.Reference12Ideal.τ).loc Cert.Reference12Ideal.main_arg37)
      ∧ r.2.mem ((c.tc : Thread Cert.Reference12Ideal.nD Cert.Reference12Ideal.τ).loc Cert.Reference12Ideal.main_arg38) = m ((c.tc : Thread Cert.Reference12Ideal.nD Cert.Reference12Ideal.τ).loc Cert.Reference12Ideal.main_arg38)
      ∧ r.2.mem ((c.tc : Thread Cert.Reference12Ideal.nD Cert.Reference12Ideal.τ).loc Cert.Reference12Ideal.main_arg39) = m ((c.tc : Thread Cert.Reference12Ideal.nD Cert.Reference12Ideal.τ).loc Cert.Reference12Ideal.main_arg39)
      ∧ r.2.mem ((c.tc : Thread Cert.Reference12Ideal.nD Cert.Reference12Ideal.τ).loc Cert.Reference12Ideal.main_arg40) = m ((c.tc : Thread Cert.Reference12Ideal.nD Cert.Reference12Ideal.τ).loc Cert.Reference12Ideal.main_arg40)
      ∧ r.2.mem ((c.tc : Thread Cert.Reference12Ideal.nD Cert.Reference12Ideal.τ).loc Cert.Reference12Ideal.main_arg41) = m ((c.tc : Thread Cert.Reference12Ideal.nD Cert.Reference12Ideal.τ).loc Cert.Reference12Ideal.main_arg41)
      ∧ r.2.mem ((c.tc : Thread Cert.Reference12Ideal.nD Cert.Reference12Ideal.τ).loc Cert.Reference12Ideal.main_arg42) = m ((c.tc : Thread Cert.Reference12Ideal.nD Cert.Reference12Ideal.τ).loc Cert.Reference12Ideal.main_arg42)
      ∧ r.2.mem ((c.tc : Thread Cert.Reference12Ideal.nD Cert.Reference12Ideal.τ).loc Cert.Reference12Ideal.main_arg43) = m ((c.tc : Thread Cert.Reference12Ideal.nD Cert.Reference12Ideal.τ).loc Cert.Reference12Ideal.main_arg43)
      ∧ r.2.mem ((c.tc : Thread Cert.Reference12Ideal.nD Cert.Reference12Ideal.τ).loc Cert.Reference12Ideal.main_arg44) = m ((c.tc : Thread Cert.Reference12Ideal.nD Cert.Reference12Ideal.τ).loc Cert.Reference12Ideal.main_arg44)
      ∧ r.2.mem ((c.tc : Thread Cert.Reference12Ideal.nD Cert.Reference12Ideal.τ).loc Cert.Reference12Ideal.main_arg45) = m ((c.tc : Thread Cert.Reference12Ideal.nD Cert.Reference12Ideal.τ).loc Cert.Reference12Ideal.main_arg45)
      ∧ r.2.mem ((c.tc : Thread Cert.Reference12Ideal.nD Cert.Reference12Ideal.τ).loc Cert.Reference12Ideal.main_arg46) = m ((c.tc : Thread Cert.Reference12Ideal.nD Cert.Reference12Ideal.τ).loc Cert.Reference12Ideal.main_arg46)
      ∧ r.2.mem ((c.tc : Thread Cert.Reference12Ideal.nD Cert.Reference12Ideal.τ).loc Cert.Reference12Ideal.main_arg47) = m ((c.tc : Thread Cert.Reference12Ideal.nD Cert.Reference12Ideal.τ).loc Cert.Reference12Ideal.main_arg47))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)) (v6 : (c : Dev Cert.KernelIdeal.nD) → Buf (Elt Ideal) ((c.tc : Thread Cert.KernelIdeal.nD Cert.KernelIdeal.τ).loc Cert.KernelIdeal.main_v0_6)) (v7 : (c : Dev Cert.KernelIdeal.nD) → Buf (Elt Ideal) ((c.tc : Thread Cert.KernelIdeal.nD Cert.KernelIdeal.τ).loc Cert.KernelIdeal.main_v0_7)) (v8 : (c : Dev Cert.KernelIdeal.nD) → Buf (Elt Ideal) ((c.tc : Thread Cert.KernelIdeal.nD Cert.KernelIdeal.τ).loc Cert.KernelIdeal.main_v0_8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_v0_6) = v6 c
          ∧ r.2.mem ((c.tc : Thread Cert.KernelIdeal.nD Cert.KernelIdeal.τ).loc Cert.KernelIdeal.main_v0_7) = v7 c
          ∧ r.2.mem ((c.tc : Thread Cert.KernelIdeal.nD Cert.KernelIdeal.τ).loc Cert.KernelIdeal.main_v0_8) = v8 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_v66) = v1 c
          ∧ r.2.mem ((c.tc : Thread Cert.ReferenceIdeal.nD Cert.ReferenceIdeal.τ).loc Cert.ReferenceIdeal.main_v92) = v2 c
          ∧ r.2.mem ((c.tc : Thread Cert.ReferenceIdeal.nD Cert.ReferenceIdeal.τ).loc Cert.ReferenceIdeal.main_v112) = v3 c
          ∧ r.2.mem ((c.tc : Thread Cert.ReferenceIdeal.nD Cert.ReferenceIdeal.τ).loc Cert.ReferenceIdeal.main_v113) = v4 c
          ∧ r.2.mem ((c.tc : Thread Cert.ReferenceIdeal.nD Cert.ReferenceIdeal.τ).loc Cert.ReferenceIdeal.main_v114) = v5 c
          ∧ r.2.mem ((c.tc : Thread Cert.ReferenceIdeal.nD Cert.ReferenceIdeal.τ).loc Cert.ReferenceIdeal.main_v109) = v6 c
          ∧ r.2.mem ((c.tc : Thread Cert.ReferenceIdeal.nD Cert.ReferenceIdeal.τ).loc Cert.ReferenceIdeal.main_v115) = v7 c
          ∧ r.2.mem ((c.tc : Thread Cert.ReferenceIdeal.nD Cert.ReferenceIdeal.τ).loc Cert.ReferenceIdeal.main_v110) = v8 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v5) = v0 c
          ∧ r.2.mem ((c.tc : Thread Cert.Reference2Ideal.nD Cert.Reference2Ideal.τ).loc Cert.Reference2Ideal.main_v6) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_v7) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_v5) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v13) = v0 c
          ∧ r.2.mem ((c.tc : Thread Cert.Reference5Ideal.nD Cert.Reference5Ideal.τ).loc Cert.Reference5Ideal.main_v15) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)) (v2 : (c : Dev Cert.Kernel8Ideal.nD) → Buf (Elt Ideal) ((c.tc : Thread Cert.Kernel8Ideal.nD Cert.Kernel8Ideal.τ).loc Cert.Kernel8Ideal.main_v0_2)) (v3 : (c : Dev Cert.Kernel8Ideal.nD) → Buf (Elt Ideal) ((c.tc : Thread Cert.Kernel8Ideal.nD Cert.Kernel8Ideal.τ).loc Cert.Kernel8Ideal.main_v0_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_v0_2) = v2 c
          ∧ r.2.mem ((c.tc : Thread Cert.Kernel8Ideal.nD Cert.Kernel8Ideal.τ).loc Cert.Kernel8Ideal.main_v0_3) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v1) = v0 c
          ∧ r.2.mem ((c.tc : Thread Cert.Reference8Ideal.nD Cert.Reference8Ideal.τ).loc Cert.Reference8Ideal.main_v25) = v1 c
          ∧ r.2.mem ((c.tc : Thread Cert.Reference8Ideal.nD Cert.Reference8Ideal.τ).loc Cert.Reference8Ideal.main_v6) = v2 c
          ∧ r.2.mem ((c.tc : Thread Cert.Reference8Ideal.nD Cert.Reference8Ideal.τ).loc Cert.Reference8Ideal.main_v12) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)) (v2 : (c : Dev Cert.Kernel9Ideal.nD) → Buf (Elt Ideal) ((c.tc : Thread Cert.Kernel9Ideal.nD Cert.Kernel9Ideal.τ).loc Cert.Kernel9Ideal.main_v0_2)) (v3 : (c : Dev Cert.Kernel9Ideal.nD) → Buf (Elt Ideal) ((c.tc : Thread Cert.Kernel9Ideal.nD Cert.Kernel9Ideal.τ).loc Cert.Kernel9Ideal.main_v0_3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_v0_2) = v2 c
          ∧ r.2.mem ((c.tc : Thread Cert.Kernel9Ideal.nD Cert.Kernel9Ideal.τ).loc Cert.Kernel9Ideal.main_v0_3) = v3 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v2) = v0 c
          ∧ r.2.mem ((c.tc : Thread Cert.Reference9Ideal.nD Cert.Reference9Ideal.τ).loc Cert.Reference9Ideal.main_v26) = v1 c
          ∧ r.2.mem ((c.tc : Thread Cert.Reference9Ideal.nD Cert.Reference9Ideal.τ).loc Cert.Reference9Ideal.main_v7) = v2 c
          ∧ r.2.mem ((c.tc : Thread Cert.Reference9Ideal.nD Cert.Reference9Ideal.τ).loc Cert.Reference9Ideal.main_v13) = v3 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)) (v3 : (c : Dev Cert.Kernel10Ideal.nD) → Buf (Elt Ideal) ((c.tc : Thread Cert.Kernel10Ideal.nD Cert.Kernel10Ideal.τ).loc Cert.Kernel10Ideal.main_v0_3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_v0_3) = v3 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v1) = v0 c
          ∧ r.2.mem ((c.tc : Thread Cert.Reference10Ideal.nD Cert.Reference10Ideal.τ).loc Cert.Reference10Ideal.main_v25) = v1 c
          ∧ r.2.mem ((c.tc : Thread Cert.Reference10Ideal.nD Cert.Reference10Ideal.τ).loc Cert.Reference10Ideal.main_v6) = v2 c
          ∧ r.2.mem ((c.tc : Thread Cert.Reference10Ideal.nD Cert.Reference10Ideal.τ).loc Cert.Reference10Ideal.main_v12) = v3 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)) (v3 : (c : Dev Cert.Kernel11Ideal.nD) → Buf (Elt Ideal) ((c.tc : Thread Cert.Kernel11Ideal.nD Cert.Kernel11Ideal.τ).loc Cert.Kernel11Ideal.main_v0_3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_v0_3) = v3 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v8) = v0 c
          ∧ r.2.mem ((c.tc : Thread Cert.Reference11Ideal.nD Cert.Reference11Ideal.τ).loc Cert.Reference11Ideal.main_v32) = v1 c
          ∧ r.2.mem ((c.tc : Thread Cert.Reference11Ideal.nD Cert.Reference11Ideal.τ).loc Cert.Reference11Ideal.main_v13) = v2 c
          ∧ r.2.mem ((c.tc : Thread Cert.Reference11Ideal.nD Cert.Reference11Ideal.τ).loc Cert.Reference11Ideal.main_v19) = v3 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)
      ∧ m' ((c.tc : Thread Cert.Reference12Ideal.nD Cert.Reference12Ideal.τ).loc Cert.Reference12Ideal.main_arg6) = m ((c.tc : Thread Cert.Kernel12Ideal.nD Cert.Kernel12Ideal.τ).loc Cert.Kernel12Ideal.main_arg6)
      ∧ m' ((c.tc : Thread Cert.Reference12Ideal.nD Cert.Reference12Ideal.τ).loc Cert.Reference12Ideal.main_arg7) = m ((c.tc : Thread Cert.Kernel12Ideal.nD Cert.Kernel12Ideal.τ).loc Cert.Kernel12Ideal.main_arg7)
      ∧ m' ((c.tc : Thread Cert.Reference12Ideal.nD Cert.Reference12Ideal.τ).loc Cert.Reference12Ideal.main_arg8) = m ((c.tc : Thread Cert.Kernel12Ideal.nD Cert.Kernel12Ideal.τ).loc Cert.Kernel12Ideal.main_arg8)
      ∧ m' ((c.tc : Thread Cert.Reference12Ideal.nD Cert.Reference12Ideal.τ).loc Cert.Reference12Ideal.main_arg9) = m ((c.tc : Thread Cert.Kernel12Ideal.nD Cert.Kernel12Ideal.τ).loc Cert.Kernel12Ideal.main_arg9)
      ∧ m' ((c.tc : Thread Cert.Reference12Ideal.nD Cert.Reference12Ideal.τ).loc Cert.Reference12Ideal.main_arg10) = m ((c.tc : Thread Cert.Kernel12Ideal.nD Cert.Kernel12Ideal.τ).loc Cert.Kernel12Ideal.main_arg10)
      ∧ m' ((c.tc : Thread Cert.Reference12Ideal.nD Cert.Reference12Ideal.τ).loc Cert.Reference12Ideal.main_arg11) = m ((c.tc : Thread Cert.Kernel12Ideal.nD Cert.Kernel12Ideal.τ).loc Cert.Kernel12Ideal.main_arg11)
      ∧ m' ((c.tc : Thread Cert.Reference12Ideal.nD Cert.Reference12Ideal.τ).loc Cert.Reference12Ideal.main_arg12) = m ((c.tc : Thread Cert.Kernel12Ideal.nD Cert.Kernel12Ideal.τ).loc Cert.Kernel12Ideal.main_arg12)
      ∧ m' ((c.tc : Thread Cert.Reference12Ideal.nD Cert.Reference12Ideal.τ).loc Cert.Reference12Ideal.main_arg13) = m ((c.tc : Thread Cert.Kernel12Ideal.nD Cert.Kernel12Ideal.τ).loc Cert.Kernel12Ideal.main_arg13)
      ∧ m' ((c.tc : Thread Cert.Reference12Ideal.nD Cert.Reference12Ideal.τ).loc Cert.Reference12Ideal.main_arg14) = m ((c.tc : Thread Cert.Kernel12Ideal.nD Cert.Kernel12Ideal.τ).loc Cert.Kernel12Ideal.main_arg14)
      ∧ m' ((c.tc : Thread Cert.Reference12Ideal.nD Cert.Reference12Ideal.τ).loc Cert.Reference12Ideal.main_arg15) = m ((c.tc : Thread Cert.Kernel12Ideal.nD Cert.Kernel12Ideal.τ).loc Cert.Kernel12Ideal.main_arg15)
      ∧ m' ((c.tc : Thread Cert.Reference12Ideal.nD Cert.Reference12Ideal.τ).loc Cert.Reference12Ideal.main_arg16) = m ((c.tc : Thread Cert.Kernel12Ideal.nD Cert.Kernel12Ideal.τ).loc Cert.Kernel12Ideal.main_arg16)
      ∧ m' ((c.tc : Thread Cert.Reference12Ideal.nD Cert.Reference12Ideal.τ).loc Cert.Reference12Ideal.main_arg17) = m ((c.tc : Thread Cert.Kernel12Ideal.nD Cert.Kernel12Ideal.τ).loc Cert.Kernel12Ideal.main_arg17)
      ∧ m' ((c.tc : Thread Cert.Reference12Ideal.nD Cert.Reference12Ideal.τ).loc Cert.Reference12Ideal.main_arg18) = m ((c.tc : Thread Cert.Kernel12Ideal.nD Cert.Kernel12Ideal.τ).loc Cert.Kernel12Ideal.main_arg18)
      ∧ m' ((c.tc : Thread Cert.Reference12Ideal.nD Cert.Reference12Ideal.τ).loc Cert.Reference12Ideal.main_arg19) = m ((c.tc : Thread Cert.Kernel12Ideal.nD Cert.Kernel12Ideal.τ).loc Cert.Kernel12Ideal.main_arg19)
      ∧ m' ((c.tc : Thread Cert.Reference12Ideal.nD Cert.Reference12Ideal.τ).loc Cert.Reference12Ideal.main_arg20) = m ((c.tc : Thread Cert.Kernel12Ideal.nD Cert.Kernel12Ideal.τ).loc Cert.Kernel12Ideal.main_arg20)
      ∧ m' ((c.tc : Thread Cert.Reference12Ideal.nD Cert.Reference12Ideal.τ).loc Cert.Reference12Ideal.main_arg21) = m ((c.tc : Thread Cert.Kernel12Ideal.nD Cert.Kernel12Ideal.τ).loc Cert.Kernel12Ideal.main_arg21)
      ∧ m' ((c.tc : Thread Cert.Reference12Ideal.nD Cert.Reference12Ideal.τ).loc Cert.Reference12Ideal.main_arg22) = m ((c.tc : Thread Cert.Kernel12Ideal.nD Cert.Kernel12Ideal.τ).loc Cert.Kernel12Ideal.main_arg22)
      ∧ m' ((c.tc : Thread Cert.Reference12Ideal.nD Cert.Reference12Ideal.τ).loc Cert.Reference12Ideal.main_arg23) = m ((c.tc : Thread Cert.Kernel12Ideal.nD Cert.Kernel12Ideal.τ).loc Cert.Kernel12Ideal.main_arg23)
      ∧ m' ((c.tc : Thread Cert.Reference12Ideal.nD Cert.Reference12Ideal.τ).loc Cert.Reference12Ideal.main_arg24) = m ((c.tc : Thread Cert.Kernel12Ideal.nD Cert.Kernel12Ideal.τ).loc Cert.Kernel12Ideal.main_arg24)
      ∧ m' ((c.tc : Thread Cert.Reference12Ideal.nD Cert.Reference12Ideal.τ).loc Cert.Reference12Ideal.main_arg25) = m ((c.tc : Thread Cert.Kernel12Ideal.nD Cert.Kernel12Ideal.τ).loc Cert.Kernel12Ideal.main_arg25)
      ∧ m' ((c.tc : Thread Cert.Reference12Ideal.nD Cert.Reference12Ideal.τ).loc Cert.Reference12Ideal.main_arg26) = m ((c.tc : Thread Cert.Kernel12Ideal.nD Cert.Kernel12Ideal.τ).loc Cert.Kernel12Ideal.main_arg26)
      ∧ m' ((c.tc : Thread Cert.Reference12Ideal.nD Cert.Reference12Ideal.τ).loc Cert.Reference12Ideal.main_arg27) = m ((c.tc : Thread Cert.Kernel12Ideal.nD Cert.Kernel12Ideal.τ).loc Cert.Kernel12Ideal.main_arg27)
      ∧ m' ((c.tc : Thread Cert.Reference12Ideal.nD Cert.Reference12Ideal.τ).loc Cert.Reference12Ideal.main_arg28) = m ((c.tc : Thread Cert.Kernel12Ideal.nD Cert.Kernel12Ideal.τ).loc Cert.Kernel12Ideal.main_arg28)
      ∧ m' ((c.tc : Thread Cert.Reference12Ideal.nD Cert.Reference12Ideal.τ).loc Cert.Reference12Ideal.main_arg29) = m ((c.tc : Thread Cert.Kernel12Ideal.nD Cert.Kernel12Ideal.τ).loc Cert.Kernel12Ideal.main_arg29)
      ∧ m' ((c.tc : Thread Cert.Reference12Ideal.nD Cert.Reference12Ideal.τ).loc Cert.Reference12Ideal.main_arg30) = m ((c.tc : Thread Cert.Kernel12Ideal.nD Cert.Kernel12Ideal.τ).loc Cert.Kernel12Ideal.main_arg30)
      ∧ m' ((c.tc : Thread Cert.Reference12Ideal.nD Cert.Reference12Ideal.τ).loc Cert.Reference12Ideal.main_arg31) = m ((c.tc : Thread Cert.Kernel12Ideal.nD Cert.Kernel12Ideal.τ).loc Cert.Kernel12Ideal.main_arg31)
      ∧ m' ((c.tc : Thread Cert.Reference12Ideal.nD Cert.Reference12Ideal.τ).loc Cert.Reference12Ideal.main_arg32) = m ((c.tc : Thread Cert.Kernel12Ideal.nD Cert.Kernel12Ideal.τ).loc Cert.Kernel12Ideal.main_arg32)
      ∧ m' ((c.tc : Thread Cert.Reference12Ideal.nD Cert.Reference12Ideal.τ).loc Cert.Reference12Ideal.main_arg33) = m ((c.tc : Thread Cert.Kernel12Ideal.nD Cert.Kernel12Ideal.τ).loc Cert.Kernel12Ideal.main_arg33)
      ∧ m' ((c.tc : Thread Cert.Reference12Ideal.nD Cert.Reference12Ideal.τ).loc Cert.Reference12Ideal.main_arg34) = m ((c.tc : Thread Cert.Kernel12Ideal.nD Cert.Kernel12Ideal.τ).loc Cert.Kernel12Ideal.main_arg34)
      ∧ m' ((c.tc : Thread Cert.Reference12Ideal.nD Cert.Reference12Ideal.τ).loc Cert.Reference12Ideal.main_arg35) = m ((c.tc : Thread Cert.Kernel12Ideal.nD Cert.Kernel12Ideal.τ).loc Cert.Kernel12Ideal.main_arg35)
      ∧ m' ((c.tc : Thread Cert.Reference12Ideal.nD Cert.Reference12Ideal.τ).loc Cert.Reference12Ideal.main_arg36) = m ((c.tc : Thread Cert.Kernel12Ideal.nD Cert.Kernel12Ideal.τ).loc Cert.Kernel12Ideal.main_arg36)
      ∧ m' ((c.tc : Thread Cert.Reference12Ideal.nD Cert.Reference12Ideal.τ).loc Cert.Reference12Ideal.main_arg37) = m ((c.tc : Thread Cert.Kernel12Ideal.nD Cert.Kernel12Ideal.τ).loc Cert.Kernel12Ideal.main_arg37)
      ∧ m' ((c.tc : Thread Cert.Reference12Ideal.nD Cert.Reference12Ideal.τ).loc Cert.Reference12Ideal.main_arg38) = m ((c.tc : Thread Cert.Kernel12Ideal.nD Cert.Kernel12Ideal.τ).loc Cert.Kernel12Ideal.main_arg38)
      ∧ m' ((c.tc : Thread Cert.Reference12Ideal.nD Cert.Reference12Ideal.τ).loc Cert.Reference12Ideal.main_arg39) = m ((c.tc : Thread Cert.Kernel12Ideal.nD Cert.Kernel12Ideal.τ).loc Cert.Kernel12Ideal.main_arg39)
      ∧ m' ((c.tc : Thread Cert.Reference12Ideal.nD Cert.Reference12Ideal.τ).loc Cert.Reference12Ideal.main_arg40) = m ((c.tc : Thread Cert.Kernel12Ideal.nD Cert.Kernel12Ideal.τ).loc Cert.Kernel12Ideal.main_arg40)
      ∧ m' ((c.tc : Thread Cert.Reference12Ideal.nD Cert.Reference12Ideal.τ).loc Cert.Reference12Ideal.main_arg41) = m ((c.tc : Thread Cert.Kernel12Ideal.nD Cert.Kernel12Ideal.τ).loc Cert.Kernel12Ideal.main_arg41)
      ∧ m' ((c.tc : Thread Cert.Reference12Ideal.nD Cert.Reference12Ideal.τ).loc Cert.Reference12Ideal.main_arg42) = m ((c.tc : Thread Cert.Kernel12Ideal.nD Cert.Kernel12Ideal.τ).loc Cert.Kernel12Ideal.main_arg42)
      ∧ m' ((c.tc : Thread Cert.Reference12Ideal.nD Cert.Reference12Ideal.τ).loc Cert.Reference12Ideal.main_arg43) = m ((c.tc : Thread Cert.Kernel12Ideal.nD Cert.Kernel12Ideal.τ).loc Cert.Kernel12Ideal.main_arg43)
      ∧ m' ((c.tc : Thread Cert.Reference12Ideal.nD Cert.Reference12Ideal.τ).loc Cert.Reference12Ideal.main_arg44) = m ((c.tc : Thread Cert.Kernel12Ideal.nD Cert.Kernel12Ideal.τ).loc Cert.Kernel12Ideal.main_arg44)
      ∧ m' ((c.tc : Thread Cert.Reference12Ideal.nD Cert.Reference12Ideal.τ).loc Cert.Reference12Ideal.main_arg45) = m ((c.tc : Thread Cert.Kernel12Ideal.nD Cert.Kernel12Ideal.τ).loc Cert.Kernel12Ideal.main_arg45)
      ∧ m' ((c.tc : Thread Cert.Reference12Ideal.nD Cert.Reference12Ideal.τ).loc Cert.Reference12Ideal.main_arg46) = m ((c.tc : Thread Cert.Kernel12Ideal.nD Cert.Kernel12Ideal.τ).loc Cert.Kernel12Ideal.main_arg46)
      ∧ m' ((c.tc : Thread Cert.Reference12Ideal.nD Cert.Reference12Ideal.τ).loc Cert.Reference12Ideal.main_arg47) = m ((c.tc : Thread Cert.Kernel12Ideal.nD Cert.Kernel12Ideal.τ).loc Cert.Kernel12Ideal.main_arg47)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)) (v3 : (c : Dev Cert.Kernel12Ideal.nD) → Buf (Elt Ideal) ((c.tc : Thread Cert.Kernel12Ideal.nD Cert.Kernel12Ideal.τ).loc Cert.Kernel12Ideal.main_v0_3)) (v4 : (c : Dev Cert.Kernel12Ideal.nD) → Buf (Elt Ideal) ((c.tc : Thread Cert.Kernel12Ideal.nD Cert.Kernel12Ideal.τ).loc Cert.Kernel12Ideal.main_v0_4)) (v5 : (c : Dev Cert.Kernel12Ideal.nD) → Buf (Elt Ideal) ((c.tc : Thread Cert.Kernel12Ideal.nD Cert.Kernel12Ideal.τ).loc Cert.Kernel12Ideal.main_v0_5)) (v6 : (c : Dev Cert.Kernel12Ideal.nD) → Buf (Elt Ideal) ((c.tc : Thread Cert.Kernel12Ideal.nD Cert.Kernel12Ideal.τ).loc Cert.Kernel12Ideal.main_v0_6)) (v7 : (c : Dev Cert.Kernel12Ideal.nD) → Buf (Elt Ideal) ((c.tc : Thread Cert.Kernel12Ideal.nD Cert.Kernel12Ideal.τ).loc Cert.Kernel12Ideal.main_v0_7)) (v8 : (c : Dev Cert.Kernel12Ideal.nD) → Buf (Elt Ideal) ((c.tc : Thread Cert.Kernel12Ideal.nD Cert.Kernel12Ideal.τ).loc Cert.Kernel12Ideal.main_v0_8)) (v9 : (c : Dev Cert.Kernel12Ideal.nD) → Buf (Elt Ideal) ((c.tc : Thread Cert.Kernel12Ideal.nD Cert.Kernel12Ideal.τ).loc Cert.Kernel12Ideal.main_v0_9)) (v10 : (c : Dev Cert.Kernel12Ideal.nD) → Buf (Elt Ideal) ((c.tc : Thread Cert.Kernel12Ideal.nD Cert.Kernel12Ideal.τ).loc Cert.Kernel12Ideal.main_v0_10)) (v11 : (c : Dev Cert.Kernel12Ideal.nD) → Buf (Elt Ideal) ((c.tc : Thread Cert.Kernel12Ideal.nD Cert.Kernel12Ideal.τ).loc Cert.Kernel12Ideal.main_v0_11)) (v12 : (c : Dev Cert.Kernel12Ideal.nD) → Buf (Elt Ideal) ((c.tc : Thread Cert.Kernel12Ideal.nD Cert.Kernel12Ideal.τ).loc Cert.Kernel12Ideal.main_v0_12)) (v13 : (c : Dev Cert.Kernel12Ideal.nD) → Buf (Elt Ideal) ((c.tc : Thread Cert.Kernel12Ideal.nD Cert.Kernel12Ideal.τ).loc Cert.Kernel12Ideal.main_v0_13)) (v14 : (c : Dev Cert.Kernel12Ideal.nD) → Buf (Elt Ideal) ((c.tc : Thread Cert.Kernel12Ideal.nD Cert.Kernel12Ideal.τ).loc Cert.Kernel12Ideal.main_v0_14)) (v15 : (c : Dev Cert.Kernel12Ideal.nD) → Buf (Elt Ideal) ((c.tc : Thread Cert.Kernel12Ideal.nD Cert.Kernel12Ideal.τ).loc Cert.Kernel12Ideal.main_v0_15)) (v16 : (c : Dev Cert.Kernel12Ideal.nD) → Buf (Elt Ideal) ((c.tc : Thread Cert.Kernel12Ideal.nD Cert.Kernel12Ideal.τ).loc Cert.Kernel12Ideal.main_v0_16)) (v17 : (c : Dev Cert.Kernel12Ideal.nD) → Buf (Elt Ideal) ((c.tc : Thread Cert.Kernel12Ideal.nD Cert.Kernel12Ideal.τ).loc Cert.Kernel12Ideal.main_v0_17)) (v18 : (c : Dev Cert.Kernel12Ideal.nD) → Buf (Elt Ideal) ((c.tc : Thread Cert.Kernel12Ideal.nD Cert.Kernel12Ideal.τ).loc Cert.Kernel12Ideal.main_v0_18)) (v19 : (c : Dev Cert.Kernel12Ideal.nD) → Buf (Elt Ideal) ((c.tc : Thread Cert.Kernel12Ideal.nD Cert.Kernel12Ideal.τ).loc Cert.Kernel12Ideal.main_v0_19)) (v20 : (c : Dev Cert.Kernel12Ideal.nD) → Buf (Elt Ideal) ((c.tc : Thread Cert.Kernel12Ideal.nD Cert.Kernel12Ideal.τ).loc Cert.Kernel12Ideal.main_v0_20)) (v21 : (c : Dev Cert.Kernel12Ideal.nD) → Buf (Elt Ideal) ((c.tc : Thread Cert.Kernel12Ideal.nD Cert.Kernel12Ideal.τ).loc Cert.Kernel12Ideal.main_v0_21)) (v22 : (c : Dev Cert.Kernel12Ideal.nD) → Buf (Elt Ideal) ((c.tc : Thread Cert.Kernel12Ideal.nD Cert.Kernel12Ideal.τ).loc Cert.Kernel12Ideal.main_v0_22)) (v23 : (c : Dev Cert.Kernel12Ideal.nD) → Buf (Elt Ideal) ((c.tc : Thread Cert.Kernel12Ideal.nD Cert.Kernel12Ideal.τ).loc Cert.Kernel12Ideal.main_v0_23)) (v24 : (c : Dev Cert.Kernel12Ideal.nD) → Buf (Elt Ideal) ((c.tc : Thread Cert.Kernel12Ideal.nD Cert.Kernel12Ideal.τ).loc Cert.Kernel12Ideal.main_v0_24)) (v25 : (c : Dev Cert.Kernel12Ideal.nD) → Buf (Elt Ideal) ((c.tc : Thread Cert.Kernel12Ideal.nD Cert.Kernel12Ideal.τ).loc Cert.Kernel12Ideal.main_v0_25)) (v26 : (c : Dev Cert.Kernel12Ideal.nD) → Buf (Elt Ideal) ((c.tc : Thread Cert.Kernel12Ideal.nD Cert.Kernel12Ideal.τ).loc Cert.Kernel12Ideal.main_v0_26)) (v27 : (c : Dev Cert.Kernel12Ideal.nD) → Buf (Elt Ideal) ((c.tc : Thread Cert.Kernel12Ideal.nD Cert.Kernel12Ideal.τ).loc Cert.Kernel12Ideal.main_v0_27)) (v28 : (c : Dev Cert.Kernel12Ideal.nD) → Buf (Elt Ideal) ((c.tc : Thread Cert.Kernel12Ideal.nD Cert.Kernel12Ideal.τ).loc Cert.Kernel12Ideal.main_v0_28)) (v29 : (c : Dev Cert.Kernel12Ideal.nD) → Buf (Elt Ideal) ((c.tc : Thread Cert.Kernel12Ideal.nD Cert.Kernel12Ideal.τ).loc Cert.Kernel12Ideal.main_v0_29)) (v30 : (c : Dev Cert.Kernel12Ideal.nD) → Buf (Elt Ideal) ((c.tc : Thread Cert.Kernel12Ideal.nD Cert.Kernel12Ideal.τ).loc Cert.Kernel12Ideal.main_v0_30)) (v31 : (c : Dev Cert.Kernel12Ideal.nD) → Buf (Elt Ideal) ((c.tc : Thread Cert.Kernel12Ideal.nD Cert.Kernel12Ideal.τ).loc Cert.Kernel12Ideal.main_v0_31)) (v32 : (c : Dev Cert.Kernel12Ideal.nD) → Buf (Elt Ideal) ((c.tc : Thread Cert.Kernel12Ideal.nD Cert.Kernel12Ideal.τ).loc Cert.Kernel12Ideal.main_v0_32)) (v33 : (c : Dev Cert.Kernel12Ideal.nD) → Buf (Elt Ideal) ((c.tc : Thread Cert.Kernel12Ideal.nD Cert.Kernel12Ideal.τ).loc Cert.Kernel12Ideal.main_v0_33)) (v34 : (c : Dev Cert.Kernel12Ideal.nD) → Buf (Elt Ideal) ((c.tc : Thread Cert.Kernel12Ideal.nD Cert.Kernel12Ideal.τ).loc Cert.Kernel12Ideal.main_v0_34)) (v35 : (c : Dev Cert.Kernel12Ideal.nD) → Buf (Elt Ideal) ((c.tc : Thread Cert.Kernel12Ideal.nD Cert.Kernel12Ideal.τ).loc Cert.Kernel12Ideal.main_v0_35)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_v0_3) = v3 c
          ∧ r.2.mem ((c.tc : Thread Cert.Kernel12Ideal.nD Cert.Kernel12Ideal.τ).loc Cert.Kernel12Ideal.main_v0_4) = v4 c
          ∧ r.2.mem ((c.tc : Thread Cert.Kernel12Ideal.nD Cert.Kernel12Ideal.τ).loc Cert.Kernel12Ideal.main_v0_5) = v5 c
          ∧ r.2.mem ((c.tc : Thread Cert.Kernel12Ideal.nD Cert.Kernel12Ideal.τ).loc Cert.Kernel12Ideal.main_v0_6) = v6 c
          ∧ r.2.mem ((c.tc : Thread Cert.Kernel12Ideal.nD Cert.Kernel12Ideal.τ).loc Cert.Kernel12Ideal.main_v0_7) = v7 c
          ∧ r.2.mem ((c.tc : Thread Cert.Kernel12Ideal.nD Cert.Kernel12Ideal.τ).loc Cert.Kernel12Ideal.main_v0_8) = v8 c
          ∧ r.2.mem ((c.tc : Thread Cert.Kernel12Ideal.nD Cert.Kernel12Ideal.τ).loc Cert.Kernel12Ideal.main_v0_9) = v9 c
          ∧ r.2.mem ((c.tc : Thread Cert.Kernel12Ideal.nD Cert.Kernel12Ideal.τ).loc Cert.Kernel12Ideal.main_v0_10) = v10 c
          ∧ r.2.mem ((c.tc : Thread Cert.Kernel12Ideal.nD Cert.Kernel12Ideal.τ).loc Cert.Kernel12Ideal.main_v0_11) = v11 c
          ∧ r.2.mem ((c.tc : Thread Cert.Kernel12Ideal.nD Cert.Kernel12Ideal.τ).loc Cert.Kernel12Ideal.main_v0_12) = v12 c
          ∧ r.2.mem ((c.tc : Thread Cert.Kernel12Ideal.nD Cert.Kernel12Ideal.τ).loc Cert.Kernel12Ideal.main_v0_13) = v13 c
          ∧ r.2.mem ((c.tc : Thread Cert.Kernel12Ideal.nD Cert.Kernel12Ideal.τ).loc Cert.Kernel12Ideal.main_v0_14) = v14 c
          ∧ r.2.mem ((c.tc : Thread Cert.Kernel12Ideal.nD Cert.Kernel12Ideal.τ).loc Cert.Kernel12Ideal.main_v0_15) = v15 c
          ∧ r.2.mem ((c.tc : Thread Cert.Kernel12Ideal.nD Cert.Kernel12Ideal.τ).loc Cert.Kernel12Ideal.main_v0_16) = v16 c
          ∧ r.2.mem ((c.tc : Thread Cert.Kernel12Ideal.nD Cert.Kernel12Ideal.τ).loc Cert.Kernel12Ideal.main_v0_17) = v17 c
          ∧ r.2.mem ((c.tc : Thread Cert.Kernel12Ideal.nD Cert.Kernel12Ideal.τ).loc Cert.Kernel12Ideal.main_v0_18) = v18 c
          ∧ r.2.mem ((c.tc : Thread Cert.Kernel12Ideal.nD Cert.Kernel12Ideal.τ).loc Cert.Kernel12Ideal.main_v0_19) = v19 c
          ∧ r.2.mem ((c.tc : Thread Cert.Kernel12Ideal.nD Cert.Kernel12Ideal.τ).loc Cert.Kernel12Ideal.main_v0_20) = v20 c
          ∧ r.2.mem ((c.tc : Thread Cert.Kernel12Ideal.nD Cert.Kernel12Ideal.τ).loc Cert.Kernel12Ideal.main_v0_21) = v21 c
          ∧ r.2.mem ((c.tc : Thread Cert.Kernel12Ideal.nD Cert.Kernel12Ideal.τ).loc Cert.Kernel12Ideal.main_v0_22) = v22 c
          ∧ r.2.mem ((c.tc : Thread Cert.Kernel12Ideal.nD Cert.Kernel12Ideal.τ).loc Cert.Kernel12Ideal.main_v0_23) = v23 c
          ∧ r.2.mem ((c.tc : Thread Cert.Kernel12Ideal.nD Cert.Kernel12Ideal.τ).loc Cert.Kernel12Ideal.main_v0_24) = v24 c
          ∧ r.2.mem ((c.tc : Thread Cert.Kernel12Ideal.nD Cert.Kernel12Ideal.τ).loc Cert.Kernel12Ideal.main_v0_25) = v25 c
          ∧ r.2.mem ((c.tc : Thread Cert.Kernel12Ideal.nD Cert.Kernel12Ideal.τ).loc Cert.Kernel12Ideal.main_v0_26) = v26 c
          ∧ r.2.mem ((c.tc : Thread Cert.Kernel12Ideal.nD Cert.Kernel12Ideal.τ).loc Cert.Kernel12Ideal.main_v0_27) = v27 c
          ∧ r.2.mem ((c.tc : Thread Cert.Kernel12Ideal.nD Cert.Kernel12Ideal.τ).loc Cert.Kernel12Ideal.main_v0_28) = v28 c
          ∧ r.2.mem ((c.tc : Thread Cert.Kernel12Ideal.nD Cert.Kernel12Ideal.τ).loc Cert.Kernel12Ideal.main_v0_29) = v29 c
          ∧ r.2.mem ((c.tc : Thread Cert.Kernel12Ideal.nD Cert.Kernel12Ideal.τ).loc Cert.Kernel12Ideal.main_v0_30) = v30 c
          ∧ r.2.mem ((c.tc : Thread Cert.Kernel12Ideal.nD Cert.Kernel12Ideal.τ).loc Cert.Kernel12Ideal.main_v0_31) = v31 c
          ∧ r.2.mem ((c.tc : Thread Cert.Kernel12Ideal.nD Cert.Kernel12Ideal.τ).loc Cert.Kernel12Ideal.main_v0_32) = v32 c
          ∧ r.2.mem ((c.tc : Thread Cert.Kernel12Ideal.nD Cert.Kernel12Ideal.τ).loc Cert.Kernel12Ideal.main_v0_33) = v33 c
          ∧ r.2.mem ((c.tc : Thread Cert.Kernel12Ideal.nD Cert.Kernel12Ideal.τ).loc Cert.Kernel12Ideal.main_v0_34) = v34 c
          ∧ r.2.mem ((c.tc : Thread Cert.Kernel12Ideal.nD Cert.Kernel12Ideal.τ).loc Cert.Kernel12Ideal.main_v0_35) = v35 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
          ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
          ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7)
          ∧ r.2.mem ((c.tc : Thread Cert.Kernel12Ideal.nD Cert.Kernel12Ideal.τ).loc Cert.Kernel12Ideal.main_arg8) = m ((c.tc : Thread Cert.Kernel12Ideal.nD Cert.Kernel12Ideal.τ).loc Cert.Kernel12Ideal.main_arg8)
          ∧ r.2.mem ((c.tc : Thread Cert.Kernel12Ideal.nD Cert.Kernel12Ideal.τ).loc Cert.Kernel12Ideal.main_arg9) = m ((c.tc : Thread Cert.Kernel12Ideal.nD Cert.Kernel12Ideal.τ).loc Cert.Kernel12Ideal.main_arg9)
          ∧ r.2.mem ((c.tc : Thread Cert.Kernel12Ideal.nD Cert.Kernel12Ideal.τ).loc Cert.Kernel12Ideal.main_arg10) = m ((c.tc : Thread Cert.Kernel12Ideal.nD Cert.Kernel12Ideal.τ).loc Cert.Kernel12Ideal.main_arg10)
          ∧ r.2.mem ((c.tc : Thread Cert.Kernel12Ideal.nD Cert.Kernel12Ideal.τ).loc Cert.Kernel12Ideal.main_arg11) = m ((c.tc : Thread Cert.Kernel12Ideal.nD Cert.Kernel12Ideal.τ).loc Cert.Kernel12Ideal.main_arg11)
          ∧ r.2.mem ((c.tc : Thread Cert.Kernel12Ideal.nD Cert.Kernel12Ideal.τ).loc Cert.Kernel12Ideal.main_arg12) = m ((c.tc : Thread Cert.Kernel12Ideal.nD Cert.Kernel12Ideal.τ).loc Cert.Kernel12Ideal.main_arg12)
          ∧ r.2.mem ((c.tc : Thread Cert.Kernel12Ideal.nD Cert.Kernel12Ideal.τ).loc Cert.Kernel12Ideal.main_arg13) = m ((c.tc : Thread Cert.Kernel12Ideal.nD Cert.Kernel12Ideal.τ).loc Cert.Kernel12Ideal.main_arg13)
          ∧ r.2.mem ((c.tc : Thread Cert.Kernel12Ideal.nD Cert.Kernel12Ideal.τ).loc Cert.Kernel12Ideal.main_arg14) = m ((c.tc : Thread Cert.Kernel12Ideal.nD Cert.Kernel12Ideal.τ).loc Cert.Kernel12Ideal.main_arg14)
          ∧ r.2.mem ((c.tc : Thread Cert.Kernel12Ideal.nD Cert.Kernel12Ideal.τ).loc Cert.Kernel12Ideal.main_arg15) = m ((c.tc : Thread Cert.Kernel12Ideal.nD Cert.Kernel12Ideal.τ).loc Cert.Kernel12Ideal.main_arg15)
          ∧ r.2.mem ((c.tc : Thread Cert.Kernel12Ideal.nD Cert.Kernel12Ideal.τ).loc Cert.Kernel12Ideal.main_arg16) = m ((c.tc : Thread Cert.Kernel12Ideal.nD Cert.Kernel12Ideal.τ).loc Cert.Kernel12Ideal.main_arg16)
          ∧ r.2.mem ((c.tc : Thread Cert.Kernel12Ideal.nD Cert.Kernel12Ideal.τ).loc Cert.Kernel12Ideal.main_arg17) = m ((c.tc : Thread Cert.Kernel12Ideal.nD Cert.Kernel12Ideal.τ).loc Cert.Kernel12Ideal.main_arg17)
          ∧ r.2.mem ((c.tc : Thread Cert.Kernel12Ideal.nD Cert.Kernel12Ideal.τ).loc Cert.Kernel12Ideal.main_arg18) = m ((c.tc : Thread Cert.Kernel12Ideal.nD Cert.Kernel12Ideal.τ).loc Cert.Kernel12Ideal.main_arg18)
          ∧ r.2.mem ((c.tc : Thread Cert.Kernel12Ideal.nD Cert.Kernel12Ideal.τ).loc Cert.Kernel12Ideal.main_arg19) = m ((c.tc : Thread Cert.Kernel12Ideal.nD Cert.Kernel12Ideal.τ).loc Cert.Kernel12Ideal.main_arg19)
          ∧ r.2.mem ((c.tc : Thread Cert.Kernel12Ideal.nD Cert.Kernel12Ideal.τ).loc Cert.Kernel12Ideal.main_arg20) = m ((c.tc : Thread Cert.Kernel12Ideal.nD Cert.Kernel12Ideal.τ).loc Cert.Kernel12Ideal.main_arg20)
          ∧ r.2.mem ((c.tc : Thread Cert.Kernel12Ideal.nD Cert.Kernel12Ideal.τ).loc Cert.Kernel12Ideal.main_arg21) = m ((c.tc : Thread Cert.Kernel12Ideal.nD Cert.Kernel12Ideal.τ).loc Cert.Kernel12Ideal.main_arg21)
          ∧ r.2.mem ((c.tc : Thread Cert.Kernel12Ideal.nD Cert.Kernel12Ideal.τ).loc Cert.Kernel12Ideal.main_arg22) = m ((c.tc : Thread Cert.Kernel12Ideal.nD Cert.Kernel12Ideal.τ).loc Cert.Kernel12Ideal.main_arg22)
          ∧ r.2.mem ((c.tc : Thread Cert.Kernel12Ideal.nD Cert.Kernel12Ideal.τ).loc Cert.Kernel12Ideal.main_arg23) = m ((c.tc : Thread Cert.Kernel12Ideal.nD Cert.Kernel12Ideal.τ).loc Cert.Kernel12Ideal.main_arg23)
          ∧ r.2.mem ((c.tc : Thread Cert.Kernel12Ideal.nD Cert.Kernel12Ideal.τ).loc Cert.Kernel12Ideal.main_arg24) = m ((c.tc : Thread Cert.Kernel12Ideal.nD Cert.Kernel12Ideal.τ).loc Cert.Kernel12Ideal.main_arg24)
          ∧ r.2.mem ((c.tc : Thread Cert.Kernel12Ideal.nD Cert.Kernel12Ideal.τ).loc Cert.Kernel12Ideal.main_arg25) = m ((c.tc : Thread Cert.Kernel12Ideal.nD Cert.Kernel12Ideal.τ).loc Cert.Kernel12Ideal.main_arg25)
          ∧ r.2.mem ((c.tc : Thread Cert.Kernel12Ideal.nD Cert.Kernel12Ideal.τ).loc Cert.Kernel12Ideal.main_arg26) = m ((c.tc : Thread Cert.Kernel12Ideal.nD Cert.Kernel12Ideal.τ).loc Cert.Kernel12Ideal.main_arg26)
          ∧ r.2.mem ((c.tc : Thread Cert.Kernel12Ideal.nD Cert.Kernel12Ideal.τ).loc Cert.Kernel12Ideal.main_arg27) = m ((c.tc : Thread Cert.Kernel12Ideal.nD Cert.Kernel12Ideal.τ).loc Cert.Kernel12Ideal.main_arg27)
          ∧ r.2.mem ((c.tc : Thread Cert.Kernel12Ideal.nD Cert.Kernel12Ideal.τ).loc Cert.Kernel12Ideal.main_arg28) = m ((c.tc : Thread Cert.Kernel12Ideal.nD Cert.Kernel12Ideal.τ).loc Cert.Kernel12Ideal.main_arg28)
          ∧ r.2.mem ((c.tc : Thread Cert.Kernel12Ideal.nD Cert.Kernel12Ideal.τ).loc Cert.Kernel12Ideal.main_arg29) = m ((c.tc : Thread Cert.Kernel12Ideal.nD Cert.Kernel12Ideal.τ).loc Cert.Kernel12Ideal.main_arg29)
          ∧ r.2.mem ((c.tc : Thread Cert.Kernel12Ideal.nD Cert.Kernel12Ideal.τ).loc Cert.Kernel12Ideal.main_arg30) = m ((c.tc : Thread Cert.Kernel12Ideal.nD Cert.Kernel12Ideal.τ).loc Cert.Kernel12Ideal.main_arg30)
          ∧ r.2.mem ((c.tc : Thread Cert.Kernel12Ideal.nD Cert.Kernel12Ideal.τ).loc Cert.Kernel12Ideal.main_arg31) = m ((c.tc : Thread Cert.Kernel12Ideal.nD Cert.Kernel12Ideal.τ).loc Cert.Kernel12Ideal.main_arg31)
          ∧ r.2.mem ((c.tc : Thread Cert.Kernel12Ideal.nD Cert.Kernel12Ideal.τ).loc Cert.Kernel12Ideal.main_arg32) = m ((c.tc : Thread Cert.Kernel12Ideal.nD Cert.Kernel12Ideal.τ).loc Cert.Kernel12Ideal.main_arg32)
          ∧ r.2.mem ((c.tc : Thread Cert.Kernel12Ideal.nD Cert.Kernel12Ideal.τ).loc Cert.Kernel12Ideal.main_arg33) = m ((c.tc : Thread Cert.Kernel12Ideal.nD Cert.Kernel12Ideal.τ).loc Cert.Kernel12Ideal.main_arg33)
          ∧ r.2.mem ((c.tc : Thread Cert.Kernel12Ideal.nD Cert.Kernel12Ideal.τ).loc Cert.Kernel12Ideal.main_arg34) = m ((c.tc : Thread Cert.Kernel12Ideal.nD Cert.Kernel12Ideal.τ).loc Cert.Kernel12Ideal.main_arg34)
          ∧ r.2.mem ((c.tc : Thread Cert.Kernel12Ideal.nD Cert.Kernel12Ideal.τ).loc Cert.Kernel12Ideal.main_arg35) = m ((c.tc : Thread Cert.Kernel12Ideal.nD Cert.Kernel12Ideal.τ).loc Cert.Kernel12Ideal.main_arg35)
          ∧ r.2.mem ((c.tc : Thread Cert.Kernel12Ideal.nD Cert.Kernel12Ideal.τ).loc Cert.Kernel12Ideal.main_arg36) = m ((c.tc : Thread Cert.Kernel12Ideal.nD Cert.Kernel12Ideal.τ).loc Cert.Kernel12Ideal.main_arg36)
          ∧ r.2.mem ((c.tc : Thread Cert.Kernel12Ideal.nD Cert.Kernel12Ideal.τ).loc Cert.Kernel12Ideal.main_arg37) = m ((c.tc : Thread Cert.Kernel12Ideal.nD Cert.Kernel12Ideal.τ).loc Cert.Kernel12Ideal.main_arg37)
          ∧ r.2.mem ((c.tc : Thread Cert.Kernel12Ideal.nD Cert.Kernel12Ideal.τ).loc Cert.Kernel12Ideal.main_arg38) = m ((c.tc : Thread Cert.Kernel12Ideal.nD Cert.Kernel12Ideal.τ).loc Cert.Kernel12Ideal.main_arg38)
          ∧ r.2.mem ((c.tc : Thread Cert.Kernel12Ideal.nD Cert.Kernel12Ideal.τ).loc Cert.Kernel12Ideal.main_arg39) = m ((c.tc : Thread Cert.Kernel12Ideal.nD Cert.Kernel12Ideal.τ).loc Cert.Kernel12Ideal.main_arg39)
          ∧ r.2.mem ((c.tc : Thread Cert.Kernel12Ideal.nD Cert.Kernel12Ideal.τ).loc Cert.Kernel12Ideal.main_arg40) = m ((c.tc : Thread Cert.Kernel12Ideal.nD Cert.Kernel12Ideal.τ).loc Cert.Kernel12Ideal.main_arg40)
          ∧ r.2.mem ((c.tc : Thread Cert.Kernel12Ideal.nD Cert.Kernel12Ideal.τ).loc Cert.Kernel12Ideal.main_arg41) = m ((c.tc : Thread Cert.Kernel12Ideal.nD Cert.Kernel12Ideal.τ).loc Cert.Kernel12Ideal.main_arg41)
          ∧ r.2.mem ((c.tc : Thread Cert.Kernel12Ideal.nD Cert.Kernel12Ideal.τ).loc Cert.Kernel12Ideal.main_arg42) = m ((c.tc : Thread Cert.Kernel12Ideal.nD Cert.Kernel12Ideal.τ).loc Cert.Kernel12Ideal.main_arg42)
          ∧ r.2.mem ((c.tc : Thread Cert.Kernel12Ideal.nD Cert.Kernel12Ideal.τ).loc Cert.Kernel12Ideal.main_arg43) = m ((c.tc : Thread Cert.Kernel12Ideal.nD Cert.Kernel12Ideal.τ).loc Cert.Kernel12Ideal.main_arg43)
          ∧ r.2.mem ((c.tc : Thread Cert.Kernel12Ideal.nD Cert.Kernel12Ideal.τ).loc Cert.Kernel12Ideal.main_arg44) = m ((c.tc : Thread Cert.Kernel12Ideal.nD Cert.Kernel12Ideal.τ).loc Cert.Kernel12Ideal.main_arg44)
          ∧ r.2.mem ((c.tc : Thread Cert.Kernel12Ideal.nD Cert.Kernel12Ideal.τ).loc Cert.Kernel12Ideal.main_arg45) = m ((c.tc : Thread Cert.Kernel12Ideal.nD Cert.Kernel12Ideal.τ).loc Cert.Kernel12Ideal.main_arg45)
          ∧ r.2.mem ((c.tc : Thread Cert.Kernel12Ideal.nD Cert.Kernel12Ideal.τ).loc Cert.Kernel12Ideal.main_arg46) = m ((c.tc : Thread Cert.Kernel12Ideal.nD Cert.Kernel12Ideal.τ).loc Cert.Kernel12Ideal.main_arg46)
          ∧ r.2.mem ((c.tc : Thread Cert.Kernel12Ideal.nD Cert.Kernel12Ideal.τ).loc Cert.Kernel12Ideal.main_arg47) = m ((c.tc : Thread Cert.Kernel12Ideal.nD Cert.Kernel12Ideal.τ).loc Cert.Kernel12Ideal.main_arg47))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v23) = v0 c
          ∧ r.2.mem ((c.tc : Thread Cert.Reference12Ideal.nD Cert.Reference12Ideal.τ).loc Cert.Reference12Ideal.main_v47) = v1 c
          ∧ r.2.mem ((c.tc : Thread Cert.Reference12Ideal.nD Cert.Reference12Ideal.τ).loc Cert.Reference12Ideal.main_v71) = v2 c
          ∧ r.2.mem ((c.tc : Thread Cert.Reference12Ideal.nD Cert.Reference12Ideal.τ).loc Cert.Reference12Ideal.main_v95) = v3 c
          ∧ r.2.mem ((c.tc : Thread Cert.Reference12Ideal.nD Cert.Reference12Ideal.τ).loc Cert.Reference12Ideal.main_v119) = v4 c
          ∧ r.2.mem ((c.tc : Thread Cert.Reference12Ideal.nD Cert.Reference12Ideal.τ).loc Cert.Reference12Ideal.main_v143) = v5 c
          ∧ r.2.mem ((c.tc : Thread Cert.Reference12Ideal.nD Cert.Reference12Ideal.τ).loc Cert.Reference12Ideal.main_v167) = v6 c
          ∧ r.2.mem ((c.tc : Thread Cert.Reference12Ideal.nD Cert.Reference12Ideal.τ).loc Cert.Reference12Ideal.main_v191) = v7 c
          ∧ r.2.mem ((c.tc : Thread Cert.Reference12Ideal.nD Cert.Reference12Ideal.τ).loc Cert.Reference12Ideal.main_v215) = v8 c
          ∧ r.2.mem ((c.tc : Thread Cert.Reference12Ideal.nD Cert.Reference12Ideal.τ).loc Cert.Reference12Ideal.main_v239) = v9 c
          ∧ r.2.mem ((c.tc : Thread Cert.Reference12Ideal.nD Cert.Reference12Ideal.τ).loc Cert.Reference12Ideal.main_v263) = v10 c
          ∧ r.2.mem ((c.tc : Thread Cert.Reference12Ideal.nD Cert.Reference12Ideal.τ).loc Cert.Reference12Ideal.main_v287) = v11 c
          ∧ r.2.mem ((c.tc : Thread Cert.Reference12Ideal.nD Cert.Reference12Ideal.τ).loc Cert.Reference12Ideal.main_v4) = v12 c
          ∧ r.2.mem ((c.tc : Thread Cert.Reference12Ideal.nD Cert.Reference12Ideal.τ).loc Cert.Reference12Ideal.main_v28) = v13 c
          ∧ r.2.mem ((c.tc : Thread Cert.Reference12Ideal.nD Cert.Reference12Ideal.τ).loc Cert.Reference12Ideal.main_v52) = v14 c
          ∧ r.2.mem ((c.tc : Thread Cert.Reference12Ideal.nD Cert.Reference12Ideal.τ).loc Cert.Reference12Ideal.main_v76) = v15 c
          ∧ r.2.mem ((c.tc : Thread Cert.Reference12Ideal.nD Cert.Reference12Ideal.τ).loc Cert.Reference12Ideal.main_v100) = v16 c
          ∧ r.2.mem ((c.tc : Thread Cert.Reference12Ideal.nD Cert.Reference12Ideal.τ).loc Cert.Reference12Ideal.main_v124) = v17 c
          ∧ r.2.mem ((c.tc : Thread Cert.Reference12Ideal.nD Cert.Reference12Ideal.τ).loc Cert.Reference12Ideal.main_v148) = v18 c
          ∧ r.2.mem ((c.tc : Thread Cert.Reference12Ideal.nD Cert.Reference12Ideal.τ).loc Cert.Reference12Ideal.main_v172) = v19 c
          ∧ r.2.mem ((c.tc : Thread Cert.Reference12Ideal.nD Cert.Reference12Ideal.τ).loc Cert.Reference12Ideal.main_v196) = v20 c
          ∧ r.2.mem ((c.tc : Thread Cert.Reference12Ideal.nD Cert.Reference12Ideal.τ).loc Cert.Reference12Ideal.main_v220) = v21 c
          ∧ r.2.mem ((c.tc : Thread Cert.Reference12Ideal.nD Cert.Reference12Ideal.τ).loc Cert.Reference12Ideal.main_v244) = v22 c
          ∧ r.2.mem ((c.tc : Thread Cert.Reference12Ideal.nD Cert.Reference12Ideal.τ).loc Cert.Reference12Ideal.main_v268) = v23 c
          ∧ r.2.mem ((c.tc : Thread Cert.Reference12Ideal.nD Cert.Reference12Ideal.τ).loc Cert.Reference12Ideal.main_v10) = v24 c
          ∧ r.2.mem ((c.tc : Thread Cert.Reference12Ideal.nD Cert.Reference12Ideal.τ).loc Cert.Reference12Ideal.main_v34) = v25 c
          ∧ r.2.mem ((c.tc : Thread Cert.Reference12Ideal.nD Cert.Reference12Ideal.τ).loc Cert.Reference12Ideal.main_v58) = v26 c
          ∧ r.2.mem ((c.tc : Thread Cert.Reference12Ideal.nD Cert.Reference12Ideal.τ).loc Cert.Reference12Ideal.main_v82) = v27 c
          ∧ r.2.mem ((c.tc : Thread Cert.Reference12Ideal.nD Cert.Reference12Ideal.τ).loc Cert.Reference12Ideal.main_v106) = v28 c
          ∧ r.2.mem ((c.tc : Thread Cert.Reference12Ideal.nD Cert.Reference12Ideal.τ).loc Cert.Reference12Ideal.main_v130) = v29 c
          ∧ r.2.mem ((c.tc : Thread Cert.Reference12Ideal.nD Cert.Reference12Ideal.τ).loc Cert.Reference12Ideal.main_v154) = v30 c
          ∧ r.2.mem ((c.tc : Thread Cert.Reference12Ideal.nD Cert.Reference12Ideal.τ).loc Cert.Reference12Ideal.main_v178) = v31 c
          ∧ r.2.mem ((c.tc : Thread Cert.Reference12Ideal.nD Cert.Reference12Ideal.τ).loc Cert.Reference12Ideal.main_v202) = v32 c
          ∧ r.2.mem ((c.tc : Thread Cert.Reference12Ideal.nD Cert.Reference12Ideal.τ).loc Cert.Reference12Ideal.main_v226) = v33 c
          ∧ r.2.mem ((c.tc : Thread Cert.Reference12Ideal.nD Cert.Reference12Ideal.τ).loc Cert.Reference12Ideal.main_v250) = v34 c
          ∧ r.2.mem ((c.tc : Thread Cert.Reference12Ideal.nD Cert.Reference12Ideal.τ).loc Cert.Reference12Ideal.main_v274) = v35 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5)
          ∧ r.2.mem ((c.tc : Thread Cert.Reference12Ideal.nD Cert.Reference12Ideal.τ).loc Cert.Reference12Ideal.main_arg6) = m' ((c.tc : Thread Cert.Reference12Ideal.nD Cert.Reference12Ideal.τ).loc Cert.Reference12Ideal.main_arg6)
          ∧ r.2.mem ((c.tc : Thread Cert.Reference12Ideal.nD Cert.Reference12Ideal.τ).loc Cert.Reference12Ideal.main_arg7) = m' ((c.tc : Thread Cert.Reference12Ideal.nD Cert.Reference12Ideal.τ).loc Cert.Reference12Ideal.main_arg7)
          ∧ r.2.mem ((c.tc : Thread Cert.Reference12Ideal.nD Cert.Reference12Ideal.τ).loc Cert.Reference12Ideal.main_arg8) = m' ((c.tc : Thread Cert.Reference12Ideal.nD Cert.Reference12Ideal.τ).loc Cert.Reference12Ideal.main_arg8)
          ∧ r.2.mem ((c.tc : Thread Cert.Reference12Ideal.nD Cert.Reference12Ideal.τ).loc Cert.Reference12Ideal.main_arg9) = m' ((c.tc : Thread Cert.Reference12Ideal.nD Cert.Reference12Ideal.τ).loc Cert.Reference12Ideal.main_arg9)
          ∧ r.2.mem ((c.tc : Thread Cert.Reference12Ideal.nD Cert.Reference12Ideal.τ).loc Cert.Reference12Ideal.main_arg10) = m' ((c.tc : Thread Cert.Reference12Ideal.nD Cert.Reference12Ideal.τ).loc Cert.Reference12Ideal.main_arg10)
          ∧ r.2.mem ((c.tc : Thread Cert.Reference12Ideal.nD Cert.Reference12Ideal.τ).loc Cert.Reference12Ideal.main_arg11) = m' ((c.tc : Thread Cert.Reference12Ideal.nD Cert.Reference12Ideal.τ).loc Cert.Reference12Ideal.main_arg11)
          ∧ r.2.mem ((c.tc : Thread Cert.Reference12Ideal.nD Cert.Reference12Ideal.τ).loc Cert.Reference12Ideal.main_arg12) = m' ((c.tc : Thread Cert.Reference12Ideal.nD Cert.Reference12Ideal.τ).loc Cert.Reference12Ideal.main_arg12)
          ∧ r.2.mem ((c.tc : Thread Cert.Reference12Ideal.nD Cert.Reference12Ideal.τ).loc Cert.Reference12Ideal.main_arg13) = m' ((c.tc : Thread Cert.Reference12Ideal.nD Cert.Reference12Ideal.τ).loc Cert.Reference12Ideal.main_arg13)
          ∧ r.2.mem ((c.tc : Thread Cert.Reference12Ideal.nD Cert.Reference12Ideal.τ).loc Cert.Reference12Ideal.main_arg14) = m' ((c.tc : Thread Cert.Reference12Ideal.nD Cert.Reference12Ideal.τ).loc Cert.Reference12Ideal.main_arg14)
          ∧ r.2.mem ((c.tc : Thread Cert.Reference12Ideal.nD Cert.Reference12Ideal.τ).loc Cert.Reference12Ideal.main_arg15) = m' ((c.tc : Thread Cert.Reference12Ideal.nD Cert.Reference12Ideal.τ).loc Cert.Reference12Ideal.main_arg15)
          ∧ r.2.mem ((c.tc : Thread Cert.Reference12Ideal.nD Cert.Reference12Ideal.τ).loc Cert.Reference12Ideal.main_arg16) = m' ((c.tc : Thread Cert.Reference12Ideal.nD Cert.Reference12Ideal.τ).loc Cert.Reference12Ideal.main_arg16)
          ∧ r.2.mem ((c.tc : Thread Cert.Reference12Ideal.nD Cert.Reference12Ideal.τ).loc Cert.Reference12Ideal.main_arg17) = m' ((c.tc : Thread Cert.Reference12Ideal.nD Cert.Reference12Ideal.τ).loc Cert.Reference12Ideal.main_arg17)
          ∧ r.2.mem ((c.tc : Thread Cert.Reference12Ideal.nD Cert.Reference12Ideal.τ).loc Cert.Reference12Ideal.main_arg18) = m' ((c.tc : Thread Cert.Reference12Ideal.nD Cert.Reference12Ideal.τ).loc Cert.Reference12Ideal.main_arg18)
          ∧ r.2.mem ((c.tc : Thread Cert.Reference12Ideal.nD Cert.Reference12Ideal.τ).loc Cert.Reference12Ideal.main_arg19) = m' ((c.tc : Thread Cert.Reference12Ideal.nD Cert.Reference12Ideal.τ).loc Cert.Reference12Ideal.main_arg19)
          ∧ r.2.mem ((c.tc : Thread Cert.Reference12Ideal.nD Cert.Reference12Ideal.τ).loc Cert.Reference12Ideal.main_arg20) = m' ((c.tc : Thread Cert.Reference12Ideal.nD Cert.Reference12Ideal.τ).loc Cert.Reference12Ideal.main_arg20)
          ∧ r.2.mem ((c.tc : Thread Cert.Reference12Ideal.nD Cert.Reference12Ideal.τ).loc Cert.Reference12Ideal.main_arg21) = m' ((c.tc : Thread Cert.Reference12Ideal.nD Cert.Reference12Ideal.τ).loc Cert.Reference12Ideal.main_arg21)
          ∧ r.2.mem ((c.tc : Thread Cert.Reference12Ideal.nD Cert.Reference12Ideal.τ).loc Cert.Reference12Ideal.main_arg22) = m' ((c.tc : Thread Cert.Reference12Ideal.nD Cert.Reference12Ideal.τ).loc Cert.Reference12Ideal.main_arg22)
          ∧ r.2.mem ((c.tc : Thread Cert.Reference12Ideal.nD Cert.Reference12Ideal.τ).loc Cert.Reference12Ideal.main_arg23) = m' ((c.tc : Thread Cert.Reference12Ideal.nD Cert.Reference12Ideal.τ).loc Cert.Reference12Ideal.main_arg23)
          ∧ r.2.mem ((c.tc : Thread Cert.Reference12Ideal.nD Cert.Reference12Ideal.τ).loc Cert.Reference12Ideal.main_arg24) = m' ((c.tc : Thread Cert.Reference12Ideal.nD Cert.Reference12Ideal.τ).loc Cert.Reference12Ideal.main_arg24)
          ∧ r.2.mem ((c.tc : Thread Cert.Reference12Ideal.nD Cert.Reference12Ideal.τ).loc Cert.Reference12Ideal.main_arg25) = m' ((c.tc : Thread Cert.Reference12Ideal.nD Cert.Reference12Ideal.τ).loc Cert.Reference12Ideal.main_arg25)
          ∧ r.2.mem ((c.tc : Thread Cert.Reference12Ideal.nD Cert.Reference12Ideal.τ).loc Cert.Reference12Ideal.main_arg26) = m' ((c.tc : Thread Cert.Reference12Ideal.nD Cert.Reference12Ideal.τ).loc Cert.Reference12Ideal.main_arg26)
          ∧ r.2.mem ((c.tc : Thread Cert.Reference12Ideal.nD Cert.Reference12Ideal.τ).loc Cert.Reference12Ideal.main_arg27) = m' ((c.tc : Thread Cert.Reference12Ideal.nD Cert.Reference12Ideal.τ).loc Cert.Reference12Ideal.main_arg27)
          ∧ r.2.mem ((c.tc : Thread Cert.Reference12Ideal.nD Cert.Reference12Ideal.τ).loc Cert.Reference12Ideal.main_arg28) = m' ((c.tc : Thread Cert.Reference12Ideal.nD Cert.Reference12Ideal.τ).loc Cert.Reference12Ideal.main_arg28)
          ∧ r.2.mem ((c.tc : Thread Cert.Reference12Ideal.nD Cert.Reference12Ideal.τ).loc Cert.Reference12Ideal.main_arg29) = m' ((c.tc : Thread Cert.Reference12Ideal.nD Cert.Reference12Ideal.τ).loc Cert.Reference12Ideal.main_arg29)
          ∧ r.2.mem ((c.tc : Thread Cert.Reference12Ideal.nD Cert.Reference12Ideal.τ).loc Cert.Reference12Ideal.main_arg30) = m' ((c.tc : Thread Cert.Reference12Ideal.nD Cert.Reference12Ideal.τ).loc Cert.Reference12Ideal.main_arg30)
          ∧ r.2.mem ((c.tc : Thread Cert.Reference12Ideal.nD Cert.Reference12Ideal.τ).loc Cert.Reference12Ideal.main_arg31) = m' ((c.tc : Thread Cert.Reference12Ideal.nD Cert.Reference12Ideal.τ).loc Cert.Reference12Ideal.main_arg31)
          ∧ r.2.mem ((c.tc : Thread Cert.Reference12Ideal.nD Cert.Reference12Ideal.τ).loc Cert.Reference12Ideal.main_arg32) = m' ((c.tc : Thread Cert.Reference12Ideal.nD Cert.Reference12Ideal.τ).loc Cert.Reference12Ideal.main_arg32)
          ∧ r.2.mem ((c.tc : Thread Cert.Reference12Ideal.nD Cert.Reference12Ideal.τ).loc Cert.Reference12Ideal.main_arg33) = m' ((c.tc : Thread Cert.Reference12Ideal.nD Cert.Reference12Ideal.τ).loc Cert.Reference12Ideal.main_arg33)
          ∧ r.2.mem ((c.tc : Thread Cert.Reference12Ideal.nD Cert.Reference12Ideal.τ).loc Cert.Reference12Ideal.main_arg34) = m' ((c.tc : Thread Cert.Reference12Ideal.nD Cert.Reference12Ideal.τ).loc Cert.Reference12Ideal.main_arg34)
          ∧ r.2.mem ((c.tc : Thread Cert.Reference12Ideal.nD Cert.Reference12Ideal.τ).loc Cert.Reference12Ideal.main_arg35) = m' ((c.tc : Thread Cert.Reference12Ideal.nD Cert.Reference12Ideal.τ).loc Cert.Reference12Ideal.main_arg35)
          ∧ r.2.mem ((c.tc : Thread Cert.Reference12Ideal.nD Cert.Reference12Ideal.τ).loc Cert.Reference12Ideal.main_arg36) = m' ((c.tc : Thread Cert.Reference12Ideal.nD Cert.Reference12Ideal.τ).loc Cert.Reference12Ideal.main_arg36)
          ∧ r.2.mem ((c.tc : Thread Cert.Reference12Ideal.nD Cert.Reference12Ideal.τ).loc Cert.Reference12Ideal.main_arg37) = m' ((c.tc : Thread Cert.Reference12Ideal.nD Cert.Reference12Ideal.τ).loc Cert.Reference12Ideal.main_arg37)
          ∧ r.2.mem ((c.tc : Thread Cert.Reference12Ideal.nD Cert.Reference12Ideal.τ).loc Cert.Reference12Ideal.main_arg38) = m' ((c.tc : Thread Cert.Reference12Ideal.nD Cert.Reference12Ideal.τ).loc Cert.Reference12Ideal.main_arg38)
          ∧ r.2.mem ((c.tc : Thread Cert.Reference12Ideal.nD Cert.Reference12Ideal.τ).loc Cert.Reference12Ideal.main_arg39) = m' ((c.tc : Thread Cert.Reference12Ideal.nD Cert.Reference12Ideal.τ).loc Cert.Reference12Ideal.main_arg39)
          ∧ r.2.mem ((c.tc : Thread Cert.Reference12Ideal.nD Cert.Reference12Ideal.τ).loc Cert.Reference12Ideal.main_arg40) = m' ((c.tc : Thread Cert.Reference12Ideal.nD Cert.Reference12Ideal.τ).loc Cert.Reference12Ideal.main_arg40)
          ∧ r.2.mem ((c.tc : Thread Cert.Reference12Ideal.nD Cert.Reference12Ideal.τ).loc Cert.Reference12Ideal.main_arg41) = m' ((c.tc : Thread Cert.Reference12Ideal.nD Cert.Reference12Ideal.τ).loc Cert.Reference12Ideal.main_arg41)
          ∧ r.2.mem ((c.tc : Thread Cert.Reference12Ideal.nD Cert.Reference12Ideal.τ).loc Cert.Reference12Ideal.main_arg42) = m' ((c.tc : Thread Cert.Reference12Ideal.nD Cert.Reference12Ideal.τ).loc Cert.Reference12Ideal.main_arg42)
          ∧ r.2.mem ((c.tc : Thread Cert.Reference12Ideal.nD Cert.Reference12Ideal.τ).loc Cert.Reference12Ideal.main_arg43) = m' ((c.tc : Thread Cert.Reference12Ideal.nD Cert.Reference12Ideal.τ).loc Cert.Reference12Ideal.main_arg43)
          ∧ r.2.mem ((c.tc : Thread Cert.Reference12Ideal.nD Cert.Reference12Ideal.τ).loc Cert.Reference12Ideal.main_arg44) = m' ((c.tc : Thread Cert.Reference12Ideal.nD Cert.Reference12Ideal.τ).loc Cert.Reference12Ideal.main_arg44)
          ∧ r.2.mem ((c.tc : Thread Cert.Reference12Ideal.nD Cert.Reference12Ideal.τ).loc Cert.Reference12Ideal.main_arg45) = m' ((c.tc : Thread Cert.Reference12Ideal.nD Cert.Reference12Ideal.τ).loc Cert.Reference12Ideal.main_arg45)
          ∧ r.2.mem ((c.tc : Thread Cert.Reference12Ideal.nD Cert.Reference12Ideal.τ).loc Cert.Reference12Ideal.main_arg46) = m' ((c.tc : Thread Cert.Reference12Ideal.nD Cert.Reference12Ideal.τ).loc Cert.Reference12Ideal.main_arg46)
          ∧ r.2.mem ((c.tc : Thread Cert.Reference12Ideal.nD Cert.Reference12Ideal.τ).loc Cert.Reference12Ideal.main_arg47) = m' ((c.tc : Thread Cert.Reference12Ideal.nD Cert.Reference12Ideal.τ).loc Cert.Reference12Ideal.main_arg47))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
-- ==== Kernel.lean ====
abbrev S8192x1024 : Shape := ⟨2, ![8192, 1024]⟩
abbrev S256x1024 : Shape := ⟨2, ![256, 1024]⟩
abbrev S8448x2048 : Shape := ⟨2, ![8448, 2048]⟩
abbrev S2048x1024 : Shape := ⟨2, ![2048, 1024]⟩
abbrev S1x1024 : Shape := ⟨2, ![1, 1024]⟩
abbrev S1024x4096 : Shape := ⟨2, ![1024, 4096]⟩
abbrev S4096x1024 : Shape := ⟨2, ![4096, 1024]⟩
abbrev S1x128 : Shape := ⟨2, ![1, 128]⟩
abbrev S8448x4096 : Shape := ⟨2, ![8448, 4096]⟩
abbrev S8448x1024 : Shape := ⟨2, ![8448, 1024]⟩
abbrev S256x2048 : Shape := ⟨2, ![256, 2048]⟩
abbrev S256x4096 : Shape := ⟨2, ![256, 4096]⟩
abbrev S3 : Shape := ⟨1, ![3]⟩
abbrev S1 : Shape := ⟨1, ![1]⟩
abbrev S_ : Shape := ⟨0, ![]⟩
abbrev S256 : Shape := ⟨1, ![256]⟩
abbrev S256x1 : Shape := ⟨2, ![256, 1]⟩
abbrev S1024x1024 : Shape := ⟨2, ![1024, 1024]⟩
abbrev S1x256x1 : Shape := ⟨3, ![1, 256, 1]⟩
abbrev S1x1x1 : Shape := ⟨3, ![1, 1, 1]⟩
abbrev S1024 : Shape := ⟨1, ![1024]⟩

abbrev nBuf : Space → Nat
  | .hbm => 18
  | .vmem => 28
  | .smem => 0
  | _ => 0

abbrev bufTy : (tb : Table) → Fin (tcTables nBuf tb) → BufTy
  | .hbm, ⟨0, _⟩ => ⟨S8192x1024, .f32⟩
  | .hbm, ⟨1, _⟩ => ⟨S256x1024, .f32⟩
  | .hbm, ⟨2, _⟩ => ⟨S8448x2048, .bf16⟩
  | .hbm, ⟨3, _⟩ => ⟨S8192x1024, .f32⟩
  | .hbm, ⟨4, _⟩ => ⟨S2048x1024, .bf16⟩
  | .hbm, ⟨5, _⟩ => ⟨S1x1024, .f32⟩
  | .hbm, ⟨6, _⟩ => ⟨S1024x4096, .bf16⟩
  | .hbm, ⟨7, _⟩ => ⟨S4096x1024, .bf16⟩
  | .hbm, ⟨8, _⟩ => ⟨S1x1024, .f32⟩
  | .hbm, ⟨9, _⟩ => ⟨S1x128, .f32⟩
  | .hbm, ⟨10, _⟩ => ⟨S1x1024, .f32⟩
  | .hbm, ⟨11, _⟩ => ⟨S1x1024, .f32⟩
  | .hbm, ⟨12, _⟩ => ⟨S8448x4096, .bf16⟩
  | .hbm, ⟨13, _⟩ => ⟨S8448x4096, .bf16⟩
  | .hbm, ⟨14, _⟩ => ⟨S8448x1024, .bf16⟩
  | .hbm, ⟨15, _⟩ => ⟨S8448x1024, .f32⟩
  | .hbm, ⟨16, _⟩ => ⟨S8448x1024, .bf16⟩
  | .hbm, ⟨17, _⟩ => ⟨S8448x2048, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x2048, .bf16⟩
  | .local _ .vmem, ⟨4, _⟩ => ⟨S256x2048, .bf16⟩
  | .local _ .vmem, ⟨5, _⟩ => ⟨S256x1024, .f32⟩
  | .local _ .vmem, ⟨6, _⟩ => ⟨S256x1024, .f32⟩
  | .local _ .vmem, ⟨7, _⟩ => ⟨S1x1024, .f32⟩
  | .local _ .vmem, ⟨8, _⟩ => ⟨S1x1024, .f32⟩
  | .local _ .vmem, ⟨9, _⟩ => ⟨S1x128, .f32⟩
  | .local _ .vmem, ⟨10, _⟩ => ⟨S1x1024, .f32⟩
  | .local _ .vmem, ⟨11, _⟩ => ⟨S1x1024, .f32⟩
  | .local _ .vmem, ⟨12, _⟩ => ⟨S256x4096, .bf16⟩
  | .local _ .vmem, ⟨13, _⟩ => ⟨S256x4096, .bf16⟩
  | .local _ .vmem, ⟨14, _⟩ => ⟨S256x4096, .bf16⟩
  | .local _ .vmem, ⟨15, _⟩ => ⟨S256x4096, .bf16⟩
  | .local _ .vmem, ⟨16, _⟩ => ⟨S256x1024, .bf16⟩
  | .local _ .vmem, ⟨17, _⟩ => ⟨S256x1024, .bf16⟩
  | .local _ .vmem, ⟨18, _⟩ => ⟨S256x1024, .f32⟩
  | .local _ .vmem, ⟨19, _⟩ => ⟨S256x1024, .f32⟩
  | .local _ .vmem, ⟨20, _⟩ => ⟨S256x1024, .bf16⟩
  | .local _ .vmem, ⟨21, _⟩ => ⟨S256x1024, .bf16⟩
  | .local _ .vmem, ⟨22, _⟩ => ⟨S256x2048, .f32⟩
  | .local _ .vmem, ⟨23, _⟩ => ⟨S256x2048, .f32⟩
  | .local _ .vmem, ⟨24, _⟩ => ⟨S2048x1024, .bf16⟩
  | .local _ .vmem, ⟨25, _⟩ => ⟨S1024x4096, .bf16⟩
  | .local _ .vmem, ⟨26, _⟩ => ⟨S4096x1024, .bf16⟩
  | .local _ .vmem, ⟨27, _⟩ => ⟨S256x4096, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev main_v0_5 : Ref sig .tc := ⟨.hbm, 14, rfl⟩
abbrev main_v0_6 : Ref sig .tc := ⟨.hbm, 15, rfl⟩
abbrev main_v0_7 : Ref sig .tc := ⟨.hbm, 16, rfl⟩
abbrev main_v0_8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x4096 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x4096 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x2048 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== ReferenceIdeal.lean ====
abbrev S8192x1024 : Shape := ⟨2, ![8192, 1024]⟩
abbrev S256x1024 : Shape := ⟨2, ![256, 1024]⟩
abbrev S8448x2048 : Shape := ⟨2, ![8448, 2048]⟩
abbrev S2048x1024 : Shape := ⟨2, ![2048, 1024]⟩
abbrev S1x1024 : Shape := ⟨2, ![1, 1024]⟩
abbrev S1024x4096 : Shape := ⟨2, ![1024, 4096]⟩
abbrev S4096x1024 : Shape := ⟨2, ![4096, 1024]⟩
abbrev S8448x1024 : Shape := ⟨2, ![8448, 1024]⟩
abbrev S_ : Shape := ⟨0, ![]⟩
abbrev S8448 : Shape := ⟨1, ![8448]⟩
abbrev S8448x1 : Shape := ⟨2, ![8448, 1]⟩
abbrev S8448x4096 : Shape := ⟨2, ![8448, 4096]⟩
abbrev S8192 : Shape := ⟨1, ![8192]⟩
abbrev S1024 : Shape := ⟨1, ![1024]⟩
abbrev S1x128 : Shape := ⟨2, ![1, 128]⟩

abbrev nBuf : Space → Nat
  | .hbm => 157
  | .vmem => 0
  | .smem => 0
  | _ => 0

abbrev hbmTy0_0 (i : Nat) : BufTy := match i % 128 with
  | 0 => ⟨S8192x1024, .f32⟩
  | 1 => ⟨S256x1024, .f32⟩
  | 2 => ⟨S8448x2048, .bf16⟩
  | 3 => ⟨S8192x1024, .f32⟩
  | 4 => ⟨S2048x1024, .bf16⟩
  | 5 => ⟨S1x1024, .f32⟩
  | 6 => ⟨S1024x4096, .bf16⟩
  | 7 => ⟨S4096x1024, .bf16⟩
  | 8 => ⟨S1x1024, .f32⟩
  | 9 => ⟨S8448x2048, .f32⟩
  | 10 => ⟨S2048x1024, .f32⟩
  | 11 => ⟨S1024x4096, .f32⟩
  | 12 => ⟨S4096x1024, .f32⟩
  | 13 => ⟨S8448x1024, .f32⟩
  | 14 => ⟨S8448x1024, .f32⟩
  | 15 => ⟨S8448x1024, .f32⟩
  | 16 => ⟨S8448x1024, .f32⟩
  | 17 => ⟨S_, .f32⟩
  | 18 => ⟨S8448, .f32⟩
  | 19 => ⟨S8448x1, .f32⟩
  | 20 => ⟨S_, .f32⟩
  | 21 => ⟨S8448x1, .f32⟩
  | 22 => ⟨S8448x1, .f32⟩
  | 23 => ⟨S_, .f32⟩
  | 24 => ⟨S8448x1, .f32⟩
  | 25 => ⟨S8448x1, .f32⟩
  | 26 => ⟨S8448x1, .f32⟩
  | 27 => ⟨S8448x1, .f32⟩
  | 28 => ⟨S_, .f32⟩
  | 29 => ⟨S8448x1, .f32⟩
  | 30 => ⟨S8448x1, .f32⟩
  | 31 => ⟨S8448x1024, .f32⟩
  | 32 => ⟨S8448x1024, .f32⟩
  | 33 => ⟨S8448x1024, .f32⟩
  | 34 => ⟨S8448x1024, .f32⟩
  | 35 => ⟨S8448x4096, .f32⟩
  | 36 => ⟨S_, .f32⟩
  | 37 => ⟨S8448x4096, .f32⟩
  | 38 => ⟨S8448x4096, .f32⟩
  | 39 => ⟨S_, .f32⟩
  | 40 => ⟨S8448x4096, .f32⟩
  | 41 => ⟨S8448x4096, .i1⟩
  | 42 => ⟨S_, .f32⟩
  | 43 => ⟨S8448x4096, .f32⟩
  | 44 => ⟨S8448x4096, .f32⟩
  | 45 => ⟨S_, .f32⟩
  | 46 => ⟨S8448x4096, .f32⟩
  | 47 => ⟨S8448x4096, .f32⟩
  | 48 => ⟨S8448x1024, .f32⟩
  | 49 => ⟨S8448x1024, .f32⟩
  | 50 => ⟨S8448x1024, .f32⟩
  | 51 => ⟨S_, .f32⟩
  | 52 => ⟨S8448, .f32⟩
  | 53 => ⟨S8448x1, .f32⟩
  | 54 => ⟨S_, .f32⟩
  | 55 => ⟨S8448x1, .f32⟩
  | 56 => ⟨S8448x1, .f32⟩
  | 57 => ⟨S_, .f32⟩
  | 58 => ⟨S8448x1, .f32⟩
  | 59 => ⟨S8448x1, .f32⟩
  | 60 => ⟨S8448x1, .f32⟩
  | 61 => ⟨S8448x1, .f32⟩
  | 62 => ⟨S_, .f32⟩
  | 63 => ⟨S8448x1, .f32⟩
  | 64 => ⟨S8448x1, .f32⟩
  | 65 => ⟨S8448x1024, .f32⟩
  | 66 => ⟨S8448x1024, .f32⟩
  | 67 => ⟨S8448x1024, .f32⟩
  | 68 => ⟨S8448x1024, .f32⟩
  | 69 => ⟨S8192x1024, .f32⟩
  | 70 => ⟨S8192x1024, .f32⟩
  | 71 => ⟨S8192x1024, .f32⟩
  | 72 => ⟨S_, .f32⟩
  | 73 => ⟨S8192x1024, .f32⟩
  | 74 => ⟨S8192x1024, .f32⟩
  | 75 => ⟨S_, .f32⟩
  | 76 => ⟨S8192, .f32⟩
  | 77 => ⟨S_, .f32⟩
  | 78 => ⟨S8192, .f32⟩
  | 79 => ⟨S8192, .f32⟩
  | 80 => ⟨S_, .f32⟩
  | 81 => ⟨S_, .f32⟩
  | 82 => ⟨S_, .f32⟩
  | 83 => ⟨S_, .f32⟩
  | 84 => ⟨S_, .f32⟩
  | 85 => ⟨S_, .f32⟩
  | 86 => ⟨S_, .f32⟩
  | 87 => ⟨S8192, .f32⟩
  | 88 => ⟨S_, .f32⟩
  | 89 => ⟨S8192, .f32⟩
  | 90 => ⟨S8192, .f32⟩
  | 91 => ⟨S8192x1024, .f32⟩
  | 92 => ⟨S8192x1024, .f32⟩
  | 93 => ⟨S_, .f32⟩
  | 94 => ⟨S8448x1024, .f32⟩
  | 95 => ⟨S8448x1024, .f32⟩
  | 96 => ⟨S_, .f32⟩
  | 97 => ⟨S1024, .f32⟩
  | 98 => ⟨S1x1024, .f32⟩
  | 99 => ⟨S8448x1024, .f32⟩
  | 100 => ⟨S8448x1024, .f32⟩
  | 101 => ⟨S8448x1024, .f32⟩
  | 102 => ⟨S_, .f32⟩
  | 103 => ⟨S8448, .f32⟩
  | 104 => ⟨S8448x1, .f32⟩
  | 105 => ⟨S8448x1024, .f32⟩
  | 106 => ⟨S8448x1024, .f32⟩
  | 107 => ⟨S8448x1, .f32⟩
  | 108 => ⟨S_, .f32⟩
  | 109 => ⟨S8448x1, .f32⟩
  | 110 => ⟨S8448x1, .f32⟩
  | 111 => ⟨S_, .f32⟩
  | 112 => ⟨S8448, .f32⟩
  | 113 => ⟨S8448x1024, .f32⟩
  | 114 => ⟨S8448x1024, .f32⟩
  | 115 => ⟨S8448x1024, .f32⟩
  | 116 => ⟨S8448x1024, .f32⟩
  | 117 => ⟨S8448x1024, .f32⟩
  | 118 => ⟨S8448x4096, .f32⟩
  | 119 => ⟨S8448x4096, .f32⟩
  | 120 => ⟨S_, .f32⟩
  | 121 => ⟨S8448x4096, .f32⟩
  | 122 => ⟨S8448x4096, .f32⟩
  | 123 => ⟨S_, .f32⟩
  | 124 => ⟨S8448x1024, .f32⟩
  | 125 => ⟨S8448x1024, .f32⟩
  | 126 => ⟨S8448x1024, .f32⟩
  | 127 => ⟨S8448x1024, .f32⟩
  | _ => ⟨S8192x1024, .f32⟩

abbrev hbmTy0_1 (i : Nat) : BufTy := match i % 128 with
  | 0 => ⟨S_, .f32⟩
  | 1 => ⟨S1024, .f32⟩
  | 2 => ⟨S1x1024, .f32⟩
  | 3 => ⟨S8448x1024, .f32⟩
  | 4 => ⟨S8448x1024, .f32⟩
  | 5 => ⟨S8448x1024, .f32⟩
  | 6 => ⟨S_, .f32⟩
  | 7 => ⟨S8448, .f32⟩
  | 8 => ⟨S8448x1, .f32⟩
  | 9 => ⟨S8448x1024, .f32⟩
  | 10 => ⟨S8448x1024, .f32⟩
  | 11 => ⟨S8448x1024, .f32⟩
  | 12 => ⟨S8448x1, .f32⟩
  | 13 => ⟨S_, .f32⟩
  | 14 => ⟨S8448x1, .f32⟩
  | 15 => ⟨S8448x1, .f32⟩
  | 16 => ⟨S_, .f32⟩
  | 17 => ⟨S8448, .f32⟩
  | 18 => ⟨S8448x1024, .f32⟩
  | 19 => ⟨S8448x1024, .f32⟩
  | 20 => ⟨S8448x1024, .f32⟩
  | 21 => ⟨S8448x1024, .f32⟩
  | 22 => ⟨S8448x1024, .f32⟩
  | 23 => ⟨S8448x2048, .f32⟩
  | 24 => ⟨S1x128, .f32⟩
  | 25 => ⟨S8448x4096, .bf16⟩
  | 26 => ⟨S8448x4096, .bf16⟩
  | 27 => ⟨S8448x1024, .bf16⟩
  | 28 => ⟨S8448x1024, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_call0_cst : Ref sig .tc := ⟨.hbm, 36, rfl⟩
abbrev main_call0_v0 : Ref sig .tc := ⟨.hbm, 37, rfl⟩
abbrev main_v23 : Ref sig .tc := ⟨.hbm, 38, rfl⟩
abbrev main_cst_3 : Ref sig .tc := ⟨.hbm, 39, rfl⟩
abbrev main_v24 : Ref sig .tc := ⟨.hbm, 40, rfl⟩
abbrev main_v25 : Ref sig .tc := ⟨.hbm, 41, rfl⟩
abbrev main_cst_4 : Ref sig .tc := ⟨.hbm, 42, rfl⟩
abbrev main_v26 : Ref sig .tc := ⟨.hbm, 43, rfl⟩
abbrev main_v27 : Ref sig .tc := ⟨.hbm, 44, rfl⟩
abbrev main_cst_5 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_6 : Ref sig .tc := ⟨.hbm, 51, rfl⟩
abbrev main_v33 : Ref sig .tc := ⟨.hbm, 52, rfl⟩
abbrev main_v34 : Ref sig .tc := ⟨.hbm, 53, rfl⟩
abbrev main_cst_7 : Ref sig .tc := ⟨.hbm, 54, rfl⟩
abbrev main_v35 : Ref sig .tc := ⟨.hbm, 55, rfl⟩
abbrev main_v36 : Ref sig .tc := ⟨.hbm, 56, rfl⟩
abbrev main_cst_8 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_9 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_10 : Ref sig .tc := ⟨.hbm, 72, rfl⟩
abbrev main_v50 : Ref sig .tc := ⟨.hbm, 73, rfl⟩
abbrev main_v51 : Ref sig .tc := ⟨.hbm, 74, rfl⟩
abbrev main_cst_11 : Ref sig .tc := ⟨.hbm, 75, rfl⟩
abbrev main_v52 : Ref sig .tc := ⟨.hbm, 76, rfl⟩
abbrev main_cst_12 : Ref sig .tc := ⟨.hbm, 77, rfl⟩
abbrev main_v53 : Ref sig .tc := ⟨.hbm, 78, rfl⟩
abbrev main_v54 : Ref sig .tc := ⟨.hbm, 79, rfl⟩
abbrev main_cst_13 : Ref sig .tc := ⟨.hbm, 80, rfl⟩
abbrev main_v55 : Ref sig .tc := ⟨.hbm, 81, rfl⟩
abbrev main_cst_14 : Ref sig .tc := ⟨.hbm, 82, rfl⟩
abbrev main_v56 : Ref sig .tc := ⟨.hbm, 83, rfl⟩
abbrev main_cst_15 : Ref sig .tc := ⟨.hbm, 84, rfl⟩
abbrev main_cst_16 : Ref sig .tc := ⟨.hbm, 85, rfl⟩
abbrev main_v57 : Ref sig .tc := ⟨.hbm, 86, rfl⟩
abbrev main_v58 : Ref sig .tc := ⟨.hbm, 87, rfl⟩
abbrev main_cst_17 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_cst_18 : Ref sig .tc := ⟨.hbm, 93, rfl⟩
abbrev main_v63 : Ref sig .tc := ⟨.hbm, 94, rfl⟩
abbrev main_v64 : Ref sig .tc := ⟨.hbm, 95, rfl⟩
abbrev main_cst_19 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_cst_20 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_cst_21 : Ref sig .tc := ⟨.hbm, 108, rfl⟩
abbrev main_v75 : Ref sig .tc := ⟨.hbm, 109, rfl⟩
abbrev main_v76 : Ref sig .tc := ⟨.hbm, 110, rfl⟩
abbrev main_cst_22 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_cst_23 : Ref sig .tc := ⟨.hbm, 120, rfl⟩
abbrev main_v85 : Ref sig .tc := ⟨.hbm, 121, rfl⟩
abbrev main_v86 : Ref sig .tc := ⟨.hbm, 122, rfl⟩
abbrev main_cst_24 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_cst_25 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_cst_26 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_cst_27 : Ref sig .tc := ⟨.hbm, 141, rfl⟩
abbrev main_v102 : Ref sig .tc := ⟨.hbm, 142, rfl⟩
abbrev main_v103 : Ref sig .tc := ⟨.hbm, 143, rfl⟩
abbrev main_cst_28 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩

abbrev nD : Nat := 1
abbrev τ : Topo := Topo.v7x

variable {F : FTy → Type} [FloatOps F]
-- ==== Kernel2.lean ====
abbrev S8448x4096 : Shape := ⟨2, ![8448, 4096]⟩
abbrev S8448x1024 : Shape := ⟨2, ![8448, 1024]⟩
abbrev S4096x1024 : Shape := ⟨2, ![4096, 1024]⟩
abbrev S2816x1024 : Shape := ⟨2, ![2816, 1024]⟩
abbrev S1024x1024 : Shape := ⟨2, ![1024, 1024]⟩
abbrev S1024x512 : Shape := ⟨2, ![1024, 512]⟩
abbrev S2816x512 : Shape := ⟨2, ![2816, 512]⟩

abbrev nBuf : Space → Nat
  | .hbm => 4
  | .vmem => 8
  | .smem => 0
  | _ => 0

abbrev bufTy : (tb : Table) → Fin (tcTables nBuf tb) → BufTy
  | .hbm, ⟨0, _⟩ => ⟨S8448x4096, .bf16⟩
  | .hbm, ⟨1, _⟩ => ⟨S8448x1024, .bf16⟩
  | .hbm, ⟨2, _⟩ => ⟨S4096x1024, .f32⟩
  | .hbm, ⟨3, _⟩ => ⟨S4096x1024, .bf16⟩
  | .local _ .vmem, ⟨0, _⟩ => ⟨S2816x1024, .bf16⟩
  | .local _ .vmem, ⟨1, _⟩ => ⟨S2816x1024, .bf16⟩
  | .local _ .vmem, ⟨2, _⟩ => ⟨S2816x1024, .bf16⟩
  | .local _ .vmem, ⟨3, _⟩ => ⟨S2816x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | _, _ => ⟨S8448x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 3], ![false, false]⟩

def k0_cond2 (i : grid0.Coords) : BitVec 1 :=
  let arg1 : BitVec 32 := BitVec.ofNat 32 (i 1).val
  let c2_i32 : BitVec 32 := 2#32
  let v16 : BitVec 1 := Scalar.cmpi .eq arg1 c2_i32
  let v17 : BitVec 32 := Scalar.extui v16
  let c0_i32_14 : BitVec 32 := 0#32
  let v18 : BitVec 1 := Scalar.cmpi .ne v17 c0_i32_14
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2816x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== Reference2Ideal.lean ====
abbrev S8448x4096 : Shape := ⟨2, ![8448, 4096]⟩
abbrev S8448x1024 : Shape := ⟨2, ![8448, 1024]⟩
abbrev S_ : Shape := ⟨0, ![]⟩
abbrev S4096x1024 : Shape := ⟨2, ![4096, 1024]⟩
abbrev S1024x4096 : Shape := ⟨2, ![1024, 4096]⟩

abbrev nBuf : Space → Nat
  | .hbm => 10
  | .vmem => 0
  | .smem => 0
  | _ => 0

abbrev bufTy : (tb : Table) → Fin (tcTables nBuf tb) → BufTy
  | .hbm, ⟨0, _⟩ => ⟨S8448x4096, .bf16⟩
  | .hbm, ⟨1, _⟩ => ⟨S8448x1024, .bf16⟩
  | .hbm, ⟨2, _⟩ => ⟨S_, .f32⟩
  | .hbm, ⟨3, _⟩ => ⟨S4096x1024, .f32⟩
  | .hbm, ⟨4, _⟩ => ⟨S8448x4096, .f32⟩
  | .hbm, ⟨5, _⟩ => ⟨S8448x1024, .f32⟩
  | .hbm, ⟨6, _⟩ => ⟨S8448x1024, .f32⟩
  | .hbm, ⟨7, _⟩ => ⟨S1024x4096, .f32⟩
  | .hbm, ⟨8, _⟩ => ⟨S4096x1024, .f32⟩
  | .hbm, ⟨9, _⟩ => ⟨S4096x1024, .bf16⟩
  | _, _ => ⟨S8448x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel3.lean ====
abbrev S8448x4096 : Shape := ⟨2, ![8448, 4096]⟩
abbrev S8448x1024 : Shape := ⟨2, ![8448, 1024]⟩
abbrev S4096x1024 : Shape := ⟨2, ![4096, 1024]⟩
abbrev S2816x1024 : Shape := ⟨2, ![2816, 1024]⟩
abbrev S1024x1024 : Shape := ⟨2, ![1024, 1024]⟩
abbrev S1024x512 : Shape := ⟨2, ![1024, 512]⟩
abbrev S2816x512 : Shape := ⟨2, ![2816, 512]⟩

abbrev nBuf : Space → Nat
  | .hbm => 4
  | .vmem => 8
  | .smem => 0
  | _ => 0

abbrev bufTy : (tb : Table) → Fin (tcTables nBuf tb) → BufTy
  | .hbm, ⟨0, _⟩ => ⟨S8448x4096, .bf16⟩
  | .hbm, ⟨1, _⟩ => ⟨S8448x1024, .bf16⟩
  | .hbm, ⟨2, _⟩ => ⟨S4096x1024, .f32⟩
  | .hbm, ⟨3, _⟩ => ⟨S4096x1024, .bf16⟩
  | .local _ .vmem, ⟨0, _⟩ => ⟨S2816x1024, .bf16⟩
  | .local _ .vmem, ⟨1, _⟩ => ⟨S2816x1024, .bf16⟩
  | .local _ .vmem, ⟨2, _⟩ => ⟨S2816x1024, .bf16⟩
  | .local _ .vmem, ⟨3, _⟩ => ⟨S2816x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | _, _ => ⟨S8448x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 3], ![false, false]⟩

def k0_cond2 (i : grid0.Coords) : BitVec 1 :=
  let arg1 : BitVec 32 := BitVec.ofNat 32 (i 1).val
  let c2_i32 : BitVec 32 := 2#32
  let v16 : BitVec 1 := Scalar.cmpi .eq arg1 c2_i32
  let v17 : BitVec 32 := Scalar.extui v16
  let c0_i32_14 : BitVec 32 := 0#32
  let v18 : BitVec 1 := Scalar.cmpi .ne v17 c0_i32_14
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2816x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== Reference3Ideal.lean ====
abbrev S8448x4096 : Shape := ⟨2, ![8448, 4096]⟩
abbrev S8448x1024 : Shape := ⟨2, ![8448, 1024]⟩
abbrev S_ : Shape := ⟨0, ![]⟩
abbrev S1024x4096 : Shape := ⟨2, ![1024, 4096]⟩
abbrev S4096x1024 : Shape := ⟨2, ![4096, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8448x4096, .bf16⟩
  | .hbm, ⟨1, _⟩ => ⟨S8448x1024, .bf16⟩
  | .hbm, ⟨2, _⟩ => ⟨S_, .f32⟩
  | .hbm, ⟨3, _⟩ => ⟨S1024x4096, .f32⟩
  | .hbm, ⟨4, _⟩ => ⟨S8448x1024, .f32⟩
  | .hbm, ⟨5, _⟩ => ⟨S8448x4096, .f32⟩
  | .hbm, ⟨6, _⟩ => ⟨S8448x4096, .f32⟩
  | .hbm, ⟨7, _⟩ => ⟨S4096x1024, .f32⟩
  | .hbm, ⟨8, _⟩ => ⟨S1024x4096, .f32⟩
  | .hbm, ⟨9, _⟩ => ⟨S4096x1024, .f32⟩
  | .hbm, ⟨10, _⟩ => ⟨S4096x1024, .bf16⟩
  | _, _ => ⟨S8448x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel4.lean ====
abbrev S8448x2048 : Shape := ⟨2, ![8448, 2048]⟩
abbrev S8448x1024 : Shape := ⟨2, ![8448, 1024]⟩
abbrev S2048x1024 : Shape := ⟨2, ![2048, 1024]⟩
abbrev S2816x1024 : Shape := ⟨2, ![2816, 1024]⟩
abbrev S1024x1024 : Shape := ⟨2, ![1024, 1024]⟩
abbrev S1024x512 : Shape := ⟨2, ![1024, 512]⟩
abbrev S2816x512 : Shape := ⟨2, ![2816, 512]⟩

abbrev nBuf : Space → Nat
  | .hbm => 4
  | .vmem => 8
  | .smem => 0
  | _ => 0

abbrev bufTy : (tb : Table) → Fin (tcTables nBuf tb) → BufTy
  | .hbm, ⟨0, _⟩ => ⟨S8448x2048, .bf16⟩
  | .hbm, ⟨1, _⟩ => ⟨S8448x1024, .f32⟩
  | .hbm, ⟨2, _⟩ => ⟨S2048x1024, .f32⟩
  | .hbm, ⟨3, _⟩ => ⟨S2048x1024, .bf16⟩
  | .local _ .vmem, ⟨0, _⟩ => ⟨S2816x1024, .bf16⟩
  | .local _ .vmem, ⟨1, _⟩ => ⟨S2816x1024, .bf16⟩
  | .local _ .vmem, ⟨2, _⟩ => ⟨S2816x1024, .f32⟩
  | .local _ .vmem, ⟨3, _⟩ => ⟨S2816x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 3], ![false, false]⟩

def k0_cond2 (i : grid0.Coords) : BitVec 1 :=
  let arg1 : BitVec 32 := BitVec.ofNat 32 (i 1).val
  let c2_i32 : BitVec 32 := 2#32
  let v18 : BitVec 1 := Scalar.cmpi .eq arg1 c2_i32
  let v19 : BitVec 32 := Scalar.extui v18
  let c0_i32_14 : BitVec 32 := 0#32
  let v20 : BitVec 1 := Scalar.cmpi .ne v19 c0_i32_14
  v20

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2816x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2816x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== Reference4Ideal.lean ====
abbrev S8448x2048 : Shape := ⟨2, ![8448, 2048]⟩
abbrev S8448x1024 : Shape := ⟨2, ![8448, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S8448x1024, .f32⟩
  | .hbm, ⟨2, _⟩ => ⟨S_, .f32⟩
  | .hbm, ⟨3, _⟩ => ⟨S2048x1024, .f32⟩
  | .hbm, ⟨4, _⟩ => ⟨S8448x2048, .f32⟩
  | .hbm, ⟨5, _⟩ => ⟨S8448x1024, .f32⟩
  | .hbm, ⟨6, _⟩ => ⟨S1024x2048, .f32⟩
  | .hbm, ⟨7, _⟩ => ⟨S2048x1024, .f32⟩
  | .hbm, ⟨8, _⟩ => ⟨S2048x1024, .bf16⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel5.lean ====
abbrev S8192x1024 : Shape := ⟨2, ![8192, 1024]⟩
abbrev S256x1024 : Shape := ⟨2, ![256, 1024]⟩
abbrev S1x1024 : Shape := ⟨2, ![1, 1024]⟩
abbrev S1024x4736 : Shape := ⟨2, ![1024, 4736]⟩
abbrev S8448x1024 : Shape := ⟨2, ![8448, 1024]⟩
abbrev S8448x4736 : Shape := ⟨2, ![8448, 4736]⟩
abbrev S256x4736 : Shape := ⟨2, ![256, 4736]⟩
abbrev S_ : Shape := ⟨0, ![]⟩
abbrev S256 : Shape := ⟨1, ![256]⟩
abbrev S256x1 : Shape := ⟨2, ![256, 1]⟩
abbrev S1024x512 : Shape := ⟨2, ![1024, 512]⟩
abbrev S256x512 : Shape := ⟨2, ![256, 512]⟩
abbrev S1024x128 : Shape := ⟨2, ![1024, 128]⟩
abbrev S256x128 : Shape := ⟨2, ![256, 128]⟩

abbrev nBuf : Space → Nat
  | .hbm => 6
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S256x1024, .f32⟩
  | .hbm, ⟨2, _⟩ => ⟨S1x1024, .f32⟩
  | .hbm, ⟨3, _⟩ => ⟨S1024x4736, .bf16⟩
  | .hbm, ⟨4, _⟩ => ⟨S8448x1024, .bf16⟩
  | .hbm, ⟨5, _⟩ => ⟨S8448x4736, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S1x1024, .f32⟩
  | .local _ .vmem, ⟨4, _⟩ => ⟨S256x1024, .bf16⟩
  | .local _ .vmem, ⟨5, _⟩ => ⟨S256x1024, .bf16⟩
  | .local _ .vmem, ⟨6, _⟩ => ⟨S256x4736, .f32⟩
  | .local _ .vmem, ⟨7, _⟩ => ⟨S256x4736, .f32⟩
  | .local _ .vmem, ⟨8, _⟩ => ⟨S1024x4736, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4736 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference5Ideal.lean ====
abbrev S8192x1024 : Shape := ⟨2, ![8192, 1024]⟩
abbrev S256x1024 : Shape := ⟨2, ![256, 1024]⟩
abbrev S1x1024 : Shape := ⟨2, ![1, 1024]⟩
abbrev S1024x4736 : Shape := ⟨2, ![1024, 4736]⟩
abbrev S8448x1024 : Shape := ⟨2, ![8448, 1024]⟩
abbrev S_ : Shape := ⟨0, ![]⟩
abbrev S8448 : Shape := ⟨1, ![8448]⟩
abbrev S8448x1 : Shape := ⟨2, ![8448, 1]⟩
abbrev S8448x4736 : Shape := ⟨2, ![8448, 4736]⟩

abbrev nBuf : Space → Nat
  | .hbm => 23
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S256x1024, .f32⟩
  | .hbm, ⟨2, _⟩ => ⟨S1x1024, .f32⟩
  | .hbm, ⟨3, _⟩ => ⟨S1024x4736, .bf16⟩
  | .hbm, ⟨4, _⟩ => ⟨S8448x1024, .f32⟩
  | .hbm, ⟨5, _⟩ => ⟨S8448x1024, .f32⟩
  | .hbm, ⟨6, _⟩ => ⟨S_, .f32⟩
  | .hbm, ⟨7, _⟩ => ⟨S8448, .f32⟩
  | .hbm, ⟨8, _⟩ => ⟨S8448x1, .f32⟩
  | .hbm, ⟨9, _⟩ => ⟨S_, .f32⟩
  | .hbm, ⟨10, _⟩ => ⟨S8448x1, .f32⟩
  | .hbm, ⟨11, _⟩ => ⟨S8448x1, .f32⟩
  | .hbm, ⟨12, _⟩ => ⟨S_, .f32⟩
  | .hbm, ⟨13, _⟩ => ⟨S8448x1, .f32⟩
  | .hbm, ⟨14, _⟩ => ⟨S8448x1, .f32⟩
  | .hbm, ⟨15, _⟩ => ⟨S8448x1, .f32⟩
  | .hbm, ⟨16, _⟩ => ⟨S8448x1024, .f32⟩
  | .hbm, ⟨17, _⟩ => ⟨S8448x1024, .f32⟩
  | .hbm, ⟨18, _⟩ => ⟨S8448x1024, .f32⟩
  | .hbm, ⟨19, _⟩ => ⟨S8448x1024, .f32⟩
  | .hbm, ⟨20, _⟩ => ⟨S8448x1024, .bf16⟩
  | .hbm, ⟨21, _⟩ => ⟨S1024x4736, .f32⟩
  | .hbm, ⟨22, _⟩ => ⟨S8448x4736, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Kernel8.lean ====
abbrev S4x256x1024 : Shape := ⟨3, ![4, 256, 1024]⟩
abbrev S256x1024 : Shape := ⟨2, ![256, 1024]⟩
abbrev S1x256x1024 : Shape := ⟨3, ![1, 256, 1024]⟩

abbrev nBuf : Space → Nat
  | .hbm => 8
  | .vmem => 8
  | .smem => 0
  | _ => 0

abbrev bufTy : (tb : Table) → Fin (tcTables nBuf tb) → BufTy
  | .hbm, ⟨0, _⟩ => ⟨S4x256x1024, .bf16⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .local _ .vmem, ⟨0, _⟩ => ⟨S4x256x1024, .bf16⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | _, _ => ⟨S4x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference8Ideal.lean ====
abbrev S4x256x1024 : Shape := ⟨3, ![4, 256, 1024]⟩
abbrev S256x1024 : Shape := ⟨2, ![256, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x256x1024, .bf16⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S4x256x1024, .f32⟩
  | .hbm, ⟨5, _⟩ => ⟨S_, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S_, .f32⟩
  | .hbm, ⟨11, _⟩ => ⟨S256x1024, .f32⟩
  | .hbm, ⟨12, _⟩ => ⟨S256x1024, .f32⟩
  | .hbm, ⟨13, _⟩ => ⟨S256x1024, .f32⟩
  | .hbm, ⟨14, _⟩ => ⟨S_, .f32⟩
  | .hbm, ⟨15, _⟩ => ⟨S256x1024, .f32⟩
  | .hbm, ⟨16, _⟩ => ⟨S256x1024, .f32⟩
  | .hbm, ⟨17, _⟩ => ⟨S256x1024, .f32⟩
  | .hbm, ⟨18, _⟩ => ⟨S_, .f32⟩
  | .hbm, ⟨19, _⟩ => ⟨S256x1024, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S_, .f32⟩
  | .hbm, ⟨26, _⟩ => ⟨S256x1024, .f32⟩
  | .hbm, ⟨27, _⟩ => ⟨S256x1024, .f32⟩
  | .hbm, ⟨28, _⟩ => ⟨S256x1024, .f32⟩
  | .hbm, ⟨29, _⟩ => ⟨S_, .f32⟩
  | .hbm, ⟨30, _⟩ => ⟨S256x1024, .f32⟩
  | .hbm, ⟨31, _⟩ => ⟨S256x1024, .f32⟩
  | .hbm, ⟨32, _⟩ => ⟨S256x1024, .f32⟩
  | .hbm, ⟨33, _⟩ => ⟨S_, .f32⟩
  | .hbm, ⟨34, _⟩ => ⟨S256x1024, .f32⟩
  | .hbm, ⟨35, _⟩ => ⟨S256x1024, .f32⟩
  | .hbm, ⟨36, _⟩ => ⟨S256x1024, .f32⟩
  | .hbm, ⟨37, _⟩ => ⟨S_, .f32⟩
  | .hbm, ⟨38, _⟩ => ⟨S256x1024, .f32⟩
  | .hbm, ⟨39, _⟩ => ⟨S256x1024, .f32⟩
  | _, _ => ⟨S4x256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel9.lean ====
abbrev S4x512x1024 : Shape := ⟨3, ![4, 512, 1024]⟩
abbrev S1024x512 : Shape := ⟨2, ![1024, 512]⟩
abbrev S4x256x1024 : Shape := ⟨3, ![4, 256, 1024]⟩
abbrev S1024x256 : Shape := ⟨2, ![1024, 256]⟩
abbrev S1x256x1024 : Shape := ⟨3, ![1, 256, 1024]⟩
abbrev S256x1024 : Shape := ⟨2, ![256, 1024]⟩

abbrev nBuf : Space → Nat
  | .hbm => 8
  | .vmem => 16
  | .smem => 0
  | _ => 0

abbrev bufTy : (tb : Table) → Fin (tcTables nBuf tb) → BufTy
  | .hbm, ⟨0, _⟩ => ⟨S4x512x1024, .bf16⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x512, .f32⟩
  | .local _ .vmem, ⟨0, _⟩ => ⟨S4x256x1024, .bf16⟩
  | .local _ .vmem, ⟨1, _⟩ => ⟨S4x256x1024, .bf16⟩
  | .local _ .vmem, ⟨2, _⟩ => ⟨S1024x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | .local _ .vmem, ⟨8, _⟩ => ⟨S1024x256, .f32⟩
  | .local _ .vmem, ⟨9, _⟩ => ⟨S1024x256, .f32⟩
  | .local _ .vmem, ⟨10, _⟩ => ⟨S1024x256, .f32⟩
  | .local _ .vmem, ⟨11, _⟩ => ⟨S1024x256, .f32⟩
  | .local _ .vmem, ⟨12, _⟩ => ⟨S1024x256, .f32⟩
  | .local _ .vmem, ⟨13, _⟩ => ⟨S1024x256, .f32⟩
  | .local _ .vmem, ⟨14, _⟩ => ⟨S1024x256, .f32⟩
  | .local _ .vmem, ⟨15, _⟩ => ⟨S1024x256, .f32⟩
  | _, _ => ⟨S4x512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference9Ideal.lean ====
abbrev S4x512x1024 : Shape := ⟨3, ![4, 512, 1024]⟩
abbrev S1024x512 : Shape := ⟨2, ![1024, 512]⟩
abbrev S_ : Shape := ⟨0, ![]⟩
abbrev S512x1024 : Shape := ⟨2, ![512, 1024]⟩

abbrev nBuf : Space → Nat
  | .hbm => 41
  | .vmem => 0
  | .smem => 0
  | _ => 0

abbrev bufTy : (tb : Table) → Fin (tcTables nBuf tb) → BufTy
  | .hbm, ⟨0, _⟩ => ⟨S4x512x1024, .bf16⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S4x512x1024, .f32⟩
  | .hbm, ⟨5, _⟩ => ⟨S_, .f32⟩
  | .hbm, ⟨6, _⟩ => ⟨S512x1024, .f32⟩
  | .hbm, ⟨7, _⟩ => ⟨S1024x512, .f32⟩
  | .hbm, ⟨8, _⟩ => ⟨S_, .f32⟩
  | .hbm, ⟨9, _⟩ => ⟨S1024x512, .f32⟩
  | .hbm, ⟨10, _⟩ => ⟨S1024x512, .f32⟩
  | .hbm, ⟨11, _⟩ => ⟨S_, .f32⟩
  | .hbm, ⟨12, _⟩ => ⟨S1024x512, .f32⟩
  | .hbm, ⟨13, _⟩ => ⟨S1024x512, .f32⟩
  | .hbm, ⟨14, _⟩ => ⟨S1024x512, .f32⟩
  | .hbm, ⟨15, _⟩ => ⟨S_, .f32⟩
  | .hbm, ⟨16, _⟩ => ⟨S1024x512, .f32⟩
  | .hbm, ⟨17, _⟩ => ⟨S1024x512, .f32⟩
  | .hbm, ⟨18, _⟩ => ⟨S1024x512, .f32⟩
  | .hbm, ⟨19, _⟩ => ⟨S_, .f32⟩
  | .hbm, ⟨20, _⟩ => ⟨S1024x512, .f32⟩
  | .hbm, ⟨21, _⟩ => ⟨S1024x512, .f32⟩
  | .hbm, ⟨22, _⟩ => ⟨S1024x512, .f32⟩
  | .hbm, ⟨23, _⟩ => ⟨S_, .f32⟩
  | .hbm, ⟨24, _⟩ => ⟨S1024x512, .f32⟩
  | .hbm, ⟨25, _⟩ => ⟨S1024x512, .f32⟩
  | .hbm, ⟨26, _⟩ => ⟨S_, .f32⟩
  | .hbm, ⟨27, _⟩ => ⟨S1024x512, .f32⟩
  | .hbm, ⟨28, _⟩ => ⟨S1024x512, .f32⟩
  | .hbm, ⟨29, _⟩ => ⟨S1024x512, .f32⟩
  | .hbm, ⟨30, _⟩ => ⟨S_, .f32⟩
  | .hbm, ⟨31, _⟩ => ⟨S1024x512, .f32⟩
  | .hbm, ⟨32, _⟩ => ⟨S1024x512, .f32⟩
  | .hbm, ⟨33, _⟩ => ⟨S1024x512, .f32⟩
  | .hbm, ⟨34, _⟩ => ⟨S_, .f32⟩
  | .hbm, ⟨35, _⟩ => ⟨S1024x512, .f32⟩
  | .hbm, ⟨36, _⟩ => ⟨S1024x512, .f32⟩
  | .hbm, ⟨37, _⟩ => ⟨S1024x512, .f32⟩
  | .hbm, ⟨38, _⟩ => ⟨S_, .f32⟩
  | .hbm, ⟨39, _⟩ => ⟨S1024x512, .f32⟩
  | .hbm, ⟨40, _⟩ => ⟨S1024x512, .f32⟩
  | _, _ => ⟨S4x512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel10.lean ====
abbrev S4x512x1024 : Shape := ⟨3, ![4, 512, 1024]⟩
abbrev S512x1024 : Shape := ⟨2, ![512, 1024]⟩
abbrev S4x256x1024 : Shape := ⟨3, ![4, 256, 1024]⟩
abbrev S256x1024 : Shape := ⟨2, ![256, 1024]⟩
abbrev S1x256x1024 : Shape := ⟨3, ![1, 256, 1024]⟩

abbrev nBuf : Space → Nat
  | .hbm => 8
  | .vmem => 16
  | .smem => 0
  | _ => 0

abbrev bufTy : (tb : Table) → Fin (tcTables nBuf tb) → BufTy
  | .hbm, ⟨0, _⟩ => ⟨S4x512x1024, .bf16⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .local _ .vmem, ⟨0, _⟩ => ⟨S4x256x1024, .bf16⟩
  | .local _ .vmem, ⟨1, _⟩ => ⟨S4x256x1024, .bf16⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | _, _ => ⟨S4x512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference10Ideal.lean ====
abbrev S4x512x1024 : Shape := ⟨3, ![4, 512, 1024]⟩
abbrev S512x1024 : Shape := ⟨2, ![512, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x512x1024, .bf16⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S4x512x1024, .f32⟩
  | .hbm, ⟨5, _⟩ => ⟨S_, .f32⟩
  | .hbm, ⟨6, _⟩ => ⟨S512x1024, .f32⟩
  | .hbm, ⟨7, _⟩ => ⟨S_, .f32⟩
  | .hbm, ⟨8, _⟩ => ⟨S512x1024, .f32⟩
  | .hbm, ⟨9, _⟩ => ⟨S512x1024, .f32⟩
  | .hbm, ⟨10, _⟩ => ⟨S_, .f32⟩
  | .hbm, ⟨11, _⟩ => ⟨S512x1024, .f32⟩
  | .hbm, ⟨12, _⟩ => ⟨S512x1024, .f32⟩
  | .hbm, ⟨13, _⟩ => ⟨S512x1024, .f32⟩
  | .hbm, ⟨14, _⟩ => ⟨S_, .f32⟩
  | .hbm, ⟨15, _⟩ => ⟨S512x1024, .f32⟩
  | .hbm, ⟨16, _⟩ => ⟨S512x1024, .f32⟩
  | .hbm, ⟨17, _⟩ => ⟨S512x1024, .f32⟩
  | .hbm, ⟨18, _⟩ => ⟨S_, .f32⟩
  | .hbm, ⟨19, _⟩ => ⟨S512x1024, .f32⟩
  | .hbm, ⟨20, _⟩ => ⟨S512x1024, .f32⟩
  | .hbm, ⟨21, _⟩ => ⟨S512x1024, .f32⟩
  | .hbm, ⟨22, _⟩ => ⟨S_, .f32⟩
  | .hbm, ⟨23, _⟩ => ⟨S512x1024, .f32⟩
  | .hbm, ⟨24, _⟩ => ⟨S512x1024, .f32⟩
  | .hbm, ⟨25, _⟩ => ⟨S_, .f32⟩
  | .hbm, ⟨26, _⟩ => ⟨S512x1024, .f32⟩
  | .hbm, ⟨27, _⟩ => ⟨S512x1024, .f32⟩
  | .hbm, ⟨28, _⟩ => ⟨S512x1024, .f32⟩
  | .hbm, ⟨29, _⟩ => ⟨S_, .f32⟩
  | .hbm, ⟨30, _⟩ => ⟨S512x1024, .f32⟩
  | .hbm, ⟨31, _⟩ => ⟨S512x1024, .f32⟩
  | .hbm, ⟨32, _⟩ => ⟨S512x1024, .f32⟩
  | .hbm, ⟨33, _⟩ => ⟨S_, .f32⟩
  | .hbm, ⟨34, _⟩ => ⟨S512x1024, .f32⟩
  | .hbm, ⟨35, _⟩ => ⟨S512x1024, .f32⟩
  | .hbm, ⟨36, _⟩ => ⟨S512x1024, .f32⟩
  | .hbm, ⟨37, _⟩ => ⟨S_, .f32⟩
  | .hbm, ⟨38, _⟩ => ⟨S512x1024, .f32⟩
  | .hbm, ⟨39, _⟩ => ⟨S512x1024, .f32⟩
  | _, _ => ⟨S4x512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel11.lean ====
abbrev S4x1024x579 : Shape := ⟨3, ![4, 1024, 579]⟩
abbrev S1 : Shape := ⟨1, ![1]⟩
abbrev S1024x579 : Shape := ⟨2, ![1024, 579]⟩
abbrev S4x256x579 : Shape := ⟨3, ![4, 256, 579]⟩
abbrev S256x579 : Shape := ⟨2, ![256, 579]⟩
abbrev S1x256x579 : Shape := ⟨3, ![1, 256, 579]⟩

abbrev nBuf : Space → Nat
  | .hbm => 9
  | .vmem => 18
  | .smem => 1
  | _ => 0

abbrev bufTy : (tb : Table) → Fin (tcTables nBuf tb) → BufTy
  | .hbm, ⟨0, _⟩ => ⟨S4x1024x579, .bf16⟩
  | .hbm, ⟨1, _⟩ => ⟨S4x1024x579, .bf16⟩
  | .hbm, ⟨2, _⟩ => ⟨S1024x579, .f32⟩
  | .hbm, ⟨3, _⟩ => ⟨S1024x579, .f32⟩
  | .hbm, ⟨4, _⟩ => ⟨S1024x579, .f32⟩
  | .hbm, ⟨5, _⟩ => ⟨S1024x579, .f32⟩
  | .hbm, ⟨6, _⟩ => ⟨S1024x579, .f32⟩
  | .hbm, ⟨7, _⟩ => ⟨S1024x579, .f32⟩
  | .hbm, ⟨8, _⟩ => ⟨S1024x579, .f32⟩
  | .local _ .vmem, ⟨0, _⟩ => ⟨S4x256x579, .bf16⟩
  | .local _ .vmem, ⟨1, _⟩ => ⟨S4x256x579, .bf16⟩
  | .local _ .vmem, ⟨2, _⟩ => ⟨S4x256x579, .bf16⟩
  | .local _ .vmem, ⟨3, _⟩ => ⟨S4x256x579, .bf16⟩
  | .local _ .vmem, ⟨4, _⟩ => ⟨S256x579, .f32⟩
  | .local _ .vmem, ⟨5, _⟩ => ⟨S256x579, .f32⟩
  | .local _ .vmem, ⟨6, _⟩ => ⟨S256x579, .f32⟩
  | .local _ .vmem, ⟨7, _⟩ => ⟨S256x579, .f32⟩
  | .local _ .vmem, ⟨8, _⟩ => ⟨S256x579, .f32⟩
  | .local _ .vmem, ⟨9, _⟩ => ⟨S256x579, .f32⟩
  | .local _ .vmem, ⟨10, _⟩ => ⟨S256x579, .f32⟩
  | .local _ .vmem, ⟨11, _⟩ => ⟨S256x579, .f32⟩
  | .local _ .vmem, ⟨12, _⟩ => ⟨S256x579, .f32⟩
  | .local _ .vmem, ⟨13, _⟩ => ⟨S256x579, .f32⟩
  | .local _ .vmem, ⟨14, _⟩ => ⟨S256x579, .f32⟩
  | .local _ .vmem, ⟨15, _⟩ => ⟨S256x579, .f32⟩
  | .local _ .vmem, ⟨16, _⟩ => ⟨S256x579, .f32⟩
  | .local _ .vmem, ⟨17, _⟩ => ⟨S256x579, .f32⟩
  | .local _ .smem, ⟨0, _⟩ => ⟨S1, .i32⟩
  | _, _ => ⟨S4x1024x579, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x256x579 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x256x579 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x579 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x579 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x579 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x579 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x579 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x579 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x579 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference11Ideal.lean ====
abbrev S4x1024x579 : Shape := ⟨3, ![4, 1024, 579]⟩
abbrev S1 : Shape := ⟨1, ![1]⟩
abbrev S1024x579 : Shape := ⟨2, ![1024, 579]⟩
abbrev S4 : Shape := ⟨1, ![4]⟩
abbrev S4x1x1 : Shape := ⟨3, ![4, 1, 1]⟩
abbrev S_ : Shape := ⟨0, ![]⟩

abbrev nBuf : Space → Nat
  | .hbm => 50
  | .vmem => 0
  | .smem => 0
  | _ => 0

abbrev bufTy : (tb : Table) → Fin (tcTables nBuf tb) → BufTy
  | .hbm, ⟨0, _⟩ => ⟨S4x1024x579, .bf16⟩
  | .hbm, ⟨1, _⟩ => ⟨S4x1024x579, .bf16⟩
  | .hbm, ⟨2, _⟩ => ⟨S1, .i32⟩
  | .hbm, ⟨3, _⟩ => ⟨S1024x579, .f32⟩
  | .hbm, ⟨4, _⟩ => ⟨S1024x579, .f32⟩
  | .hbm, ⟨5, _⟩ => ⟨S1024x579, .f32⟩
  | .hbm, ⟨6, _⟩ => ⟨S4, .i32⟩
  | .hbm, ⟨7, _⟩ => ⟨S4x1x1, .i32⟩
  | .hbm, ⟨8, _⟩ => ⟨S_, .i32⟩
  | .hbm, ⟨9, _⟩ => ⟨S4x1x1, .i32⟩
  | .hbm, ⟨10, _⟩ => ⟨S4x1x1, .i1⟩
  | .hbm, ⟨11, _⟩ => ⟨S4x1024x579, .f32⟩
  | .hbm, ⟨12, _⟩ => ⟨S4x1024x579, .f32⟩
  | .hbm, ⟨13, _⟩ => ⟨S4x1024x579, .i1⟩
  | .hbm, ⟨14, _⟩ => ⟨S4x1024x579, .f32⟩
  | .hbm, ⟨15, _⟩ => ⟨S_, .f32⟩
  | .hbm, ⟨16, _⟩ => ⟨S1024x579, .f32⟩
  | .hbm, ⟨17, _⟩ => ⟨S_, .f32⟩
  | .hbm, ⟨18, _⟩ => ⟨S1024x579, .f32⟩
  | .hbm, ⟨19, _⟩ => ⟨S1024x579, .f32⟩
  | .hbm, ⟨20, _⟩ => ⟨S_, .f32⟩
  | .hbm, ⟨21, _⟩ => ⟨S1024x579, .f32⟩
  | .hbm, ⟨22, _⟩ => ⟨S1024x579, .f32⟩
  | .hbm, ⟨23, _⟩ => ⟨S1024x579, .f32⟩
  | .hbm, ⟨24, _⟩ => ⟨S_, .f32⟩
  | .hbm, ⟨25, _⟩ => ⟨S1024x579, .f32⟩
  | .hbm, ⟨26, _⟩ => ⟨S1024x579, .f32⟩
  | .hbm, ⟨27, _⟩ => ⟨S1024x579, .f32⟩
  | .hbm, ⟨28, _⟩ => ⟨S_, .f32⟩
  | .hbm, ⟨29, _⟩ => ⟨S1024x579, .f32⟩
  | .hbm, ⟨30, _⟩ => ⟨S1024x579, .f32⟩
  | .hbm, ⟨31, _⟩ => ⟨S1024x579, .f32⟩
  | .hbm, ⟨32, _⟩ => ⟨S_, .f32⟩
  | .hbm, ⟨33, _⟩ => ⟨S1024x579, .f32⟩
  | .hbm, ⟨34, _⟩ => ⟨S1024x579, .f32⟩
  | .hbm, ⟨35, _⟩ => ⟨S_, .f32⟩
  | .hbm, ⟨36, _⟩ => ⟨S1024x579, .f32⟩
  | .hbm, ⟨37, _⟩ => ⟨S1024x579, .f32⟩
  | .hbm, ⟨38, _⟩ => ⟨S1024x579, .f32⟩
  | .hbm, ⟨39, _⟩ => ⟨S_, .f32⟩
  | .hbm, ⟨40, _⟩ => ⟨S1024x579, .f32⟩
  | .hbm, ⟨41, _⟩ => ⟨S1024x579, .f32⟩
  | .hbm, ⟨42, _⟩ => ⟨S1024x579, .f32⟩
  | .hbm, ⟨43, _⟩ => ⟨S_, .f32⟩
  | .hbm, ⟨44, _⟩ => ⟨S1024x579, .f32⟩
  | .hbm, ⟨45, _⟩ => ⟨S1024x579, .f32⟩
  | .hbm, ⟨46, _⟩ => ⟨S1024x579, .f32⟩
  | .hbm, ⟨47, _⟩ => ⟨S_, .f32⟩
  | .hbm, ⟨48, _⟩ => ⟨S1024x579, .f32⟩
  | .hbm, ⟨49, _⟩ => ⟨S1024x579, .f32⟩
  | _, _ => ⟨S4x1024x579, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_call0_v0 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_7 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_8 : Ref sig .tc := ⟨.hbm, 47, rfl⟩
abbrev main_v31 : Ref sig .tc := ⟨.hbm, 48, rfl⟩
abbrev main_v32 : Ref sig .tc := ⟨.hbm, 49, rfl⟩

abbrev nD : Nat := 1
abbrev τ : Topo := Topo.v7x

variable {F : FTy → Type} [FloatOps F]
-- ==== Kernel12.lean ====
abbrev S16x128 : Shape := ⟨2, ![16, 128]⟩
abbrev S1x1024 : Shape := ⟨2, ![1, 1024]⟩
abbrev S512x128 : Shape := ⟨2, ![512, 128]⟩
abbrev S1x512 : Shape := ⟨2, ![1, 512]⟩
abbrev S4x320 : Shape := ⟨2, ![4, 320]⟩
abbrev S1x2560 : Shape := ⟨2, ![1, 2560]⟩
abbrev S1x24 : Shape := ⟨2, ![1, 24]⟩
abbrev S1x1536 : Shape := ⟨2, ![1, 1536]⟩

abbrev nBuf : Space → Nat
  | .hbm => 84
  | .vmem => 84
  | .smem => 0
  | _ => 0

abbrev bufTy : (tb : Table) → Fin (tcTables nBuf tb) → BufTy
  | .hbm, ⟨0, _⟩ => ⟨S16x128, .f32⟩
  | .hbm, ⟨1, _⟩ => ⟨S1x1024, .f32⟩
  | .hbm, ⟨2, _⟩ => ⟨S512x128, .f32⟩
  | .hbm, ⟨3, _⟩ => ⟨S1x512, .f32⟩
  | .hbm, ⟨4, _⟩ => ⟨S4x320, .f32⟩
  | .hbm, ⟨5, _⟩ => ⟨S1x2560, .f32⟩
  | .hbm, ⟨6, _⟩ => ⟨S1x24, .f32⟩
  | .hbm, ⟨7, _⟩ => ⟨S1x24, .f32⟩
  | .hbm, ⟨8, _⟩ => ⟨S1x24, .f32⟩
  | .hbm, ⟨9, _⟩ => ⟨S1x1536, .f32⟩
  | .hbm, ⟨10, _⟩ => ⟨S1x1024, .f32⟩
  | .hbm, ⟨11, _⟩ => ⟨S1x1024, .f32⟩
  | .hbm, ⟨12, _⟩ => ⟨S16x128, .f32⟩
  | .hbm, ⟨13, _⟩ => ⟨S1x1024, .f32⟩
  | .hbm, ⟨14, _⟩ => ⟨S512x128, .f32⟩
  | .hbm, ⟨15, _⟩ => ⟨S1x512, .f32⟩
  | .hbm, ⟨16, _⟩ => ⟨S4x320, .f32⟩
  | .hbm, ⟨17, _⟩ => ⟨S1x2560, .f32⟩
  | .hbm, ⟨18, _⟩ => ⟨S1x24, .f32⟩
  | .hbm, ⟨19, _⟩ => ⟨S1x24, .f32⟩
  | .hbm, ⟨20, _⟩ => ⟨S1x24, .f32⟩
  | .hbm, ⟨21, _⟩ => ⟨S1x1536, .f32⟩
  | .hbm, ⟨22, _⟩ => ⟨S1x1024, .f32⟩
  | .hbm, ⟨23, _⟩ => ⟨S1x1024, .f32⟩
  | .hbm, ⟨24, _⟩ => ⟨S16x128, .f32⟩
  | .hbm, ⟨25, _⟩ => ⟨S1x1024, .f32⟩
  | .hbm, ⟨26, _⟩ => ⟨S512x128, .f32⟩
  | .hbm, ⟨27, _⟩ => ⟨S1x512, .f32⟩
  | .hbm, ⟨28, _⟩ => ⟨S4x320, .f32⟩
  | .hbm, ⟨29, _⟩ => ⟨S1x2560, .f32⟩
  | .hbm, ⟨30, _⟩ => ⟨S1x24, .f32⟩
  | .hbm, ⟨31, _⟩ => ⟨S1x24, .f32⟩
  | .hbm, ⟨32, _⟩ => ⟨S1x24, .f32⟩
  | .hbm, ⟨33, _⟩ => ⟨S1x1536, .f32⟩
  | .hbm, ⟨34, _⟩ => ⟨S1x1024, .f32⟩
  | .hbm, ⟨35, _⟩ => ⟨S1x1024, .f32⟩
  | .hbm, ⟨36, _⟩ => ⟨S16x128, .f32⟩
  | .hbm, ⟨37, _⟩ => ⟨S1x1024, .f32⟩
  | .hbm, ⟨38, _⟩ => ⟨S512x128, .f32⟩
  | .hbm, ⟨39, _⟩ => ⟨S1x512, .f32⟩
  | .hbm, ⟨40, _⟩ => ⟨S4x320, .f32⟩
  | .hbm, ⟨41, _⟩ => ⟨S1x2560, .f32⟩
  | .hbm, ⟨42, _⟩ => ⟨S1x24, .f32⟩
  | .hbm, ⟨43, _⟩ => ⟨S1x24, .f32⟩
  | .hbm, ⟨44, _⟩ => ⟨S1x24, .f32⟩
  | .hbm, ⟨45, _⟩ => ⟨S1x1536, .f32⟩
  | .hbm, ⟨46, _⟩ => ⟨S1x1024, .f32⟩
  | .hbm, ⟨47, _⟩ => ⟨S1x1024, .f32⟩
  | .hbm, ⟨48, _⟩ => ⟨S16x128, .f32⟩
  | .hbm, ⟨49, _⟩ => ⟨S1x1024, .f32⟩
  | .hbm, ⟨50, _⟩ => ⟨S512x128, .f32⟩
  | .hbm, ⟨51, _⟩ => ⟨S1x512, .f32⟩
  | .hbm, ⟨52, _⟩ => ⟨S4x320, .f32⟩
  | .hbm, ⟨53, _⟩ => ⟨S1x2560, .f32⟩
  | .hbm, ⟨54, _⟩ => ⟨S1x24, .f32⟩
  | .hbm, ⟨55, _⟩ => ⟨S1x24, .f32⟩
  | .hbm, ⟨56, _⟩ => ⟨S1x24, .f32⟩
  | .hbm, ⟨57, _⟩ => ⟨S1x1536, .f32⟩
  | .hbm, ⟨58, _⟩ => ⟨S1x1024, .f32⟩
  | .hbm, ⟨59, _⟩ => ⟨S1x1024, .f32⟩
  | .hbm, ⟨60, _⟩ => ⟨S16x128, .f32⟩
  | .hbm, ⟨61, _⟩ => ⟨S1x1024, .f32⟩
  | .hbm, ⟨62, _⟩ => ⟨S512x128, .f32⟩
  | .hbm, ⟨63, _⟩ => ⟨S1x512, .f32⟩
  | .hbm, ⟨64, _⟩ => ⟨S4x320, .f32⟩
  | .hbm, ⟨65, _⟩ => ⟨S1x2560, .f32⟩
  | .hbm, ⟨66, _⟩ => ⟨S1x24, .f32⟩
  | .hbm, ⟨67, _⟩ => ⟨S1x24, .f32⟩
  | .hbm, ⟨68, _⟩ => ⟨S1x24, .f32⟩
  | .hbm, ⟨69, _⟩ => ⟨S1x1536, .f32⟩
  | .hbm, ⟨70, _⟩ => ⟨S1x1024, .f32⟩
  | .hbm, ⟨71, _⟩ => ⟨S1x1024, .f32⟩
  | .hbm, ⟨72, _⟩ => ⟨S16x128, .f32⟩
  | .hbm, ⟨73, _⟩ => ⟨S1x1024, .f32⟩
  | .hbm, ⟨74, _⟩ => ⟨S512x128, .f32⟩
  | .hbm, ⟨75, _⟩ => ⟨S1x512, .f32⟩
  | .hbm, ⟨76, _⟩ => ⟨S4x320, .f32⟩
  | .hbm, ⟨77, _⟩ => ⟨S1x2560, .f32⟩
  | .hbm, ⟨78, _⟩ => ⟨S1x24, .f32⟩
  | .hbm, ⟨79, _⟩ => ⟨S1x24, .f32⟩
  | .hbm, ⟨80, _⟩ => ⟨S1x24, .f32⟩
  | .hbm, ⟨81, _⟩ => ⟨S1x1536, .f32⟩
  | .hbm, ⟨82, _⟩ => ⟨S1x1024, .f32⟩
  | .hbm, ⟨83, _⟩ => ⟨S1x1024, .f32⟩
  | .local _ .vmem, ⟨0, _⟩ => ⟨S16x128, .f32⟩
  | .local _ .vmem, ⟨1, _⟩ => ⟨S1x1024, .f32⟩
  | .local _ .vmem, ⟨2, _⟩ => ⟨S512x128, .f32⟩
  | .local _ .vmem, ⟨3, _⟩ => ⟨S1x512, .f32⟩
  | .local _ .vmem, ⟨4, _⟩ => ⟨S4x320, .f32⟩
  | .local _ .vmem, ⟨5, _⟩ => ⟨S1x2560, .f32⟩
  | .local _ .vmem, ⟨6, _⟩ => ⟨S1x24, .f32⟩
  | .local _ .vmem, ⟨7, _⟩ => ⟨S1x24, .f32⟩
  | .local _ .vmem, ⟨8, _⟩ => ⟨S1x24, .f32⟩
  | .local _ .vmem, ⟨9, _⟩ => ⟨S1x1536, .f32⟩
  | .local _ .vmem, ⟨10, _⟩ => ⟨S1x1024, .f32⟩
  | .local _ .vmem, ⟨11, _⟩ => ⟨S1x1024, .f32⟩
  | .local _ .vmem, ⟨12, _⟩ => ⟨S16x128, .f32⟩
  | .local _ .vmem, ⟨13, _⟩ => ⟨S1x1024, .f32⟩
  | .local _ .vmem, ⟨14, _⟩ => ⟨S512x128, .f32⟩
  | .local _ .vmem, ⟨15, _⟩ => ⟨S1x512, .f32⟩
  | .local _ .vmem, ⟨16, _⟩ => ⟨S4x320, .f32⟩
  | .local _ .vmem, ⟨17, _⟩ => ⟨S1x2560, .f32⟩
  | .local _ .vmem, ⟨18, _⟩ => ⟨S1x24, .f32⟩
  | .local _ .vmem, ⟨19, _⟩ => ⟨S1x24, .f32⟩
  | .local _ .vmem, ⟨20, _⟩ => ⟨S1x24, .f32⟩
  | .local _ .vmem, ⟨21, _⟩ => ⟨S1x1536, .f32⟩
  | .local _ .vmem, ⟨22, _⟩ => ⟨S1x1024, .f32⟩
  | .local _ .vmem, ⟨23, _⟩ => ⟨S1x1024, .f32⟩
  | .local _ .vmem, ⟨24, _⟩ => ⟨S16x128, .f32⟩
  | .local _ .vmem, ⟨25, _⟩ => ⟨S1x1024, .f32⟩
  | .local _ .vmem, ⟨26, _⟩ => ⟨S512x128, .f32⟩
  | .local _ .vmem, ⟨27, _⟩ => ⟨S1x512, .f32⟩
  | .local _ .vmem, ⟨28, _⟩ => ⟨S4x320, .f32⟩
  | .local _ .vmem, ⟨29, _⟩ => ⟨S1x2560, .f32⟩
  | .local _ .vmem, ⟨30, _⟩ => ⟨S1x24, .f32⟩
  | .local _ .vmem, ⟨31, _⟩ => ⟨S1x24, .f32⟩
  | .local _ .vmem, ⟨32, _⟩ => ⟨S1x24, .f32⟩
  | .local _ .vmem, ⟨33, _⟩ => ⟨S1x1536, .f32⟩
  | .local _ .vmem, ⟨34, _⟩ => ⟨S1x1024, .f32⟩
  | .local _ .vmem, ⟨35, _⟩ => ⟨S1x1024, .f32⟩
  | .local _ .vmem, ⟨36, _⟩ => ⟨S16x128, .f32⟩
  | .local _ .vmem, ⟨37, _⟩ => ⟨S1x1024, .f32⟩
  | .local _ .vmem, ⟨38, _⟩ => ⟨S512x128, .f32⟩
  | .local _ .vmem, ⟨39, _⟩ => ⟨S1x512, .f32⟩
  | .local _ .vmem, ⟨40, _⟩ => ⟨S4x320, .f32⟩
  | .local _ .vmem, ⟨41, _⟩ => ⟨S1x2560, .f32⟩
  | .local _ .vmem, ⟨42, _⟩ => ⟨S1x24, .f32⟩
  | .local _ .vmem, ⟨43, _⟩ => ⟨S1x24, .f32⟩
  | .local _ .vmem, ⟨44, _⟩ => ⟨S1x24, .f32⟩
  | .local _ .vmem, ⟨45, _⟩ => ⟨S1x1536, .f32⟩
  | .local _ .vmem, ⟨46, _⟩ => ⟨S1x1024, .f32⟩
  | .local _ .vmem, ⟨47, _⟩ => ⟨S1x1024, .f32⟩
  | .local _ .vmem, ⟨48, _⟩ => ⟨S16x128, .f32⟩
  | .local _ .vmem, ⟨49, _⟩ => ⟨S1x1024, .f32⟩
  | .local _ .vmem, ⟨50, _⟩ => ⟨S512x128, .f32⟩
  | .local _ .vmem, ⟨51, _⟩ => ⟨S1x512, .f32⟩
  | .local _ .vmem, ⟨52, _⟩ => ⟨S4x320, .f32⟩
  | .local _ .vmem, ⟨53, _⟩ => ⟨S1x2560, .f32⟩
  | .local _ .vmem, ⟨54, _⟩ => ⟨S1x24, .f32⟩
  | .local _ .vmem, ⟨55, _⟩ => ⟨S1x24, .f32⟩
  | .local _ .vmem, ⟨56, _⟩ => ⟨S1x24, .f32⟩
  | .local _ .vmem, ⟨57, _⟩ => ⟨S1x1536, .f32⟩
  | .local _ .vmem, ⟨58, _⟩ => ⟨S1x1024, .f32⟩
  | .local _ .vmem, ⟨59, _⟩ => ⟨S1x1024, .f32⟩
  | .local _ .vmem, ⟨60, _⟩ => ⟨S16x128, .f32⟩
  | .local _ .vmem, ⟨61, _⟩ => ⟨S1x1024, .f32⟩
  | .local _ .vmem, ⟨62, _⟩ => ⟨S512x128, .f32⟩
  | .local _ .vmem, ⟨63, _⟩ => ⟨S1x512, .f32⟩
  | .local _ .vmem, ⟨64, _⟩ => ⟨S4x320, .f32⟩
  | .local _ .vmem, ⟨65, _⟩ => ⟨S1x2560, .f32⟩
  | .local _ .vmem, ⟨66, _⟩ => ⟨S1x24, .f32⟩
  | .local _ .vmem, ⟨67, _⟩ => ⟨S1x24, .f32⟩
  | .local _ .vmem, ⟨68, _⟩ => ⟨S1x24, .f32⟩
  | .local _ .vmem, ⟨69, _⟩ => ⟨S1x1536, .f32⟩
  | .local _ .vmem, ⟨70, _⟩ => ⟨S1x1024, .f32⟩
  | .local _ .vmem, ⟨71, _⟩ => ⟨S1x1024, .f32⟩
  | .local _ .vmem, ⟨72, _⟩ => ⟨S16x128, .f32⟩
  | .local _ .vmem, ⟨73, _⟩ => ⟨S1x1024, .f32⟩
  | .local _ .vmem, ⟨74, _⟩ => ⟨S512x128, .f32⟩
  | .local _ .vmem, ⟨75, _⟩ => ⟨S1x512, .f32⟩
  | .local _ .vmem, ⟨76, _⟩ => ⟨S4x320, .f32⟩
  | .local _ .vmem, ⟨77, _⟩ => ⟨S1x2560, .f32⟩
  | .local _ .vmem, ⟨78, _⟩ => ⟨S1x24, .f32⟩
  | .local _ .vmem, ⟨79, _⟩ => ⟨S1x24, .f32⟩
  | .local _ .vmem, ⟨80, _⟩ => ⟨S1x24, .f32⟩
  | .local _ .vmem, ⟨81, _⟩ => ⟨S1x1536, .f32⟩
  | .local _ .vmem, ⟨82, _⟩ => ⟨S1x1024, .f32⟩
  | .local _ .vmem, ⟨83, _⟩ => ⟨S1x1024, .f32⟩
  | _, _ => ⟨S16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | _, _ => false

abbrev semScoped : Fin 0 → Bool
  | ⟨_, h⟩ => absurd h (Nat.not_lt_zero _)

abbrev dmaSemScoped : Fin 84 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | _ => false

abbrev sig : RefSig :=
  ofTc nBuf bufTy 0 84 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_arg47 : Ref sig .tc := ⟨.hbm, 47, rfl⟩
abbrev main_v0_0 : Ref sig .tc := ⟨.hbm, 48, rfl⟩
abbrev main_v0_1 : Ref sig .tc := ⟨.hbm, 49, rfl⟩
abbrev main_v0_2 : Ref sig .tc := ⟨.hbm, 50, rfl⟩
abbrev main_v0_3 : Ref sig .tc := ⟨.hbm, 51, rfl⟩
abbrev main_v0_4 : Ref sig .tc := ⟨.hbm, 52, rfl⟩
abbrev main_v0_5 : Ref sig .tc := ⟨.hbm, 53, rfl⟩
abbrev main_v0_6 : Ref sig .tc := ⟨.hbm, 54, rfl⟩
abbrev main_v0_7 : Ref sig .tc := ⟨.hbm, 55, rfl⟩
abbrev main_v0_8 : Ref sig .tc := ⟨.hbm, 56, rfl⟩
abbrev main_v0_9 : Ref sig .tc := ⟨.hbm, 57, rfl⟩
abbrev main_v0_10 : Ref sig .tc := ⟨.hbm, 58, rfl⟩
abbrev main_v0_11 : Ref sig .tc := ⟨.hbm, 59, rfl⟩
abbrev main_v0_12 : Ref sig .tc := ⟨.hbm, 60, rfl⟩
abbrev main_v0_13 : Ref sig .tc := ⟨.hbm, 61, rfl⟩
abbrev main_v0_14 : Ref sig .tc := ⟨.hbm, 62, rfl⟩
abbrev main_v0_15 : Ref sig .tc := ⟨.hbm, 63, rfl⟩
abbrev main_v0_16 : Ref sig .tc := ⟨.hbm, 64, rfl⟩
abbrev main_v0_17 : Ref sig .tc := ⟨.hbm, 65, rfl⟩
abbrev main_v0_18 : Ref sig .tc := ⟨.hbm, 66, rfl⟩
abbrev main_v0_19 : Ref sig .tc := ⟨.hbm, 67, rfl⟩
abbrev main_v0_20 : Ref sig .tc := ⟨.hbm, 68, rfl⟩
abbrev main_v0_21 : Ref sig .tc := ⟨.hbm, 69, rfl⟩
abbrev main_v0_22 : Ref sig .tc := ⟨.hbm, 70, rfl⟩
abbrev main_v0_23 : Ref sig .tc := ⟨.hbm, 71, rfl⟩
abbrev main_v0_24 : Ref sig .tc := ⟨.hbm, 72, rfl⟩
abbrev main_v0_25 : Ref sig .tc := ⟨.hbm, 73, rfl⟩
abbrev main_v0_26 : Ref sig .tc := ⟨.hbm, 74, rfl⟩
abbrev main_v0_27 : Ref sig .tc := ⟨.hbm, 75, rfl⟩
abbrev main_v0_28 : Ref sig .tc := ⟨.hbm, 76, rfl⟩
abbrev main_v0_29 : Ref sig .tc := ⟨.hbm, 77, rfl⟩
abbrev main_v0_30 : Ref sig .tc := ⟨.hbm, 78, rfl⟩
abbrev main_v0_31 : Ref sig .tc := ⟨.hbm, 79, rfl⟩
abbrev main_v0_32 : Ref sig .tc := ⟨.hbm, 80, rfl⟩
abbrev main_v0_33 : Ref sig .tc := ⟨.hbm, 81, rfl⟩
abbrev main_v0_34 : Ref sig .tc := ⟨.hbm, 82, rfl⟩
abbrev main_v0_35 : Ref sig .tc := ⟨.hbm, 83, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_stg28_0 : Ref sig .tc := ⟨.vmem, 28, rfl⟩
abbrev cc0_stg29_0 : Ref sig .tc := ⟨.vmem, 29, rfl⟩
abbrev cc0_stg30_0 : Ref sig .tc := ⟨.vmem, 30, rfl⟩
abbrev cc0_stg31_0 : Ref sig .tc := ⟨.vmem, 31, rfl⟩
abbrev cc0_stg32_0 : Ref sig .tc := ⟨.vmem, 32, rfl⟩
abbrev cc0_stg33_0 : Ref sig .tc := ⟨.vmem, 33, rfl⟩
abbrev cc0_stg34_0 : Ref sig .tc := ⟨.vmem, 34, rfl⟩
abbrev cc0_stg35_0 : Ref sig .tc := ⟨.vmem, 35, rfl⟩
abbrev cc0_stg36_0 : Ref sig .tc := ⟨.vmem, 36, rfl⟩
abbrev cc0_stg37_0 : Ref sig .tc := ⟨.vmem, 37, rfl⟩
abbrev cc0_stg38_0 : Ref sig .tc := ⟨.vmem, 38, rfl⟩
abbrev cc0_stg39_0 : Ref sig .tc := ⟨.vmem, 39, rfl⟩
abbrev cc0_stg40_0 : Ref sig .tc := ⟨.vmem, 40, rfl⟩
abbrev cc0_stg41_0 : Ref sig .tc := ⟨.vmem, 41, rfl⟩
abbrev cc0_stg42_0 : Ref sig .tc := ⟨.vmem, 42, rfl⟩
abbrev cc0_stg43_0 : Ref sig .tc := ⟨.vmem, 43, rfl⟩
abbrev cc0_stg44_0 : Ref sig .tc := ⟨.vmem, 44, rfl⟩
abbrev cc0_stg45_0 : Ref sig .tc := ⟨.vmem, 45, rfl⟩
abbrev cc0_stg46_0 : Ref sig .tc := ⟨.vmem, 46, rfl⟩
abbrev cc0_stg47_0 : Ref sig .tc := ⟨.vmem, 47, rfl⟩
abbrev cc0_stg48_0 : Ref sig .tc := ⟨.vmem, 48, rfl⟩
abbrev cc0_stg49_0 : Ref sig .tc := ⟨.vmem, 49, rfl⟩
abbrev cc0_stg50_0 : Ref sig .tc := ⟨.vmem, 50, rfl⟩
abbrev cc0_stg51_0 : Ref sig .tc := ⟨.vmem, 51, rfl⟩
abbrev cc0_stg52_0 : Ref sig .tc := ⟨.vmem, 52, rfl⟩
abbrev cc0_stg53_0 : Ref sig .tc := ⟨.vmem, 53, rfl⟩
abbrev cc0_stg54_0 : Ref sig .tc := ⟨.vmem, 54, rfl⟩
abbrev cc0_stg55_0 : Ref sig .tc := ⟨.vmem, 55, rfl⟩
abbrev cc0_stg56_0 : Ref sig .tc := ⟨.vmem, 56, rfl⟩
abbrev cc0_stg57_0 : Ref sig .tc := ⟨.vmem, 57, rfl⟩
abbrev cc0_stg58_0 : Ref sig .tc := ⟨.vmem, 58, rfl⟩
abbrev cc0_stg59_0 : Ref sig .tc := ⟨.vmem, 59, rfl⟩
abbrev cc0_stg60_0 : Ref sig .tc := ⟨.vmem, 60, rfl⟩
abbrev cc0_stg61_0 : Ref sig .tc := ⟨.vmem, 61, rfl⟩
abbrev cc0_stg62_0 : Ref sig .tc := ⟨.vmem, 62, rfl⟩
abbrev cc0_stg63_0 : Ref sig .tc := ⟨.vmem, 63, rfl⟩
abbrev cc0_stg64_0 : Ref sig .tc := ⟨.vmem, 64, rfl⟩
abbrev cc0_stg65_0 : Ref sig .tc := ⟨.vmem, 65, rfl⟩
abbrev cc0_stg66_0 : Ref sig .tc := ⟨.vmem, 66, rfl⟩
abbrev cc0_stg67_0 : Ref sig .tc := ⟨.vmem, 67, rfl⟩
abbrev cc0_stg68_0 : Ref sig .tc := ⟨.vmem, 68, rfl⟩
abbrev cc0_stg69_0 : Ref sig .tc := ⟨.vmem, 69, rfl⟩
abbrev cc0_stg70_0 : Ref sig .tc := ⟨.vmem, 70, rfl⟩
abbrev cc0_stg71_0 : Ref sig .tc := ⟨.vmem, 71, rfl⟩
abbrev cc0_stg72_0 : Ref sig .tc := ⟨.vmem, 72, rfl⟩
abbrev cc0_stg73_0 : Ref sig .tc := ⟨.vmem, 73, rfl⟩
abbrev cc0_stg74_0 : Ref sig .tc := ⟨.vmem, 74, rfl⟩
abbrev cc0_stg75_0 : Ref sig .tc := ⟨.vmem, 75, rfl⟩
abbrev cc0_stg76_0 : Ref sig .tc := ⟨.vmem, 76, rfl⟩
abbrev cc0_stg77_0 : Ref sig .tc := ⟨.vmem, 77, rfl⟩
abbrev cc0_stg78_0 : Ref sig .tc := ⟨.vmem, 78, rfl⟩
abbrev cc0_stg79_0 : Ref sig .tc := ⟨.vmem, 79, rfl⟩
abbrev cc0_stg80_0 : Ref sig .tc := ⟨.vmem, 80, rfl⟩
abbrev cc0_stg81_0 : Ref sig .tc := ⟨.vmem, 81, rfl⟩
abbrev cc0_stg82_0 : Ref sig .tc := ⟨.vmem, 82, rfl⟩
abbrev cc0_stg83_0 : Ref sig .tc := ⟨.vmem, 83, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27
abbrev cc0_sem28_0 : DmaSem sig := 28
abbrev cc0_sem29_0 : DmaSem sig := 29
abbrev cc0_sem30_0 : DmaSem sig := 30
abbrev cc0_sem31_0 : DmaSem sig := 31
abbrev cc0_sem32_0 : DmaSem sig := 32
abbrev cc0_sem33_0 : DmaSem sig := 33
abbrev cc0_sem34_0 : DmaSem sig := 34
abbrev cc0_sem35_0 : DmaSem sig := 35
abbrev cc0_sem36_0 : DmaSem sig := 36
abbrev cc0_sem37_0 : DmaSem sig := 37
abbrev cc0_sem38_0 : DmaSem sig := 38
abbrev cc0_sem39_0 : DmaSem sig := 39
abbrev cc0_sem40_0 : DmaSem sig := 40
abbrev cc0_sem41_0 : DmaSem sig := 41
abbrev cc0_sem42_0 : DmaSem sig := 42
abbrev cc0_sem43_0 : DmaSem sig := 43
abbrev cc0_sem44_0 : DmaSem sig := 44
abbrev cc0_sem45_0 : DmaSem sig := 45
abbrev cc0_sem46_0 : DmaSem sig := 46
abbrev cc0_sem47_0 : DmaSem sig := 47
abbrev cc0_sem48_0 : DmaSem sig := 48
abbrev cc0_sem49_0 : DmaSem sig := 49
abbrev cc0_sem50_0 : DmaSem sig := 50
abbrev cc0_sem51_0 : DmaSem sig := 51
abbrev cc0_sem52_0 : DmaSem sig := 52
abbrev cc0_sem53_0 : DmaSem sig := 53
abbrev cc0_sem54_0 : DmaSem sig := 54
abbrev cc0_sem55_0 : DmaSem sig := 55
abbrev cc0_sem56_0 : DmaSem sig := 56
abbrev cc0_sem57_0 : DmaSem sig := 57
abbrev cc0_sem58_0 : DmaSem sig := 58
abbrev cc0_sem59_0 : DmaSem sig := 59
abbrev cc0_sem60_0 : DmaSem sig := 60
abbrev cc0_sem61_0 : DmaSem sig := 61
abbrev cc0_sem62_0 : DmaSem sig := 62
abbrev cc0_sem63_0 : DmaSem sig := 63
abbrev cc0_sem64_0 : DmaSem sig := 64
abbrev cc0_sem65_0 : DmaSem sig := 65
abbrev cc0_sem66_0 : DmaSem sig := 66
abbrev cc0_sem67_0 : DmaSem sig := 67
abbrev cc0_sem68_0 : DmaSem sig := 68
abbrev cc0_sem69_0 : DmaSem sig := 69
abbrev cc0_sem70_0 : DmaSem sig := 70
abbrev cc0_sem71_0 : DmaSem sig := 71
abbrev cc0_sem72_0 : DmaSem sig := 72
abbrev cc0_sem73_0 : DmaSem sig := 73
abbrev cc0_sem74_0 : DmaSem sig := 74
abbrev cc0_sem75_0 : DmaSem sig := 75
abbrev cc0_sem76_0 : DmaSem sig := 76
abbrev cc0_sem77_0 : DmaSem sig := 77
abbrev cc0_sem78_0 : DmaSem sig := 78
abbrev cc0_sem79_0 : DmaSem sig := 79
abbrev cc0_sem80_0 : DmaSem sig := 80
abbrev cc0_sem81_0 : DmaSem sig := 81
abbrev cc0_sem82_0 : DmaSem sig := 82
abbrev cc0_sem83_0 : DmaSem sig := 83

abbrev nD : Nat := 1
abbrev τ : Topo := Topo.v7x

variable {F : FTy → Type} [FloatOps F]

abbrev grid0 : Pipeline.Grid := .none

abbrev stage0_0 : Fin 1 → Memref sig .tc .vmem S16x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x320 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x2560 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x24 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x24 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x24 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x1536 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S16x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S512x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S4x320 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x2560 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x24 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x24 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x24 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S1x1536 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S1x1024 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S1x1024 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S16x128 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S1x1024 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S512x128 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S1x512 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))

abbrev stage0_28 : Fin 1 → Memref sig .tc .vmem S4x320 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))

abbrev stage0_29 : Fin 1 → Memref sig .tc .vmem S1x2560 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))

abbrev stage0_30 : Fin 1 → Memref sig .tc .vmem S1x24 .f32 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))

abbrev stage0_31 : Fin 1 → Memref sig .tc .vmem S1x24 .f32 := fun | 0 => Memref.whole cc0_stg31_0 | ⟨_ + 1, h⟩ => absurd h (Nat.not_lt.2 (Nat.le_add_left _ _))
abbrev sem0_31 : Fin 1 → DmaSem sig := fun | 0 => cc0_sem31_0 | ⟨_ + 1, h⟩ => absurd h (Nat.not_lt.2 (Nat.le_add_left _ _))

abbrev stage0_32 : Fin 1 → Memref sig .tc .vmem S1x24 .f32 := fun | 0 => Memref.whole cc0_stg32_0 | ⟨_ + 1, h⟩ => absurd h (Nat.not_lt.2 (Nat.le_add_left _ _))
abbrev sem0_32 : Fin 1 → DmaSem sig := fun | 0 => cc0_sem32_0 | ⟨_ + 1, h⟩ => absurd h (Nat.not_lt.2 (Nat.le_add_left _ _))

abbrev stage0_33 : Fin 1 → Memref sig .tc .vmem S1x1536 .f32 := fun | 0 => Memref.whole cc0_stg33_0 | ⟨_ + 1, h⟩ => absurd h (Nat.not_lt.2 (Nat.le_add_left _ _))
abbrev sem0_33 : Fin 1 → DmaSem sig := fun | 0 => cc0_sem33_0 | ⟨_ + 1, h⟩ => absurd h (Nat.not_lt.2 (Nat.le_add_left _ _))

abbrev stage0_34 : Fin 1 → Memref sig .tc .vmem S1x1024 .f32 := fun | 0 => Memref.whole cc0_stg34_0 | ⟨_ + 1, h⟩ => absurd h (Nat.not_lt.2 (Nat.le_add_left _ _))
abbrev sem0_34 : Fin 1 → DmaSem sig := fun | 0 => cc0_sem34_0 | ⟨_ + 1, h⟩ => absurd h (Nat.not_lt.2 (Nat.le_add_left _ _))

abbrev stage0_35 : Fin 1 → Memref sig .tc .vmem S1x1024 .f32 := fun | 0 => Memref.whole cc0_stg35_0 | ⟨_ + 1, h⟩ => absurd h (Nat.not_lt.2 (Nat.le_add_left _ _))
abbrev sem0_35 : Fin 1 → DmaSem sig := fun | 0 => cc0_sem35_0 | ⟨_ + 1, h⟩ => absurd h (Nat.not_lt.2 (Nat.le_add_left _ _))

abbrev stage0_36 : Fin 1 → Memref sig .tc .vmem S16x128 .f32 := fun | 0 => Memref.whole cc0_stg36_0 | ⟨_ + 1, h⟩ => absurd h (Nat.not_lt.2 (Nat.le_add_left _ _))
abbrev sem0_36 : Fin 1 → DmaSem sig := fun | 0 => cc0_sem36_0 | ⟨_ + 1, h⟩ => absurd h (Nat.not_lt.2 (Nat.le_add_left _ _))

abbrev stage0_37 : Fin 1 → Memref sig .tc .vmem S1x1024 .f32 := fun | 0 => Memref.whole cc0_stg37_0 | ⟨_ + 1, h⟩ => absurd h (Nat.not_lt.2 (Nat.le_add_left _ _))
abbrev sem0_37 : Fin 1 → DmaSem sig := fun | 0 => cc0_sem37_0 | ⟨_ + 1, h⟩ => absurd h (Nat.not_lt.2 (Nat.le_add_left _ _))

abbrev stage0_38 : Fin 1 → Memref sig .tc .vmem S512x128 .f32 := fun | 0 => Memref.whole cc0_stg38_0 | ⟨_ + 1, h⟩ => absurd h (Nat.not_lt.2 (Nat.le_add_left _ _))
abbrev sem0_38 : Fin 1 → DmaSem sig := fun | 0 => cc0_sem38_0 | ⟨_ + 1, h⟩ => absurd h (Nat.not_lt.2 (Nat.le_add_left _ _))

abbrev stage0_39 : Fin 1 → Memref sig .tc .vmem S1x512 .f32 := fun | 0 => Memref.whole cc0_stg39_0 | ⟨_ + 1, h⟩ => absurd h (Nat.not_lt.2 (Nat.le_add_left _ _))
abbrev sem0_39 : Fin 1 → DmaSem sig := fun | 0 => cc0_sem39_0 | ⟨_ + 1, h⟩ => absurd h (Nat.not_lt.2 (Nat.le_add_left _ _))

abbrev stage0_40 : Fin 1 → Memref sig .tc .vmem S4x320 .f32 := fun | 0 => Memref.whole cc0_stg40_0 | ⟨_ + 1, h⟩ => absurd h (Nat.not_lt.2 (Nat.le_add_left _ _))
abbrev sem0_40 : Fin 1 → DmaSem sig := fun | 0 => cc0_sem40_0 | ⟨_ + 1, h⟩ => absurd h (Nat.not_lt.2 (Nat.le_add_left _ _))

abbrev stage0_41 : Fin 1 → Memref sig .tc .vmem S1x2560 .f32 := fun | 0 => Memref.whole cc0_stg41_0 | ⟨_ + 1, h⟩ => absurd h (Nat.not_lt.2 (Nat.le_add_left _ _))
abbrev sem0_41 : Fin 1 → DmaSem sig := fun | 0 => cc0_sem41_0 | ⟨_ + 1, h⟩ => absurd h (Nat.not_lt.2 (Nat.le_add_left _ _))

abbrev stage0_42 : Fin 1 → Memref sig .tc .vmem S1x24 .f32 := fun | 0 => Memref.whole cc0_stg42_0 | ⟨_ + 1, h⟩ => absurd h (Nat.not_lt.2 (Nat.le_add_left _ _))
abbrev sem0_42 : Fin 1 → DmaSem sig := fun | 0 => cc0_sem42_0 | ⟨_ + 1, h⟩ => absurd h (Nat.not_lt.2 (Nat.le_add_left _ _))

abbrev stage0_43 : Fin 1 → Memref sig .tc .vmem S1x24 .f32 := fun | 0 => Memref.whole cc0_stg43_0 | ⟨_ + 1, h⟩ => absurd h (Nat.not_lt.2 (Nat.le_add_left _ _))
abbrev sem0_43 : Fin 1 → DmaSem sig := fun | 0 => cc0_sem43_0 | ⟨_ + 1, h⟩ => absurd h (Nat.not_lt.2 (Nat.le_add_left _ _))

abbrev stage0_44 : Fin 1 → Memref sig .tc .vmem S1x24 .f32 := fun | 0 => Memref.whole cc0_stg44_0 | ⟨_ + 1, h⟩ => absurd h (Nat.not_lt.2 (Nat.le_add_left _ _))
abbrev sem0_44 : Fin 1 → DmaSem sig := fun | 0 => cc0_sem44_0 | ⟨_ + 1, h⟩ => absurd h (Nat.not_lt.2 (Nat.le_add_left _ _))

abbrev stage0_45 : Fin 1 → Memref sig .tc .vmem S1x1536 .f32 := fun | 0 => Memref.whole cc0_stg45_0 | ⟨_ + 1, h⟩ => absurd h (Nat.not_lt.2 (Nat.le_add_left _ _))
abbrev sem0_45 : Fin 1 → DmaSem sig := fun | 0 => cc0_sem45_0 | ⟨_ + 1, h⟩ => absurd h (Nat.not_lt.2 (Nat.le_add_left _ _))

abbrev stage0_46 : Fin 1 → Memref sig .tc .vmem S1x1024 .f32 := fun | 0 => Memref.whole cc0_stg46_0 | ⟨_ + 1, h⟩ => absurd h (Nat.not_lt.2 (Nat.le_add_left _ _))
abbrev sem0_46 : Fin 1 → DmaSem sig := fun | 0 => cc0_sem46_0 | ⟨_ + 1, h⟩ => absurd h (Nat.not_lt.2 (Nat.le_add_left _ _))

abbrev stage0_47 : Fin 1 → Memref sig .tc .vmem S1x1024 .f32 := fun | 0 => Memref.whole cc0_stg47_0 | ⟨_ + 1, h⟩ => absurd h (Nat.not_lt.2 (Nat.le_add_left _ _))
abbrev sem0_47 : Fin 1 → DmaSem sig := fun | 0 => cc0_sem47_0 | ⟨_ + 1, h⟩ => absurd h (Nat.not_lt.2 (Nat.le_add_left _ _))

abbrev stage0_48 : Fin 1 → Memref sig .tc .vmem S16x128 .f32 := fun | 0 => Memref.whole cc0_stg48_0 | ⟨_ + 1, h⟩ => absurd h (Nat.not_lt.2 (Nat.le_add_left _ _))
abbrev sem0_48 : Fin 1 → DmaSem sig := fun | 0 => cc0_sem48_0 | ⟨_ + 1, h⟩ => absurd h (Nat.not_lt.2 (Nat.le_add_left _ _))

abbrev stage0_49 : Fin 1 → Memref sig .tc .vmem S1x1024 .f32 := fun | 0 => Memref.whole cc0_stg49_0 | ⟨_ + 1, h⟩ => absurd h (Nat.not_lt.2 (Nat.le_add_left _ _))
abbrev sem0_49 : Fin 1 → DmaSem sig := fun | 0 => cc0_sem49_0 | ⟨_ + 1, h⟩ => absurd h (Nat.not_lt.2 (Nat.le_add_left _ _))

abbrev stage0_50 : Fin 1 → Memref sig .tc .vmem S512x128 .f32 := fun | 0 => Memref.whole cc0_stg50_0 | ⟨_ + 1, h⟩ => absurd h (Nat.not_lt.2 (Nat.le_add_left _ _))
abbrev sem0_50 : Fin 1 → DmaSem sig := fun | 0 => cc0_sem50_0 | ⟨_ + 1, h⟩ => absurd h (Nat.not_lt.2 (Nat.le_add_left _ _))

abbrev stage0_51 : Fin 1 → Memref sig .tc .vmem S1x512 .f32 := fun | 0 => Memref.whole cc0_stg51_0 | ⟨_ + 1, h⟩ => absurd h (Nat.not_lt.2 (Nat.le_add_left _ _))
abbrev sem0_51 : Fin 1 → DmaSem sig := fun | 0 => cc0_sem51_0 | ⟨_ + 1, h⟩ => absurd h (Nat.not_lt.2 (Nat.le_add_left _ _))

abbrev stage0_52 : Fin 1 → Memref sig .tc .vmem S4x320 .f32 := fun | 0 => Memref.whole cc0_stg52_0 | ⟨_ + 1, h⟩ => absurd h (Nat.not_lt.2 (Nat.le_add_left _ _))
abbrev sem0_52 : Fin 1 → DmaSem sig := fun | 0 => cc0_sem52_0 | ⟨_ + 1, h⟩ => absurd h (Nat.not_lt.2 (Nat.le_add_left _ _))

abbrev stage0_53 : Fin 1 → Memref sig .tc .vmem S1x2560 .f32 := fun | 0 => Memref.whole cc0_stg53_0 | ⟨_ + 1, h⟩ => absurd h (Nat.not_lt.2 (Nat.le_add_left _ _))
abbrev sem0_53 : Fin 1 → DmaSem sig := fun | 0 => cc0_sem53_0 | ⟨_ + 1, h⟩ => absurd h (Nat.not_lt.2 (Nat.le_add_left _ _))

abbrev stage0_54 : Fin 1 → Memref sig .tc .vmem S1x24 .f32 := fun | 0 => Memref.whole cc0_stg54_0 | ⟨_ + 1, h⟩ => absurd h (Nat.not_lt.2 (Nat.le_add_left _ _))
abbrev sem0_54 : Fin 1 → DmaSem sig := fun | 0 => cc0_sem54_0 | ⟨_ + 1, h⟩ => absurd h (Nat.not_lt.2 (Nat.le_add_left _ _))

abbrev stage0_55 : Fin 1 → Memref sig .tc .vmem S1x24 .f32 := fun | 0 => Memref.whole cc0_stg55_0 | ⟨_ + 1, h⟩ => absurd h (Nat.not_lt.2 (Nat.le_add_left _ _))
abbrev sem0_55 : Fin 1 → DmaSem sig := fun | 0 => cc0_sem55_0 | ⟨_ + 1, h⟩ => absurd h (Nat.not_lt.2 (Nat.le_add_left _ _))

abbrev stage0_56 : Fin 1 → Memref sig .tc .vmem S1x24 .f32 := fun | 0 => Memref.whole cc0_stg56_0 | ⟨_ + 1, h⟩ => absurd h (Nat.not_lt.2 (Nat.le_add_left _ _))
abbrev sem0_56 : Fin 1 → DmaSem sig := fun | 0 => cc0_sem56_0 | ⟨_ + 1, h⟩ => absurd h (Nat.not_lt.2 (Nat.le_add_left _ _))

abbrev stage0_57 : Fin 1 → Memref sig .tc .vmem S1x1536 .f32 := fun | 0 => Memref.whole cc0_stg57_0 | ⟨_ + 1, h⟩ => absurd h (Nat.not_lt.2 (Nat.le_add_left _ _))
abbrev sem0_57 : Fin 1 → DmaSem sig := fun | 0 => cc0_sem57_0 | ⟨_ + 1, h⟩ => absurd h (Nat.not_lt.2 (Nat.le_add_left _ _))

abbrev stage0_58 : Fin 1 → Memref sig .tc .vmem S1x1024 .f32 := fun | 0 => Memref.whole cc0_stg58_0 | ⟨_ + 1, h⟩ => absurd h (Nat.not_lt.2 (Nat.le_add_left _ _))
abbrev sem0_58 : Fin 1 → DmaSem sig := fun | 0 => cc0_sem58_0 | ⟨_ + 1, h⟩ => absurd h (Nat.not_lt.2 (Nat.le_add_left _ _))

abbrev stage0_59 : Fin 1 → Memref sig .tc .vmem S1x1024 .f32 := fun | 0 => Memref.whole cc0_stg59_0 | ⟨_ + 1, h⟩ => absurd h (Nat.not_lt.2 (Nat.le_add_left _ _))
abbrev sem0_59 : Fin 1 → DmaSem sig := fun | 0 => cc0_sem59_0 | ⟨_ + 1, h⟩ => absurd h (Nat.not_lt.2 (Nat.le_add_left _ _))

abbrev stage0_60 : Fin 1 → Memref sig .tc .vmem S16x128 .f32 := fun | 0 => Memref.whole cc0_stg60_0 | ⟨_ + 1, h⟩ => absurd h (Nat.not_lt.2 (Nat.le_add_left _ _))
abbrev sem0_60 : Fin 1 → DmaSem sig := fun | 0 => cc0_sem60_0 | ⟨_ + 1, h⟩ => absurd h (Nat.not_lt.2 (Nat.le_add_left _ _))

abbrev stage0_61 : Fin 1 → Memref sig .tc .vmem S1x1024 .f32 := fun | 0 => Memref.whole cc0_stg61_0 | ⟨_ + 1, h⟩ => absurd h (Nat.not_lt.2 (Nat.le_add_left _ _))
abbrev sem0_61 : Fin 1 → DmaSem sig := fun | 0 => cc0_sem61_0 | ⟨_ + 1, h⟩ => absurd h (Nat.not_lt.2 (Nat.le_add_left _ _))

abbrev stage0_62 : Fin 1 → Memref sig .tc .vmem S512x128 .f32 := fun | 0 => Memref.whole cc0_stg62_0 | ⟨_ + 1, h⟩ => absurd h (Nat.not_lt.2 (Nat.le_add_left _ _))
abbrev sem0_62 : Fin 1 → DmaSem sig := fun | 0 => cc0_sem62_0 | ⟨_ + 1, h⟩ => absurd h (Nat.not_lt.2 (Nat.le_add_left _ _))

abbrev stage0_63 : Fin 1 → Memref sig .tc .vmem S1x512 .f32 := fun | 0 => Memref.whole cc0_stg63_0 | ⟨_ + 1, h⟩ => absurd h (Nat.not_lt.2 (Nat.le_add_left _ _))
abbrev sem0_63 : Fin 1 → DmaSem sig := fun | 0 => cc0_sem63_0 | ⟨_ + 1, h⟩ => absurd h (Nat.not_lt.2 (Nat.le_add_left _ _))

abbrev stage0_64 : Fin 1 → Memref sig .tc .vmem S4x320 .f32 := fun | 0 => Memref.whole cc0_stg64_0 | ⟨_ + 1, h⟩ => absurd h (Nat.not_lt.2 (Nat.le_add_left _ _))
abbrev sem0_64 : Fin 1 → DmaSem sig := fun | 0 => cc0_sem64_0 | ⟨_ + 1, h⟩ => absurd h (Nat.not_lt.2 (Nat.le_add_left _ _))

abbrev stage0_65 : Fin 1 → Memref sig .tc .vmem S1x2560 .f32 := fun | 0 => Memref.whole cc0_stg65_0 | ⟨_ + 1, h⟩ => absurd h (Nat.not_lt.2 (Nat.le_add_left _ _))
abbrev sem0_65 : Fin 1 → DmaSem sig := fun | 0 => cc0_sem65_0 | ⟨_ + 1, h⟩ => absurd h (Nat.not_lt.2 (Nat.le_add_left _ _))

abbrev stage0_66 : Fin 1 → Memref sig .tc .vmem S1x24 .f32 := fun | 0 => Memref.whole cc0_stg66_0 | ⟨_ + 1, h⟩ => absurd h (Nat.not_lt.2 (Nat.le_add_left _ _))
abbrev sem0_66 : Fin 1 → DmaSem sig := fun | 0 => cc0_sem66_0 | ⟨_ + 1, h⟩ => absurd h (Nat.not_lt.2 (Nat.le_add_left _ _))

abbrev stage0_67 : Fin 1 → Memref sig .tc .vmem S1x24 .f32 := fun | 0 => Memref.whole cc0_stg67_0 | ⟨_ + 1, h⟩ => absurd h (Nat.not_lt.2 (Nat.le_add_left _ _))
abbrev sem0_67 : Fin 1 → DmaSem sig := fun | 0 => cc0_sem67_0 | ⟨_ + 1, h⟩ => absurd h (Nat.not_lt.2 (Nat.le_add_left _ _))

abbrev stage0_68 : Fin 1 → Memref sig .tc .vmem S1x24 .f32 := fun | 0 => Memref.whole cc0_stg68_0 | ⟨_ + 1, h⟩ => absurd h (Nat.not_lt.2 (Nat.le_add_left _ _))
abbrev sem0_68 : Fin 1 → DmaSem sig := fun | 0 => cc0_sem68_0 | ⟨_ + 1, h⟩ => absurd h (Nat.not_lt.2 (Nat.le_add_left _ _))

abbrev stage0_69 : Fin 1 → Memref sig .tc .vmem S1x1536 .f32 := fun | 0 => Memref.whole cc0_stg69_0 | ⟨_ + 1, h⟩ => absurd h (Nat.not_lt.2 (Nat.le_add_left _ _))
abbrev sem0_69 : Fin 1 → DmaSem sig := fun | 0 => cc0_sem69_0 | ⟨_ + 1, h⟩ => absurd h (Nat.not_lt.2 (Nat.le_add_left _ _))

abbrev stage0_70 : Fin 1 → Memref sig .tc .vmem S1x1024 .f32 := fun | 0 => Memref.whole cc0_stg70_0 | ⟨_ + 1, h⟩ => absurd h (Nat.not_lt.2 (Nat.le_add_left _ _))
abbrev sem0_70 : Fin 1 → DmaSem sig := fun | 0 => cc0_sem70_0 | ⟨_ + 1, h⟩ => absurd h (Nat.not_lt.2 (Nat.le_add_left _ _))

abbrev stage0_71 : Fin 1 → Memref sig .tc .vmem S1x1024 .f32 := fun | 0 => Memref.whole cc0_stg71_0 | ⟨_ + 1, h⟩ => absurd h (Nat.not_lt.2 (Nat.le_add_left _ _))
abbrev sem0_71 : Fin 1 → DmaSem sig := fun | 0 => cc0_sem71_0 | ⟨_ + 1, h⟩ => absurd h (Nat.not_lt.2 (Nat.le_add_left _ _))

abbrev stage0_72 : Fin 1 → Memref sig .tc .vmem S16x128 .f32 := fun | 0 => Memref.whole cc0_stg72_0 | ⟨_ + 1, h⟩ => absurd h (Nat.not_lt.2 (Nat.le_add_left _ _))
abbrev sem0_72 : Fin 1 → DmaSem sig := fun | 0 => cc0_sem72_0 | ⟨_ + 1, h⟩ => absurd h (Nat.not_lt.2 (Nat.le_add_left _ _))

abbrev stage0_73 : Fin 1 → Memref sig .tc .vmem S1x1024 .f32 := fun | 0 => Memref.whole cc0_stg73_0 | ⟨_ + 1, h⟩ => absurd h (Nat.not_lt.2 (Nat.le_add_left _ _))
abbrev sem0_73 : Fin 1 → DmaSem sig := fun | 0 => cc0_sem73_0 | ⟨_ + 1, h⟩ => absurd h (Nat.not_lt.2 (Nat.le_add_left _ _))

abbrev stage0_74 : Fin 1 → Memref sig .tc .vmem S512x128 .f32 := fun | 0 => Memref.whole cc0_stg74_0 | ⟨_ + 1, h⟩ => absurd h (Nat.not_lt.2 (Nat.le_add_left _ _))
abbrev sem0_74 : Fin 1 → DmaSem sig := fun | 0 => cc0_sem74_0 | ⟨_ + 1, h⟩ => absurd h (Nat.not_lt.2 (Nat.le_add_left _ _))

abbrev stage0_75 : Fin 1 → Memref sig .tc .vmem S1x512 .f32 := fun | 0 => Memref.whole cc0_stg75_0 | ⟨_ + 1, h⟩ => absurd h (Nat.not_lt.2 (Nat.le_add_left _ _))
abbrev sem0_75 : Fin 1 → DmaSem sig := fun | 0 => cc0_sem75_0 | ⟨_ + 1, h⟩ => absurd h (Nat.not_lt.2 (Nat.le_add_left _ _))

abbrev stage0_76 : Fin 1 → Memref sig .tc .vmem S4x320 .f32 := fun | 0 => Memref.whole cc0_stg76_0 | ⟨_ + 1, h⟩ => absurd h (Nat.not_lt.2 (Nat.le_add_left _ _))
abbrev sem0_76 : Fin 1 → DmaSem sig := fun | 0 => cc0_sem76_0 | ⟨_ + 1, h⟩ => absurd h (Nat.not_lt.2 (Nat.le_add_left _ _))

abbrev stage0_77 : Fin 1 → Memref sig .tc .vmem S1x2560 .f32 := fun | 0 => Memref.whole cc0_stg77_0 | ⟨_ + 1, h⟩ => absurd h (Nat.not_lt.2 (Nat.le_add_left _ _))
abbrev sem0_77 : Fin 1 → DmaSem sig := fun | 0 => cc0_sem77_0 | ⟨_ + 1, h⟩ => absurd h (Nat.not_lt.2 (Nat.le_add_left _ _))

abbrev stage0_78 : Fin 1 → Memref sig .tc .vmem S1x24 .f32 := fun | 0 => Memref.whole cc0_stg78_0 | ⟨_ + 1, h⟩ => absurd h (Nat.not_lt.2 (Nat.le_add_left _ _))
abbrev sem0_78 : Fin 1 → DmaSem sig := fun | 0 => cc0_sem78_0 | ⟨_ + 1, h⟩ => absurd h (Nat.not_lt.2 (Nat.le_add_left _ _))

abbrev stage0_79 : Fin 1 → Memref sig .tc .vmem S1x24 .f32 := fun | 0 => Memref.whole cc0_stg79_0 | ⟨_ + 1, h⟩ => absurd h (Nat.not_lt.2 (Nat.le_add_left _ _))
abbrev sem0_79 : Fin 1 → DmaSem sig := fun | 0 => cc0_sem79_0 | ⟨_ + 1, h⟩ => absurd h (Nat.not_lt.2 (Nat.le_add_left _ _))

abbrev stage0_80 : Fin 1 → Memref sig .tc .vmem S1x24 .f32 := fun | 0 => Memref.whole cc0_stg80_0 | ⟨_ + 1, h⟩ => absurd h (Nat.not_lt.2 (Nat.le_add_left _ _))
abbrev sem0_80 : Fin 1 → DmaSem sig := fun | 0 => cc0_sem80_0 | ⟨_ + 1, h⟩ => absurd h (Nat.not_lt.2 (Nat.le_add_left _ _))

abbrev stage0_81 : Fin 1 → Memref sig .tc .vmem S1x1536 .f32 := fun | 0 => Memref.whole cc0_stg81_0 | ⟨_ + 1, h⟩ => absurd h (Nat.not_lt.2 (Nat.le_add_left _ _))
abbrev sem0_81 : Fin 1 → DmaSem sig := fun | 0 => cc0_sem81_0 | ⟨_ + 1, h⟩ => absurd h (Nat.not_lt.2 (Nat.le_add_left _ _))

abbrev stage0_82 : Fin 1 → Memref sig .tc .vmem S1x1024 .f32 := fun | 0 => Memref.whole cc0_stg82_0 | ⟨_ + 1, h⟩ => absurd h (Nat.not_lt.2 (Nat.le_add_left _ _))
abbrev sem0_82 : Fin 1 → DmaSem sig := fun | 0 => cc0_sem82_0 | ⟨_ + 1, h⟩ => absurd h (Nat.not_lt.2 (Nat.le_add_left _ _))

abbrev stage0_83 : Fin 1 → Memref sig .tc .vmem S1x1024 .f32 := fun | 0 => Memref.whole cc0_stg83_0 | ⟨_ + 1, h⟩ => absurd h (Nat.not_lt.2 (Nat.le_add_left _ _))
abbrev sem0_83 : Fin 1 → DmaSem sig := fun | 0 => cc0_sem83_0 | ⟨_ + 1, h⟩ => absurd h (Nat.not_lt.2 (Nat.le_add_left _ _))
-- ==== Reference12Ideal.lean ====
abbrev S16x128 : Shape := ⟨2, ![16, 128]⟩
abbrev S1x1024 : Shape := ⟨2, ![1, 1024]⟩
abbrev S512x128 : Shape := ⟨2, ![512, 128]⟩
abbrev S1x512 : Shape := ⟨2, ![1, 512]⟩
abbrev S4x320 : Shape := ⟨2, ![4, 320]⟩
abbrev S1x2560 : Shape := ⟨2, ![1, 2560]⟩
abbrev S1x24 : Shape := ⟨2, ![1, 24]⟩
abbrev S1x1536 : Shape := ⟨2, ![1, 1536]⟩
abbrev S_ : Shape := ⟨0, ![]⟩

abbrev nBuf : Space → Nat
  | .hbm => 444
  | .vmem => 0
  | .smem => 0
  | _ => 0

abbrev hbmTy0_0 (i : Nat) : BufTy := match i % 128 with
  | 0 => ⟨S16x128, .f32⟩
  | 1 => ⟨S1x1024, .f32⟩
  | 2 => ⟨S512x128, .f32⟩
  | 3 => ⟨S1x512, .f32⟩
  | 4 => ⟨S4x320, .f32⟩
  | 5 => ⟨S1x2560, .f32⟩
  | 6 => ⟨S1x24, .f32⟩
  | 7 => ⟨S1x24, .f32⟩
  | 8 => ⟨S1x24, .f32⟩
  | 9 => ⟨S1x1536, .f32⟩
  | 10 => ⟨S1x1024, .f32⟩
  | 11 => ⟨S1x1024, .f32⟩
  | 12 => ⟨S16x128, .f32⟩
  | 13 => ⟨S1x1024, .f32⟩
  | 14 => ⟨S512x128, .f32⟩
  | 15 => ⟨S1x512, .f32⟩
  | 16 => ⟨S4x320, .f32⟩
  | 17 => ⟨S1x2560, .f32⟩
  | 18 => ⟨S1x24, .f32⟩
  | 19 => ⟨S1x24, .f32⟩
  | 20 => ⟨S1x24, .f32⟩
  | 21 => ⟨S1x1536, .f32⟩
  | 22 => ⟨S1x1024, .f32⟩
  | 23 => ⟨S1x1024, .f32⟩
  | 24 => ⟨S16x128, .f32⟩
  | 25 => ⟨S1x1024, .f32⟩
  | 26 => ⟨S512x128, .f32⟩
  | 27 => ⟨S1x512, .f32⟩
  | 28 => ⟨S4x320, .f32⟩
  | 29 => ⟨S1x2560, .f32⟩
  | 30 => ⟨S1x24, .f32⟩
  | 31 => ⟨S1x24, .f32⟩
  | 32 => ⟨S1x24, .f32⟩
  | 33 => ⟨S1x1536, .f32⟩
  | 34 => ⟨S1x1024, .f32⟩
  | 35 => ⟨S1x1024, .f32⟩
  | 36 => ⟨S16x128, .f32⟩
  | 37 => ⟨S1x1024, .f32⟩
  | 38 => ⟨S512x128, .f32⟩
  | 39 => ⟨S1x512, .f32⟩
  | 40 => ⟨S4x320, .f32⟩
  | 41 => ⟨S1x2560, .f32⟩
  | 42 => ⟨S1x24, .f32⟩
  | 43 => ⟨S1x24, .f32⟩
  | 44 => ⟨S1x24, .f32⟩
  | 45 => ⟨S1x1536, .f32⟩
  | 46 => ⟨S1x1024, .f32⟩
  | 47 => ⟨S1x1024, .f32⟩
  | 48 => ⟨S_, .f32⟩
  | 49 => ⟨S16x128, .f32⟩
  | 50 => ⟨S16x128, .f32⟩
  | 51 => ⟨S_, .f32⟩
  | 52 => ⟨S16x128, .f32⟩
  | 53 => ⟨S16x128, .f32⟩
  | 54 => ⟨S16x128, .f32⟩
  | 55 => ⟨S_, .f32⟩
  | 56 => ⟨S16x128, .f32⟩
  | 57 => ⟨S16x128, .f32⟩
  | 58 => ⟨S16x128, .f32⟩
  | 59 => ⟨S_, .f32⟩
  | 60 => ⟨S16x128, .f32⟩
  | 61 => ⟨S16x128, .f32⟩
  | 62 => ⟨S16x128, .f32⟩
  | 63 => ⟨S_, .f32⟩
  | 64 => ⟨S16x128, .f32⟩
  | 65 => ⟨S16x128, .f32⟩
  | 66 => ⟨S_, .f32⟩
  | 67 => ⟨S16x128, .f32⟩
  | 68 => ⟨S16x128, .f32⟩
  | 69 => ⟨S16x128, .f32⟩
  | 70 => ⟨S_, .f32⟩
  | 71 => ⟨S16x128, .f32⟩
  | 72 => ⟨S16x128, .f32⟩
  | 73 => ⟨S16x128, .f32⟩
  | 74 => ⟨S_, .f32⟩
  | 75 => ⟨S16x128, .f32⟩
  | 76 => ⟨S16x128, .f32⟩
  | 77 => ⟨S16x128, .f32⟩
  | 78 => ⟨S_, .f32⟩
  | 79 => ⟨S16x128, .f32⟩
  | 80 => ⟨S16x128, .f32⟩
  | 81 => ⟨S_, .f32⟩
  | 82 => ⟨S1x1024, .f32⟩
  | 83 => ⟨S1x1024, .f32⟩
  | 84 => ⟨S_, .f32⟩
  | 85 => ⟨S1x1024, .f32⟩
  | 86 => ⟨S1x1024, .f32⟩
  | 87 => ⟨S1x1024, .f32⟩
  | 88 => ⟨S_, .f32⟩
  | 89 => ⟨S1x1024, .f32⟩
  | 90 => ⟨S1x1024, .f32⟩
  | 91 => ⟨S1x1024, .f32⟩
  | 92 => ⟨S_, .f32⟩
  | 93 => ⟨S1x1024, .f32⟩
  | 94 => ⟨S1x1024, .f32⟩
  | 95 => ⟨S1x1024, .f32⟩
  | 96 => ⟨S_, .f32⟩
  | 97 => ⟨S1x1024, .f32⟩
  | 98 => ⟨S1x1024, .f32⟩
  | 99 => ⟨S_, .f32⟩
  | 100 => ⟨S1x1024, .f32⟩
  | 101 => ⟨S1x1024, .f32⟩
  | 102 => ⟨S1x1024, .f32⟩
  | 103 => ⟨S_, .f32⟩
  | 104 => ⟨S1x1024, .f32⟩
  | 105 => ⟨S1x1024, .f32⟩
  | 106 => ⟨S1x1024, .f32⟩
  | 107 => ⟨S_, .f32⟩
  | 108 => ⟨S1x1024, .f32⟩
  | 109 => ⟨S1x1024, .f32⟩
  | 110 => ⟨S1x1024, .f32⟩
  | 111 => ⟨S_, .f32⟩
  | 112 => ⟨S1x1024, .f32⟩
  | 113 => ⟨S1x1024, .f32⟩
  | 114 => ⟨S_, .f32⟩
  | 115 => ⟨S512x128, .f32⟩
  | 116 => ⟨S512x128, .f32⟩
  | 117 => ⟨S_, .f32⟩
  | 118 => ⟨S512x128, .f32⟩
  | 119 => ⟨S512x128, .f32⟩
  | 120 => ⟨S512x128, .f32⟩
  | 121 => ⟨S_, .f32⟩
  | 122 => ⟨S512x128, .f32⟩
  | 123 => ⟨S512x128, .f32⟩
  | 124 => ⟨S512x128, .f32⟩
  | 125 => ⟨S_, .f32⟩
  | 126 => ⟨S512x128, .f32⟩
  | 127 => ⟨S512x128, .f32⟩
  | _ => ⟨S16x128, .f32⟩

abbrev hbmTy0_1 (i : Nat) : BufTy := match i % 128 with
  | 0 => ⟨S512x128, .f32⟩
  | 1 => ⟨S_, .f32⟩
  | 2 => ⟨S512x128, .f32⟩
  | 3 => ⟨S512x128, .f32⟩
  | 4 => ⟨S_, .f32⟩
  | 5 => ⟨S512x128, .f32⟩
  | 6 => ⟨S512x128, .f32⟩
  | 7 => ⟨S512x128, .f32⟩
  | 8 => ⟨S_, .f32⟩
  | 9 => ⟨S512x128, .f32⟩
  | 10 => ⟨S512x128, .f32⟩
  | 11 => ⟨S512x128, .f32⟩
  | 12 => ⟨S_, .f32⟩
  | 13 => ⟨S512x128, .f32⟩
  | 14 => ⟨S512x128, .f32⟩
  | 15 => ⟨S512x128, .f32⟩
  | 16 => ⟨S_, .f32⟩
  | 17 => ⟨S512x128, .f32⟩
  | 18 => ⟨S512x128, .f32⟩
  | 19 => ⟨S_, .f32⟩
  | 20 => ⟨S1x512, .f32⟩
  | 21 => ⟨S1x512, .f32⟩
  | 22 => ⟨S_, .f32⟩
  | 23 => ⟨S1x512, .f32⟩
  | 24 => ⟨S1x512, .f32⟩
  | 25 => ⟨S1x512, .f32⟩
  | 26 => ⟨S_, .f32⟩
  | 27 => ⟨S1x512, .f32⟩
  | 28 => ⟨S1x512, .f32⟩
  | 29 => ⟨S1x512, .f32⟩
  | 30 => ⟨S_, .f32⟩
  | 31 => ⟨S1x512, .f32⟩
  | 32 => ⟨S1x512, .f32⟩
  | 33 => ⟨S1x512, .f32⟩
  | 34 => ⟨S_, .f32⟩
  | 35 => ⟨S1x512, .f32⟩
  | 36 => ⟨S1x512, .f32⟩
  | 37 => ⟨S_, .f32⟩
  | 38 => ⟨S1x512, .f32⟩
  | 39 => ⟨S1x512, .f32⟩
  | 40 => ⟨S1x512, .f32⟩
  | 41 => ⟨S_, .f32⟩
  | 42 => ⟨S1x512, .f32⟩
  | 43 => ⟨S1x512, .f32⟩
  | 44 => ⟨S1x512, .f32⟩
  | 45 => ⟨S_, .f32⟩
  | 46 => ⟨S1x512, .f32⟩
  | 47 => ⟨S1x512, .f32⟩
  | 48 => ⟨S1x512, .f32⟩
  | 49 => ⟨S_, .f32⟩
  | 50 => ⟨S1x512, .f32⟩
  | 51 => ⟨S1x512, .f32⟩
  | 52 => ⟨S_, .f32⟩
  | 53 => ⟨S4x320, .f32⟩
  | 54 => ⟨S4x320, .f32⟩
  | 55 => ⟨S_, .f32⟩
  | 56 => ⟨S4x320, .f32⟩
  | 57 => ⟨S4x320, .f32⟩
  | 58 => ⟨S4x320, .f32⟩
  | 59 => ⟨S_, .f32⟩
  | 60 => ⟨S4x320, .f32⟩
  | 61 => ⟨S4x320, .f32⟩
  | 62 => ⟨S4x320, .f32⟩
  | 63 => ⟨S_, .f32⟩
  | 64 => ⟨S4x320, .f32⟩
  | 65 => ⟨S4x320, .f32⟩
  | 66 => ⟨S4x320, .f32⟩
  | 67 => ⟨S_, .f32⟩
  | 68 => ⟨S4x320, .f32⟩
  | 69 => ⟨S4x320, .f32⟩
  | 70 => ⟨S_, .f32⟩
  | 71 => ⟨S4x320, .f32⟩
  | 72 => ⟨S4x320, .f32⟩
  | 73 => ⟨S4x320, .f32⟩
  | 74 => ⟨S_, .f32⟩
  | 75 => ⟨S4x320, .f32⟩
  | 76 => ⟨S4x320, .f32⟩
  | 77 => ⟨S4x320, .f32⟩
  | 78 => ⟨S_, .f32⟩
  | 79 => ⟨S4x320, .f32⟩
  | 80 => ⟨S4x320, .f32⟩
  | 81 => ⟨S4x320, .f32⟩
  | 82 => ⟨S_, .f32⟩
  | 83 => ⟨S4x320, .f32⟩
  | 84 => ⟨S4x320, .f32⟩
  | 85 => ⟨S_, .f32⟩
  | 86 => ⟨S1x2560, .f32⟩
  | 87 => ⟨S1x2560, .f32⟩
  | 88 => ⟨S_, .f32⟩
  | 89 => ⟨S1x2560, .f32⟩
  | 90 => ⟨S1x2560, .f32⟩
  | 91 => ⟨S1x2560, .f32⟩
  | 92 => ⟨S_, .f32⟩
  | 93 => ⟨S1x2560, .f32⟩
  | 94 => ⟨S1x2560, .f32⟩
  | 95 => ⟨S1x2560, .f32⟩
  | 96 => ⟨S_, .f32⟩
  | 97 => ⟨S1x2560, .f32⟩
  | 98 => ⟨S1x2560, .f32⟩
  | 99 => ⟨S1x2560, .f32⟩
  | 100 => ⟨S_, .f32⟩
  | 101 => ⟨S1x2560, .f32⟩
  | 102 => ⟨S1x2560, .f32⟩
  | 103 => ⟨S_, .f32⟩
  | 104 => ⟨S1x2560, .f32⟩
  | 105 => ⟨S1x2560, .f32⟩
  | 106 => ⟨S1x2560, .f32⟩
  | 107 => ⟨S_, .f32⟩
  | 108 => ⟨S1x2560, .f32⟩
  | 109 => ⟨S1x2560, .f32⟩
  | 110 => ⟨S1x2560, .f32⟩
  | 111 => ⟨S_, .f32⟩
  | 112 => ⟨S1x2560, .f32⟩
  | 113 => ⟨S1x2560, .f32⟩
  | 114 => ⟨S1x2560, .f32⟩
  | 115 => ⟨S_, .f32⟩
  | 116 => ⟨S1x2560, .f32⟩
  | 117 => ⟨S1x2560, .f32⟩
  | 118 => ⟨S_, .f32⟩
  | 119 => ⟨S1x24, .f32⟩
  | 120 => ⟨S1x24, .f32⟩
  | 121 => ⟨S_, .f32⟩
  | 122 => ⟨S1x24, .f32⟩
  | 123 => ⟨S1x24, .f32⟩
  | 124 => ⟨S1x24, .f32⟩
  | 125 => ⟨S_, .f32⟩
  | 126 => ⟨S1x24, .f32⟩
  | 127 => ⟨S1x24, .f32⟩
  | _ => ⟨S16x128, .f32⟩

abbrev hbmTy0_2 (i : Nat) : BufTy := match i % 128 with
  | 0 => ⟨S1x24, .f32⟩
  | 1 => ⟨S_, .f32⟩
  | 2 => ⟨S1x24, .f32⟩
  | 3 => ⟨S1x24, .f32⟩
  | 4 => ⟨S1x24, .f32⟩
  | 5 => ⟨S_, .f32⟩
  | 6 => ⟨S1x24, .f32⟩
  | 7 => ⟨S1x24, .f32⟩
  | 8 => ⟨S_, .f32⟩
  | 9 => ⟨S1x24, .f32⟩
  | 10 => ⟨S1x24, .f32⟩
  | 11 => ⟨S1x24, .f32⟩
  | 12 => ⟨S_, .f32⟩
  | 13 => ⟨S1x24, .f32⟩
  | 14 => ⟨S1x24, .f32⟩
  | 15 => ⟨S1x24, .f32⟩
  | 16 => ⟨S_, .f32⟩
  | 17 => ⟨S1x24, .f32⟩
  | 18 => ⟨S1x24, .f32⟩
  | 19 => ⟨S1x24, .f32⟩
  | 20 => ⟨S_, .f32⟩
  | 21 => ⟨S1x24, .f32⟩
  | 22 => ⟨S1x24, .f32⟩
  | 23 => ⟨S_, .f32⟩
  | 24 => ⟨S1x24, .f32⟩
  | 25 => ⟨S1x24, .f32⟩
  | 26 => ⟨S_, .f32⟩
  | 27 => ⟨S1x24, .f32⟩
  | 28 => ⟨S1x24, .f32⟩
  | 29 => ⟨S1x24, .f32⟩
  | 30 => ⟨S_, .f32⟩
  | 31 => ⟨S1x24, .f32⟩
  | 32 => ⟨S1x24, .f32⟩
  | 33 => ⟨S1x24, .f32⟩
  | 34 => ⟨S_, .f32⟩
  | 35 => ⟨S1x24, .f32⟩
  | 36 => ⟨S1x24, .f32⟩
  | 37 => ⟨S1x24, .f32⟩
  | 38 => ⟨S_, .f32⟩
  | 39 => ⟨S1x24, .f32⟩
  | 40 => ⟨S1x24, .f32⟩
  | 41 => ⟨S_, .f32⟩
  | 42 => ⟨S1x24, .f32⟩
  | 43 => ⟨S1x24, .f32⟩
  | 44 => ⟨S1x24, .f32⟩
  | 45 => ⟨S_, .f32⟩
  | 46 => ⟨S1x24, .f32⟩
  | 47 => ⟨S1x24, .f32⟩
  | 48 => ⟨S1x24, .f32⟩
  | 49 => ⟨S_, .f32⟩
  | 50 => ⟨S1x24, .f32⟩
  | 51 => ⟨S1x24, .f32⟩
  | 52 => ⟨S1x24, .f32⟩
  | 53 => ⟨S_, .f32⟩
  | 54 => ⟨S1x24, .f32⟩
  | 55 => ⟨S1x24, .f32⟩
  | 56 => ⟨S_, .f32⟩
  | 57 => ⟨S1x24, .f32⟩
  | 58 => ⟨S1x24, .f32⟩
  | 59 => ⟨S_, .f32⟩
  | 60 => ⟨S1x24, .f32⟩
  | 61 => ⟨S1x24, .f32⟩
  | 62 => ⟨S1x24, .f32⟩
  | 63 => ⟨S_, .f32⟩
  | 64 => ⟨S1x24, .f32⟩
  | 65 => ⟨S1x24, .f32⟩
  | 66 => ⟨S1x24, .f32⟩
  | 67 => ⟨S_, .f32⟩
  | 68 => ⟨S1x24, .f32⟩
  | 69 => ⟨S1x24, .f32⟩
  | 70 => ⟨S1x24, .f32⟩
  | 71 => ⟨S_, .f32⟩
  | 72 => ⟨S1x24, .f32⟩
  | 73 => ⟨S1x24, .f32⟩
  | 74 => ⟨S_, .f32⟩
  | 75 => ⟨S1x24, .f32⟩
  | 76 => ⟨S1x24, .f32⟩
  | 77 => ⟨S1x24, .f32⟩
  | 78 => ⟨S_, .f32⟩
  | 79 => ⟨S1x24, .f32⟩
  | 80 => ⟨S1x24, .f32⟩
  | 81 => ⟨S1x24, .f32⟩
  | 82 => ⟨S_, .f32⟩
  | 83 => ⟨S1x24, .f32⟩
  | 84 => ⟨S1x24, .f32⟩
  | 85 => ⟨S1x24, .f32⟩
  | 86 => ⟨S_, .f32⟩
  | 87 => ⟨S1x24, .f32⟩
  | 88 => ⟨S1x24, .f32⟩
  | 89 => ⟨S_, .f32⟩
  | 90 => ⟨S1x1536, .f32⟩
  | 91 => ⟨S1x1536, .f32⟩
  | 92 => ⟨S_, .f32⟩
  | 93 => ⟨S1x1536, .f32⟩
  | 94 => ⟨S1x1536, .f32⟩
  | 95 => ⟨S1x1536, .f32⟩
  | 96 => ⟨S_, .f32⟩
  | 97 => ⟨S1x1536, .f32⟩
  | 98 => ⟨S1x1536, .f32⟩
  | 99 => ⟨S1x1536, .f32⟩
  | 100 => ⟨S_, .f32⟩
  | 101 => ⟨S1x1536, .f32⟩
  | 102 => ⟨S1x1536, .f32⟩
  | 103 => ⟨S1x1536, .f32⟩
  | 104 => ⟨S_, .f32⟩
  | 105 => ⟨S1x1536, .f32⟩
  | 106 => ⟨S1x1536, .f32⟩
  | 107 => ⟨S_, .f32⟩
  | 108 => ⟨S1x1536, .f32⟩
  | 109 => ⟨S1x1536, .f32⟩
  | 110 => ⟨S1x1536, .f32⟩
  | 111 => ⟨S_, .f32⟩
  | 112 => ⟨S1x1536, .f32⟩
  | 113 => ⟨S1x1536, .f32⟩
  | 114 => ⟨S1x1536, .f32⟩
  | 115 => ⟨S_, .f32⟩
  | 116 => ⟨S1x1536, .f32⟩
  | 117 => ⟨S1x1536, .f32⟩
  | 118 => ⟨S1x1536, .f32⟩
  | 119 => ⟨S_, .f32⟩
  | 120 => ⟨S1x1536, .f32⟩
  | 121 => ⟨S1x1536, .f32⟩
  | 122 => ⟨S_, .f32⟩
  | 123 => ⟨S1x1024, .f32⟩
  | 124 => ⟨S1x1024, .f32⟩
  | 125 => ⟨S_, .f32⟩
  | 126 => ⟨S1x1024, .f32⟩
  | 127 => ⟨S1x1024, .f32⟩
  | _ => ⟨S16x128, .f32⟩

abbrev hbmTy0_3 (i : Nat) : BufTy := match i % 128 with
  | 0 => ⟨S1x1024, .f32⟩
  | 1 => ⟨S_, .f32⟩
  | 2 => ⟨S1x1024, .f32⟩
  | 3 => ⟨S1x1024, .f32⟩
  | 4 => ⟨S1x1024, .f32⟩
  | 5 => ⟨S_, .f32⟩
  | 6 => ⟨S1x1024, .f32⟩
  | 7 => ⟨S1x1024, .f32⟩
  | 8 => ⟨S1x1024, .f32⟩
  | 9 => ⟨S_, .f32⟩
  | 10 => ⟨S1x1024, .f32⟩
  | 11 => ⟨S1x1024, .f32⟩
  | 12 => ⟨S_, .f32⟩
  | 13 => ⟨S1x1024, .f32⟩
  | 14 => ⟨S1x1024, .f32⟩
  | 15 => ⟨S1x1024, .f32⟩
  | 16 => ⟨S_, .f32⟩
  | 17 => ⟨S1x1024, .f32⟩
  | 18 => ⟨S1x1024, .f32⟩
  | 19 => ⟨S1x1024, .f32⟩
  | 20 => ⟨S_, .f32⟩
  | 21 => ⟨S1x1024, .f32⟩
  | 22 => ⟨S1x1024, .f32⟩
  | 23 => ⟨S1x1024, .f32⟩
  | 24 => ⟨S_, .f32⟩
  | 25 => ⟨S1x1024, .f32⟩
  | 26 => ⟨S1x1024, .f32⟩
  | 27 => ⟨S_, .f32⟩
  | 28 => ⟨S1x1024, .f32⟩
  | 29 => ⟨S1x1024, .f32⟩
  | 30 => ⟨S_, .f32⟩
  | 31 => ⟨S1x1024, .f32⟩
  | 32 => ⟨S1x1024, .f32⟩
  | 33 => ⟨S1x1024, .f32⟩
  | 34 => ⟨S_, .f32⟩
  | 35 => ⟨S1x1024, .f32⟩
  | 36 => ⟨S1x1024, .f32⟩
  | 37 => ⟨S1x1024, .f32⟩
  | 38 => ⟨S_, .f32⟩
  | 39 => ⟨S1x1024, .f32⟩
  | 40 => ⟨S1x1024, .f32⟩
  | 41 => ⟨S1x1024, .f32⟩
  | 42 => ⟨S_, .f32⟩
  | 43 => ⟨S1x1024, .f32⟩
  | 44 => ⟨S1x1024, .f32⟩
  | 45 => ⟨S_, .f32⟩
  | 46 => ⟨S1x1024, .f32⟩
  | 47 => ⟨S1x1024, .f32⟩
  | 48 => ⟨S1x1024, .f32⟩
  | 49 => ⟨S_, .f32⟩
  | 50 => ⟨S1x1024, .f32⟩
  | 51 => ⟨S1x1024, .f32⟩
  | 52 => ⟨S1x1024, .f32⟩
  | 53 => ⟨S_, .f32⟩
  | 54 => ⟨S1x1024, .f32⟩
  | 55 => ⟨S1x1024, .f32⟩
  | 56 => ⟨S1x1024, .f32⟩
  | 57 => ⟨S_, .f32⟩
  | 58 => ⟨S1x1024, .f32⟩
  | 59 => ⟨S1x1024, .f32⟩
  | _ => ⟨S16x128, .f32⟩

abbrev hbmTy (i : Nat) : BufTy := match i / 128 with
  | 0 => hbmTy0_0 i
  | 1 => hbmTy0_1 i
  | 2 => hbmTy0_2 i
  | 3 => hbmTy0_3 i
  | _ => ⟨S16x128, .f32⟩

abbrev bufTy : (tb : Table) → Fin (tcTables nBuf tb) → BufTy
  | .hbm, ⟨i, _⟩ => hbmTy i
  | _, _ => ⟨S16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_arg47 : Ref sig .tc := ⟨.hbm, 47, rfl⟩
abbrev main_cst : Ref sig .tc := ⟨.hbm, 48, rfl⟩
abbrev main_v0 : Ref sig .tc := ⟨.hbm, 49, rfl⟩
abbrev main_v1 : Ref sig .tc := ⟨.hbm, 50, rfl⟩
abbrev main_cst_0 : Ref sig .tc := ⟨.hbm, 51, rfl⟩
abbrev main_v2 : Ref sig .tc := ⟨.hbm, 52, rfl⟩
abbrev main_v3 : Ref sig .tc := ⟨.hbm, 53, rfl⟩
abbrev main_v4 : Ref sig .tc := ⟨.hbm, 54, rfl⟩
abbrev main_cst_1 : Ref sig .tc := ⟨.hbm, 55, rfl⟩
abbrev main_v5 : Ref sig .tc := ⟨.hbm, 56, rfl⟩
abbrev main_v6 : Ref sig .tc := ⟨.hbm, 57, rfl⟩
abbrev main_v7 : Ref sig .tc := ⟨.hbm, 58, rfl⟩
abbrev main_cst_2 : Ref sig .tc := ⟨.hbm, 59, rfl⟩
abbrev main_v8 : Ref sig .tc := ⟨.hbm, 60, rfl⟩
abbrev main_v9 : Ref sig .tc := ⟨.hbm, 61, rfl⟩
abbrev main_v10 : Ref sig .tc := ⟨.hbm, 62, rfl⟩
abbrev main_cst_3 : Ref sig .tc := ⟨.hbm, 63, rfl⟩
abbrev main_v11 : Ref sig .tc := ⟨.hbm, 64, rfl⟩
abbrev main_v12 : Ref sig .tc := ⟨.hbm, 65, rfl⟩
abbrev main_cst_4 : Ref sig .tc := ⟨.hbm, 66, rfl⟩
abbrev main_v13 : Ref sig .tc := ⟨.hbm, 67, rfl⟩
abbrev main_v14 : Ref sig .tc := ⟨.hbm, 68, rfl⟩
abbrev main_v15 : Ref sig .tc := ⟨.hbm, 69, rfl⟩
abbrev main_cst_5 : Ref sig .tc := ⟨.hbm, 70, rfl⟩
abbrev main_v16 : Ref sig .tc := ⟨.hbm, 71, rfl⟩
abbrev main_v17 : Ref sig .tc := ⟨.hbm, 72, rfl⟩
abbrev main_v18 : Ref sig .tc := ⟨.hbm, 73, rfl⟩
abbrev main_cst_6 : Ref sig .tc := ⟨.hbm, 74, rfl⟩
abbrev main_v19 : Ref sig .tc := ⟨.hbm, 75, rfl⟩
abbrev main_v20 : Ref sig .tc := ⟨.hbm, 76, rfl⟩
abbrev main_v21 : Ref sig .tc := ⟨.hbm, 77, rfl⟩
abbrev main_cst_7 : Ref sig .tc := ⟨.hbm, 78, rfl⟩
abbrev main_v22 : Ref sig .tc := ⟨.hbm, 79, rfl⟩
abbrev main_v23 : Ref sig .tc := ⟨.hbm, 80, rfl⟩
abbrev main_cst_8 : Ref sig .tc := ⟨.hbm, 81, rfl⟩
abbrev main_v24 : Ref sig .tc := ⟨.hbm, 82, rfl⟩
abbrev main_v25 : Ref sig .tc := ⟨.hbm, 83, rfl⟩
abbrev main_cst_9 : Ref sig .tc := ⟨.hbm, 84, rfl⟩
abbrev main_v26 : Ref sig .tc := ⟨.hbm, 85, rfl⟩
abbrev main_v27 : Ref sig .tc := ⟨.hbm, 86, rfl⟩
abbrev main_v28 : Ref sig .tc := ⟨.hbm, 87, rfl⟩
abbrev main_cst_10 : Ref sig .tc := ⟨.hbm, 88, rfl⟩
abbrev main_v29 : Ref sig .tc := ⟨.hbm, 89, rfl⟩
abbrev main_v30 : Ref sig .tc := ⟨.hbm, 90, rfl⟩
abbrev main_v31 : Ref sig .tc := ⟨.hbm, 91, rfl⟩
abbrev main_cst_11 : Ref sig .tc := ⟨.hbm, 92, rfl⟩
abbrev main_v32 : Ref sig .tc := ⟨.hbm, 93, rfl⟩
abbrev main_v33 : Ref sig .tc := ⟨.hbm, 94, rfl⟩
abbrev main_v34 : Ref sig .tc := ⟨.hbm, 95, rfl⟩
abbrev main_cst_12 : Ref sig .tc := ⟨.hbm, 96, rfl⟩
abbrev main_v35 : Ref sig .tc := ⟨.hbm, 97, rfl⟩
abbrev main_v36 : Ref sig .tc := ⟨.hbm, 98, rfl⟩
abbrev main_cst_13 : Ref sig .tc := ⟨.hbm, 99, rfl⟩
abbrev main_v37 : Ref sig .tc := ⟨.hbm, 100, rfl⟩
abbrev main_v38 : Ref sig .tc := ⟨.hbm, 101, rfl⟩
abbrev main_v39 : Ref sig .tc := ⟨.hbm, 102, rfl⟩
abbrev main_cst_14 : Ref sig .tc := ⟨.hbm, 103, rfl⟩
abbrev main_v40 : Ref sig .tc := ⟨.hbm, 104, rfl⟩
abbrev main_v41 : Ref sig .tc := ⟨.hbm, 105, rfl⟩
abbrev main_v42 : Ref sig .tc := ⟨.hbm, 106, rfl⟩
abbrev main_cst_15 : Ref sig .tc := ⟨.hbm, 107, rfl⟩
abbrev main_v43 : Ref sig .tc := ⟨.hbm, 108, rfl⟩
abbrev main_v44 : Ref sig .tc := ⟨.hbm, 109, rfl⟩
abbrev main_v45 : Ref sig .tc := ⟨.hbm, 110, rfl⟩
abbrev main_cst_16 : Ref sig .tc := ⟨.hbm, 111, rfl⟩
abbrev main_v46 : Ref sig .tc := ⟨.hbm, 112, rfl⟩
abbrev main_v47 : Ref sig .tc := ⟨.hbm, 113, rfl⟩
abbrev main_cst_17 : Ref sig .tc := ⟨.hbm, 114, rfl⟩
abbrev main_v48 : Ref sig .tc := ⟨.hbm, 115, rfl⟩
abbrev main_v49 : Ref sig .tc := ⟨.hbm, 116, rfl⟩
abbrev main_cst_18 : Ref sig .tc := ⟨.hbm, 117, rfl⟩
abbrev main_v50 : Ref sig .tc := ⟨.hbm, 118, rfl⟩
abbrev main_v51 : Ref sig .tc := ⟨.hbm, 119, rfl⟩
abbrev main_v52 : Ref sig .tc := ⟨.hbm, 120, rfl⟩
abbrev main_cst_19 : Ref sig .tc := ⟨.hbm, 121, rfl⟩
abbrev main_v53 : Ref sig .tc := ⟨.hbm, 122, rfl⟩
abbrev main_v54 : Ref sig .tc := ⟨.hbm, 123, rfl⟩
abbrev main_v55 : Ref sig .tc := ⟨.hbm, 124, rfl⟩
abbrev main_cst_20 : Ref sig .tc := ⟨.hbm, 125, rfl⟩
abbrev main_v56 : Ref sig .tc := ⟨.hbm, 126, rfl⟩
abbrev main_v57 : Ref sig .tc := ⟨.hbm, 127, rfl⟩
abbrev main_v58 : Ref sig .tc := ⟨.hbm, 128, rfl⟩
abbrev main_cst_21 : Ref sig .tc := ⟨.hbm, 129, rfl⟩
abbrev main_v59 : Ref sig .tc := ⟨.hbm, 130, rfl⟩
abbrev main_v60 : Ref sig .tc := ⟨.hbm, 131, rfl⟩
abbrev main_cst_22 : Ref sig .tc := ⟨.hbm, 132, rfl⟩
abbrev main_v61 : Ref sig .tc := ⟨.hbm, 133, rfl⟩
abbrev main_v62 : Ref sig .tc := ⟨.hbm, 134, rfl⟩
abbrev main_v63 : Ref sig .tc := ⟨.hbm, 135, rfl⟩
abbrev main_cst_23 : Ref sig .tc := ⟨.hbm, 136, rfl⟩
abbrev main_v64 : Ref sig .tc := ⟨.hbm, 137, rfl⟩
abbrev main_v65 : Ref sig .tc := ⟨.hbm, 138, rfl⟩
abbrev main_v66 : Ref sig .tc := ⟨.hbm, 139, rfl⟩
abbrev main_cst_24 : Ref sig .tc := ⟨.hbm, 140, rfl⟩
abbrev main_v67 : Ref sig .tc := ⟨.hbm, 141, rfl⟩
abbrev main_v68 : Ref sig .tc := ⟨.hbm, 142, rfl⟩
abbrev main_v69 : Ref sig .tc := ⟨.hbm, 143, rfl⟩
abbrev main_cst_25 : Ref sig .tc := ⟨.hbm, 144, rfl⟩
abbrev main_v70 : Ref sig .tc := ⟨.hbm, 145, rfl⟩
abbrev main_v71 : Ref sig .tc := ⟨.hbm, 146, rfl⟩
abbrev main_cst_26 : Ref sig .tc := ⟨.hbm, 147, rfl⟩
abbrev main_v72 : Ref sig .tc := ⟨.hbm, 148, rfl⟩
abbrev main_v73 : Ref sig .tc := ⟨.hbm, 149, rfl⟩
abbrev main_cst_27 : Ref sig .tc := ⟨.hbm, 150, rfl⟩
abbrev main_v74 : Ref sig .tc := ⟨.hbm, 151, rfl⟩
abbrev main_v75 : Ref sig .tc := ⟨.hbm, 152, rfl⟩
abbrev main_v76 : Ref sig .tc := ⟨.hbm, 153, rfl⟩
abbrev main_cst_28 : Ref sig .tc := ⟨.hbm, 154, rfl⟩
abbrev main_v77 : Ref sig .tc := ⟨.hbm, 155, rfl⟩
abbrev main_v78 : Ref sig .tc := ⟨.hbm, 156, rfl⟩
abbrev main_v79 : Ref sig .tc := ⟨.hbm, 157, rfl⟩
abbrev main_cst_29 : Ref sig .tc := ⟨.hbm, 158, rfl⟩
abbrev main_v80 : Ref sig .tc := ⟨.hbm, 159, rfl⟩
abbrev main_v81 : Ref sig .tc := ⟨.hbm, 160, rfl⟩
abbrev main_v82 : Ref sig .tc := ⟨.hbm, 161, rfl⟩
abbrev main_cst_30 : Ref sig .tc := ⟨.hbm, 162, rfl⟩
abbrev main_v83 : Ref sig .tc := ⟨.hbm, 163, rfl⟩
abbrev main_v84 : Ref sig .tc := ⟨.hbm, 164, rfl⟩
abbrev main_cst_31 : Ref sig .tc := ⟨.hbm, 165, rfl⟩
abbrev main_v85 : Ref sig .tc := ⟨.hbm, 166, rfl⟩
abbrev main_v86 : Ref sig .tc := ⟨.hbm, 167, rfl⟩
abbrev main_v87 : Ref sig .tc := ⟨.hbm, 168, rfl⟩
abbrev main_cst_32 : Ref sig .tc := ⟨.hbm, 169, rfl⟩
abbrev main_v88 : Ref sig .tc := ⟨.hbm, 170, rfl⟩
abbrev main_v89 : Ref sig .tc := ⟨.hbm, 171, rfl⟩
abbrev main_v90 : Ref sig .tc := ⟨.hbm, 172, rfl⟩
abbrev main_cst_33 : Ref sig .tc := ⟨.hbm, 173, rfl⟩
abbrev main_v91 : Ref sig .tc := ⟨.hbm, 174, rfl⟩
abbrev main_v92 : Ref sig .tc := ⟨.hbm, 175, rfl⟩
abbrev main_v93 : Ref sig .tc := ⟨.hbm, 176, rfl⟩
abbrev main_cst_34 : Ref sig .tc := ⟨.hbm, 177, rfl⟩
abbrev main_v94 : Ref sig .tc := ⟨.hbm, 178, rfl⟩
abbrev main_v95 : Ref sig .tc := ⟨.hbm, 179, rfl⟩
abbrev main_cst_35 : Ref sig .tc := ⟨.hbm, 180, rfl⟩
abbrev main_v96 : Ref sig .tc := ⟨.hbm, 181, rfl⟩
abbrev main_v97 : Ref sig .tc := ⟨.hbm, 182, rfl⟩
abbrev main_cst_36 : Ref sig .tc := ⟨.hbm, 183, rfl⟩
abbrev main_v98 : Ref sig .tc := ⟨.hbm, 184, rfl⟩
abbrev main_v99 : Ref sig .tc := ⟨.hbm, 185, rfl⟩
abbrev main_v100 : Ref sig .tc := ⟨.hbm, 186, rfl⟩
abbrev main_cst_37 : Ref sig .tc := ⟨.hbm, 187, rfl⟩
abbrev main_v101 : Ref sig .tc := ⟨.hbm, 188, rfl⟩
abbrev main_v102 : Ref sig .tc := ⟨.hbm, 189, rfl⟩
abbrev main_v103 : Ref sig .tc := ⟨.hbm, 190, rfl⟩
abbrev main_cst_38 : Ref sig .tc := ⟨.hbm, 191, rfl⟩
abbrev main_v104 : Ref sig .tc := ⟨.hbm, 192, rfl⟩
abbrev main_v105 : Ref sig .tc := ⟨.hbm, 193, rfl⟩
abbrev main_v106 : Ref sig .tc := ⟨.hbm, 194, rfl⟩
abbrev main_cst_39 : Ref sig .tc := ⟨.hbm, 195, rfl⟩
abbrev main_v107 : Ref sig .tc := ⟨.hbm, 196, rfl⟩
abbrev main_v108 : Ref sig .tc := ⟨.hbm, 197, rfl⟩
abbrev main_cst_40 : Ref sig .tc := ⟨.hbm, 198, rfl⟩
abbrev main_v109 : Ref sig .tc := ⟨.hbm, 199, rfl⟩
abbrev main_v110 : Ref sig .tc := ⟨.hbm, 200, rfl⟩
abbrev main_v111 : Ref sig .tc := ⟨.hbm, 201, rfl⟩
abbrev main_cst_41 : Ref sig .tc := ⟨.hbm, 202, rfl⟩
abbrev main_v112 : Ref sig .tc := ⟨.hbm, 203, rfl⟩
abbrev main_v113 : Ref sig .tc := ⟨.hbm, 204, rfl⟩
abbrev main_v114 : Ref sig .tc := ⟨.hbm, 205, rfl⟩
abbrev main_cst_42 : Ref sig .tc := ⟨.hbm, 206, rfl⟩
abbrev main_v115 : Ref sig .tc := ⟨.hbm, 207, rfl⟩
abbrev main_v116 : Ref sig .tc := ⟨.hbm, 208, rfl⟩
abbrev main_v117 : Ref sig .tc := ⟨.hbm, 209, rfl⟩
abbrev main_cst_43 : Ref sig .tc := ⟨.hbm, 210, rfl⟩
abbrev main_v118 : Ref sig .tc := ⟨.hbm, 211, rfl⟩
abbrev main_v119 : Ref sig .tc := ⟨.hbm, 212, rfl⟩
abbrev main_cst_44 : Ref sig .tc := ⟨.hbm, 213, rfl⟩
abbrev main_v120 : Ref sig .tc := ⟨.hbm, 214, rfl⟩
abbrev main_v121 : Ref sig .tc := ⟨.hbm, 215, rfl⟩
abbrev main_cst_45 : Ref sig .tc := ⟨.hbm, 216, rfl⟩
abbrev main_v122 : Ref sig .tc := ⟨.hbm, 217, rfl⟩
abbrev main_v123 : Ref sig .tc := ⟨.hbm, 218, rfl⟩
abbrev main_v124 : Ref sig .tc := ⟨.hbm, 219, rfl⟩
abbrev main_cst_46 : Ref sig .tc := ⟨.hbm, 220, rfl⟩
abbrev main_v125 : Ref sig .tc := ⟨.hbm, 221, rfl⟩
abbrev main_v126 : Ref sig .tc := ⟨.hbm, 222, rfl⟩
abbrev main_v127 : Ref sig .tc := ⟨.hbm, 223, rfl⟩
abbrev main_cst_47 : Ref sig .tc := ⟨.hbm, 224, rfl⟩
abbrev main_v128 : Ref sig .tc := ⟨.hbm, 225, rfl⟩
abbrev main_v129 : Ref sig .tc := ⟨.hbm, 226, rfl⟩
abbrev main_v130 : Ref sig .tc := ⟨.hbm, 227, rfl⟩
abbrev main_cst_48 : Ref sig .tc := ⟨.hbm, 228, rfl⟩
abbrev main_v131 : Ref sig .tc := ⟨.hbm, 229, rfl⟩
abbrev main_v132 : Ref sig .tc := ⟨.hbm, 230, rfl⟩
abbrev main_cst_49 : Ref sig .tc := ⟨.hbm, 231, rfl⟩
abbrev main_v133 : Ref sig .tc := ⟨.hbm, 232, rfl⟩
abbrev main_v134 : Ref sig .tc := ⟨.hbm, 233, rfl⟩
abbrev main_v135 : Ref sig .tc := ⟨.hbm, 234, rfl⟩
abbrev main_cst_50 : Ref sig .tc := ⟨.hbm, 235, rfl⟩
abbrev main_v136 : Ref sig .tc := ⟨.hbm, 236, rfl⟩
abbrev main_v137 : Ref sig .tc := ⟨.hbm, 237, rfl⟩
abbrev main_v138 : Ref sig .tc := ⟨.hbm, 238, rfl⟩
abbrev main_cst_51 : Ref sig .tc := ⟨.hbm, 239, rfl⟩
abbrev main_v139 : Ref sig .tc := ⟨.hbm, 240, rfl⟩
abbrev main_v140 : Ref sig .tc := ⟨.hbm, 241, rfl⟩
abbrev main_v141 : Ref sig .tc := ⟨.hbm, 242, rfl⟩
abbrev main_cst_52 : Ref sig .tc := ⟨.hbm, 243, rfl⟩
abbrev main_v142 : Ref sig .tc := ⟨.hbm, 244, rfl⟩
abbrev main_v143 : Ref sig .tc := ⟨.hbm, 245, rfl⟩
abbrev main_cst_53 : Ref sig .tc := ⟨.hbm, 246, rfl⟩
abbrev main_v144 : Ref sig .tc := ⟨.hbm, 247, rfl⟩
abbrev main_v145 : Ref sig .tc := ⟨.hbm, 248, rfl⟩
abbrev main_cst_54 : Ref sig .tc := ⟨.hbm, 249, rfl⟩
abbrev main_v146 : Ref sig .tc := ⟨.hbm, 250, rfl⟩
abbrev main_v147 : Ref sig .tc := ⟨.hbm, 251, rfl⟩
abbrev main_v148 : Ref sig .tc := ⟨.hbm, 252, rfl⟩
abbrev main_cst_55 : Ref sig .tc := ⟨.hbm, 253, rfl⟩
abbrev main_v149 : Ref sig .tc := ⟨.hbm, 254, rfl⟩
abbrev main_v150 : Ref sig .tc := ⟨.hbm, 255, rfl⟩
abbrev main_v151 : Ref sig .tc := ⟨.hbm, 256, rfl⟩
abbrev main_cst_56 : Ref sig .tc := ⟨.hbm, 257, rfl⟩
abbrev main_v152 : Ref sig .tc := ⟨.hbm, 258, rfl⟩
abbrev main_v153 : Ref sig .tc := ⟨.hbm, 259, rfl⟩
abbrev main_v154 : Ref sig .tc := ⟨.hbm, 260, rfl⟩
abbrev main_cst_57 : Ref sig .tc := ⟨.hbm, 261, rfl⟩
abbrev main_v155 : Ref sig .tc := ⟨.hbm, 262, rfl⟩
abbrev main_v156 : Ref sig .tc := ⟨.hbm, 263, rfl⟩
abbrev main_cst_58 : Ref sig .tc := ⟨.hbm, 264, rfl⟩
abbrev main_v157 : Ref sig .tc := ⟨.hbm, 265, rfl⟩
abbrev main_v158 : Ref sig .tc := ⟨.hbm, 266, rfl⟩
abbrev main_v159 : Ref sig .tc := ⟨.hbm, 267, rfl⟩
abbrev main_cst_59 : Ref sig .tc := ⟨.hbm, 268, rfl⟩
abbrev main_v160 : Ref sig .tc := ⟨.hbm, 269, rfl⟩
abbrev main_v161 : Ref sig .tc := ⟨.hbm, 270, rfl⟩
abbrev main_v162 : Ref sig .tc := ⟨.hbm, 271, rfl⟩
abbrev main_cst_60 : Ref sig .tc := ⟨.hbm, 272, rfl⟩
abbrev main_v163 : Ref sig .tc := ⟨.hbm, 273, rfl⟩
abbrev main_v164 : Ref sig .tc := ⟨.hbm, 274, rfl⟩
abbrev main_v165 : Ref sig .tc := ⟨.hbm, 275, rfl⟩
abbrev main_cst_61 : Ref sig .tc := ⟨.hbm, 276, rfl⟩
abbrev main_v166 : Ref sig .tc := ⟨.hbm, 277, rfl⟩
abbrev main_v167 : Ref sig .tc := ⟨.hbm, 278, rfl⟩
abbrev main_cst_62 : Ref sig .tc := ⟨.hbm, 279, rfl⟩
abbrev main_v168 : Ref sig .tc := ⟨.hbm, 280, rfl⟩
abbrev main_v169 : Ref sig .tc := ⟨.hbm, 281, rfl⟩
abbrev main_cst_63 : Ref sig .tc := ⟨.hbm, 282, rfl⟩
abbrev main_v170 : Ref sig .tc := ⟨.hbm, 283, rfl⟩
abbrev main_v171 : Ref sig .tc := ⟨.hbm, 284, rfl⟩
abbrev main_v172 : Ref sig .tc := ⟨.hbm, 285, rfl⟩
abbrev main_cst_64 : Ref sig .tc := ⟨.hbm, 286, rfl⟩
abbrev main_v173 : Ref sig .tc := ⟨.hbm, 287, rfl⟩
abbrev main_v174 : Ref sig .tc := ⟨.hbm, 288, rfl⟩
abbrev main_v175 : Ref sig .tc := ⟨.hbm, 289, rfl⟩
abbrev main_cst_65 : Ref sig .tc := ⟨.hbm, 290, rfl⟩
abbrev main_v176 : Ref sig .tc := ⟨.hbm, 291, rfl⟩
abbrev main_v177 : Ref sig .tc := ⟨.hbm, 292, rfl⟩
abbrev main_v178 : Ref sig .tc := ⟨.hbm, 293, rfl⟩
abbrev main_cst_66 : Ref sig .tc := ⟨.hbm, 294, rfl⟩
abbrev main_v179 : Ref sig .tc := ⟨.hbm, 295, rfl⟩
abbrev main_v180 : Ref sig .tc := ⟨.hbm, 296, rfl⟩
abbrev main_cst_67 : Ref sig .tc := ⟨.hbm, 297, rfl⟩
abbrev main_v181 : Ref sig .tc := ⟨.hbm, 298, rfl⟩
abbrev main_v182 : Ref sig .tc := ⟨.hbm, 299, rfl⟩
abbrev main_v183 : Ref sig .tc := ⟨.hbm, 300, rfl⟩
abbrev main_cst_68 : Ref sig .tc := ⟨.hbm, 301, rfl⟩
abbrev main_v184 : Ref sig .tc := ⟨.hbm, 302, rfl⟩
abbrev main_v185 : Ref sig .tc := ⟨.hbm, 303, rfl⟩
abbrev main_v186 : Ref sig .tc := ⟨.hbm, 304, rfl⟩
abbrev main_cst_69 : Ref sig .tc := ⟨.hbm, 305, rfl⟩
abbrev main_v187 : Ref sig .tc := ⟨.hbm, 306, rfl⟩
abbrev main_v188 : Ref sig .tc := ⟨.hbm, 307, rfl⟩
abbrev main_v189 : Ref sig .tc := ⟨.hbm, 308, rfl⟩
abbrev main_cst_70 : Ref sig .tc := ⟨.hbm, 309, rfl⟩
abbrev main_v190 : Ref sig .tc := ⟨.hbm, 310, rfl⟩
abbrev main_v191 : Ref sig .tc := ⟨.hbm, 311, rfl⟩
abbrev main_cst_71 : Ref sig .tc := ⟨.hbm, 312, rfl⟩
abbrev main_v192 : Ref sig .tc := ⟨.hbm, 313, rfl⟩
abbrev main_v193 : Ref sig .tc := ⟨.hbm, 314, rfl⟩
abbrev main_cst_72 : Ref sig .tc := ⟨.hbm, 315, rfl⟩
abbrev main_v194 : Ref sig .tc := ⟨.hbm, 316, rfl⟩
abbrev main_v195 : Ref sig .tc := ⟨.hbm, 317, rfl⟩
abbrev main_v196 : Ref sig .tc := ⟨.hbm, 318, rfl⟩
abbrev main_cst_73 : Ref sig .tc := ⟨.hbm, 319, rfl⟩
abbrev main_v197 : Ref sig .tc := ⟨.hbm, 320, rfl⟩
abbrev main_v198 : Ref sig .tc := ⟨.hbm, 321, rfl⟩
abbrev main_v199 : Ref sig .tc := ⟨.hbm, 322, rfl⟩
abbrev main_cst_74 : Ref sig .tc := ⟨.hbm, 323, rfl⟩
abbrev main_v200 : Ref sig .tc := ⟨.hbm, 324, rfl⟩
abbrev main_v201 : Ref sig .tc := ⟨.hbm, 325, rfl⟩
abbrev main_v202 : Ref sig .tc := ⟨.hbm, 326, rfl⟩
abbrev main_cst_75 : Ref sig .tc := ⟨.hbm, 327, rfl⟩
abbrev main_v203 : Ref sig .tc := ⟨.hbm, 328, rfl⟩
abbrev main_v204 : Ref sig .tc := ⟨.hbm, 329, rfl⟩
abbrev main_cst_76 : Ref sig .tc := ⟨.hbm, 330, rfl⟩
abbrev main_v205 : Ref sig .tc := ⟨.hbm, 331, rfl⟩
abbrev main_v206 : Ref sig .tc := ⟨.hbm, 332, rfl⟩
abbrev main_v207 : Ref sig .tc := ⟨.hbm, 333, rfl⟩
abbrev main_cst_77 : Ref sig .tc := ⟨.hbm, 334, rfl⟩
abbrev main_v208 : Ref sig .tc := ⟨.hbm, 335, rfl⟩
abbrev main_v209 : Ref sig .tc := ⟨.hbm, 336, rfl⟩
abbrev main_v210 : Ref sig .tc := ⟨.hbm, 337, rfl⟩
abbrev main_cst_78 : Ref sig .tc := ⟨.hbm, 338, rfl⟩
abbrev main_v211 : Ref sig .tc := ⟨.hbm, 339, rfl⟩
abbrev main_v212 : Ref sig .tc := ⟨.hbm, 340, rfl⟩
abbrev main_v213 : Ref sig .tc := ⟨.hbm, 341, rfl⟩
abbrev main_cst_79 : Ref sig .tc := ⟨.hbm, 342, rfl⟩
abbrev main_v214 : Ref sig .tc := ⟨.hbm, 343, rfl⟩
abbrev main_v215 : Ref sig .tc := ⟨.hbm, 344, rfl⟩
abbrev main_cst_80 : Ref sig .tc := ⟨.hbm, 345, rfl⟩
abbrev main_v216 : Ref sig .tc := ⟨.hbm, 346, rfl⟩
abbrev main_v217 : Ref sig .tc := ⟨.hbm, 347, rfl⟩
abbrev main_cst_81 : Ref sig .tc := ⟨.hbm, 348, rfl⟩
abbrev main_v218 : Ref sig .tc := ⟨.hbm, 349, rfl⟩
abbrev main_v219 : Ref sig .tc := ⟨.hbm, 350, rfl⟩
abbrev main_v220 : Ref sig .tc := ⟨.hbm, 351, rfl⟩
abbrev main_cst_82 : Ref sig .tc := ⟨.hbm, 352, rfl⟩
abbrev main_v221 : Ref sig .tc := ⟨.hbm, 353, rfl⟩
abbrev main_v222 : Ref sig .tc := ⟨.hbm, 354, rfl⟩
abbrev main_v223 : Ref sig .tc := ⟨.hbm, 355, rfl⟩
abbrev main_cst_83 : Ref sig .tc := ⟨.hbm, 356, rfl⟩
abbrev main_v224 : Ref sig .tc := ⟨.hbm, 357, rfl⟩
abbrev main_v225 : Ref sig .tc := ⟨.hbm, 358, rfl⟩
abbrev main_v226 : Ref sig .tc := ⟨.hbm, 359, rfl⟩
abbrev main_cst_84 : Ref sig .tc := ⟨.hbm, 360, rfl⟩
abbrev main_v227 : Ref sig .tc := ⟨.hbm, 361, rfl⟩
abbrev main_v228 : Ref sig .tc := ⟨.hbm, 362, rfl⟩
abbrev main_cst_85 : Ref sig .tc := ⟨.hbm, 363, rfl⟩
abbrev main_v229 : Ref sig .tc := ⟨.hbm, 364, rfl⟩
abbrev main_v230 : Ref sig .tc := ⟨.hbm, 365, rfl⟩
abbrev main_v231 : Ref sig .tc := ⟨.hbm, 366, rfl⟩
abbrev main_cst_86 : Ref sig .tc := ⟨.hbm, 367, rfl⟩
abbrev main_v232 : Ref sig .tc := ⟨.hbm, 368, rfl⟩
abbrev main_v233 : Ref sig .tc := ⟨.hbm, 369, rfl⟩
abbrev main_v234 : Ref sig .tc := ⟨.hbm, 370, rfl⟩
abbrev main_cst_87 : Ref sig .tc := ⟨.hbm, 371, rfl⟩
abbrev main_v235 : Ref sig .tc := ⟨.hbm, 372, rfl⟩
abbrev main_v236 : Ref sig .tc := ⟨.hbm, 373, rfl⟩
abbrev main_v237 : Ref sig .tc := ⟨.hbm, 374, rfl⟩
abbrev main_cst_88 : Ref sig .tc := ⟨.hbm, 375, rfl⟩
abbrev main_v238 : Ref sig .tc := ⟨.hbm, 376, rfl⟩
abbrev main_v239 : Ref sig .tc := ⟨.hbm, 377, rfl⟩
abbrev main_cst_89 : Ref sig .tc := ⟨.hbm, 378, rfl⟩
abbrev main_v240 : Ref sig .tc := ⟨.hbm, 379, rfl⟩
abbrev main_v241 : Ref sig .tc := ⟨.hbm, 380, rfl⟩
abbrev main_cst_90 : Ref sig .tc := ⟨.hbm, 381, rfl⟩
abbrev main_v242 : Ref sig .tc := ⟨.hbm, 382, rfl⟩
abbrev main_v243 : Ref sig .tc := ⟨.hbm, 383, rfl⟩
abbrev main_v244 : Ref sig .tc := ⟨.hbm, 384, rfl⟩
abbrev main_cst_91 : Ref sig .tc := ⟨.hbm, 385, rfl⟩
abbrev main_v245 : Ref sig .tc := ⟨.hbm, 386, rfl⟩
abbrev main_v246 : Ref sig .tc := ⟨.hbm, 387, rfl⟩
abbrev main_v247 : Ref sig .tc := ⟨.hbm, 388, rfl⟩
abbrev main_cst_92 : Ref sig .tc := ⟨.hbm, 389, rfl⟩
abbrev main_v248 : Ref sig .tc := ⟨.hbm, 390, rfl⟩
abbrev main_v249 : Ref sig .tc := ⟨.hbm, 391, rfl⟩
abbrev main_v250 : Ref sig .tc := ⟨.hbm, 392, rfl⟩
abbrev main_cst_93 : Ref sig .tc := ⟨.hbm, 393, rfl⟩
abbrev main_v251 : Ref sig .tc := ⟨.hbm, 394, rfl⟩
abbrev main_v252 : Ref sig .tc := ⟨.hbm, 395, rfl⟩
abbrev main_cst_94 : Ref sig .tc := ⟨.hbm, 396, rfl⟩
abbrev main_v253 : Ref sig .tc := ⟨.hbm, 397, rfl⟩
abbrev main_v254 : Ref sig .tc := ⟨.hbm, 398, rfl⟩
abbrev main_v255 : Ref sig .tc := ⟨.hbm, 399, rfl⟩
abbrev main_cst_95 : Ref sig .tc := ⟨.hbm, 400, rfl⟩
abbrev main_v256 : Ref sig .tc := ⟨.hbm, 401, rfl⟩
abbrev main_v257 : Ref sig .tc := ⟨.hbm, 402, rfl⟩
abbrev main_v258 : Ref sig .tc := ⟨.hbm, 403, rfl⟩
abbrev main_cst_96 : Ref sig .tc := ⟨.hbm, 404, rfl⟩
abbrev main_v259 : Ref sig .tc := ⟨.hbm, 405, rfl⟩
abbrev main_v260 : Ref sig .tc := ⟨.hbm, 406, rfl⟩
abbrev main_v261 : Ref sig .tc := ⟨.hbm, 407, rfl⟩
abbrev main_cst_97 : Ref sig .tc := ⟨.hbm, 408, rfl⟩
abbrev main_v262 : Ref sig .tc := ⟨.hbm, 409, rfl⟩
abbrev main_v263 : Ref sig .tc := ⟨.hbm, 410, rfl⟩
abbrev main_cst_98 : Ref sig .tc := ⟨.hbm, 411, rfl⟩
abbrev main_v264 : Ref sig .tc := ⟨.hbm, 412, rfl⟩
abbrev main_v265 : Ref sig .tc := ⟨.hbm, 413, rfl⟩
abbrev main_cst_99 : Ref sig .tc := ⟨.hbm, 414, rfl⟩
abbrev main_v266 : Ref sig .tc := ⟨.hbm, 415, rfl⟩
abbrev main_v267 : Ref sig .tc := ⟨.hbm, 416, rfl⟩
abbrev main_v268 : Ref sig .tc := ⟨.hbm, 417, rfl⟩
abbrev main_cst_100 : Ref sig .tc := ⟨.hbm, 418, rfl⟩
abbrev main_v269 : Ref sig .tc := ⟨.hbm, 419, rfl⟩
abbrev main_v270 : Ref sig .tc := ⟨.hbm, 420, rfl⟩
abbrev main_v271 : Ref sig .tc := ⟨.hbm, 421, rfl⟩
abbrev main_cst_101 : Ref sig .tc := ⟨.hbm, 422, rfl⟩
abbrev main_v272 : Ref sig .tc := ⟨.hbm, 423, rfl⟩
abbrev main_v273 : Ref sig .tc := ⟨.hbm, 424, rfl⟩
abbrev main_v274 : Ref sig .tc := ⟨.hbm, 425, rfl⟩
abbrev main_cst_102 : Ref sig .tc := ⟨.hbm, 426, rfl⟩
abbrev main_v275 : Ref sig .tc := ⟨.hbm, 427, rfl⟩
abbrev main_v276 : Ref sig .tc := ⟨.hbm, 428, rfl⟩
abbrev main_cst_103 : Ref sig .tc := ⟨.hbm, 429, rfl⟩
abbrev main_v277 : Ref sig .tc := ⟨.hbm, 430, rfl⟩
abbrev main_v278 : Ref sig .tc := ⟨.hbm, 431, rfl⟩
abbrev main_v279 : Ref sig .tc := ⟨.hbm, 432, rfl⟩
abbrev main_cst_104 : Ref sig .tc := ⟨.hbm, 433, rfl⟩
abbrev main_v280 : Ref sig .tc := ⟨.hbm, 434, rfl⟩
abbrev main_v281 : Ref sig .tc := ⟨.hbm, 435, rfl⟩
abbrev main_v282 : Ref sig .tc := ⟨.hbm, 436, rfl⟩
abbrev main_cst_105 : Ref sig .tc := ⟨.hbm, 437, rfl⟩
abbrev main_v283 : Ref sig .tc := ⟨.hbm, 438, rfl⟩
abbrev main_v284 : Ref sig .tc := ⟨.hbm, 439, rfl⟩
abbrev main_v285 : Ref sig .tc := ⟨.hbm, 440, rfl⟩
abbrev main_cst_106 : Ref sig .tc := ⟨.hbm, 441, rfl⟩
abbrev main_v286 : Ref sig .tc := ⟨.hbm, 442, rfl⟩
abbrev main_v287 : Ref sig .tc := ⟨.hbm, 443, rfl⟩

abbrev nD : Nat := 1
abbrev τ : Topo := Topo.v7x

variable {F : FTy → Type} [FloatOps F]
-- ==== Proof.Copied.lean ====
/-
  A load of part of a buffer that a copy has filled.
-/
module

public import Idealize.ShloMosaic.Lib.Pipeline.ReadBack

@[expose] public section

noncomputable section

namespace Cert.Copied

open Idealize.ShloMosaic

/-- A load of part of a buffer that a whole copy has filled reads the copied contents there. -/
theorem readCov_copied {sig : RefSig} {Val : EltTy → Type} [∀ e, Nonempty (Val e)] {κ : Kind} {sp : Space} {S : Shape} {e : EltTy}
    (v : View sig κ sp S e) (w : S.Idx → Val e) (r : Rect S) :
    v.readCov [(⟨Rect.whole S, w⟩ : View.Piece Val S e)] r.toLoadRect = View.ld w r := by
  rw [View.readCov_eq_canon']
  funext j
  have h := View.canon_cons_emb (Val := Val) (Rect.whole S) w [] (r.idx j)
  have h' : (Rect.whole S).emb (r.idx j) = r.idx j := Rect.emb_whole_apply S _
  rw [h'] at h
  exact h

end Cert.Copied

end
-- ==== Proof.Tile.lean ====
/-
  One tile of 256 rows: what the body stores, opened into named values.

  The body's stores are read back in the order it makes them. A first section names the values a tile passes from
  one step to the next (hidden rows, activations, their gradients) as functions of the tile's input blocks and of the
  three weight matrices. The theorems then say, for the first grid point (which also copies the weights in and clears
  the three accumulators) and for a later one, what each output's staging buffer is left with.
-/
module

public import proofs.«01_k».proof.Proof.Gen.KernelIdeal.Frame
public import Idealize.ShloMosaic.Lib.Pipeline.Value
public import Idealize.ShloMosaic.Lib.Pipeline.ReadBack
public import Idealize.ShloMosaic.Lib.Tactic
public import proofs.«01_k».proof.Proof.Copied

@[expose] public section

set_option maxRecDepth 16384

noncomputable section

open Idealize.ShloMosaic Idealize.ShloMosaic.TcCoe Idealize.SL.Sem

namespace Cert.KernelIdeal.Tile

open Cert.KernelIdeal Cert.KernelIdeal.Gen
open Cert.Copied (readCov_copied)

variable {F : FTy → Type} [FloatOps F]

theorem hz : (![0, 0] : Fin 2 → Nat) = fun _ => 0 := funext fun a => by fin_cases a <;> rfl

/-! ## The values of one tile -/

section Values

variable (i : grid0.Coords) (x0 x1 : Vec F S256x1024 .f32) (x2 : Vec F S256x2048 .bf16) (x3 : Vec F S256x1024 .f32)
  (x4 x5 : Vec F S1x1024 .f32) (W0 : Vec F S2048x1024 .bf16) (W1 : Vec F S1024x4096 .bf16) (W2 : Vec F S4096x1024 .bf16)

/-- Columns `0 …` of the first feed-forward weight. -/
def col0 : Vec F S1024x1024 .bf16 := View.ld W1 (Rect.unit ![0, 0] ![1024, 1024] inb_S1024x4096_S1024x1024_0_0)
/-- Rows `0 …` of the second. -/
def row0 : Vec F S1024x1024 .bf16 := View.ld W2 (Rect.unit ![0, 0] ![1024, 1024] inb_S4096x1024_S1024x1024_0_0)

/-- Columns `1024 …` of the first feed-forward weight. -/
def col1 : Vec F S1024x1024 .bf16 := View.ld W1 (Rect.unit ![0, 1024] ![1024, 1024] inb_S1024x4096_S1024x1024_0_1024)
/-- Rows `1024 …` of the second. -/
def row1 : Vec F S1024x1024 .bf16 := View.ld W2 (Rect.unit ![1024, 0] ![1024, 1024] inb_S4096x1024_S1024x1024_1024_0)

/-- Columns `2048 …` of the first feed-forward weight. -/
def col2 : Vec F S1024x1024 .bf16 := View.ld W1 (Rect.unit ![0, 2048] ![1024, 1024] inb_S1024x4096_S1024x1024_0_2048)
/-- Rows `2048 …` of the second. -/
def row2 : Vec F S1024x1024 .bf16 := View.ld W2 (Rect.unit ![2048, 0] ![1024, 1024] inb_S4096x1024_S1024x1024_2048_0)

/-- Columns `3072 …` of the first feed-forward weight. -/
def col3 : Vec F S1024x1024 .bf16 := View.ld W1 (Rect.unit ![0, 3072] ![1024, 1024] inb_S1024x4096_S1024x1024_0_3072)
/-- Rows `3072 …` of the second. -/
def row3 : Vec F S1024x1024 .bf16 := View.ld W2 (Rect.unit ![3072, 0] ![1024, 1024] inb_S4096x1024_S1024x1024_3072_0)

/-- The residual stream after the mixer's output product. -/
def hid : FVec F S256x1024 .f32 :=
  k0_pay6 i x1 x0 x2 W0

/-- Its rows' reciprocal root mean squares. -/
def hidR : FVec F S256x1 .f32 :=
  k0_pay7 i x1 x0 x2 W0

/-- Its rows, normalised. -/
def hidN : FVec F S256x1024 .f32 :=
  k0_pay8 i x1 x0 x2 W0

/-- The normalised rows scaled by the weight. -/
def hn : FVec F S256x1024 .bf16 :=
  k0_pay9 i x1 x0 x2 W0 x4

/-- The activations' first 1024 columns. -/
def act0 : FVec F S256x1024 .f32 :=
  k0_pay10 i x1 x0 x2 W0 x4 (col0 W1)

/-- Their second. -/
def act1 : FVec F S256x1024 .f32 :=
  k0_pay13 (hn i x0 x1 x2 x4 W0) (col1 W1)

/-- Their third. -/
def act2 : FVec F S256x1024 .f32 :=
  k0_pay17 (hn i x0 x1 x2 x4 W0) (col2 W1)

/-- Their fourth. -/
def act3 : FVec F S256x1024 .f32 :=
  k0_pay20 (hn i x0 x1 x2 x4 W0) (col3 W1)

/-- The squared positive parts, first 1024 columns. -/
def ff0 : FVec F S256x1024 .bf16 :=
  k0_pay12 (act0 i x0 x1 x2 x4 W0 W1) (FloatOps.ofBits .f32 0x00000000#32)

/-- Second. -/
def ff1 : FVec F S256x1024 .bf16 :=
  k0_pay15 (hn i x0 x1 x2 x4 W0) (col1 W1)

/-- Third. -/
def ff2 : FVec F S256x1024 .bf16 :=
  k0_pay19 (hn i x0 x1 x2 x4 W0) (col2 W1)

/-- Fourth. -/
def ff3 : FVec F S256x1024 .bf16 :=
  k0_pay22 (hn i x0 x1 x2 x4 W0) (col3 W1)

/-- The residual stream with the first two column blocks of the feed-forward product added. -/
def mid : FVec F S256x1024 .f32 :=
  k0_pay16 (hid i x0 x1 x2 W0) (hn i x0 x1 x2 x4 W0) (act0 i x0 x1 x2 x4 W0 W1) (FloatOps.ofBits .f32 0x00000000#32) (row0 W2) (col1 W1) (row1 W2)

/-- The residual stream after the feed-forward step. -/
def res : FVec F S256x1024 .f32 :=
  k0_pay23 (hn i x0 x1 x2 x4 W0) (mid i x0 x1 x2 x4 W0 W1 W2) (ff2 i x0 x1 x2 x4 W0 W1) (row2 W2) (col3 W1) (row3 W2)

/-- Its rows' reciprocal root mean squares. -/
def resR : FVec F S256x1 .f32 :=
  k0_pay24 (hn i x0 x1 x2 x4 W0) (mid i x0 x1 x2 x4 W0 W1 W2) (ff2 i x0 x1 x2 x4 W0 W1) (row2 W2) (col3 W1) (row3 W2)

/-- Its rows, normalised. -/
def resN : FVec F S256x1024 .f32 :=
  k0_pay25 (hn i x0 x1 x2 x4 W0) (mid i x0 x1 x2 x4 W0 W1 W2) (ff2 i x0 x1 x2 x4 W0 W1) (row2 W2) (col3 W1) (row3 W2)

/-- The output's difference from the target. -/
def err : FVec F S256x1024 .f32 :=
  k0_pay26 (hn i x0 x1 x2 x4 W0) (mid i x0 x1 x2 x4 W0 W1 W2) (ff2 i x0 x1 x2 x4 W0 W1) (row2 W2) (col3 W1) (row3 W2) x5 x3

/-- One on a tile of tokens, zero on the tile of lead rows. -/
def tok : F .f32 :=
  k0_pay27 (BitVec.ofNat 32 (i 0).val)

/-- The residual stream's gradient below the last normalisation. -/
def dres : FVec F S256x1024 .f32 :=
  k0_pay31 (resR i x0 x1 x2 x4 W0 W1 W2) (resN i x0 x1 x2 x4 W0 W1 W2) x5 (err i x0 x1 x2 x3 x4 x5 W0 W1 W2) (tok i)

/-- The same, in the matrix unit's format. -/
def dresm : FVec F S256x1024 .bf16 :=
  k0_pay32 (resR i x0 x1 x2 x4 W0 W1 W2) (resN i x0 x1 x2 x4 W0 W1 W2) x5 (err i x0 x1 x2 x3 x4 x5 W0 W1 W2) (tok i)

/-- The activations' gradient, first 1024 columns. -/
def da0 : FVec F S256x1024 .bf16 :=
  k0_pay33 (dresm i x0 x1 x2 x3 x4 x5 W0 W1 W2) (row0 W2) (act0 i x0 x1 x2 x4 W0 W1)

/-- Second. -/
def da1 : FVec F S256x1024 .bf16 :=
  k0_pay34 (dresm i x0 x1 x2 x3 x4 x5 W0 W1 W2) (row1 W2) (act1 i x0 x1 x2 x4 W0 W1)

/-- The third block of the gradient at the squared positive parts. -/
def dff2 : FVec F S256x1024 .f32 :=
  k0_pay36 (dresm i x0 x1 x2 x3 x4 x5 W0 W1 W2) (row2 W2)

/-- The activations' gradient, third 1024 columns. -/
def da2 : FVec F S256x1024 .bf16 :=
  k0_pay37 (dff2 i x0 x1 x2 x3 x4 x5 W0 W1 W2) (act2 i x0 x1 x2 x4 W0 W1)

/-- Fourth. -/
def da3 : FVec F S256x1024 .bf16 :=
  k0_pay38 (dresm i x0 x1 x2 x3 x4 x5 W0 W1 W2) (row3 W2) (act3 i x0 x1 x2 x4 W0 W1)

/-- The first two column blocks' part of the gradient at the scaled normalised rows. -/
def dhnA : FVec F S256x1024 .f32 :=
  k0_pay35 (dresm i x0 x1 x2 x3 x4 x5 W0 W1 W2) (row0 W2) (act0 i x0 x1 x2 x4 W0 W1) (col0 W1) (row1 W2) (act1 i x0 x1 x2 x4 W0 W1) (col1 W1)

/-- The gradient at the scaled normalised rows. -/
def dhn : FVec F S256x1024 .f32 :=
  k0_pay39 (dresm i x0 x1 x2 x3 x4 x5 W0 W1 W2) (dhnA i x0 x1 x2 x3 x4 x5 W0 W1 W2) (dff2 i x0 x1 x2 x3 x4 x5 W0 W1 W2) (act2 i x0 x1 x2 x4 W0 W1) (col2 W1) (row3 W2) (act3 i x0 x1 x2 x4 W0 W1) (col3 W1)

/-- The gradient at the residual stream before the feed-forward step. -/
def dhid : FVec F S256x1024 .f32 :=
  k0_pay1 (hidR i x0 x1 x2 W0) (hidN i x0 x1 x2 W0) (dres i x0 x1 x2 x3 x4 x5 W0 W1 W2) (dhn i x0 x1 x2 x3 x4 x5 W0 W1 W2) (k0_pay41 x4)

/-- The gradient at the mixer's output. -/
def dmix : FVec F S256x2048 .f32 :=
  k0_pay2 (hidR i x0 x1 x2 W0) (hidN i x0 x1 x2 W0) (dres i x0 x1 x2 x3 x4 x5 W0 W1 W2) (dhn i x0 x1 x2 x3 x4 x5 W0 W1 W2) (k0_pay41 x4) W0

/-- The loss accumulator after this tile. -/
def lossStep (old : Vec F S1x128 .f32) : FVec F S1x128 .f32 :=
  k0_pay28 (err i x0 x1 x2 x3 x4 x5 W0 W1 W2) (tok i) old
/-- The last normalisation weight's gradient accumulator after this tile. -/
def gwfStep (old : Vec F S1x1024 .f32) : FVec F S1x1024 .f32 :=
  k0_pay30 (resN i x0 x1 x2 x4 W0 W1 W2) (err i x0 x1 x2 x3 x4 x5 W0 W1 W2) (tok i) old
/-- The feed-forward normalisation weight's gradient accumulator after this tile. -/
def gw2Step (old : Vec F S1x1024 .f32) : FVec F S1x1024 .f32 :=
  k0_pay40 (hidN i x0 x1 x2 W0) (dresm i x0 x1 x2 x3 x4 x5 W0 W1 W2) (dhnA i x0 x1 x2 x3 x4 x5 W0 W1 W2) (dff2 i x0 x1 x2 x3 x4 x5 W0 W1 W2) (act2 i x0 x1 x2 x4 W0 W1) (col2 W1) (row3 W2) (act3 i x0 x1 x2 x4 W0 W1) (col3 W1) old

/-- The four stores of the squared positive parts. -/
def ffPieces : List (View.Piece (Elt F) S256x4096 .bf16) :=
  [⟨Rect.unit ![0, 3072] ![256, 1024] inb_S256x4096_S256x1024_0_3072, ff3 i x0 x1 x2 x4 W0 W1⟩, ⟨Rect.unit ![0, 2048] ![256, 1024] inb_S256x4096_S256x1024_0_2048, ff2 i x0 x1 x2 x4 W0 W1⟩, ⟨Rect.unit ![0, 1024] ![256, 1024] inb_S256x4096_S256x1024_0_1024, ff1 i x0 x1 x2 x4 W0 W1⟩, ⟨Rect.unit ![0, 0] ![256, 1024] inb_S256x4096_S256x1024_0_0, ff0 i x0 x1 x2 x4 W0 W1⟩]
/-- The four stores of the activations' gradient. -/
def daPieces : List (View.Piece (Elt F) S256x4096 .bf16) :=
  [⟨Rect.unit ![0, 3072] ![256, 1024] inb_S256x4096_S256x1024_0_3072, da3 i x0 x1 x2 x3 x4 x5 W0 W1 W2⟩, ⟨Rect.unit ![0, 2048] ![256, 1024] inb_S256x4096_S256x1024_0_2048, da2 i x0 x1 x2 x3 x4 x5 W0 W1 W2⟩, ⟨Rect.unit ![0, 1024] ![256, 1024] inb_S256x4096_S256x1024_0_1024, da1 i x0 x1 x2 x3 x4 x5 W0 W1 W2⟩, ⟨Rect.unit ![0, 0] ![256, 1024] inb_S256x4096_S256x1024_0_0, da0 i x0 x1 x2 x3 x4 x5 W0 W1 W2⟩]

end Values

/-! ## A tile's stores -/

section Stores

variable (c : Dev nD) (i : grid0.Coords) (arg1 : Memref sig .tc .vmem S256x1024 .f32) (harg1 : arg1.IsWhole)
  (arg2 : Memref sig .tc .vmem S256x1024 .f32) (harg2 : arg2.IsWhole) (arg3 : Memref sig .tc .vmem S256x2048 .bf16) (harg3 : arg3.IsWhole)
  (arg4 : Memref sig .tc .vmem S256x1024 .f32) (harg4 : arg4.IsWhole) (arg5 : Memref sig .tc .vmem S1x1024 .f32) (harg5 : arg5.IsWhole)
  (arg6 : Memref sig .tc .vmem S1x1024 .f32) (harg6 : arg6.IsWhole) (arg10 : Memref sig .tc .vmem S1x128 .f32) (harg10 : arg10.IsWhole)
  (arg11 : Memref sig .tc .vmem S1x1024 .f32) (harg11 : arg11.IsWhole) (arg12 : Memref sig .tc .vmem S1x1024 .f32) (harg12 : arg12.IsWhole)
  (arg13 : Memref sig .tc .vmem S256x4096 .bf16) (harg13 : arg13.IsWhole) (arg14 : Memref sig .tc .vmem S256x4096 .bf16) (harg14 : arg14.IsWhole)
  (arg15 : Memref sig .tc .vmem S256x1024 .bf16) (harg15 : arg15.IsWhole) (arg16 : Memref sig .tc .vmem S256x1024 .f32) (harg16 : arg16.IsWhole)
  (arg17 : Memref sig .tc .vmem S256x1024 .bf16) (harg17 : arg17.IsWhole) (arg18 : Memref sig .tc .vmem S256x2048 .f32) (harg18 : arg18.IsWhole)
  (arg19 : Memref sig .tc .vmem S2048x1024 .bf16) (harg19 : arg19.IsWhole) (arg20 : Memref sig .tc .vmem S1024x4096 .bf16) (harg20 : arg20.IsWhole)
  (arg21 : Memref sig .tc .vmem S4096x1024 .bf16) (harg21 : arg21.IsWhole) (arg22 : Memref sig .tc .vmem S256x4096 .f32) (harg22 : arg22.IsWhole)
  (x0 x1 : Vec F S256x1024 .f32) (x2 : Vec F S256x2048 .bf16) (x3 : Vec F S256x1024 .f32) (x4 x5 : Vec F S1x1024 .f32)
  (xo6 : Vec F S1x128 .f32) (xo7 xo8 : Vec F S1x1024 .f32) (xs0 : Vec F S2048x1024 .bf16) (xs1 : Vec F S1024x4096 .bf16)
  (xs2 : Vec F S4096x1024 .bf16) (fh0 : HbBuf0 (F := F) c hbM0_0) (fh1 : HbBuf0 (F := F) c hbM0_1) (fh2 : HbBuf0 (F := F) c hbM0_2)

/-- The weights as the first point copies them. -/
def cp0 : Vec F S2048x1024 .bf16 := ReadAs.same.apply (View.read (Elt F) (View.whole main_arg4) fh0)
def cp1 : Vec F S1024x4096 .bf16 := ReadAs.same.apply (View.read (Elt F) (View.whole main_arg6) fh1)
def cp2 : Vec F S4096x1024 .bf16 := ReadAs.same.apply (View.read (Elt F) (View.whole main_arg7) fh2)

/-- What the first point leaves of the loss. -/
theorem outA_6 (hc : cond0_0 i) :
    out0_A_6 c i arg1 harg1 arg2 harg2 arg3 harg3 arg4 harg4 arg5 harg5 arg6 harg6 arg10 harg10 arg11 harg11 arg12 harg12 arg13 harg13 arg14 harg14 arg15 harg15 arg16 harg16 arg17 harg17 arg18 harg18 arg19 harg19 arg20 harg20 arg21 harg21 arg22 harg22 hc x0 x1 x2 x3 x4 x5 fh0 fh1 fh2 =
      lossStep i x0 x1 x2 x3 x4 x5 (cp0 c fh0) (cp1 c fh1) (cp2 c fh2) k0_pay3 := by
  unfold out0_A_6
  rw [View.read_writes_eq_canon _ _ _ (cover0_A_6 c i arg1 harg1 arg2 harg2 arg3 harg3 arg4 harg4 arg5 harg5 arg6 harg6 arg10 harg10 arg11 harg11 arg12 harg12 arg13 harg13 arg14 harg14 arg15 harg15 arg16 harg16 arg17 harg17 arg18 harg18 arg19 harg19 arg20 harg20 arg21 harg21 arg22 harg22 hc x0 x1 x2 x3 x4 x5 fh0 fh1 fh2)]
  unfold kernelRun0_A
  dsimp only
  sl_unfold_words
  rw [View.canon_cons_unit_zero (S := S1x128) hz]
  simp +decide only [↓View.readCov_skip, View.readCov_cons_toLoadRect, readCov_copied, View.readCov_unit_zero (S := S1x128) _ hz,
    View.readCov_unit_zero (S := S1x1024) _ hz, View.readAt_eq_ld, harg1.read_unread, harg2.read_unread, harg3.read_unread, harg4.read_unread, harg5.read_unread, harg6.read_unread, harg10.read_unread, harg11.read_unread, harg12.read_unread, harg19.read_unread, harg20.read_unread, harg21.read_unread,
    View.ld_unit_zero (S := S256x1024) hz, View.ld_unit_zero (S := S1x1024) hz, View.ld_unit_zero (S := S1x128) hz,
    View.ld_unit_zero (S := S256x2048) hz, View.ld_unit_zero (S := S2048x1024) hz, shapeCast_self, k0_pay11, k0_pay14, k0_pay18, k0_pay21]
  rfl

/-- What the first point leaves of the last normalisation weight's gradient. -/
theorem outA_7 (hc : cond0_0 i) :
    out0_A_7 c i arg1 harg1 arg2 harg2 arg3 harg3 arg4 harg4 arg5 harg5 arg6 harg6 arg10 harg10 arg11 harg11 arg12 harg12 arg13 harg13 arg14 harg14 arg15 harg15 arg16 harg16 arg17 harg17 arg18 harg18 arg19 harg19 arg20 harg20 arg21 harg21 arg22 harg22 hc x0 x1 x2 x3 x4 x5 fh0 fh1 fh2 =
      gwfStep i x0 x1 x2 x3 x4 x5 (cp0 c fh0) (cp1 c fh1) (cp2 c fh2) k0_pay4 := by
  unfold out0_A_7
  rw [View.read_writes_eq_canon _ _ _ (cover0_A_7 c i arg1 harg1 arg2 harg2 arg3 harg3 arg4 harg4 arg5 harg5 arg6 harg6 arg10 harg10 arg11 harg11 arg12 harg12 arg13 harg13 arg14 harg14 arg15 harg15 arg16 harg16 arg17 harg17 arg18 harg18 arg19 harg19 arg20 harg20 arg21 harg21 arg22 harg22 hc x0 x1 x2 x3 x4 x5 fh0 fh1 fh2)]
  unfold kernelRun0_A
  dsimp only
  sl_unfold_words
  rw [View.canon_cons_unit_zero (S := S1x1024) hz]
  simp +decide only [↓View.readCov_skip, View.readCov_cons_toLoadRect, readCov_copied, View.readCov_unit_zero (S := S1x128) _ hz,
    View.readCov_unit_zero (S := S1x1024) _ hz, View.readAt_eq_ld, harg1.read_unread, harg2.read_unread, harg3.read_unread, harg4.read_unread, harg5.read_unread, harg6.read_unread, harg10.read_unread, harg11.read_unread, harg12.read_unread, harg19.read_unread, harg20.read_unread, harg21.read_unread,
    View.ld_unit_zero (S := S256x1024) hz, View.ld_unit_zero (S := S1x1024) hz, View.ld_unit_zero (S := S1x128) hz,
    View.ld_unit_zero (S := S256x2048) hz, View.ld_unit_zero (S := S2048x1024) hz, shapeCast_self, k0_pay11, k0_pay14, k0_pay18, k0_pay21]
  rfl

/-- What the first point leaves of the feed-forward normalisation weight's gradient. -/
theorem outA_8 (hc : cond0_0 i) :
    out0_A_8 c i arg1 harg1 arg2 harg2 arg3 harg3 arg4 harg4 arg5 harg5 arg6 harg6 arg10 harg10 arg11 harg11 arg12 harg12 arg13 harg13 arg14 harg14 arg15 harg15 arg16 harg16 arg17 harg17 arg18 harg18 arg19 harg19 arg20 harg20 arg21 harg21 arg22 harg22 hc x0 x1 x2 x3 x4 x5 fh0 fh1 fh2 =
      gw2Step i x0 x1 x2 x3 x4 x5 (cp0 c fh0) (cp1 c fh1) (cp2 c fh2) k0_pay5 := by
  unfold out0_A_8
  rw [View.read_writes_eq_canon _ _ _ (cover0_A_8 c i arg1 harg1 arg2 harg2 arg3 harg3 arg4 harg4 arg5 harg5 arg6 harg6 arg10 harg10 arg11 harg11 arg12 harg12 arg13 harg13 arg14 harg14 arg15 harg15 arg16 harg16 arg17 harg17 arg18 harg18 arg19 harg19 arg20 harg20 arg21 harg21 arg22 harg22 hc x0 x1 x2 x3 x4 x5 fh0 fh1 fh2)]
  unfold kernelRun0_A
  dsimp only
  sl_unfold_words
  rw [View.canon_cons_unit_zero (S := S1x1024) hz]
  simp +decide only [↓View.readCov_skip, View.readCov_cons_toLoadRect, readCov_copied, View.readCov_unit_zero (S := S1x128) _ hz,
    View.readCov_unit_zero (S := S1x1024) _ hz, View.readAt_eq_ld, harg1.read_unread, harg2.read_unread, harg3.read_unread, harg4.read_unread, harg5.read_unread, harg6.read_unread, harg10.read_unread, harg11.read_unread, harg12.read_unread, harg19.read_unread, harg20.read_unread, harg21.read_unread,
    View.ld_unit_zero (S := S256x1024) hz, View.ld_unit_zero (S := S1x1024) hz, View.ld_unit_zero (S := S1x128) hz,
    View.ld_unit_zero (S := S256x2048) hz, View.ld_unit_zero (S := S2048x1024) hz, shapeCast_self, k0_pay11, k0_pay14, k0_pay18, k0_pay21]
  rfl

/-- What the first point leaves of the squared positive parts. -/
theorem outA_9 (hc : cond0_0 i) :
    out0_A_9 c i arg1 harg1 arg2 harg2 arg3 harg3 arg4 harg4 arg5 harg5 arg6 harg6 arg10 harg10 arg11 harg11 arg12 harg12 arg13 harg13 arg14 harg14 arg15 harg15 arg16 harg16 arg17 harg17 arg18 harg18 arg19 harg19 arg20 harg20 arg21 harg21 arg22 harg22 hc x0 x1 x2 x3 x4 x5 fh0 fh1 fh2 =
      View.canon (ffPieces i x0 x1 x2 x4 (cp0 c fh0) (cp1 c fh1)) := by
  unfold out0_A_9
  rw [View.read_writes_eq_canon _ _ _ (cover0_A_9 c i arg1 harg1 arg2 harg2 arg3 harg3 arg4 harg4 arg5 harg5 arg6 harg6 arg10 harg10 arg11 harg11 arg12 harg12 arg13 harg13 arg14 harg14 arg15 harg15 arg16 harg16 arg17 harg17 arg18 harg18 arg19 harg19 arg20 harg20 arg21 harg21 arg22 harg22 hc x0 x1 x2 x3 x4 x5 fh0 fh1 fh2)]
  unfold kernelRun0_A
  dsimp only
  sl_unfold_words
  simp +decide only [↓View.readCov_skip, View.readCov_cons_toLoadRect, readCov_copied, View.readCov_unit_zero (S := S1x128) _ hz,
    View.readCov_unit_zero (S := S1x1024) _ hz, View.readAt_eq_ld, harg1.read_unread, harg2.read_unread, harg3.read_unread, harg4.read_unread, harg5.read_unread, harg6.read_unread, harg10.read_unread, harg11.read_unread, harg12.read_unread, harg19.read_unread, harg20.read_unread, harg21.read_unread,
    View.ld_unit_zero (S := S256x1024) hz, View.ld_unit_zero (S := S1x1024) hz, View.ld_unit_zero (S := S1x128) hz,
    View.ld_unit_zero (S := S256x2048) hz, View.ld_unit_zero (S := S2048x1024) hz, shapeCast_self, k0_pay11, k0_pay14, k0_pay18, k0_pay21]
  rfl

/-- What the first point leaves of the activations' gradient. -/
theorem outA_10 (hc : cond0_0 i) :
    out0_A_10 c i arg1 harg1 arg2 harg2 arg3 harg3 arg4 harg4 arg5 harg5 arg6 harg6 arg10 harg10 arg11 harg11 arg12 harg12 arg13 harg13 arg14 harg14 arg15 harg15 arg16 harg16 arg17 harg17 arg18 harg18 arg19 harg19 arg20 harg20 arg21 harg21 arg22 harg22 hc x0 x1 x2 x3 x4 x5 fh0 fh1 fh2 =
      View.canon (daPieces i x0 x1 x2 x3 x4 x5 (cp0 c fh0) (cp1 c fh1) (cp2 c fh2)) := by
  unfold out0_A_10
  rw [View.read_writes_eq_canon _ _ _ (cover0_A_10 c i arg1 harg1 arg2 harg2 arg3 harg3 arg4 harg4 arg5 harg5 arg6 harg6 arg10 harg10 arg11 harg11 arg12 harg12 arg13 harg13 arg14 harg14 arg15 harg15 arg16 harg16 arg17 harg17 arg18 harg18 arg19 harg19 arg20 harg20 arg21 harg21 arg22 harg22 hc x0 x1 x2 x3 x4 x5 fh0 fh1 fh2)]
  unfold kernelRun0_A
  dsimp only
  sl_unfold_words
  simp +decide only [↓View.readCov_skip, View.readCov_cons_toLoadRect, readCov_copied, View.readCov_unit_zero (S := S1x128) _ hz,
    View.readCov_unit_zero (S := S1x1024) _ hz, View.readAt_eq_ld, harg1.read_unread, harg2.read_unread, harg3.read_unread, harg4.read_unread, harg5.read_unread, harg6.read_unread, harg10.read_unread, harg11.read_unread, harg12.read_unread, harg19.read_unread, harg20.read_unread, harg21.read_unread,
    View.ld_unit_zero (S := S256x1024) hz, View.ld_unit_zero (S := S1x1024) hz, View.ld_unit_zero (S := S1x128) hz,
    View.ld_unit_zero (S := S256x2048) hz, View.ld_unit_zero (S := S2048x1024) hz, shapeCast_self, k0_pay11, k0_pay14, k0_pay18, k0_pay21]
  rfl

/-- What the first point leaves of the scaled normalised rows. -/
theorem outA_11 (hc : cond0_0 i) :
    out0_A_11 c i arg1 harg1 arg2 harg2 arg3 harg3 arg4 harg4 arg5 harg5 arg6 harg6 arg10 harg10 arg11 harg11 arg12 harg12 arg13 harg13 arg14 harg14 arg15 harg15 arg16 harg16 arg17 harg17 arg18 harg18 arg19 harg19 arg20 harg20 arg21 harg21 arg22 harg22 hc x0 x1 x2 x3 x4 x5 fh0 fh1 fh2 =
      hn i x0 x1 x2 x4 (cp0 c fh0) := by
  unfold out0_A_11
  rw [View.read_writes_eq_canon _ _ _ (cover0_A_11 c i arg1 harg1 arg2 harg2 arg3 harg3 arg4 harg4 arg5 harg5 arg6 harg6 arg10 harg10 arg11 harg11 arg12 harg12 arg13 harg13 arg14 harg14 arg15 harg15 arg16 harg16 arg17 harg17 arg18 harg18 arg19 harg19 arg20 harg20 arg21 harg21 arg22 harg22 hc x0 x1 x2 x3 x4 x5 fh0 fh1 fh2)]
  unfold kernelRun0_A
  dsimp only
  sl_unfold_words
  rw [View.canon_unit_zero hz]
  simp +decide only [↓View.readCov_skip, View.readCov_cons_toLoadRect, readCov_copied, View.readCov_unit_zero (S := S1x128) _ hz,
    View.readCov_unit_zero (S := S1x1024) _ hz, View.readAt_eq_ld, harg1.read_unread, harg2.read_unread, harg3.read_unread, harg4.read_unread, harg5.read_unread, harg6.read_unread, harg10.read_unread, harg11.read_unread, harg12.read_unread, harg19.read_unread, harg20.read_unread, harg21.read_unread,
    View.ld_unit_zero (S := S256x1024) hz, View.ld_unit_zero (S := S1x1024) hz, View.ld_unit_zero (S := S1x128) hz,
    View.ld_unit_zero (S := S256x2048) hz, View.ld_unit_zero (S := S2048x1024) hz, shapeCast_self, k0_pay11, k0_pay14, k0_pay18, k0_pay21]
  rfl

/-- What the first point leaves of the gradient before the feed-forward step. -/
theorem outA_12 (hc : cond0_0 i) :
    out0_A_12 c i arg1 harg1 arg2 harg2 arg3 harg3 arg4 harg4 arg5 harg5 arg6 harg6 arg10 harg10 arg11 harg11 arg12 harg12 arg13 harg13 arg14 harg14 arg15 harg15 arg16 harg16 arg17 harg17 arg18 harg18 arg19 harg19 arg20 harg20 arg21 harg21 arg22 harg22 hc x0 x1 x2 x3 x4 x5 fh0 fh1 fh2 =
      dhid i x0 x1 x2 x3 x4 x5 (cp0 c fh0) (cp1 c fh1) (cp2 c fh2) := by
  unfold out0_A_12
  rw [View.read_writes_eq_canon _ _ _ (cover0_A_12 c i arg1 harg1 arg2 harg2 arg3 harg3 arg4 harg4 arg5 harg5 arg6 harg6 arg10 harg10 arg11 harg11 arg12 harg12 arg13 harg13 arg14 harg14 arg15 harg15 arg16 harg16 arg17 harg17 arg18 harg18 arg19 harg19 arg20 harg20 arg21 harg21 arg22 harg22 hc x0 x1 x2 x3 x4 x5 fh0 fh1 fh2)]
  unfold kernelRun0_A
  dsimp only
  sl_unfold_words
  rw [View.canon_unit_zero hz]
  simp +decide only [↓View.readCov_skip, View.readCov_cons_toLoadRect, readCov_copied, View.readCov_unit_zero (S := S1x128) _ hz,
    View.readCov_unit_zero (S := S1x1024) _ hz, View.readAt_eq_ld, harg1.read_unread, harg2.read_unread, harg3.read_unread, harg4.read_unread, harg5.read_unread, harg6.read_unread, harg10.read_unread, harg11.read_unread, harg12.read_unread, harg19.read_unread, harg20.read_unread, harg21.read_unread,
    View.ld_unit_zero (S := S256x1024) hz, View.ld_unit_zero (S := S1x1024) hz, View.ld_unit_zero (S := S1x128) hz,
    View.ld_unit_zero (S := S256x2048) hz, View.ld_unit_zero (S := S2048x1024) hz, shapeCast_self, k0_pay11, k0_pay14, k0_pay18, k0_pay21]
  rfl

/-- What the first point leaves of the gradient after it. -/
theorem outA_13 (hc : cond0_0 i) :
    out0_A_13 c i arg1 harg1 arg2 harg2 arg3 harg3 arg4 harg4 arg5 harg5 arg6 harg6 arg10 harg10 arg11 harg11 arg12 harg12 arg13 harg13 arg14 harg14 arg15 harg15 arg16 harg16 arg17 harg17 arg18 harg18 arg19 harg19 arg20 harg20 arg21 harg21 arg22 harg22 hc x0 x1 x2 x3 x4 x5 fh0 fh1 fh2 =
      dresm i x0 x1 x2 x3 x4 x5 (cp0 c fh0) (cp1 c fh1) (cp2 c fh2) := by
  unfold out0_A_13
  rw [View.read_writes_eq_canon _ _ _ (cover0_A_13 c i arg1 harg1 arg2 harg2 arg3 harg3 arg4 harg4 arg5 harg5 arg6 harg6 arg10 harg10 arg11 harg11 arg12 harg12 arg13 harg13 arg14 harg14 arg15 harg15 arg16 harg16 arg17 harg17 arg18 harg18 arg19 harg19 arg20 harg20 arg21 harg21 arg22 harg22 hc x0 x1 x2 x3 x4 x5 fh0 fh1 fh2)]
  unfold kernelRun0_A
  dsimp only
  sl_unfold_words
  rw [View.canon_unit_zero hz]
  simp +decide only [↓View.readCov_skip, View.readCov_cons_toLoadRect, readCov_copied, View.readCov_unit_zero (S := S1x128) _ hz,
    View.readCov_unit_zero (S := S1x1024) _ hz, View.readAt_eq_ld, harg1.read_unread, harg2.read_unread, harg3.read_unread, harg4.read_unread, harg5.read_unread, harg6.read_unread, harg10.read_unread, harg11.read_unread, harg12.read_unread, harg19.read_unread, harg20.read_unread, harg21.read_unread,
    View.ld_unit_zero (S := S256x1024) hz, View.ld_unit_zero (S := S1x1024) hz, View.ld_unit_zero (S := S1x128) hz,
    View.ld_unit_zero (S := S256x2048) hz, View.ld_unit_zero (S := S2048x1024) hz, shapeCast_self, k0_pay11, k0_pay14, k0_pay18, k0_pay21]
  rfl

/-- What the first point leaves of the gradient at the mixer's output. -/
theorem outA_14 (hc : cond0_0 i) :
    out0_A_14 c i arg1 harg1 arg2 harg2 arg3 harg3 arg4 harg4 arg5 harg5 arg6 harg6 arg10 harg10 arg11 harg11 arg12 harg12 arg13 harg13 arg14 harg14 arg15 harg15 arg16 harg16 arg17 harg17 arg18 harg18 arg19 harg19 arg20 harg20 arg21 harg21 arg22 harg22 hc x0 x1 x2 x3 x4 x5 fh0 fh1 fh2 =
      dmix i x0 x1 x2 x3 x4 x5 (cp0 c fh0) (cp1 c fh1) (cp2 c fh2) := by
  unfold out0_A_14
  rw [View.read_writes_eq_canon _ _ _ (cover0_A_14 c i arg1 harg1 arg2 harg2 arg3 harg3 arg4 harg4 arg5 harg5 arg6 harg6 arg10 harg10 arg11 harg11 arg12 harg12 arg13 harg13 arg14 harg14 arg15 harg15 arg16 harg16 arg17 harg17 arg18 harg18 arg19 harg19 arg20 harg20 arg21 harg21 arg22 harg22 hc x0 x1 x2 x3 x4 x5 fh0 fh1 fh2)]
  unfold kernelRun0_A
  dsimp only
  sl_unfold_words
  rw [View.canon_unit_zero hz]
  simp +decide only [↓View.readCov_skip, View.readCov_cons_toLoadRect, readCov_copied, View.readCov_unit_zero (S := S1x128) _ hz,
    View.readCov_unit_zero (S := S1x1024) _ hz, View.readAt_eq_ld, harg1.read_unread, harg2.read_unread, harg3.read_unread, harg4.read_unread, harg5.read_unread, harg6.read_unread, harg10.read_unread, harg11.read_unread, harg12.read_unread, harg19.read_unread, harg20.read_unread, harg21.read_unread,
    View.ld_unit_zero (S := S256x1024) hz, View.ld_unit_zero (S := S1x1024) hz, View.ld_unit_zero (S := S1x128) hz,
    View.ld_unit_zero (S := S256x2048) hz, View.ld_unit_zero (S := S2048x1024) hz, shapeCast_self, k0_pay11, k0_pay14, k0_pay18, k0_pay21]
  rfl

/-- What a later point leaves of the loss. -/
theorem outB_6 (hc : ¬cond0_0 i) :
    out0_B_6 c i arg1 harg1 arg2 harg2 arg3 harg3 arg4 harg4 arg5 harg5 arg6 harg6 arg10 harg10 arg11 harg11 arg12 harg12 arg13 harg13 arg14 harg14 arg15 harg15 arg16 harg16 arg17 harg17 arg18 harg18 arg19 harg19 arg20 harg20 arg21 harg21 arg22 harg22 hc x0 x1 x2 x3 x4 x5 xo6 xo7 xo8 xs0 xs1 xs2 fh0 fh1 fh2 =
      lossStep i x0 x1 x2 x3 x4 x5 xs0 xs1 xs2 xo6 := by
  unfold out0_B_6
  rw [View.read_writes_eq_canon _ _ _ (cover0_B_6 c i arg1 harg1 arg2 harg2 arg3 harg3 arg4 harg4 arg5 harg5 arg6 harg6 arg10 harg10 arg11 harg11 arg12 harg12 arg13 harg13 arg14 harg14 arg15 harg15 arg16 harg16 arg17 harg17 arg18 harg18 arg19 harg19 arg20 harg20 arg21 harg21 arg22 harg22 hc x0 x1 x2 x3 x4 x5 xo6 xo7 xo8 xs0 xs1 xs2 fh0 fh1 fh2)]
  unfold kernelRun0_B
  dsimp only
  sl_unfold_words
  rw [View.canon_unit_zero hz]
  simp +decide only [↓View.readCov_skip, View.readCov_cons_toLoadRect, readCov_copied, View.readCov_unit_zero (S := S1x128) _ hz,
    View.readCov_unit_zero (S := S1x1024) _ hz, View.readAt_eq_ld, harg1.read_unread, harg2.read_unread, harg3.read_unread, harg4.read_unread, harg5.read_unread, harg6.read_unread, harg10.read_unread, harg11.read_unread, harg12.read_unread, harg19.read_unread, harg20.read_unread, harg21.read_unread,
    View.ld_unit_zero (S := S256x1024) hz, View.ld_unit_zero (S := S1x1024) hz, View.ld_unit_zero (S := S1x128) hz,
    View.ld_unit_zero (S := S256x2048) hz, View.ld_unit_zero (S := S2048x1024) hz, shapeCast_self, k0_pay11, k0_pay14, k0_pay18, k0_pay21]
  rfl

/-- What a later point leaves of the last normalisation weight's gradient. -/
theorem outB_7 (hc : ¬cond0_0 i) :
    out0_B_7 c i arg1 harg1 arg2 harg2 arg3 harg3 arg4 harg4 arg5 harg5 arg6 harg6 arg10 harg10 arg11 harg11 arg12 harg12 arg13 harg13 arg14 harg14 arg15 harg15 arg16 harg16 arg17 harg17 arg18 harg18 arg19 harg19 arg20 harg20 arg21 harg21 arg22 harg22 hc x0 x1 x2 x3 x4 x5 xo6 xo7 xo8 xs0 xs1 xs2 fh0 fh1 fh2 =
      gwfStep i x0 x1 x2 x3 x4 x5 xs0 xs1 xs2 xo7 := by
  unfold out0_B_7
  rw [View.read_writes_eq_canon _ _ _ (cover0_B_7 c i arg1 harg1 arg2 harg2 arg3 harg3 arg4 harg4 arg5 harg5 arg6 harg6 arg10 harg10 arg11 harg11 arg12 harg12 arg13 harg13 arg14 harg14 arg15 harg15 arg16 harg16 arg17 harg17 arg18 harg18 arg19 harg19 arg20 harg20 arg21 harg21 arg22 harg22 hc x0 x1 x2 x3 x4 x5 xo6 xo7 xo8 xs0 xs1 xs2 fh0 fh1 fh2)]
  unfold kernelRun0_B
  dsimp only
  sl_unfold_words
  rw [View.canon_unit_zero hz]
  simp +decide only [↓View.readCov_skip, View.readCov_cons_toLoadRect, readCov_copied, View.readCov_unit_zero (S := S1x128) _ hz,
    View.readCov_unit_zero (S := S1x1024) _ hz, View.readAt_eq_ld, harg1.read_unread, harg2.read_unread, harg3.read_unread, harg4.read_unread, harg5.read_unread, harg6.read_unread, harg10.read_unread, harg11.read_unread, harg12.read_unread, harg19.read_unread, harg20.read_unread, harg21.read_unread,
    View.ld_unit_zero (S := S256x1024) hz, View.ld_unit_zero (S := S1x1024) hz, View.ld_unit_zero (S := S1x128) hz,
    View.ld_unit_zero (S := S256x2048) hz, View.ld_unit_zero (S := S2048x1024) hz, shapeCast_self, k0_pay11, k0_pay14, k0_pay18, k0_pay21]
  rfl

/-- What a later point leaves of the feed-forward normalisation weight's gradient. -/
theorem outB_8 (hc : ¬cond0_0 i) :
    out0_B_8 c i arg1 harg1 arg2 harg2 arg3 harg3 arg4 harg4 arg5 harg5 arg6 harg6 arg10 harg10 arg11 harg11 arg12 harg12 arg13 harg13 arg14 harg14 arg15 harg15 arg16 harg16 arg17 harg17 arg18 harg18 arg19 harg19 arg20 harg20 arg21 harg21 arg22 harg22 hc x0 x1 x2 x3 x4 x5 xo6 xo7 xo8 xs0 xs1 xs2 fh0 fh1 fh2 =
      gw2Step i x0 x1 x2 x3 x4 x5 xs0 xs1 xs2 xo8 := by
  unfold out0_B_8
  rw [View.read_writes_eq_canon _ _ _ (cover0_B_8 c i arg1 harg1 arg2 harg2 arg3 harg3 arg4 harg4 arg5 harg5 arg6 harg6 arg10 harg10 arg11 harg11 arg12 harg12 arg13 harg13 arg14 harg14 arg15 harg15 arg16 harg16 arg17 harg17 arg18 harg18 arg19 harg19 arg20 harg20 arg21 harg21 arg22 harg22 hc x0 x1 x2 x3 x4 x5 xo6 xo7 xo8 xs0 xs1 xs2 fh0 fh1 fh2)]
  unfold kernelRun0_B
  dsimp only
  sl_unfold_words
  rw [View.canon_unit_zero hz]
  simp +decide only [↓View.readCov_skip, View.readCov_cons_toLoadRect, readCov_copied, View.readCov_unit_zero (S := S1x128) _ hz,
    View.readCov_unit_zero (S := S1x1024) _ hz, View.readAt_eq_ld, harg1.read_unread, harg2.read_unread, harg3.read_unread, harg4.read_unread, harg5.read_unread, harg6.read_unread, harg10.read_unread, harg11.read_unread, harg12.read_unread, harg19.read_unread, harg20.read_unread, harg21.read_unread,
    View.ld_unit_zero (S := S256x1024) hz, View.ld_unit_zero (S := S1x1024) hz, View.ld_unit_zero (S := S1x128) hz,
    View.ld_unit_zero (S := S256x2048) hz, View.ld_unit_zero (S := S2048x1024) hz, shapeCast_self, k0_pay11, k0_pay14, k0_pay18, k0_pay21]
  rfl

/-- What a later point leaves of the squared positive parts. -/
theorem outB_9 (hc : ¬cond0_0 i) :
    out0_B_9 c i arg1 harg1 arg2 harg2 arg3 harg3 arg4 harg4 arg5 harg5 arg6 harg6 arg10 harg10 arg11 harg11 arg12 harg12 arg13 harg13 arg14 harg14 arg15 harg15 arg16 harg16 arg17 harg17 arg18 harg18 arg19 harg19 arg20 harg20 arg21 harg21 arg22 harg22 hc x0 x1 x2 x3 x4 x5 xo6 xo7 xo8 xs0 xs1 xs2 fh0 fh1 fh2 =
      View.canon (ffPieces i x0 x1 x2 x4 xs0 xs1) := by
  unfold out0_B_9
  rw [View.read_writes_eq_canon _ _ _ (cover0_B_9 c i arg1 harg1 arg2 harg2 arg3 harg3 arg4 harg4 arg5 harg5 arg6 harg6 arg10 harg10 arg11 harg11 arg12 harg12 arg13 harg13 arg14 harg14 arg15 harg15 arg16 harg16 arg17 harg17 arg18 harg18 arg19 harg19 arg20 harg20 arg21 harg21 arg22 harg22 hc x0 x1 x2 x3 x4 x5 xo6 xo7 xo8 xs0 xs1 xs2 fh0 fh1 fh2)]
  unfold kernelRun0_B
  dsimp only
  sl_unfold_words
  simp +decide only [↓View.readCov_skip, View.readCov_cons_toLoadRect, readCov_copied, View.readCov_unit_zero (S := S1x128) _ hz,
    View.readCov_unit_zero (S := S1x1024) _ hz, View.readAt_eq_ld, harg1.read_unread, harg2.read_unread, harg3.read_unread, harg4.read_unread, harg5.read_unread, harg6.read_unread, harg10.read_unread, harg11.read_unread, harg12.read_unread, harg19.read_unread, harg20.read_unread, harg21.read_unread,
    View.ld_unit_zero (S := S256x1024) hz, View.ld_unit_zero (S := S1x1024) hz, View.ld_unit_zero (S := S1x128) hz,
    View.ld_unit_zero (S := S256x2048) hz, View.ld_unit_zero (S := S2048x1024) hz, shapeCast_self, k0_pay11, k0_pay14, k0_pay18, k0_pay21]
  rfl

/-- What a later point leaves of the activations' gradient. -/
theorem outB_10 (hc : ¬cond0_0 i) :
    out0_B_10 c i arg1 harg1 arg2 harg2 arg3 harg3 arg4 harg4 arg5 harg5 arg6 harg6 arg10 harg10 arg11 harg11 arg12 harg12 arg13 harg13 arg14 harg14 arg15 harg15 arg16 harg16 arg17 harg17 arg18 harg18 arg19 harg19 arg20 harg20 arg21 harg21 arg22 harg22 hc x0 x1 x2 x3 x4 x5 xo6 xo7 xo8 xs0 xs1 xs2 fh0 fh1 fh2 =
      View.canon (daPieces i x0 x1 x2 x3 x4 x5 xs0 xs1 xs2) := by
  unfold out0_B_10
  rw [View.read_writes_eq_canon _ _ _ (cover0_B_10 c i arg1 harg1 arg2 harg2 arg3 harg3 arg4 harg4 arg5 harg5 arg6 harg6 arg10 harg10 arg11 harg11 arg12 harg12 arg13 harg13 arg14 harg14 arg15 harg15 arg16 harg16 arg17 harg17 arg18 harg18 arg19 harg19 arg20 harg20 arg21 harg21 arg22 harg22 hc x0 x1 x2 x3 x4 x5 xo6 xo7 xo8 xs0 xs1 xs2 fh0 fh1 fh2)]
  unfold kernelRun0_B
  dsimp only
  sl_unfold_words
  simp +decide only [↓View.readCov_skip, View.readCov_cons_toLoadRect, readCov_copied, View.readCov_unit_zero (S := S1x128) _ hz,
    View.readCov_unit_zero (S := S1x1024) _ hz, View.readAt_eq_ld, harg1.read_unread, harg2.read_unread, harg3.read_unread, harg4.read_unread, harg5.read_unread, harg6.read_unread, harg10.read_unread, harg11.read_unread, harg12.read_unread, harg19.read_unread, harg20.read_unread, harg21.read_unread,
    View.ld_unit_zero (S := S256x1024) hz, View.ld_unit_zero (S := S1x1024) hz, View.ld_unit_zero (S := S1x128) hz,
    View.ld_unit_zero (S := S256x2048) hz, View.ld_unit_zero (S := S2048x1024) hz, shapeCast_self, k0_pay11, k0_pay14, k0_pay18, k0_pay21]
  rfl

/-- What a later point leaves of the scaled normalised rows. -/
theorem outB_11 (hc : ¬cond0_0 i) :
    out0_B_11 c i arg1 harg1 arg2 harg2 arg3 harg3 arg4 harg4 arg5 harg5 arg6 harg6 arg10 harg10 arg11 harg11 arg12 harg12 arg13 harg13 arg14 harg14 arg15 harg15 arg16 harg16 arg17 harg17 arg18 harg18 arg19 harg19 arg20 harg20 arg21 harg21 arg22 harg22 hc x0 x1 x2 x3 x4 x5 xo6 xo7 xo8 xs0 xs1 xs2 fh0 fh1 fh2 =
      hn i x0 x1 x2 x4 xs0 := by
  unfold out0_B_11
  rw [View.read_writes_eq_canon _ _ _ (cover0_B_11 c i arg1 harg1 arg2 harg2 arg3 harg3 arg4 harg4 arg5 harg5 arg6 harg6 arg10 harg10 arg11 harg11 arg12 harg12 arg13 harg13 arg14 harg14 arg15 harg15 arg16 harg16 arg17 harg17 arg18 harg18 arg19 harg19 arg20 harg20 arg21 harg21 arg22 harg22 hc x0 x1 x2 x3 x4 x5 xo6 xo7 xo8 xs0 xs1 xs2 fh0 fh1 fh2)]
  unfold kernelRun0_B
  dsimp only
  sl_unfold_words
  rw [View.canon_unit_zero hz]
  simp +decide only [↓View.readCov_skip, View.readCov_cons_toLoadRect, readCov_copied, View.readCov_unit_zero (S := S1x128) _ hz,
    View.readCov_unit_zero (S := S1x1024) _ hz, View.readAt_eq_ld, harg1.read_unread, harg2.read_unread, harg3.read_unread, harg4.read_unread, harg5.read_unread, harg6.read_unread, harg10.read_unread, harg11.read_unread, harg12.read_unread, harg19.read_unread, harg20.read_unread, harg21.read_unread,
    View.ld_unit_zero (S := S256x1024) hz, View.ld_unit_zero (S := S1x1024) hz, View.ld_unit_zero (S := S1x128) hz,
    View.ld_unit_zero (S := S256x2048) hz, View.ld_unit_zero (S := S2048x1024) hz, shapeCast_self, k0_pay11, k0_pay14, k0_pay18, k0_pay21]
  rfl

/-- What a later point leaves of the gradient before the feed-forward step. -/
theorem outB_12 (hc : ¬cond0_0 i) :
    out0_B_12 c i arg1 harg1 arg2 harg2 arg3 harg3 arg4 harg4 arg5 harg5 arg6 harg6 arg10 harg10 arg11 harg11 arg12 harg12 arg13 harg13 arg14 harg14 arg15 harg15 arg16 harg16 arg17 harg17 arg18 harg18 arg19 harg19 arg20 harg20 arg21 harg21 arg22 harg22 hc x0 x1 x2 x3 x4 x5 xo6 xo7 xo8 xs0 xs1 xs2 fh0 fh1 fh2 =
      dhid i x0 x1 x2 x3 x4 x5 xs0 xs1 xs2 := by
  unfold out0_B_12
  rw [View.read_writes_eq_canon _ _ _ (cover0_B_12 c i arg1 harg1 arg2 harg2 arg3 harg3 arg4 harg4 arg5 harg5 arg6 harg6 arg10 harg10 arg11 harg11 arg12 harg12 arg13 harg13 arg14 harg14 arg15 harg15 arg16 harg16 arg17 harg17 arg18 harg18 arg19 harg19 arg20 harg20 arg21 harg21 arg22 harg22 hc x0 x1 x2 x3 x4 x5 xo6 xo7 xo8 xs0 xs1 xs2 fh0 fh1 fh2)]
  unfold kernelRun0_B
  dsimp only
  sl_unfold_words
  rw [View.canon_unit_zero hz]
  simp +decide only [↓View.readCov_skip, View.readCov_cons_toLoadRect, readCov_copied, View.readCov_unit_zero (S := S1x128) _ hz,
    View.readCov_unit_zero (S := S1x1024) _ hz, View.readAt_eq_ld, harg1.read_unread, harg2.read_unread, harg3.read_unread, harg4.read_unread, harg5.read_unread, harg6.read_unread, harg10.read_unread, harg11.read_unread, harg12.read_unread, harg19.read_unread, harg20.read_unread, harg21.read_unread,
    View.ld_unit_zero (S := S256x1024) hz, View.ld_unit_zero (S := S1x1024) hz, View.ld_unit_zero (S := S1x128) hz,
    View.ld_unit_zero (S := S256x2048) hz, View.ld_unit_zero (S := S2048x1024) hz, shapeCast_self, k0_pay11, k0_pay14, k0_pay18, k0_pay21]
  rfl

/-- What a later point leaves of the gradient after it. -/
theorem outB_13 (hc : ¬cond0_0 i) :
    out0_B_13 c i arg1 harg1 arg2 harg2 arg3 harg3 arg4 harg4 arg5 harg5 arg6 harg6 arg10 harg10 arg11 harg11 arg12 harg12 arg13 harg13 arg14 harg14 arg15 harg15 arg16 harg16 arg17 harg17 arg18 harg18 arg19 harg19 arg20 harg20 arg21 harg21 arg22 harg22 hc x0 x1 x2 x3 x4 x5 xo6 xo7 xo8 xs0 xs1 xs2 fh0 fh1 fh2 =
      dresm i x0 x1 x2 x3 x4 x5 xs0 xs1 xs2 := by
  unfold out0_B_13
  rw [View.read_writes_eq_canon _ _ _ (cover0_B_13 c i arg1 harg1 arg2 harg2 arg3 harg3 arg4 harg4 arg5 harg5 arg6 harg6 arg10 harg10 arg11 harg11 arg12 harg12 arg13 harg13 arg14 harg14 arg15 harg15 arg16 harg16 arg17 harg17 arg18 harg18 arg19 harg19 arg20 harg20 arg21 harg21 arg22 harg22 hc x0 x1 x2 x3 x4 x5 xo6 xo7 xo8 xs0 xs1 xs2 fh0 fh1 fh2)]
  unfold kernelRun0_B
  dsimp only
  sl_unfold_words
  rw [View.canon_unit_zero hz]
  simp +decide only [↓View.readCov_skip, View.readCov_cons_toLoadRect, readCov_copied, View.readCov_unit_zero (S := S1x128) _ hz,
    View.readCov_unit_zero (S := S1x1024) _ hz, View.readAt_eq_ld, harg1.read_unread, harg2.read_unread, harg3.read_unread, harg4.read_unread, harg5.read_unread, harg6.read_unread, harg10.read_unread, harg11.read_unread, harg12.read_unread, harg19.read_unread, harg20.read_unread, harg21.read_unread,
    View.ld_unit_zero (S := S256x1024) hz, View.ld_unit_zero (S := S1x1024) hz, View.ld_unit_zero (S := S1x128) hz,
    View.ld_unit_zero (S := S256x2048) hz, View.ld_unit_zero (S := S2048x1024) hz, shapeCast_self, k0_pay11, k0_pay14, k0_pay18, k0_pay21]
  rfl

/-- What a later point leaves of the gradient at the mixer's output. -/
theorem outB_14 (hc : ¬cond0_0 i) :
    out0_B_14 c i arg1 harg1 arg2 harg2 arg3 harg3 arg4 harg4 arg5 harg5 arg6 harg6 arg10 harg10 arg11 harg11 arg12 harg12 arg13 harg13 arg14 harg14 arg15 harg15 arg16 harg16 arg17 harg17 arg18 harg18 arg19 harg19 arg20 harg20 arg21 harg21 arg22 harg22 hc x0 x1 x2 x3 x4 x5 xo6 xo7 xo8 xs0 xs1 xs2 fh0 fh1 fh2 =
      dmix i x0 x1 x2 x3 x4 x5 xs0 xs1 xs2 := by
  unfold out0_B_14
  rw [View.read_writes_eq_canon _ _ _ (cover0_B_14 c i arg1 harg1 arg2 harg2 arg3 harg3 arg4 harg4 arg5 harg5 arg6 harg6 arg10 harg10 arg11 harg11 arg12 harg12 arg13 harg13 arg14 harg14 arg15 harg15 arg16 harg16 arg17 harg17 arg18 harg18 arg19 harg19 arg20 harg20 arg21 harg21 arg22 harg22 hc x0 x1 x2 x3 x4 x5 xo6 xo7 xo8 xs0 xs1 xs2 fh0 fh1 fh2)]
  unfold kernelRun0_B
  dsimp only
  sl_unfold_words
  rw [View.canon_unit_zero hz]
  simp +decide only [↓View.readCov_skip, View.readCov_cons_toLoadRect, readCov_copied, View.readCov_unit_zero (S := S1x128) _ hz,
    View.readCov_unit_zero (S := S1x1024) _ hz, View.readAt_eq_ld, harg1.read_unread, harg2.read_unread, harg3.read_unread, harg4.read_unread, harg5.read_unread, harg6.read_unread, harg10.read_unread, harg11.read_unread, harg12.read_unread, harg19.read_unread, harg20.read_unread, harg21.read_unread,
    View.ld_unit_zero (S := S256x1024) hz, View.ld_unit_zero (S := S1x1024) hz, View.ld_unit_zero (S := S1x128) hz,
    View.ld_unit_zero (S := S256x2048) hz, View.ld_unit_zero (S := S2048x1024) hz, shapeCast_self, k0_pay11, k0_pay14, k0_pay18, k0_pay21]
  rfl

/-- What the first point leaves in scratch 0: the weight it copied there. -/
theorem scratchA_0 (hc : cond0_0 i) :
    sout0_A_0 c i arg1 harg1 arg2 harg2 arg3 harg3 arg4 harg4 arg5 harg5 arg6 harg6 arg10 harg10 arg11 harg11 arg12 harg12 arg13 harg13 arg14 harg14 arg15 harg15 arg16 harg16 arg17 harg17 arg18 harg18 arg19 harg19 arg20 harg20 arg21 harg21 arg22 harg22 hc x0 x1 x2 x3 x4 x5 fh0 fh1 fh2 = cp0 c fh0 := by
  unfold sout0_A_0
  rw [View.read_writes_eq_canon _ _ _ (scover0_A_0 c i arg1 harg1 arg2 harg2 arg3 harg3 arg4 harg4 arg5 harg5 arg6 harg6 arg10 harg10 arg11 harg11 arg12 harg12 arg13 harg13 arg14 harg14 arg15 harg15 arg16 harg16 arg17 harg17 arg18 harg18 arg19 harg19 arg20 harg20 arg21 harg21 arg22 harg22 hc x0 x1 x2 x3 x4 x5 fh0 fh1 fh2)]
  unfold kernelRun0_A
  dsimp only
  sl_unfold_words
  exact View.canon_cons_unit_zero (S := S2048x1024) rfl _ _ []

/-- What the first point leaves in scratch 1: the weight it copied there. -/
theorem scratchA_1 (hc : cond0_0 i) :
    sout0_A_1 c i arg1 harg1 arg2 harg2 arg3 harg3 arg4 harg4 arg5 harg5 arg6 harg6 arg10 harg10 arg11 harg11 arg12 harg12 arg13 harg13 arg14 harg14 arg15 harg15 arg16 harg16 arg17 harg17 arg18 harg18 arg19 harg19 arg20 harg20 arg21 harg21 arg22 harg22 hc x0 x1 x2 x3 x4 x5 fh0 fh1 fh2 = cp1 c fh1 := by
  unfold sout0_A_1
  rw [View.read_writes_eq_canon _ _ _ (scover0_A_1 c i arg1 harg1 arg2 harg2 arg3 harg3 arg4 harg4 arg5 harg5 arg6 harg6 arg10 harg10 arg11 harg11 arg12 harg12 arg13 harg13 arg14 harg14 arg15 harg15 arg16 harg16 arg17 harg17 arg18 harg18 arg19 harg19 arg20 harg20 arg21 harg21 arg22 harg22 hc x0 x1 x2 x3 x4 x5 fh0 fh1 fh2)]
  unfold kernelRun0_A
  dsimp only
  sl_unfold_words
  exact View.canon_cons_unit_zero (S := S1024x4096) rfl _ _ []

/-- What the first point leaves in scratch 2: the weight it copied there. -/
theorem scratchA_2 (hc : cond0_0 i) :
    sout0_A_2 c i arg1 harg1 arg2 harg2 arg3 harg3 arg4 harg4 arg5 harg5 arg6 harg6 arg10 harg10 arg11 harg11 arg12 harg12 arg13 harg13 arg14 harg14 arg15 harg15 arg16 harg16 arg17 harg17 arg18 harg18 arg19 harg19 arg20 harg20 arg21 harg21 arg22 harg22 hc x0 x1 x2 x3 x4 x5 fh0 fh1 fh2 = cp2 c fh2 := by
  unfold sout0_A_2
  rw [View.read_writes_eq_canon _ _ _ (scover0_A_2 c i arg1 harg1 arg2 harg2 arg3 harg3 arg4 harg4 arg5 harg5 arg6 harg6 arg10 harg10 arg11 harg11 arg12 harg12 arg13 harg13 arg14 harg14 arg15 harg15 arg16 harg16 arg17 harg17 arg18 harg18 arg19 harg19 arg20 harg20 arg21 harg21 arg22 harg22 hc x0 x1 x2 x3 x4 x5 fh0 fh1 fh2)]
  unfold kernelRun0_A
  dsimp only
  sl_unfold_words
  exact View.canon_cons_unit_zero (S := S4096x1024) rfl _ _ []

end Stores

end Cert.KernelIdeal.Tile
-- ==== Proof.Grid.lean ====
/-
  The grid: what each output's staging buffer holds after every point.

  The three weights are copied in at the first point and kept; so after every point each row output is the tile's
  value over the point's input blocks and the weights, and each accumulator is its step over what the point before left.
-/
module

public import proofs.«01_k».proof.Proof.Tile

@[expose] public section

set_option maxRecDepth 16384
set_option maxHeartbeats 4000000

noncomputable section

open Idealize.ShloMosaic Idealize.ShloMosaic.TcCoe Idealize.SL.Sem
open Idealize.ShloMosaic.Pipeline (Dat)

namespace Cert.KernelIdeal.Tile

open Cert.KernelIdeal Cert.KernelIdeal.Gen

variable {F : FTy → Type} [FloatOps F]
variable (m : (ℓ : Loc nD τ sig) → Buf (Elt F) ℓ) (c : Dev nD)

/-- The mixer output's weight, and the two feed-forward weights, as the call is given them. -/
def wOut : Vec F S2048x1024 .bf16 := cp0 c (V m c main_arg4)
def wUp : Vec F S1024x4096 .bf16 := cp1 c (V m c main_arg6)
def wDown : Vec F S4096x1024 .bf16 := cp2 c (V m c main_arg7)

/-- After every point the three scratches hold the weights. -/
theorem scratch_at : ∀ (n : ℕ) (hn : n < cfg0.N),
    (outsAt0 m c n hn).2.2.2.2.2.2.2.2.2.1 = wOut m c ∧ (outsAt0 m c n hn).2.2.2.2.2.2.2.2.2.2.1 = wUp m c ∧
      (outsAt0 m c n hn).2.2.2.2.2.2.2.2.2.2.2 = wDown m c
  | 0, hn => by
    rw [show outsAt0 m c 0 hn = _ from outsAt0_A m c ⟨0, hn⟩ rfl]
    dsimp only
    exact ⟨scratchA_0 (F := F) c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) scM0_0 (Memref.isWhole_whole _) scM0_1 (Memref.isWhole_whole _) scM0_2 (Memref.isWhole_whole _) scM0_3 (Memref.isWhole_whole _) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (V m c main_arg4) (V m c main_arg6) (V m c main_arg7) ((hcond0_0 ⟨0, hn⟩).mpr rfl), scratchA_1 (F := F) c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) scM0_0 (Memref.isWhole_whole _) scM0_1 (Memref.isWhole_whole _) scM0_2 (Memref.isWhole_whole _) scM0_3 (Memref.isWhole_whole _) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (V m c main_arg4) (V m c main_arg6) (V m c main_arg7) ((hcond0_0 ⟨0, hn⟩).mpr rfl), scratchA_2 (F := F) c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) scM0_0 (Memref.isWhole_whole _) scM0_1 (Memref.isWhole_whole _) scM0_2 (Memref.isWhole_whole _) scM0_3 (Memref.isWhole_whole _) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (V m c main_arg4) (V m c main_arg6) (V m c main_arg7) ((hcond0_0 ⟨0, hn⟩).mpr rfl)⟩
  | n + 1, hn => by
    have hN : cfg0.N = 33 := N_0
    have h0 : ¬(⟨n + 1, hn⟩ : Fin cfg0.N).val % 33 = 0 := by dsimp only; omega
    rw [show outsAt0 m c (n + 1) hn = _ from outsAt0_B m c ⟨n + 1, hn⟩ h0]
    dsimp only
    exact scratch_at n (Nat.lt_of_succ_lt hn)

variable (t : Fin cfg0.N)

theorem outs_9 : (outsAt0 m c t.val t.isLt).2.2.2.1 = View.canon (ffPieces (grid0.coords t) (iblk m c 0 t) (iblk m c 1 t) (iblk m c 2 t) (iblk m c 4 t) (wOut m c) (wUp m c)) := by
  by_cases h0 : t.val % 33 = 0
  · rw [outsAt0_A m c t h0]
    dsimp only
    exact outA_9 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (V m c main_arg4) (V m c main_arg6) (V m c main_arg7) ((hcond0_0 t).mpr h0)
  · rw [outsAt0_B m c t h0]
    dsimp only
    refine (outB_9 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2.1 (outsAt0 m c (t.val - 1) (Nat.lt_of_le_of_lt (Nat.sub_le _ _) t.isLt)).2.2.2.2.2.2.2.2.2.2.2 (V m c main_arg4) (V m c main_arg6) (V m c main_arg7) (fun h => h0 ((hcond0_0 t).mp h))).trans ?_
    obtain ⟨e0, e1, e2⟩ := scratch_at m c (t.val - 1) (Nat.lt_of_le_of_lt (Nat.sub_le _ _) t.isLt)
    rw [e0, e1]

theorem outs_10 : (outsAt0 m c t.val t.isLt).2.2.2.2.1 = View.canon (daPieces (grid0.coords t) (iblk m c 0 t) (iblk m c 1 t) (iblk m c 2 t) (iblk m c 3 t) (iblk m c 4 t) (iblk m c 5 t) (wOut m c) (wUp m c) (wDown m c)) := by
  by_cases h0 : t.val % 33 = 0
  · rw [outsAt0_A m c t h0]
    dsimp only
    exact outA_10 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (V m c main_arg4) (V m c main_arg6) (V m c main_arg7) ((hcond0_0 t).mpr h0)
  · rw [outsAt0_B m c t h0]
    dsimp only
    refine (outB_10 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2.1 (outsAt0 m c (t.val - 1) (Nat.lt_of_le_of_lt (Nat.sub_le _ _) t.isLt)).2.2.2.2.2.2.2.2.2.2.2 (V m c main_arg4) (V m c main_arg6) (V m c main_arg7) (fun h => h0 ((hcond0_0 t).mp h))).trans ?_
    obtain ⟨e0, e1, e2⟩ := scratch_at m c (t.val - 1) (Nat.lt_of_le_of_lt (Nat.sub_le _ _) t.isLt)
    rw [e0, e1, e2]

theorem outs_11 : (outsAt0 m c t.val t.isLt).2.2.2.2.2.1 = hn (grid0.coords t) (iblk m c 0 t) (iblk m c 1 t) (iblk m c 2 t) (iblk m c 4 t) (wOut m c) := by
  by_cases h0 : t.val % 33 = 0
  · rw [outsAt0_A m c t h0]
    dsimp only
    exact outA_11 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (V m c main_arg4) (V m c main_arg6) (V m c main_arg7) ((hcond0_0 t).mpr h0)
  · rw [outsAt0_B m c t h0]
    dsimp only
    refine (outB_11 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2.1 (outsAt0 m c (t.val - 1) (Nat.lt_of_le_of_lt (Nat.sub_le _ _) t.isLt)).2.2.2.2.2.2.2.2.2.2.2 (V m c main_arg4) (V m c main_arg6) (V m c main_arg7) (fun h => h0 ((hcond0_0 t).mp h))).trans ?_
    obtain ⟨e0, e1, e2⟩ := scratch_at m c (t.val - 1) (Nat.lt_of_le_of_lt (Nat.sub_le _ _) t.isLt)
    rw [e0]

theorem outs_12 : (outsAt0 m c t.val t.isLt).2.2.2.2.2.2.1 = dhid (grid0.coords t) (iblk m c 0 t) (iblk m c 1 t) (iblk m c 2 t) (iblk m c 3 t) (iblk m c 4 t) (iblk m c 5 t) (wOut m c) (wUp m c) (wDown m c) := by
  by_cases h0 : t.val % 33 = 0
  · rw [outsAt0_A m c t h0]
    dsimp only
    exact outA_12 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (V m c main_arg4) (V m c main_arg6) (V m c main_arg7) ((hcond0_0 t).mpr h0)
  · rw [outsAt0_B m c t h0]
    dsimp only
    refine (outB_12 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2.1 (outsAt0 m c (t.val - 1) (Nat.lt_of_le_of_lt (Nat.sub_le _ _) t.isLt)).2.2.2.2.2.2.2.2.2.2.2 (V m c main_arg4) (V m c main_arg6) (V m c main_arg7) (fun h => h0 ((hcond0_0 t).mp h))).trans ?_
    obtain ⟨e0, e1, e2⟩ := scratch_at m c (t.val - 1) (Nat.lt_of_le_of_lt (Nat.sub_le _ _) t.isLt)
    rw [e0, e1, e2]

theorem outs_13 : (outsAt0 m c t.val t.isLt).2.2.2.2.2.2.2.1 = dresm (grid0.coords t) (iblk m c 0 t) (iblk m c 1 t) (iblk m c 2 t) (iblk m c 3 t) (iblk m c 4 t) (iblk m c 5 t) (wOut m c) (wUp m c) (wDown m c) := by
  by_cases h0 : t.val % 33 = 0
  · rw [outsAt0_A m c t h0]
    dsimp only
    exact outA_13 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (V m c main_arg4) (V m c main_arg6) (V m c main_arg7) ((hcond0_0 t).mpr h0)
  · rw [outsAt0_B m c t h0]
    dsimp only
    refine (outB_13 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2.1 (outsAt0 m c (t.val - 1) (Nat.lt_of_le_of_lt (Nat.sub_le _ _) t.isLt)).2.2.2.2.2.2.2.2.2.2.2 (V m c main_arg4) (V m c main_arg6) (V m c main_arg7) (fun h => h0 ((hcond0_0 t).mp h))).trans ?_
    obtain ⟨e0, e1, e2⟩ := scratch_at m c (t.val - 1) (Nat.lt_of_le_of_lt (Nat.sub_le _ _) t.isLt)
    rw [e0, e1, e2]

theorem outs_14 : (outsAt0 m c t.val t.isLt).2.2.2.2.2.2.2.2.1 = dmix (grid0.coords t) (iblk m c 0 t) (iblk m c 1 t) (iblk m c 2 t) (iblk m c 3 t) (iblk m c 4 t) (iblk m c 5 t) (wOut m c) (wUp m c) (wDown m c) := by
  by_cases h0 : t.val % 33 = 0
  · rw [outsAt0_A m c t h0]
    dsimp only
    exact outA_14 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (V m c main_arg4) (V m c main_arg6) (V m c main_arg7) ((hcond0_0 t).mpr h0)
  · rw [outsAt0_B m c t h0]
    dsimp only
    refine (outB_14 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2.1 (outsAt0 m c (t.val - 1) (Nat.lt_of_le_of_lt (Nat.sub_le _ _) t.isLt)).2.2.2.2.2.2.2.2.2.2.2 (V m c main_arg4) (V m c main_arg6) (V m c main_arg7) (fun h => h0 ((hcond0_0 t).mp h))).trans ?_
    obtain ⟨e0, e1, e2⟩ := scratch_at m c (t.val - 1) (Nat.lt_of_le_of_lt (Nat.sub_le _ _) t.isLt)
    rw [e0, e1, e2]

theorem outs_6_first (h0 : t.val % 33 = 0) : (outsAt0 m c t.val t.isLt).1 = lossStep (grid0.coords t) (iblk m c 0 t) (iblk m c 1 t) (iblk m c 2 t) (iblk m c 3 t) (iblk m c 4 t) (iblk m c 5 t) (wOut m c) (wUp m c) (wDown m c) k0_pay3 := by
  rw [outsAt0_A m c t h0]
  dsimp only
  exact outA_6 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (V m c main_arg4) (V m c main_arg6) (V m c main_arg7) ((hcond0_0 t).mpr h0)
theorem outs_6_next (h0 : ¬t.val % 33 = 0) : (outsAt0 m c t.val t.isLt).1 =
    lossStep (grid0.coords t) (iblk m c 0 t) (iblk m c 1 t) (iblk m c 2 t) (iblk m c 3 t) (iblk m c 4 t) (iblk m c 5 t) (wOut m c) (wUp m c) (wDown m c) (outsAt0 m c (t.val - 1) (Nat.lt_of_le_of_lt (Nat.sub_le _ _) t.isLt)).1 := by
  rw [outsAt0_B m c t h0]
  dsimp only
  refine (outB_6 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2.1 (outsAt0 m c (t.val - 1) (Nat.lt_of_le_of_lt (Nat.sub_le _ _) t.isLt)).2.2.2.2.2.2.2.2.2.2.2 (V m c main_arg4) (V m c main_arg6) (V m c main_arg7) (fun h => h0 ((hcond0_0 t).mp h))).trans ?_
  obtain ⟨e0, e1, e2⟩ := scratch_at m c (t.val - 1) (Nat.lt_of_le_of_lt (Nat.sub_le _ _) t.isLt)
  rw [e0, e1, e2]

theorem outs_7_first (h0 : t.val % 33 = 0) : (outsAt0 m c t.val t.isLt).2.1 = gwfStep (grid0.coords t) (iblk m c 0 t) (iblk m c 1 t) (iblk m c 2 t) (iblk m c 3 t) (iblk m c 4 t) (iblk m c 5 t) (wOut m c) (wUp m c) (wDown m c) k0_pay4 := by
  rw [outsAt0_A m c t h0]
  dsimp only
  exact outA_7 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (V m c main_arg4) (V m c main_arg6) (V m c main_arg7) ((hcond0_0 t).mpr h0)
theorem outs_7_next (h0 : ¬t.val % 33 = 0) : (outsAt0 m c t.val t.isLt).2.1 =
    gwfStep (grid0.coords t) (iblk m c 0 t) (iblk m c 1 t) (iblk m c 2 t) (iblk m c 3 t) (iblk m c 4 t) (iblk m c 5 t) (wOut m c) (wUp m c) (wDown m c) (outsAt0 m c (t.val - 1) (Nat.lt_of_le_of_lt (Nat.sub_le _ _) t.isLt)).2.1 := by
  rw [outsAt0_B m c t h0]
  dsimp only
  refine (outB_7 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2.1 (outsAt0 m c (t.val - 1) (Nat.lt_of_le_of_lt (Nat.sub_le _ _) t.isLt)).2.2.2.2.2.2.2.2.2.2.2 (V m c main_arg4) (V m c main_arg6) (V m c main_arg7) (fun h => h0 ((hcond0_0 t).mp h))).trans ?_
  obtain ⟨e0, e1, e2⟩ := scratch_at m c (t.val - 1) (Nat.lt_of_le_of_lt (Nat.sub_le _ _) t.isLt)
  rw [e0, e1, e2]

theorem outs_8_first (h0 : t.val % 33 = 0) : (outsAt0 m c t.val t.isLt).2.2.1 = gw2Step (grid0.coords t) (iblk m c 0 t) (iblk m c 1 t) (iblk m c 2 t) (iblk m c 3 t) (iblk m c 4 t) (iblk m c 5 t) (wOut m c) (wUp m c) (wDown m c) k0_pay5 := by
  rw [outsAt0_A m c t h0]
  dsimp only
  exact outA_8 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (V m c main_arg4) (V m c main_arg6) (V m c main_arg7) ((hcond0_0 t).mpr h0)
theorem outs_8_next (h0 : ¬t.val % 33 = 0) : (outsAt0 m c t.val t.isLt).2.2.1 =
    gw2Step (grid0.coords t) (iblk m c 0 t) (iblk m c 1 t) (iblk m c 2 t) (iblk m c 3 t) (iblk m c 4 t) (iblk m c 5 t) (wOut m c) (wUp m c) (wDown m c) (outsAt0 m c (t.val - 1) (Nat.lt_of_le_of_lt (Nat.sub_le _ _) t.isLt)).2.2.1 := by
  rw [outsAt0_B m c t h0]
  dsimp only
  refine (outB_8 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2.1 (outsAt0 m c (t.val - 1) (Nat.lt_of_le_of_lt (Nat.sub_le _ _) t.isLt)).2.2.2.2.2.2.2.2.2.2.2 (V m c main_arg4) (V m c main_arg6) (V m c main_arg7) (fun h => h0 ((hcond0_0 t).mp h))).trans ?_
  obtain ⟨e0, e1, e2⟩ := scratch_at m c (t.val - 1) (Nat.lt_of_le_of_lt (Nat.sub_le _ _) t.isLt)
  rw [e0, e1, e2]

end Cert.KernelIdeal.Tile
-- ==== Proof.Spec.lean ====
/-
  The feed-forward step of one token row, forward and backward, over the extended reals.

  A row enters as `x` (the residual stream), `y` (the mixer's output) and `tg` (its target); `tok` is one on a token
  row and zero on a lead row, which has no target. Both programs are read as these functions, row by row.
-/
module

public import Idealize.ShloMosaic.PureOps.Ideal

@[expose] public section

noncomputable section

namespace Cert.Ffn

open Idealize.ShloMosaic

/-- The constant added to a mean square: the float word nearest to `1e-5`. -/
def eps : EReal := Ideal.ofBits .f32 0x3727C5AC#32
/-- The width of a row. -/
def width : EReal := Ideal.ofBits .f32 0x44800000#32
/-- Two. -/
def two : EReal := Ideal.ofBits .f32 0x40000000#32
/-- One half. -/
def half : EReal := Ideal.ofBits .f32 0x3F000000#32

/-- The mean square of a row plus `eps`. -/
def msq (v : Fin 1024 → EReal) : EReal := Ideal.div (∑ k, v k * v k) width + eps
/-- Its reciprocal square root. -/
def rms (v : Fin 1024 → EReal) : EReal := Ideal.rsqrt (msq v)
/-- The row normalised. -/
def nrm (v : Fin 1024 → EReal) (k : Fin 1024) : EReal := v k * rms v
/-- The gradient of a normalised row, as the kernel forms it: `d` less its part along the row, times `rms`. -/
def nrmBack (v d : Fin 1024 → EReal) (k : Fin 1024) : EReal :=
  rms v * (d k - nrm v k * Ideal.div (∑ l, d l * nrm v l) width)

section Row

variable (x : Fin 1024 → EReal) (y : Fin 2048 → EReal) (tg : Fin 1024 → EReal) (tok : EReal)
  (Wo : Fin 2048 → Fin 1024 → EReal) (w2 wf : Fin 1024 → EReal) (W1 : Fin 1024 → Fin 4096 → EReal)
  (W2 : Fin 4096 → Fin 1024 → EReal)

/-- The residual stream after the mixer's output product. -/
def hid (k : Fin 1024) : EReal := x k + ∑ e, y e * Wo e k
/-- Its normalised row, scaled. -/
def hn (k : Fin 1024) : EReal := nrm (hid x y Wo) k * w2 k
/-- The activations. -/
def act (f : Fin 4096) : EReal := ∑ k, hn x y Wo w2 k * W1 k f
/-- Their squared positive parts. -/
def ff (f : Fin 4096) : EReal := max (act x y Wo w2 W1 f) 0 * max (act x y Wo w2 W1 f) 0
/-- The residual stream after the feed-forward step. -/
def res (k : Fin 1024) : EReal := hid x y Wo k + ∑ f, ff x y Wo w2 W1 f * W2 f k
/-- Its normalised row. -/
def resN (k : Fin 1024) : EReal := nrm (res x y Wo w2 W1 W2) k
/-- The output's difference from the target. -/
def err (k : Fin 1024) : EReal := resN x y Wo w2 W1 W2 k * wf k - tg k
/-- The row's part of the loss, before the factor one half. -/
def rowLoss : EReal :=
  Ideal.div (∑ k, err x y tg Wo w2 wf W1 W2 k * err x y tg Wo w2 wf W1 W2 k) width * tok
/-- The gradient at the output. -/
def dout (k : Fin 1024) : EReal := err x y tg Wo w2 wf W1 W2 k * Ideal.div tok width
/-- The row's part of the last normalisation weight's gradient. -/
def gwf (k : Fin 1024) : EReal := dout x y tg tok Wo w2 wf W1 W2 k * resN x y Wo w2 W1 W2 k
/-- The gradient at the residual stream below the last normalisation. -/
def dres (k : Fin 1024) : EReal :=
  nrmBack (res x y Wo w2 W1 W2) (fun l => dout x y tg tok Wo w2 wf W1 W2 l * wf l) k
/-- The gradient at the activations. -/
def da (f : Fin 4096) : EReal :=
  (∑ k, dres x y tg tok Wo w2 wf W1 W2 k * W2 f k) * (two * max (act x y Wo w2 W1 f) 0)
/-- The gradient at the scaled normalised row. -/
def dhn (k : Fin 1024) : EReal := ∑ f, da x y tg tok Wo w2 wf W1 W2 f * W1 k f
/-- The row's part of the feed-forward normalisation weight's gradient. -/
def gw2 (k : Fin 1024) : EReal := dhn x y tg tok Wo w2 wf W1 W2 k * nrm (hid x y Wo) k
/-- The gradient at the residual stream before the feed-forward step. -/
def dhid (k : Fin 1024) : EReal :=
  dres x y tg tok Wo w2 wf W1 W2 k + nrmBack (hid x y Wo) (fun l => dhn x y tg tok Wo w2 wf W1 W2 l * w2 l) k
/-- The gradient at the mixer's output. -/
def dmix (e : Fin 2048) : EReal := ∑ k, dhid x y tg tok Wo w2 wf W1 W2 k * Wo e k

end Row

end Cert.Ffn
-- ==== Proof.TileRead.lean ====
/-
  One tile read row by row: each named value of a tile is the row function of Spec.lean of that row's inputs.
-/
module

public import proofs.«01_k».proof.Proof.Tile
public import proofs.«01_k».proof.Proof.Spec
public import Idealize.ShloMosaic.Lib.Pointwise

@[expose] public section

set_option maxRecDepth 16384

noncomputable section

open Idealize.ShloMosaic Idealize.ShloMosaic.TcCoe Idealize.SL.Sem

namespace Cert.KernelIdeal.Tile

open Cert.KernelIdeal Cert.KernelIdeal.Gen

variable (i : grid0.Coords) (x0 x1 : Vec Ideal S256x1024 .f32) (x2 : Vec Ideal S256x2048 .bf16) (x3 : Vec Ideal S256x1024 .f32)
  (x4 x5 : Vec Ideal S1x1024 .f32) (W0 : Vec Ideal S2048x1024 .bf16) (W1 : Vec Ideal S1024x4096 .bf16) (W2 : Vec Ideal S4096x1024 .bf16)

/-- A matrix as a function of its row and column. -/
abbrev mat {a b : ℕ} (v : (⟨2, ![a, b]⟩ : Shape).Idx → EReal) (p : Fin a) (q : Fin b) : EReal := v (ix2 p q)

/-- The residual row a tile starts from: a token row, or a lead row on the last tile. -/
def tokRow (r : Fin 256) (k : Fin 1024) : EReal :=
  Scalar.select (Scalar.cmpi CmpIPredicate.eq (BitVec.ofNat 32 (i 0).val) 32#32) (x1 (ix2 r k)) (x0 (ix2 r k))

/-- Position `k` of the `q`-th 1024 of the 4096 activations. -/
def pos (q : Fin 4) (k : Fin 1024) : Fin 4096 := ⟨q.val * 1024 + k.val, by have := q.isLt; have := k.isLt; omega⟩

/-- A sum over the activations, by blocks of 1024. -/
theorem sum_pos (f : Fin 4096 → EReal) :
    ∑ j, f j = ∑ k, f (pos 0 k) + ∑ k, f (pos 1 k) + ∑ k, f (pos 2 k) + ∑ k, f (pos 3 k) := by
  rw [Fin.sum_univ_tiles 4 1024 rfl f, Fin.sum_univ_four]
  rfl

theorem col0_read (l k : Fin 1024) : col0 W1 (ix2 l k) = mat W1 l (pos 0 k) := by
  unfold col0
  pointwise
  exact congrArg W1 (congrArg (ix2 l) (Fin.ext (by simp [pos])))
theorem row0_read (l k : Fin 1024) : row0 W2 (ix2 l k) = mat W2 (pos 0 l) k := by
  unfold row0
  pointwise
  exact congrArg W2 (congrArg (ix2 · k) (Fin.ext (by simp [pos])))

theorem col1_read (l k : Fin 1024) : col1 W1 (ix2 l k) = mat W1 l (pos 1 k) := by
  unfold col1
  pointwise
  exact congrArg W1 (congrArg (ix2 l) (Fin.ext (by simp [pos])))
theorem row1_read (l k : Fin 1024) : row1 W2 (ix2 l k) = mat W2 (pos 1 l) k := by
  unfold row1
  pointwise
  exact congrArg W2 (congrArg (ix2 · k) (Fin.ext (by simp [pos])))

theorem col2_read (l k : Fin 1024) : col2 W1 (ix2 l k) = mat W1 l (pos 2 k) := by
  unfold col2
  pointwise
  exact congrArg W1 (congrArg (ix2 l) (Fin.ext (by simp [pos])))
theorem row2_read (l k : Fin 1024) : row2 W2 (ix2 l k) = mat W2 (pos 2 l) k := by
  unfold row2
  pointwise
  exact congrArg W2 (congrArg (ix2 · k) (Fin.ext (by simp [pos])))

theorem col3_read (l k : Fin 1024) : col3 W1 (ix2 l k) = mat W1 l (pos 3 k) := by
  unfold col3
  pointwise
  exact congrArg W1 (congrArg (ix2 l) (Fin.ext (by simp [pos])))
theorem row3_read (l k : Fin 1024) : row3 W2 (ix2 l k) = mat W2 (pos 3 l) k := by
  unfold row3
  pointwise
  exact congrArg W2 (congrArg (ix2 · k) (Fin.ext (by simp [pos])))

theorem hid_read (r : Fin 256) (k : Fin 1024) : hid i x0 x1 x2 W0 (ix2 r k) = Ffn.hid (tokRow i x0 x1 r) (mat x2 r) (mat W0) k := by
  unfold hid k0_pay6
  pointwise
  rfl

theorem hidR_read (r : Fin 256) (z : Fin 1) : hidR i x0 x1 x2 W0 (ix2 r z) = Ffn.rms (Ffn.hid (tokRow i x0 x1 r) (mat x2 r) (mat W0)) := by
  unfold hidR k0_pay7
  pointwise
  show Ideal.rsqrt (Ideal.div (∑ l, hid i x0 x1 x2 W0 (ix2 r l) * hid i x0 x1 x2 W0 (ix2 r l)) Ffn.width + Ffn.eps) = _
  simp only [hid_read]
  rfl

theorem hidN_read (r : Fin 256) (k : Fin 1024) : hidN i x0 x1 x2 W0 (ix2 r k) = Ffn.nrm (Ffn.hid (tokRow i x0 x1 r) (mat x2 r) (mat W0)) k := by
  unfold hidN k0_pay8
  pointwise
  show hid i x0 x1 x2 W0 (ix2 r k) * hidR i x0 x1 x2 W0 (ix2 r 0) = _
  rw [hid_read, hidR_read]
  rfl

theorem hn_read (r : Fin 256) (k : Fin 1024) : hn i x0 x1 x2 x4 W0 (ix2 r k) = Ffn.hn (tokRow i x0 x1 r) (mat x2 r) (mat W0) (mat x4 0) k := by
  unfold hn k0_pay9
  pointwise
  show hidN i x0 x1 x2 W0 (ix2 r k) * x4 (ix2 0 k) = _
  rw [hidN_read]
  rfl

theorem act0_read (r : Fin 256) (k : Fin 1024) : act0 i x0 x1 x2 x4 W0 W1 (ix2 r k) = Ffn.act (tokRow i x0 x1 r) (mat x2 r) (mat W0) (mat x4 0) (mat W1) (pos 0 k) := by
  unfold act0 k0_pay10
  pointwise
  show ∑ l, hn i x0 x1 x2 x4 W0 (ix2 r l) * col0 W1 (ix2 l k) = _
  simp only [hn_read, col0_read]
  rfl

theorem act1_read (r : Fin 256) (k : Fin 1024) : act1 i x0 x1 x2 x4 W0 W1 (ix2 r k) = Ffn.act (tokRow i x0 x1 r) (mat x2 r) (mat W0) (mat x4 0) (mat W1) (pos 1 k) := by
  unfold act1 k0_pay13
  pointwise
  show ∑ l, hn i x0 x1 x2 x4 W0 (ix2 r l) * col1 W1 (ix2 l k) = _
  simp only [hn_read, col1_read]
  rfl

theorem act2_read (r : Fin 256) (k : Fin 1024) : act2 i x0 x1 x2 x4 W0 W1 (ix2 r k) = Ffn.act (tokRow i x0 x1 r) (mat x2 r) (mat W0) (mat x4 0) (mat W1) (pos 2 k) := by
  unfold act2 k0_pay17
  pointwise
  show ∑ l, hn i x0 x1 x2 x4 W0 (ix2 r l) * col2 W1 (ix2 l k) = _
  simp only [hn_read, col2_read]
  rfl

theorem act3_read (r : Fin 256) (k : Fin 1024) : act3 i x0 x1 x2 x4 W0 W1 (ix2 r k) = Ffn.act (tokRow i x0 x1 r) (mat x2 r) (mat W0) (mat x4 0) (mat W1) (pos 3 k) := by
  unfold act3 k0_pay20
  pointwise
  show ∑ l, hn i x0 x1 x2 x4 W0 (ix2 r l) * col3 W1 (ix2 l k) = _
  simp only [hn_read, col3_read]
  rfl

theorem ff0_read (r : Fin 256) (k : Fin 1024) : ff0 i x0 x1 x2 x4 W0 W1 (ix2 r k) = Ffn.ff (tokRow i x0 x1 r) (mat x2 r) (mat W0) (mat x4 0) (mat W1) (pos 0 k) := by
  unfold ff0 k0_pay12
  pointwise
  show max (act0 i x0 x1 x2 x4 W0 W1 (ix2 r k)) _ * max (act0 i x0 x1 x2 x4 W0 W1 (ix2 r k)) _ = _
  rw [act0_read]
  rfl

theorem ff1_read (r : Fin 256) (k : Fin 1024) : ff1 i x0 x1 x2 x4 W0 W1 (ix2 r k) = Ffn.ff (tokRow i x0 x1 r) (mat x2 r) (mat W0) (mat x4 0) (mat W1) (pos 1 k) := by
  unfold ff1 k0_pay15
  pointwise
  show max (act1 i x0 x1 x2 x4 W0 W1 (ix2 r k)) _ * max (act1 i x0 x1 x2 x4 W0 W1 (ix2 r k)) _ = _
  rw [act1_read]
  rfl

theorem ff2_read (r : Fin 256) (k : Fin 1024) : ff2 i x0 x1 x2 x4 W0 W1 (ix2 r k) = Ffn.ff (tokRow i x0 x1 r) (mat x2 r) (mat W0) (mat x4 0) (mat W1) (pos 2 k) := by
  unfold ff2 k0_pay19
  pointwise
  show max (act2 i x0 x1 x2 x4 W0 W1 (ix2 r k)) _ * max (act2 i x0 x1 x2 x4 W0 W1 (ix2 r k)) _ = _
  rw [act2_read]
  rfl

theorem ff3_read (r : Fin 256) (k : Fin 1024) : ff3 i x0 x1 x2 x4 W0 W1 (ix2 r k) = Ffn.ff (tokRow i x0 x1 r) (mat x2 r) (mat W0) (mat x4 0) (mat W1) (pos 3 k) := by
  unfold ff3 k0_pay22
  pointwise
  show max (act3 i x0 x1 x2 x4 W0 W1 (ix2 r k)) _ * max (act3 i x0 x1 x2 x4 W0 W1 (ix2 r k)) _ = _
  rw [act3_read]
  rfl

theorem mid_read (r : Fin 256) (k : Fin 1024) : mid i x0 x1 x2 x4 W0 W1 W2 (ix2 r k) = Ffn.hid (tokRow i x0 x1 r) (mat x2 r) (mat W0) k + ∑ l, Ffn.ff (tokRow i x0 x1 r) (mat x2 r) (mat W0) (mat x4 0) (mat W1) (pos 0 l) * mat W2 (pos 0 l) k + ∑ l, Ffn.ff (tokRow i x0 x1 r) (mat x2 r) (mat W0) (mat x4 0) (mat W1) (pos 1 l) * mat W2 (pos 1 l) k := by
  unfold mid k0_pay16 k0_pay12 k0_pay15
  pointwise
  show hid i x0 x1 x2 W0 (ix2 r k) + ∑ l, (max (act0 i x0 x1 x2 x4 W0 W1 (ix2 r l)) 0 * max (act0 i x0 x1 x2 x4 W0 W1 (ix2 r l)) 0) * row0 W2 (ix2 l k) + ∑ l, (max (act1 i x0 x1 x2 x4 W0 W1 (ix2 r l)) 0 * max (act1 i x0 x1 x2 x4 W0 W1 (ix2 r l)) 0) * row1 W2 (ix2 l k) = _
  simp only [hid_read, act0_read, act1_read, row0_read, row1_read]
  rfl

theorem res_read (r : Fin 256) (k : Fin 1024) : res i x0 x1 x2 x4 W0 W1 W2 (ix2 r k) = Ffn.res (tokRow i x0 x1 r) (mat x2 r) (mat W0) (mat x4 0) (mat W1) (mat W2) k := by
  unfold res k0_pay23
  pointwise
  show mid i x0 x1 x2 x4 W0 W1 W2 (ix2 r k) + ∑ l, ff2 i x0 x1 x2 x4 W0 W1 (ix2 r l) * row2 W2 (ix2 l k) + ∑ l, ff3 i x0 x1 x2 x4 W0 W1 (ix2 r l) * row3 W2 (ix2 l k) = _
  simp only [mid_read, ff2_read, ff3_read, row2_read, row3_read]
  rw [Ffn.res, sum_pos]
  simp only [add_assoc]

theorem resR_read (r : Fin 256) (z : Fin 1) : resR i x0 x1 x2 x4 W0 W1 W2 (ix2 r z) = Ffn.rms (Ffn.res (tokRow i x0 x1 r) (mat x2 r) (mat W0) (mat x4 0) (mat W1) (mat W2)) := by
  unfold resR k0_pay24
  pointwise
  show Ideal.rsqrt (Ideal.div (∑ l, res i x0 x1 x2 x4 W0 W1 W2 (ix2 r l) * res i x0 x1 x2 x4 W0 W1 W2 (ix2 r l)) Ffn.width + Ffn.eps) = _
  simp only [res_read]
  rfl

theorem resN_read (r : Fin 256) (k : Fin 1024) : resN i x0 x1 x2 x4 W0 W1 W2 (ix2 r k) = Ffn.resN (tokRow i x0 x1 r) (mat x2 r) (mat W0) (mat x4 0) (mat W1) (mat W2) k := by
  unfold resN k0_pay25
  pointwise
  show res i x0 x1 x2 x4 W0 W1 W2 (ix2 r k) * resR i x0 x1 x2 x4 W0 W1 W2 (ix2 r 0) = _
  rw [res_read, resR_read]
  rfl

theorem err_read (r : Fin 256) (k : Fin 1024) : err i x0 x1 x2 x3 x4 x5 W0 W1 W2 (ix2 r k) = Ffn.err (tokRow i x0 x1 r) (mat x2 r) (mat x3 r) (mat W0) (mat x4 0) (mat x5 0) (mat W1) (mat W2) k := by
  unfold err k0_pay26
  pointwise
  show resN i x0 x1 x2 x4 W0 W1 W2 (ix2 r k) * x5 (ix2 0 k) - x3 (ix2 r k) = _
  rw [resN_read]
  rfl

/-- The gradient at the output, by rows. -/
theorem dout_read (r : Fin 256) (k : Fin 1024) :
    k0_pay29 (err i x0 x1 x2 x3 x4 x5 W0 W1 W2) (tok i) (ix2 r k) = Ffn.dout (tokRow i x0 x1 r) (mat x2 r) (mat x3 r) (tok (F := Ideal) i) (mat W0) (mat x4 0) (mat x5 0) (mat W1) (mat W2) k := by
  unfold k0_pay29
  pointwise
  rw [err_read]
  rfl

theorem dres_read (r : Fin 256) (k : Fin 1024) : dres i x0 x1 x2 x3 x4 x5 W0 W1 W2 (ix2 r k) = Ffn.dres (tokRow i x0 x1 r) (mat x2 r) (mat x3 r) (tok (F := Ideal) i) (mat W0) (mat x4 0) (mat x5 0) (mat W1) (mat W2) k := by
  unfold dres k0_pay31
  pointwise
  simp only [dout_read, resN_read, resR_read]
  rfl

theorem dresm_read (r : Fin 256) (k : Fin 1024) : dresm i x0 x1 x2 x3 x4 x5 W0 W1 W2 (ix2 r k) = Ffn.dres (tokRow i x0 x1 r) (mat x2 r) (mat x3 r) (tok (F := Ideal) i) (mat W0) (mat x4 0) (mat x5 0) (mat W1) (mat W2) k := by
  unfold dresm k0_pay32
  pointwise
  exact dres_read i x0 x1 x2 x3 x4 x5 W0 W1 W2 r k

theorem dff2_read (r : Fin 256) (k : Fin 1024) : dff2 i x0 x1 x2 x3 x4 x5 W0 W1 W2 (ix2 r k) = ∑ l, Ffn.dres (tokRow i x0 x1 r) (mat x2 r) (mat x3 r) (tok (F := Ideal) i) (mat W0) (mat x4 0) (mat x5 0) (mat W1) (mat W2) l * mat W2 (pos 2 k) l := by
  unfold dff2 k0_pay36
  pointwise
  simp only [dresm_read, row2_read]

theorem da0_read (r : Fin 256) (k : Fin 1024) : da0 i x0 x1 x2 x3 x4 x5 W0 W1 W2 (ix2 r k) = Ffn.da (tokRow i x0 x1 r) (mat x2 r) (mat x3 r) (tok (F := Ideal) i) (mat W0) (mat x4 0) (mat x5 0) (mat W1) (mat W2) (pos 0 k) := by
  unfold da0 k0_pay33
  pointwise
  simp only [dresm_read, row0_read, act0_read]
  rfl

theorem da1_read (r : Fin 256) (k : Fin 1024) : da1 i x0 x1 x2 x3 x4 x5 W0 W1 W2 (ix2 r k) = Ffn.da (tokRow i x0 x1 r) (mat x2 r) (mat x3 r) (tok (F := Ideal) i) (mat W0) (mat x4 0) (mat x5 0) (mat W1) (mat W2) (pos 1 k) := by
  unfold da1 k0_pay34
  pointwise
  simp only [dresm_read, row1_read, act1_read]
  rfl

theorem da2_read (r : Fin 256) (k : Fin 1024) : da2 i x0 x1 x2 x3 x4 x5 W0 W1 W2 (ix2 r k) = Ffn.da (tokRow i x0 x1 r) (mat x2 r) (mat x3 r) (tok (F := Ideal) i) (mat W0) (mat x4 0) (mat x5 0) (mat W1) (mat W2) (pos 2 k) := by
  unfold da2 k0_pay37
  pointwise
  simp only [dff2_read, act2_read]
  rfl

theorem da3_read (r : Fin 256) (k : Fin 1024) : da3 i x0 x1 x2 x3 x4 x5 W0 W1 W2 (ix2 r k) = Ffn.da (tokRow i x0 x1 r) (mat x2 r) (mat x3 r) (tok (F := Ideal) i) (mat W0) (mat x4 0) (mat x5 0) (mat W1) (mat W2) (pos 3 k) := by
  unfold da3 k0_pay38
  pointwise
  simp only [dresm_read, row3_read, act3_read]
  rfl

theorem dhnA_read (r : Fin 256) (k : Fin 1024) : dhnA i x0 x1 x2 x3 x4 x5 W0 W1 W2 (ix2 r k) = ∑ l, Ffn.da (tokRow i x0 x1 r) (mat x2 r) (mat x3 r) (tok (F := Ideal) i) (mat W0) (mat x4 0) (mat x5 0) (mat W1) (mat W2) (pos 0 l) * mat W1 k (pos 0 l) + ∑ l, Ffn.da (tokRow i x0 x1 r) (mat x2 r) (mat x3 r) (tok (F := Ideal) i) (mat W0) (mat x4 0) (mat x5 0) (mat W1) (mat W2) (pos 1 l) * mat W1 k (pos 1 l) := by
  unfold dhnA k0_pay35
  pointwise
  show ∑ l, da0 i x0 x1 x2 x3 x4 x5 W0 W1 W2 (ix2 r l) * col0 W1 (ix2 k l) + ∑ l, da1 i x0 x1 x2 x3 x4 x5 W0 W1 W2 (ix2 r l) * col1 W1 (ix2 k l) = _
  simp only [da0_read, da1_read, col0_read, col1_read]

theorem dhn_read (r : Fin 256) (k : Fin 1024) : dhn i x0 x1 x2 x3 x4 x5 W0 W1 W2 (ix2 r k) = Ffn.dhn (tokRow i x0 x1 r) (mat x2 r) (mat x3 r) (tok (F := Ideal) i) (mat W0) (mat x4 0) (mat x5 0) (mat W1) (mat W2) k := by
  unfold dhn k0_pay39
  pointwise
  show dhnA i x0 x1 x2 x3 x4 x5 W0 W1 W2 (ix2 r k) + ∑ l, da2 i x0 x1 x2 x3 x4 x5 W0 W1 W2 (ix2 r l) * col2 W1 (ix2 k l) + ∑ l, da3 i x0 x1 x2 x3 x4 x5 W0 W1 W2 (ix2 r l) * col3 W1 (ix2 k l) = _
  simp only [dhnA_read, da2_read, da3_read, col2_read, col3_read]
  rw [Ffn.dhn, sum_pos]

theorem dhid_read (r : Fin 256) (k : Fin 1024) : dhid i x0 x1 x2 x3 x4 x5 W0 W1 W2 (ix2 r k) = Ffn.dhid (tokRow i x0 x1 r) (mat x2 r) (mat x3 r) (tok (F := Ideal) i) (mat W0) (mat x4 0) (mat x5 0) (mat W1) (mat W2) k := by
  unfold dhid k0_pay1 k0_pay41
  pointwise
  simp only [dres_read, hidR_read, hidN_read, dhn_read]
  rfl

theorem dmix_read (r : Fin 256) (e : Fin 2048) : dmix i x0 x1 x2 x3 x4 x5 W0 W1 W2 (ix2 r e) = Ffn.dmix (tokRow i x0 x1 r) (mat x2 r) (mat x3 r) (tok (F := Ideal) i) (mat W0) (mat x4 0) (mat x5 0) (mat W1) (mat W2) e := by
  unfold dmix k0_pay2
  pointwise
  show ∑ l, dhid i x0 x1 x2 x3 x4 x5 W0 W1 W2 (ix2 r l) * W0 (ix2 e l) = _
  simp only [dhid_read]
  rfl

/-- The loss accumulator's step: half the tile's rows' parts. -/
theorem lossStep_read (old : Vec Ideal S1x128 .f32) (k : Fin 128) :
    lossStep i x0 x1 x2 x3 x4 x5 W0 W1 W2 old (ix2 0 k) = old (ix2 0 k) + Ffn.half * ∑ r : Fin 256, Ffn.rowLoss (tokRow i x0 x1 r) (mat x2 r) (mat x3 r) (tok (F := Ideal) i) (mat W0) (mat x4 0) (mat x5 0) (mat W1) (mat W2) := by
  unfold lossStep k0_pay28
  pointwise
  simp only [err_read, Fin.sum_univ_one]
  rfl

/-- The last normalisation weight's gradient: the tile's rows' parts are added. -/
theorem gwfStep_read (old : Vec Ideal S1x1024 .f32) (k : Fin 1024) :
    gwfStep i x0 x1 x2 x3 x4 x5 W0 W1 W2 old (ix2 0 k) = old (ix2 0 k) + ∑ r : Fin 256, Ffn.gwf (tokRow i x0 x1 r) (mat x2 r) (mat x3 r) (tok (F := Ideal) i) (mat W0) (mat x4 0) (mat x5 0) (mat W1) (mat W2) k := by
  unfold gwfStep k0_pay30
  pointwise
  simp only [dout_read, resN_read]
  rfl

/-- The feed-forward normalisation weight's gradient likewise. -/
theorem gw2Step_read (old : Vec Ideal S1x1024 .f32) (k : Fin 1024) :
    gw2Step i x0 x1 x2 x3 x4 x5 W0 W1 W2 old (ix2 0 k) = old (ix2 0 k) + ∑ r : Fin 256, Ffn.gw2 (tokRow i x0 x1 r) (mat x2 r) (mat x3 r) (tok (F := Ideal) i) (mat W0) (mat x4 0) (mat x5 0) (mat W1) (mat W2) k := by
  unfold gw2Step k0_pay40
  pointwise
  show old (ix2 0 k) + ∑ r : Fin 256, dhn i x0 x1 x2 x3 x4 x5 W0 W1 W2 (ix2 r k) * hidN i x0 x1 x2 W0 (ix2 r k) = _
  simp only [dhn_read, hidN_read]
  rfl

end Cert.KernelIdeal.Tile
-- ==== Proof.Rows.lean ====
/-
  The step over all rows: 8192 token rows followed by 256 lead rows, in 33 tiles of 256.
-/
module

public import proofs.«01_k».proof.Proof.Spec
public import Idealize.ShloMosaic.Lib.Pointwise

@[expose] public section

noncomputable section

namespace Cert.Ffn

open Idealize.ShloMosaic

variable (X : Fin 8192 → Fin 1024 → EReal) (L : Fin 256 → Fin 1024 → EReal) (T : Fin 8192 → Fin 1024 → EReal)

/-- The residual stream: the token rows, then the lead rows. -/
def rowX (l : Fin 8448) : Fin 1024 → EReal :=
  if h : l.val < 8192 then X ⟨l.val, h⟩ else L ⟨l.val - 8192, by have := l.isLt; omega⟩
/-- The target a row is compared with. A lead row's is the last tile's; it does not count (`tokOf`). -/
def rowT (l : Fin 8448) : Fin 1024 → EReal :=
  if h : l.val < 8192 then T ⟨l.val, h⟩ else T ⟨l.val - 256, by have := l.isLt; omega⟩
/-- One on a token row, zero on a lead row. -/
def tokOf (l : Fin 8448) : EReal := if l.val < 8192 then 1 else 0

/-- Row `r` of tile `n`. -/
def rowAt (n : ℕ) (h : n < 33) (r : Fin 256) : Fin 8448 := ⟨n * 256 + r.val, by have := r.isLt; omega⟩

/-- A sum over all rows is the sum over the tiles of the sums over their rows. -/
theorem sum_rows (f : Fin 8448 → EReal) : ∑ l, f l = ∑ n : Fin 33, ∑ r : Fin 256, f (rowAt n.val n.isLt r) :=
  Fin.sum_univ_tiles 33 256 rfl f

/-- The running sum over the first tiles. -/
def upTo (f : Fin 8448 → EReal) : (n : ℕ) → n < 33 → EReal
  | 0, h => ∑ r : Fin 256, f (rowAt 0 h r)
  | n + 1, h => upTo f n (Nat.lt_of_succ_lt h) + ∑ r : Fin 256, f (rowAt (n + 1) h r)

theorem upTo_eq (f : Fin 8448 → EReal) : ∀ (n : ℕ) (h : n < 33),
    upTo f n h = ∑ j : Fin (n + 1), ∑ r : Fin 256, f (rowAt j.val (by have := j.isLt; omega) r)
  | 0, h => by simp [upTo]
  | n + 1, h => by
    rw [Fin.sum_univ_castSucc, upTo, upTo_eq f n]
    rfl

/-- After the last tile it is the sum over all rows. -/
theorem upTo_last (f : Fin 8448 → EReal) : upTo f 32 (by omega) = ∑ l, f l := by
  rw [upTo_eq, sum_rows]

theorem upTo_of_last (f : Fin 8448 → EReal) (n : ℕ) (h : n < 33) (e : n = 32) : upTo f n h = ∑ l, f l := by
  subst e
  exact upTo_last f

end Cert.Ffn
-- ==== Proof.Blocks.lean ====
/-
  A tile's input blocks, as rows of the arrays the call is given.
-/
module

public import proofs.«01_k».proof.Proof.Grid
public import proofs.«01_k».proof.Proof.TileRead
public import proofs.«01_k».proof.Proof.Rows

@[expose] public section

set_option maxRecDepth 16384

noncomputable section

open Idealize.ShloMosaic Idealize.ShloMosaic.TcCoe Idealize.SL.Sem
open Idealize.ShloMosaic.Pipeline (Dat)

namespace Cert.KernelIdeal.Tile

open Cert.KernelIdeal Cert.KernelIdeal.Gen

variable (m : (ℓ : Loc nD τ sig) → Buf (Elt Ideal) ℓ) (c : Dev nD)

/-- The arrays the call is given. -/
def inX : Fin 8192 → Fin 1024 → EReal := mat (m ((c : Thread nD τ).loc main_arg0))
def inL : Fin 256 → Fin 1024 → EReal := mat (m ((c : Thread nD τ).loc main_arg1))
def inY : Fin 8448 → Fin 2048 → EReal := mat (m ((c : Thread nD τ).loc main_arg2))
def inT : Fin 8192 → Fin 1024 → EReal := mat (m ((c : Thread nD τ).loc main_arg3))
def inWo : Fin 2048 → Fin 1024 → EReal := mat (m ((c : Thread nD τ).loc main_arg4))
def inN2 : Fin 1024 → EReal := mat (a := 1) (m ((c : Thread nD τ).loc main_arg5)) 0
def inW1 : Fin 1024 → Fin 4096 → EReal := mat (m ((c : Thread nD τ).loc main_arg6))
def inW2 : Fin 4096 → Fin 1024 → EReal := mat (m ((c : Thread nD τ).loc main_arg7))
def inNf : Fin 1024 → EReal := mat (a := 1) (m ((c : Thread nD τ).loc main_arg8)) 0

theorem lt33 (t : Fin cfg0.N) : t.val < 33 := lt_of_lt_of_eq t.isLt N_0

theorem coord_eq : ∀ t : Fin grid0.N, (grid0.coords t 0).val = t.val := by decide +kernel
theorem isLead_iff : ∀ t : Fin grid0.N, Scalar.cmpi CmpIPredicate.eq (BitVec.ofNat 32 (grid0.coords t 0).val) 32#32 = 1#1 ↔ t.val = 32 := by decide +kernel

theorem ix0 : ∀ t : Fin grid0.N, win0_0.index t 0 = min t.val 31 ∧ win0_0.index t 1 = 0 := by decide +kernel
theorem ix1 : ∀ t : Fin grid0.N, win0_1.index t 0 = 0 ∧ win0_1.index t 1 = 0 := by decide +kernel
theorem ix2' : ∀ t : Fin grid0.N, win0_2.index t 0 = t.val ∧ win0_2.index t 1 = 0 := by decide +kernel
theorem ix3 : ∀ t : Fin grid0.N, win0_3.index t 0 = min t.val 31 ∧ win0_3.index t 1 = 0 := by decide +kernel
theorem ix4 : ∀ t : Fin grid0.N, win0_4.index t 0 = 0 ∧ win0_4.index t 1 = 0 := by decide +kernel
theorem ix5 : ∀ t : Fin grid0.N, win0_5.index t 0 = 0 ∧ win0_5.index t 1 = 0 := by decide +kernel

variable (t : Fin cfg0.N)

theorem blk0 (r : Fin 256) (k : Fin 1024) : mat (a := 256) (b := 1024) (iblk m c 0 t) r k
    = inX m c ⟨min t.val 31 * 256 + r.val, by have := lt33 t; have := r.isLt; omega⟩ k := by
  unfold mat iblk inX
  rw [View.read_apply]
  show V m c main_arg0 _ = m (c.tc.loc main_arg0) _
  unfold V
  congr 1
  funext a
  apply Fin.ext
  match a with
  | ⟨0, _⟩ => show win0_0.index t 0 * 256 + 1 * r.val = min t.val 31 * 256 + r.val; rw [(ix0 t).1]; omega
  | ⟨1, _⟩ => show win0_0.index t 1 * 1024 + 1 * k.val = k.val; rw [(ix0 t).2]; omega

theorem blk1 (r : Fin 256) (k : Fin 1024) : mat (a := 256) (b := 1024) (iblk m c 1 t) r k = inL m c r k := by
  unfold mat iblk inL
  rw [View.read_apply]
  show V m c main_arg1 _ = m (c.tc.loc main_arg1) _
  unfold V
  congr 1
  funext a
  apply Fin.ext
  match a with
  | ⟨0, _⟩ => show win0_1.index t 0 * 256 + 1 * r.val = r.val; rw [(ix1 t).1]; omega
  | ⟨1, _⟩ => show win0_1.index t 1 * 1024 + 1 * k.val = k.val; rw [(ix1 t).2]; omega

theorem blk2 (r : Fin 256) : mat (a := 256) (b := 2048) (iblk m c 2 t) r = inY m c (Ffn.rowAt t.val (lt33 t) r) := by
  funext k
  unfold mat iblk inY
  rw [View.read_apply]
  show V m c main_arg2 _ = m (c.tc.loc main_arg2) _
  unfold V
  congr 1
  funext a
  apply Fin.ext
  match a with
  | ⟨0, _⟩ => show win0_2.index t 0 * 256 + 1 * r.val = t.val * 256 + r.val; rw [(ix2' t).1]; omega
  | ⟨1, _⟩ => show win0_2.index t 1 * 2048 + 1 * k.val = k.val; rw [(ix2' t).2]; omega

theorem blk3 (r : Fin 256) : mat (a := 256) (b := 1024) (iblk m c 3 t) r
    = Ffn.rowT (inT m c) (Ffn.rowAt t.val (lt33 t) r) := by
  have e : Ffn.rowT (inT m c) (Ffn.rowAt t.val (lt33 t) r)
      = inT m c ⟨min t.val 31 * 256 + r.val, by have := lt33 t; have := r.isLt; omega⟩ := by
    have := lt33 t
    have := r.isLt
    unfold Ffn.rowT
    split_ifs with h <;> refine congrArg _ (Fin.ext ?_) <;> simp only [Ffn.rowAt] at h ⊢ <;> omega
  rw [e]
  funext k
  unfold mat iblk inT
  rw [View.read_apply]
  show V m c main_arg3 _ = m (c.tc.loc main_arg3) _
  unfold V
  congr 1
  funext a
  apply Fin.ext
  match a with
  | ⟨0, _⟩ => show win0_3.index t 0 * 256 + 1 * r.val = min t.val 31 * 256 + r.val; rw [(ix3 t).1]; omega
  | ⟨1, _⟩ => show win0_3.index t 1 * 1024 + 1 * k.val = k.val; rw [(ix3 t).2]; omega

theorem blk4 : mat (a := 1) (b := 1024) (iblk m c 4 t) 0 = inN2 m c := by
  funext k
  unfold mat iblk inN2
  rw [View.read_apply]
  show V m c main_arg5 _ = m (c.tc.loc main_arg5) _
  unfold V
  congr 1
  funext a
  apply Fin.ext
  match a with
  | ⟨0, _⟩ => show win0_4.index t 0 * 1 + 1 * 0 = 0; rw [(ix4 t).1]
  | ⟨1, _⟩ => show win0_4.index t 1 * 1024 + 1 * k.val = k.val; rw [(ix4 t).2]; omega

theorem blk5 : mat (a := 1) (b := 1024) (iblk m c 5 t) 0 = inNf m c := by
  funext k
  unfold mat iblk inNf
  rw [View.read_apply]
  show V m c main_arg8 _ = m (c.tc.loc main_arg8) _
  unfold V
  congr 1
  funext a
  apply Fin.ext
  match a with
  | ⟨0, _⟩ => show win0_5.index t 0 * 1 + 1 * 0 = 0; rw [(ix5 t).1]
  | ⟨1, _⟩ => show win0_5.index t 1 * 1024 + 1 * k.val = k.val; rw [(ix5 t).2]; omega

theorem wOut_eq : mat (a := 2048) (b := 1024) (wOut m c) = inWo m c := rfl
theorem wUp_eq : mat (a := 1024) (b := 4096) (wUp m c) = inW1 m c := rfl
theorem wDown_eq : mat (a := 4096) (b := 1024) (wDown m c) = inW2 m c := rfl

/-- The row a tile starts from is the token row, or on the last tile the lead row. -/
theorem tokRow_eq (r : Fin 256) : tokRow (grid0.coords t) (iblk m c 0 t) (iblk m c 1 t) r
    = Ffn.rowX (inX m c) (inL m c) (Ffn.rowAt t.val (lt33 t) r) := by
  have h33 := lt33 t
  have hr := r.isLt
  funext k
  have e0 := blk0 m c t r k
  have e1 := blk1 m c t r k
  unfold tokRow
  by_cases h : t.val = 32
  · have hl := (isLead_iff t).mpr h
    refine Eq.trans (show _ = mat (a := 256) (b := 1024) (iblk m c 1 t) r k from ?_) (e1.trans ?_)
    · exact if_pos hl
    · unfold Ffn.rowX
      rw [dif_neg (by simp only [Ffn.rowAt]; omega)]
      exact congrArg (inL m c · k) (Fin.ext (by simp only [Ffn.rowAt]; omega))
  · have hl : ¬ _ := fun e => h ((isLead_iff t).mp e)
    refine Eq.trans (show _ = mat (a := 256) (b := 1024) (iblk m c 0 t) r k from ?_) (e0.trans ?_)
    · exact if_neg hl
    · unfold Ffn.rowX
      rw [dif_pos (by simp only [Ffn.rowAt]; omega)]
      exact congrArg (inX m c · k) (Fin.ext (by simp only [Ffn.rowAt]; omega))

theorem tokBits : ∀ t : Fin grid0.N, (Scalar.extui (Scalar.cmpi .slt (BitVec.ofNat 32 (grid0.coords t 0).val) 32#32) : BitVec 32)
    = if t.val < 32 then 1#32 else 0#32 := by decide +kernel

theorem tok_eq (r : Fin 256) : tok (F := Ideal) (grid0.coords t) = Ffn.tokOf (Ffn.rowAt t.val (lt33 t) r) := by
  have h33 := lt33 t
  have hr := r.isLt
  unfold tok k0_pay27 Ffn.tokOf
  dsimp only
  rw [tokBits t]
  by_cases h : t.val < 32
  · rw [if_pos h, if_pos (by simp only [Ffn.rowAt]; omega)]
    show (((1#32 : BitVec 32).toInt : ℝ) : EReal) = 1
    simp
  · rw [if_neg h, if_neg (by simp only [Ffn.rowAt]; omega)]
    show (((0#32 : BitVec 32).toInt : ℝ) : EReal) = 0
    simp

end Cert.KernelIdeal.Tile
-- ==== Proof.Consts.lean ====
/-
  The constants' values, and the laws of the extended reals that hold because of them.
-/
module

public import proofs.«01_k».proof.Proof.Spec
public import Idealize.ShloMosaic.Lib.Pointwise

@[expose] public section

noncomputable section

namespace Cert.Ffn

open Idealize.ShloMosaic

theorem half_eq : half = ((1 / 2 : ℝ) : EReal) := by
  unfold half
  simp [Ideal.ofBits, Ideal.ieee, -EReal.coe_mul]
  norm_num

theorem two_eq : two = ((2 : ℝ) : EReal) := by
  unfold two
  simp [Ideal.ofBits, Ideal.ieee, -EReal.coe_mul]
  norm_num

theorem width_eq : width = ((1024 : ℝ) : EReal) := by
  unfold width
  simp [Ideal.ofBits, Ideal.ieee, -EReal.coe_mul]
  norm_num

theorem eps_pos : ∃ e : ℝ, 0 < e ∧ eps = (e : EReal) := by
  unfold eps
  refine ⟨_, ?_, by simp [Ideal.ofBits, Ideal.ieee, -EReal.coe_mul]; rfl⟩
  positivity

theorem one_eq : Ideal.ofBits .f32 0x3F800000#32 = 1 := by
  rw [← EReal.coe_one]
  simp [Ideal.ofBits, Ideal.ieee, -EReal.coe_mul, -EReal.coe_one]
  norm_num

theorem neg_half_eq : Ideal.ofBits .f32 0xBF000000#32 = ((-(1 / 2) : ℝ) : EReal) := by
  simp [Ideal.ofBits, Ideal.ieee, -EReal.coe_mul]
  norm_num

/-- Halving distributes over every sum. -/
theorem half_mul_add (a b : EReal) : half * (a + b) = half * a + half * b := by
  rw [half_eq]
  exact EReal.left_distrib_of_nonneg_of_ne_top (by norm_num) (EReal.coe_ne_top _) a b

end Cert.Ffn
-- ==== Proof.Acc.lean ====
/-
  The accumulated outputs: the loss and the two normalisation weights' gradients, summed over all rows.
-/
module

public import proofs.«01_k».proof.Proof.Blocks
public import proofs.«01_k».proof.Proof.Consts

@[expose] public section

set_option maxRecDepth 16384

noncomputable section

open Idealize.ShloMosaic Idealize.ShloMosaic.TcCoe Idealize.SL.Sem
open Idealize.ShloMosaic.Pipeline (Dat)

namespace Cert.KernelIdeal.Tile

open Cert.KernelIdeal Cert.KernelIdeal.Gen

variable (m : (ℓ : Loc nD τ sig) → Buf (Elt Ideal) ℓ) (c : Dev nD)

def rowLoss (l : Fin 8448) : EReal :=
  Ffn.rowLoss (Ffn.rowX (inX m c) (inL m c) l) (inY m c l) (Ffn.rowT (inT m c) l) (Ffn.tokOf l) (inWo m c) (inN2 m c) (inNf m c) (inW1 m c) (inW2 m c)

/-- A tile's part. -/
theorem tileLoss (t : Fin cfg0.N) : (∑ r : Fin 256, Ffn.rowLoss (tokRow (grid0.coords t) (iblk m c 0 t) (iblk m c 1 t) r) (mat (a := 256) (b := 2048) (iblk m c 2 t) r) (mat (a := 256) (b := 1024) (iblk m c 3 t) r) (tok (F := Ideal) (grid0.coords t)) (mat (wOut m c)) (mat (a := 1) (b := 1024) (iblk m c 4 t) 0) (mat (a := 1) (b := 1024) (iblk m c 5 t) 0) (mat (wUp m c)) (mat (wDown m c)))
    = ∑ r : Fin 256, rowLoss m c (Ffn.rowAt t.val (lt33 t) r) := by
  refine Finset.sum_congr rfl fun r _ => ?_
  rw [tokRow_eq, blk2, blk3, blk4, blk5, wOut_eq, wUp_eq, wDown_eq, tok_eq t r]
  rfl

theorem startLoss (k : Fin 128) : (k0_pay3 (F := Ideal)) (ix2 0 k) = 0 := by
  unfold k0_pay3
  pointwise

/-- After point `n` the buffer holds the sum over the first tiles. -/
theorem runLoss (k : Fin 128) : ∀ (n : ℕ) (hn : n < cfg0.N),
    ((outsAt0 m c n hn).1 : Vec Ideal S1x128 .f32) (ix2 0 k) = Ffn.half * Ffn.upTo (rowLoss m c) n (lt_of_lt_of_eq hn N_0)
  | 0, hn => by
    have e := outs_6_first m c ⟨0, hn⟩ rfl
    dsimp only at e
    rw [e]
    refine (lossStep_read (grid0.coords ⟨0, hn⟩) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (wOut m c) (wUp m c) (wDown m c) (k0_pay3 (F := Ideal)) k).trans ?_
    rw [startLoss, zero_add, tileLoss]
    rfl
  | n + 1, hn => by
    have hN : cfg0.N = 33 := N_0
    have h0 : ¬(⟨n + 1, hn⟩ : Fin cfg0.N).val % 33 = 0 := by dsimp only; omega
    have e := outs_6_next m c ⟨n + 1, hn⟩ h0
    dsimp only [Nat.add_sub_cancel] at e
    rw [e]
    refine (lossStep_read (grid0.coords ⟨n + 1, hn⟩) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (wOut m c) (wUp m c) (wDown m c) ((outsAt0 m c n (Nat.lt_of_succ_lt hn)).1) k).trans ?_
    rw [runLoss k n (Nat.lt_of_succ_lt hn), tileLoss]
    rw [← Ffn.half_mul_add]; rfl

/-- The loss: half the sum over all rows, in every lane. -/
def outLoss : S1x128.Idx → EReal := fun j => Ffn.half * ∑ l, rowLoss m c l

theorem finalLoss : (dats m 0 c).arrAt 6 cfg0.N = outLoss m c := by
  have hN : cfg0.N = 33 := N_0
  have hi : ∀ t : Fin grid0.N, win0_6.index t 0 = 0 ∧ win0_6.index t 1 = 0 := by decide +kernel
  refine (dats m 0 c).arrAt_eq_of_cover 6 (outLoss m c) (fun t hf => ?_) fun i => ?_
  · have h32 : t.val = 32 := by have := (flush0_6 t).mp hf; have := t.isLt; omega
    show (cfg0.win 6).cut (grid0.coords t) ((dats m 0 c).after 6 t) = _
    rw [after0_6]
    funext j
    rw [View.read_apply]
    obtain ⟨r, k, rfl⟩ : ∃ (r : Fin 1) (k : Fin 128), j = ix2 r k :=
      ⟨j 0, j 1, funext fun a => by match a with | ⟨0, _⟩ => rfl | ⟨1, _⟩ => rfl⟩
    obtain rfl : r = 0 := Subsingleton.elim _ _
    refine (runLoss m c k t.val t.isLt).trans ?_
    have he : ((cfg0.win 6).blk t).view.emb (ix2 0 k) = ix2 (0 : Fin 1) k := by
      funext a
      apply Fin.ext
      match a with
      | ⟨0, _⟩ => show win0_6.index t 0 * 1 + 1 * 0 = 0; rw [(hi t).1]
      | ⟨1, _⟩ => show win0_6.index t 1 * 128 + 1 * k.val = k.val; rw [(hi t).2]; omega
    rw [he, Ffn.upTo_of_last _ _ _ h32]
    rfl
  · have h0 : (i 0 : Nat) < 1 := (i 0).isLt
    have h1 : (i 1 : Nat) < 128 := (i 1).isLt
    obtain ⟨t, ht⟩ : ∃ t : Fin cfg0.N, t.val = 32 := ⟨⟨32, by omega⟩, rfl⟩
    refine ⟨t, (flush0_6 t).mpr (by omega), ?_⟩
    show i ∈ ((View.whole main_v0_0).slice (win0_6.rect t)).set
    rw [View.set_slice_whole, Rect.mem_set_unit]
    intro a
    match a with
    | ⟨0, _⟩ =>
      show win0_6.index t 0 * 1 ≤ (i 0 : Nat) ∧ (i 0 : Nat) < win0_6.index t 0 * 1 + 1
      rw [(hi t).1]; omega
    | ⟨1, _⟩ =>
      show win0_6.index t 1 * 128 ≤ (i 1 : Nat) ∧ (i 1 : Nat) < win0_6.index t 1 * 128 + 128
      rw [(hi t).2]; omega

def rowGwf (k : Fin 1024) (l : Fin 8448) : EReal :=
  Ffn.gwf (Ffn.rowX (inX m c) (inL m c) l) (inY m c l) (Ffn.rowT (inT m c) l) (Ffn.tokOf l) (inWo m c) (inN2 m c) (inNf m c) (inW1 m c) (inW2 m c) k

/-- A tile's part. -/
theorem tileGwf (t : Fin cfg0.N) (k : Fin 1024) : (∑ r : Fin 256, Ffn.gwf (tokRow (grid0.coords t) (iblk m c 0 t) (iblk m c 1 t) r) (mat (a := 256) (b := 2048) (iblk m c 2 t) r) (mat (a := 256) (b := 1024) (iblk m c 3 t) r) (tok (F := Ideal) (grid0.coords t)) (mat (wOut m c)) (mat (a := 1) (b := 1024) (iblk m c 4 t) 0) (mat (a := 1) (b := 1024) (iblk m c 5 t) 0) (mat (wUp m c)) (mat (wDown m c)) k)
    = ∑ r : Fin 256, rowGwf m c k (Ffn.rowAt t.val (lt33 t) r) := by
  refine Finset.sum_congr rfl fun r _ => ?_
  rw [tokRow_eq, blk2, blk3, blk4, blk5, wOut_eq, wUp_eq, wDown_eq, tok_eq t r]
  rfl

theorem startGwf (k : Fin 1024) : (k0_pay4 (F := Ideal)) (ix2 0 k) = 0 := by
  unfold k0_pay4
  pointwise

/-- After point `n` the buffer holds the sum over the first tiles. -/
theorem runGwf (k : Fin 1024) : ∀ (n : ℕ) (hn : n < cfg0.N),
    ((outsAt0 m c n hn).2.1 : Vec Ideal S1x1024 .f32) (ix2 0 k) = Ffn.upTo (rowGwf m c k) n (lt_of_lt_of_eq hn N_0)
  | 0, hn => by
    have e := outs_7_first m c ⟨0, hn⟩ rfl
    dsimp only at e
    rw [e]
    refine (gwfStep_read (grid0.coords ⟨0, hn⟩) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (wOut m c) (wUp m c) (wDown m c) (k0_pay4 (F := Ideal)) k).trans ?_
    rw [startGwf, zero_add, tileGwf]
    rfl
  | n + 1, hn => by
    have hN : cfg0.N = 33 := N_0
    have h0 : ¬(⟨n + 1, hn⟩ : Fin cfg0.N).val % 33 = 0 := by dsimp only; omega
    have e := outs_7_next m c ⟨n + 1, hn⟩ h0
    dsimp only [Nat.add_sub_cancel] at e
    rw [e]
    refine (gwfStep_read (grid0.coords ⟨n + 1, hn⟩) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (wOut m c) (wUp m c) (wDown m c) ((outsAt0 m c n (Nat.lt_of_succ_lt hn)).2.1) k).trans ?_
    rw [runGwf k n (Nat.lt_of_succ_lt hn), tileGwf]
    rfl

/-- The last normalisation weight's gradient. -/
def outGwf : S1x1024.Idx → EReal := fun j => ∑ l, rowGwf m c (j 1) l

theorem finalGwf : (dats m 0 c).arrAt 7 cfg0.N = outGwf m c := by
  have hN : cfg0.N = 33 := N_0
  have hi : ∀ t : Fin grid0.N, win0_7.index t 0 = 0 ∧ win0_7.index t 1 = 0 := by decide +kernel
  refine (dats m 0 c).arrAt_eq_of_cover 7 (outGwf m c) (fun t hf => ?_) fun i => ?_
  · have h32 : t.val = 32 := by have := (flush0_7 t).mp hf; have := t.isLt; omega
    show (cfg0.win 7).cut (grid0.coords t) ((dats m 0 c).after 7 t) = _
    rw [after0_7]
    funext j
    rw [View.read_apply]
    obtain ⟨r, k, rfl⟩ : ∃ (r : Fin 1) (k : Fin 1024), j = ix2 r k :=
      ⟨j 0, j 1, funext fun a => by match a with | ⟨0, _⟩ => rfl | ⟨1, _⟩ => rfl⟩
    obtain rfl : r = 0 := Subsingleton.elim _ _
    refine (runGwf m c k t.val t.isLt).trans ?_
    have he : ((cfg0.win 7).blk t).view.emb (ix2 0 k) = ix2 (0 : Fin 1) k := by
      funext a
      apply Fin.ext
      match a with
      | ⟨0, _⟩ => show win0_7.index t 0 * 1 + 1 * 0 = 0; rw [(hi t).1]
      | ⟨1, _⟩ => show win0_7.index t 1 * 1024 + 1 * k.val = k.val; rw [(hi t).2]; omega
    rw [he, Ffn.upTo_of_last _ _ _ h32]
    rfl
  · have h0 : (i 0 : Nat) < 1 := (i 0).isLt
    have h1 : (i 1 : Nat) < 1024 := (i 1).isLt
    obtain ⟨t, ht⟩ : ∃ t : Fin cfg0.N, t.val = 32 := ⟨⟨32, by omega⟩, rfl⟩
    refine ⟨t, (flush0_7 t).mpr (by omega), ?_⟩
    show i ∈ ((View.whole main_v0_1).slice (win0_7.rect t)).set
    rw [View.set_slice_whole, Rect.mem_set_unit]
    intro a
    match a with
    | ⟨0, _⟩ =>
      show win0_7.index t 0 * 1 ≤ (i 0 : Nat) ∧ (i 0 : Nat) < win0_7.index t 0 * 1 + 1
      rw [(hi t).1]; omega
    | ⟨1, _⟩ =>
      show win0_7.index t 1 * 1024 ≤ (i 1 : Nat) ∧ (i 1 : Nat) < win0_7.index t 1 * 1024 + 1024
      rw [(hi t).2]; omega

def rowGw2 (k : Fin 1024) (l : Fin 8448) : EReal :=
  Ffn.gw2 (Ffn.rowX (inX m c) (inL m c) l) (inY m c l) (Ffn.rowT (inT m c) l) (Ffn.tokOf l) (inWo m c) (inN2 m c) (inNf m c) (inW1 m c) (inW2 m c) k

/-- A tile's part. -/
theorem tileGw2 (t : Fin cfg0.N) (k : Fin 1024) : (∑ r : Fin 256, Ffn.gw2 (tokRow (grid0.coords t) (iblk m c 0 t) (iblk m c 1 t) r) (mat (a := 256) (b := 2048) (iblk m c 2 t) r) (mat (a := 256) (b := 1024) (iblk m c 3 t) r) (tok (F := Ideal) (grid0.coords t)) (mat (wOut m c)) (mat (a := 1) (b := 1024) (iblk m c 4 t) 0) (mat (a := 1) (b := 1024) (iblk m c 5 t) 0) (mat (wUp m c)) (mat (wDown m c)) k)
    = ∑ r : Fin 256, rowGw2 m c k (Ffn.rowAt t.val (lt33 t) r) := by
  refine Finset.sum_congr rfl fun r _ => ?_
  rw [tokRow_eq, blk2, blk3, blk4, blk5, wOut_eq, wUp_eq, wDown_eq, tok_eq t r]
  rfl

theorem startGw2 (k : Fin 1024) : (k0_pay5 (F := Ideal)) (ix2 0 k) = 0 := by
  unfold k0_pay5
  pointwise

/-- After point `n` the buffer holds the sum over the first tiles. -/
theorem runGw2 (k : Fin 1024) : ∀ (n : ℕ) (hn : n < cfg0.N),
    ((outsAt0 m c n hn).2.2.1 : Vec Ideal S1x1024 .f32) (ix2 0 k) = Ffn.upTo (rowGw2 m c k) n (lt_of_lt_of_eq hn N_0)
  | 0, hn => by
    have e := outs_8_first m c ⟨0, hn⟩ rfl
    dsimp only at e
    rw [e]
    refine (gw2Step_read (grid0.coords ⟨0, hn⟩) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (wOut m c) (wUp m c) (wDown m c) (k0_pay5 (F := Ideal)) k).trans ?_
    rw [startGw2, zero_add, tileGw2]
    rfl
  | n + 1, hn => by
    have hN : cfg0.N = 33 := N_0
    have h0 : ¬(⟨n + 1, hn⟩ : Fin cfg0.N).val % 33 = 0 := by dsimp only; omega
    have e := outs_8_next m c ⟨n + 1, hn⟩ h0
    dsimp only [Nat.add_sub_cancel] at e
    rw [e]
    refine (gw2Step_read (grid0.coords ⟨n + 1, hn⟩) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (wOut m c) (wUp m c) (wDown m c) ((outsAt0 m c n (Nat.lt_of_succ_lt hn)).2.2.1) k).trans ?_
    rw [runGw2 k n (Nat.lt_of_succ_lt hn), tileGw2]
    rfl

/-- The feed-forward normalisation weight's gradient. -/
def outGw2 : S1x1024.Idx → EReal := fun j => ∑ l, rowGw2 m c (j 1) l

theorem finalGw2 : (dats m 0 c).arrAt 8 cfg0.N = outGw2 m c := by
  have hN : cfg0.N = 33 := N_0
  have hi : ∀ t : Fin grid0.N, win0_8.index t 0 = 0 ∧ win0_8.index t 1 = 0 := by decide +kernel
  refine (dats m 0 c).arrAt_eq_of_cover 8 (outGw2 m c) (fun t hf => ?_) fun i => ?_
  · have h32 : t.val = 32 := by have := (flush0_8 t).mp hf; have := t.isLt; omega
    show (cfg0.win 8).cut (grid0.coords t) ((dats m 0 c).after 8 t) = _
    rw [after0_8]
    funext j
    rw [View.read_apply]
    obtain ⟨r, k, rfl⟩ : ∃ (r : Fin 1) (k : Fin 1024), j = ix2 r k :=
      ⟨j 0, j 1, funext fun a => by match a with | ⟨0, _⟩ => rfl | ⟨1, _⟩ => rfl⟩
    obtain rfl : r = 0 := Subsingleton.elim _ _
    refine (runGw2 m c k t.val t.isLt).trans ?_
    have he : ((cfg0.win 8).blk t).view.emb (ix2 0 k) = ix2 (0 : Fin 1) k := by
      funext a
      apply Fin.ext
      match a with
      | ⟨0, _⟩ => show win0_8.index t 0 * 1 + 1 * 0 = 0; rw [(hi t).1]
      | ⟨1, _⟩ => show win0_8.index t 1 * 1024 + 1 * k.val = k.val; rw [(hi t).2]; omega
    rw [he, Ffn.upTo_of_last _ _ _ h32]
    rfl
  · have h0 : (i 0 : Nat) < 1 := (i 0).isLt
    have h1 : (i 1 : Nat) < 1024 := (i 1).isLt
    obtain ⟨t, ht⟩ : ∃ t : Fin cfg0.N, t.val = 32 := ⟨⟨32, by omega⟩, rfl⟩
    refine ⟨t, (flush0_8 t).mpr (by omega), ?_⟩
    show i ∈ ((View.whole main_v0_2).slice (win0_8.rect t)).set
    rw [View.set_slice_whole, Rect.mem_set_unit]
    intro a
    match a with
    | ⟨0, _⟩ =>
      show win0_8.index t 0 * 1 ≤ (i 0 : Nat) ∧ (i 0 : Nat) < win0_8.index t 0 * 1 + 1
      rw [(hi t).1]; omega
    | ⟨1, _⟩ =>
      show win0_8.index t 1 * 1024 ≤ (i 1 : Nat) ∧ (i 1 : Nat) < win0_8.index t 1 * 1024 + 1024
      rw [(hi t).2]; omega

end Cert.KernelIdeal.Tile
-- ==== Proof.Out.lean ====
/-
  The row outputs: each ends holding its row function at every row.
-/
module

public import proofs.«01_k».proof.Proof.Blocks

@[expose] public section

set_option maxRecDepth 16384

noncomputable section

open Idealize.ShloMosaic Idealize.ShloMosaic.TcCoe Idealize.SL.Sem
open Idealize.ShloMosaic.Pipeline (Dat)

namespace Cert.KernelIdeal.Tile

open Cert.KernelIdeal Cert.KernelIdeal.Gen

section Pieces

variable (i : grid0.Coords) (x0 x1 : Vec Ideal S256x1024 .f32) (x2 : Vec Ideal S256x2048 .bf16) (x3 : Vec Ideal S256x1024 .f32)
  (x4 x5 : Vec Ideal S1x1024 .f32) (W0 : Vec Ideal S2048x1024 .bf16) (W1 : Vec Ideal S1024x4096 .bf16) (W2 : Vec Ideal S4096x1024 .bf16)

/-- The squared positive parts, stored in four pieces, read at a column. -/
theorem ffPieces_read (r : Fin 256) (f : Fin 4096) :
    View.canon (ffPieces i x0 x1 x2 x4 W0 W1) (ix2 r f) = Ffn.ff (tokRow i x0 x1 r) (mat x2 r) (mat W0) (mat x4 0) (mat W1) f := by
  refine View.canon_apply_of_pieces (Val := Elt Ideal) (S := S256x4096) (e := .bf16) (fun j => Ffn.ff (tokRow i x0 x1 (j 0)) (mat x2 (j 0)) (mat W0) (mat x4 0) (mat W1) (j 1) : S256x4096.Idx → EReal) _ ?_ (ix2 r f) ?_
  · intro p hp x
    simp only [ffPieces, List.mem_cons, List.not_mem_nil, or_false] at hp
    rcases hp with rfl | rfl | rfl | rfl
    · obtain ⟨a, b, rfl⟩ : ∃ (a : Fin 256) (b : Fin 1024), x = ix2 a b := ⟨x 0, x 1, eq_ix2 x⟩
      refine (ff3_read i x0 x1 x2 x4 W0 W1 a b).trans ?_
      have e : (Rect.unit (s := S256x4096) ![0, 3072] ![256, 1024] inb_S256x4096_S256x1024_0_3072).emb (ix2 a b) = ix2 a (pos 3 b) := by
        funext d
        apply Fin.ext
        match d with
        | ⟨0, _⟩ => show 0 + 1 * a.val = a.val; omega
        | ⟨1, _⟩ => show 3072 + 1 * b.val = 3 * 1024 + b.val; omega
      dsimp only
      rw [e]
      rfl
    · obtain ⟨a, b, rfl⟩ : ∃ (a : Fin 256) (b : Fin 1024), x = ix2 a b := ⟨x 0, x 1, eq_ix2 x⟩
      refine (ff2_read i x0 x1 x2 x4 W0 W1 a b).trans ?_
      have e : (Rect.unit (s := S256x4096) ![0, 2048] ![256, 1024] inb_S256x4096_S256x1024_0_2048).emb (ix2 a b) = ix2 a (pos 2 b) := by
        funext d
        apply Fin.ext
        match d with
        | ⟨0, _⟩ => show 0 + 1 * a.val = a.val; omega
        | ⟨1, _⟩ => show 2048 + 1 * b.val = 2 * 1024 + b.val; omega
      dsimp only
      rw [e]
      rfl
    · obtain ⟨a, b, rfl⟩ : ∃ (a : Fin 256) (b : Fin 1024), x = ix2 a b := ⟨x 0, x 1, eq_ix2 x⟩
      refine (ff1_read i x0 x1 x2 x4 W0 W1 a b).trans ?_
      have e : (Rect.unit (s := S256x4096) ![0, 1024] ![256, 1024] inb_S256x4096_S256x1024_0_1024).emb (ix2 a b) = ix2 a (pos 1 b) := by
        funext d
        apply Fin.ext
        match d with
        | ⟨0, _⟩ => show 0 + 1 * a.val = a.val; omega
        | ⟨1, _⟩ => show 1024 + 1 * b.val = 1 * 1024 + b.val; omega
      dsimp only
      rw [e]
      rfl
    · obtain ⟨a, b, rfl⟩ : ∃ (a : Fin 256) (b : Fin 1024), x = ix2 a b := ⟨x 0, x 1, eq_ix2 x⟩
      refine (ff0_read i x0 x1 x2 x4 W0 W1 a b).trans ?_
      have e : (Rect.unit (s := S256x4096) ![0, 0] ![256, 1024] inb_S256x4096_S256x1024_0_0).emb (ix2 a b) = ix2 a (pos 0 b) := by
        funext d
        apply Fin.ext
        match d with
        | ⟨0, _⟩ => show 0 + 1 * a.val = a.val; omega
        | ⟨1, _⟩ => show 0 + 1 * b.val = 0 * 1024 + b.val; omega
      dsimp only
      rw [e]
      rfl
  · have hf := f.isLt
    have hr := r.isLt
    unfold ffPieces
    rcases (by omega : 3072 ≤ f.val ∨ (2048 ≤ f.val ∧ f.val < 3072) ∨ (1024 ≤ f.val ∧ f.val < 2048) ∨ f.val < 1024) with h | h | h | h
    · refine ⟨_, List.mem_cons_self, ?_⟩
      rw [Rect.mem_set_unit]
      intro d
      match d with
      | ⟨0, _⟩ => show 0 ≤ r.val ∧ r.val < 0 + 256; omega
      | ⟨1, _⟩ => show 3072 ≤ f.val ∧ f.val < 3072 + 1024; omega
    · refine ⟨_, List.mem_cons_of_mem _ List.mem_cons_self, ?_⟩
      rw [Rect.mem_set_unit]
      intro d
      match d with
      | ⟨0, _⟩ => show 0 ≤ r.val ∧ r.val < 0 + 256; omega
      | ⟨1, _⟩ => show 2048 ≤ f.val ∧ f.val < 2048 + 1024; omega
    · refine ⟨_, List.mem_cons_of_mem _ (List.mem_cons_of_mem _ List.mem_cons_self), ?_⟩
      rw [Rect.mem_set_unit]
      intro d
      match d with
      | ⟨0, _⟩ => show 0 ≤ r.val ∧ r.val < 0 + 256; omega
      | ⟨1, _⟩ => show 1024 ≤ f.val ∧ f.val < 1024 + 1024; omega
    · refine ⟨_, List.mem_cons_of_mem _ (List.mem_cons_of_mem _ (List.mem_cons_of_mem _ List.mem_cons_self)), ?_⟩
      rw [Rect.mem_set_unit]
      intro d
      match d with
      | ⟨0, _⟩ => show 0 ≤ r.val ∧ r.val < 0 + 256; omega
      | ⟨1, _⟩ => show 0 ≤ f.val ∧ f.val < 0 + 1024; omega

/-- The gradient at the activations, stored in four pieces, read at a column. -/
theorem daPieces_read (r : Fin 256) (f : Fin 4096) :
    View.canon (daPieces i x0 x1 x2 x3 x4 x5 W0 W1 W2) (ix2 r f) = Ffn.da (tokRow i x0 x1 r) (mat x2 r) (mat x3 r) (tok (F := Ideal) i) (mat W0) (mat x4 0) (mat x5 0) (mat W1) (mat W2) f := by
  refine View.canon_apply_of_pieces (Val := Elt Ideal) (S := S256x4096) (e := .bf16) (fun j => Ffn.da (tokRow i x0 x1 (j 0)) (mat x2 (j 0)) (mat x3 (j 0)) (tok (F := Ideal) i) (mat W0) (mat x4 0) (mat x5 0) (mat W1) (mat W2) (j 1) : S256x4096.Idx → EReal) _ ?_ (ix2 r f) ?_
  · intro p hp x
    simp only [daPieces, List.mem_cons, List.not_mem_nil, or_false] at hp
    rcases hp with rfl | rfl | rfl | rfl
    · obtain ⟨a, b, rfl⟩ : ∃ (a : Fin 256) (b : Fin 1024), x = ix2 a b := ⟨x 0, x 1, eq_ix2 x⟩
      refine (da3_read i x0 x1 x2 x3 x4 x5 W0 W1 W2 a b).trans ?_
      have e : (Rect.unit (s := S256x4096) ![0, 3072] ![256, 1024] inb_S256x4096_S256x1024_0_3072).emb (ix2 a b) = ix2 a (pos 3 b) := by
        funext d
        apply Fin.ext
        match d with
        | ⟨0, _⟩ => show 0 + 1 * a.val = a.val; omega
        | ⟨1, _⟩ => show 3072 + 1 * b.val = 3 * 1024 + b.val; omega
      dsimp only
      rw [e]
      rfl
    · obtain ⟨a, b, rfl⟩ : ∃ (a : Fin 256) (b : Fin 1024), x = ix2 a b := ⟨x 0, x 1, eq_ix2 x⟩
      refine (da2_read i x0 x1 x2 x3 x4 x5 W0 W1 W2 a b).trans ?_
      have e : (Rect.unit (s := S256x4096) ![0, 2048] ![256, 1024] inb_S256x4096_S256x1024_0_2048).emb (ix2 a b) = ix2 a (pos 2 b) := by
        funext d
        apply Fin.ext
        match d with
        | ⟨0, _⟩ => show 0 + 1 * a.val = a.val; omega
        | ⟨1, _⟩ => show 2048 + 1 * b.val = 2 * 1024 + b.val; omega
      dsimp only
      rw [e]
      rfl
    · obtain ⟨a, b, rfl⟩ : ∃ (a : Fin 256) (b : Fin 1024), x = ix2 a b := ⟨x 0, x 1, eq_ix2 x⟩
      refine (da1_read i x0 x1 x2 x3 x4 x5 W0 W1 W2 a b).trans ?_
      have e : (Rect.unit (s := S256x4096) ![0, 1024] ![256, 1024] inb_S256x4096_S256x1024_0_1024).emb (ix2 a b) = ix2 a (pos 1 b) := by
        funext d
        apply Fin.ext
        match d with
        | ⟨0, _⟩ => show 0 + 1 * a.val = a.val; omega
        | ⟨1, _⟩ => show 1024 + 1 * b.val = 1 * 1024 + b.val; omega
      dsimp only
      rw [e]
      rfl
    · obtain ⟨a, b, rfl⟩ : ∃ (a : Fin 256) (b : Fin 1024), x = ix2 a b := ⟨x 0, x 1, eq_ix2 x⟩
      refine (da0_read i x0 x1 x2 x3 x4 x5 W0 W1 W2 a b).trans ?_
      have e : (Rect.unit (s := S256x4096) ![0, 0] ![256, 1024] inb_S256x4096_S256x1024_0_0).emb (ix2 a b) = ix2 a (pos 0 b) := by
        funext d
        apply Fin.ext
        match d with
        | ⟨0, _⟩ => show 0 + 1 * a.val = a.val; omega
        | ⟨1, _⟩ => show 0 + 1 * b.val = 0 * 1024 + b.val; omega
      dsimp only
      rw [e]
      rfl
  · have hf := f.isLt
    have hr := r.isLt
    unfold daPieces
    rcases (by omega : 3072 ≤ f.val ∨ (2048 ≤ f.val ∧ f.val < 3072) ∨ (1024 ≤ f.val ∧ f.val < 2048) ∨ f.val < 1024) with h | h | h | h
    · refine ⟨_, List.mem_cons_self, ?_⟩
      rw [Rect.mem_set_unit]
      intro d
      match d with
      | ⟨0, _⟩ => show 0 ≤ r.val ∧ r.val < 0 + 256; omega
      | ⟨1, _⟩ => show 3072 ≤ f.val ∧ f.val < 3072 + 1024; omega
    · refine ⟨_, List.mem_cons_of_mem _ List.mem_cons_self, ?_⟩
      rw [Rect.mem_set_unit]
      intro d
      match d with
      | ⟨0, _⟩ => show 0 ≤ r.val ∧ r.val < 0 + 256; omega
      | ⟨1, _⟩ => show 2048 ≤ f.val ∧ f.val < 2048 + 1024; omega
    · refine ⟨_, List.mem_cons_of_mem _ (List.mem_cons_of_mem _ List.mem_cons_self), ?_⟩
      rw [Rect.mem_set_unit]
      intro d
      match d with
      | ⟨0, _⟩ => show 0 ≤ r.val ∧ r.val < 0 + 256; omega
      | ⟨1, _⟩ => show 1024 ≤ f.val ∧ f.val < 1024 + 1024; omega
    · refine ⟨_, List.mem_cons_of_mem _ (List.mem_cons_of_mem _ (List.mem_cons_of_mem _ List.mem_cons_self)), ?_⟩
      rw [Rect.mem_set_unit]
      intro d
      match d with
      | ⟨0, _⟩ => show 0 ≤ r.val ∧ r.val < 0 + 256; omega
      | ⟨1, _⟩ => show 0 ≤ f.val ∧ f.val < 0 + 1024; omega

end Pieces

variable (m : (ℓ : Loc nD τ sig) → Buf (Elt Ideal) ℓ) (c : Dev nD)

/-- The squared positive parts, at every row. -/
def outFf : S8448x4096.Idx → EReal := fun j =>
  Ffn.ff (Ffn.rowX (inX m c) (inL m c) (j 0)) (inY m c (j 0)) (inWo m c) (inN2 m c) (inW1 m c) (j 1)

theorem ix9 : ∀ t : Fin grid0.N, win0_9.index t 0 = t.val ∧ win0_9.index t 1 = 0 := by decide +kernel

theorem flushedFf (t : Fin cfg0.N) : (dats m 0 c).flushed 9 t = ((cfg0.win 9).blk t).view.read (Elt Ideal) (outFf m c) := by
  show (cfg0.win 9).cut (grid0.coords t) ((dats m 0 c).after 9 t) = _
  rw [after0_9, outs_9]
  funext j
  rw [View.read_apply]
  obtain ⟨r, k, rfl⟩ : ∃ (r : Fin 256) (k : Fin 4096), j = ix2 r k := ⟨j 0, j 1, eq_ix2 j⟩
  refine (ffPieces_read (grid0.coords t) (iblk m c 0 t) (iblk m c 1 t) (iblk m c 2 t) (iblk m c 4 t) (wOut m c) (wUp m c) r k).trans ?_
  rw [tokRow_eq, blk2, blk4, wOut_eq, wUp_eq]
  have hi : ((cfg0.win 9).blk t).view.emb (ix2 r k) = ix2 (Ffn.rowAt t.val (lt33 t) r) k := by
    funext a
    apply Fin.ext
    match a with
    | ⟨0, _⟩ => show win0_9.index t 0 * 256 + 1 * r.val = t.val * 256 + r.val; rw [(ix9 t).1]; omega
    | ⟨1, _⟩ => show win0_9.index t 1 * 4096 + 1 * k.val = k.val; rw [(ix9 t).2]; omega
  rw [hi]
  rfl

theorem finalFf : (dats m 0 c).arrAt 9 cfg0.N = outFf m c :=
  (dats m 0 c).arrAt_eq_of_cover 9 (outFf m c) (fun t _ => flushedFf m c t) fun i => by
    have h0 : (i 0 : Nat) < 8448 := (i 0).isLt
    have h1 : (i 1 : Nat) < 4096 := (i 1).isLt
    have hN : cfg0.N = 33 := N_0
    obtain ⟨t, ht⟩ : ∃ t : Fin cfg0.N, t.val = (i 0 : Nat) / 256 := ⟨⟨(i 0 : Nat) / 256, by omega⟩, rfl⟩
    refine ⟨t, flush0_9 t, ?_⟩
    show i ∈ ((View.whole main_v0_3).slice (win0_9.rect t)).set
    rw [View.set_slice_whole, Rect.mem_set_unit]
    intro a
    match a with
    | ⟨0, _⟩ =>
      show win0_9.index t 0 * 256 ≤ (i 0 : Nat) ∧ (i 0 : Nat) < win0_9.index t 0 * 256 + 256
      rw [(ix9 t).1]; omega
    | ⟨1, _⟩ =>
      show win0_9.index t 1 * 4096 ≤ (i 1 : Nat) ∧ (i 1 : Nat) < win0_9.index t 1 * 4096 + 4096
      rw [(ix9 t).2]; omega

/-- The gradient at the activations, at every row. -/
def outDa : S8448x4096.Idx → EReal := fun j =>
  Ffn.da (Ffn.rowX (inX m c) (inL m c) (j 0)) (inY m c (j 0)) (Ffn.rowT (inT m c) (j 0)) (Ffn.tokOf (j 0)) (inWo m c) (inN2 m c) (inNf m c) (inW1 m c) (inW2 m c) (j 1)

theorem ix10 : ∀ t : Fin grid0.N, win0_10.index t 0 = t.val ∧ win0_10.index t 1 = 0 := by decide +kernel

theorem flushedDa (t : Fin cfg0.N) : (dats m 0 c).flushed 10 t = ((cfg0.win 10).blk t).view.read (Elt Ideal) (outDa m c) := by
  show (cfg0.win 10).cut (grid0.coords t) ((dats m 0 c).after 10 t) = _
  rw [after0_10, outs_10]
  funext j
  rw [View.read_apply]
  obtain ⟨r, k, rfl⟩ : ∃ (r : Fin 256) (k : Fin 4096), j = ix2 r k := ⟨j 0, j 1, eq_ix2 j⟩
  refine (daPieces_read (grid0.coords t) (iblk m c 0 t) (iblk m c 1 t) (iblk m c 2 t) (iblk m c 3 t) (iblk m c 4 t) (iblk m c 5 t) (wOut m c) (wUp m c) (wDown m c) r k).trans ?_
  rw [tokRow_eq, blk2, blk3, blk4, blk5, wOut_eq, wUp_eq, wDown_eq, tok_eq t r]
  have hi : ((cfg0.win 10).blk t).view.emb (ix2 r k) = ix2 (Ffn.rowAt t.val (lt33 t) r) k := by
    funext a
    apply Fin.ext
    match a with
    | ⟨0, _⟩ => show win0_10.index t 0 * 256 + 1 * r.val = t.val * 256 + r.val; rw [(ix10 t).1]; omega
    | ⟨1, _⟩ => show win0_10.index t 1 * 4096 + 1 * k.val = k.val; rw [(ix10 t).2]; omega
  rw [hi]
  rfl

theorem finalDa : (dats m 0 c).arrAt 10 cfg0.N = outDa m c :=
  (dats m 0 c).arrAt_eq_of_cover 10 (outDa m c) (fun t _ => flushedDa m c t) fun i => by
    have h0 : (i 0 : Nat) < 8448 := (i 0).isLt
    have h1 : (i 1 : Nat) < 4096 := (i 1).isLt
    have hN : cfg0.N = 33 := N_0
    obtain ⟨t, ht⟩ : ∃ t : Fin cfg0.N, t.val = (i 0 : Nat) / 256 := ⟨⟨(i 0 : Nat) / 256, by omega⟩, rfl⟩
    refine ⟨t, flush0_10 t, ?_⟩
    show i ∈ ((View.whole main_v0_4).slice (win0_10.rect t)).set
    rw [View.set_slice_whole, Rect.mem_set_unit]
    intro a
    match a with
    | ⟨0, _⟩ =>
      show win0_10.index t 0 * 256 ≤ (i 0 : Nat) ∧ (i 0 : Nat) < win0_10.index t 0 * 256 + 256
      rw [(ix10 t).1]; omega
    | ⟨1, _⟩ =>
      show win0_10.index t 1 * 4096 ≤ (i 1 : Nat) ∧ (i 1 : Nat) < win0_10.index t 1 * 4096 + 4096
      rw [(ix10 t).2]; omega

/-- The normalised rows the feed-forward step reads, at every row. -/
def outHn : S8448x1024.Idx → EReal := fun j =>
  Ffn.hn (Ffn.rowX (inX m c) (inL m c) (j 0)) (inY m c (j 0)) (inWo m c) (inN2 m c) (j 1)

theorem ix11 : ∀ t : Fin grid0.N, win0_11.index t 0 = t.val ∧ win0_11.index t 1 = 0 := by decide +kernel

theorem flushedHn (t : Fin cfg0.N) : (dats m 0 c).flushed 11 t = ((cfg0.win 11).blk t).view.read (Elt Ideal) (outHn m c) := by
  show (cfg0.win 11).cut (grid0.coords t) ((dats m 0 c).after 11 t) = _
  rw [after0_11, outs_11]
  funext j
  rw [View.read_apply]
  obtain ⟨r, k, rfl⟩ : ∃ (r : Fin 256) (k : Fin 1024), j = ix2 r k := ⟨j 0, j 1, eq_ix2 j⟩
  refine (hn_read (grid0.coords t) (iblk m c 0 t) (iblk m c 1 t) (iblk m c 2 t) (iblk m c 4 t) (wOut m c) r k).trans ?_
  rw [tokRow_eq, blk2, blk4, wOut_eq]
  have hi : ((cfg0.win 11).blk t).view.emb (ix2 r k) = ix2 (Ffn.rowAt t.val (lt33 t) r) k := by
    funext a
    apply Fin.ext
    match a with
    | ⟨0, _⟩ => show win0_11.index t 0 * 256 + 1 * r.val = t.val * 256 + r.val; rw [(ix11 t).1]; omega
    | ⟨1, _⟩ => show win0_11.index t 1 * 1024 + 1 * k.val = k.val; rw [(ix11 t).2]; omega
  rw [hi]
  rfl

theorem finalHn : (dats m 0 c).arrAt 11 cfg0.N = outHn m c :=
  (dats m 0 c).arrAt_eq_of_cover 11 (outHn m c) (fun t _ => flushedHn m c t) fun i => by
    have h0 : (i 0 : Nat) < 8448 := (i 0).isLt
    have h1 : (i 1 : Nat) < 1024 := (i 1).isLt
    have hN : cfg0.N = 33 := N_0
    obtain ⟨t, ht⟩ : ∃ t : Fin cfg0.N, t.val = (i 0 : Nat) / 256 := ⟨⟨(i 0 : Nat) / 256, by omega⟩, rfl⟩
    refine ⟨t, flush0_11 t, ?_⟩
    show i ∈ ((View.whole main_v0_5).slice (win0_11.rect t)).set
    rw [View.set_slice_whole, Rect.mem_set_unit]
    intro a
    match a with
    | ⟨0, _⟩ =>
      show win0_11.index t 0 * 256 ≤ (i 0 : Nat) ∧ (i 0 : Nat) < win0_11.index t 0 * 256 + 256
      rw [(ix11 t).1]; omega
    | ⟨1, _⟩ =>
      show win0_11.index t 1 * 1024 ≤ (i 1 : Nat) ∧ (i 1 : Nat) < win0_11.index t 1 * 1024 + 1024
      rw [(ix11 t).2]; omega

/-- The gradient at the residual stream before the feed-forward step, at every row. -/
def outDhid : S8448x1024.Idx → EReal := fun j =>
  Ffn.dhid (Ffn.rowX (inX m c) (inL m c) (j 0)) (inY m c (j 0)) (Ffn.rowT (inT m c) (j 0)) (Ffn.tokOf (j 0)) (inWo m c) (inN2 m c) (inNf m c) (inW1 m c) (inW2 m c) (j 1)

theorem ix12 : ∀ t : Fin grid0.N, win0_12.index t 0 = t.val ∧ win0_12.index t 1 = 0 := by decide +kernel

theorem flushedDhid (t : Fin cfg0.N) : (dats m 0 c).flushed 12 t = ((cfg0.win 12).blk t).view.read (Elt Ideal) (outDhid m c) := by
  show (cfg0.win 12).cut (grid0.coords t) ((dats m 0 c).after 12 t) = _
  rw [after0_12, outs_12]
  funext j
  rw [View.read_apply]
  obtain ⟨r, k, rfl⟩ : ∃ (r : Fin 256) (k : Fin 1024), j = ix2 r k := ⟨j 0, j 1, eq_ix2 j⟩
  refine (dhid_read (grid0.coords t) (iblk m c 0 t) (iblk m c 1 t) (iblk m c 2 t) (iblk m c 3 t) (iblk m c 4 t) (iblk m c 5 t) (wOut m c) (wUp m c) (wDown m c) r k).trans ?_
  rw [tokRow_eq, blk2, blk3, blk4, blk5, wOut_eq, wUp_eq, wDown_eq, tok_eq t r]
  have hi : ((cfg0.win 12).blk t).view.emb (ix2 r k) = ix2 (Ffn.rowAt t.val (lt33 t) r) k := by
    funext a
    apply Fin.ext
    match a with
    | ⟨0, _⟩ => show win0_12.index t 0 * 256 + 1 * r.val = t.val * 256 + r.val; rw [(ix12 t).1]; omega
    | ⟨1, _⟩ => show win0_12.index t 1 * 1024 + 1 * k.val = k.val; rw [(ix12 t).2]; omega
  rw [hi]
  rfl

theorem finalDhid : (dats m 0 c).arrAt 12 cfg0.N = outDhid m c :=
  (dats m 0 c).arrAt_eq_of_cover 12 (outDhid m c) (fun t _ => flushedDhid m c t) fun i => by
    have h0 : (i 0 : Nat) < 8448 := (i 0).isLt
    have h1 : (i 1 : Nat) < 1024 := (i 1).isLt
    have hN : cfg0.N = 33 := N_0
    obtain ⟨t, ht⟩ : ∃ t : Fin cfg0.N, t.val = (i 0 : Nat) / 256 := ⟨⟨(i 0 : Nat) / 256, by omega⟩, rfl⟩
    refine ⟨t, flush0_12 t, ?_⟩
    show i ∈ ((View.whole main_v0_6).slice (win0_12.rect t)).set
    rw [View.set_slice_whole, Rect.mem_set_unit]
    intro a
    match a with
    | ⟨0, _⟩ =>
      show win0_12.index t 0 * 256 ≤ (i 0 : Nat) ∧ (i 0 : Nat) < win0_12.index t 0 * 256 + 256
      rw [(ix12 t).1]; omega
    | ⟨1, _⟩ =>
      show win0_12.index t 1 * 1024 ≤ (i 1 : Nat) ∧ (i 1 : Nat) < win0_12.index t 1 * 1024 + 1024
      rw [(ix12 t).2]; omega

/-- The gradient at the residual stream after it, at every row. -/
def outDres : S8448x1024.Idx → EReal := fun j =>
  Ffn.dres (Ffn.rowX (inX m c) (inL m c) (j 0)) (inY m c (j 0)) (Ffn.rowT (inT m c) (j 0)) (Ffn.tokOf (j 0)) (inWo m c) (inN2 m c) (inNf m c) (inW1 m c) (inW2 m c) (j 1)

theorem ix13 : ∀ t : Fin grid0.N, win0_13.index t 0 = t.val ∧ win0_13.index t 1 = 0 := by decide +kernel

theorem flushedDres (t : Fin cfg0.N) : (dats m 0 c).flushed 13 t = ((cfg0.win 13).blk t).view.read (Elt Ideal) (outDres m c) := by
  show (cfg0.win 13).cut (grid0.coords t) ((dats m 0 c).after 13 t) = _
  rw [after0_13, outs_13]
  funext j
  rw [View.read_apply]
  obtain ⟨r, k, rfl⟩ : ∃ (r : Fin 256) (k : Fin 1024), j = ix2 r k := ⟨j 0, j 1, eq_ix2 j⟩
  refine (dresm_read (grid0.coords t) (iblk m c 0 t) (iblk m c 1 t) (iblk m c 2 t) (iblk m c 3 t) (iblk m c 4 t) (iblk m c 5 t) (wOut m c) (wUp m c) (wDown m c) r k).trans ?_
  rw [tokRow_eq, blk2, blk3, blk4, blk5, wOut_eq, wUp_eq, wDown_eq, tok_eq t r]
  have hi : ((cfg0.win 13).blk t).view.emb (ix2 r k) = ix2 (Ffn.rowAt t.val (lt33 t) r) k := by
    funext a
    apply Fin.ext
    match a with
    | ⟨0, _⟩ => show win0_13.index t 0 * 256 + 1 * r.val = t.val * 256 + r.val; rw [(ix13 t).1]; omega
    | ⟨1, _⟩ => show win0_13.index t 1 * 1024 + 1 * k.val = k.val; rw [(ix13 t).2]; omega
  rw [hi]
  rfl

theorem finalDres : (dats m 0 c).arrAt 13 cfg0.N = outDres m c :=
  (dats m 0 c).arrAt_eq_of_cover 13 (outDres m c) (fun t _ => flushedDres m c t) fun i => by
    have h0 : (i 0 : Nat) < 8448 := (i 0).isLt
    have h1 : (i 1 : Nat) < 1024 := (i 1).isLt
    have hN : cfg0.N = 33 := N_0
    obtain ⟨t, ht⟩ : ∃ t : Fin cfg0.N, t.val = (i 0 : Nat) / 256 := ⟨⟨(i 0 : Nat) / 256, by omega⟩, rfl⟩
    refine ⟨t, flush0_13 t, ?_⟩
    show i ∈ ((View.whole main_v0_7).slice (win0_13.rect t)).set
    rw [View.set_slice_whole, Rect.mem_set_unit]
    intro a
    match a with
    | ⟨0, _⟩ =>
      show win0_13.index t 0 * 256 ≤ (i 0 : Nat) ∧ (i 0 : Nat) < win0_13.index t 0 * 256 + 256
      rw [(ix13 t).1]; omega
    | ⟨1, _⟩ =>
      show win0_13.index t 1 * 1024 ≤ (i 1 : Nat) ∧ (i 1 : Nat) < win0_13.index t 1 * 1024 + 1024
      rw [(ix13 t).2]; omega

/-- The gradient at the mixer's output, at every row. -/
def outDmix : S8448x2048.Idx → EReal := fun j =>
  Ffn.dmix (Ffn.rowX (inX m c) (inL m c) (j 0)) (inY m c (j 0)) (Ffn.rowT (inT m c) (j 0)) (Ffn.tokOf (j 0)) (inWo m c) (inN2 m c) (inNf m c) (inW1 m c) (inW2 m c) (j 1)

theorem ix14 : ∀ t : Fin grid0.N, win0_14.index t 0 = t.val ∧ win0_14.index t 1 = 0 := by decide +kernel

theorem flushedDmix (t : Fin cfg0.N) : (dats m 0 c).flushed 14 t = ((cfg0.win 14).blk t).view.read (Elt Ideal) (outDmix m c) := by
  show (cfg0.win 14).cut (grid0.coords t) ((dats m 0 c).after 14 t) = _
  rw [after0_14, outs_14]
  funext j
  rw [View.read_apply]
  obtain ⟨r, k, rfl⟩ : ∃ (r : Fin 256) (k : Fin 2048), j = ix2 r k := ⟨j 0, j 1, eq_ix2 j⟩
  refine (dmix_read (grid0.coords t) (iblk m c 0 t) (iblk m c 1 t) (iblk m c 2 t) (iblk m c 3 t) (iblk m c 4 t) (iblk m c 5 t) (wOut m c) (wUp m c) (wDown m c) r k).trans ?_
  rw [tokRow_eq, blk2, blk3, blk4, blk5, wOut_eq, wUp_eq, wDown_eq, tok_eq t r]
  have hi : ((cfg0.win 14).blk t).view.emb (ix2 r k) = ix2 (Ffn.rowAt t.val (lt33 t) r) k := by
    funext a
    apply Fin.ext
    match a with
    | ⟨0, _⟩ => show win0_14.index t 0 * 256 + 1 * r.val = t.val * 256 + r.val; rw [(ix14 t).1]; omega
    | ⟨1, _⟩ => show win0_14.index t 1 * 2048 + 1 * k.val = k.val; rw [(ix14 t).2]; omega
  rw [hi]
  rfl

theorem finalDmix : (dats m 0 c).arrAt 14 cfg0.N = outDmix m c :=
  (dats m 0 c).arrAt_eq_of_cover 14 (outDmix m c) (fun t _ => flushedDmix m c t) fun i => by
    have h0 : (i 0 : Nat) < 8448 := (i 0).isLt
    have h1 : (i 1 : Nat) < 2048 := (i 1).isLt
    have hN : cfg0.N = 33 := N_0
    obtain ⟨t, ht⟩ : ∃ t : Fin cfg0.N, t.val = (i 0 : Nat) / 256 := ⟨⟨(i 0 : Nat) / 256, by omega⟩, rfl⟩
    refine ⟨t, flush0_14 t, ?_⟩
    show i ∈ ((View.whole main_v0_8).slice (win0_14.rect t)).set
    rw [View.set_slice_whole, Rect.mem_set_unit]
    intro a
    match a with
    | ⟨0, _⟩ =>
      show win0_14.index t 0 * 256 ≤ (i 0 : Nat) ∧ (i 0 : Nat) < win0_14.index t 0 * 256 + 256
      rw [(ix14 t).1]; omega
    | ⟨1, _⟩ =>
      show win0_14.index t 1 * 2048 ≤ (i 1 : Nat) ∧ (i 1 : Nat) < win0_14.index t 1 * 2048 + 2048
      rw [(ix14 t).2]; omega

end Cert.KernelIdeal.Tile
-- ==== Proof.Norm.lean ====
/-
  The backward step of a normalisation, as automatic differentiation forms it, is the one the kernel forms.

  The reciprocal root `r` of a row's mean square is a real number, and nonnegative: zero when the mean square is
  infinite, so that both gradients vanish, and otherwise `r / msq = r³`. A nonnegative real distributes over every sum of extended
  reals, so no row has to be finite.
-/
module

public import proofs.«01_k».proof.Proof.Consts

@[expose] public section

noncomputable section

namespace Cert.Ffn

open Idealize.ShloMosaic

/-- A nonnegative real times a sum is the sum of the products. -/
theorem coe_mul_sum {ι : Type} (s : Finset ι) (f : ι → EReal) (a : ℝ) (ha : 0 ≤ a) :
    (∑ i ∈ s, f i) * (a : EReal) = ∑ i ∈ s, f i * (a : EReal) := by
  classical
  induction s using Finset.induction_on with
  | empty => simp
  | insert i s hi ih =>
    rw [Finset.sum_insert hi, Finset.sum_insert hi,
      EReal.right_distrib_of_nonneg_of_ne_top (EReal.coe_nonneg.mpr ha) (EReal.coe_ne_top _), ih]

/-- Twice a product with a nonpositive real. -/
theorem mul_add_self (x : EReal) (a : ℝ) (ha : a ≤ 0) : x * (a : EReal) + x * (a : EReal) = x * ((a + a : ℝ) : EReal) := by
  rw [EReal.coe_add]
  have h : ((a : EReal)) = -((-a : ℝ) : EReal) := by rw [EReal.coe_neg, neg_neg]
  have hp : (0 : EReal) ≤ ((-a : ℝ) : EReal) := EReal.coe_nonneg.mpr (by linarith)
  rw [h]
  have e : -((-a : ℝ) : EReal) + -((-a : ℝ) : EReal) = -(((-a : ℝ) : EReal) + ((-a : ℝ) : EReal)) := by
    rw [← EReal.coe_add, ← EReal.coe_neg, ← EReal.coe_neg, ← EReal.coe_add]
    exact congrArg _ (by ring)
  rw [e, mul_neg, mul_neg, EReal.left_distrib_of_nonneg hp hp]
  set y := x * ((-a : ℝ) : EReal) with hy
  induction y using EReal.rec with
  | bot => rfl
  | coe y => rw [← EReal.coe_neg, ← EReal.coe_add, ← EReal.coe_add, ← EReal.coe_neg]; exact congrArg _ (by ring)
  | top => rfl

theorem mul_self_nonneg' (x : EReal) : 0 ≤ x * x := by
  induction x using EReal.rec with
  | bot => simp
  | coe x => rw [← EReal.coe_mul]; exact EReal.coe_nonneg.mpr (mul_self_nonneg x)
  | top => simp

theorem div_width (x : EReal) : Ideal.div x width = x * ((1 / 1024 : ℝ) : EReal) := by
  rw [width_eq]
  exact Ideal.div_coe (by norm_num) x

/-- A mean square plus `eps` is infinite or a positive real. -/
theorem msq_cases (v : Fin 1024 → EReal) : msq v = ⊤ ∨ ∃ μ : ℝ, 0 < μ ∧ msq v = (μ : EReal) := by
  obtain ⟨e, he, hE⟩ := eps_pos
  have h0 : (0 : EReal) ≤ Ideal.div (∑ k, v k * v k) width := by
    rw [div_width]
    exact mul_nonneg (Finset.sum_nonneg fun k _ => mul_self_nonneg' (v k)) (EReal.coe_nonneg.mpr (by norm_num))
  unfold msq
  rw [hE]
  generalize Ideal.div (∑ k, v k * v k) width = q at h0
  induction q using EReal.rec with
  | bot => simp at h0
  | coe q => exact Or.inr ⟨q + e, by have := EReal.coe_nonneg.mp h0; linarith, by rw [EReal.coe_add]⟩
  | top => exact Or.inl (EReal.top_add_coe e)

/-- The factor along the row, as automatic differentiation forms it. -/
def along (v d : Fin 1024 → EReal) : EReal :=
  Ideal.div ((∑ l, v l * d l) * (((-(1 / 2) : ℝ) : EReal) * Ideal.div (rms v) (msq v))) width

theorem nrmBack_eq (v d : Fin 1024 → EReal) (k : Fin 1024) :
    d k * rms v + v k * along v d + along v d * v k = nrmBack v d k := by
  unfold along nrmBack nrm
  simp only [div_width]
  rcases msq_cases v with h | ⟨μ, hμ, h⟩
  · have hr : rms v = 0 := by unfold rms; rw [h]; rfl
    rw [hr, h]
    have hd : Ideal.div 0 ⊤ = 0 := by unfold Ideal.div; simp
    rw [hd]
    simp
  · obtain ⟨ρ, hρ, hr, h3⟩ : ∃ ρ : ℝ, 0 ≤ ρ ∧ rms v = (ρ : EReal) ∧ ρ * (1 / μ) = ρ * ρ * ρ := by
      refine ⟨(Real.sqrt μ)⁻¹, by positivity, ?_, ?_⟩
      · unfold rms
        rw [h]
        show (if μ < 0 then ⊥ else if μ = 0 then ⊤ else (((Real.sqrt μ)⁻¹ : ℝ) : EReal)) = _
        rw [if_neg (by linarith), if_neg (by linarith)]
      · have hs : Real.sqrt μ * Real.sqrt μ = μ := Real.mul_self_sqrt hμ.le
        have hp : 0 < Real.sqrt μ := Real.sqrt_pos.mpr hμ
        rw [mul_assoc, ← mul_inv, hs, one_div]
    rw [hr, h, Ideal.div_coe hμ.ne', ← EReal.coe_mul, h3]
    set S := ∑ l, v l * d l with hS
    have hsum : (∑ l, d l * (v l * (ρ : EReal))) = S * (ρ : EReal) := by
      rw [hS, coe_mul_sum _ _ _ hρ]
      exact Finset.sum_congr rfl fun l _ => by rw [← mul_assoc, mul_comm (d l)]
    rw [hsum]
    have hl : v k * (S * (((-(1 / 2) : ℝ) : EReal) * ((ρ * ρ * ρ : ℝ) : EReal)) * ((1 / 1024 : ℝ) : EReal))
        = (v k * S) * ((-(1 / 2) * (ρ * ρ * ρ) * (1 / 1024) : ℝ) : EReal) := by
      rw [← EReal.coe_mul, mul_assoc S, ← EReal.coe_mul, ← mul_assoc (v k)]
    have hneg : -(1 / 2) * (ρ * ρ * ρ) * (1 / 1024) ≤ 0 := by
      have : 0 ≤ ρ * ρ * ρ := by positivity
      linarith
    rw [mul_comm _ (v k), hl, add_assoc, mul_add_self _ _ hneg, sub_eq_add_neg,
      EReal.left_distrib_of_nonneg_of_ne_top (EReal.coe_nonneg.mpr hρ) (EReal.coe_ne_top _), mul_comm (d k)]
    congr 1
    rw [mul_neg, show (-(1 / 2) * (ρ * ρ * ρ) * (1 / 1024) + -(1 / 2) * (ρ * ρ * ρ) * (1 / 1024) : ℝ)
      = -(ρ * ρ * ρ * (1 / 1024)) by ring, EReal.coe_neg, mul_neg, EReal.coe_mul, EReal.coe_mul, EReal.coe_mul]
    congr 1
    ac_rfl

/-- The squared positive part's derivative, chosen by sign or not. -/
theorem relu_back (a d : EReal) : (if 0 < a then d * (two * max a 0) else 0) = d * (two * max a 0) := by
  split_ifs with h
  · rfl
  · rw [max_eq_right (not_lt.mp h), mul_zero, mul_zero]

end Cert.Ffn
-- ==== Proof.RefRead.lean ====
/-
  The reference read row by row: each stage is the row function of Spec.lean at the row's inputs.
-/
module

public import proofs.«01_k».proof.Proof.Gen.ReferenceIdeal.Read
public import proofs.«01_k».proof.Proof.Rows
public import proofs.«01_k».proof.Proof.Norm
public import Idealize.ShloMosaic.Lib.Pointwise
public import Idealize.ShloMosaic.Lib.KernelVsHost

@[expose] public section

set_option maxRecDepth 16384

noncomputable section

open Idealize.ShloMosaic Idealize.ShloMosaic.TcCoe Idealize.SL.Sem

namespace Cert.ReferenceIdeal.Rows

open Cert.ReferenceIdeal Cert.ReferenceIdeal.Read

variable (x0 : (⟨S8192x1024, .f32⟩ : BufTy).Contents (Elt Ideal)) (x1 : (⟨S256x1024, .f32⟩ : BufTy).Contents (Elt Ideal))
  (x2 : (⟨S8448x2048, .bf16⟩ : BufTy).Contents (Elt Ideal)) (x3 : (⟨S8192x1024, .f32⟩ : BufTy).Contents (Elt Ideal))
  (x4 : (⟨S2048x1024, .bf16⟩ : BufTy).Contents (Elt Ideal)) (x5 : (⟨S1x1024, .f32⟩ : BufTy).Contents (Elt Ideal))
  (x6 : (⟨S1024x4096, .bf16⟩ : BufTy).Contents (Elt Ideal)) (x7 : (⟨S4096x1024, .bf16⟩ : BufTy).Contents (Elt Ideal))
  (x8 : (⟨S1x1024, .f32⟩ : BufTy).Contents (Elt Ideal))

/-- A matrix as a function of its row and column. -/
abbrev mat {a b : ℕ} (v : (⟨2, ![a, b]⟩ : Shape).Idx → EReal) (p : Fin a) (q : Fin b) : EReal := v (ix2 p q)

/-- A token row among all rows. -/
def tk (l : Fin 8192) : Fin 8448 := ⟨l.val, by have := l.isLt; omega⟩

/-- The inputs of row `l`. -/
abbrev rx (l : Fin 8448) : Fin 1024 → EReal := Ffn.rowX (mat x0) (mat x1) l
abbrev rt (l : Fin 8448) : Fin 1024 → EReal := Ffn.rowT (mat x3) l

theorem rt_tk (l : Fin 8192) : rt x3 (tk l) = mat x3 l := dif_pos l.isLt
theorem tok_tk (l : Fin 8192) : Ffn.tokOf (tk l) = 1 := if_pos l.isLt

theorem v4_read (l : Fin 8448) (k : Fin 1024) : val_main_v4 (F := Ideal) x0 x1 (ix2 l k) = rx x0 x1 l k := by
  unfold val_main_v4 rx Ffn.rowX
  have hl := l.isLt
  split_ifs with h
  · exact concatenate_pair_apply_left (t := S8448x1024) (s₁ := S8192x1024) (s₂ := S256x1024) 0 x0 x1 _ (ix2 l k) rfl
      (ix2 (⟨l.val, h⟩ : Fin 8192) k) (fun b => by match b with | ⟨0, _⟩ => rfl | ⟨1, _⟩ => rfl)
  · exact concatenate_pair_apply_right (t := S8448x1024) (s₁ := S8192x1024) (s₂ := S256x1024) 0 x0 x1 _ (ix2 l k) rfl rfl
      (ix2 (⟨l.val - 8192, by omega⟩ : Fin 256) k)
      (fun b hb => by match b with | ⟨0, _⟩ => exact absurd rfl hb | ⟨1, _⟩ => rfl)
      (by show l.val - 8192 + 8192 = l.val; omega)

theorem v6_read (l : Fin 8448) (k : Fin 1024) : val_main_v6 (F := Ideal) x0 x1 x2 x4 (ix2 l k) = Ffn.hid (rx x0 x1 l) (mat x2 l) (mat x4) k := by
  unfold val_main_v6 val_main_v5 val_main_v1 val_main_v0
  pointwise
  simp only [v4_read]
  rfl

theorem v13_read (l : Fin 8448) : val_main_v13 (F := Ideal) x0 x1 x2 x4 (ix2 l 0) = Ffn.msq (Ffn.hid (rx x0 x1 l) (mat x2 l) (mat x4)) := by
  unfold val_main_v13 val_main_v11 val_main_v12 val_main_v9 val_main_v10 val_main_v8 val_main_v7 val_main_cst val_main_cst_0 val_main_cst_1
  pointwise
  simp only [v6_read, zero_add]
  rfl

theorem v14_read (l : Fin 8448) : val_main_v14 (F := Ideal) x0 x1 x2 x4 (ix2 l 0) = Ffn.rms (Ffn.hid (rx x0 x1 l) (mat x2 l) (mat x4)) := by
  unfold val_main_v14
  pointwise
  simp only [v13_read]
  rfl

theorem v17_read (l : Fin 8448) : val_main_v17 (F := Ideal) x0 x1 x2 x4 (ix2 l 0) = ((-(1 / 2) : ℝ) : EReal) * Ideal.div (Ffn.rms (Ffn.hid (rx x0 x1 l) (mat x2 l) (mat x4))) (Ffn.msq (Ffn.hid (rx x0 x1 l) (mat x2 l) (mat x4))) := by
  unfold val_main_v17 val_main_v16 val_main_v15 val_main_cst_2
  pointwise
  simp only [v13_read, v14_read, Ffn.neg_half_eq]

theorem v19_read (l : Fin 8448) (k : Fin 1024) : val_main_v19 (F := Ideal) x0 x1 x2 x4 (ix2 l k) = Ffn.nrm (Ffn.hid (rx x0 x1 l) (mat x2 l) (mat x4)) k := by
  unfold val_main_v19 val_main_v18
  pointwise
  simp only [v6_read, v14_read]
  rfl

theorem v21_read (l : Fin 8448) (k : Fin 1024) : val_main_v21 (F := Ideal) x0 x1 x2 x4 x5 (ix2 l k) = Ffn.hn (rx x0 x1 l) (mat x2 l) (mat x4) (mat x5 0) k := by
  unfold val_main_v21 val_main_v20
  pointwise
  simp only [v19_read]
  rfl

theorem v22_read (l : Fin 8448) (f : Fin 4096) : val_main_v22 (F := Ideal) x0 x1 x2 x4 x5 x6 (ix2 l f) = Ffn.act (rx x0 x1 l) (mat x2 l) (mat x4) (mat x5 0) (mat x6) f := by
  unfold val_main_v22 val_main_v2
  pointwise
  simp only [v21_read]
  rfl

theorem v23_read (l : Fin 8448) (f : Fin 4096) : val_main_v23 (F := Ideal) x0 x1 x2 x4 x5 x6 (ix2 l f) = max (Ffn.act (rx x0 x1 l) (mat x2 l) (mat x4) (mat x5 0) (mat x6) f) 0 := by
  unfold val_main_v23 val_main_call0_v0 val_main_call0_cst
  pointwise
  simp only [v22_read]

theorem v27_read (l : Fin 8448) (f : Fin 4096) : val_main_v27 (F := Ideal) x0 x1 x2 x4 x5 x6 (ix2 l f) = Ffn.ff (rx x0 x1 l) (mat x2 l) (mat x4) (mat x5 0) (mat x6) f := by
  unfold val_main_v27
  pointwise
  simp only [v23_read]
  rfl

theorem v31_read (l : Fin 8448) (k : Fin 1024) : val_main_v31 (F := Ideal) x0 x1 x2 x4 x5 x6 x7 (ix2 l k) = Ffn.res (rx x0 x1 l) (mat x2 l) (mat x4) (mat x5 0) (mat x6) (mat x7) k := by
  unfold val_main_v31 val_main_v30 val_main_v3
  pointwise
  simp only [v6_read, v27_read]
  rfl

theorem v38_read (l : Fin 8448) : val_main_v38 (F := Ideal) x0 x1 x2 x4 x5 x6 x7 (ix2 l 0) = Ffn.msq (Ffn.res (rx x0 x1 l) (mat x2 l) (mat x4) (mat x5 0) (mat x6) (mat x7)) := by
  unfold val_main_v38 val_main_v36 val_main_v37 val_main_v34 val_main_v35 val_main_v33 val_main_v32 val_main_cst_6 val_main_cst_7 val_main_cst_8
  pointwise
  simp only [v31_read, zero_add]
  rfl

theorem v39_read (l : Fin 8448) : val_main_v39 (F := Ideal) x0 x1 x2 x4 x5 x6 x7 (ix2 l 0) = Ffn.rms (Ffn.res (rx x0 x1 l) (mat x2 l) (mat x4) (mat x5 0) (mat x6) (mat x7)) := by
  unfold val_main_v39
  pointwise
  simp only [v38_read]
  rfl

theorem v42_read (l : Fin 8448) : val_main_v42 (F := Ideal) x0 x1 x2 x4 x5 x6 x7 (ix2 l 0) = ((-(1 / 2) : ℝ) : EReal) * Ideal.div (Ffn.rms (Ffn.res (rx x0 x1 l) (mat x2 l) (mat x4) (mat x5 0) (mat x6) (mat x7))) (Ffn.msq (Ffn.res (rx x0 x1 l) (mat x2 l) (mat x4) (mat x5 0) (mat x6) (mat x7))) := by
  unfold val_main_v42 val_main_v41 val_main_v40 val_main_cst_9
  pointwise
  simp only [v38_read, v39_read, Ffn.neg_half_eq]

theorem v44_read (l : Fin 8448) (k : Fin 1024) : val_main_v44 (F := Ideal) x0 x1 x2 x4 x5 x6 x7 (ix2 l k) = Ffn.resN (rx x0 x1 l) (mat x2 l) (mat x4) (mat x5 0) (mat x6) (mat x7) k := by
  unfold val_main_v44 val_main_v43
  pointwise
  simp only [v31_read, v39_read]
  rfl

theorem v48_read (l : Fin 8192) (k : Fin 1024) : val_main_v48 (F := Ideal) x0 x1 x2 x3 x4 x5 x6 x7 x8 (ix2 l k) = Ffn.err (rx x0 x1 (tk l)) (mat x2 (tk l)) (rt x3 (tk l)) (mat x4) (mat x5 0) (mat x8 0) (mat x6) (mat x7) k := by
  unfold val_main_v48 val_main_v47 val_main_v46 val_main_v45
  pointwise
  simp only [v44_read]
  rw [rt_tk]
  rfl

theorem dout_tok (e : EReal) : Ideal.div Ffn.half Ffn.width * (Ffn.two * e) = e * Ideal.div 1 Ffn.width := by
  simp only [Ffn.div_width, Ffn.half_eq, Ffn.two_eq, mul_one, one_mul]
  rw [← EReal.coe_mul, ← mul_assoc, ← EReal.coe_mul, mul_comm]
  norm_num

theorem v62_read (l : Fin 8192) (k : Fin 1024) : val_main_v62 (F := Ideal) x0 x1 x2 x3 x4 x5 x6 x7 x8 (ix2 l k) = Ffn.dout (rx x0 x1 (tk l)) (mat x2 (tk l)) (rt x3 (tk l)) (Ffn.tokOf (tk l)) (mat x4) (mat x5 0) (mat x8 0) (mat x6) (mat x7) k := by
  unfold val_main_v62 val_main_v61 val_main_v60 val_main_v59 val_main_v58 val_main_v57 val_main_v51 val_main_v50 val_main_cst_10 val_main_cst_15 val_main_cst_16 val_main_cst_17
  pointwise
  simp only [v48_read, Ffn.one_eq]
  unfold Ffn.dout
  rw [tok_tk]
  exact dout_tok _

/-- The output's gradient is the token rows', and zero at the lead rows. -/
theorem v63_read (l : Fin 8448) (k : Fin 1024) : val_main_v63 (F := Ideal) x0 x1 x2 x3 x4 x5 x6 x7 x8 (ix2 l k) = Ffn.dout (rx x0 x1 l) (mat x2 l) (rt x3 l) (Ffn.tokOf l) (mat x4) (mat x5 0) (mat x8 0) (mat x6) (mat x7) k := by
  unfold val_main_v63
  have hl := l.isLt
  by_cases h : l.val < 8192
  · refine (pad_apply_of_inside (t := S8448x1024) (s := S8192x1024) ![0, 0] ![256, 0] ![0, 0] (val_main_v62 x0 x1 x2 x3 x4 x5 x6 x7 x8 ) (val_main_cst_18 (F := Ideal)) _ _ (ix2 l k) (ix2 (⟨l.val, h⟩ : Fin 8192) k) ?_).trans ?_
    · intro a
      match a with
      | ⟨0, _⟩ => show l.val = 0 + l.val * (0 + 1); omega
      | ⟨1, _⟩ => show k.val = 0 + k.val * (0 + 1); omega
    · exact v62_read x0 x1 x2 x3 x4 x5 x6 x7 x8 ⟨l.val, h⟩ k
  · refine (pad_apply_of_not_inside (t := S8448x1024) (s := S8192x1024) ![0, 0] ![256, 0] ![0, 0] (val_main_v62 x0 x1 x2 x3 x4 x5 x6 x7 x8 ) (val_main_cst_18 (F := Ideal)) _ _ (ix2 l k) (0 : Fin 2) ?_).trans ?_
    · rintro ⟨-, -, h2⟩
      have h3 : (l.val - 0) / (0 + 1) < 8192 := h2
      omega
    · have ht : Ffn.tokOf l = 0 := if_neg h
      unfold Ffn.dout val_main_cst_18
      pointwise
      rw [ht, Ffn.div_width, zero_mul, mul_zero]

theorem v66_read (k : Fin 1024) : val_main_v66 (F := Ideal) x0 x1 x2 x3 x4 x5 x6 x7 x8 (ix2 0 k) = ∑ l : Fin 8448, Ffn.gwf (rx x0 x1 l) (mat x2 l) (rt x3 l) (Ffn.tokOf l) (mat x4) (mat x5 0) (mat x8 0) (mat x6) (mat x7) k := by
  unfold val_main_v66 val_main_v65 val_main_v64 val_main_cst_19
  pointwise
  simp only [v44_read, v63_read, zero_add]
  exact Finset.sum_congr rfl fun l _ => mul_comm _ _

theorem v68_read (l : Fin 8448) (k : Fin 1024) : val_main_v68 (F := Ideal) x0 x1 x2 x3 x4 x5 x6 x7 x8 (ix2 l k) = Ffn.dout (rx x0 x1 l) (mat x2 l) (rt x3 l) (Ffn.tokOf l) (mat x4) (mat x5 0) (mat x8 0) (mat x6) (mat x7) k * mat x8 0 k := by
  unfold val_main_v68 val_main_v67
  pointwise
  simp only [v63_read]

theorem v78_read (l : Fin 8448) (k : Fin 1024) : val_main_v78 (F := Ideal) x0 x1 x2 x3 x4 x5 x6 x7 x8 (ix2 l k) = Ffn.along (Ffn.res (rx x0 x1 l) (mat x2 l) (mat x4) (mat x5 0) (mat x6) (mat x7)) (fun j => Ffn.dout (rx x0 x1 l) (mat x2 l) (rt x3 l) (Ffn.tokOf l) (mat x4) (mat x5 0) (mat x8 0) (mat x6) (mat x7) j * mat x8 0 j) := by
  unfold val_main_v78 val_main_v77 val_main_v76 val_main_v75 val_main_v74 val_main_v71 val_main_v70 val_main_v69 val_main_cst_20 val_main_cst_21 val_main_cst_22
  pointwise
  simp only [v31_read, v68_read, v42_read, zero_add]
  refine (Fin.sum_univ_one _).trans ?_
  simp only [v42_read]
  rfl

theorem v82_read (l : Fin 8448) (k : Fin 1024) : val_main_v82 (F := Ideal) x0 x1 x2 x3 x4 x5 x6 x7 x8 (ix2 l k) = Ffn.dres (rx x0 x1 l) (mat x2 l) (rt x3 l) (Ffn.tokOf l) (mat x4) (mat x5 0) (mat x8 0) (mat x6) (mat x7) k := by
  unfold val_main_v82 val_main_v81 val_main_v80 val_main_v79 val_main_v73 val_main_v72
  pointwise
  simp only [v31_read, v68_read, v39_read, v78_read]
  exact Ffn.nrmBack_eq (Ffn.res (rx x0 x1 l) (mat x2 l) (mat x4) (mat x5 0) (mat x6) (mat x7)) (fun j => Ffn.dout (rx x0 x1 l) (mat x2 l) (rt x3 l) (Ffn.tokOf l) (mat x4) (mat x5 0) (mat x8 0) (mat x6) (mat x7) j * mat x8 0 j) k

theorem v86_read (l : Fin 8448) (f : Fin 4096) : val_main_v86 (F := Ideal) x0 x1 x2 x3 x4 x5 x6 x7 x8 (ix2 l f) = Ffn.da (rx x0 x1 l) (mat x2 l) (rt x3 l) (Ffn.tokOf l) (mat x4) (mat x5 0) (mat x8 0) (mat x6) (mat x7) f := by
  unfold val_main_v86 val_main_v85 val_main_v84 val_main_v83 val_main_v29 val_main_v28 val_main_v25 val_main_v24 val_main_v3 val_main_cst_3 val_main_cst_5 val_main_cst_23
  pointwise
  simp only [v82_read, v22_read, v23_read]
  exact Ffn.relu_back _ _

theorem v89_read (l : Fin 8448) (k : Fin 1024) : val_main_v89 (F := Ideal) x0 x1 x2 x3 x4 x5 x6 x7 x8 (ix2 l k) = Ffn.dhn (rx x0 x1 l) (mat x2 l) (rt x3 l) (Ffn.tokOf l) (mat x4) (mat x5 0) (mat x8 0) (mat x6) (mat x7) k := by
  unfold val_main_v89 val_main_v88 val_main_v87 val_main_v2 val_main_cst_24
  pointwise
  simp only [v86_read, zero_add]
  rfl

theorem v92_read (k : Fin 1024) : val_main_v92 (F := Ideal) x0 x1 x2 x3 x4 x5 x6 x7 x8 (ix2 0 k) = ∑ l : Fin 8448, Ffn.gw2 (rx x0 x1 l) (mat x2 l) (rt x3 l) (Ffn.tokOf l) (mat x4) (mat x5 0) (mat x8 0) (mat x6) (mat x7) k := by
  unfold val_main_v92 val_main_v91 val_main_v90 val_main_cst_25
  pointwise
  simp only [v19_read, v89_read, zero_add]
  exact Finset.sum_congr rfl fun l _ => mul_comm _ _

theorem v94_read (l : Fin 8448) (k : Fin 1024) : val_main_v94 (F := Ideal) x0 x1 x2 x3 x4 x5 x6 x7 x8 (ix2 l k) = Ffn.dhn (rx x0 x1 l) (mat x2 l) (rt x3 l) (Ffn.tokOf l) (mat x4) (mat x5 0) (mat x8 0) (mat x6) (mat x7) k * mat x5 0 k := by
  unfold val_main_v94 val_main_v93
  pointwise
  simp only [v89_read]

theorem v105_read (l : Fin 8448) (k : Fin 1024) : val_main_v105 (F := Ideal) x0 x1 x2 x3 x4 x5 x6 x7 x8 (ix2 l k) = Ffn.along (Ffn.hid (rx x0 x1 l) (mat x2 l) (mat x4)) (fun j => Ffn.dhn (rx x0 x1 l) (mat x2 l) (rt x3 l) (Ffn.tokOf l) (mat x4) (mat x5 0) (mat x8 0) (mat x6) (mat x7) j * mat x5 0 j) := by
  unfold val_main_v105 val_main_v104 val_main_v103 val_main_v102 val_main_v101 val_main_v97 val_main_v96 val_main_v95 val_main_cst_26 val_main_cst_27 val_main_cst_28
  pointwise
  simp only [v6_read, v94_read, v17_read, zero_add]
  refine (Fin.sum_univ_one _).trans ?_
  simp only [v17_read]
  rfl

theorem v109_read (l : Fin 8448) (k : Fin 1024) : val_main_v109 (F := Ideal) x0 x1 x2 x3 x4 x5 x6 x7 x8 (ix2 l k) = Ffn.dhid (rx x0 x1 l) (mat x2 l) (rt x3 l) (Ffn.tokOf l) (mat x4) (mat x5 0) (mat x8 0) (mat x6) (mat x7) k := by
  unfold val_main_v109 val_main_v108 val_main_v107 val_main_v106 val_main_v100 val_main_v99 val_main_v98
  pointwise
  simp only [v6_read, v94_read, v14_read, v82_read, v105_read]
  rw [add_assoc, add_assoc, ← add_assoc (_ * Ffn.rms _), Ffn.nrmBack_eq (Ffn.hid (rx x0 x1 l) (mat x2 l) (mat x4)) (fun j => Ffn.dhn (rx x0 x1 l) (mat x2 l) (rt x3 l) (Ffn.tokOf l) (mat x4) (mat x5 0) (mat x8 0) (mat x6) (mat x7) j * mat x5 0 j) k]
  rfl

theorem v110_read (l : Fin 8448) (e : Fin 2048) : val_main_v110 (F := Ideal) x0 x1 x2 x3 x4 x5 x6 x7 x8 (ix2 l e) = Ffn.dmix (rx x0 x1 l) (mat x2 l) (rt x3 l) (Ffn.tokOf l) (mat x4) (mat x5 0) (mat x8 0) (mat x6) (mat x7) e := by
  unfold val_main_v110 val_main_v1
  pointwise
  simp only [v109_read]
  rfl

/-- A sum over all rows that vanishes on the lead rows is the sum over the token rows. -/
theorem sum_tok (f : Fin 8448 → EReal) (h : ∀ l : Fin 8448, ¬l.val < 8192 → f l = 0) : ∑ l, f l = ∑ l : Fin 8192, f (tk l) := by
  rw [show (∑ l, f l) = ∑ l : Fin (8192 + 256), f l from rfl, Fin.sum_univ_add]
  rw [Finset.sum_eq_zero (s := Finset.univ) (f := fun i : Fin 256 => f (Fin.natAdd 8192 i)) (fun i _ => h _ (by simp)), add_zero]
  rfl

theorem v111_read (k : Fin 128) : val_main_v111 (F := Ideal) x0 x1 x2 x3 x4 x5 x6 x7 x8 (ix2 0 k) = Ffn.half * ∑ l : Fin 8448, Ffn.rowLoss (rx x0 x1 l) (mat x2 l) (rt x3 l) (Ffn.tokOf l) (mat x4) (mat x5 0) (mat x8 0) (mat x6) (mat x7) := by
  unfold val_main_v111 val_main_v56 val_main_v55 val_main_v54 val_main_v53 val_main_v52 val_main_v49 val_main_cst_11 val_main_cst_12 val_main_cst_13 val_main_cst_14
  pointwise
  simp only [v48_read, zero_add]
  rw [sum_tok _ (fun l h => by unfold Ffn.rowLoss; rw [show Ffn.tokOf l = 0 from if_neg h, mul_zero])]
  refine congrArg (Ffn.half * ·) (Finset.sum_congr rfl fun l _ => ?_)
  unfold Ffn.rowLoss
  rw [tok_tk, mul_one]
  rfl

end Cert.ReferenceIdeal.Rows
-- ==== Proof.Equal.lean ====
/-
  Each result of the reference is the array that the kernel leaves, from the same arguments.
-/
module

public import proofs.«01_k».proof.Proof.Acc
public import proofs.«01_k».proof.Proof.Out
public import proofs.«01_k».proof.Proof.RefRead

@[expose] public section

set_option maxRecDepth 16384

noncomputable section

open Idealize.ShloMosaic Idealize.ShloMosaic.TcCoe Idealize.SL.Sem

namespace Cert.ReferenceIdeal.Rows

open Cert.ReferenceIdeal Cert.ReferenceIdeal.Read
open Cert.KernelIdeal.Tile (outLoss outGwf outGw2 outFf outDa outHn outDhid outDres outDmix)

variable (m : (ℓ : Loc Cert.KernelIdeal.nD Cert.KernelIdeal.τ Cert.KernelIdeal.sig) → Buf (Elt Ideal) ℓ) (c : Dev Cert.KernelIdeal.nD)

/-- The call's arguments, at the reference's types. -/
abbrev a0 : (⟨S8192x1024, .f32⟩ : BufTy).Contents (Elt Ideal) := m ((c : Thread Cert.KernelIdeal.nD Cert.KernelIdeal.τ).loc Cert.KernelIdeal.main_arg0)
abbrev a1 : (⟨S256x1024, .f32⟩ : BufTy).Contents (Elt Ideal) := m ((c : Thread Cert.KernelIdeal.nD Cert.KernelIdeal.τ).loc Cert.KernelIdeal.main_arg1)
abbrev a2 : (⟨S8448x2048, .bf16⟩ : BufTy).Contents (Elt Ideal) := m ((c : Thread Cert.KernelIdeal.nD Cert.KernelIdeal.τ).loc Cert.KernelIdeal.main_arg2)
abbrev a3 : (⟨S8192x1024, .f32⟩ : BufTy).Contents (Elt Ideal) := m ((c : Thread Cert.KernelIdeal.nD Cert.KernelIdeal.τ).loc Cert.KernelIdeal.main_arg3)
abbrev a4 : (⟨S2048x1024, .bf16⟩ : BufTy).Contents (Elt Ideal) := m ((c : Thread Cert.KernelIdeal.nD Cert.KernelIdeal.τ).loc Cert.KernelIdeal.main_arg4)
abbrev a5 : (⟨S1x1024, .f32⟩ : BufTy).Contents (Elt Ideal) := m ((c : Thread Cert.KernelIdeal.nD Cert.KernelIdeal.τ).loc Cert.KernelIdeal.main_arg5)
abbrev a6 : (⟨S1024x4096, .bf16⟩ : BufTy).Contents (Elt Ideal) := m ((c : Thread Cert.KernelIdeal.nD Cert.KernelIdeal.τ).loc Cert.KernelIdeal.main_arg6)
abbrev a7 : (⟨S4096x1024, .bf16⟩ : BufTy).Contents (Elt Ideal) := m ((c : Thread Cert.KernelIdeal.nD Cert.KernelIdeal.τ).loc Cert.KernelIdeal.main_arg7)
abbrev a8 : (⟨S1x1024, .f32⟩ : BufTy).Contents (Elt Ideal) := m ((c : Thread Cert.KernelIdeal.nD Cert.KernelIdeal.τ).loc Cert.KernelIdeal.main_arg8)

/-- The only row of a one-row array. -/
theorem eq_ix2_row {b : ℕ} (j : (⟨2, ![1, b]⟩ : Shape).Idx) : j = ix2 (0 : Fin 1) (j 1 : Fin b) :=
  (eq_ix2 j).trans (congrArg (fun i : Fin 1 => ix2 i (j 1 : Fin b)) (Subsingleton.elim (α := Fin 1) _ _))

theorem loss_eq (x0 : (⟨S8192x1024, .f32⟩ : BufTy).Contents (Elt Ideal)) (x1 : (⟨S256x1024, .f32⟩ : BufTy).Contents (Elt Ideal)) (x2 : (⟨S8448x2048, .bf16⟩ : BufTy).Contents (Elt Ideal)) (x3 : (⟨S8192x1024, .f32⟩ : BufTy).Contents (Elt Ideal)) (x4 : (⟨S2048x1024, .bf16⟩ : BufTy).Contents (Elt Ideal)) (x5 : (⟨S1x1024, .f32⟩ : BufTy).Contents (Elt Ideal)) (x6 : (⟨S1024x4096, .bf16⟩ : BufTy).Contents (Elt Ideal)) (x7 : (⟨S4096x1024, .bf16⟩ : BufTy).Contents (Elt Ideal)) (x8 : (⟨S1x1024, .f32⟩ : BufTy).Contents (Elt Ideal))
    (e0 : x0 = a0 m c) (e1 : x1 = a1 m c) (e2 : x2 = a2 m c) (e3 : x3 = a3 m c) (e4 : x4 = a4 m c) (e5 : x5 = a5 m c) (e6 : x6 = a6 m c) (e7 : x7 = a7 m c) (e8 : x8 = a8 m c) :
    val_main_v111 (F := Ideal) x0 x1 x2 x3 x4 x5 x6 x7 x8 = outLoss m c := by
  subst e0 e1 e2 e3 e4 e5 e6 e7 e8
  funext j
  rw [eq_ix2_row (b := 128) j]
  exact v111_read (a0 m c) (a1 m c) (a2 m c) (a3 m c) (a4 m c) (a5 m c) (a6 m c) (a7 m c) (a8 m c) (j 1)

theorem gwf_eq (x0 : (⟨S8192x1024, .f32⟩ : BufTy).Contents (Elt Ideal)) (x1 : (⟨S256x1024, .f32⟩ : BufTy).Contents (Elt Ideal)) (x2 : (⟨S8448x2048, .bf16⟩ : BufTy).Contents (Elt Ideal)) (x3 : (⟨S8192x1024, .f32⟩ : BufTy).Contents (Elt Ideal)) (x4 : (⟨S2048x1024, .bf16⟩ : BufTy).Contents (Elt Ideal)) (x5 : (⟨S1x1024, .f32⟩ : BufTy).Contents (Elt Ideal)) (x6 : (⟨S1024x4096, .bf16⟩ : BufTy).Contents (Elt Ideal)) (x7 : (⟨S4096x1024, .bf16⟩ : BufTy).Contents (Elt Ideal)) (x8 : (⟨S1x1024, .f32⟩ : BufTy).Contents (Elt Ideal))
    (e0 : x0 = a0 m c) (e1 : x1 = a1 m c) (e2 : x2 = a2 m c) (e3 : x3 = a3 m c) (e4 : x4 = a4 m c) (e5 : x5 = a5 m c) (e6 : x6 = a6 m c) (e7 : x7 = a7 m c) (e8 : x8 = a8 m c) :
    val_main_v66 (F := Ideal) x0 x1 x2 x3 x4 x5 x6 x7 x8 = outGwf m c := by
  subst e0 e1 e2 e3 e4 e5 e6 e7 e8
  funext j
  rw [eq_ix2_row (b := 1024) j]
  exact v66_read (a0 m c) (a1 m c) (a2 m c) (a3 m c) (a4 m c) (a5 m c) (a6 m c) (a7 m c) (a8 m c) (j 1)

theorem gw2_eq (x0 : (⟨S8192x1024, .f32⟩ : BufTy).Contents (Elt Ideal)) (x1 : (⟨S256x1024, .f32⟩ : BufTy).Contents (Elt Ideal)) (x2 : (⟨S8448x2048, .bf16⟩ : BufTy).Contents (Elt Ideal)) (x3 : (⟨S8192x1024, .f32⟩ : BufTy).Contents (Elt Ideal)) (x4 : (⟨S2048x1024, .bf16⟩ : BufTy).Contents (Elt Ideal)) (x5 : (⟨S1x1024, .f32⟩ : BufTy).Contents (Elt Ideal)) (x6 : (⟨S1024x4096, .bf16⟩ : BufTy).Contents (Elt Ideal)) (x7 : (⟨S4096x1024, .bf16⟩ : BufTy).Contents (Elt Ideal)) (x8 : (⟨S1x1024, .f32⟩ : BufTy).Contents (Elt Ideal))
    (e0 : x0 = a0 m c) (e1 : x1 = a1 m c) (e2 : x2 = a2 m c) (e3 : x3 = a3 m c) (e4 : x4 = a4 m c) (e5 : x5 = a5 m c) (e6 : x6 = a6 m c) (e7 : x7 = a7 m c) (e8 : x8 = a8 m c) :
    val_main_v92 (F := Ideal) x0 x1 x2 x3 x4 x5 x6 x7 x8 = outGw2 m c := by
  subst e0 e1 e2 e3 e4 e5 e6 e7 e8
  funext j
  rw [eq_ix2_row (b := 1024) j]
  exact v92_read (a0 m c) (a1 m c) (a2 m c) (a3 m c) (a4 m c) (a5 m c) (a6 m c) (a7 m c) (a8 m c) (j 1)

theorem ff_eq (x0 : (⟨S8192x1024, .f32⟩ : BufTy).Contents (Elt Ideal)) (x1 : (⟨S256x1024, .f32⟩ : BufTy).Contents (Elt Ideal)) (x2 : (⟨S8448x2048, .bf16⟩ : BufTy).Contents (Elt Ideal)) (x4 : (⟨S2048x1024, .bf16⟩ : BufTy).Contents (Elt Ideal)) (x5 : (⟨S1x1024, .f32⟩ : BufTy).Contents (Elt Ideal)) (x6 : (⟨S1024x4096, .bf16⟩ : BufTy).Contents (Elt Ideal))
    (e0 : x0 = a0 m c) (e1 : x1 = a1 m c) (e2 : x2 = a2 m c) (e4 : x4 = a4 m c) (e5 : x5 = a5 m c) (e6 : x6 = a6 m c) :
    val_main_v112 (F := Ideal) x0 x1 x2 x4 x5 x6 = outFf m c := by
  subst e0 e1 e2 e4 e5 e6
  funext j
  rw [eq_ix2 (n0 := 8448) (n1 := 4096) j]
  exact v27_read (a0 m c) (a1 m c) (a2 m c) (a4 m c) (a5 m c) (a6 m c) (j 0) (j 1)

theorem da_eq (x0 : (⟨S8192x1024, .f32⟩ : BufTy).Contents (Elt Ideal)) (x1 : (⟨S256x1024, .f32⟩ : BufTy).Contents (Elt Ideal)) (x2 : (⟨S8448x2048, .bf16⟩ : BufTy).Contents (Elt Ideal)) (x3 : (⟨S8192x1024, .f32⟩ : BufTy).Contents (Elt Ideal)) (x4 : (⟨S2048x1024, .bf16⟩ : BufTy).Contents (Elt Ideal)) (x5 : (⟨S1x1024, .f32⟩ : BufTy).Contents (Elt Ideal)) (x6 : (⟨S1024x4096, .bf16⟩ : BufTy).Contents (Elt Ideal)) (x7 : (⟨S4096x1024, .bf16⟩ : BufTy).Contents (Elt Ideal)) (x8 : (⟨S1x1024, .f32⟩ : BufTy).Contents (Elt Ideal))
    (e0 : x0 = a0 m c) (e1 : x1 = a1 m c) (e2 : x2 = a2 m c) (e3 : x3 = a3 m c) (e4 : x4 = a4 m c) (e5 : x5 = a5 m c) (e6 : x6 = a6 m c) (e7 : x7 = a7 m c) (e8 : x8 = a8 m c) :
    val_main_v113 (F := Ideal) x0 x1 x2 x3 x4 x5 x6 x7 x8 = outDa m c := by
  subst e0 e1 e2 e3 e4 e5 e6 e7 e8
  funext j
  rw [eq_ix2 (n0 := 8448) (n1 := 4096) j]
  exact v86_read (a0 m c) (a1 m c) (a2 m c) (a3 m c) (a4 m c) (a5 m c) (a6 m c) (a7 m c) (a8 m c) (j 0) (j 1)

theorem hn_eq (x0 : (⟨S8192x1024, .f32⟩ : BufTy).Contents (Elt Ideal)) (x1 : (⟨S256x1024, .f32⟩ : BufTy).Contents (Elt Ideal)) (x2 : (⟨S8448x2048, .bf16⟩ : BufTy).Contents (Elt Ideal)) (x4 : (⟨S2048x1024, .bf16⟩ : BufTy).Contents (Elt Ideal)) (x5 : (⟨S1x1024, .f32⟩ : BufTy).Contents (Elt Ideal))
    (e0 : x0 = a0 m c) (e1 : x1 = a1 m c) (e2 : x2 = a2 m c) (e4 : x4 = a4 m c) (e5 : x5 = a5 m c) :
    val_main_v114 (F := Ideal) x0 x1 x2 x4 x5 = outHn m c := by
  subst e0 e1 e2 e4 e5
  funext j
  rw [eq_ix2 (n0 := 8448) (n1 := 1024) j]
  exact v21_read (a0 m c) (a1 m c) (a2 m c) (a4 m c) (a5 m c) (j 0) (j 1)

theorem dhid_eq (x0 : (⟨S8192x1024, .f32⟩ : BufTy).Contents (Elt Ideal)) (x1 : (⟨S256x1024, .f32⟩ : BufTy).Contents (Elt Ideal)) (x2 : (⟨S8448x2048, .bf16⟩ : BufTy).Contents (Elt Ideal)) (x3 : (⟨S8192x1024, .f32⟩ : BufTy).Contents (Elt Ideal)) (x4 : (⟨S2048x1024, .bf16⟩ : BufTy).Contents (Elt Ideal)) (x5 : (⟨S1x1024, .f32⟩ : BufTy).Contents (Elt Ideal)) (x6 : (⟨S1024x4096, .bf16⟩ : BufTy).Contents (Elt Ideal)) (x7 : (⟨S4096x1024, .bf16⟩ : BufTy).Contents (Elt Ideal)) (x8 : (⟨S1x1024, .f32⟩ : BufTy).Contents (Elt Ideal))
    (e0 : x0 = a0 m c) (e1 : x1 = a1 m c) (e2 : x2 = a2 m c) (e3 : x3 = a3 m c) (e4 : x4 = a4 m c) (e5 : x5 = a5 m c) (e6 : x6 = a6 m c) (e7 : x7 = a7 m c) (e8 : x8 = a8 m c) :
    val_main_v109 (F := Ideal) x0 x1 x2 x3 x4 x5 x6 x7 x8 = outDhid m c := by
  subst e0 e1 e2 e3 e4 e5 e6 e7 e8
  funext j
  rw [eq_ix2 (n0 := 8448) (n1 := 1024) j]
  exact v109_read (a0 m c) (a1 m c) (a2 m c) (a3 m c) (a4 m c) (a5 m c) (a6 m c) (a7 m c) (a8 m c) (j 0) (j 1)

theorem dres_eq (x0 : (⟨S8192x1024, .f32⟩ : BufTy).Contents (Elt Ideal)) (x1 : (⟨S256x1024, .f32⟩ : BufTy).Contents (Elt Ideal)) (x2 : (⟨S8448x2048, .bf16⟩ : BufTy).Contents (Elt Ideal)) (x3 : (⟨S8192x1024, .f32⟩ : BufTy).Contents (Elt Ideal)) (x4 : (⟨S2048x1024, .bf16⟩ : BufTy).Contents (Elt Ideal)) (x5 : (⟨S1x1024, .f32⟩ : BufTy).Contents (Elt Ideal)) (x6 : (⟨S1024x4096, .bf16⟩ : BufTy).Contents (Elt Ideal)) (x7 : (⟨S4096x1024, .bf16⟩ : BufTy).Contents (Elt Ideal)) (x8 : (⟨S1x1024, .f32⟩ : BufTy).Contents (Elt Ideal))
    (e0 : x0 = a0 m c) (e1 : x1 = a1 m c) (e2 : x2 = a2 m c) (e3 : x3 = a3 m c) (e4 : x4 = a4 m c) (e5 : x5 = a5 m c) (e6 : x6 = a6 m c) (e7 : x7 = a7 m c) (e8 : x8 = a8 m c) :
    val_main_v115 (F := Ideal) x0 x1 x2 x3 x4 x5 x6 x7 x8 = outDres m c := by
  subst e0 e1 e2 e3 e4 e5 e6 e7 e8
  funext j
  rw [eq_ix2 (n0 := 8448) (n1 := 1024) j]
  exact v82_read (a0 m c) (a1 m c) (a2 m c) (a3 m c) (a4 m c) (a5 m c) (a6 m c) (a7 m c) (a8 m c) (j 0) (j 1)

theorem dmix_eq (x0 : (⟨S8192x1024, .f32⟩ : BufTy).Contents (Elt Ideal)) (x1 : (⟨S256x1024, .f32⟩ : BufTy).Contents (Elt Ideal)) (x2 : (⟨S8448x2048, .bf16⟩ : BufTy).Contents (Elt Ideal)) (x3 : (⟨S8192x1024, .f32⟩ : BufTy).Contents (Elt Ideal)) (x4 : (⟨S2048x1024, .bf16⟩ : BufTy).Contents (Elt Ideal)) (x5 : (⟨S1x1024, .f32⟩ : BufTy).Contents (Elt Ideal)) (x6 : (⟨S1024x4096, .bf16⟩ : BufTy).Contents (Elt Ideal)) (x7 : (⟨S4096x1024, .bf16⟩ : BufTy).Contents (Elt Ideal)) (x8 : (⟨S1x1024, .f32⟩ : BufTy).Contents (Elt Ideal))
    (e0 : x0 = a0 m c) (e1 : x1 = a1 m c) (e2 : x2 = a2 m c) (e3 : x3 = a3 m c) (e4 : x4 = a4 m c) (e5 : x5 = a5 m c) (e6 : x6 = a6 m c) (e7 : x7 = a7 m c) (e8 : x8 = a8 m c) :
    val_main_v110 (F := Ideal) x0 x1 x2 x3 x4 x5 x6 x7 x8 = outDmix m c := by
  subst e0 e1 e2 e3 e4 e5 e6 e7 e8
  funext j
  rw [eq_ix2 (n0 := 8448) (n1 := 2048) j]
  exact v110_read (a0 m c) (a1 m c) (a2 m c) (a3 m c) (a4 m c) (a5 m c) (a6 m c) (a7 m c) (a8 m c) (j 0) (j 1)

end Cert.ReferenceIdeal.Rows
-- ==== Proof.Slabs.lean ====
/-
  A product of two matrices over 8448 rows, accumulated over three slabs of 2816 rows, its 1024 columns stored in two halves.
-/
module

public import Idealize.ShloMosaic.Lib.Pointwise
public import Idealize.ShloMosaic.Lib.Pipeline.ReadBack

@[expose] public section

set_option maxRecDepth 16384

noncomputable section

namespace Cert.Slabs

open Idealize.ShloMosaic Idealize.ShloMosaic.TcCoe

theorem hz : (![0, 0] : Fin 2 → Nat) = fun _ => 0 := funext fun a => by fin_cases a <;> rfl

/-- Position `q` of half `k` of 1024 columns. -/
def half (k : Fin 2) (q : Fin 512) : Fin 1024 := ⟨k.val * 512 + q.val, by have := k.isLt; have := q.isLt; omega⟩

/-- Two stores of the column halves of `f` leave `f`, whatever was stored before. -/
theorem canon_halves {Val : EltTy → Type} [∀ e, Nonempty (Val e)] {e : EltTy} (f : (⟨2, ![1024, 1024]⟩ : Shape).Idx → Val e)
    {i1 : ∀ a, (![0, 512] : Fin 2 → Nat) a + (![1024, 512] : Fin 2 → Nat) a ≤ (⟨2, ![1024, 1024]⟩ : Shape).size a}
    {i0 : ∀ a, (![0, 0] : Fin 2 → Nat) a + (![1024, 512] : Fin 2 → Nat) a ≤ (⟨2, ![1024, 1024]⟩ : Shape).size a}
    (p1 p0 : (⟨2, ![1024, 512]⟩ : Shape).Idx → Val e) (L : List (View.Piece Val ⟨2, ![1024, 1024]⟩ e))
    (h1 : ∀ (r : Fin 1024) (q : Fin 512), p1 (ix2 r q) = f (ix2 r (half 1 q)))
    (h0 : ∀ (r : Fin 1024) (q : Fin 512), p0 (ix2 r q) = f (ix2 r (half 0 q))) :
    View.canon ((⟨Rect.unit ![0, 512] ![1024, 512] i1, p1⟩ : View.Piece Val ⟨2, ![1024, 1024]⟩ e)
      :: (⟨Rect.unit ![0, 0] ![1024, 512] i0, p0⟩ : View.Piece Val ⟨2, ![1024, 1024]⟩ e) :: L) = f := by
  funext y
  obtain ⟨r, q, rfl⟩ : ∃ (r q : Fin 1024), y = ix2 r q := ⟨y 0, y 1, eq_ix2 y⟩
  have hq := q.isLt
  by_cases h : q.val < 512
  · have e0 : (ix2 r q : (⟨2, ![1024, 1024]⟩ : Shape).Idx) = (Rect.unit (s := ⟨2, ![1024, 1024]⟩) ![0, 0] ![1024, 512] i0).emb (ix2 r ⟨q.val, h⟩) := by
      funext a
      apply Fin.ext
      match a with
      | ⟨0, _⟩ => show r.val = 0 + 1 * r.val; omega
      | ⟨1, _⟩ => show q.val = 0 + 1 * q.val; omega
    rw [View.canon_cons_of_not_mem]
    · rw [e0, View.canon_cons_emb, h0]
      rw [← e0]
      exact congrArg (fun x => f (ix2 r x)) (Fin.ext (by simp [half]))
    · rw [Rect.mem_set_unit]
      intro hm
      have := (hm 1).1
      have : 512 ≤ q.val := this
      omega
  · have e1 : (ix2 r q : (⟨2, ![1024, 1024]⟩ : Shape).Idx) = (Rect.unit (s := ⟨2, ![1024, 1024]⟩) ![0, 512] ![1024, 512] i1).emb (ix2 r ⟨q.val - 512, by omega⟩) := by
      funext a
      apply Fin.ext
      match a with
      | ⟨0, _⟩ => show r.val = 0 + 1 * r.val; omega
      | ⟨1, _⟩ => show q.val = 512 + 1 * (q.val - 512); omega
    rw [e1, View.canon_cons_emb, h1, ← e1]
    exact congrArg (fun x => f (ix2 r x)) (Fin.ext (by simp [half]; omega))

/-- A load of a whole buffer reads what its stores left. -/
theorem readCov_whole {Val : EltTy → Type} [∀ e, Nonempty (Val e)] {e : EltTy} {sig : RefSig} {κ : Kind} {sp : Space}
    (v : View sig κ sp ⟨2, ![1024, 1024]⟩ e) {L : List (View.Piece Val ⟨2, ![1024, 1024]⟩ e)} {f : (⟨2, ![1024, 1024]⟩ : Shape).Idx → Val e}
    (h : View.canon L = f) {i : ∀ a, (![0, 0] : Fin 2 → Nat) a + (![1024, 1024] : Fin 2 → Nat) a ≤ (⟨2, ![1024, 1024]⟩ : Shape).size a} :
    v.readCov L (Rect.unit ![0, 0] ![1024, 1024] i).toLoadRect = f := by
  subst h
  rw [View.readCov_eq_canon']
  exact View.ld_unit_zero (S := ⟨2, ![1024, 1024]⟩) hz i (View.canon L)

variable (a : (⟨2, ![2816, 1024]⟩ : Shape).Idx → EReal) (b : (⟨2, ![2816, 1024]⟩ : Shape).Idx → EReal)

/-- A slab's product added to what was there. -/
def step (old : (⟨2, ![1024, 1024]⟩ : Shape).Idx → EReal) : (⟨2, ![1024, 1024]⟩ : Shape).Idx → EReal :=
  fun j => old j + ∑ l : Fin 2816, a (ix2 l (j 0)) * b (ix2 l (j 1))

/-- Row `r` of slab `k`. -/
def row (k : ℕ) (h : k < 3) (r : Fin 2816) : Fin 8448 := ⟨k * 2816 + r.val, by have := r.isLt; omega⟩

theorem sum_rows (f : Fin 8448 → EReal) : ∑ l, f l = ∑ n : Fin 3, ∑ r : Fin 2816, f (row n.val n.isLt r) :=
  Fin.sum_univ_tiles 3 2816 rfl f

/-- The running sum over the first slabs. -/
def upTo (f : Fin 8448 → EReal) : (n : ℕ) → n < 3 → EReal
  | 0, h => 0 + ∑ r : Fin 2816, f (row 0 h r)
  | n + 1, h => upTo f n (Nat.lt_of_succ_lt h) + ∑ r : Fin 2816, f (row (n + 1) h r)

/-- After the last slab it is the sum over all rows. -/
theorem upTo_last (f : Fin 8448 → EReal) (n : ℕ) (h : n < 3) (e : n = 2) : upTo f n h = ∑ l, f l := by
  subst e
  rw [sum_rows, Fin.sum_univ_three]
  simp only [upTo, zero_add]
  rfl

/-- Column `r` of the block of 1024 columns that point `n` works on: every three points take the next block. -/
def col {N W : ℕ} (e : N * 1024 = 3 * W) (n : ℕ) (h : n < N) (r : Fin 1024) : Fin W :=
  ⟨n / 3 * 1024 + r.val, by have := r.isLt; omega⟩

theorem mod3 (n : ℕ) : n % 3 < 3 := Nat.mod_lt _ (by decide)

/-- The accumulator over the points: each third point starts from zero, the others add to what the point before left. -/
theorem run {N W : ℕ} (e : N * 1024 = 3 * W) (acc : (n : ℕ) → n < N → (⟨2, ![1024, 1024]⟩ : Shape).Idx → EReal)
    (x y : (n : ℕ) → n < N → (⟨2, ![2816, 1024]⟩ : Shape).Idx → EReal)
    (A : (⟨2, ![8448, W]⟩ : Shape).Idx → EReal) (B : (⟨2, ![8448, 1024]⟩ : Shape).Idx → EReal)
    (hx : ∀ n h l r, x n h (ix2 l r) = A (ix2 (row (n % 3) (mod3 n) l) (col e n h r)))
    (hy : ∀ n h l r, y n h (ix2 l r) = B (ix2 (row (n % 3) (mod3 n) l) r))
    (first : ∀ n h, n % 3 = 0 → acc n h = step (x n h) (y n h) fun _ => 0)
    (next : ∀ n h, ¬n % 3 = 0 → acc n h = step (x n h) (y n h) (acc (n - 1) (Nat.lt_of_le_of_lt (Nat.sub_le _ _) h))) :
    ∀ n h, acc n h = fun j => upTo (fun l => A (ix2 l (col e n h (j 0))) * B (ix2 l (j 1))) (n % 3) (mod3 n) := by
  have start : ∀ n h, n % 3 = 0 → acc n h = fun j => upTo (fun l => A (ix2 l (col e n h (j 0))) * B (ix2 l (j 1))) (n % 3) (mod3 n) := by
    intro n h h0
    rw [first n h h0]
    funext j
    have e0 : ∀ k (hk : k < 3), k = 0 → ∀ f : Fin 8448 → EReal, upTo f k hk = 0 + ∑ r : Fin 2816, f (row k hk r) := by
      intro k hk h0 f; subst h0; rfl
    rw [e0 _ _ h0]
    exact congrArg (0 + ·) (Finset.sum_congr rfl fun l _ => congrArg₂ (· * ·) (hx n h l (j 0)) (hy n h l (j 1)))
  intro n
  induction n with
  | zero => exact fun h => start 0 h rfl
  | succ n ih =>
    intro h
    by_cases h0 : (n + 1) % 3 = 0
    · exact start _ h h0
    · rw [next _ h h0]
      funext j
      have ec : ∀ r, col e (n + 1) h r = col e n (Nat.lt_of_succ_lt h) r := fun r =>
        Fin.ext (by show (n + 1) / 3 * 1024 + r.val = n / 3 * 1024 + r.val; have : (n + 1) / 3 = n / 3 := by omega
                    rw [this])
      have es : ∀ k (hk : k < 3), k = n % 3 + 1 → ∀ f : Fin 8448 → EReal,
          upTo f k hk = upTo f (n % 3) (mod3 n) + ∑ r : Fin 2816, f (row k hk r) := by
        intro k hk h1 f; subst h1; rfl
      rw [es _ _ (by omega)]
      refine congrArg₂ (· + ·) ((congrFun (ih (Nat.lt_of_succ_lt h)) j).trans ?_) (Finset.sum_congr rfl fun l _ => congrArg₂ (· * ·) (hx _ h l (j 0)) (hy _ h l (j 1)))
      exact congrArg (fun p : Fin W => upTo (fun l => A (ix2 l p) * B (ix2 l (j 1))) (n % 3) (mod3 n)) (ec (j 0)).symm

/-- The product over all rows. -/
def product {W : ℕ} (A : (⟨2, ![8448, W]⟩ : Shape).Idx → EReal) (B : (⟨2, ![8448, 1024]⟩ : Shape).Idx → EReal) :
    (⟨2, ![W, 1024]⟩ : Shape).Idx → EReal := fun j => ∑ l : Fin 8448, A (ix2 l (j 0)) * B (ix2 l (j 1))

/-- At a block's last point the accumulator holds the product's block. -/
theorem run_last {N W : ℕ} (e : N * 1024 = 3 * W) (A : (⟨2, ![8448, W]⟩ : Shape).Idx → EReal) (B : (⟨2, ![8448, 1024]⟩ : Shape).Idx → EReal)
    (n : ℕ) (h : n < N) (h2 : n % 3 = 2) (r k : Fin 1024) (v : (⟨2, ![1024, 1024]⟩ : Shape).Idx → EReal)
    (hv : v = fun j => upTo (fun l => A (ix2 l (col e n h (j 0))) * B (ix2 l (j 1))) (n % 3) (mod3 n)) :
    v (ix2 r k) = product A B (ix2 (col e n h r) k) := by
  subst hv
  exact upTo_last _ _ _ h2

end Cert.Slabs

end
-- ==== Proof.GradFf2.lean ====
/-
  The second feed-forward weight's gradient: a block of 1024 of its rows is the product over all rows of the activations' block and the output's gradient.
-/
module

public import proofs.«01_k».proof.Proof.Gen.Kernel2Ideal.Frame
public import proofs.«01_k».proof.Proof.Slabs

@[expose] public section

set_option maxRecDepth 16384

noncomputable section

open Idealize.ShloMosaic Idealize.ShloMosaic.TcCoe Idealize.SL.Sem
open Idealize.ShloMosaic.Pipeline (Dat)
open Cert.Slabs

namespace Cert.Kernel2Ideal.Tile

open Cert.Kernel2Ideal Cert.Kernel2Ideal.Gen

section Point

variable (c : Dev nD) (i : grid0.Coords) (arg2 : Memref sig .tc .vmem S2816x1024 .bf16) (harg2 : arg2.IsWhole)
  (arg3 : Memref sig .tc .vmem S2816x1024 .bf16) (harg3 : arg3.IsWhole) (arg4 : Memref sig .tc .vmem S1024x1024 .f32) (harg4 : arg4.IsWhole)
  (arg5 : Memref sig .tc .vmem S1024x1024 .bf16) (harg5 : arg5.IsWhole)
  (x0 : Vec Ideal S2816x1024 .bf16) (x1 : Vec Ideal S2816x1024 .bf16) (xo : Vec Ideal S1024x1024 .f32)

/-- The left 512 columns of a point's store. -/
theorem left_read (r : Fin 1024) (q : Fin 512) :
    k0_pay2 (F := Ideal) x0 (View.ld xo (Rect.unit ![0, 0] ![1024, 512] inb_S1024x1024_S1024x512_0_0)) (View.ld x1 (Rect.unit ![0, 0] ![2816, 512] inb_S2816x1024_S2816x512_0_0)) (ix2 r q)
      = step x0 x1 xo (ix2 r (half 0 q)) := by
  unfold k0_pay2 step
  pointwise
  exact congrArg (fun p => xo (ix2 r p) + ∑ x, x0 (ix2 x r) * x1 (ix2 x p)) (Fin.ext (by simp [half]))

/-- The right 512 columns. -/
theorem right_read (r : Fin 1024) (q : Fin 512) :
    k0_pay3 (F := Ideal) x0 (View.ld xo (Rect.unit ![0, 512] ![1024, 512] inb_S1024x1024_S1024x512_0_512)) (View.ld x1 (Rect.unit ![0, 512] ![2816, 512] inb_S2816x1024_S2816x512_0_512)) (ix2 r q)
      = step x0 x1 xo (ix2 r (half 1 q)) := by
  unfold k0_pay3 step
  pointwise
  exact congrArg (fun p => xo (ix2 r p) + ∑ x, x0 (ix2 x r) * x1 (ix2 x p)) (Fin.ext (by simp [half]))

theorem zero_read : k0_pay1 (F := Ideal) = fun _ => 0 := by
  funext j
  unfold k0_pay1
  pointwise

theorem cast_read : k0_pay4 (F := Ideal) xo = xo := by
  funext j
  unfold k0_pay4
  pointwise

/-- The two column halves a point stores. -/
theorem halves (L : List (View.Piece (Elt Ideal) S1024x1024 .f32)) : View.canon (⟨Rect.unit ![0, 512] ![1024, 512] inb_S1024x1024_S1024x512_0_512,
      k0_pay3 x0 (View.ld xo (Rect.unit ![0, 512] ![1024, 512] inb_S1024x1024_S1024x512_0_512)) (View.ld x1 (Rect.unit ![0, 512] ![2816, 512] inb_S2816x1024_S2816x512_0_512))⟩
    :: ⟨Rect.unit ![0, 0] ![1024, 512] inb_S1024x1024_S1024x512_0_0,
      k0_pay2 x0 (View.ld xo (Rect.unit ![0, 0] ![1024, 512] inb_S1024x1024_S1024x512_0_0)) (View.ld x1 (Rect.unit ![0, 0] ![2816, 512] inb_S2816x1024_S2816x512_0_0))⟩ :: L)
    = step x0 x1 xo :=
  canon_halves _ _ _ _ (fun r q => right_read x0 x1 xo r q) fun r q => left_read x0 x1 xo r q

/-- The first point of a block starts from zero. -/
theorem outA (hc0 : cond0_0 i) (hc1 : ¬cond0_1 i) :
    out0_A_2 c i arg2 harg2 arg3 harg3 arg4 harg4 arg5 harg5 hc0 hc1 x0 x1 = step x0 x1 fun _ => 0 := by
  unfold out0_A_2
  rw [View.read_writes_eq_canon _ _ _ (cover0_A_2 c i arg2 harg2 arg3 harg3 arg4 harg4 arg5 harg5 hc0 hc1 x0 x1)]
  unfold kernelRun0_A
  dsimp only
  sl_unfold_words
  simp +decide only [↓View.readCov_skip, View.readCov_fill, View.readAt_eq_ld, harg2.read_unread, harg3.read_unread, View.ld_unit_zero (S := S2816x1024) hz, zero_read]
  exact halves x0 x1 (fun _ => 0) _

/-- A later point adds its slab's product. -/
theorem outB (hc0 : ¬cond0_0 i) (hc1 : ¬cond0_1 i) :
    out0_B_2 c i arg2 harg2 arg3 harg3 arg4 harg4 arg5 harg5 hc0 hc1 x0 x1 xo = step x0 x1 xo := by
  unfold out0_B_2
  rw [View.read_writes_eq_canon _ _ _ (cover0_B_2 c i arg2 harg2 arg3 harg3 arg4 harg4 arg5 harg5 hc0 hc1 x0 x1 xo)]
  unfold kernelRun0_B
  dsimp only
  sl_unfold_words
  simp only [View.readAt_eq_ld, harg2.read_unread, harg3.read_unread, harg4.read_unread, View.ld_unit_zero (S := S2816x1024) hz]
  exact halves x0 x1 xo _

/-- The last point too, -/
theorem outC (hc0 : ¬cond0_0 i) (hc1 : cond0_1 i) :
    out0_C_2 c i arg2 harg2 arg3 harg3 arg4 harg4 arg5 harg5 hc0 hc1 x0 x1 xo = step x0 x1 xo := by
  unfold out0_C_2
  rw [View.read_writes_eq_canon _ _ _ (cover0_C_2 c i arg2 harg2 arg3 harg3 arg4 harg4 arg5 harg5 hc0 hc1 x0 x1 xo)]
  unfold kernelRun0_C
  dsimp only
  sl_unfold_words
  simp only [View.readAt_eq_ld, harg2.read_unread, harg3.read_unread, harg4.read_unread, View.ld_unit_zero (S := S2816x1024) hz]
  exact halves x0 x1 xo _

/-- and casts the sum to the second output. -/
theorem outC' (hc0 : ¬cond0_0 i) (hc1 : cond0_1 i) :
    out0_C_3 c i arg2 harg2 arg3 harg3 arg4 harg4 arg5 harg5 hc0 hc1 x0 x1 xo = step x0 x1 xo := by
  unfold out0_C_3
  rw [View.read_writes_eq_canon _ _ _ (cover0_C_3 c i arg2 harg2 arg3 harg3 arg4 harg4 arg5 harg5 hc0 hc1 x0 x1 xo)]
  unfold kernelRun0_C
  dsimp only
  sl_unfold_words
  rw [View.canon_unit_zero hz]
  simp only [View.readAt_eq_ld, harg2.read_unread, harg3.read_unread, harg4.read_unread, View.ld_unit_zero (S := S2816x1024) hz]
  rw [readCov_whole arg4.view (halves x0 x1 xo _)]
  exact cast_read _

end Point

/-! ## The arrays -/

variable (m : (ℓ : Loc nD τ sig) → Buf (Elt Ideal) ℓ) (c : Dev nD)

theorem ixA : ∀ t : Fin grid0.N, win0_0.index t 0 = t.val % 3 ∧ win0_0.index t 1 = t.val / 3 := by decide +kernel
theorem ixB : ∀ t : Fin grid0.N, win0_1.index t 0 = t.val % 3 ∧ win0_1.index t 1 = 0 := by decide +kernel
theorem ixO : ∀ t : Fin grid0.N, win0_2.index t 0 = t.val / 3 ∧ win0_2.index t 1 = 0 := by decide +kernel
theorem ixO' : ∀ t : Fin grid0.N, win0_3.index t 0 = t.val / 3 ∧ win0_3.index t 1 = 0 := by decide +kernel

/-- The two operands. -/
def inA : S8448x4096.Idx → EReal := m ((c : Thread nD τ).loc main_arg0)
def inB : S8448x1024.Idx → EReal := m ((c : Thread nD τ).loc main_arg1)

theorem wide : cfg0.N * 1024 = 3 * 4096 := by rw [show cfg0.N = 12 from N_0]

theorem blkA (t : Fin cfg0.N) (l : Fin 2816) (r : Fin 1024) : (iblk m c 0 t : Vec Ideal S2816x1024 .bf16) (ix2 l r)
    = inA m c (ix2 (row (t.val % 3) (mod3 _) l) (col wide t.val t.isLt r)) := by
  unfold iblk inA
  rw [View.read_apply]
  show V m c main_arg0 _ = m (c.tc.loc main_arg0) _
  unfold V
  congr 1
  funext a
  apply Fin.ext
  match a with
  | ⟨0, _⟩ => show win0_0.index t 0 * 2816 + 1 * l.val = t.val % 3 * 2816 + l.val; rw [(ixA t).1]; omega
  | ⟨1, _⟩ => show win0_0.index t 1 * 1024 + 1 * r.val = t.val / 3 * 1024 + r.val; rw [(ixA t).2]; omega

theorem blkB (t : Fin cfg0.N) (l : Fin 2816) (r : Fin 1024) : (iblk m c 1 t : Vec Ideal S2816x1024 .bf16) (ix2 l r)
    = inB m c (ix2 (row (t.val % 3) (mod3 _) l) r) := by
  unfold iblk inB
  rw [View.read_apply]
  show V m c main_arg1 _ = m (c.tc.loc main_arg1) _
  unfold V
  congr 1
  funext a
  apply Fin.ext
  match a with
  | ⟨0, _⟩ => show win0_1.index t 0 * 2816 + 1 * l.val = t.val % 3 * 2816 + l.val; rw [(ixB t).1]; omega
  | ⟨1, _⟩ => show win0_1.index t 1 * 1024 + 1 * r.val = r.val; rw [(ixB t).2]; omega

/-- The product over all rows. -/
def out : S4096x1024.Idx → EReal := product (inA m c) (inB m c)

theorem acc (t : Fin cfg0.N) : ((outsAt0 m c t.val t.isLt).1 : Vec Ideal S1024x1024 .f32) = fun j =>
    upTo (fun l => inA m c (ix2 l (col wide t.val t.isLt (j 0))) * inB m c (ix2 l (j 1))) (t.val % 3) (mod3 _) := by
  refine run wide (fun n h => (outsAt0 m c n h).1) (fun n h => iblk m c 0 ⟨n, h⟩) (fun n h => iblk m c 1 ⟨n, h⟩) (inA m c) (inB m c)
    (fun n h l r => blkA m c ⟨n, h⟩ l r) (fun n h l r => blkB m c ⟨n, h⟩ l r) (fun n h h0 => ?_) (fun n h h0 => ?_) t.val t.isLt
  · have h1 : ¬n % 3 = 2 := by omega
    refine (congrArg Prod.fst (outsAt0_A m c ⟨n, h⟩ h0 h1)).trans ?_
    dsimp only
    exact outA c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (iblk m c 0 ⟨n, h⟩) (iblk m c 1 ⟨n, h⟩) _ _
  · by_cases h1 : n % 3 = 2
    · refine (congrArg Prod.fst (outsAt0_C m c ⟨n, h⟩ h0 h1)).trans ?_
      dsimp only
      exact outC c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (iblk m c 0 ⟨n, h⟩) (iblk m c 1 ⟨n, h⟩) (outsAt0 m c (n - 1) (Nat.lt_of_le_of_lt (Nat.sub_le _ _) h)).1 _ _
    · refine (congrArg Prod.fst (outsAt0_B m c ⟨n, h⟩ h0 h1)).trans ?_
      dsimp only
      exact outB c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (iblk m c 0 ⟨n, h⟩) (iblk m c 1 ⟨n, h⟩) (outsAt0 m c (n - 1) (Nat.lt_of_le_of_lt (Nat.sub_le _ _) h)).1 _ _

/-- At the last point of a block both outputs hold the sum. -/
theorem outs_last (t : Fin cfg0.N) (h1 : t.val % 3 = 2) : (outsAt0 m c t.val t.isLt).2 = (outsAt0 m c t.val t.isLt).1 := by
  have h0 : ¬t.val % 3 = 0 := by omega
  rw [outsAt0_C m c t h0 h1]
  dsimp only
  exact (outC' c (grid0.coords t) (ms0_0 t) (hs0_0 t) (ms0_1 t) (hs0_1 t) (ms0_2 t) (hs0_2 t) (ms0_3 t) (hs0_3 t) (iblk m c 0 t) (iblk m c 1 t) (outsAt0 m c (t.val - 1) (Nat.lt_of_le_of_lt (Nat.sub_le _ _) t.isLt)).1 _ _).trans
    (outC c (grid0.coords t) (ms0_0 t) (hs0_0 t) (ms0_1 t) (hs0_1 t) (ms0_2 t) (hs0_2 t) (ms0_3 t) (hs0_3 t) (iblk m c 0 t) (iblk m c 1 t) (outsAt0 m c (t.val - 1) (Nat.lt_of_le_of_lt (Nat.sub_le _ _) t.isLt)).1 _ _).symm

theorem acc_last (t : Fin cfg0.N) (h1 : t.val % 3 = 2) (r k : Fin 1024) :
    ((outsAt0 m c t.val t.isLt).1 : Vec Ideal S1024x1024 .f32) (ix2 r k) = out m c (ix2 (col wide t.val t.isLt r) k) :=
  run_last wide (inA m c) (inB m c) t.val t.isLt h1 r k _ (acc m c t)

theorem final : (dats m 0 c).arrAt 2 cfg0.N = out m c := by
  refine (dats m 0 c).arrAt_eq_of_cover 2 (out m c) (fun t hf => ?_) fun i => ?_
  · show (cfg0.win 2).cut (grid0.coords t) ((dats m 0 c).after 2 t) = _
    rw [after0_2]
    funext j
    rw [View.read_apply]
    obtain ⟨r, k, rfl⟩ : ∃ (r k : Fin 1024), j = ix2 r k := ⟨j 0, j 1, eq_ix2 j⟩
    refine (acc_last m c t ((flush0_2 t).mp hf) r k).trans ?_
    refine congrArg (out m c) ?_
    funext a
    apply Fin.ext
    match a with
    | ⟨0, _⟩ => show t.val / 3 * 1024 + r.val = win0_2.index t 0 * 1024 + 1 * r.val; rw [(ixO t).1]; omega
    | ⟨1, _⟩ => show k.val = win0_2.index t 1 * 1024 + 1 * k.val; rw [(ixO t).2]; omega
  · have h0 : (i 0 : Nat) < 4096 := (i 0).isLt
    have h1 : (i 1 : Nat) < 1024 := (i 1).isLt
    have hN : cfg0.N = 12 := N_0
    obtain ⟨t, ht⟩ : ∃ t : Fin cfg0.N, t.val = (i 0 : Nat) / 1024 * 3 + 2 := ⟨⟨(i 0 : Nat) / 1024 * 3 + 2, by omega⟩, rfl⟩
    refine ⟨t, (flush0_2 t).mpr (by omega), ?_⟩
    show i ∈ ((View.whole main_v0_0).slice (win0_2.rect t)).set
    rw [View.set_slice_whole, Rect.mem_set_unit]
    intro a
    match a with
    | ⟨0, _⟩ =>
      show win0_2.index t 0 * 1024 ≤ (i 0 : Nat) ∧ (i 0 : Nat) < win0_2.index t 0 * 1024 + 1024
      rw [(ixO t).1]; omega
    | ⟨1, _⟩ =>
      show win0_2.index t 1 * 1024 ≤ (i 1 : Nat) ∧ (i 1 : Nat) < win0_2.index t 1 * 1024 + 1024
      rw [(ixO t).2]; omega

theorem final' : (dats m 0 c).arrAt 3 cfg0.N = out m c := by
  refine (dats m 0 c).arrAt_eq_of_cover 3 (out m c) (fun t hf => ?_) fun i => ?_
  · have h2 := (flush0_3 t).mp hf
    show (cfg0.win 3).cut (grid0.coords t) ((dats m 0 c).after 3 t) = _
    rw [after0_3, outs_last m c t h2]
    funext j
    rw [View.read_apply]
    obtain ⟨r, k, rfl⟩ : ∃ (r k : Fin 1024), j = ix2 r k := ⟨j 0, j 1, eq_ix2 j⟩
    refine (acc_last m c t h2 r k).trans ?_
    refine congrArg (out m c) ?_
    funext a
    apply Fin.ext
    match a with
    | ⟨0, _⟩ => show t.val / 3 * 1024 + r.val = win0_3.index t 0 * 1024 + 1 * r.val; rw [(ixO' t).1]; omega
    | ⟨1, _⟩ => show k.val = win0_3.index t 1 * 1024 + 1 * k.val; rw [(ixO' t).2]; omega
  · have h0 : (i 0 : Nat) < 4096 := (i 0).isLt
    have h1 : (i 1 : Nat) < 1024 := (i 1).isLt
    have hN : cfg0.N = 12 := N_0
    obtain ⟨t, ht⟩ : ∃ t : Fin cfg0.N, t.val = (i 0 : Nat) / 1024 * 3 + 2 := ⟨⟨(i 0 : Nat) / 1024 * 3 + 2, by omega⟩, rfl⟩
    refine ⟨t, (flush0_3 t).mpr (by omega), ?_⟩
    show i ∈ ((View.whole main_v0_1).slice (win0_3.rect t)).set
    rw [View.set_slice_whole, Rect.mem_set_unit]
    intro a
    match a with
    | ⟨0, _⟩ =>
      show win0_3.index t 0 * 1024 ≤ (i 0 : Nat) ∧ (i 0 : Nat) < win0_3.index t 0 * 1024 + 1024
      rw [(ixO' t).1]; omega
    | ⟨1, _⟩ =>
      show win0_3.index t 1 * 1024 ≤ (i 1 : Nat) ∧ (i 1 : Nat) < win0_3.index t 1 * 1024 + 1024
      rw [(ixO' t).2]; omega

end Cert.Kernel2Ideal.Tile

end
-- ==== Proof.GradFf1.lean ====
/-
  The first feed-forward weight's gradient: a block of 1024 of the (transposed) rows is the product over all rows of the block of the activations' gradient and the normalised rows.
-/
module

public import proofs.«01_k».proof.Proof.Gen.Kernel3Ideal.Frame
public import proofs.«01_k».proof.Proof.Slabs

@[expose] public section

set_option maxRecDepth 16384

noncomputable section

open Idealize.ShloMosaic Idealize.ShloMosaic.TcCoe Idealize.SL.Sem
open Idealize.ShloMosaic.Pipeline (Dat)
open Cert.Slabs

namespace Cert.Kernel3Ideal.Tile

open Cert.Kernel3Ideal Cert.Kernel3Ideal.Gen

section Point

variable (c : Dev nD) (i : grid0.Coords) (arg2 : Memref sig .tc .vmem S2816x1024 .bf16) (harg2 : arg2.IsWhole)
  (arg3 : Memref sig .tc .vmem S2816x1024 .bf16) (harg3 : arg3.IsWhole) (arg4 : Memref sig .tc .vmem S1024x1024 .f32) (harg4 : arg4.IsWhole)
  (arg5 : Memref sig .tc .vmem S1024x1024 .bf16) (harg5 : arg5.IsWhole)
  (x0 : Vec Ideal S2816x1024 .bf16) (x1 : Vec Ideal S2816x1024 .bf16) (xo : Vec Ideal S1024x1024 .f32)

/-- The left 512 columns of a point's store. -/
theorem left_read (r : Fin 1024) (q : Fin 512) :
    k0_pay2 (F := Ideal) x0 (View.ld xo (Rect.unit ![0, 0] ![1024, 512] inb_S1024x1024_S1024x512_0_0)) (View.ld x1 (Rect.unit ![0, 0] ![2816, 512] inb_S2816x1024_S2816x512_0_0)) (ix2 r q)
      = step x0 x1 xo (ix2 r (half 0 q)) := by
  unfold k0_pay2 step
  pointwise
  exact congrArg (fun p => xo (ix2 r p) + ∑ x, x0 (ix2 x r) * x1 (ix2 x p)) (Fin.ext (by simp [half]))

/-- The right 512 columns. -/
theorem right_read (r : Fin 1024) (q : Fin 512) :
    k0_pay3 (F := Ideal) x0 (View.ld xo (Rect.unit ![0, 512] ![1024, 512] inb_S1024x1024_S1024x512_0_512)) (View.ld x1 (Rect.unit ![0, 512] ![2816, 512] inb_S2816x1024_S2816x512_0_512)) (ix2 r q)
      = step x0 x1 xo (ix2 r (half 1 q)) := by
  unfold k0_pay3 step
  pointwise
  exact congrArg (fun p => xo (ix2 r p) + ∑ x, x0 (ix2 x r) * x1 (ix2 x p)) (Fin.ext (by simp [half]))

theorem zero_read : k0_pay1 (F := Ideal) = fun _ => 0 := by
  funext j
  unfold k0_pay1
  pointwise

theorem cast_read : k0_pay4 (F := Ideal) xo = xo := by
  funext j
  unfold k0_pay4
  pointwise

/-- The two column halves a point stores. -/
theorem halves (L : List (View.Piece (Elt Ideal) S1024x1024 .f32)) : View.canon (⟨Rect.unit ![0, 512] ![1024, 512] inb_S1024x1024_S1024x512_0_512,
      k0_pay3 x0 (View.ld xo (Rect.unit ![0, 512] ![1024, 512] inb_S1024x1024_S1024x512_0_512)) (View.ld x1 (Rect.unit ![0, 512] ![2816, 512] inb_S2816x1024_S2816x512_0_512))⟩
    :: ⟨Rect.unit ![0, 0] ![1024, 512] inb_S1024x1024_S1024x512_0_0,
      k0_pay2 x0 (View.ld xo (Rect.unit ![0, 0] ![1024, 512] inb_S1024x1024_S1024x512_0_0)) (View.ld x1 (Rect.unit ![0, 0] ![2816, 512] inb_S2816x1024_S2816x512_0_0))⟩ :: L)
    = step x0 x1 xo :=
  canon_halves _ _ _ _ (fun r q => right_read x0 x1 xo r q) fun r q => left_read x0 x1 xo r q

/-- The first point of a block starts from zero. -/
theorem outA (hc0 : cond0_0 i) (hc1 : ¬cond0_1 i) :
    out0_A_2 c i arg2 harg2 arg3 harg3 arg4 harg4 arg5 harg5 hc0 hc1 x0 x1 = step x0 x1 fun _ => 0 := by
  unfold out0_A_2
  rw [View.read_writes_eq_canon _ _ _ (cover0_A_2 c i arg2 harg2 arg3 harg3 arg4 harg4 arg5 harg5 hc0 hc1 x0 x1)]
  unfold kernelRun0_A
  dsimp only
  sl_unfold_words
  simp +decide only [↓View.readCov_skip, View.readCov_fill, View.readAt_eq_ld, harg2.read_unread, harg3.read_unread, View.ld_unit_zero (S := S2816x1024) hz, zero_read]
  exact halves x0 x1 (fun _ => 0) _

/-- A later point adds its slab's product. -/
theorem outB (hc0 : ¬cond0_0 i) (hc1 : ¬cond0_1 i) :
    out0_B_2 c i arg2 harg2 arg3 harg3 arg4 harg4 arg5 harg5 hc0 hc1 x0 x1 xo = step x0 x1 xo := by
  unfold out0_B_2
  rw [View.read_writes_eq_canon _ _ _ (cover0_B_2 c i arg2 harg2 arg3 harg3 arg4 harg4 arg5 harg5 hc0 hc1 x0 x1 xo)]
  unfold kernelRun0_B
  dsimp only
  sl_unfold_words
  simp only [View.readAt_eq_ld, harg2.read_unread, harg3.read_unread, harg4.read_unread, View.ld_unit_zero (S := S2816x1024) hz]
  exact halves x0 x1 xo _

/-- The last point too, -/
theorem outC (hc0 : ¬cond0_0 i) (hc1 : cond0_1 i) :
    out0_C_2 c i arg2 harg2 arg3 harg3 arg4 harg4 arg5 harg5 hc0 hc1 x0 x1 xo = step x0 x1 xo := by
  unfold out0_C_2
  rw [View.read_writes_eq_canon _ _ _ (cover0_C_2 c i arg2 harg2 arg3 harg3 arg4 harg4 arg5 harg5 hc0 hc1 x0 x1 xo)]
  unfold kernelRun0_C
  dsimp only
  sl_unfold_words
  simp only [View.readAt_eq_ld, harg2.read_unread, harg3.read_unread, harg4.read_unread, View.ld_unit_zero (S := S2816x1024) hz]
  exact halves x0 x1 xo _

/-- and casts the sum to the second output. -/
theorem outC' (hc0 : ¬cond0_0 i) (hc1 : cond0_1 i) :
    out0_C_3 c i arg2 harg2 arg3 harg3 arg4 harg4 arg5 harg5 hc0 hc1 x0 x1 xo = step x0 x1 xo := by
  unfold out0_C_3
  rw [View.read_writes_eq_canon _ _ _ (cover0_C_3 c i arg2 harg2 arg3 harg3 arg4 harg4 arg5 harg5 hc0 hc1 x0 x1 xo)]
  unfold kernelRun0_C
  dsimp only
  sl_unfold_words
  rw [View.canon_unit_zero hz]
  simp only [View.readAt_eq_ld, harg2.read_unread, harg3.read_unread, harg4.read_unread, View.ld_unit_zero (S := S2816x1024) hz]
  rw [readCov_whole arg4.view (halves x0 x1 xo _)]
  exact cast_read _

end Point

/-! ## The arrays -/

variable (m : (ℓ : Loc nD τ sig) → Buf (Elt Ideal) ℓ) (c : Dev nD)

theorem ixA : ∀ t : Fin grid0.N, win0_0.index t 0 = t.val % 3 ∧ win0_0.index t 1 = t.val / 3 := by decide +kernel
theorem ixB : ∀ t : Fin grid0.N, win0_1.index t 0 = t.val % 3 ∧ win0_1.index t 1 = 0 := by decide +kernel
theorem ixO : ∀ t : Fin grid0.N, win0_2.index t 0 = t.val / 3 ∧ win0_2.index t 1 = 0 := by decide +kernel
theorem ixO' : ∀ t : Fin grid0.N, win0_3.index t 0 = t.val / 3 ∧ win0_3.index t 1 = 0 := by decide +kernel

/-- The two operands. -/
def inA : S8448x4096.Idx → EReal := m ((c : Thread nD τ).loc main_arg0)
def inB : S8448x1024.Idx → EReal := m ((c : Thread nD τ).loc main_arg1)

theorem wide : cfg0.N * 1024 = 3 * 4096 := by rw [show cfg0.N = 12 from N_0]

theorem blkA (t : Fin cfg0.N) (l : Fin 2816) (r : Fin 1024) : (iblk m c 0 t : Vec Ideal S2816x1024 .bf16) (ix2 l r)
    = inA m c (ix2 (row (t.val % 3) (mod3 _) l) (col wide t.val t.isLt r)) := by
  unfold iblk inA
  rw [View.read_apply]
  show V m c main_arg0 _ = m (c.tc.loc main_arg0) _
  unfold V
  congr 1
  funext a
  apply Fin.ext
  match a with
  | ⟨0, _⟩ => show win0_0.index t 0 * 2816 + 1 * l.val = t.val % 3 * 2816 + l.val; rw [(ixA t).1]; omega
  | ⟨1, _⟩ => show win0_0.index t 1 * 1024 + 1 * r.val = t.val / 3 * 1024 + r.val; rw [(ixA t).2]; omega

theorem blkB (t : Fin cfg0.N) (l : Fin 2816) (r : Fin 1024) : (iblk m c 1 t : Vec Ideal S2816x1024 .bf16) (ix2 l r)
    = inB m c (ix2 (row (t.val % 3) (mod3 _) l) r) := by
  unfold iblk inB
  rw [View.read_apply]
  show V m c main_arg1 _ = m (c.tc.loc main_arg1) _
  unfold V
  congr 1
  funext a
  apply Fin.ext
  match a with
  | ⟨0, _⟩ => show win0_1.index t 0 * 2816 + 1 * l.val = t.val % 3 * 2816 + l.val; rw [(ixB t).1]; omega
  | ⟨1, _⟩ => show win0_1.index t 1 * 1024 + 1 * r.val = r.val; rw [(ixB t).2]; omega

/-- The product over all rows. -/
def out : S4096x1024.Idx → EReal := product (inA m c) (inB m c)

theorem acc (t : Fin cfg0.N) : ((outsAt0 m c t.val t.isLt).1 : Vec Ideal S1024x1024 .f32) = fun j =>
    upTo (fun l => inA m c (ix2 l (col wide t.val t.isLt (j 0))) * inB m c (ix2 l (j 1))) (t.val % 3) (mod3 _) := by
  refine run wide (fun n h => (outsAt0 m c n h).1) (fun n h => iblk m c 0 ⟨n, h⟩) (fun n h => iblk m c 1 ⟨n, h⟩) (inA m c) (inB m c)
    (fun n h l r => blkA m c ⟨n, h⟩ l r) (fun n h l r => blkB m c ⟨n, h⟩ l r) (fun n h h0 => ?_) (fun n h h0 => ?_) t.val t.isLt
  · have h1 : ¬n % 3 = 2 := by omega
    refine (congrArg Prod.fst (outsAt0_A m c ⟨n, h⟩ h0 h1)).trans ?_
    dsimp only
    exact outA c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (iblk m c 0 ⟨n, h⟩) (iblk m c 1 ⟨n, h⟩) _ _
  · by_cases h1 : n % 3 = 2
    · refine (congrArg Prod.fst (outsAt0_C m c ⟨n, h⟩ h0 h1)).trans ?_
      dsimp only
      exact outC c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (iblk m c 0 ⟨n, h⟩) (iblk m c 1 ⟨n, h⟩) (outsAt0 m c (n - 1) (Nat.lt_of_le_of_lt (Nat.sub_le _ _) h)).1 _ _
    · refine (congrArg Prod.fst (outsAt0_B m c ⟨n, h⟩ h0 h1)).trans ?_
      dsimp only
      exact outB c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (iblk m c 0 ⟨n, h⟩) (iblk m c 1 ⟨n, h⟩) (outsAt0 m c (n - 1) (Nat.lt_of_le_of_lt (Nat.sub_le _ _) h)).1 _ _

/-- At the last point of a block both outputs hold the sum. -/
theorem outs_last (t : Fin cfg0.N) (h1 : t.val % 3 = 2) : (outsAt0 m c t.val t.isLt).2 = (outsAt0 m c t.val t.isLt).1 := by
  have h0 : ¬t.val % 3 = 0 := by omega
  rw [outsAt0_C m c t h0 h1]
  dsimp only
  exact (outC' c (grid0.coords t) (ms0_0 t) (hs0_0 t) (ms0_1 t) (hs0_1 t) (ms0_2 t) (hs0_2 t) (ms0_3 t) (hs0_3 t) (iblk m c 0 t) (iblk m c 1 t) (outsAt0 m c (t.val - 1) (Nat.lt_of_le_of_lt (Nat.sub_le _ _) t.isLt)).1 _ _).trans
    (outC c (grid0.coords t) (ms0_0 t) (hs0_0 t) (ms0_1 t) (hs0_1 t) (ms0_2 t) (hs0_2 t) (ms0_3 t) (hs0_3 t) (iblk m c 0 t) (iblk m c 1 t) (outsAt0 m c (t.val - 1) (Nat.lt_of_le_of_lt (Nat.sub_le _ _) t.isLt)).1 _ _).symm

theorem acc_last (t : Fin cfg0.N) (h1 : t.val % 3 = 2) (r k : Fin 1024) :
    ((outsAt0 m c t.val t.isLt).1 : Vec Ideal S1024x1024 .f32) (ix2 r k) = out m c (ix2 (col wide t.val t.isLt r) k) :=
  run_last wide (inA m c) (inB m c) t.val t.isLt h1 r k _ (acc m c t)

theorem final : (dats m 0 c).arrAt 2 cfg0.N = out m c := by
  refine (dats m 0 c).arrAt_eq_of_cover 2 (out m c) (fun t hf => ?_) fun i => ?_
  · show (cfg0.win 2).cut (grid0.coords t) ((dats m 0 c).after 2 t) = _
    rw [after0_2]
    funext j
    rw [View.read_apply]
    obtain ⟨r, k, rfl⟩ : ∃ (r k : Fin 1024), j = ix2 r k := ⟨j 0, j 1, eq_ix2 j⟩
    refine (acc_last m c t ((flush0_2 t).mp hf) r k).trans ?_
    refine congrArg (out m c) ?_
    funext a
    apply Fin.ext
    match a with
    | ⟨0, _⟩ => show t.val / 3 * 1024 + r.val = win0_2.index t 0 * 1024 + 1 * r.val; rw [(ixO t).1]; omega
    | ⟨1, _⟩ => show k.val = win0_2.index t 1 * 1024 + 1 * k.val; rw [(ixO t).2]; omega
  · have h0 : (i 0 : Nat) < 4096 := (i 0).isLt
    have h1 : (i 1 : Nat) < 1024 := (i 1).isLt
    have hN : cfg0.N = 12 := N_0
    obtain ⟨t, ht⟩ : ∃ t : Fin cfg0.N, t.val = (i 0 : Nat) / 1024 * 3 + 2 := ⟨⟨(i 0 : Nat) / 1024 * 3 + 2, by omega⟩, rfl⟩
    refine ⟨t, (flush0_2 t).mpr (by omega), ?_⟩
    show i ∈ ((View.whole main_v0_0).slice (win0_2.rect t)).set
    rw [View.set_slice_whole, Rect.mem_set_unit]
    intro a
    match a with
    | ⟨0, _⟩ =>
      show win0_2.index t 0 * 1024 ≤ (i 0 : Nat) ∧ (i 0 : Nat) < win0_2.index t 0 * 1024 + 1024
      rw [(ixO t).1]; omega
    | ⟨1, _⟩ =>
      show win0_2.index t 1 * 1024 ≤ (i 1 : Nat) ∧ (i 1 : Nat) < win0_2.index t 1 * 1024 + 1024
      rw [(ixO t).2]; omega

theorem final' : (dats m 0 c).arrAt 3 cfg0.N = out m c := by
  refine (dats m 0 c).arrAt_eq_of_cover 3 (out m c) (fun t hf => ?_) fun i => ?_
  · have h2 := (flush0_3 t).mp hf
    show (cfg0.win 3).cut (grid0.coords t) ((dats m 0 c).after 3 t) = _
    rw [after0_3, outs_last m c t h2]
    funext j
    rw [View.read_apply]
    obtain ⟨r, k, rfl⟩ : ∃ (r k : Fin 1024), j = ix2 r k := ⟨j 0, j 1, eq_ix2 j⟩
    refine (acc_last m c t h2 r k).trans ?_
    refine congrArg (out m c) ?_
    funext a
    apply Fin.ext
    match a with
    | ⟨0, _⟩ => show t.val / 3 * 1024 + r.val = win0_3.index t 0 * 1024 + 1 * r.val; rw [(ixO' t).1]; omega
    | ⟨1, _⟩ => show k.val = win0_3.index t 1 * 1024 + 1 * k.val; rw [(ixO' t).2]; omega
  · have h0 : (i 0 : Nat) < 4096 := (i 0).isLt
    have h1 : (i 1 : Nat) < 1024 := (i 1).isLt
    have hN : cfg0.N = 12 := N_0
    obtain ⟨t, ht⟩ : ∃ t : Fin cfg0.N, t.val = (i 0 : Nat) / 1024 * 3 + 2 := ⟨⟨(i 0 : Nat) / 1024 * 3 + 2, by omega⟩, rfl⟩
    refine ⟨t, (flush0_3 t).mpr (by omega), ?_⟩
    show i ∈ ((View.whole main_v0_1).slice (win0_3.rect t)).set
    rw [View.set_slice_whole, Rect.mem_set_unit]
    intro a
    match a with
    | ⟨0, _⟩ =>
      show win0_3.index t 0 * 1024 ≤ (i 0 : Nat) ∧ (i 0 : Nat) < win0_3.index t 0 * 1024 + 1024
      rw [(ixO' t).1]; omega
    | ⟨1, _⟩ =>
      show win0_3.index t 1 * 1024 ≤ (i 1 : Nat) ∧ (i 1 : Nat) < win0_3.index t 1 * 1024 + 1024
      rw [(ixO' t).2]; omega

end Cert.Kernel3Ideal.Tile

end
-- ==== Proof.GradOut.lean ====
/-
  The output projection's weight's gradient: a block of 1024 of its rows is the product over all rows of the block of the mixer's output and the hidden gradient.
-/
module

public import proofs.«01_k».proof.Proof.Gen.Kernel4Ideal.Frame
public import proofs.«01_k».proof.Proof.Slabs

@[expose] public section

set_option maxRecDepth 16384

noncomputable section

open Idealize.ShloMosaic Idealize.ShloMosaic.TcCoe Idealize.SL.Sem
open Idealize.ShloMosaic.Pipeline (Dat)
open Cert.Slabs

namespace Cert.Kernel4Ideal.Tile

open Cert.Kernel4Ideal Cert.Kernel4Ideal.Gen

section Point

variable (c : Dev nD) (i : grid0.Coords) (arg2 : Memref sig .tc .vmem S2816x1024 .bf16) (harg2 : arg2.IsWhole)
  (arg3 : Memref sig .tc .vmem S2816x1024 .f32) (harg3 : arg3.IsWhole) (arg4 : Memref sig .tc .vmem S1024x1024 .f32) (harg4 : arg4.IsWhole)
  (arg5 : Memref sig .tc .vmem S1024x1024 .bf16) (harg5 : arg5.IsWhole)
  (x0 : Vec Ideal S2816x1024 .bf16) (x1 : Vec Ideal S2816x1024 .f32) (xo : Vec Ideal S1024x1024 .f32)

/-- The left 512 columns of a point's store. -/
theorem left_read (r : Fin 1024) (q : Fin 512) :
    k0_pay2 (F := Ideal) x0 (View.ld xo (Rect.unit ![0, 0] ![1024, 512] inb_S1024x1024_S1024x512_0_0)) (View.ld x1 (Rect.unit ![0, 0] ![2816, 512] inb_S2816x1024_S2816x512_0_0)) (ix2 r q)
      = step x0 x1 xo (ix2 r (half 0 q)) := by
  unfold k0_pay2 step
  pointwise
  exact congrArg (fun p => xo (ix2 r p) + ∑ x, x0 (ix2 x r) * x1 (ix2 x p)) (Fin.ext (by simp [half]))

/-- The right 512 columns. -/
theorem right_read (r : Fin 1024) (q : Fin 512) :
    k0_pay3 (F := Ideal) x0 (View.ld xo (Rect.unit ![0, 512] ![1024, 512] inb_S1024x1024_S1024x512_0_512)) (View.ld x1 (Rect.unit ![0, 512] ![2816, 512] inb_S2816x1024_S2816x512_0_512)) (ix2 r q)
      = step x0 x1 xo (ix2 r (half 1 q)) := by
  unfold k0_pay3 step
  pointwise
  exact congrArg (fun p => xo (ix2 r p) + ∑ x, x0 (ix2 x r) * x1 (ix2 x p)) (Fin.ext (by simp [half]))

theorem zero_read : k0_pay1 (F := Ideal) = fun _ => 0 := by
  funext j
  unfold k0_pay1
  pointwise

theorem cast_read : k0_pay4 (F := Ideal) xo = xo := by
  funext j
  unfold k0_pay4
  pointwise

/-- The two column halves a point stores. -/
theorem halves (L : List (View.Piece (Elt Ideal) S1024x1024 .f32)) : View.canon (⟨Rect.unit ![0, 512] ![1024, 512] inb_S1024x1024_S1024x512_0_512,
      k0_pay3 x0 (View.ld xo (Rect.unit ![0, 512] ![1024, 512] inb_S1024x1024_S1024x512_0_512)) (View.ld x1 (Rect.unit ![0, 512] ![2816, 512] inb_S2816x1024_S2816x512_0_512))⟩
    :: ⟨Rect.unit ![0, 0] ![1024, 512] inb_S1024x1024_S1024x512_0_0,
      k0_pay2 x0 (View.ld xo (Rect.unit ![0, 0] ![1024, 512] inb_S1024x1024_S1024x512_0_0)) (View.ld x1 (Rect.unit ![0, 0] ![2816, 512] inb_S2816x1024_S2816x512_0_0))⟩ :: L)
    = step x0 x1 xo :=
  canon_halves _ _ _ _ (fun r q => right_read x0 x1 xo r q) fun r q => left_read x0 x1 xo r q

/-- The first point of a block starts from zero. -/
theorem outA (hc0 : cond0_0 i) (hc1 : ¬cond0_1 i) :
    out0_A_2 c i arg2 harg2 arg3 harg3 arg4 harg4 arg5 harg5 hc0 hc1 x0 x1 = step x0 x1 fun _ => 0 := by
  unfold out0_A_2
  rw [View.read_writes_eq_canon _ _ _ (cover0_A_2 c i arg2 harg2 arg3 harg3 arg4 harg4 arg5 harg5 hc0 hc1 x0 x1)]
  unfold kernelRun0_A
  dsimp only
  sl_unfold_words
  simp +decide only [↓View.readCov_skip, View.readCov_fill, View.readAt_eq_ld, harg2.read_unread, harg3.read_unread, View.ld_unit_zero (S := S2816x1024) hz, zero_read]
  exact halves x0 x1 (fun _ => 0) _

/-- A later point adds its slab's product. -/
theorem outB (hc0 : ¬cond0_0 i) (hc1 : ¬cond0_1 i) :
    out0_B_2 c i arg2 harg2 arg3 harg3 arg4 harg4 arg5 harg5 hc0 hc1 x0 x1 xo = step x0 x1 xo := by
  unfold out0_B_2
  rw [View.read_writes_eq_canon _ _ _ (cover0_B_2 c i arg2 harg2 arg3 harg3 arg4 harg4 arg5 harg5 hc0 hc1 x0 x1 xo)]
  unfold kernelRun0_B
  dsimp only
  sl_unfold_words
  simp only [View.readAt_eq_ld, harg2.read_unread, harg3.read_unread, harg4.read_unread, View.ld_unit_zero (S := S2816x1024) hz]
  exact halves x0 x1 xo _

/-- The last point too, -/
theorem outC (hc0 : ¬cond0_0 i) (hc1 : cond0_1 i) :
    out0_C_2 c i arg2 harg2 arg3 harg3 arg4 harg4 arg5 harg5 hc0 hc1 x0 x1 xo = step x0 x1 xo := by
  unfold out0_C_2
  rw [View.read_writes_eq_canon _ _ _ (cover0_C_2 c i arg2 harg2 arg3 harg3 arg4 harg4 arg5 harg5 hc0 hc1 x0 x1 xo)]
  unfold kernelRun0_C
  dsimp only
  sl_unfold_words
  simp only [View.readAt_eq_ld, harg2.read_unread, harg3.read_unread, harg4.read_unread, View.ld_unit_zero (S := S2816x1024) hz]
  exact halves x0 x1 xo _

/-- and casts the sum to the second output. -/
theorem outC' (hc0 : ¬cond0_0 i) (hc1 : cond0_1 i) :
    out0_C_3 c i arg2 harg2 arg3 harg3 arg4 harg4 arg5 harg5 hc0 hc1 x0 x1 xo = step x0 x1 xo := by
  unfold out0_C_3
  rw [View.read_writes_eq_canon _ _ _ (cover0_C_3 c i arg2 harg2 arg3 harg3 arg4 harg4 arg5 harg5 hc0 hc1 x0 x1 xo)]
  unfold kernelRun0_C
  dsimp only
  sl_unfold_words
  rw [View.canon_unit_zero hz]
  simp only [View.readAt_eq_ld, harg2.read_unread, harg3.read_unread, harg4.read_unread, View.ld_unit_zero (S := S2816x1024) hz]
  rw [readCov_whole arg4.view (halves x0 x1 xo _)]
  exact cast_read _

end Point

/-! ## The arrays -/

variable (m : (ℓ : Loc nD τ sig) → Buf (Elt Ideal) ℓ) (c : Dev nD)

theorem ixA : ∀ t : Fin grid0.N, win0_0.index t 0 = t.val % 3 ∧ win0_0.index t 1 = t.val / 3 := by decide +kernel
theorem ixB : ∀ t : Fin grid0.N, win0_1.index t 0 = t.val % 3 ∧ win0_1.index t 1 = 0 := by decide +kernel
theorem ixO : ∀ t : Fin grid0.N, win0_2.index t 0 = t.val / 3 ∧ win0_2.index t 1 = 0 := by decide +kernel
theorem ixO' : ∀ t : Fin grid0.N, win0_3.index t 0 = t.val / 3 ∧ win0_3.index t 1 = 0 := by decide +kernel

/-- The two operands. -/
def inA : S8448x2048.Idx → EReal := m ((c : Thread nD τ).loc main_arg0)
def inB : S8448x1024.Idx → EReal := m ((c : Thread nD τ).loc main_arg1)

theorem wide : cfg0.N * 1024 = 3 * 2048 := by rw [show cfg0.N = 6 from N_0]

theorem blkA (t : Fin cfg0.N) (l : Fin 2816) (r : Fin 1024) : (iblk m c 0 t : Vec Ideal S2816x1024 .bf16) (ix2 l r)
    = inA m c (ix2 (row (t.val % 3) (mod3 _) l) (col wide t.val t.isLt r)) := by
  unfold iblk inA
  rw [View.read_apply]
  show V m c main_arg0 _ = m (c.tc.loc main_arg0) _
  unfold V
  congr 1
  funext a
  apply Fin.ext
  match a with
  | ⟨0, _⟩ => show win0_0.index t 0 * 2816 + 1 * l.val = t.val % 3 * 2816 + l.val; rw [(ixA t).1]; omega
  | ⟨1, _⟩ => show win0_0.index t 1 * 1024 + 1 * r.val = t.val / 3 * 1024 + r.val; rw [(ixA t).2]; omega

theorem blkB (t : Fin cfg0.N) (l : Fin 2816) (r : Fin 1024) : (iblk m c 1 t : Vec Ideal S2816x1024 .f32) (ix2 l r)
    = inB m c (ix2 (row (t.val % 3) (mod3 _) l) r) := by
  unfold iblk inB
  rw [View.read_apply]
  show V m c main_arg1 _ = m (c.tc.loc main_arg1) _
  unfold V
  congr 1
  funext a
  apply Fin.ext
  match a with
  | ⟨0, _⟩ => show win0_1.index t 0 * 2816 + 1 * l.val = t.val % 3 * 2816 + l.val; rw [(ixB t).1]; omega
  | ⟨1, _⟩ => show win0_1.index t 1 * 1024 + 1 * r.val = r.val; rw [(ixB t).2]; omega

/-- The product over all rows. -/
def out : S2048x1024.Idx → EReal := product (inA m c) (inB m c)

theorem acc (t : Fin cfg0.N) : ((outsAt0 m c t.val t.isLt).1 : Vec Ideal S1024x1024 .f32) = fun j =>
    upTo (fun l => inA m c (ix2 l (col wide t.val t.isLt (j 0))) * inB m c (ix2 l (j 1))) (t.val % 3) (mod3 _) := by
  refine run wide (fun n h => (outsAt0 m c n h).1) (fun n h => iblk m c 0 ⟨n, h⟩) (fun n h => iblk m c 1 ⟨n, h⟩) (inA m c) (inB m c)
    (fun n h l r => blkA m c ⟨n, h⟩ l r) (fun n h l r => blkB m c ⟨n, h⟩ l r) (fun n h h0 => ?_) (fun n h h0 => ?_) t.val t.isLt
  · have h1 : ¬n % 3 = 2 := by omega
    refine (congrArg Prod.fst (outsAt0_A m c ⟨n, h⟩ h0 h1)).trans ?_
    dsimp only
    exact outA c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (iblk m c 0 ⟨n, h⟩) (iblk m c 1 ⟨n, h⟩) _ _
  · by_cases h1 : n % 3 = 2
    · refine (congrArg Prod.fst (outsAt0_C m c ⟨n, h⟩ h0 h1)).trans ?_
      dsimp only
      exact outC c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (iblk m c 0 ⟨n, h⟩) (iblk m c 1 ⟨n, h⟩) (outsAt0 m c (n - 1) (Nat.lt_of_le_of_lt (Nat.sub_le _ _) h)).1 _ _
    · refine (congrArg Prod.fst (outsAt0_B m c ⟨n, h⟩ h0 h1)).trans ?_
      dsimp only
      exact outB c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (iblk m c 0 ⟨n, h⟩) (iblk m c 1 ⟨n, h⟩) (outsAt0 m c (n - 1) (Nat.lt_of_le_of_lt (Nat.sub_le _ _) h)).1 _ _

/-- At the last point of a block both outputs hold the sum. -/
theorem outs_last (t : Fin cfg0.N) (h1 : t.val % 3 = 2) : (outsAt0 m c t.val t.isLt).2 = (outsAt0 m c t.val t.isLt).1 := by
  have h0 : ¬t.val % 3 = 0 := by omega
  rw [outsAt0_C m c t h0 h1]
  dsimp only
  exact (outC' c (grid0.coords t) (ms0_0 t) (hs0_0 t) (ms0_1 t) (hs0_1 t) (ms0_2 t) (hs0_2 t) (ms0_3 t) (hs0_3 t) (iblk m c 0 t) (iblk m c 1 t) (outsAt0 m c (t.val - 1) (Nat.lt_of_le_of_lt (Nat.sub_le _ _) t.isLt)).1 _ _).trans
    (outC c (grid0.coords t) (ms0_0 t) (hs0_0 t) (ms0_1 t) (hs0_1 t) (ms0_2 t) (hs0_2 t) (ms0_3 t) (hs0_3 t) (iblk m c 0 t) (iblk m c 1 t) (outsAt0 m c (t.val - 1) (Nat.lt_of_le_of_lt (Nat.sub_le _ _) t.isLt)).1 _ _).symm

theorem acc_last (t : Fin cfg0.N) (h1 : t.val % 3 = 2) (r k : Fin 1024) :
    ((outsAt0 m c t.val t.isLt).1 : Vec Ideal S1024x1024 .f32) (ix2 r k) = out m c (ix2 (col wide t.val t.isLt r) k) :=
  run_last wide (inA m c) (inB m c) t.val t.isLt h1 r k _ (acc m c t)

theorem final : (dats m 0 c).arrAt 2 cfg0.N = out m c := by
  refine (dats m 0 c).arrAt_eq_of_cover 2 (out m c) (fun t hf => ?_) fun i => ?_
  · show (cfg0.win 2).cut (grid0.coords t) ((dats m 0 c).after 2 t) = _
    rw [after0_2]
    funext j
    rw [View.read_apply]
    obtain ⟨r, k, rfl⟩ : ∃ (r k : Fin 1024), j = ix2 r k := ⟨j 0, j 1, eq_ix2 j⟩
    refine (acc_last m c t ((flush0_2 t).mp hf) r k).trans ?_
    refine congrArg (out m c) ?_
    funext a
    apply Fin.ext
    match a with
    | ⟨0, _⟩ => show t.val / 3 * 1024 + r.val = win0_2.index t 0 * 1024 + 1 * r.val; rw [(ixO t).1]; omega
    | ⟨1, _⟩ => show k.val = win0_2.index t 1 * 1024 + 1 * k.val; rw [(ixO t).2]; omega
  · have h0 : (i 0 : Nat) < 2048 := (i 0).isLt
    have h1 : (i 1 : Nat) < 1024 := (i 1).isLt
    have hN : cfg0.N = 6 := N_0
    obtain ⟨t, ht⟩ : ∃ t : Fin cfg0.N, t.val = (i 0 : Nat) / 1024 * 3 + 2 := ⟨⟨(i 0 : Nat) / 1024 * 3 + 2, by omega⟩, rfl⟩
    refine ⟨t, (flush0_2 t).mpr (by omega), ?_⟩
    show i ∈ ((View.whole main_v0_0).slice (win0_2.rect t)).set
    rw [View.set_slice_whole, Rect.mem_set_unit]
    intro a
    match a with
    | ⟨0, _⟩ =>
      show win0_2.index t 0 * 1024 ≤ (i 0 : Nat) ∧ (i 0 : Nat) < win0_2.index t 0 * 1024 + 1024
      rw [(ixO t).1]; omega
    | ⟨1, _⟩ =>
      show win0_2.index t 1 * 1024 ≤ (i 1 : Nat) ∧ (i 1 : Nat) < win0_2.index t 1 * 1024 + 1024
      rw [(ixO t).2]; omega

theorem final' : (dats m 0 c).arrAt 3 cfg0.N = out m c := by
  refine (dats m 0 c).arrAt_eq_of_cover 3 (out m c) (fun t hf => ?_) fun i => ?_
  · have h2 := (flush0_3 t).mp hf
    show (cfg0.win 3).cut (grid0.coords t) ((dats m 0 c).after 3 t) = _
    rw [after0_3, outs_last m c t h2]
    funext j
    rw [View.read_apply]
    obtain ⟨r, k, rfl⟩ : ∃ (r k : Fin 1024), j = ix2 r k := ⟨j 0, j 1, eq_ix2 j⟩
    refine (acc_last m c t h2 r k).trans ?_
    refine congrArg (out m c) ?_
    funext a
    apply Fin.ext
    match a with
    | ⟨0, _⟩ => show t.val / 3 * 1024 + r.val = win0_3.index t 0 * 1024 + 1 * r.val; rw [(ixO' t).1]; omega
    | ⟨1, _⟩ => show k.val = win0_3.index t 1 * 1024 + 1 * k.val; rw [(ixO' t).2]; omega
  · have h0 : (i 0 : Nat) < 2048 := (i 0).isLt
    have h1 : (i 1 : Nat) < 1024 := (i 1).isLt
    have hN : cfg0.N = 6 := N_0
    obtain ⟨t, ht⟩ : ∃ t : Fin cfg0.N, t.val = (i 0 : Nat) / 1024 * 3 + 2 := ⟨⟨(i 0 : Nat) / 1024 * 3 + 2, by omega⟩, rfl⟩
    refine ⟨t, (flush0_3 t).mpr (by omega), ?_⟩
    show i ∈ ((View.whole main_v0_1).slice (win0_3.rect t)).set
    rw [View.set_slice_whole, Rect.mem_set_unit]
    intro a
    match a with
    | ⟨0, _⟩ =>
      show win0_3.index t 0 * 1024 ≤ (i 0 : Nat) ∧ (i 0 : Nat) < win0_3.index t 0 * 1024 + 1024
      rw [(ixO' t).1]; omega
    | ⟨1, _⟩ =>
      show win0_3.index t 1 * 1024 ≤ (i 1 : Nat) ∧ (i 1 : Nat) < win0_3.index t 1 * 1024 + 1024
      rw [(ixO' t).2]; omega

end Cert.Kernel4Ideal.Tile

end
-- ==== Proof.Products.lean ====
/-
  The three weight gradients that are one product over all rows: kernel and reference end with the same arrays.
-/
module

public import proofs.«01_k».proof.Defs
public import proofs.«01_k».proof.Proof.GradFf2
public import proofs.«01_k».proof.Proof.GradFf1
public import proofs.«01_k».proof.Proof.GradOut
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import Idealize.ShloMosaic.Adequacy

@[expose] public section

set_option maxRecDepth 16384

noncomputable section

open Idealize.ShloMosaic Idealize.ShloMosaic.TcCoe Idealize.ShloMosaic.StableHlo Idealize.SL.Sem
open Cert.Slabs

namespace Cert.Reference2Ideal.Rows

open Cert.Reference2Ideal Cert.Reference2Ideal.Read

theorem g_read (x0 : (⟨S8448x4096, .bf16⟩ : BufTy).Contents (Elt Ideal)) (x1 : (⟨S8448x1024, .bf16⟩ : BufTy).Contents (Elt Ideal)) : val_main_v5 (F := Ideal) x0 x1 = product x0 x1 := by
  funext j
  obtain ⟨r, k, rfl⟩ : ∃ (r : Fin 4096) (k : Fin 1024), j = ix2 r k := ⟨j 0, j 1, eq_ix2 j⟩
  unfold val_main_v5 val_main_v4 val_main_v1 val_main_v3 product
  pointwise
  exact Finset.sum_congr rfl fun l _ => mul_comm _ _

theorem g16_read (x0 : (⟨S8448x4096, .bf16⟩ : BufTy).Contents (Elt Ideal)) (x1 : (⟨S8448x1024, .bf16⟩ : BufTy).Contents (Elt Ideal)) : val_main_v6 (F := Ideal) x0 x1 = product x0 x1 := by
  funext j
  unfold val_main_v6
  exact congrFun (g_read x0 x1) j

end Cert.Reference2Ideal.Rows

namespace Cert.Proof

/-- The reference runs and leaves its arguments as they were. -/
theorem frame2 : Cert.quiescent_Reference2Ideal := fun m g _ =>
  (θ_run Cert.Reference2Ideal.defs _ _).mono (fun r h => ⟨fun c => (h c).2.2, sem_eq_zero_of_no_sems (by decide) r.2⟩)
    (Cert.Reference2Ideal.Value.run (F := Ideal) m g)

/-- Kernel and reference, from the same arguments, end with equal results. -/
theorem algebraic2 : Cert.algebraic_Kernel2Ideal_Reference2Ideal := by
  intro m g m' g' _ hagree
  refine ⟨Cert.Kernel2Ideal.Tile.out m, Cert.Kernel2Ideal.Tile.out m,
    (θ_run Cert.Kernel2Ideal.defs _ _).mono (fun r h c => ⟨(h c).1.trans (Cert.Kernel2Ideal.Tile.final m c), (h c).2.1.trans (Cert.Kernel2Ideal.Tile.final' m c), (h c).2.2⟩)
      (Cert.Kernel2Ideal.Value.run_blocks (F := Ideal) m g), ?_⟩
  refine (θ_run Cert.Reference2Ideal.defs _ _).mono (fun r h c => ?_) (Cert.Reference2Ideal.Value.run (F := Ideal) m' g')
  obtain ⟨e0, e1⟩ := hagree c
  obtain ⟨h0, h1, hargs⟩ := h c
  refine ⟨h0.trans ?_, h1.trans ?_, hargs⟩
  · exact (Cert.Reference2Ideal.Read.val_main_v5_eq _ _).trans ((Cert.Reference2Ideal.Rows.g_read _ _).trans (congrArg₂ product e0 e1))
  · exact (Cert.Reference2Ideal.Read.val_main_v6_eq _ _).trans ((Cert.Reference2Ideal.Rows.g16_read _ _).trans (congrArg₂ product e0 e1))

end Cert.Proof

namespace Cert.Reference3Ideal.Rows

open Cert.Reference3Ideal Cert.Reference3Ideal.Read

theorem g_read (x0 : (⟨S8448x4096, .bf16⟩ : BufTy).Contents (Elt Ideal)) (x1 : (⟨S8448x1024, .bf16⟩ : BufTy).Contents (Elt Ideal)) : val_main_v6 (F := Ideal) x0 x1 = product x0 x1 := by
  funext j
  obtain ⟨r, k, rfl⟩ : ∃ (r : Fin 4096) (k : Fin 1024), j = ix2 r k := ⟨j 0, j 1, eq_ix2 j⟩
  unfold val_main_v6 val_main_v5 val_main_v4 val_main_v1 val_main_v3 product
  pointwise

theorem g16_read (x0 : (⟨S8448x4096, .bf16⟩ : BufTy).Contents (Elt Ideal)) (x1 : (⟨S8448x1024, .bf16⟩ : BufTy).Contents (Elt Ideal)) : val_main_v7 (F := Ideal) x0 x1 = product x0 x1 := by
  funext j
  unfold val_main_v7
  exact congrFun (g_read x0 x1) j

end Cert.Reference3Ideal.Rows

namespace Cert.Proof

/-- The reference runs and leaves its arguments as they were. -/
theorem frame3 : Cert.quiescent_Reference3Ideal := fun m g _ =>
  (θ_run Cert.Reference3Ideal.defs _ _).mono (fun r h => ⟨fun c => (h c).2.2, sem_eq_zero_of_no_sems (by decide) r.2⟩)
    (Cert.Reference3Ideal.Value.run (F := Ideal) m g)

/-- Kernel and reference, from the same arguments, end with equal results. -/
theorem algebraic3 : Cert.algebraic_Kernel3Ideal_Reference3Ideal := by
  intro m g m' g' _ hagree
  refine ⟨Cert.Kernel3Ideal.Tile.out m, Cert.Kernel3Ideal.Tile.out m,
    (θ_run Cert.Kernel3Ideal.defs _ _).mono (fun r h c => ⟨(h c).1.trans (Cert.Kernel3Ideal.Tile.final m c), (h c).2.1.trans (Cert.Kernel3Ideal.Tile.final' m c), (h c).2.2⟩)
      (Cert.Kernel3Ideal.Value.run_blocks (F := Ideal) m g), ?_⟩
  refine (θ_run Cert.Reference3Ideal.defs _ _).mono (fun r h c => ?_) (Cert.Reference3Ideal.Value.run (F := Ideal) m' g')
  obtain ⟨e0, e1⟩ := hagree c
  obtain ⟨h0, h1, hargs⟩ := h c
  refine ⟨h0.trans ?_, h1.trans ?_, hargs⟩
  · exact (Cert.Reference3Ideal.Read.val_main_v6_eq _ _).trans ((Cert.Reference3Ideal.Rows.g_read _ _).trans (congrArg₂ product e0 e1))
  · exact (Cert.Reference3Ideal.Read.val_main_v7_eq _ _).trans ((Cert.Reference3Ideal.Rows.g16_read _ _).trans (congrArg₂ product e0 e1))

end Cert.Proof

namespace Cert.Reference4Ideal.Rows

open Cert.Reference4Ideal Cert.Reference4Ideal.Read

theorem g_read (x0 : (⟨S8448x2048, .bf16⟩ : BufTy).Contents (Elt Ideal)) (x1 : (⟨S8448x1024, .f32⟩ : BufTy).Contents (Elt Ideal)) : val_main_v4 (F := Ideal) x0 x1 = product x0 x1 := by
  funext j
  obtain ⟨r, k, rfl⟩ : ∃ (r : Fin 2048) (k : Fin 1024), j = ix2 r k := ⟨j 0, j 1, eq_ix2 j⟩
  unfold val_main_v4 val_main_v3 val_main_v1 product
  pointwise
  exact Finset.sum_congr rfl fun l _ => mul_comm _ _

theorem g16_read (x0 : (⟨S8448x2048, .bf16⟩ : BufTy).Contents (Elt Ideal)) (x1 : (⟨S8448x1024, .f32⟩ : BufTy).Contents (Elt Ideal)) : val_main_v5 (F := Ideal) x0 x1 = product x0 x1 := by
  funext j
  unfold val_main_v5
  exact congrFun (g_read x0 x1) j

end Cert.Reference4Ideal.Rows

namespace Cert.Proof

/-- The reference runs and leaves its arguments as they were. -/
theorem frame4 : Cert.quiescent_Reference4Ideal := fun m g _ =>
  (θ_run Cert.Reference4Ideal.defs _ _).mono (fun r h => ⟨fun c => (h c).2.2, sem_eq_zero_of_no_sems (by decide) r.2⟩)
    (Cert.Reference4Ideal.Value.run (F := Ideal) m g)

/-- Kernel and reference, from the same arguments, end with equal results. -/
theorem algebraic4 : Cert.algebraic_Kernel4Ideal_Reference4Ideal := by
  intro m g m' g' _ hagree
  refine ⟨Cert.Kernel4Ideal.Tile.out m, Cert.Kernel4Ideal.Tile.out m,
    (θ_run Cert.Kernel4Ideal.defs _ _).mono (fun r h c => ⟨(h c).1.trans (Cert.Kernel4Ideal.Tile.final m c), (h c).2.1.trans (Cert.Kernel4Ideal.Tile.final' m c), (h c).2.2⟩)
      (Cert.Kernel4Ideal.Value.run_blocks (F := Ideal) m g), ?_⟩
  refine (θ_run Cert.Reference4Ideal.defs _ _).mono (fun r h c => ?_) (Cert.Reference4Ideal.Value.run (F := Ideal) m' g')
  obtain ⟨e0, e1⟩ := hagree c
  obtain ⟨h0, h1, hargs⟩ := h c
  refine ⟨h0.trans ?_, h1.trans ?_, hargs⟩
  · exact (Cert.Reference4Ideal.Read.val_main_v4_eq _ _).trans ((Cert.Reference4Ideal.Rows.g_read _ _).trans (congrArg₂ product e0 e1))
  · exact (Cert.Reference4Ideal.Read.val_main_v5_eq _ _).trans ((Cert.Reference4Ideal.Rows.g16_read _ _).trans (congrArg₂ product e0 e1))

end Cert.Proof

end
-- ==== Proof.Proj.lean ====
/-
  The input projection's call: rows normalised, scaled, and multiplied with w_in; kernel and reference end with the same
  arrays.
-/
module

public import proofs.«01_k».proof.Defs
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Rows
public import proofs.«01_k».proof.Proof.Copied
public import Idealize.ShloMosaic.Lib.Pointwise
public import Idealize.ShloMosaic.Lib.Pipeline.ReadBack
public import Idealize.ShloMosaic.Lib.Tactic
public import Idealize.ShloMosaic.Adequacy

@[expose] public section

set_option maxRecDepth 16384
set_option maxHeartbeats 400000

noncomputable section

open Idealize.ShloMosaic Idealize.ShloMosaic.TcCoe Idealize.ShloMosaic.StableHlo Idealize.SL.Sem
open Idealize.ShloMosaic.Pipeline (Dat)

namespace Cert.Kernel5Ideal.Tile

open Cert.Kernel5Ideal Cert.Kernel5Ideal.Gen
open Cert.Copied (readCov_copied)

theorem hz : (![0, 0] : Fin 2 → Nat) = fun _ => 0 := funext fun a => by fin_cases a <;> rfl

/-! ## What a tile stores -/

section Stores

variable {F : FTy → Type} [FloatOps F]

/-- The ten stores of a tile's projected rows `h`, over the weight `W`. -/
def pieces (h : FVec F S256x1024 .bf16) (W : Vec F S1024x4736 .bf16) : List (View.Piece (Elt F) S256x4736 .f32) :=
  [⟨Rect.unit ![0, 4608] ![256, 128] inb_S256x4736_S256x128_0_4608, k0_pay1 h (View.ld W (Rect.unit ![0, 4608] ![1024, 128] inb_S1024x4736_S1024x128_0_4608))⟩,
    ⟨Rect.unit ![0, 4096] ![256, 512] inb_S256x4736_S256x512_0_4096, k0_pay5 h (View.ld W (Rect.unit ![0, 4096] ![1024, 512] inb_S1024x4736_S1024x512_0_4096))⟩,
    ⟨Rect.unit ![0, 3584] ![256, 512] inb_S256x4736_S256x512_0_3584, k0_pay5 h (View.ld W (Rect.unit ![0, 3584] ![1024, 512] inb_S1024x4736_S1024x512_0_3584))⟩,
    ⟨Rect.unit ![0, 3072] ![256, 512] inb_S256x4736_S256x512_0_3072, k0_pay5 h (View.ld W (Rect.unit ![0, 3072] ![1024, 512] inb_S1024x4736_S1024x512_0_3072))⟩,
    ⟨Rect.unit ![0, 2560] ![256, 512] inb_S256x4736_S256x512_0_2560, k0_pay5 h (View.ld W (Rect.unit ![0, 2560] ![1024, 512] inb_S1024x4736_S1024x512_0_2560))⟩,
    ⟨Rect.unit ![0, 2048] ![256, 512] inb_S256x4736_S256x512_0_2048, k0_pay5 h (View.ld W (Rect.unit ![0, 2048] ![1024, 512] inb_S1024x4736_S1024x512_0_2048))⟩,
    ⟨Rect.unit ![0, 1536] ![256, 512] inb_S256x4736_S256x512_0_1536, k0_pay5 h (View.ld W (Rect.unit ![0, 1536] ![1024, 512] inb_S1024x4736_S1024x512_0_1536))⟩,
    ⟨Rect.unit ![0, 1024] ![256, 512] inb_S256x4736_S256x512_0_1024, k0_pay5 h (View.ld W (Rect.unit ![0, 1024] ![1024, 512] inb_S1024x4736_S1024x512_0_1024))⟩,
    ⟨Rect.unit ![0, 512] ![256, 512] inb_S256x4736_S256x512_0_512, k0_pay5 h (View.ld W (Rect.unit ![0, 512] ![1024, 512] inb_S1024x4736_S1024x512_0_512))⟩,
    ⟨Rect.unit ![0, 0] ![256, 512] inb_S256x4736_S256x512_0_0, k0_pay5 h (View.ld W (Rect.unit ![0, 0] ![1024, 512] inb_S1024x4736_S1024x512_0_0))⟩]

variable (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg5 : Memref sig .tc .vmem S256x1024 .bf16) (harg5 : arg5.IsWhole) (arg6 : Memref sig .tc .vmem S256x4736 .f32) (harg6 : arg6.IsWhole) (arg7 : Memref sig .tc .vmem S1024x4736 .bf16) (harg7 : arg7.IsWhole)
  (x0 x1 : Vec F S256x1024 .f32) (x2 : Vec F S1x1024 .f32) (xs0 : Vec F S1024x4736 .bf16) (fh0 : HbBuf0 (F := F) c hbM0_0)

/-- The weight as the first point copies it. -/
def copied : Vec F S1024x4736 .bf16 := ReadAs.same.apply (View.read (Elt F) (View.whole main_arg3) fh0)

theorem scratchA (hc : cond0_0 i) : sout0_A_0 c i arg1 harg1 arg2 harg2 arg3 harg3 arg5 harg5 arg6 harg6 arg7 harg7 hc x0 x1 x2 fh0 = copied c fh0 := by
  unfold sout0_A_0
  rw [View.read_writes_eq_canon _ _ _ (scover0_A_0 c i arg1 harg1 arg2 harg2 arg3 harg3 arg5 harg5 arg6 harg6 arg7 harg7 hc x0 x1 x2 fh0)]
  unfold kernelRun0_A
  dsimp only
  sl_unfold_words
  exact View.canon_cons_unit_zero (S := S1024x4736) rfl _ _ []

theorem outA_3 (hc : cond0_0 i) :
    out0_A_3 c i arg1 harg1 arg2 harg2 arg3 harg3 arg5 harg5 arg6 harg6 arg7 harg7 hc x0 x1 x2 fh0 = k0_pay2 i x1 x0 x2 := by
  unfold out0_A_3
  rw [View.read_writes_eq_canon _ _ _ (cover0_A_3 c i arg1 harg1 arg2 harg2 arg3 harg3 arg5 harg5 arg6 harg6 arg7 harg7 hc x0 x1 x2 fh0)]
  unfold kernelRun0_A
  dsimp only
  sl_unfold_words
  simp +decide only [↓View.readCov_skip, View.readCov_cons_toLoadRect, readCov_copied, View.readAt_eq_ld, harg1.read_unread, harg2.read_unread, harg3.read_unread, harg7.read_unread,
    View.ld_unit_zero (S := S256x1024) hz, View.ld_unit_zero (S := S1x1024) hz, shapeCast_self]
  exact View.canon_unit_zero hz _ _

theorem outB_3 (hc : ¬cond0_0 i) :
    out0_B_3 c i arg1 harg1 arg2 harg2 arg3 harg3 arg5 harg5 arg6 harg6 arg7 harg7 hc x0 x1 x2 xs0 fh0 = k0_pay2 i x1 x0 x2 := by
  unfold out0_B_3
  rw [View.read_writes_eq_canon _ _ _ (cover0_B_3 c i arg1 harg1 arg2 harg2 arg3 harg3 arg5 harg5 arg6 harg6 arg7 harg7 hc x0 x1 x2 xs0 fh0)]
  unfold kernelRun0_B
  dsimp only
  sl_unfold_words
  simp +decide only [↓View.readCov_skip, View.readCov_cons_toLoadRect, readCov_copied, View.readAt_eq_ld, harg1.read_unread, harg2.read_unread, harg3.read_unread, harg7.read_unread,
    View.ld_unit_zero (S := S256x1024) hz, View.ld_unit_zero (S := S1x1024) hz, shapeCast_self]
  exact View.canon_unit_zero hz _ _

theorem outA_4 (hc : cond0_0 i) :
    out0_A_4 c i arg1 harg1 arg2 harg2 arg3 harg3 arg5 harg5 arg6 harg6 arg7 harg7 hc x0 x1 x2 fh0 = View.canon (pieces (k0_pay2 i x1 x0 x2) (copied c fh0)) := by
  unfold out0_A_4
  rw [View.read_writes_eq_canon _ _ _ (cover0_A_4 c i arg1 harg1 arg2 harg2 arg3 harg3 arg5 harg5 arg6 harg6 arg7 harg7 hc x0 x1 x2 fh0)]
  unfold kernelRun0_A
  dsimp only
  sl_unfold_words
  simp +decide only [↓View.readCov_skip, View.readCov_cons_toLoadRect, readCov_copied, View.readAt_eq_ld, harg1.read_unread, harg2.read_unread, harg3.read_unread, harg7.read_unread,
    View.ld_unit_zero (S := S256x1024) hz, View.ld_unit_zero (S := S1x1024) hz, shapeCast_self]
  rfl

theorem outB_4 (hc : ¬cond0_0 i) :
    out0_B_4 c i arg1 harg1 arg2 harg2 arg3 harg3 arg5 harg5 arg6 harg6 arg7 harg7 hc x0 x1 x2 xs0 fh0 = View.canon (pieces (k0_pay2 i x1 x0 x2) xs0) := by
  unfold out0_B_4
  rw [View.read_writes_eq_canon _ _ _ (cover0_B_4 c i arg1 harg1 arg2 harg2 arg3 harg3 arg5 harg5 arg6 harg6 arg7 harg7 hc x0 x1 x2 xs0 fh0)]
  unfold kernelRun0_B
  dsimp only
  sl_unfold_words
  simp +decide only [↓View.readCov_skip, View.readCov_cons_toLoadRect, readCov_copied, View.readAt_eq_ld, harg1.read_unread, harg2.read_unread, harg3.read_unread, harg7.read_unread,
    View.ld_unit_zero (S := S256x1024) hz, View.ld_unit_zero (S := S1x1024) hz, shapeCast_self]
  rfl

end Stores

/-! ## The stores, entry by entry -/

section Entries

variable (i : grid0.Coords) (x0 x1 : Vec Ideal S256x1024 .f32) (x2 : Vec Ideal S1x1024 .f32)

/-- The row a tile starts from: a token row, or a lead row on the last tile. -/
def start (r : Fin 256) (k : Fin 1024) : EReal :=
  Scalar.select (Scalar.cmpi CmpIPredicate.eq (BitVec.ofNat 32 (i 0).val) 32#32) (x1 (ix2 r k)) (x0 (ix2 r k))

theorem hn_read (r : Fin 256) (k : Fin 1024) : k0_pay2 (F := Ideal) i x1 x0 x2 (ix2 r k) = Ffn.nrm (start i x0 x1 r) k * x2 (ix2 0 k) := by
  unfold k0_pay2
  pointwise
  rfl

/-- Rows times the weight. -/
def product {a : ℕ} (h : (⟨2, ![a, 1024]⟩ : Shape).Idx → EReal) (W : S1024x4736.Idx → EReal) (j : (⟨2, ![a, 4736]⟩ : Shape).Idx) : EReal :=
  ∑ l : Fin 1024, h (ix2 (j 0) l) * W (ix2 l (j 1))

variable (h : Vec Ideal S256x1024 .bf16) (W : Vec Ideal S1024x4736 .bf16)

/-- A store of 512 columns. -/
theorem strip (o : ℕ) (hi : ∀ a, (![0, o] : Fin 2 → Nat) a + S1024x512.size a ≤ S1024x4736.size a)
    (ho : ∀ a, (![0, o] : Fin 2 → Nat) a + S256x512.size a ≤ S256x4736.size a) (x : S256x512.Idx) :
    k0_pay5 (F := Ideal) h (View.ld W (Rect.unit ![0, o] ![1024, 512] hi)) x = product (a := 256) h W ((Rect.unit (s := S256x4736) ![0, o] ![256, 512] ho).emb x) := by
  obtain ⟨r, q, rfl⟩ : ∃ (r : Fin 256) (q : Fin 512), x = ix2 r q := ⟨x 0, x 1, eq_ix2 x⟩
  unfold k0_pay5 product
  pointwise
  refine Finset.sum_congr rfl fun l _ => congrArg₂ (· * ·) (congrArg h (congrArg (ix2 · l) (Fin.ext ?_))) (congrArg W (congrArg (ix2 l) (Fin.ext ?_)))
  · show r.val = 0 + 1 * r.val; omega
  · show o + q.val = o + 1 * q.val; omega

/-- The last store, of 128. -/
theorem rest (o : ℕ) (hi : ∀ a, (![0, o] : Fin 2 → Nat) a + S1024x128.size a ≤ S1024x4736.size a)
    (ho : ∀ a, (![0, o] : Fin 2 → Nat) a + S256x128.size a ≤ S256x4736.size a) (x : S256x128.Idx) :
    k0_pay1 (F := Ideal) h (View.ld W (Rect.unit ![0, o] ![1024, 128] hi)) x = product (a := 256) h W ((Rect.unit (s := S256x4736) ![0, o] ![256, 128] ho).emb x) := by
  obtain ⟨r, q, rfl⟩ : ∃ (r : Fin 256) (q : Fin 128), x = ix2 r q := ⟨x 0, x 1, eq_ix2 x⟩
  unfold k0_pay1 product
  pointwise
  refine Finset.sum_congr rfl fun l _ => congrArg₂ (· * ·) (congrArg h (congrArg (ix2 · l) (Fin.ext ?_))) (congrArg W (congrArg (ix2 l) (Fin.ext ?_)))
  · show r.val = 0 + 1 * r.val; omega
  · show o + q.val = o + 1 * q.val; omega

theorem pieces_read (j : S256x4736.Idx) : View.canon (pieces (F := Ideal) h W) j = product (a := 256) h W j := by
  refine View.canon_apply_of_pieces (Val := Elt Ideal) (S := S256x4736) (e := .f32) (product (a := 256) h W) _ (fun p hp x => ?_) j ?_
  · simp only [pieces, List.mem_cons, List.not_mem_nil, or_false] at hp
    rcases hp with rfl | rfl | rfl | rfl | rfl | rfl | rfl | rfl | rfl | rfl
    · exact rest h W 4608 _ inb_S256x4736_S256x128_0_4608 x
    · exact strip h W 4096 _ inb_S256x4736_S256x512_0_4096 x
    · exact strip h W 3584 _ inb_S256x4736_S256x512_0_3584 x
    · exact strip h W 3072 _ inb_S256x4736_S256x512_0_3072 x
    · exact strip h W 2560 _ inb_S256x4736_S256x512_0_2560 x
    · exact strip h W 2048 _ inb_S256x4736_S256x512_0_2048 x
    · exact strip h W 1536 _ inb_S256x4736_S256x512_0_1536 x
    · exact strip h W 1024 _ inb_S256x4736_S256x512_0_1024 x
    · exact strip h W 512 _ inb_S256x4736_S256x512_0_512 x
    · exact strip h W 0 _ inb_S256x4736_S256x512_0_0 x
  · exact View.cover_of_tiledBy (pieces (F := Ideal) h W) ![256, 128] (by sl_kernel_rfl) j

end Entries

/-! ## The arrays -/

section Results

variable (x0 : S8192x1024.Idx → EReal) (x1 : S256x1024.Idx → EReal) (x2 : S1x1024.Idx → EReal) (x3 : S1024x4736.Idx → EReal)

/-- The normalised, scaled rows: the token rows, then the lead rows. -/
def normed : S8448x1024.Idx → EReal := fun j => Ffn.nrm (Ffn.rowX (fun l k => x0 (ix2 l k)) (fun l k => x1 (ix2 l k)) (j 0)) (j 1) * x2 (ix2 0 (j 1))
/-- Their product with the weight. -/
def projected : S8448x4736.Idx → EReal := product (a := 8448) (normed x0 x1 x2) x3

end Results

variable (m : (ℓ : Loc nD τ sig) → Buf (Elt Ideal) ℓ) (c : Dev nD)

/-- The arguments: the token rows, the lead rows, the norm's weight and w_in. -/
def inX : S8192x1024.Idx → EReal := m ((c : Thread nD τ).loc main_arg0)
def inL : S256x1024.Idx → EReal := m ((c : Thread nD τ).loc main_arg1)
def inN : S1x1024.Idx → EReal := m ((c : Thread nD τ).loc main_arg2)
def inW : S1024x4736.Idx → EReal := m ((c : Thread nD τ).loc main_arg3)

theorem lt33 (t : Fin cfg0.N) : t.val < 33 := lt_of_lt_of_eq t.isLt N_0

theorem copied_eq : copied c (V m c main_arg3) = inW m c := rfl

/-- After every point the scratch holds the weight. -/
theorem scratch_at : ∀ (n : ℕ) (hn : n < cfg0.N), (outsAt0 m c n hn).2.2 = copied c (V m c main_arg3)
  | 0, hn => by
    rw [show outsAt0 m c 0 hn = _ from outsAt0_A m c ⟨0, hn⟩ rfl]
    dsimp only
    exact scratchA c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) (iblk m c 0 ⟨0, hn⟩) (iblk m c 1 ⟨0, hn⟩) (iblk m c 2 ⟨0, hn⟩) _ ((hcond0_0 ⟨0, hn⟩).mpr rfl)
  | n + 1, hn => by
    have hN : cfg0.N = 33 := N_0
    have h0 : ¬(⟨n + 1, hn⟩ : Fin cfg0.N).val % 33 = 0 := by dsimp only; omega
    rw [show outsAt0 m c (n + 1) hn = _ from outsAt0_B m c ⟨n + 1, hn⟩ h0]
    dsimp only
    exact scratch_at n (Nat.lt_of_succ_lt hn)

theorem isLead_iff : ∀ t : Fin grid0.N, Scalar.cmpi CmpIPredicate.eq (BitVec.ofNat 32 (grid0.coords t 0).val) 32#32 = 1#1 ↔ t.val = 32 := by decide +kernel
theorem ix_0 : ∀ t : Fin grid0.N, win0_0.index t 0 = min t.val 31 ∧ win0_0.index t 1 = 0 := by decide +kernel
theorem ix_1 : ∀ t : Fin grid0.N, win0_1.index t 0 = 0 ∧ win0_1.index t 1 = 0 := by decide +kernel
theorem ix_2 : ∀ t : Fin grid0.N, win0_2.index t 0 = 0 ∧ win0_2.index t 1 = 0 := by decide +kernel
theorem ix_3 : ∀ t : Fin grid0.N, win0_3.index t 0 = t.val ∧ win0_3.index t 1 = 0 := by decide +kernel
theorem ix_4 : ∀ t : Fin grid0.N, win0_4.index t 0 = t.val ∧ win0_4.index t 1 = 0 := by decide +kernel

variable (t : Fin cfg0.N)

theorem outs_3 : (outsAt0 m c t.val t.isLt).1 = k0_pay2 (F := Ideal) (grid0.coords t) (iblk m c 1 t) (iblk m c 0 t) (iblk m c 2 t) := by
  by_cases h0 : t.val % 33 = 0
  · rw [outsAt0_A m c t h0]
    dsimp only
    exact outA_3 c (grid0.coords t) (ms0_0 t) (hs0_0 t) (ms0_1 t) (hs0_1 t) (ms0_2 t) (hs0_2 t) (ms0_3 t) (hs0_3 t) (ms0_4 t) (hs0_4 t) scM0_0 (Memref.isWhole_whole _) (iblk m c 0 t) (iblk m c 1 t) (iblk m c 2 t) _ ((hcond0_0 t).mpr h0)
  · rw [outsAt0_B m c t h0]
    dsimp only
    refine (outB_3 c (grid0.coords t) (ms0_0 t) (hs0_0 t) (ms0_1 t) (hs0_1 t) (ms0_2 t) (hs0_2 t) (ms0_3 t) (hs0_3 t) (ms0_4 t) (hs0_4 t) scM0_0 (Memref.isWhole_whole _) (iblk m c 0 t) (iblk m c 1 t) (iblk m c 2 t) _ _ fun h => h0 ((hcond0_0 t).mp h))

theorem outs_4 : (outsAt0 m c t.val t.isLt).2.1 = View.canon (pieces (F := Ideal) (k0_pay2 (grid0.coords t) (iblk m c 1 t) (iblk m c 0 t) (iblk m c 2 t)) (copied c (V m c main_arg3))) := by
  by_cases h0 : t.val % 33 = 0
  · rw [outsAt0_A m c t h0]
    dsimp only
    exact outA_4 c (grid0.coords t) (ms0_0 t) (hs0_0 t) (ms0_1 t) (hs0_1 t) (ms0_2 t) (hs0_2 t) (ms0_3 t) (hs0_3 t) (ms0_4 t) (hs0_4 t) scM0_0 (Memref.isWhole_whole _) (iblk m c 0 t) (iblk m c 1 t) (iblk m c 2 t) _ ((hcond0_0 t).mpr h0)
  · rw [outsAt0_B m c t h0]
    dsimp only
    refine (outB_4 c (grid0.coords t) (ms0_0 t) (hs0_0 t) (ms0_1 t) (hs0_1 t) (ms0_2 t) (hs0_2 t) (ms0_3 t) (hs0_3 t) (ms0_4 t) (hs0_4 t) scM0_0 (Memref.isWhole_whole _) (iblk m c 0 t) (iblk m c 1 t) (iblk m c 2 t) _ _ fun h => h0 ((hcond0_0 t).mp h)).trans ?_
    rw [scratch_at m c (t.val - 1)]

theorem blkX (r : Fin 256) (k : Fin 1024) : (iblk m c 0 t : Vec Ideal S256x1024 .f32) (ix2 r k) = inX m c (ix2 (⟨min t.val 31 * 256 + r.val, by have := lt33 t; have := r.isLt; omega⟩ : Fin 8192) k) := by
  unfold iblk inX
  rw [View.read_apply]
  show V m c main_arg0 _ = m (c.tc.loc main_arg0) _
  unfold V
  congr 1
  funext a
  apply Fin.ext
  match a with
  | ⟨0, _⟩ => show win0_0.index t 0 * 256 + 1 * r.val = min t.val 31 * 256 + r.val; rw [(ix_0 t).1]; omega
  | ⟨1, _⟩ => show win0_0.index t 1 * 1024 + 1 * k.val = k.val; rw [(ix_0 t).2]; omega

theorem blkL (r : Fin 256) (k : Fin 1024) : (iblk m c 1 t : Vec Ideal S256x1024 .f32) (ix2 r k) = inL m c (ix2 r k) := by
  unfold iblk inL
  rw [View.read_apply]
  show V m c main_arg1 _ = m (c.tc.loc main_arg1) _
  unfold V
  congr 1
  funext a
  apply Fin.ext
  match a with
  | ⟨0, _⟩ => show win0_1.index t 0 * 256 + 1 * r.val = r.val; rw [(ix_1 t).1]; omega
  | ⟨1, _⟩ => show win0_1.index t 1 * 1024 + 1 * k.val = k.val; rw [(ix_1 t).2]; omega

theorem blkN (r : Fin 1) (k : Fin 1024) : (iblk m c 2 t : Vec Ideal S1x1024 .f32) (ix2 r k) = inN m c (ix2 r k) := by
  unfold iblk inN
  rw [View.read_apply]
  show V m c main_arg2 _ = m (c.tc.loc main_arg2) _
  unfold V
  congr 1
  funext a
  apply Fin.ext
  match a with
  | ⟨0, _⟩ => show win0_2.index t 0 * 1 + 1 * r.val = r.val; rw [(ix_2 t).1]; omega
  | ⟨1, _⟩ => show win0_2.index t 1 * 1024 + 1 * k.val = k.val; rw [(ix_2 t).2]; omega

theorem start_eq (r : Fin 256) : start (grid0.coords t) (iblk m c 0 t) (iblk m c 1 t) r
    = Ffn.rowX (fun l k => inX m c (ix2 l k)) (fun l k => inL m c (ix2 l k)) (Ffn.rowAt t.val (lt33 t) r) := by
  have h33 := lt33 t
  have hr := r.isLt
  funext k
  unfold start Ffn.rowX
  by_cases h : t.val = 32
  · rw [(isLead_iff t).mpr h, dif_neg (by simp only [Ffn.rowAt]; omega)]
    refine (blkL m c t r k).trans (congrArg (fun l => inL m c (ix2 l k)) (Fin.ext ?_))
    simp only [Ffn.rowAt]
    omega
  · rw [dif_pos (by simp only [Ffn.rowAt]; omega)]
    refine (if_neg fun e => h ((isLead_iff t).mp e)).trans ((blkX m c t r k).trans (congrArg (fun l => inX m c (ix2 l k)) (Fin.ext ?_)))
    simp only [Ffn.rowAt]
    omega

/-- A tile's normalised rows are rows of the whole array's. -/
theorem hn_eq (r : Fin 256) (k : Fin 1024) : k0_pay2 (F := Ideal) (grid0.coords t) (iblk m c 1 t) (iblk m c 0 t) (iblk m c 2 t) (ix2 r k)
    = normed (inX m c) (inL m c) (inN m c) (ix2 (Ffn.rowAt t.val (lt33 t) r) k) := by
  refine (hn_read (grid0.coords t) (iblk m c 0 t) (iblk m c 1 t) (iblk m c 2 t) r k).trans ?_
  rw [start_eq m c t r, blkN m c t 0 k]
  rfl

theorem emb3 (r : Fin 256) (k : Fin 1024) : (((cfg0.win 3).blk t).view.emb (ix2 r k : S256x1024.Idx) : S8448x1024.Idx) = ix2 (Ffn.rowAt t.val (lt33 t) r) k := by
  funext a
  apply Fin.ext
  match a with
  | ⟨0, _⟩ => show win0_3.index t 0 * 256 + 1 * r.val = t.val * 256 + r.val; rw [(ix_3 t).1]; omega
  | ⟨1, _⟩ => show win0_3.index t 1 * 1024 + 1 * k.val = k.val; rw [(ix_3 t).2]; omega

theorem emb4 (r : Fin 256) (k : Fin 4736) : (((cfg0.win 4).blk t).view.emb (ix2 r k : S256x4736.Idx) : S8448x4736.Idx) = ix2 (Ffn.rowAt t.val (lt33 t) r) k := by
  funext a
  apply Fin.ext
  match a with
  | ⟨0, _⟩ => show win0_4.index t 0 * 256 + 1 * r.val = t.val * 256 + r.val; rw [(ix_4 t).1]; omega
  | ⟨1, _⟩ => show win0_4.index t 1 * 4736 + 1 * k.val = k.val; rw [(ix_4 t).2]; omega

/-- Every row lies in a tile. -/
theorem tiled (l : Fin 8448) : ∃ (t : Fin cfg0.N) (r : Fin 256), l = Ffn.rowAt t.val (lt33 t) r := by
  have h := l.isLt
  have hN : cfg0.N = 33 := N_0
  refine ⟨⟨l.val / 256, by omega⟩, ⟨l.val % 256, Nat.mod_lt _ (by omega)⟩, Fin.ext ?_⟩
  simp only [Ffn.rowAt]
  omega

theorem final_normed : (dats m 0 c).arrAt 3 cfg0.N = normed (inX m c) (inL m c) (inN m c) := by
  refine (dats m 0 c).arrAt_eq_of_cover 3 (normed (inX m c) (inL m c) (inN m c)) (fun t hf => ?_) fun i => ?_
  · show (cfg0.win 3).cut (grid0.coords t) ((dats m 0 c).after 3 t) = _
    rw [after0_3]
    funext j
    rw [View.read_apply]
    obtain ⟨r, k, rfl⟩ : ∃ (r : Fin 256) (k : Fin 1024), j = ix2 r k := ⟨j 0, j 1, eq_ix2 j⟩
    refine (congrFun (outs_3 m c t) (ix2 r k)).trans ?_
    refine Eq.trans ?_ (congrArg (normed (inX m c) (inL m c) (inN m c)) (emb3 t r k).symm)
    exact hn_eq m c t r k
  · obtain ⟨t, r, hr⟩ := tiled (i 0)
    have e : i = ix2 (Ffn.rowAt t.val (lt33 t) r) (i 1) := by rw [← hr]; exact eq_ix2 i
    exact ⟨t, flush0_3 t, by rw [e]; exact emb3 t r (i 1) ▸ View.emb_mem_set _ _⟩

theorem final_projected : (dats m 0 c).arrAt 4 cfg0.N = projected (inX m c) (inL m c) (inN m c) (inW m c) := by
  refine (dats m 0 c).arrAt_eq_of_cover 4 (projected (inX m c) (inL m c) (inN m c) (inW m c)) (fun t hf => ?_) fun i => ?_
  · show (cfg0.win 4).cut (grid0.coords t) ((dats m 0 c).after 4 t) = _
    rw [after0_4]
    funext j
    rw [View.read_apply]
    obtain ⟨r, k, rfl⟩ : ∃ (r : Fin 256) (k : Fin 4736), j = ix2 r k := ⟨j 0, j 1, eq_ix2 j⟩
    refine (congrFun (outs_4 m c t) (ix2 r k)).trans ?_
    refine Eq.trans ?_ (congrArg (projected (inX m c) (inL m c) (inN m c) (inW m c)) (emb4 t r k).symm)
    refine (pieces_read _ _ (ix2 r k)).trans ?_
    unfold projected product
    rw [copied_eq]
    exact Finset.sum_congr rfl fun l _ => congrArg (· * inW m c (ix2 l k)) (hn_eq m c t r l)
  · obtain ⟨t, r, hr⟩ := tiled (i 0)
    have e : i = ix2 (Ffn.rowAt t.val (lt33 t) r) (i 1) := by rw [← hr]; exact eq_ix2 i
    exact ⟨t, flush0_4 t, by rw [e]; exact emb4 t r (i 1) ▸ View.emb_mem_set _ _⟩

end Cert.Kernel5Ideal.Tile

namespace Cert.Reference5Ideal.Rows

open Cert.Reference5Ideal Cert.Reference5Ideal.Read Cert.Kernel5Ideal.Tile

variable (x0 : (⟨S8192x1024, .f32⟩ : BufTy).Contents (Elt Ideal)) (x1 : (⟨S256x1024, .f32⟩ : BufTy).Contents (Elt Ideal))
  (x2 : (⟨S1x1024, .f32⟩ : BufTy).Contents (Elt Ideal)) (x3 : (⟨S1024x4736, .bf16⟩ : BufTy).Contents (Elt Ideal))

abbrev row (l : Fin 8448) : Fin 1024 → EReal := Ffn.rowX (fun l k => x0 (ix2 l k)) (fun l k => x1 (ix2 l k)) l

theorem v0_read (l : Fin 8448) (k : Fin 1024) : val_main_v0 (F := Ideal) x0 x1 (ix2 l k) = row x0 x1 l k := by
  unfold val_main_v0 row Ffn.rowX
  have hl := l.isLt
  split_ifs with h
  · exact concatenate_pair_apply_left (t := S8448x1024) (s₁ := S8192x1024) (s₂ := S256x1024) 0 x0 x1 _ (ix2 l k) rfl
      (ix2 (⟨l.val, h⟩ : Fin 8192) k) (fun b => by match b with | ⟨0, _⟩ => rfl | ⟨1, _⟩ => rfl)
  · exact concatenate_pair_apply_right (t := S8448x1024) (s₁ := S8192x1024) (s₂ := S256x1024) 0 x0 x1 _ (ix2 l k) rfl rfl
      (ix2 (⟨l.val - 8192, by omega⟩ : Fin 256) k)
      (fun b hb => by match b with | ⟨0, _⟩ => exact absurd rfl hb | ⟨1, _⟩ => rfl)
      (by show l.val - 8192 + 8192 = l.val; omega)

theorem v8_read (l : Fin 8448) : val_main_v8 (F := Ideal) x0 x1 (ix2 l 0) = Ffn.rms (row x0 x1 l) := by
  unfold val_main_v8 val_main_v7 val_main_v6 val_main_v5 val_main_v4 val_main_v3 val_main_v2 val_main_v1 val_main_cst val_main_cst_0 val_main_cst_1
  pointwise
  simp only [v0_read, zero_add]
  rfl

theorem v12_read : val_main_v12 (F := Ideal) x0 x1 x2 = normed x0 x1 x2 := by
  funext j
  obtain ⟨l, k, rfl⟩ : ∃ (l : Fin 8448) (k : Fin 1024), j = ix2 l k := ⟨j 0, j 1, eq_ix2 j⟩
  unfold val_main_v12 val_main_v11 val_main_v10 val_main_v9
  pointwise
  rw [v0_read, v8_read]
  rfl

theorem v13_read : val_main_v13 (F := Ideal) x0 x1 x2 = normed x0 x1 x2 := v12_read x0 x1 x2

theorem v15_read : val_main_v15 (F := Ideal) x0 x1 x2 x3 = projected x0 x1 x2 x3 := by
  funext j
  obtain ⟨l, k, rfl⟩ : ∃ (l : Fin 8448) (k : Fin 4736), j = ix2 l k := ⟨j 0, j 1, eq_ix2 j⟩
  unfold val_main_v15 val_main_v14
  pointwise
  rw [v12_read]
  rfl

end Cert.Reference5Ideal.Rows

namespace Cert.Proof

open Cert.Reference5Ideal.Read Cert.Reference5Ideal.Rows Cert.Kernel5Ideal.Tile

/-- The reference runs and leaves its arguments as they were. -/
theorem frame5 : Cert.quiescent_Reference5Ideal := fun m g _ =>
  (θ_run Cert.Reference5Ideal.defs _ _).mono (fun r h => ⟨fun c => (h c).2.2, sem_eq_zero_of_no_sems (by decide) r.2⟩)
    (Cert.Reference5Ideal.Value.run (F := Ideal) m g)

/-- Kernel and reference, from the same arguments, end with equal results. -/
theorem algebraic5 : Cert.algebraic_Kernel5Ideal_Reference5Ideal := by
  intro m g m' g' _ hagree
  refine ⟨fun c => normed (inX m c) (inL m c) (inN m c), fun c => projected (inX m c) (inL m c) (inN m c) (inW m c),
    (θ_run Cert.Kernel5Ideal.defs _ _).mono (fun r h c => ⟨(h c).1.trans (final_normed m c), (h c).2.1.trans (final_projected m c), (h c).2.2⟩)
      (Cert.Kernel5Ideal.Value.run_blocks (F := Ideal) m g), ?_⟩
  refine (θ_run Cert.Reference5Ideal.defs _ _).mono (fun r h c => ?_) (Cert.Reference5Ideal.Value.run (F := Ideal) m' g')
  obtain ⟨e0, e1, e2, e3⟩ := hagree c
  obtain ⟨h0, h1, hargs⟩ := h c
  refine ⟨h0.trans ?_, h1.trans ?_, hargs⟩
  · refine (val_main_v13_eq _ _ _).trans ((v13_read _ _ _).trans ?_)
    rw [e0, e1, e2]
    rfl
  · refine (val_main_v15_eq _ _ _ _).trans ((v15_read _ _ _ _).trans ?_)
    rw [e0, e1, e2, e3]
    rfl

end Cert.Proof

end
-- ==== Proof.Adam.lean ====
/-
  The optimiser's update of one entry: the summed gradient, the two moments, and the change of the weight.
-/
module

public import Idealize.ShloMosaic.Lib.Pointwise

@[expose] public section

noncomputable section

namespace Cert.Adam

open Idealize.ShloMosaic

/-- The four parts of a gradient, added up. -/
def total (p : Fin 4 → EReal) : EReal := p 0 + p 1 + p 2 + p 3

/-- The first moment, and -/
def moment (g m : EReal) : EReal := Ideal.ofBits .f32 0x3F666666#32 * m + Ideal.ofBits .f32 0x3DCCCCCD#32 * g

/-- the second. -/
def square (g v : EReal) : EReal := Ideal.ofBits .f32 0x3F7FBE77#32 * v + Ideal.ofBits .f32 0x3A83126F#32 * (g * g)

/-- The change of the weight. -/
def change (g w m v : EReal) : EReal :=
  Ideal.ofBits .f32 0xBA83126F#32 *
    (Ideal.div (Ideal.div (moment g m) (Ideal.ofBits .f32 0x3F26BD02#32))
        (Ideal.sqrt (Ideal.div (square g v) (Ideal.ofBits .f32 0x3C231ACC#32)) + Ideal.ofBits .f32 0x322BCC77#32)
      + Ideal.ofBits .f32 0x3C23D70A#32 * w)

/-- A sum over the four parts that starts from the literal zero. -/
theorem total_sum (p : Fin 4 → EReal) : Ideal.ofBits .f32 0x00000000#32 + ∑ k, p k = total p := by
  rw [Fin.sum_univ_four]
  have h : Ideal.ofBits .f32 0x00000000#32 = 0 := by simp [Ideal.ofBits, Ideal.ieee]
  rw [h, zero_add]
  rfl

end Cert.Adam

end
-- ==== Proof.AdamOut.lean ====
/-
  The optimiser's call on a device's part of w_out: kernel and reference end with the same arrays.
-/
module

public import proofs.«01_k».proof.Defs
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Adam
public import Idealize.ShloMosaic.Adequacy

@[expose] public section

set_option maxRecDepth 16384

noncomputable section

open Idealize.ShloMosaic Idealize.ShloMosaic.TcCoe Idealize.ShloMosaic.StableHlo Idealize.SL.Sem
open Idealize.ShloMosaic.Pipeline (Dat)
open Cert.Adam

namespace Cert.Kernel8Ideal.Tile

open Cert.Kernel8Ideal Cert.Kernel8Ideal.Gen

theorem hz : (![0, 0] : Fin 2 → Nat) = fun _ => 0 := funext fun a => by fin_cases a <;> rfl

section Point

variable (x0 : Vec Ideal S4x256x1024 .bf16) (x1 x2 x3 : Vec Ideal S256x1024 .f32) (r : Fin 256) (k : Fin 1024)

theorem total_read : out0_4 (F := Ideal) x0 x1 x2 x3 (ix2 r k) = total fun p => x0 (ix3 p r k) := by
  unfold out0_4 r0_4
  rw [View.canon_unit_zero hz]
  unfold k0_pay2 r0_0 r0_1 r0_2 r0_3 total
  pointwise

theorem change_read : out0_5 (F := Ideal) x0 x1 x2 x3 (ix2 r k)
    = change (total fun p => x0 (ix3 p r k)) (x1 (ix2 r k)) (x2 (ix2 r k)) (x3 (ix2 r k)) := by
  unfold out0_5 r0_4
  rw [View.canon_unit_zero hz]
  simp only [View.ld_unit_zero (S := S256x1024) hz]
  unfold k0_pay1 k0_pay5 k0_pay6 k0_pay4 k0_pay3 k0_pay2 r0_0 r0_1 r0_2 r0_3 change moment square total
  pointwise

theorem moment_read : out0_6 (F := Ideal) x0 x1 x2 x3 (ix2 r k) = moment (total fun p => x0 (ix3 p r k)) (x2 (ix2 r k)) := by
  unfold out0_6 r0_4
  rw [View.canon_unit_zero hz]
  simp only [View.ld_unit_zero (S := S256x1024) hz]
  unfold k0_pay3 k0_pay2 r0_0 r0_1 r0_2 r0_3 moment total
  pointwise

theorem square_read : out0_7 (F := Ideal) x0 x1 x2 x3 (ix2 r k) = square (total fun p => x0 (ix3 p r k)) (x3 (ix2 r k)) := by
  unfold out0_7 r0_4
  rw [View.canon_unit_zero hz]
  simp only [View.ld_unit_zero (S := S256x1024) hz]
  unfold k0_pay4 k0_pay2 r0_0 r0_1 r0_2 r0_3 square total
  pointwise

end Point

/-! ## The arrays -/

section Results

variable (x0 : S4x256x1024.Idx → EReal) (x1 x2 x3 : S256x1024.Idx → EReal)

/-- What the four results are, entry by entry. -/
def grads : S256x1024.Idx → EReal := fun j => total fun p => x0 (ix3 p (j 0) (j 1))
def changes : S256x1024.Idx → EReal := fun j => change (grads x0 j) (x1 j) (x2 j) (x3 j)
def moments : S256x1024.Idx → EReal := fun j => moment (grads x0 j) (x2 j)
def squares : S256x1024.Idx → EReal := fun j => square (grads x0 j) (x3 j)

end Results

variable (m : (ℓ : Loc nD τ sig) → Buf (Elt Ideal) ℓ) (c : Dev nD)

/-- The arguments: the parts of the gradient, the weight and its two moments. -/
def inP : S4x256x1024.Idx → EReal := m ((c : Thread nD τ).loc main_arg0)
def inW : S256x1024.Idx → EReal := m ((c : Thread nD τ).loc main_arg1)
def inM : S256x1024.Idx → EReal := m ((c : Thread nD τ).loc main_arg2)
def inV : S256x1024.Idx → EReal := m ((c : Thread nD τ).loc main_arg3)

theorem ixP : ∀ t : Fin grid0.N, win0_0.index t 0 = 0 ∧ win0_0.index t 1 = t.val ∧ win0_0.index t 2 = 0 := by decide +kernel
theorem ix_1 : ∀ t : Fin grid0.N, win0_1.index t 0 = t.val ∧ win0_1.index t 1 = 0 := by decide +kernel
theorem ix_2 : ∀ t : Fin grid0.N, win0_2.index t 0 = t.val ∧ win0_2.index t 1 = 0 := by decide +kernel
theorem ix_3 : ∀ t : Fin grid0.N, win0_3.index t 0 = t.val ∧ win0_3.index t 1 = 0 := by decide +kernel
theorem ix_4 : ∀ t : Fin grid0.N, win0_4.index t 0 = t.val ∧ win0_4.index t 1 = 0 := by decide +kernel
theorem ix_5 : ∀ t : Fin grid0.N, win0_5.index t 0 = t.val ∧ win0_5.index t 1 = 0 := by decide +kernel
theorem ix_6 : ∀ t : Fin grid0.N, win0_6.index t 0 = t.val ∧ win0_6.index t 1 = 0 := by decide +kernel
theorem ix_7 : ∀ t : Fin grid0.N, win0_7.index t 0 = t.val ∧ win0_7.index t 1 = 0 := by decide +kernel

/-- Position `q` of tile `t`. -/
def place (t : Fin cfg0.N) (q : Fin 256) : Fin 256 := ⟨t.val * 256 + q.val, by have := t.isLt; have := q.isLt; have : cfg0.N = 1 := N_0; omega⟩

theorem blkP (t : Fin cfg0.N) (p : Fin 4) (r : Fin 256) (k : Fin 1024) : (iblk m c 0 t : Vec Ideal S4x256x1024 .bf16) (ix3 p r k) = inP m c (ix3 p (place t r) k) := by
  unfold iblk inP
  rw [View.read_apply]
  show V m c main_arg0 _ = m (c.tc.loc main_arg0) _
  unfold V
  congr 1
  funext a
  apply Fin.ext
  match a with
  | ⟨0, _⟩ => show win0_0.index t 0 * 4 + 1 * p.val = p.val; rw [(ixP t).1]; omega
  | ⟨1, _⟩ => show win0_0.index t 1 * 256 + 1 * r.val = t.val * 256 + r.val; rw [(ixP t).2.1]; omega
  | ⟨2, _⟩ => show win0_0.index t 2 * 1024 + 1 * k.val = k.val; rw [(ixP t).2.2]; omega

theorem blkW (t : Fin cfg0.N) (r : Fin 256) (k : Fin 1024) : (iblk m c 1 t : Vec Ideal S256x1024 .f32) (ix2 r k) = inW m c (ix2 (place t r) k) := by
  unfold iblk inW
  rw [View.read_apply]
  show V m c main_arg1 _ = m (c.tc.loc main_arg1) _
  unfold V
  congr 1
  funext a
  apply Fin.ext
  match a with
  | ⟨0, _⟩ => show win0_1.index t 0 * 256 + 1 * r.val = t.val * 256 + r.val; rw [(ix_1 t).1]; omega
  | ⟨1, _⟩ => show win0_1.index t 1 * 1024 + 1 * k.val = k.val; rw [(ix_1 t).2]; omega

theorem blkM (t : Fin cfg0.N) (r : Fin 256) (k : Fin 1024) : (iblk m c 2 t : Vec Ideal S256x1024 .f32) (ix2 r k) = inM m c (ix2 (place t r) k) := by
  unfold iblk inM
  rw [View.read_apply]
  show V m c main_arg2 _ = m (c.tc.loc main_arg2) _
  unfold V
  congr 1
  funext a
  apply Fin.ext
  match a with
  | ⟨0, _⟩ => show win0_2.index t 0 * 256 + 1 * r.val = t.val * 256 + r.val; rw [(ix_2 t).1]; omega
  | ⟨1, _⟩ => show win0_2.index t 1 * 1024 + 1 * k.val = k.val; rw [(ix_2 t).2]; omega

theorem blkV (t : Fin cfg0.N) (r : Fin 256) (k : Fin 1024) : (iblk m c 3 t : Vec Ideal S256x1024 .f32) (ix2 r k) = inV m c (ix2 (place t r) k) := by
  unfold iblk inV
  rw [View.read_apply]
  show V m c main_arg3 _ = m (c.tc.loc main_arg3) _
  unfold V
  congr 1
  funext a
  apply Fin.ext
  match a with
  | ⟨0, _⟩ => show win0_3.index t 0 * 256 + 1 * r.val = t.val * 256 + r.val; rw [(ix_3 t).1]; omega
  | ⟨1, _⟩ => show win0_3.index t 1 * 1024 + 1 * k.val = k.val; rw [(ix_3 t).2]; omega

theorem emb4 (t : Fin cfg0.N) (r : Fin 256) (k : Fin 1024) : (((cfg0.win 4).blk t).view.emb (ix2 r k : S256x1024.Idx) : S256x1024.Idx) = ix2 (place t r) k := by
  funext a
  apply Fin.ext
  match a with
  | ⟨0, _⟩ => show win0_4.index t 0 * 256 + 1 * r.val = t.val * 256 + r.val; rw [(ix_4 t).1]; omega
  | ⟨1, _⟩ => show win0_4.index t 1 * 1024 + 1 * k.val = k.val; rw [(ix_4 t).2]; omega

theorem emb5 (t : Fin cfg0.N) (r : Fin 256) (k : Fin 1024) : (((cfg0.win 5).blk t).view.emb (ix2 r k : S256x1024.Idx) : S256x1024.Idx) = ix2 (place t r) k := by
  funext a
  apply Fin.ext
  match a with
  | ⟨0, _⟩ => show win0_5.index t 0 * 256 + 1 * r.val = t.val * 256 + r.val; rw [(ix_5 t).1]; omega
  | ⟨1, _⟩ => show win0_5.index t 1 * 1024 + 1 * k.val = k.val; rw [(ix_5 t).2]; omega

theorem emb6 (t : Fin cfg0.N) (r : Fin 256) (k : Fin 1024) : (((cfg0.win 6).blk t).view.emb (ix2 r k : S256x1024.Idx) : S256x1024.Idx) = ix2 (place t r) k := by
  funext a
  apply Fin.ext
  match a with
  | ⟨0, _⟩ => show win0_6.index t 0 * 256 + 1 * r.val = t.val * 256 + r.val; rw [(ix_6 t).1]; omega
  | ⟨1, _⟩ => show win0_6.index t 1 * 1024 + 1 * k.val = k.val; rw [(ix_6 t).2]; omega

theorem emb7 (t : Fin cfg0.N) (r : Fin 256) (k : Fin 1024) : (((cfg0.win 7).blk t).view.emb (ix2 r k : S256x1024.Idx) : S256x1024.Idx) = ix2 (place t r) k := by
  funext a
  apply Fin.ext
  match a with
  | ⟨0, _⟩ => show win0_7.index t 0 * 256 + 1 * r.val = t.val * 256 + r.val; rw [(ix_7 t).1]; omega
  | ⟨1, _⟩ => show win0_7.index t 1 * 1024 + 1 * k.val = k.val; rw [(ix_7 t).2]; omega

/-- Every entry lies in a tile. -/
theorem tiled (i : S256x1024.Idx) : ∃ (t : Fin cfg0.N) (r : Fin 256) (k : Fin 1024), i = ix2 (place t r) k := by
  have h : (i 0 : Nat) < 256 := (i 0).isLt
  have hN : cfg0.N = 1 := N_0
  refine ⟨⟨(i 0 : Nat) / 256, by omega⟩, ⟨(i 0 : Nat) % 256, Nat.mod_lt _ (by omega)⟩, i 1, ?_⟩
  funext a
  apply Fin.ext
  match a with
  | ⟨0, _⟩ => show (i 0 : Nat) = (i 0 : Nat) / 256 * 256 + (i 0 : Nat) % 256; omega
  | ⟨1, _⟩ => rfl

theorem final_grads : (dats m 0 c).arrAt 4 cfg0.N = grads (inP m c) := by
  refine (dats m 0 c).arrAt_eq_of_cover 4 (grads (inP m c)) (fun t hf => ?_) fun i => ?_
  · show (cfg0.win 4).cut (grid0.coords t) ((dats m 0 c).after 4 t) = _
    rw [after0_4]
    funext j
    rw [View.read_apply]
    obtain ⟨r, k, rfl⟩ : ∃ (r : Fin 256) (k : Fin 1024), j = ix2 r k := ⟨j 0, j 1, eq_ix2 j⟩
    refine (total_read (iblk m c 0 t) (iblk m c 1 t) (iblk m c 2 t) (iblk m c 3 t) r k).trans ?_
    refine Eq.trans ?_ (congrArg (grads (inP m c)) (emb4 t r k).symm)
    simp only [blkP]
    rfl
  · obtain ⟨t, r, k, rfl⟩ := tiled i
    exact ⟨t, flush0_4 t, emb4 t r k ▸ View.emb_mem_set _ _⟩

theorem final_changes : (dats m 0 c).arrAt 5 cfg0.N = changes (inP m c) (inW m c) (inM m c) (inV m c) := by
  refine (dats m 0 c).arrAt_eq_of_cover 5 (changes (inP m c) (inW m c) (inM m c) (inV m c)) (fun t hf => ?_) fun i => ?_
  · show (cfg0.win 5).cut (grid0.coords t) ((dats m 0 c).after 5 t) = _
    rw [after0_5]
    funext j
    rw [View.read_apply]
    obtain ⟨r, k, rfl⟩ : ∃ (r : Fin 256) (k : Fin 1024), j = ix2 r k := ⟨j 0, j 1, eq_ix2 j⟩
    refine (change_read (iblk m c 0 t) (iblk m c 1 t) (iblk m c 2 t) (iblk m c 3 t) r k).trans ?_
    refine Eq.trans ?_ (congrArg (changes (inP m c) (inW m c) (inM m c) (inV m c)) (emb5 t r k).symm)
    simp only [blkP, blkW, blkM, blkV]
    rfl
  · obtain ⟨t, r, k, rfl⟩ := tiled i
    exact ⟨t, flush0_5 t, emb5 t r k ▸ View.emb_mem_set _ _⟩

theorem final_moments : (dats m 0 c).arrAt 6 cfg0.N = moments (inP m c) (inM m c) := by
  refine (dats m 0 c).arrAt_eq_of_cover 6 (moments (inP m c) (inM m c)) (fun t hf => ?_) fun i => ?_
  · show (cfg0.win 6).cut (grid0.coords t) ((dats m 0 c).after 6 t) = _
    rw [after0_6]
    funext j
    rw [View.read_apply]
    obtain ⟨r, k, rfl⟩ : ∃ (r : Fin 256) (k : Fin 1024), j = ix2 r k := ⟨j 0, j 1, eq_ix2 j⟩
    refine (moment_read (iblk m c 0 t) (iblk m c 1 t) (iblk m c 2 t) (iblk m c 3 t) r k).trans ?_
    refine Eq.trans ?_ (congrArg (moments (inP m c) (inM m c)) (emb6 t r k).symm)
    simp only [blkP, blkM]
    rfl
  · obtain ⟨t, r, k, rfl⟩ := tiled i
    exact ⟨t, flush0_6 t, emb6 t r k ▸ View.emb_mem_set _ _⟩

theorem final_squares : (dats m 0 c).arrAt 7 cfg0.N = squares (inP m c) (inV m c) := by
  refine (dats m 0 c).arrAt_eq_of_cover 7 (squares (inP m c) (inV m c)) (fun t hf => ?_) fun i => ?_
  · show (cfg0.win 7).cut (grid0.coords t) ((dats m 0 c).after 7 t) = _
    rw [after0_7]
    funext j
    rw [View.read_apply]
    obtain ⟨r, k, rfl⟩ : ∃ (r : Fin 256) (k : Fin 1024), j = ix2 r k := ⟨j 0, j 1, eq_ix2 j⟩
    refine (square_read (iblk m c 0 t) (iblk m c 1 t) (iblk m c 2 t) (iblk m c 3 t) r k).trans ?_
    refine Eq.trans ?_ (congrArg (squares (inP m c) (inV m c)) (emb7 t r k).symm)
    simp only [blkP, blkV]
    rfl
  · obtain ⟨t, r, k, rfl⟩ := tiled i
    exact ⟨t, flush0_7 t, emb7 t r k ▸ View.emb_mem_set _ _⟩

end Cert.Kernel8Ideal.Tile

namespace Cert.Reference8Ideal.Rows

open Cert.Reference8Ideal Cert.Reference8Ideal.Read Cert.Kernel8Ideal.Tile

theorem grads_read (x0 : (⟨S4x256x1024, .bf16⟩ : BufTy).Contents (Elt Ideal)) : val_main_v1 (F := Ideal) x0 = grads x0 := by
  funext j
  obtain ⟨r, k, rfl⟩ : ∃ (r : Fin 256) (k : Fin 1024), j = ix2 r k := ⟨j 0, j 1, eq_ix2 j⟩
  unfold val_main_v1 val_main_v0
  pointwise
  exact total_sum fun p => x0 (ix3 p r k)

theorem moments_read (x0 : (⟨S4x256x1024, .bf16⟩ : BufTy).Contents (Elt Ideal)) (x2 : (⟨S256x1024, .f32⟩ : BufTy).Contents (Elt Ideal)) : val_main_v6 (F := Ideal) x0 x2 = moments x0 x2 := by
  funext j
  obtain ⟨r, k, rfl⟩ : ∃ (r : Fin 256) (k : Fin 1024), j = ix2 r k := ⟨j 0, j 1, eq_ix2 j⟩
  unfold val_main_v6 val_main_v5 val_main_v4 val_main_v3 val_main_v2 moments moment
  pointwise
  rw [grads_read]
  rfl

theorem squares_read (x0 : (⟨S4x256x1024, .bf16⟩ : BufTy).Contents (Elt Ideal)) (x3 : (⟨S256x1024, .f32⟩ : BufTy).Contents (Elt Ideal)) : val_main_v12 (F := Ideal) x0 x3 = squares x0 x3 := by
  funext j
  obtain ⟨r, k, rfl⟩ : ∃ (r : Fin 256) (k : Fin 1024), j = ix2 r k := ⟨j 0, j 1, eq_ix2 j⟩
  unfold val_main_v12 val_main_v11 val_main_v10 val_main_v9 val_main_v8 val_main_v7 squares square
  pointwise
  rw [grads_read]
  rfl

theorem changes_read (x0 : (⟨S4x256x1024, .bf16⟩ : BufTy).Contents (Elt Ideal)) (x1 x2 x3 : (⟨S256x1024, .f32⟩ : BufTy).Contents (Elt Ideal)) : val_main_v25 (F := Ideal) x0 x1 x2 x3 = changes x0 x1 x2 x3 := by
  funext j
  obtain ⟨r, k, rfl⟩ : ∃ (r : Fin 256) (k : Fin 1024), j = ix2 r k := ⟨j 0, j 1, eq_ix2 j⟩
  unfold val_main_v25 val_main_v24 val_main_v23 val_main_v22 val_main_v21 val_main_v20 val_main_v19 val_main_v18 val_main_v17 val_main_v16 val_main_v15 val_main_v14 val_main_v13 changes change
  pointwise
  rw [moments_read, squares_read]
  rfl

end Cert.Reference8Ideal.Rows

namespace Cert.Proof

open Cert.Reference8Ideal.Read Cert.Reference8Ideal.Rows Cert.Kernel8Ideal.Tile

/-- The reference runs and leaves its arguments as they were. -/
theorem frame8 : Cert.quiescent_Reference8Ideal := fun m g _ =>
  (θ_run Cert.Reference8Ideal.defs _ _).mono (fun r h => ⟨fun c => (h c).2.2.2.2, sem_eq_zero_of_no_sems (by decide) r.2⟩)
    (Cert.Reference8Ideal.Value.run (F := Ideal) m g)

/-- Kernel and reference, from the same arguments, end with equal results. -/
theorem algebraic8 : Cert.algebraic_Kernel8Ideal_Reference8Ideal := by
  intro m g m' g' _ hagree
  refine ⟨fun c => grads (inP m c), fun c => changes (inP m c) (inW m c) (inM m c) (inV m c), fun c => moments (inP m c) (inM m c), fun c => squares (inP m c) (inV m c),
    (θ_run Cert.Kernel8Ideal.defs _ _).mono (fun r h c => ⟨(h c).1.trans (final_grads m c), (h c).2.1.trans (final_changes m c), (h c).2.2.1.trans (final_moments m c), (h c).2.2.2.1.trans (final_squares m c), (h c).2.2.2.2⟩)
      (Cert.Kernel8Ideal.Value.run_blocks (F := Ideal) m g), ?_⟩
  refine (θ_run Cert.Reference8Ideal.defs _ _).mono (fun r h c => ?_) (Cert.Reference8Ideal.Value.run (F := Ideal) m' g')
  obtain ⟨e0, e1, e2, e3⟩ := hagree c
  obtain ⟨h0, h1, h2, h3, hargs⟩ := h c
  refine ⟨h0.trans ?_, h1.trans ?_, h2.trans ?_, h3.trans ?_, hargs⟩
  · exact (val_main_v1_eq _).trans ((grads_read _).trans (congrArg grads e0))
  · refine (val_main_v25_eq _ _ _ _).trans ((changes_read _ _ _ _).trans ?_)
    rw [e0, e1, e2, e3]
    rfl
  · exact (val_main_v6_eq _ _).trans ((moments_read _ _).trans (congrArg₂ moments e0 e2))
  · exact (val_main_v12_eq _ _).trans ((squares_read _ _).trans (congrArg₂ squares e0 e3))

end Cert.Proof

end
-- ==== Proof.AdamFf1.lean ====
/-
  The optimiser's call on a device's part of w_ff1, whose gradient arrives transposed: kernel and reference end with the same arrays.
-/
module

public import proofs.«01_k».proof.Defs
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Adam
public import Idealize.ShloMosaic.Adequacy

@[expose] public section

set_option maxRecDepth 16384

noncomputable section

open Idealize.ShloMosaic Idealize.ShloMosaic.TcCoe Idealize.ShloMosaic.StableHlo Idealize.SL.Sem
open Idealize.ShloMosaic.Pipeline (Dat)
open Cert.Adam

namespace Cert.Kernel9Ideal.Tile

open Cert.Kernel9Ideal Cert.Kernel9Ideal.Gen

theorem hz : (![0, 0] : Fin 2 → Nat) = fun _ => 0 := funext fun a => by fin_cases a <;> rfl

section Point

variable (x0 : Vec Ideal S4x256x1024 .bf16) (x1 x2 x3 : Vec Ideal S1024x256 .f32) (r : Fin 1024) (k : Fin 256)

theorem total_read : out0_4 (F := Ideal) x0 x1 x2 x3 (ix2 r k) = total fun p => x0 (ix3 p k r) := by
  unfold out0_4 r0_4
  rw [View.canon_unit_zero hz]
  unfold k0_pay2 r0_0 r0_1 r0_2 r0_3 total
  pointwise

theorem change_read : out0_5 (F := Ideal) x0 x1 x2 x3 (ix2 r k)
    = change (total fun p => x0 (ix3 p k r)) (x1 (ix2 r k)) (x2 (ix2 r k)) (x3 (ix2 r k)) := by
  unfold out0_5 r0_4
  rw [View.canon_unit_zero hz]
  simp only [View.ld_unit_zero (S := S1024x256) hz]
  unfold k0_pay1 k0_pay5 k0_pay6 k0_pay4 k0_pay3 k0_pay2 r0_0 r0_1 r0_2 r0_3 change moment square total
  pointwise

theorem moment_read : out0_6 (F := Ideal) x0 x1 x2 x3 (ix2 r k) = moment (total fun p => x0 (ix3 p k r)) (x2 (ix2 r k)) := by
  unfold out0_6 r0_4
  rw [View.canon_unit_zero hz]
  simp only [View.ld_unit_zero (S := S1024x256) hz]
  unfold k0_pay3 k0_pay2 r0_0 r0_1 r0_2 r0_3 moment total
  pointwise

theorem square_read : out0_7 (F := Ideal) x0 x1 x2 x3 (ix2 r k) = square (total fun p => x0 (ix3 p k r)) (x3 (ix2 r k)) := by
  unfold out0_7 r0_4
  rw [View.canon_unit_zero hz]
  simp only [View.ld_unit_zero (S := S1024x256) hz]
  unfold k0_pay4 k0_pay2 r0_0 r0_1 r0_2 r0_3 square total
  pointwise

end Point

/-! ## The arrays -/

section Results

variable (x0 : S4x512x1024.Idx → EReal) (x1 x2 x3 : S1024x512.Idx → EReal)

/-- What the four results are, entry by entry. -/
def grads : S1024x512.Idx → EReal := fun j => total fun p => x0 (ix3 p (j 1) (j 0))
def changes : S1024x512.Idx → EReal := fun j => change (grads x0 j) (x1 j) (x2 j) (x3 j)
def moments : S1024x512.Idx → EReal := fun j => moment (grads x0 j) (x2 j)
def squares : S1024x512.Idx → EReal := fun j => square (grads x0 j) (x3 j)

end Results

variable (m : (ℓ : Loc nD τ sig) → Buf (Elt Ideal) ℓ) (c : Dev nD)

/-- The arguments: the parts of the gradient, the weight and its two moments. -/
def inP : S4x512x1024.Idx → EReal := m ((c : Thread nD τ).loc main_arg0)
def inW : S1024x512.Idx → EReal := m ((c : Thread nD τ).loc main_arg1)
def inM : S1024x512.Idx → EReal := m ((c : Thread nD τ).loc main_arg2)
def inV : S1024x512.Idx → EReal := m ((c : Thread nD τ).loc main_arg3)

theorem ixP : ∀ t : Fin grid0.N, win0_0.index t 0 = 0 ∧ win0_0.index t 1 = t.val ∧ win0_0.index t 2 = 0 := by decide +kernel
theorem ix_1 : ∀ t : Fin grid0.N, win0_1.index t 0 = 0 ∧ win0_1.index t 1 = t.val := by decide +kernel
theorem ix_2 : ∀ t : Fin grid0.N, win0_2.index t 0 = 0 ∧ win0_2.index t 1 = t.val := by decide +kernel
theorem ix_3 : ∀ t : Fin grid0.N, win0_3.index t 0 = 0 ∧ win0_3.index t 1 = t.val := by decide +kernel
theorem ix_4 : ∀ t : Fin grid0.N, win0_4.index t 0 = 0 ∧ win0_4.index t 1 = t.val := by decide +kernel
theorem ix_5 : ∀ t : Fin grid0.N, win0_5.index t 0 = 0 ∧ win0_5.index t 1 = t.val := by decide +kernel
theorem ix_6 : ∀ t : Fin grid0.N, win0_6.index t 0 = 0 ∧ win0_6.index t 1 = t.val := by decide +kernel
theorem ix_7 : ∀ t : Fin grid0.N, win0_7.index t 0 = 0 ∧ win0_7.index t 1 = t.val := by decide +kernel

/-- Position `q` of tile `t`. -/
def place (t : Fin cfg0.N) (q : Fin 256) : Fin 512 := ⟨t.val * 256 + q.val, by have := t.isLt; have := q.isLt; have : cfg0.N = 2 := N_0; omega⟩

theorem blkP (t : Fin cfg0.N) (p : Fin 4) (r : Fin 1024) (k : Fin 256) : (iblk m c 0 t : Vec Ideal S4x256x1024 .bf16) (ix3 p k r) = inP m c (ix3 p (place t k) r) := by
  unfold iblk inP
  rw [View.read_apply]
  show V m c main_arg0 _ = m (c.tc.loc main_arg0) _
  unfold V
  congr 1
  funext a
  apply Fin.ext
  match a with
  | ⟨0, _⟩ => show win0_0.index t 0 * 4 + 1 * p.val = p.val; rw [(ixP t).1]; omega
  | ⟨1, _⟩ => show win0_0.index t 1 * 256 + 1 * k.val = t.val * 256 + k.val; rw [(ixP t).2.1]; omega
  | ⟨2, _⟩ => show win0_0.index t 2 * 1024 + 1 * r.val = r.val; rw [(ixP t).2.2]; omega

theorem blkW (t : Fin cfg0.N) (r : Fin 1024) (k : Fin 256) : (iblk m c 1 t : Vec Ideal S1024x256 .f32) (ix2 r k) = inW m c (ix2 r (place t k)) := by
  unfold iblk inW
  rw [View.read_apply]
  show V m c main_arg1 _ = m (c.tc.loc main_arg1) _
  unfold V
  congr 1
  funext a
  apply Fin.ext
  match a with
  | ⟨0, _⟩ => show win0_1.index t 0 * 1024 + 1 * r.val = r.val; rw [(ix_1 t).1]; omega
  | ⟨1, _⟩ => show win0_1.index t 1 * 256 + 1 * k.val = t.val * 256 + k.val; rw [(ix_1 t).2]; omega

theorem blkM (t : Fin cfg0.N) (r : Fin 1024) (k : Fin 256) : (iblk m c 2 t : Vec Ideal S1024x256 .f32) (ix2 r k) = inM m c (ix2 r (place t k)) := by
  unfold iblk inM
  rw [View.read_apply]
  show V m c main_arg2 _ = m (c.tc.loc main_arg2) _
  unfold V
  congr 1
  funext a
  apply Fin.ext
  match a with
  | ⟨0, _⟩ => show win0_2.index t 0 * 1024 + 1 * r.val = r.val; rw [(ix_2 t).1]; omega
  | ⟨1, _⟩ => show win0_2.index t 1 * 256 + 1 * k.val = t.val * 256 + k.val; rw [(ix_2 t).2]; omega

theorem blkV (t : Fin cfg0.N) (r : Fin 1024) (k : Fin 256) : (iblk m c 3 t : Vec Ideal S1024x256 .f32) (ix2 r k) = inV m c (ix2 r (place t k)) := by
  unfold iblk inV
  rw [View.read_apply]
  show V m c main_arg3 _ = m (c.tc.loc main_arg3) _
  unfold V
  congr 1
  funext a
  apply Fin.ext
  match a with
  | ⟨0, _⟩ => show win0_3.index t 0 * 1024 + 1 * r.val = r.val; rw [(ix_3 t).1]; omega
  | ⟨1, _⟩ => show win0_3.index t 1 * 256 + 1 * k.val = t.val * 256 + k.val; rw [(ix_3 t).2]; omega

theorem emb4 (t : Fin cfg0.N) (r : Fin 1024) (k : Fin 256) : (((cfg0.win 4).blk t).view.emb (ix2 r k : S1024x256.Idx) : S1024x512.Idx) = ix2 r (place t k) := by
  funext a
  apply Fin.ext
  match a with
  | ⟨0, _⟩ => show win0_4.index t 0 * 1024 + 1 * r.val = r.val; rw [(ix_4 t).1]; omega
  | ⟨1, _⟩ => show win0_4.index t 1 * 256 + 1 * k.val = t.val * 256 + k.val; rw [(ix_4 t).2]; omega

theorem emb5 (t : Fin cfg0.N) (r : Fin 1024) (k : Fin 256) : (((cfg0.win 5).blk t).view.emb (ix2 r k : S1024x256.Idx) : S1024x512.Idx) = ix2 r (place t k) := by
  funext a
  apply Fin.ext
  match a with
  | ⟨0, _⟩ => show win0_5.index t 0 * 1024 + 1 * r.val = r.val; rw [(ix_5 t).1]; omega
  | ⟨1, _⟩ => show win0_5.index t 1 * 256 + 1 * k.val = t.val * 256 + k.val; rw [(ix_5 t).2]; omega

theorem emb6 (t : Fin cfg0.N) (r : Fin 1024) (k : Fin 256) : (((cfg0.win 6).blk t).view.emb (ix2 r k : S1024x256.Idx) : S1024x512.Idx) = ix2 r (place t k) := by
  funext a
  apply Fin.ext
  match a with
  | ⟨0, _⟩ => show win0_6.index t 0 * 1024 + 1 * r.val = r.val; rw [(ix_6 t).1]; omega
  | ⟨1, _⟩ => show win0_6.index t 1 * 256 + 1 * k.val = t.val * 256 + k.val; rw [(ix_6 t).2]; omega

theorem emb7 (t : Fin cfg0.N) (r : Fin 1024) (k : Fin 256) : (((cfg0.win 7).blk t).view.emb (ix2 r k : S1024x256.Idx) : S1024x512.Idx) = ix2 r (place t k) := by
  funext a
  apply Fin.ext
  match a with
  | ⟨0, _⟩ => show win0_7.index t 0 * 1024 + 1 * r.val = r.val; rw [(ix_7 t).1]; omega
  | ⟨1, _⟩ => show win0_7.index t 1 * 256 + 1 * k.val = t.val * 256 + k.val; rw [(ix_7 t).2]; omega

/-- Every entry lies in a tile. -/
theorem tiled (i : S1024x512.Idx) : ∃ (t : Fin cfg0.N) (r : Fin 1024) (k : Fin 256), i = ix2 r (place t k) := by
  have h : (i 1 : Nat) < 512 := (i 1).isLt
  have hN : cfg0.N = 2 := N_0
  refine ⟨⟨(i 1 : Nat) / 256, by omega⟩, i 0, ⟨(i 1 : Nat) % 256, Nat.mod_lt _ (by omega)⟩, ?_⟩
  funext a
  apply Fin.ext
  match a with
  | ⟨1, _⟩ => show (i 1 : Nat) = (i 1 : Nat) / 256 * 256 + (i 1 : Nat) % 256; omega
  | ⟨0, _⟩ => rfl

theorem final_grads : (dats m 0 c).arrAt 4 cfg0.N = grads (inP m c) := by
  refine (dats m 0 c).arrAt_eq_of_cover 4 (grads (inP m c)) (fun t hf => ?_) fun i => ?_
  · show (cfg0.win 4).cut (grid0.coords t) ((dats m 0 c).after 4 t) = _
    rw [after0_4]
    funext j
    rw [View.read_apply]
    obtain ⟨r, k, rfl⟩ : ∃ (r : Fin 1024) (k : Fin 256), j = ix2 r k := ⟨j 0, j 1, eq_ix2 j⟩
    refine (total_read (iblk m c 0 t) (iblk m c 1 t) (iblk m c 2 t) (iblk m c 3 t) r k).trans ?_
    refine Eq.trans ?_ (congrArg (grads (inP m c)) (emb4 t r k).symm)
    simp only [blkP]
    rfl
  · obtain ⟨t, r, k, rfl⟩ := tiled i
    exact ⟨t, flush0_4 t, emb4 t r k ▸ View.emb_mem_set _ _⟩

theorem final_changes : (dats m 0 c).arrAt 5 cfg0.N = changes (inP m c) (inW m c) (inM m c) (inV m c) := by
  refine (dats m 0 c).arrAt_eq_of_cover 5 (changes (inP m c) (inW m c) (inM m c) (inV m c)) (fun t hf => ?_) fun i => ?_
  · show (cfg0.win 5).cut (grid0.coords t) ((dats m 0 c).after 5 t) = _
    rw [after0_5]
    funext j
    rw [View.read_apply]
    obtain ⟨r, k, rfl⟩ : ∃ (r : Fin 1024) (k : Fin 256), j = ix2 r k := ⟨j 0, j 1, eq_ix2 j⟩
    refine (change_read (iblk m c 0 t) (iblk m c 1 t) (iblk m c 2 t) (iblk m c 3 t) r k).trans ?_
    refine Eq.trans ?_ (congrArg (changes (inP m c) (inW m c) (inM m c) (inV m c)) (emb5 t r k).symm)
    simp only [blkP, blkW, blkM, blkV]
    rfl
  · obtain ⟨t, r, k, rfl⟩ := tiled i
    exact ⟨t, flush0_5 t, emb5 t r k ▸ View.emb_mem_set _ _⟩

theorem final_moments : (dats m 0 c).arrAt 6 cfg0.N = moments (inP m c) (inM m c) := by
  refine (dats m 0 c).arrAt_eq_of_cover 6 (moments (inP m c) (inM m c)) (fun t hf => ?_) fun i => ?_
  · show (cfg0.win 6).cut (grid0.coords t) ((dats m 0 c).after 6 t) = _
    rw [after0_6]
    funext j
    rw [View.read_apply]
    obtain ⟨r, k, rfl⟩ : ∃ (r : Fin 1024) (k : Fin 256), j = ix2 r k := ⟨j 0, j 1, eq_ix2 j⟩
    refine (moment_read (iblk m c 0 t) (iblk m c 1 t) (iblk m c 2 t) (iblk m c 3 t) r k).trans ?_
    refine Eq.trans ?_ (congrArg (moments (inP m c) (inM m c)) (emb6 t r k).symm)
    simp only [blkP, blkM]
    rfl
  · obtain ⟨t, r, k, rfl⟩ := tiled i
    exact ⟨t, flush0_6 t, emb6 t r k ▸ View.emb_mem_set _ _⟩

theorem final_squares : (dats m 0 c).arrAt 7 cfg0.N = squares (inP m c) (inV m c) := by
  refine (dats m 0 c).arrAt_eq_of_cover 7 (squares (inP m c) (inV m c)) (fun t hf => ?_) fun i => ?_
  · show (cfg0.win 7).cut (grid0.coords t) ((dats m 0 c).after 7 t) = _
    rw [after0_7]
    funext j
    rw [View.read_apply]
    obtain ⟨r, k, rfl⟩ : ∃ (r : Fin 1024) (k : Fin 256), j = ix2 r k := ⟨j 0, j 1, eq_ix2 j⟩
    refine (square_read (iblk m c 0 t) (iblk m c 1 t) (iblk m c 2 t) (iblk m c 3 t) r k).trans ?_
    refine Eq.trans ?_ (congrArg (squares (inP m c) (inV m c)) (emb7 t r k).symm)
    simp only [blkP, blkV]
    rfl
  · obtain ⟨t, r, k, rfl⟩ := tiled i
    exact ⟨t, flush0_7 t, emb7 t r k ▸ View.emb_mem_set _ _⟩

end Cert.Kernel9Ideal.Tile

namespace Cert.Reference9Ideal.Rows

open Cert.Reference9Ideal Cert.Reference9Ideal.Read Cert.Kernel9Ideal.Tile

theorem grads_read (x0 : (⟨S4x512x1024, .bf16⟩ : BufTy).Contents (Elt Ideal)) : val_main_v2 (F := Ideal) x0 = grads x0 := by
  funext j
  obtain ⟨r, k, rfl⟩ : ∃ (r : Fin 1024) (k : Fin 512), j = ix2 r k := ⟨j 0, j 1, eq_ix2 j⟩
  unfold val_main_v2 val_main_v1 val_main_v0
  pointwise
  exact total_sum fun p => x0 (ix3 p k r)

theorem moments_read (x0 : (⟨S4x512x1024, .bf16⟩ : BufTy).Contents (Elt Ideal)) (x2 : (⟨S1024x512, .f32⟩ : BufTy).Contents (Elt Ideal)) : val_main_v7 (F := Ideal) x0 x2 = moments x0 x2 := by
  funext j
  obtain ⟨r, k, rfl⟩ : ∃ (r : Fin 1024) (k : Fin 512), j = ix2 r k := ⟨j 0, j 1, eq_ix2 j⟩
  unfold val_main_v7 val_main_v6 val_main_v5 val_main_v4 val_main_v3 moments moment
  pointwise
  rw [grads_read]
  rfl

theorem squares_read (x0 : (⟨S4x512x1024, .bf16⟩ : BufTy).Contents (Elt Ideal)) (x3 : (⟨S1024x512, .f32⟩ : BufTy).Contents (Elt Ideal)) : val_main_v13 (F := Ideal) x0 x3 = squares x0 x3 := by
  funext j
  obtain ⟨r, k, rfl⟩ : ∃ (r : Fin 1024) (k : Fin 512), j = ix2 r k := ⟨j 0, j 1, eq_ix2 j⟩
  unfold val_main_v13 val_main_v12 val_main_v11 val_main_v10 val_main_v9 val_main_v8 squares square
  pointwise
  rw [grads_read]
  rfl

theorem changes_read (x0 : (⟨S4x512x1024, .bf16⟩ : BufTy).Contents (Elt Ideal)) (x1 x2 x3 : (⟨S1024x512, .f32⟩ : BufTy).Contents (Elt Ideal)) : val_main_v26 (F := Ideal) x0 x1 x2 x3 = changes x0 x1 x2 x3 := by
  funext j
  obtain ⟨r, k, rfl⟩ : ∃ (r : Fin 1024) (k : Fin 512), j = ix2 r k := ⟨j 0, j 1, eq_ix2 j⟩
  unfold val_main_v26 val_main_v25 val_main_v24 val_main_v23 val_main_v22 val_main_v21 val_main_v20 val_main_v19 val_main_v18 val_main_v17 val_main_v16 val_main_v15 val_main_v14 changes change
  pointwise
  rw [moments_read, squares_read]
  rfl

end Cert.Reference9Ideal.Rows

namespace Cert.Proof

open Cert.Reference9Ideal.Read Cert.Reference9Ideal.Rows Cert.Kernel9Ideal.Tile

/-- The reference runs and leaves its arguments as they were. -/
theorem frame9 : Cert.quiescent_Reference9Ideal := fun m g _ =>
  (θ_run Cert.Reference9Ideal.defs _ _).mono (fun r h => ⟨fun c => (h c).2.2.2.2, sem_eq_zero_of_no_sems (by decide) r.2⟩)
    (Cert.Reference9Ideal.Value.run (F := Ideal) m g)

/-- Kernel and reference, from the same arguments, end with equal results. -/
theorem algebraic9 : Cert.algebraic_Kernel9Ideal_Reference9Ideal := by
  intro m g m' g' _ hagree
  refine ⟨fun c => grads (inP m c), fun c => changes (inP m c) (inW m c) (inM m c) (inV m c), fun c => moments (inP m c) (inM m c), fun c => squares (inP m c) (inV m c),
    (θ_run Cert.Kernel9Ideal.defs _ _).mono (fun r h c => ⟨(h c).1.trans (final_grads m c), (h c).2.1.trans (final_changes m c), (h c).2.2.1.trans (final_moments m c), (h c).2.2.2.1.trans (final_squares m c), (h c).2.2.2.2⟩)
      (Cert.Kernel9Ideal.Value.run_blocks (F := Ideal) m g), ?_⟩
  refine (θ_run Cert.Reference9Ideal.defs _ _).mono (fun r h c => ?_) (Cert.Reference9Ideal.Value.run (F := Ideal) m' g')
  obtain ⟨e0, e1, e2, e3⟩ := hagree c
  obtain ⟨h0, h1, h2, h3, hargs⟩ := h c
  refine ⟨h0.trans ?_, h1.trans ?_, h2.trans ?_, h3.trans ?_, hargs⟩
  · exact (val_main_v2_eq _).trans ((grads_read _).trans (congrArg grads e0))
  · refine (val_main_v26_eq _ _ _ _).trans ((changes_read _ _ _ _).trans ?_)
    rw [e0, e1, e2, e3]
    rfl
  · exact (val_main_v7_eq _ _).trans ((moments_read _ _).trans (congrArg₂ moments e0 e2))
  · exact (val_main_v13_eq _ _).trans ((squares_read _ _).trans (congrArg₂ squares e0 e3))

end Cert.Proof

end
-- ==== Proof.AdamFf2.lean ====
/-
  The optimiser's call on a device's part of w_ff2: kernel and reference end with the same arrays.
-/
module

public import proofs.«01_k».proof.Defs
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Adam
public import Idealize.ShloMosaic.Adequacy

@[expose] public section

set_option maxRecDepth 16384

noncomputable section

open Idealize.ShloMosaic Idealize.ShloMosaic.TcCoe Idealize.ShloMosaic.StableHlo Idealize.SL.Sem
open Idealize.ShloMosaic.Pipeline (Dat)
open Cert.Adam

namespace Cert.Kernel10Ideal.Tile

open Cert.Kernel10Ideal Cert.Kernel10Ideal.Gen

theorem hz : (![0, 0] : Fin 2 → Nat) = fun _ => 0 := funext fun a => by fin_cases a <;> rfl

section Point

variable (x0 : Vec Ideal S4x256x1024 .bf16) (x1 x2 x3 : Vec Ideal S256x1024 .f32) (r : Fin 256) (k : Fin 1024)

theorem total_read : out0_4 (F := Ideal) x0 x1 x2 x3 (ix2 r k) = total fun p => x0 (ix3 p r k) := by
  unfold out0_4 r0_4
  rw [View.canon_unit_zero hz]
  unfold k0_pay2 r0_0 r0_1 r0_2 r0_3 total
  pointwise

theorem change_read : out0_5 (F := Ideal) x0 x1 x2 x3 (ix2 r k)
    = change (total fun p => x0 (ix3 p r k)) (x1 (ix2 r k)) (x2 (ix2 r k)) (x3 (ix2 r k)) := by
  unfold out0_5 r0_4
  rw [View.canon_unit_zero hz]
  simp only [View.ld_unit_zero (S := S256x1024) hz]
  unfold k0_pay1 k0_pay5 k0_pay6 k0_pay4 k0_pay3 k0_pay2 r0_0 r0_1 r0_2 r0_3 change moment square total
  pointwise

theorem moment_read : out0_6 (F := Ideal) x0 x1 x2 x3 (ix2 r k) = moment (total fun p => x0 (ix3 p r k)) (x2 (ix2 r k)) := by
  unfold out0_6 r0_4
  rw [View.canon_unit_zero hz]
  simp only [View.ld_unit_zero (S := S256x1024) hz]
  unfold k0_pay3 k0_pay2 r0_0 r0_1 r0_2 r0_3 moment total
  pointwise

theorem square_read : out0_7 (F := Ideal) x0 x1 x2 x3 (ix2 r k) = square (total fun p => x0 (ix3 p r k)) (x3 (ix2 r k)) := by
  unfold out0_7 r0_4
  rw [View.canon_unit_zero hz]
  simp only [View.ld_unit_zero (S := S256x1024) hz]
  unfold k0_pay4 k0_pay2 r0_0 r0_1 r0_2 r0_3 square total
  pointwise

end Point

/-! ## The arrays -/

section Results

variable (x0 : S4x512x1024.Idx → EReal) (x1 x2 x3 : S512x1024.Idx → EReal)

/-- What the four results are, entry by entry. -/
def grads : S512x1024.Idx → EReal := fun j => total fun p => x0 (ix3 p (j 0) (j 1))
def changes : S512x1024.Idx → EReal := fun j => change (grads x0 j) (x1 j) (x2 j) (x3 j)
def moments : S512x1024.Idx → EReal := fun j => moment (grads x0 j) (x2 j)
def squares : S512x1024.Idx → EReal := fun j => square (grads x0 j) (x3 j)

end Results

variable (m : (ℓ : Loc nD τ sig) → Buf (Elt Ideal) ℓ) (c : Dev nD)

/-- The arguments: the parts of the gradient, the weight and its two moments. -/
def inP : S4x512x1024.Idx → EReal := m ((c : Thread nD τ).loc main_arg0)
def inW : S512x1024.Idx → EReal := m ((c : Thread nD τ).loc main_arg1)
def inM : S512x1024.Idx → EReal := m ((c : Thread nD τ).loc main_arg2)
def inV : S512x1024.Idx → EReal := m ((c : Thread nD τ).loc main_arg3)

theorem ixP : ∀ t : Fin grid0.N, win0_0.index t 0 = 0 ∧ win0_0.index t 1 = t.val ∧ win0_0.index t 2 = 0 := by decide +kernel
theorem ix_1 : ∀ t : Fin grid0.N, win0_1.index t 0 = t.val ∧ win0_1.index t 1 = 0 := by decide +kernel
theorem ix_2 : ∀ t : Fin grid0.N, win0_2.index t 0 = t.val ∧ win0_2.index t 1 = 0 := by decide +kernel
theorem ix_3 : ∀ t : Fin grid0.N, win0_3.index t 0 = t.val ∧ win0_3.index t 1 = 0 := by decide +kernel
theorem ix_4 : ∀ t : Fin grid0.N, win0_4.index t 0 = t.val ∧ win0_4.index t 1 = 0 := by decide +kernel
theorem ix_5 : ∀ t : Fin grid0.N, win0_5.index t 0 = t.val ∧ win0_5.index t 1 = 0 := by decide +kernel
theorem ix_6 : ∀ t : Fin grid0.N, win0_6.index t 0 = t.val ∧ win0_6.index t 1 = 0 := by decide +kernel
theorem ix_7 : ∀ t : Fin grid0.N, win0_7.index t 0 = t.val ∧ win0_7.index t 1 = 0 := by decide +kernel

/-- Position `q` of tile `t`. -/
def place (t : Fin cfg0.N) (q : Fin 256) : Fin 512 := ⟨t.val * 256 + q.val, by have := t.isLt; have := q.isLt; have : cfg0.N = 2 := N_0; omega⟩

theorem blkP (t : Fin cfg0.N) (p : Fin 4) (r : Fin 256) (k : Fin 1024) : (iblk m c 0 t : Vec Ideal S4x256x1024 .bf16) (ix3 p r k) = inP m c (ix3 p (place t r) k) := by
  unfold iblk inP
  rw [View.read_apply]
  show V m c main_arg0 _ = m (c.tc.loc main_arg0) _
  unfold V
  congr 1
  funext a
  apply Fin.ext
  match a with
  | ⟨0, _⟩ => show win0_0.index t 0 * 4 + 1 * p.val = p.val; rw [(ixP t).1]; omega
  | ⟨1, _⟩ => show win0_0.index t 1 * 256 + 1 * r.val = t.val * 256 + r.val; rw [(ixP t).2.1]; omega
  | ⟨2, _⟩ => show win0_0.index t 2 * 1024 + 1 * k.val = k.val; rw [(ixP t).2.2]; omega

theorem blkW (t : Fin cfg0.N) (r : Fin 256) (k : Fin 1024) : (iblk m c 1 t : Vec Ideal S256x1024 .f32) (ix2 r k) = inW m c (ix2 (place t r) k) := by
  unfold iblk inW
  rw [View.read_apply]
  show V m c main_arg1 _ = m (c.tc.loc main_arg1) _
  unfold V
  congr 1
  funext a
  apply Fin.ext
  match a with
  | ⟨0, _⟩ => show win0_1.index t 0 * 256 + 1 * r.val = t.val * 256 + r.val; rw [(ix_1 t).1]; omega
  | ⟨1, _⟩ => show win0_1.index t 1 * 1024 + 1 * k.val = k.val; rw [(ix_1 t).2]; omega

theorem blkM (t : Fin cfg0.N) (r : Fin 256) (k : Fin 1024) : (iblk m c 2 t : Vec Ideal S256x1024 .f32) (ix2 r k) = inM m c (ix2 (place t r) k) := by
  unfold iblk inM
  rw [View.read_apply]
  show V m c main_arg2 _ = m (c.tc.loc main_arg2) _
  unfold V
  congr 1
  funext a
  apply Fin.ext
  match a with
  | ⟨0, _⟩ => show win0_2.index t 0 * 256 + 1 * r.val = t.val * 256 + r.val; rw [(ix_2 t).1]; omega
  | ⟨1, _⟩ => show win0_2.index t 1 * 1024 + 1 * k.val = k.val; rw [(ix_2 t).2]; omega

theorem blkV (t : Fin cfg0.N) (r : Fin 256) (k : Fin 1024) : (iblk m c 3 t : Vec Ideal S256x1024 .f32) (ix2 r k) = inV m c (ix2 (place t r) k) := by
  unfold iblk inV
  rw [View.read_apply]
  show V m c main_arg3 _ = m (c.tc.loc main_arg3) _
  unfold V
  congr 1
  funext a
  apply Fin.ext
  match a with
  | ⟨0, _⟩ => show win0_3.index t 0 * 256 + 1 * r.val = t.val * 256 + r.val; rw [(ix_3 t).1]; omega
  | ⟨1, _⟩ => show win0_3.index t 1 * 1024 + 1 * k.val = k.val; rw [(ix_3 t).2]; omega

theorem emb4 (t : Fin cfg0.N) (r : Fin 256) (k : Fin 1024) : (((cfg0.win 4).blk t).view.emb (ix2 r k : S256x1024.Idx) : S512x1024.Idx) = ix2 (place t r) k := by
  funext a
  apply Fin.ext
  match a with
  | ⟨0, _⟩ => show win0_4.index t 0 * 256 + 1 * r.val = t.val * 256 + r.val; rw [(ix_4 t).1]; omega
  | ⟨1, _⟩ => show win0_4.index t 1 * 1024 + 1 * k.val = k.val; rw [(ix_4 t).2]; omega

theorem emb5 (t : Fin cfg0.N) (r : Fin 256) (k : Fin 1024) : (((cfg0.win 5).blk t).view.emb (ix2 r k : S256x1024.Idx) : S512x1024.Idx) = ix2 (place t r) k := by
  funext a
  apply Fin.ext
  match a with
  | ⟨0, _⟩ => show win0_5.index t 0 * 256 + 1 * r.val = t.val * 256 + r.val; rw [(ix_5 t).1]; omega
  | ⟨1, _⟩ => show win0_5.index t 1 * 1024 + 1 * k.val = k.val; rw [(ix_5 t).2]; omega

theorem emb6 (t : Fin cfg0.N) (r : Fin 256) (k : Fin 1024) : (((cfg0.win 6).blk t).view.emb (ix2 r k : S256x1024.Idx) : S512x1024.Idx) = ix2 (place t r) k := by
  funext a
  apply Fin.ext
  match a with
  | ⟨0, _⟩ => show win0_6.index t 0 * 256 + 1 * r.val = t.val * 256 + r.val; rw [(ix_6 t).1]; omega
  | ⟨1, _⟩ => show win0_6.index t 1 * 1024 + 1 * k.val = k.val; rw [(ix_6 t).2]; omega

theorem emb7 (t : Fin cfg0.N) (r : Fin 256) (k : Fin 1024) : (((cfg0.win 7).blk t).view.emb (ix2 r k : S256x1024.Idx) : S512x1024.Idx) = ix2 (place t r) k := by
  funext a
  apply Fin.ext
  match a with
  | ⟨0, _⟩ => show win0_7.index t 0 * 256 + 1 * r.val = t.val * 256 + r.val; rw [(ix_7 t).1]; omega
  | ⟨1, _⟩ => show win0_7.index t 1 * 1024 + 1 * k.val = k.val; rw [(ix_7 t).2]; omega

/-- Every entry lies in a tile. -/
theorem tiled (i : S512x1024.Idx) : ∃ (t : Fin cfg0.N) (r : Fin 256) (k : Fin 1024), i = ix2 (place t r) k := by
  have h : (i 0 : Nat) < 512 := (i 0).isLt
  have hN : cfg0.N = 2 := N_0
  refine ⟨⟨(i 0 : Nat) / 256, by omega⟩, ⟨(i 0 : Nat) % 256, Nat.mod_lt _ (by omega)⟩, i 1, ?_⟩
  funext a
  apply Fin.ext
  match a with
  | ⟨0, _⟩ => show (i 0 : Nat) = (i 0 : Nat) / 256 * 256 + (i 0 : Nat) % 256; omega
  | ⟨1, _⟩ => rfl

theorem final_grads : (dats m 0 c).arrAt 4 cfg0.N = grads (inP m c) := by
  refine (dats m 0 c).arrAt_eq_of_cover 4 (grads (inP m c)) (fun t hf => ?_) fun i => ?_
  · show (cfg0.win 4).cut (grid0.coords t) ((dats m 0 c).after 4 t) = _
    rw [after0_4]
    funext j
    rw [View.read_apply]
    obtain ⟨r, k, rfl⟩ : ∃ (r : Fin 256) (k : Fin 1024), j = ix2 r k := ⟨j 0, j 1, eq_ix2 j⟩
    refine (total_read (iblk m c 0 t) (iblk m c 1 t) (iblk m c 2 t) (iblk m c 3 t) r k).trans ?_
    refine Eq.trans ?_ (congrArg (grads (inP m c)) (emb4 t r k).symm)
    simp only [blkP]
    rfl
  · obtain ⟨t, r, k, rfl⟩ := tiled i
    exact ⟨t, flush0_4 t, emb4 t r k ▸ View.emb_mem_set _ _⟩

theorem final_changes : (dats m 0 c).arrAt 5 cfg0.N = changes (inP m c) (inW m c) (inM m c) (inV m c) := by
  refine (dats m 0 c).arrAt_eq_of_cover 5 (changes (inP m c) (inW m c) (inM m c) (inV m c)) (fun t hf => ?_) fun i => ?_
  · show (cfg0.win 5).cut (grid0.coords t) ((dats m 0 c).after 5 t) = _
    rw [after0_5]
    funext j
    rw [View.read_apply]
    obtain ⟨r, k, rfl⟩ : ∃ (r : Fin 256) (k : Fin 1024), j = ix2 r k := ⟨j 0, j 1, eq_ix2 j⟩
    refine (change_read (iblk m c 0 t) (iblk m c 1 t) (iblk m c 2 t) (iblk m c 3 t) r k).trans ?_
    refine Eq.trans ?_ (congrArg (changes (inP m c) (inW m c) (inM m c) (inV m c)) (emb5 t r k).symm)
    simp only [blkP, blkW, blkM, blkV]
    rfl
  · obtain ⟨t, r, k, rfl⟩ := tiled i
    exact ⟨t, flush0_5 t, emb5 t r k ▸ View.emb_mem_set _ _⟩

theorem final_moments : (dats m 0 c).arrAt 6 cfg0.N = moments (inP m c) (inM m c) := by
  refine (dats m 0 c).arrAt_eq_of_cover 6 (moments (inP m c) (inM m c)) (fun t hf => ?_) fun i => ?_
  · show (cfg0.win 6).cut (grid0.coords t) ((dats m 0 c).after 6 t) = _
    rw [after0_6]
    funext j
    rw [View.read_apply]
    obtain ⟨r, k, rfl⟩ : ∃ (r : Fin 256) (k : Fin 1024), j = ix2 r k := ⟨j 0, j 1, eq_ix2 j⟩
    refine (moment_read (iblk m c 0 t) (iblk m c 1 t) (iblk m c 2 t) (iblk m c 3 t) r k).trans ?_
    refine Eq.trans ?_ (congrArg (moments (inP m c) (inM m c)) (emb6 t r k).symm)
    simp only [blkP, blkM]
    rfl
  · obtain ⟨t, r, k, rfl⟩ := tiled i
    exact ⟨t, flush0_6 t, emb6 t r k ▸ View.emb_mem_set _ _⟩

theorem final_squares : (dats m 0 c).arrAt 7 cfg0.N = squares (inP m c) (inV m c) := by
  refine (dats m 0 c).arrAt_eq_of_cover 7 (squares (inP m c) (inV m c)) (fun t hf => ?_) fun i => ?_
  · show (cfg0.win 7).cut (grid0.coords t) ((dats m 0 c).after 7 t) = _
    rw [after0_7]
    funext j
    rw [View.read_apply]
    obtain ⟨r, k, rfl⟩ : ∃ (r : Fin 256) (k : Fin 1024), j = ix2 r k := ⟨j 0, j 1, eq_ix2 j⟩
    refine (square_read (iblk m c 0 t) (iblk m c 1 t) (iblk m c 2 t) (iblk m c 3 t) r k).trans ?_
    refine Eq.trans ?_ (congrArg (squares (inP m c) (inV m c)) (emb7 t r k).symm)
    simp only [blkP, blkV]
    rfl
  · obtain ⟨t, r, k, rfl⟩ := tiled i
    exact ⟨t, flush0_7 t, emb7 t r k ▸ View.emb_mem_set _ _⟩

end Cert.Kernel10Ideal.Tile

namespace Cert.Reference10Ideal.Rows

open Cert.Reference10Ideal Cert.Reference10Ideal.Read Cert.Kernel10Ideal.Tile

theorem grads_read (x0 : (⟨S4x512x1024, .bf16⟩ : BufTy).Contents (Elt Ideal)) : val_main_v1 (F := Ideal) x0 = grads x0 := by
  funext j
  obtain ⟨r, k, rfl⟩ : ∃ (r : Fin 512) (k : Fin 1024), j = ix2 r k := ⟨j 0, j 1, eq_ix2 j⟩
  unfold val_main_v1 val_main_v0
  pointwise
  exact total_sum fun p => x0 (ix3 p r k)

theorem moments_read (x0 : (⟨S4x512x1024, .bf16⟩ : BufTy).Contents (Elt Ideal)) (x2 : (⟨S512x1024, .f32⟩ : BufTy).Contents (Elt Ideal)) : val_main_v6 (F := Ideal) x0 x2 = moments x0 x2 := by
  funext j
  obtain ⟨r, k, rfl⟩ : ∃ (r : Fin 512) (k : Fin 1024), j = ix2 r k := ⟨j 0, j 1, eq_ix2 j⟩
  unfold val_main_v6 val_main_v5 val_main_v4 val_main_v3 val_main_v2 moments moment
  pointwise
  rw [grads_read]
  rfl

theorem squares_read (x0 : (⟨S4x512x1024, .bf16⟩ : BufTy).Contents (Elt Ideal)) (x3 : (⟨S512x1024, .f32⟩ : BufTy).Contents (Elt Ideal)) : val_main_v12 (F := Ideal) x0 x3 = squares x0 x3 := by
  funext j
  obtain ⟨r, k, rfl⟩ : ∃ (r : Fin 512) (k : Fin 1024), j = ix2 r k := ⟨j 0, j 1, eq_ix2 j⟩
  unfold val_main_v12 val_main_v11 val_main_v10 val_main_v9 val_main_v8 val_main_v7 squares square
  pointwise
  rw [grads_read]
  rfl

theorem changes_read (x0 : (⟨S4x512x1024, .bf16⟩ : BufTy).Contents (Elt Ideal)) (x1 x2 x3 : (⟨S512x1024, .f32⟩ : BufTy).Contents (Elt Ideal)) : val_main_v25 (F := Ideal) x0 x1 x2 x3 = changes x0 x1 x2 x3 := by
  funext j
  obtain ⟨r, k, rfl⟩ : ∃ (r : Fin 512) (k : Fin 1024), j = ix2 r k := ⟨j 0, j 1, eq_ix2 j⟩
  unfold val_main_v25 val_main_v24 val_main_v23 val_main_v22 val_main_v21 val_main_v20 val_main_v19 val_main_v18 val_main_v17 val_main_v16 val_main_v15 val_main_v14 val_main_v13 changes change
  pointwise
  rw [moments_read, squares_read]
  rfl

end Cert.Reference10Ideal.Rows

namespace Cert.Proof

open Cert.Reference10Ideal.Read Cert.Reference10Ideal.Rows Cert.Kernel10Ideal.Tile

/-- The reference runs and leaves its arguments as they were. -/
theorem frame10 : Cert.quiescent_Reference10Ideal := fun m g _ =>
  (θ_run Cert.Reference10Ideal.defs _ _).mono (fun r h => ⟨fun c => (h c).2.2.2.2, sem_eq_zero_of_no_sems (by decide) r.2⟩)
    (Cert.Reference10Ideal.Value.run (F := Ideal) m g)

/-- Kernel and reference, from the same arguments, end with equal results. -/
theorem algebraic10 : Cert.algebraic_Kernel10Ideal_Reference10Ideal := by
  intro m g m' g' _ hagree
  refine ⟨fun c => grads (inP m c), fun c => changes (inP m c) (inW m c) (inM m c) (inV m c), fun c => moments (inP m c) (inM m c), fun c => squares (inP m c) (inV m c),
    (θ_run Cert.Kernel10Ideal.defs _ _).mono (fun r h c => ⟨(h c).1.trans (final_grads m c), (h c).2.1.trans (final_changes m c), (h c).2.2.1.trans (final_moments m c), (h c).2.2.2.1.trans (final_squares m c), (h c).2.2.2.2⟩)
      (Cert.Kernel10Ideal.Value.run_blocks (F := Ideal) m g), ?_⟩
  refine (θ_run Cert.Reference10Ideal.defs _ _).mono (fun r h c => ?_) (Cert.Reference10Ideal.Value.run (F := Ideal) m' g')
  obtain ⟨e0, e1, e2, e3⟩ := hagree c
  obtain ⟨h0, h1, h2, h3, hargs⟩ := h c
  refine ⟨h0.trans ?_, h1.trans ?_, h2.trans ?_, h3.trans ?_, hargs⟩
  · exact (val_main_v1_eq _).trans ((grads_read _).trans (congrArg grads e0))
  · refine (val_main_v25_eq _ _ _ _).trans ((changes_read _ _ _ _).trans ?_)
    rw [e0, e1, e2, e3]
    rfl
  · exact (val_main_v6_eq _ _).trans ((moments_read _ _).trans (congrArg₂ moments e0 e2))
  · exact (val_main_v12_eq _ _).trans ((squares_read _ _).trans (congrArg₂ squares e0 e3))

end Cert.Proof

end
-- ==== Proof.Held.lean ====
/-
  A family of buffers held together while a body loads and stores them whole, one at a time.
-/
module

public import Idealize.ShloMosaic.Lib.Pipeline.FrameBody
public import Idealize.ShloMosaic.Lib.VecWindow

@[expose] public section

noncomputable section

open Idealize.ShloMosaic
open Idealize.SL Idealize.SL.RA Idealize.SL.Sem Idealize.SL.ProofMode
open Idealize.SL.BI (sProp bigSep)
open scoped Idealize.SL.BI
open Idealize.SL.BI.BIBase Idealize.SL.BI.Laws

namespace Cert.Held

variable {nD : Nat} {τ : Topo} {sig : RefSig} {Ix : Type} [DecidableEq Ix]
variable {Val : EltTy → Type} {Name : Type} [DecidableEq Name]
variable {U : Type} [URA U] {Lvl : Type} {Λ : Labels} [Preorder Lvl]
variable {defs : Defs nD τ sig Val Λ} (𝒱 : Variants) (c : Thread nD τ) (bd : Option 𝒱.V) (E : Set Name)
variable {α : Type} {Q : α → sProp (MT nD τ sig Ix Val Name U Lvl)}

section One

variable {cs : CoreSpace} {s : Shape} {e : EltTy} {m : Memref sig c.2.kind cs s e} {X : s.Idx → Val e}
  {off : Fin s.rank → ℕ} {inb : ∀ a, off a + s.size a ≤ s.size a}

/-- A load of a whole buffer continues at what the buffer holds. -/
theorem load_one {hl : m.view.LoadsAt (Rect.unit off s.size inb).toLoadRect}
    {k : ((Rect.unit off s.size inb).toLoadRect.shape.Idx → Val e) → Prog (TpuEff nD τ sig Val Λ c.2) α} :
    owns c m fullShare X ⊢ iprop((owns c m fullShare X -∗ wp frame (wpE defs 𝒱 c bd) E (k X) Q)
      -∗ wp frame (wpE defs 𝒱 c bd) E (.op (.load m (Rect.unit off s.size inb).toLoadRect hl) k) Q) := by
  unfold owns
  iintro ⟨%f, %hf, H⟩ Hk
  iapply (wp_load 𝒱 c bd E (m.view.setOn_subset_set _)) $$ H
  iintro H
  rw [View.readAt_full, hf]
  iapply Hk
  iexists f
  isplitr
  · ipureintro; exact hf
  iexact H

/-- A store of a whole buffer leaves what is stored. -/
theorem store_one {w : (Rect.unit off s.size inb).shape.Idx → Val e}
    {hx : (m.access (Rect.unit off s.size inb)).Stores Finset.univ} {hm : Finset.univ = Finset.univ ∨ ∀ a, (Rect.unit off s.size inb).stride a = 1}
    {k : PUnit → Prog (TpuEff nD τ sig Val Λ c.2) α} :
    owns c m fullShare X ⊢ iprop((owns c m fullShare w -∗ wp frame (wpE defs 𝒱 c bd) E (k ⟨⟩) Q)
      -∗ wp frame (wpE defs 𝒱 c bd) E (.op (.store m (Rect.unit off s.size inb) w Finset.univ hx hm) k) Q) := by
  unfold owns
  iintro ⟨%f, %hf, H⟩ Hk
  iapply (wp_store_writes₀ 𝒱 c bd E (m.view.set_slice_subset _)) $$ H
  iintro H
  iapply Hk
  iexists _
  isplitr
  rotate_left
  · iexact H
  ipureintro
  exact View.read_writes_full _ _ _ _ _

end One

/-! ## The family -/

variable {W : ℕ} {sp : Fin W → CoreSpace} {sh : Fin W → Shape} {et : Fin W → EltTy}
  (mem : (w : Fin W) → Memref sig c.2.kind (sp w) (sh w) (et w)) (out : (w : Fin W) → (sh w).Idx → Val (et w))

/-- The buffers of the family, those of `K` at `out`, the others at anything, and with them `R`. -/
def held (R : sProp (MT nD τ sig Ix Val Name U Lvl)) (K : Fin W → Prop) : sProp (MT nD τ sig Ix Val Name U Lvl) :=
  iprop(∃ X : (w : Fin W) → (sh w).Idx → Val (et w), ⌜∀ w, K w → X w = out w⌝ ∗ R ∗ bigSep Finset.univ fun w => owns c (mem w) fullShare (X w))

/-- One of the buffers, and the others. -/
theorem split (X : (w : Fin W) → (sh w).Idx → Val (et w)) (i : Fin W) :
    (bigSep Finset.univ fun w => owns c (mem w) fullShare (X w) : sProp (MT nD τ sig Ix Val Name U Lvl))
      = iprop(owns c (mem i) fullShare (X i) ∗ bigSep (Finset.univ.erase i) fun w => owns c (mem w) fullShare (X w)) :=
  BI.bigSep_univ_split i

variable {R : sProp (MT nD τ sig Ix Val Name U Lvl)} {K : Fin W → Prop}

/-- The start: the buffers of `K` at `out` each. -/
theorem start {Y : Fin W → Type} [∀ w, Nonempty (Y w)] (X : (w : Fin W) → Y w → (sh w).Idx → Val (et w)) (h : ∀ w, K w → ∀ d, X w d = out w) :
    iprop(R ∗ bigSep Finset.univ fun w => iprop(∃ d, owns c (mem w) fullShare (X w d))) ⊢ held c mem out R K := by
  unfold held
  iintro ⟨HR, H⟩
  ihave H := (BI.bigSep_exists_pi Finset.univ fun w d => owns c (mem w) fullShare (X w d)) $$ H
  icases H with ⟨%d, H⟩
  iexists (fun w => X w (d w))
  isplitr
  · ipureintro; exact fun w hw => h w hw (d w)
  isplitl [HR]
  · iexact HR
  iexact H

/-- A load of a buffer of `K`. -/
theorem load (i : Fin W) (hi : K i) {off : Fin (sh i).rank → ℕ} {inb : ∀ a, off a + (sh i).size a ≤ (sh i).size a}
    {hl : (mem i).view.LoadsAt (Rect.unit off (sh i).size inb).toLoadRect}
    {k : ((Rect.unit off (sh i).size inb).toLoadRect.shape.Idx → Val (et i)) → Prog (TpuEff nD τ sig Val Λ c.2) α}
    (h : held c mem out R K ⊢ wp frame (wpE defs 𝒱 c bd) E (k (out i)) Q) :
    held c mem out R K ⊢ wp frame (wpE defs 𝒱 c bd) E (Prog.lift (.load (mem i) (Rect.unit off (sh i).size inb).toLoadRect hl) >>= k) Q := by
  unfold held
  iintro ⟨%X, %hX, HR, H⟩
  ihave H := (Entails.of_eq (split c mem X i)) $$ H
  icases H with ⟨Hi, H⟩
  iapply (load_one 𝒱 c bd E (k := k)) $$ Hi
  iintro Hi
  rw [hX i hi]
  iapply h
  unfold held
  iexists X
  isplitr
  · ipureintro; exact hX
  isplitl [HR]
  · iexact HR
  iapply (Entails.of_eq (split c mem X i).symm)
  rw [hX i hi]
  isplitl [Hi]
  · iexact Hi
  iexact H

/-- A load of a buffer whose contents the continuation does not read. -/
theorem skip (i : Fin W) {off : Fin (sh i).rank → ℕ} {inb : ∀ a, off a + (sh i).size a ≤ (sh i).size a}
    {hl : (mem i).view.LoadsAt (Rect.unit off (sh i).size inb).toLoadRect}
    {k : ((Rect.unit off (sh i).size inb).toLoadRect.shape.Idx → Val (et i)) → Prog (TpuEff nD τ sig Val Λ c.2) α}
    (h : ∀ x, held c mem out R K ⊢ wp frame (wpE defs 𝒱 c bd) E (k x) Q) :
    held c mem out R K ⊢ wp frame (wpE defs 𝒱 c bd) E (Prog.lift (.load (mem i) (Rect.unit off (sh i).size inb).toLoadRect hl) >>= k) Q := by
  unfold held
  iintro ⟨%X, %hX, HR, H⟩
  ihave H := (Entails.of_eq (split c mem X i)) $$ H
  icases H with ⟨Hi, H⟩
  iapply (load_one 𝒱 c bd E (k := k)) $$ Hi
  iintro Hi
  iapply (h (X i))
  unfold held
  iexists X
  isplitr
  · ipureintro; exact hX
  isplitl [HR]
  · iexact HR
  iapply (Entails.of_eq (split c mem X i).symm)
  isplitl [Hi]
  · iexact Hi
  iexact H

/-- A store of a buffer at `out`: it joins those of `K`. -/
theorem store (i : Fin W) {off : Fin (sh i).rank → ℕ} {inb : ∀ a, off a + (sh i).size a ≤ (sh i).size a}
    {w : (Rect.unit off (sh i).size inb).shape.Idx → Val (et i)}
    {hx : ((mem i).access (Rect.unit off (sh i).size inb)).Stores Finset.univ}
    {hm : Finset.univ = Finset.univ ∨ ∀ a, (Rect.unit off (sh i).size inb).stride a = 1}
    {k : PUnit → Prog (TpuEff nD τ sig Val Λ c.2) α} (hw : w = out i)
    (h : held c mem out R (fun w => w = i ∨ K w) ⊢ wp frame (wpE defs 𝒱 c bd) E (k ⟨⟩) Q) :
    held c mem out R K ⊢ wp frame (wpE defs 𝒱 c bd) E (Prog.lift (.store (mem i) (Rect.unit off (sh i).size inb) w Finset.univ hx hm) >>= k) Q := by
  unfold held
  iintro ⟨%X, %hX, HR, H⟩
  ihave H := (Entails.of_eq (split c mem X i)) $$ H
  icases H with ⟨Hi, H⟩
  iapply (store_one 𝒱 c bd E (k := k)) $$ Hi
  iintro Hi
  iapply h
  unfold held
  iexists (Function.update X i (out i))
  isplitr
  · ipureintro
    intro v hv
    by_cases e : v = i
    · subst e; exact Function.update_self ..
    · rw [Function.update_of_ne e]; exact hX v (hv.resolve_left e)
  isplitl [HR]
  · iexact HR
  iapply (Entails.of_eq (split c mem (Function.update X i (out i)) i).symm)
  rw [Function.update_self, hw]
  isplitl [Hi]
  · iexact Hi
  iapply (Entails.of_eq (BI.bigSep_congr (s := Finset.univ.erase i) (Φ := fun w => owns c (mem w) fullShare (X w))
    (Ψ := fun w => owns c (mem w) fullShare (Function.update X i (out i) w))
    fun v hv => by rw [Function.update_of_ne (Finset.ne_of_mem_erase hv)]))
  iexact H

/-- A part of the program, then the rest. -/
theorem enter {β : Type} {p : Prog (TpuEff nD τ sig Val Λ c.2) β} {k : β → Prog (TpuEff nD τ sig Val Λ c.2) α}
    (h : held c mem out R K ⊢ wp frame (wpE defs 𝒱 c bd) E p fun b => wp frame (wpE defs 𝒱 c bd) E (k b) Q) :
    held c mem out R K ⊢ wp frame (wpE defs 𝒱 c bd) E (p >>= k) Q := by
  rw [wp_bind]; exact h

/-- The end of a part. -/
theorem leave {a : α} (h : held c mem out R K ⊢ Q a) : held c mem out R K ⊢ wp frame (wpE defs 𝒱 c bd) E (pure a) Q := by
  rw [wp_pure]
  iintro H
  imodintro
  iapply h
  iexact H

/-- The end: all of the buffers known. -/
theorem all (h : ∀ w, K w) : held c mem out R K ⊢ iprop(R ∗ bigSep Finset.univ fun w => owns c (mem w) fullShare (out w)) := by
  unfold held
  iintro ⟨%X, %hX, HR, H⟩
  obtain rfl : X = out := funext fun w => hX w (h w)
  isplitl [HR]
  · iexact HR
  iexact H

end Cert.Held

end
-- ==== Proof.Small.lean ====
/-
  The body of the optimiser's call on the twelve small weights: twelve times the same ten loads and stores.
-/
module

public import proofs.«01_k».proof.Defs
public import proofs.«01_k».proof.Proof.Gen.Kernel12Ideal.Launch
public import proofs.«01_k».proof.Proof.Gen.Kernel12Ideal.Points
public import proofs.«01_k».proof.Proof.Held
public import proofs.«01_k».proof.Proof.Gen.Kernel12Ideal.Skeleton
public import Idealize.ShloMosaic.Lib.Claim
public import Idealize.ShloMosaic.Lib.Ring
public import Idealize.ShloMosaic.Lib.Tactic

@[expose] public section

set_option maxRecDepth 16384

noncomputable section

namespace Cert.Kernel12Ideal.Small

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel12Ideal.Gen

variable {F : FTy → Type} [FloatOps F]

/-! ## The update of an array, of any shape -/

section Update

variable {S : Shape} (g w m v : FVec F S .f32)

/-- The first moment. -/
def first : FVec F S .f32 :=
  addf (mulf (broadcast S (Scalar.ofBits .f32 0x3F666666#32)) m) (mulf (broadcast S (Scalar.ofBits .f32 0x3DCCCCCD#32)) g)

/-- The second moment. -/
def second : FVec F S .f32 :=
  addf (mulf (broadcast S (Scalar.ofBits .f32 0x3F7FBE77#32)) v) (mulf (broadcast S (Scalar.ofBits .f32 0x3A83126F#32)) (mulf g g))

/-- The change of a weight. -/
def delta : FVec F S .f32 :=
  mulf (broadcast S (Scalar.ofBits .f32 0xBA83126F#32))
    (addf (divf (divf (first g m) (broadcast S (Scalar.ofBits .f32 0x3F26BD02#32)))
        (addf (sqrt (divf (second g v) (broadcast S (Scalar.ofBits .f32 0x3C231ACC#32)))) (broadcast S (Scalar.ofBits .f32 0x322BCC77#32))))
      (mulf (broadcast S (Scalar.ofBits .f32 0x3C23D70A#32)) w))

end Update

/-! ## The body as twelve steps -/

/-- The extents of a weight. -/
def dims (n : ℕ) : Fin 2 → ℕ :=
  match n % 12 with
  | 0 => ![16, 128]
  | 1 => ![1, 1024]
  | 2 => ![512, 128]
  | 3 => ![1, 512]
  | 4 => ![4, 320]
  | 5 => ![1, 2560]
  | 6 => ![1, 24]
  | 7 => ![1, 24]
  | 8 => ![1, 24]
  | 9 => ![1, 1536]
  | 10 => ![1, 1024]
  | _ => ![1, 1024]

/-- A window's shape. -/
abbrev shape (w : Fin 84) : Shape := ⟨2, dims w.val⟩

theorem pos : ∀ w : Fin 84, 0 < (shape w).numel := by decide +kernel

theorem inb {s : Shape} {off : Fin s.rank → ℕ} (h : ∀ a, off a = 0) (a : Fin s.rank) : off a + s.size a ≤ s.size a := by rw [h, Nat.zero_add]

theorem zero : ∀ a : Fin 2, (![0, 0] : Fin 2 → ℕ) a = 0 := by decide

/-- The update of one weight, on its windows: its gradient, the weight, the moments, then the three results. -/
def one {d : Fin 2 → ℕ} (h : 0 < (⟨2, d⟩ : Shape).numel) (g w m v x y z : Memref sig .tc .vmem ⟨2, d⟩ .f32) (next : Prog (TpuEff nD τ sig (Elt F) Λ₀ .tc) PUnit) :
    Prog (TpuEff nD τ sig (Elt F) Λ₀ .tc) PUnit := do
  let W : Vec F ⟨2, d⟩ .f32 ← Prog.lift (.load w (Rect.unit (s := ⟨2, d⟩) ![0, 0] d (inb zero)).toLoadRect (View.loadsAt_vmem h))
  let G : Vec F ⟨2, d⟩ .f32 ← Prog.lift (.load g (Rect.unit (s := ⟨2, d⟩) ![0, 0] d (inb zero)).toLoadRect (View.loadsAt_vmem h))
  let M : Vec F ⟨2, d⟩ .f32 ← Prog.lift (.load m (Rect.unit (s := ⟨2, d⟩) ![0, 0] d (inb zero)).toLoadRect (View.loadsAt_vmem h))
  let V : Vec F ⟨2, d⟩ .f32 ← Prog.lift (.load v (Rect.unit (s := ⟨2, d⟩) ![0, 0] d (inb zero)).toLoadRect (View.loadsAt_vmem h))
  let _ : Vec F ⟨2, d⟩ .f32 ← Prog.lift (.load x (Rect.unit (s := ⟨2, d⟩) ![0, 0] d (inb zero)).toLoadRect (View.loadsAt_vmem h))
  Prog.lift (.store x (Rect.unit (s := ⟨2, d⟩) ![0, 0] d (inb zero)) (delta (S := ⟨2, d⟩) G W M V) Finset.univ (View.stores_vmem_bits_univ h rfl) (.inl rfl))
  let _ : Vec F ⟨2, d⟩ .f32 ← Prog.lift (.load y (Rect.unit (s := ⟨2, d⟩) ![0, 0] d (inb zero)).toLoadRect (View.loadsAt_vmem h))
  Prog.lift (.store y (Rect.unit (s := ⟨2, d⟩) ![0, 0] d (inb zero)) (first (S := ⟨2, d⟩) G M) Finset.univ (View.stores_vmem_bits_univ h rfl) (.inl rfl))
  let _ : Vec F ⟨2, d⟩ .f32 ← Prog.lift (.load z (Rect.unit (s := ⟨2, d⟩) ![0, 0] d (inb zero)).toLoadRect (View.loadsAt_vmem h))
  Prog.lift (.store z (Rect.unit (s := ⟨2, d⟩) ![0, 0] d (inb zero)) (second (S := ⟨2, d⟩) G V) Finset.univ (View.stores_vmem_bits_univ h rfl) (.inl rfl))
  next

/-- The twelve, one after the other. -/
def prog (M : (w : Fin 84) → Memref sig .tc .vmem (shape w) .f32) : Prog (TpuEff nD τ sig (Elt F) Λ₀ .tc) PUnit :=
  one (pos 0) (M 0) (M 12) (M 24) (M 36) (M 48) (M 60) (M 72) <|
  one (pos 1) (M 1) (M 13) (M 25) (M 37) (M 49) (M 61) (M 73) <|
  one (pos 2) (M 2) (M 14) (M 26) (M 38) (M 50) (M 62) (M 74) <|
  one (pos 3) (M 3) (M 15) (M 27) (M 39) (M 51) (M 63) (M 75) <|
  one (pos 4) (M 4) (M 16) (M 28) (M 40) (M 52) (M 64) (M 76) <|
  one (pos 5) (M 5) (M 17) (M 29) (M 41) (M 53) (M 65) (M 77) <|
  one (pos 6) (M 6) (M 18) (M 30) (M 42) (M 54) (M 66) (M 78) <|
  one (pos 7) (M 7) (M 19) (M 31) (M 43) (M 55) (M 67) (M 79) <|
  one (pos 8) (M 8) (M 20) (M 32) (M 44) (M 56) (M 68) (M 80) <|
  one (pos 9) (M 9) (M 21) (M 33) (M 45) (M 57) (M 69) (M 81) <|
  one (pos 10) (M 10) (M 22) (M 34) (M 46) (M 58) (M 70) (M 82) <|
  one (pos 11) (M 11) (M 23) (M 35) (M 47) (M 59) (M 71) (M 83) <|
  pure ⟨⟩

/-- A window of the call is a buffer of its shape. -/
def kind (w : Fin 84) : CoreSpace × Shape × EltTy := ((cfg0.win w).stageSpace, (cfg0.win w).block, (cfg0.win w).elt)

theorem kind_eq : ∀ w : Fin 84, kind w = (.vmem, shape w, .f32) := by decide +kernel

/-- A buffer, at its shape. -/
def cast {k k' : CoreSpace × Shape × EltTy} (h : k = k') (M : Memref sig .tc (.core k.1) k.2.1 k.2.2) : Memref sig .tc (.core k'.1) k'.2.1 k'.2.2 := h ▸ M

/-- The staging buffers of the point. -/
def stage (t : Fin cfg0.N) (w : Fin 84) : Memref sig .tc .vmem (shape w) .f32 :=
  cast (k := kind w) (kind_eq w) ((cfg0.win w).stage (cfg0.slots t w))

/-- What the windows hold after the body, from what the inputs hold. -/
def left (X : (w : Fin 84) → FVec F (shape w) .f32) (w : Fin 84) : FVec F (shape w) .f32 :=
  if w.val < 48 then X w else
    match w with
    | 48 => delta (S := shape 0) (X 0) (X 12) (X 24) (X 36)
    | 49 => delta (S := shape 1) (X 1) (X 13) (X 25) (X 37)
    | 50 => delta (S := shape 2) (X 2) (X 14) (X 26) (X 38)
    | 51 => delta (S := shape 3) (X 3) (X 15) (X 27) (X 39)
    | 52 => delta (S := shape 4) (X 4) (X 16) (X 28) (X 40)
    | 53 => delta (S := shape 5) (X 5) (X 17) (X 29) (X 41)
    | 54 => delta (S := shape 6) (X 6) (X 18) (X 30) (X 42)
    | 55 => delta (S := shape 7) (X 7) (X 19) (X 31) (X 43)
    | 56 => delta (S := shape 8) (X 8) (X 20) (X 32) (X 44)
    | 57 => delta (S := shape 9) (X 9) (X 21) (X 33) (X 45)
    | 58 => delta (S := shape 10) (X 10) (X 22) (X 34) (X 46)
    | 59 => delta (S := shape 11) (X 11) (X 23) (X 35) (X 47)
    | 60 => first (S := shape 0) (X 0) (X 24)
    | 61 => first (S := shape 1) (X 1) (X 25)
    | 62 => first (S := shape 2) (X 2) (X 26)
    | 63 => first (S := shape 3) (X 3) (X 27)
    | 64 => first (S := shape 4) (X 4) (X 28)
    | 65 => first (S := shape 5) (X 5) (X 29)
    | 66 => first (S := shape 6) (X 6) (X 30)
    | 67 => first (S := shape 7) (X 7) (X 31)
    | 68 => first (S := shape 8) (X 8) (X 32)
    | 69 => first (S := shape 9) (X 9) (X 33)
    | 70 => first (S := shape 10) (X 10) (X 34)
    | 71 => first (S := shape 11) (X 11) (X 35)
    | 72 => second (S := shape 0) (X 0) (X 36)
    | 73 => second (S := shape 1) (X 1) (X 37)
    | 74 => second (S := shape 2) (X 2) (X 38)
    | 75 => second (S := shape 3) (X 3) (X 39)
    | 76 => second (S := shape 4) (X 4) (X 40)
    | 77 => second (S := shape 5) (X 5) (X 41)
    | 78 => second (S := shape 6) (X 6) (X 42)
    | 79 => second (S := shape 7) (X 7) (X 43)
    | 80 => second (S := shape 8) (X 8) (X 44)
    | 81 => second (S := shape 9) (X 9) (X 45)
    | 82 => second (S := shape 10) (X 10) (X 46)
    | 83 => second (S := shape 11) (X 11) (X 47)
    | w => X w

variable {R : sProp (MT nD τ sig Unit (Elt F) ℕ (UR sig nD τ) ℕ)}

set_option backward.isDefEq.respectTransparency.types false in
set_option maxHeartbeats 400000 in
/-- The twelve steps, from the inputs. -/
theorem prog_held (c : Dev nD) (M : (w : Fin 84) → Memref sig .tc .vmem (shape w) .f32) (X : (w : Fin 84) → FVec F (shape w) .f32) :
    Held.held (sp := fun _ => .vmem) (sh := shape) (et := fun _ => .f32) (c : Thread nD τ) M (left X) R (fun w => w.val < 48)
      ⊢ wp frame (wpE (defs₀ (F := F)) Variants.none c none) Set.univ (prog M) fun _ =>
        iprop(R ∗ bigSep Finset.univ fun w => owns (c : Thread nD τ) (M w) fullShare (left X w)) := by
  unfold prog
  refine Held.load Variants.none (c : Thread nD τ) none Set.univ (Val := Elt F) (sp := fun _ => .vmem) (sh := shape) (et := fun _ => .f32) M (left X) 12 (by decide) ?_
  refine Held.load Variants.none (c : Thread nD τ) none Set.univ (Val := Elt F) (sp := fun _ => .vmem) (sh := shape) (et := fun _ => .f32) M (left X) 0 (by decide) ?_
  refine Held.load Variants.none (c : Thread nD τ) none Set.univ (Val := Elt F) (sp := fun _ => .vmem) (sh := shape) (et := fun _ => .f32) M (left X) 24 (by decide) ?_
  refine Held.load Variants.none (c : Thread nD τ) none Set.univ (Val := Elt F) (sp := fun _ => .vmem) (sh := shape) (et := fun _ => .f32) M (left X) 36 (by decide) ?_
  refine Held.skip Variants.none (c : Thread nD τ) none Set.univ (Val := Elt F) (sp := fun _ => .vmem) (sh := shape) (et := fun _ => .f32) M (left X) 48 fun _ => ?_
  refine Held.store Variants.none (c : Thread nD τ) none Set.univ (Val := Elt F) (sp := fun _ => .vmem) (sh := shape) (et := fun _ => .f32) M (left X) 48 rfl ?_
  refine Held.skip Variants.none (c : Thread nD τ) none Set.univ (Val := Elt F) (sp := fun _ => .vmem) (sh := shape) (et := fun _ => .f32) M (left X) 60 fun _ => ?_
  refine Held.store Variants.none (c : Thread nD τ) none Set.univ (Val := Elt F) (sp := fun _ => .vmem) (sh := shape) (et := fun _ => .f32) M (left X) 60 rfl ?_
  refine Held.skip Variants.none (c : Thread nD τ) none Set.univ (Val := Elt F) (sp := fun _ => .vmem) (sh := shape) (et := fun _ => .f32) M (left X) 72 fun _ => ?_
  refine Held.store Variants.none (c : Thread nD τ) none Set.univ (Val := Elt F) (sp := fun _ => .vmem) (sh := shape) (et := fun _ => .f32) M (left X) 72 rfl ?_
  refine Held.load Variants.none (c : Thread nD τ) none Set.univ (Val := Elt F) (sp := fun _ => .vmem) (sh := shape) (et := fun _ => .f32) M (left X) 13 (by decide) ?_
  refine Held.load Variants.none (c : Thread nD τ) none Set.univ (Val := Elt F) (sp := fun _ => .vmem) (sh := shape) (et := fun _ => .f32) M (left X) 1 (by decide) ?_
  refine Held.load Variants.none (c : Thread nD τ) none Set.univ (Val := Elt F) (sp := fun _ => .vmem) (sh := shape) (et := fun _ => .f32) M (left X) 25 (by decide) ?_
  refine Held.load Variants.none (c : Thread nD τ) none Set.univ (Val := Elt F) (sp := fun _ => .vmem) (sh := shape) (et := fun _ => .f32) M (left X) 37 (by decide) ?_
  refine Held.skip Variants.none (c : Thread nD τ) none Set.univ (Val := Elt F) (sp := fun _ => .vmem) (sh := shape) (et := fun _ => .f32) M (left X) 49 fun _ => ?_
  refine Held.store Variants.none (c : Thread nD τ) none Set.univ (Val := Elt F) (sp := fun _ => .vmem) (sh := shape) (et := fun _ => .f32) M (left X) 49 rfl ?_
  refine Held.skip Variants.none (c : Thread nD τ) none Set.univ (Val := Elt F) (sp := fun _ => .vmem) (sh := shape) (et := fun _ => .f32) M (left X) 61 fun _ => ?_
  refine Held.store Variants.none (c : Thread nD τ) none Set.univ (Val := Elt F) (sp := fun _ => .vmem) (sh := shape) (et := fun _ => .f32) M (left X) 61 rfl ?_
  refine Held.skip Variants.none (c : Thread nD τ) none Set.univ (Val := Elt F) (sp := fun _ => .vmem) (sh := shape) (et := fun _ => .f32) M (left X) 73 fun _ => ?_
  refine Held.store Variants.none (c : Thread nD τ) none Set.univ (Val := Elt F) (sp := fun _ => .vmem) (sh := shape) (et := fun _ => .f32) M (left X) 73 rfl ?_
  refine Held.load Variants.none (c : Thread nD τ) none Set.univ (Val := Elt F) (sp := fun _ => .vmem) (sh := shape) (et := fun _ => .f32) M (left X) 14 (by decide) ?_
  refine Held.load Variants.none (c : Thread nD τ) none Set.univ (Val := Elt F) (sp := fun _ => .vmem) (sh := shape) (et := fun _ => .f32) M (left X) 2 (by decide) ?_
  refine Held.load Variants.none (c : Thread nD τ) none Set.univ (Val := Elt F) (sp := fun _ => .vmem) (sh := shape) (et := fun _ => .f32) M (left X) 26 (by decide) ?_
  refine Held.load Variants.none (c : Thread nD τ) none Set.univ (Val := Elt F) (sp := fun _ => .vmem) (sh := shape) (et := fun _ => .f32) M (left X) 38 (by decide) ?_
  refine Held.skip Variants.none (c : Thread nD τ) none Set.univ (Val := Elt F) (sp := fun _ => .vmem) (sh := shape) (et := fun _ => .f32) M (left X) 50 fun _ => ?_
  refine Held.store Variants.none (c : Thread nD τ) none Set.univ (Val := Elt F) (sp := fun _ => .vmem) (sh := shape) (et := fun _ => .f32) M (left X) 50 rfl ?_
  refine Held.skip Variants.none (c : Thread nD τ) none Set.univ (Val := Elt F) (sp := fun _ => .vmem) (sh := shape) (et := fun _ => .f32) M (left X) 62 fun _ => ?_
  refine Held.store Variants.none (c : Thread nD τ) none Set.univ (Val := Elt F) (sp := fun _ => .vmem) (sh := shape) (et := fun _ => .f32) M (left X) 62 rfl ?_
  refine Held.skip Variants.none (c : Thread nD τ) none Set.univ (Val := Elt F) (sp := fun _ => .vmem) (sh := shape) (et := fun _ => .f32) M (left X) 74 fun _ => ?_
  refine Held.store Variants.none (c : Thread nD τ) none Set.univ (Val := Elt F) (sp := fun _ => .vmem) (sh := shape) (et := fun _ => .f32) M (left X) 74 rfl ?_
  refine Held.load Variants.none (c : Thread nD τ) none Set.univ (Val := Elt F) (sp := fun _ => .vmem) (sh := shape) (et := fun _ => .f32) M (left X) 15 (by decide) ?_
  refine Held.load Variants.none (c : Thread nD τ) none Set.univ (Val := Elt F) (sp := fun _ => .vmem) (sh := shape) (et := fun _ => .f32) M (left X) 3 (by decide) ?_
  refine Held.load Variants.none (c : Thread nD τ) none Set.univ (Val := Elt F) (sp := fun _ => .vmem) (sh := shape) (et := fun _ => .f32) M (left X) 27 (by decide) ?_
  refine Held.load Variants.none (c : Thread nD τ) none Set.univ (Val := Elt F) (sp := fun _ => .vmem) (sh := shape) (et := fun _ => .f32) M (left X) 39 (by decide) ?_
  refine Held.skip Variants.none (c : Thread nD τ) none Set.univ (Val := Elt F) (sp := fun _ => .vmem) (sh := shape) (et := fun _ => .f32) M (left X) 51 fun _ => ?_
  refine Held.store Variants.none (c : Thread nD τ) none Set.univ (Val := Elt F) (sp := fun _ => .vmem) (sh := shape) (et := fun _ => .f32) M (left X) 51 rfl ?_
  refine Held.skip Variants.none (c : Thread nD τ) none Set.univ (Val := Elt F) (sp := fun _ => .vmem) (sh := shape) (et := fun _ => .f32) M (left X) 63 fun _ => ?_
  refine Held.store Variants.none (c : Thread nD τ) none Set.univ (Val := Elt F) (sp := fun _ => .vmem) (sh := shape) (et := fun _ => .f32) M (left X) 63 rfl ?_
  refine Held.skip Variants.none (c : Thread nD τ) none Set.univ (Val := Elt F) (sp := fun _ => .vmem) (sh := shape) (et := fun _ => .f32) M (left X) 75 fun _ => ?_
  refine Held.store Variants.none (c : Thread nD τ) none Set.univ (Val := Elt F) (sp := fun _ => .vmem) (sh := shape) (et := fun _ => .f32) M (left X) 75 rfl ?_
  refine Held.load Variants.none (c : Thread nD τ) none Set.univ (Val := Elt F) (sp := fun _ => .vmem) (sh := shape) (et := fun _ => .f32) M (left X) 16 (by decide) ?_
  refine Held.load Variants.none (c : Thread nD τ) none Set.univ (Val := Elt F) (sp := fun _ => .vmem) (sh := shape) (et := fun _ => .f32) M (left X) 4 (by decide) ?_
  refine Held.load Variants.none (c : Thread nD τ) none Set.univ (Val := Elt F) (sp := fun _ => .vmem) (sh := shape) (et := fun _ => .f32) M (left X) 28 (by decide) ?_
  refine Held.load Variants.none (c : Thread nD τ) none Set.univ (Val := Elt F) (sp := fun _ => .vmem) (sh := shape) (et := fun _ => .f32) M (left X) 40 (by decide) ?_
  refine Held.skip Variants.none (c : Thread nD τ) none Set.univ (Val := Elt F) (sp := fun _ => .vmem) (sh := shape) (et := fun _ => .f32) M (left X) 52 fun _ => ?_
  refine Held.store Variants.none (c : Thread nD τ) none Set.univ (Val := Elt F) (sp := fun _ => .vmem) (sh := shape) (et := fun _ => .f32) M (left X) 52 rfl ?_
  refine Held.skip Variants.none (c : Thread nD τ) none Set.univ (Val := Elt F) (sp := fun _ => .vmem) (sh := shape) (et := fun _ => .f32) M (left X) 64 fun _ => ?_
  refine Held.store Variants.none (c : Thread nD τ) none Set.univ (Val := Elt F) (sp := fun _ => .vmem) (sh := shape) (et := fun _ => .f32) M (left X) 64 rfl ?_
  refine Held.skip Variants.none (c : Thread nD τ) none Set.univ (Val := Elt F) (sp := fun _ => .vmem) (sh := shape) (et := fun _ => .f32) M (left X) 76 fun _ => ?_
  refine Held.store Variants.none (c : Thread nD τ) none Set.univ (Val := Elt F) (sp := fun _ => .vmem) (sh := shape) (et := fun _ => .f32) M (left X) 76 rfl ?_
  refine Held.load Variants.none (c : Thread nD τ) none Set.univ (Val := Elt F) (sp := fun _ => .vmem) (sh := shape) (et := fun _ => .f32) M (left X) 17 (by decide) ?_
  refine Held.load Variants.none (c : Thread nD τ) none Set.univ (Val := Elt F) (sp := fun _ => .vmem) (sh := shape) (et := fun _ => .f32) M (left X) 5 (by decide) ?_
  refine Held.load Variants.none (c : Thread nD τ) none Set.univ (Val := Elt F) (sp := fun _ => .vmem) (sh := shape) (et := fun _ => .f32) M (left X) 29 (by decide) ?_
  refine Held.load Variants.none (c : Thread nD τ) none Set.univ (Val := Elt F) (sp := fun _ => .vmem) (sh := shape) (et := fun _ => .f32) M (left X) 41 (by decide) ?_
  refine Held.skip Variants.none (c : Thread nD τ) none Set.univ (Val := Elt F) (sp := fun _ => .vmem) (sh := shape) (et := fun _ => .f32) M (left X) 53 fun _ => ?_
  refine Held.store Variants.none (c : Thread nD τ) none Set.univ (Val := Elt F) (sp := fun _ => .vmem) (sh := shape) (et := fun _ => .f32) M (left X) 53 rfl ?_
  refine Held.skip Variants.none (c : Thread nD τ) none Set.univ (Val := Elt F) (sp := fun _ => .vmem) (sh := shape) (et := fun _ => .f32) M (left X) 65 fun _ => ?_
  refine Held.store Variants.none (c : Thread nD τ) none Set.univ (Val := Elt F) (sp := fun _ => .vmem) (sh := shape) (et := fun _ => .f32) M (left X) 65 rfl ?_
  refine Held.skip Variants.none (c : Thread nD τ) none Set.univ (Val := Elt F) (sp := fun _ => .vmem) (sh := shape) (et := fun _ => .f32) M (left X) 77 fun _ => ?_
  refine Held.store Variants.none (c : Thread nD τ) none Set.univ (Val := Elt F) (sp := fun _ => .vmem) (sh := shape) (et := fun _ => .f32) M (left X) 77 rfl ?_
  refine Held.load Variants.none (c : Thread nD τ) none Set.univ (Val := Elt F) (sp := fun _ => .vmem) (sh := shape) (et := fun _ => .f32) M (left X) 18 (by decide) ?_
  refine Held.load Variants.none (c : Thread nD τ) none Set.univ (Val := Elt F) (sp := fun _ => .vmem) (sh := shape) (et := fun _ => .f32) M (left X) 6 (by decide) ?_
  refine Held.load Variants.none (c : Thread nD τ) none Set.univ (Val := Elt F) (sp := fun _ => .vmem) (sh := shape) (et := fun _ => .f32) M (left X) 30 (by decide) ?_
  refine Held.load Variants.none (c : Thread nD τ) none Set.univ (Val := Elt F) (sp := fun _ => .vmem) (sh := shape) (et := fun _ => .f32) M (left X) 42 (by decide) ?_
  refine Held.skip Variants.none (c : Thread nD τ) none Set.univ (Val := Elt F) (sp := fun _ => .vmem) (sh := shape) (et := fun _ => .f32) M (left X) 54 fun _ => ?_
  refine Held.store Variants.none (c : Thread nD τ) none Set.univ (Val := Elt F) (sp := fun _ => .vmem) (sh := shape) (et := fun _ => .f32) M (left X) 54 rfl ?_
  refine Held.skip Variants.none (c : Thread nD τ) none Set.univ (Val := Elt F) (sp := fun _ => .vmem) (sh := shape) (et := fun _ => .f32) M (left X) 66 fun _ => ?_
  refine Held.store Variants.none (c : Thread nD τ) none Set.univ (Val := Elt F) (sp := fun _ => .vmem) (sh := shape) (et := fun _ => .f32) M (left X) 66 rfl ?_
  refine Held.skip Variants.none (c : Thread nD τ) none Set.univ (Val := Elt F) (sp := fun _ => .vmem) (sh := shape) (et := fun _ => .f32) M (left X) 78 fun _ => ?_
  refine Held.store Variants.none (c : Thread nD τ) none Set.univ (Val := Elt F) (sp := fun _ => .vmem) (sh := shape) (et := fun _ => .f32) M (left X) 78 rfl ?_
  refine Held.load Variants.none (c : Thread nD τ) none Set.univ (Val := Elt F) (sp := fun _ => .vmem) (sh := shape) (et := fun _ => .f32) M (left X) 19 (by decide) ?_
  refine Held.load Variants.none (c : Thread nD τ) none Set.univ (Val := Elt F) (sp := fun _ => .vmem) (sh := shape) (et := fun _ => .f32) M (left X) 7 (by decide) ?_
  refine Held.load Variants.none (c : Thread nD τ) none Set.univ (Val := Elt F) (sp := fun _ => .vmem) (sh := shape) (et := fun _ => .f32) M (left X) 31 (by decide) ?_
  refine Held.load Variants.none (c : Thread nD τ) none Set.univ (Val := Elt F) (sp := fun _ => .vmem) (sh := shape) (et := fun _ => .f32) M (left X) 43 (by decide) ?_
  refine Held.skip Variants.none (c : Thread nD τ) none Set.univ (Val := Elt F) (sp := fun _ => .vmem) (sh := shape) (et := fun _ => .f32) M (left X) 55 fun _ => ?_
  refine Held.store Variants.none (c : Thread nD τ) none Set.univ (Val := Elt F) (sp := fun _ => .vmem) (sh := shape) (et := fun _ => .f32) M (left X) 55 rfl ?_
  refine Held.skip Variants.none (c : Thread nD τ) none Set.univ (Val := Elt F) (sp := fun _ => .vmem) (sh := shape) (et := fun _ => .f32) M (left X) 67 fun _ => ?_
  refine Held.store Variants.none (c : Thread nD τ) none Set.univ (Val := Elt F) (sp := fun _ => .vmem) (sh := shape) (et := fun _ => .f32) M (left X) 67 rfl ?_
  refine Held.skip Variants.none (c : Thread nD τ) none Set.univ (Val := Elt F) (sp := fun _ => .vmem) (sh := shape) (et := fun _ => .f32) M (left X) 79 fun _ => ?_
  refine Held.store Variants.none (c : Thread nD τ) none Set.univ (Val := Elt F) (sp := fun _ => .vmem) (sh := shape) (et := fun _ => .f32) M (left X) 79 rfl ?_
  refine Held.load Variants.none (c : Thread nD τ) none Set.univ (Val := Elt F) (sp := fun _ => .vmem) (sh := shape) (et := fun _ => .f32) M (left X) 20 (by decide) ?_
  refine Held.load Variants.none (c : Thread nD τ) none Set.univ (Val := Elt F) (sp := fun _ => .vmem) (sh := shape) (et := fun _ => .f32) M (left X) 8 (by decide) ?_
  refine Held.load Variants.none (c : Thread nD τ) none Set.univ (Val := Elt F) (sp := fun _ => .vmem) (sh := shape) (et := fun _ => .f32) M (left X) 32 (by decide) ?_
  refine Held.load Variants.none (c : Thread nD τ) none Set.univ (Val := Elt F) (sp := fun _ => .vmem) (sh := shape) (et := fun _ => .f32) M (left X) 44 (by decide) ?_
  refine Held.skip Variants.none (c : Thread nD τ) none Set.univ (Val := Elt F) (sp := fun _ => .vmem) (sh := shape) (et := fun _ => .f32) M (left X) 56 fun _ => ?_
  refine Held.store Variants.none (c : Thread nD τ) none Set.univ (Val := Elt F) (sp := fun _ => .vmem) (sh := shape) (et := fun _ => .f32) M (left X) 56 rfl ?_
  refine Held.skip Variants.none (c : Thread nD τ) none Set.univ (Val := Elt F) (sp := fun _ => .vmem) (sh := shape) (et := fun _ => .f32) M (left X) 68 fun _ => ?_
  refine Held.store Variants.none (c : Thread nD τ) none Set.univ (Val := Elt F) (sp := fun _ => .vmem) (sh := shape) (et := fun _ => .f32) M (left X) 68 rfl ?_
  refine Held.skip Variants.none (c : Thread nD τ) none Set.univ (Val := Elt F) (sp := fun _ => .vmem) (sh := shape) (et := fun _ => .f32) M (left X) 80 fun _ => ?_
  refine Held.store Variants.none (c : Thread nD τ) none Set.univ (Val := Elt F) (sp := fun _ => .vmem) (sh := shape) (et := fun _ => .f32) M (left X) 80 rfl ?_
  refine Held.load Variants.none (c : Thread nD τ) none Set.univ (Val := Elt F) (sp := fun _ => .vmem) (sh := shape) (et := fun _ => .f32) M (left X) 21 (by decide) ?_
  refine Held.load Variants.none (c : Thread nD τ) none Set.univ (Val := Elt F) (sp := fun _ => .vmem) (sh := shape) (et := fun _ => .f32) M (left X) 9 (by decide) ?_
  refine Held.load Variants.none (c : Thread nD τ) none Set.univ (Val := Elt F) (sp := fun _ => .vmem) (sh := shape) (et := fun _ => .f32) M (left X) 33 (by decide) ?_
  refine Held.load Variants.none (c : Thread nD τ) none Set.univ (Val := Elt F) (sp := fun _ => .vmem) (sh := shape) (et := fun _ => .f32) M (left X) 45 (by decide) ?_
  refine Held.skip Variants.none (c : Thread nD τ) none Set.univ (Val := Elt F) (sp := fun _ => .vmem) (sh := shape) (et := fun _ => .f32) M (left X) 57 fun _ => ?_
  refine Held.store Variants.none (c : Thread nD τ) none Set.univ (Val := Elt F) (sp := fun _ => .vmem) (sh := shape) (et := fun _ => .f32) M (left X) 57 rfl ?_
  refine Held.skip Variants.none (c : Thread nD τ) none Set.univ (Val := Elt F) (sp := fun _ => .vmem) (sh := shape) (et := fun _ => .f32) M (left X) 69 fun _ => ?_
  refine Held.store Variants.none (c : Thread nD τ) none Set.univ (Val := Elt F) (sp := fun _ => .vmem) (sh := shape) (et := fun _ => .f32) M (left X) 69 rfl ?_
  refine Held.skip Variants.none (c : Thread nD τ) none Set.univ (Val := Elt F) (sp := fun _ => .vmem) (sh := shape) (et := fun _ => .f32) M (left X) 81 fun _ => ?_
  refine Held.store Variants.none (c : Thread nD τ) none Set.univ (Val := Elt F) (sp := fun _ => .vmem) (sh := shape) (et := fun _ => .f32) M (left X) 81 rfl ?_
  refine Held.load Variants.none (c : Thread nD τ) none Set.univ (Val := Elt F) (sp := fun _ => .vmem) (sh := shape) (et := fun _ => .f32) M (left X) 22 (by decide) ?_
  refine Held.load Variants.none (c : Thread nD τ) none Set.univ (Val := Elt F) (sp := fun _ => .vmem) (sh := shape) (et := fun _ => .f32) M (left X) 10 (by decide) ?_
  refine Held.load Variants.none (c : Thread nD τ) none Set.univ (Val := Elt F) (sp := fun _ => .vmem) (sh := shape) (et := fun _ => .f32) M (left X) 34 (by decide) ?_
  refine Held.load Variants.none (c : Thread nD τ) none Set.univ (Val := Elt F) (sp := fun _ => .vmem) (sh := shape) (et := fun _ => .f32) M (left X) 46 (by decide) ?_
  refine Held.skip Variants.none (c : Thread nD τ) none Set.univ (Val := Elt F) (sp := fun _ => .vmem) (sh := shape) (et := fun _ => .f32) M (left X) 58 fun _ => ?_
  refine Held.store Variants.none (c : Thread nD τ) none Set.univ (Val := Elt F) (sp := fun _ => .vmem) (sh := shape) (et := fun _ => .f32) M (left X) 58 rfl ?_
  refine Held.skip Variants.none (c : Thread nD τ) none Set.univ (Val := Elt F) (sp := fun _ => .vmem) (sh := shape) (et := fun _ => .f32) M (left X) 70 fun _ => ?_
  refine Held.store Variants.none (c : Thread nD τ) none Set.univ (Val := Elt F) (sp := fun _ => .vmem) (sh := shape) (et := fun _ => .f32) M (left X) 70 rfl ?_
  refine Held.skip Variants.none (c : Thread nD τ) none Set.univ (Val := Elt F) (sp := fun _ => .vmem) (sh := shape) (et := fun _ => .f32) M (left X) 82 fun _ => ?_
  refine Held.store Variants.none (c : Thread nD τ) none Set.univ (Val := Elt F) (sp := fun _ => .vmem) (sh := shape) (et := fun _ => .f32) M (left X) 82 rfl ?_
  refine Held.load Variants.none (c : Thread nD τ) none Set.univ (Val := Elt F) (sp := fun _ => .vmem) (sh := shape) (et := fun _ => .f32) M (left X) 23 (by decide) ?_
  refine Held.load Variants.none (c : Thread nD τ) none Set.univ (Val := Elt F) (sp := fun _ => .vmem) (sh := shape) (et := fun _ => .f32) M (left X) 11 (by decide) ?_
  refine Held.load Variants.none (c : Thread nD τ) none Set.univ (Val := Elt F) (sp := fun _ => .vmem) (sh := shape) (et := fun _ => .f32) M (left X) 35 (by decide) ?_
  refine Held.load Variants.none (c : Thread nD τ) none Set.univ (Val := Elt F) (sp := fun _ => .vmem) (sh := shape) (et := fun _ => .f32) M (left X) 47 (by decide) ?_
  refine Held.skip Variants.none (c : Thread nD τ) none Set.univ (Val := Elt F) (sp := fun _ => .vmem) (sh := shape) (et := fun _ => .f32) M (left X) 59 fun _ => ?_
  refine Held.store Variants.none (c : Thread nD τ) none Set.univ (Val := Elt F) (sp := fun _ => .vmem) (sh := shape) (et := fun _ => .f32) M (left X) 59 rfl ?_
  refine Held.skip Variants.none (c : Thread nD τ) none Set.univ (Val := Elt F) (sp := fun _ => .vmem) (sh := shape) (et := fun _ => .f32) M (left X) 71 fun _ => ?_
  refine Held.store Variants.none (c : Thread nD τ) none Set.univ (Val := Elt F) (sp := fun _ => .vmem) (sh := shape) (et := fun _ => .f32) M (left X) 71 rfl ?_
  refine Held.skip Variants.none (c : Thread nD τ) none Set.univ (Val := Elt F) (sp := fun _ => .vmem) (sh := shape) (et := fun _ => .f32) M (left X) 83 fun _ => ?_
  refine Held.store Variants.none (c : Thread nD τ) none Set.univ (Val := Elt F) (sp := fun _ => .vmem) (sh := shape) (et := fun _ => .f32) M (left X) 83 rfl ?_
  refine Held.leave Variants.none (c : Thread nD τ) none Set.univ (Val := Elt F) (sp := fun _ => .vmem) (sh := shape) (et := fun _ => .f32) M (left X) ?_
  refine Held.all (c : Thread nD τ) (Val := Elt F) (sp := fun _ => .vmem) (sh := shape) (et := fun _ => .f32) M (left X) ?_
  beta_reduce
  decide +kernel

set_option maxHeartbeats 400000 in
set_option maxRecDepth 65536 in
/-- The printed body is the twelve steps. -/
theorem body_eq (t : Fin cfg0.N) : bodyAt0 (F := F) t = prog fun w => stage t w := rfl

end Cert.Kernel12Ideal.Small

end
-- ==== Proof.SmallRun.lean ====
/-
  The optimiser's call on the twelve small weights, a pipeline of eighty-four whole arrays: that it runs, and what its
  arrays end with.
-/
module

public import proofs.«01_k».proof.Proof.Small

@[expose] public section

set_option maxRecDepth 16384

noncomputable section

namespace Cert.Kernel12Ideal.Small

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel12Ideal.Gen

variable {F : FTy → Type} [FloatOps F]
variable (m : (ℓ : Loc nD τ sig) → Buf (Elt F) ℓ) (ρ : Dev nD → PrngReg)

/-! ## Whole windows -/

/-- A window that is the whole of an array. -/
def Plain (W : Window sig grid0) : Prop :=
  ∃ (i : _) (h : sig.names .tc .hbm i = true) (o y : Bool) (cs : CoreSpace) (st : _) (sem : DmaSem sig) (ha : _) (hs : _),
    W = Window.whole (cs := cs) (Memref.whole (⟨.hbm, i, h⟩ : Ref sig .tc)) o y st sem ha hs

set_option maxHeartbeats 400000 in
theorem plain (w : Fin 84) : Plain (win0 w) :=
  match w with
  | 0 => ⟨_, _, _, _, _, _, _, Memref.isWhole_whole _, hstage0_0 0, rfl⟩
  | 1 => ⟨_, _, _, _, _, _, _, Memref.isWhole_whole _, hstage0_1 0, rfl⟩
  | 2 => ⟨_, _, _, _, _, _, _, Memref.isWhole_whole _, hstage0_2 0, rfl⟩
  | 3 => ⟨_, _, _, _, _, _, _, Memref.isWhole_whole _, hstage0_3 0, rfl⟩
  | 4 => ⟨_, _, _, _, _, _, _, Memref.isWhole_whole _, hstage0_4 0, rfl⟩
  | 5 => ⟨_, _, _, _, _, _, _, Memref.isWhole_whole _, hstage0_5 0, rfl⟩
  | 6 => ⟨_, _, _, _, _, _, _, Memref.isWhole_whole _, hstage0_6 0, rfl⟩
  | 7 => ⟨_, _, _, _, _, _, _, Memref.isWhole_whole _, hstage0_7 0, rfl⟩
  | 8 => ⟨_, _, _, _, _, _, _, Memref.isWhole_whole _, hstage0_8 0, rfl⟩
  | 9 => ⟨_, _, _, _, _, _, _, Memref.isWhole_whole _, hstage0_9 0, rfl⟩
  | 10 => ⟨_, _, _, _, _, _, _, Memref.isWhole_whole _, hstage0_10 0, rfl⟩
  | 11 => ⟨_, _, _, _, _, _, _, Memref.isWhole_whole _, hstage0_11 0, rfl⟩
  | 12 => ⟨_, _, _, _, _, _, _, Memref.isWhole_whole _, hstage0_12 0, rfl⟩
  | 13 => ⟨_, _, _, _, _, _, _, Memref.isWhole_whole _, hstage0_13 0, rfl⟩
  | 14 => ⟨_, _, _, _, _, _, _, Memref.isWhole_whole _, hstage0_14 0, rfl⟩
  | 15 => ⟨_, _, _, _, _, _, _, Memref.isWhole_whole _, hstage0_15 0, rfl⟩
  | 16 => ⟨_, _, _, _, _, _, _, Memref.isWhole_whole _, hstage0_16 0, rfl⟩
  | 17 => ⟨_, _, _, _, _, _, _, Memref.isWhole_whole _, hstage0_17 0, rfl⟩
  | 18 => ⟨_, _, _, _, _, _, _, Memref.isWhole_whole _, hstage0_18 0, rfl⟩
  | 19 => ⟨_, _, _, _, _, _, _, Memref.isWhole_whole _, hstage0_19 0, rfl⟩
  | 20 => ⟨_, _, _, _, _, _, _, Memref.isWhole_whole _, hstage0_20 0, rfl⟩
  | 21 => ⟨_, _, _, _, _, _, _, Memref.isWhole_whole _, hstage0_21 0, rfl⟩
  | 22 => ⟨_, _, _, _, _, _, _, Memref.isWhole_whole _, hstage0_22 0, rfl⟩
  | 23 => ⟨_, _, _, _, _, _, _, Memref.isWhole_whole _, hstage0_23 0, rfl⟩
  | 24 => ⟨_, _, _, _, _, _, _, Memref.isWhole_whole _, hstage0_24 0, rfl⟩
  | 25 => ⟨_, _, _, _, _, _, _, Memref.isWhole_whole _, hstage0_25 0, rfl⟩
  | 26 => ⟨_, _, _, _, _, _, _, Memref.isWhole_whole _, hstage0_26 0, rfl⟩
  | 27 => ⟨_, _, _, _, _, _, _, Memref.isWhole_whole _, hstage0_27 0, rfl⟩
  | 28 => ⟨_, _, _, _, _, _, _, Memref.isWhole_whole _, hstage0_28 0, rfl⟩
  | 29 => ⟨_, _, _, _, _, _, _, Memref.isWhole_whole _, hstage0_29 0, rfl⟩
  | 30 => ⟨_, _, _, _, _, _, _, Memref.isWhole_whole _, hstage0_30 0, rfl⟩
  | 31 => ⟨_, _, _, _, _, _, _, Memref.isWhole_whole _, hstage0_31 0, rfl⟩
  | 32 => ⟨_, _, _, _, _, _, _, Memref.isWhole_whole _, hstage0_32 0, rfl⟩
  | 33 => ⟨_, _, _, _, _, _, _, Memref.isWhole_whole _, hstage0_33 0, rfl⟩
  | 34 => ⟨_, _, _, _, _, _, _, Memref.isWhole_whole _, hstage0_34 0, rfl⟩
  | 35 => ⟨_, _, _, _, _, _, _, Memref.isWhole_whole _, hstage0_35 0, rfl⟩
  | 36 => ⟨_, _, _, _, _, _, _, Memref.isWhole_whole _, hstage0_36 0, rfl⟩
  | 37 => ⟨_, _, _, _, _, _, _, Memref.isWhole_whole _, hstage0_37 0, rfl⟩
  | 38 => ⟨_, _, _, _, _, _, _, Memref.isWhole_whole _, hstage0_38 0, rfl⟩
  | 39 => ⟨_, _, _, _, _, _, _, Memref.isWhole_whole _, hstage0_39 0, rfl⟩
  | 40 => ⟨_, _, _, _, _, _, _, Memref.isWhole_whole _, hstage0_40 0, rfl⟩
  | 41 => ⟨_, _, _, _, _, _, _, Memref.isWhole_whole _, hstage0_41 0, rfl⟩
  | 42 => ⟨_, _, _, _, _, _, _, Memref.isWhole_whole _, hstage0_42 0, rfl⟩
  | 43 => ⟨_, _, _, _, _, _, _, Memref.isWhole_whole _, hstage0_43 0, rfl⟩
  | 44 => ⟨_, _, _, _, _, _, _, Memref.isWhole_whole _, hstage0_44 0, rfl⟩
  | 45 => ⟨_, _, _, _, _, _, _, Memref.isWhole_whole _, hstage0_45 0, rfl⟩
  | 46 => ⟨_, _, _, _, _, _, _, Memref.isWhole_whole _, hstage0_46 0, rfl⟩
  | 47 => ⟨_, _, _, _, _, _, _, Memref.isWhole_whole _, hstage0_47 0, rfl⟩
  | 48 => ⟨_, _, _, _, _, _, _, Memref.isWhole_whole _, hstage0_48 0, rfl⟩
  | 49 => ⟨_, _, _, _, _, _, _, Memref.isWhole_whole _, hstage0_49 0, rfl⟩
  | 50 => ⟨_, _, _, _, _, _, _, Memref.isWhole_whole _, hstage0_50 0, rfl⟩
  | 51 => ⟨_, _, _, _, _, _, _, Memref.isWhole_whole _, hstage0_51 0, rfl⟩
  | 52 => ⟨_, _, _, _, _, _, _, Memref.isWhole_whole _, hstage0_52 0, rfl⟩
  | 53 => ⟨_, _, _, _, _, _, _, Memref.isWhole_whole _, hstage0_53 0, rfl⟩
  | 54 => ⟨_, _, _, _, _, _, _, Memref.isWhole_whole _, hstage0_54 0, rfl⟩
  | 55 => ⟨_, _, _, _, _, _, _, Memref.isWhole_whole _, hstage0_55 0, rfl⟩
  | 56 => ⟨_, _, _, _, _, _, _, Memref.isWhole_whole _, hstage0_56 0, rfl⟩
  | 57 => ⟨_, _, _, _, _, _, _, Memref.isWhole_whole _, hstage0_57 0, rfl⟩
  | 58 => ⟨_, _, _, _, _, _, _, Memref.isWhole_whole _, hstage0_58 0, rfl⟩
  | 59 => ⟨_, _, _, _, _, _, _, Memref.isWhole_whole _, hstage0_59 0, rfl⟩
  | 60 => ⟨_, _, _, _, _, _, _, Memref.isWhole_whole _, hstage0_60 0, rfl⟩
  | 61 => ⟨_, _, _, _, _, _, _, Memref.isWhole_whole _, hstage0_61 0, rfl⟩
  | 62 => ⟨_, _, _, _, _, _, _, Memref.isWhole_whole _, hstage0_62 0, rfl⟩
  | 63 => ⟨_, _, _, _, _, _, _, Memref.isWhole_whole _, hstage0_63 0, rfl⟩
  | 64 => ⟨_, _, _, _, _, _, _, Memref.isWhole_whole _, hstage0_64 0, rfl⟩
  | 65 => ⟨_, _, _, _, _, _, _, Memref.isWhole_whole _, hstage0_65 0, rfl⟩
  | 66 => ⟨_, _, _, _, _, _, _, Memref.isWhole_whole _, hstage0_66 0, rfl⟩
  | 67 => ⟨_, _, _, _, _, _, _, Memref.isWhole_whole _, hstage0_67 0, rfl⟩
  | 68 => ⟨_, _, _, _, _, _, _, Memref.isWhole_whole _, hstage0_68 0, rfl⟩
  | 69 => ⟨_, _, _, _, _, _, _, Memref.isWhole_whole _, hstage0_69 0, rfl⟩
  | 70 => ⟨_, _, _, _, _, _, _, Memref.isWhole_whole _, hstage0_70 0, rfl⟩
  | 71 => ⟨_, _, _, _, _, _, _, Memref.isWhole_whole _, hstage0_71 0, rfl⟩
  | 72 => ⟨_, _, _, _, _, _, _, Memref.isWhole_whole _, hstage0_72 0, rfl⟩
  | 73 => ⟨_, _, _, _, _, _, _, Memref.isWhole_whole _, hstage0_73 0, rfl⟩
  | 74 => ⟨_, _, _, _, _, _, _, Memref.isWhole_whole _, hstage0_74 0, rfl⟩
  | 75 => ⟨_, _, _, _, _, _, _, Memref.isWhole_whole _, hstage0_75 0, rfl⟩
  | 76 => ⟨_, _, _, _, _, _, _, Memref.isWhole_whole _, hstage0_76 0, rfl⟩
  | 77 => ⟨_, _, _, _, _, _, _, Memref.isWhole_whole _, hstage0_77 0, rfl⟩
  | 78 => ⟨_, _, _, _, _, _, _, Memref.isWhole_whole _, hstage0_78 0, rfl⟩
  | 79 => ⟨_, _, _, _, _, _, _, Memref.isWhole_whole _, hstage0_79 0, rfl⟩
  | 80 => ⟨_, _, _, _, _, _, _, Memref.isWhole_whole _, hstage0_80 0, rfl⟩
  | 81 => ⟨_, _, _, _, _, _, _, Memref.isWhole_whole _, hstage0_81 0, rfl⟩
  | 82 => ⟨_, _, _, _, _, _, _, Memref.isWhole_whole _, hstage0_82 0, rfl⟩
  | 83 => ⟨_, _, _, _, _, _, _, Memref.isWhole_whole _, hstage0_83 0, rfl⟩
  | ⟨_ + 84, h⟩ => absurd h (Nat.not_lt.2 (Nat.le_add_left _ _))

/-- Its block is the array. -/
theorem whole_emb {s : Shape} {e : EltTy} {cs : CoreSpace} (arr : Memref sig .tc .hbm s e) (o y : Bool) (st : Memref sig .tc (.core cs) ⟨s.rank, s.size⟩ e)
    (sem : DmaSem sig) (ha : arr.IsWhole) (hs : st.IsWhole) (t : Fin grid0.N) (j : s.Idx) :
    ((Window.whole arr o y st sem ha hs).rect t).emb j = j :=
  funext fun a => Fin.ext (by rw [Rect.emb_apply]; show 0 * s.size a + 1 * (j a).val = (j a).val; omega)

/-- An array read through it is the array. -/
theorem whole_read (o y : Bool) {cs : CoreSpace} {i : _} {n : sig.names .tc .hbm i = true}
    (st : Memref sig .tc (.core cs) ⟨(⟨.hbm, i, n⟩ : Ref sig .tc).ty.shape.rank, (⟨.hbm, i, n⟩ : Ref sig .tc).ty.shape.size⟩ (⟨.hbm, i, n⟩ : Ref sig .tc).ty.elt)
    (sem : DmaSem sig) (ha : _) (hs : st.IsWhole) (t : Fin grid0.N) (f : (⟨.hbm, i, n⟩ : Ref sig .tc).ty.Contents (Elt F)) :
    ((Window.whole (Memref.whole (⟨.hbm, i, n⟩ : Ref sig .tc)) o y st sem ha hs).blk t).view.read (Elt F) f = f := by
  funext j
  show f (((Window.whole (Memref.whole (⟨.hbm, i, n⟩ : Ref sig .tc)) o y st sem ha hs).rect t).emb j) = f j
  rw [whole_emb]

theorem read_plain {W : Window sig grid0} (hW : Plain W) (t : Fin grid0.N) (f : (W.blk t).view.ty.Contents (Elt F)) :
    HEq ((W.blk t).view.read (Elt F) f) f := by
  obtain ⟨i, h, o, y, cs, st, sem, ha, hs, rfl⟩ := hW
  exact heq_of_eq (whole_read _ _ st sem ha hs t f)

theorem fill_plain {W : Window sig grid0} (hW : Plain W) (t : Fin grid0.N) (d : W.block.Idx → Elt F W.elt)
    (g : (W.xblock (grid0.coords t)).Idx → Elt F W.elt) : HEq (W.fill (grid0.coords t) d g) g := by
  obtain ⟨i, h, o, y, cs, st, sem, ha, hs, rfl⟩ := hW
  refine heq_of_eq (funext fun j => ?_)
  exact (Window.whole (Memref.whole (⟨.hbm, i, h⟩ : Ref sig .tc)) o y st sem ha hs).fill_xinj (grid0.coords t) d g j

theorem write_plain {W : Window sig grid0} (hW : Plain W) (t : Fin grid0.N) (f : (W.blk t).view.ty.Contents (Elt F))
    (Y : W.block.Idx → Elt F W.elt) : HEq ((W.blk t).view.write (Elt F) f (W.cut (grid0.coords t) Y) Finset.univ) Y := by
  refine (read_plain hW t _).symm.trans ?_
  rw [View.read_write_univ]
  obtain ⟨i, h, o, y, cs, st, sem, ha, hs, rfl⟩ := hW
  exact HEq.rfl

/-! ## The proof data -/

/-- Contents, at their shape. -/
def castVec {k k' : CoreSpace × Shape × EltTy} (h : k = k') (X : k.2.1.Idx → Elt F k.2.2) : k'.2.1.Idx → Elt F k'.2.2 := h ▸ X

theorem castVec_heq {k k' : CoreSpace × Shape × EltTy} (h : k = k') (X : k.2.1.Idx → Elt F k.2.2) : HEq (castVec h X) X := by
  subst h; exact HEq.rfl

theorem castVec_symm {k k' : CoreSpace × Shape × EltTy} (h : k = k') (X : k'.2.1.Idx → Elt F k'.2.2) : castVec h (castVec h.symm X) = X := by
  subst h; rfl

theorem owns_cast {k k' : CoreSpace × Shape × EltTy} (h : k = k') (c : Dev nD) (M : Memref sig .tc (.core k.1) k.2.1 k.2.2) (X : k.2.1.Idx → Elt F k.2.2) :
    (owns (c : Thread nD τ) M fullShare X : sProp (MT nD τ sig Unit (Elt F) ℕ (UR sig nD τ) ℕ))
      = owns (c : Thread nD τ) (cast h M) fullShare (castVec h X) := by
  subst h; rfl

/-- A buffer of core `c` as launched. -/
abbrev V (c : Dev nD) (b : Ref sig .tc) : Buf (Elt F) ((c : Thread nD τ).loc b) := m ((c : Thread nD τ).loc b)

/-- What a fetch of window `w` leaves in its buffer. -/
def fetched (c : Dev nD) (t : Fin cfg0.N) (w : Fin 84) : (kind w).2.1.Idx → Elt F (kind w).2.2 :=
  (cfg0.win w).fill (cfg0.grid.coords t) (fun _ => Classical.arbitrary _) (((cfg0.win w).blk t).view.read (Elt F) (V m c (Pipeline.arrRef spec0 w)))

/-- The same, at the window's shape. -/
def given (c : Dev nD) (t : Fin cfg0.N) (w : Fin 84) : FVec F (shape w) .f32 := castVec (kind_eq w) (fetched m c t w)

/-- What the body leaves in a window's buffer. -/
def after (c : Dev nD) (t : Fin cfg0.N) (w : Fin 84) : (kind w).2.1.Idx → Elt F (kind w).2.2 := castVec (kind_eq w).symm (left (given m c t) w)

/-- The run's proof data. -/
def dats (_ : Fin 1) (c : Dev nD) : Dat τ (Elt F) Unit ℕ (UR sig nD τ) ℕ cfg0 c where
  A w := V m c (Pipeline.arrRef spec0 w)
  after w t := after m c t w
  Φ _ := Pipeline.ΦA spec0 c
  q _ := fullShare
  owed _ := 0

theorem A_eq (c : Dev nD) (w : Fin cfg0.W) : (dats m 0 c).A w = V m c (Pipeline.arrRef spec0 w) := by
  dsimp only [dats]

/-! ## The body -/

/-- Every input is fetched at the one point. -/
theorem fetch_in : ∀ (w : Fin 84) (t : Fin grid0.N), w.val < 48 → (win0 w).fetch t = true := by decide +kernel

/-- No window is cut. -/
theorem uncut : ∀ (w : Fin 84) (t : Fin grid0.N), (win0 w).clipped (grid0.coords t) = false := by decide +kernel

/-- A fetch fills the whole of its buffer. -/
theorem fill_any {W : Window sig grid0} {i : grid0.Coords} (h : W.clipped i = false) (d d' : W.block.Idx → Elt F W.elt) (g : (W.xblock i).Idx → Elt F W.elt) :
    W.fill i d g = W.fill i d' g := by
  funext j
  have h' : W.moved i j = true := Pipeline.allAxes_eq_true_iff.mpr fun a => by rw [(W.clipped_eq_false_iff _).mp h a]
  unfold Window.fill
  rw [dif_pos h', dif_pos h']

/-- An input's buffer holds what its fetch leaves, whatever it held. -/
theorem before_in (c : Dev nD) (t : Fin cfg0.N) (w : Fin 84) (hw : w.val < 48) (d) : (dats m 0 c).before w t d = fetched m c t w := by
  unfold Dat.before
  rw [if_pos (fetch_in w t hw)]
  unfold Dat.fetched Dat.blockOf
  rw [A_eq]
  exact fill_any (uncut w t) _ _ _

variable {R : sProp (MT nD τ sig Unit (Elt F) ℕ (UR sig nD τ) ℕ)}

/-- The body, from its staging buffers. -/
theorem body (c : Dev nD) (t : Fin cfg0.N) :
    iprop(R ∗ bigSep Finset.univ fun w : Fin 84 => iprop(∃ d, owns (c : Thread nD τ) ((cfg0.win w).stage (cfg0.slots t w)) fullShare ((dats m 0 c).before w t d)))
      ⊢ wp frame (wpE (defs₀ (F := F)) Variants.none c none) Set.univ (bodyAt0 t) fun _ =>
        iprop(R ∗ bigSep Finset.univ fun w : Fin 84 => owns (c : Thread nD τ) ((cfg0.win w).stage (cfg0.slots t w)) fullShare ((dats m 0 c).after w t)) := by
  have pre : (bigSep Finset.univ fun w : Fin 84 => iprop(∃ d, owns (c : Thread nD τ) ((cfg0.win w).stage (cfg0.slots t w)) fullShare ((dats m 0 c).before w t d)) : sProp (MT nD τ sig Unit (Elt F) ℕ (UR sig nD τ) ℕ))
      = bigSep Finset.univ fun w : Fin 84 => iprop(∃ d, owns (c : Thread nD τ) (stage t w) fullShare (castVec (kind_eq w) ((dats m 0 c).before w t d))) :=
    BI.bigSep_congr fun w _ => congrArg (fun f : _ → sProp (MT nD τ sig Unit (Elt F) ℕ (UR sig nD τ) ℕ) => iprop(∃ d, f d)) (funext fun d => owns_cast (kind_eq w) c _ _)
  have post : (bigSep Finset.univ fun w : Fin 84 => owns (c : Thread nD τ) ((cfg0.win w).stage (cfg0.slots t w)) fullShare ((dats m 0 c).after w t) : sProp (MT nD τ sig Unit (Elt F) ℕ (UR sig nD τ) ℕ))
      = bigSep Finset.univ fun w : Fin 84 => owns (c : Thread nD τ) (stage t w) fullShare (left (given m c t) w) :=
    BI.bigSep_congr fun w _ => (owns_cast (kind_eq w) c _ _).trans (congrArg (fun X => (owns (c : Thread nD τ) (stage t w) fullShare X : sProp (MT nD τ sig Unit (Elt F) ℕ (UR sig nD τ) ℕ))) (castVec_symm (kind_eq w) (left (given m c t) w)))
  rw [pre, post, body_eq]
  have run := prog_held (R := R) c (stage t) (given m c t)
  have h : ∀ w : Fin 84, w.val < 48 → ∀ d, castVec (kind_eq w) ((dats m 0 c).before w t d) = left (given m c t) w := fun w hw d => by
    rw [before_in m c t w hw]
    exact (if_pos hw).symm
  have start := Held.start (Lvl := ℕ) (Val := Elt F) (R := R) (K := fun w : Fin 84 => w.val < 48) (c : Thread nD τ) (sp := fun _ => .vmem) (sh := shape) (et := fun _ => .f32)
    (stage t) (left (given m c t)) (fun w d => castVec (kind_eq w) ((dats m 0 c).before w t d)) h
  exact start.trans run

/-- The body table's row at point `t`'s slots. -/
theorem row (t : Fin cfg0.N) : defs₀ (F := F) .tc cfg0.body (cfg0.bodyArgs t (cfg0.slots t)) = bodyAt0 t := by
  unfold defs₀; rw [Defs.onTc_tc]

/-- The body obligation, at the one point. -/
theorem body_obligation (c : Dev nD) : BodyObligation (dats (F := F) m 0 c) (defs₀ (F := F)) Variants.none () Set.univ := fun t => by
  rw [row, show (dats m 0 c).Φ t.succ = (dats m 0 c).Φ t.castSucc from rfl,
    show (dats m 0 c).owesAt () t.succ = (dats m 0 c).owesAt () t.castSucc from rfl]
  refine triple_restated (body m (R := iprop((dats m 0 c).Φ t.castSucc ∗ (dats m 0 c).owesAt () t.castSucc)) c t) rfl ?_ fun _ => ?_
  · iintro ⟨HΦ, Ho, H⟩
    isplitl [HΦ Ho]
    · isplitl [HΦ]
      · iexact HΦ
      iexact Ho
    iexact H
  · iintro ⟨⟨HΦ, Ho⟩, H⟩
    isplitl [HΦ]
    · iexact HΦ
    isplitl [Ho]
    · iexact Ho
    iexact H

/-! ## The run -/

set_option maxHeartbeats 400000 in
/-- @main up to the region: the region alone. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

set_option backward.isDefEq.respectTransparency.types false in
set_option maxHeartbeats 400000 in
/-- The run, with every semaphore at zero after it. -/
theorem runs : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-! ## The arrays after it -/

/-- Every result is written back. -/
theorem flush_out : ∀ (w : Fin 84), 48 ≤ w.val → (win0 w).flush ⟨0, by decide⟩ = true := by decide +kernel

theorem isOut_in : ∀ (w : Fin 84), w.val < 48 → (win0 w).isOut = false := by decide +kernel

/-- The one point. -/
abbrev pt : Fin cfg0.N := ⟨0, by decide⟩

theorem one_point : cfg0.N = 1 := by decide

set_option backward.isDefEq.respectTransparency.types false in
/-- An array ends with what the body leaves of its window. -/
theorem arrAt_out (c : Dev nD) (w : Fin 84) (hw : 48 ≤ w.val) : HEq ((dats m 0 c).arrAt w cfg0.N) (left (given m c pt) w) := by
  have h : (dats m 0 c).arrAt w cfg0.N = ((cfg0.win w).blk pt).view.write (Elt F) ((dats m 0 c).arrAt w 0) ((dats m 0 c).flushed w pt) Finset.univ := by
    rw [one_point]
    unfold Dat.arrAt
    rw [dif_pos (by decide), if_pos (flush_out w hw)]
    rfl
  rw [h]
  exact (write_plain (plain w) _ _ _).trans (castVec_heq _ _)

/-- A fetch leaves its array. -/
theorem given_heq (c : Dev nD) (t : Fin cfg0.N) (w : Fin 84) : HEq (given m c t w) (V m c (Pipeline.arrRef spec0 w)) :=
  (castVec_heq _ _).trans ((fill_plain (plain w) t _ _).trans (read_plain (plain w) t _))

/-- An argument ends as launched. -/
theorem arg_kept (r : PUnit × MemSt nD τ sig (Elt F)) (h : Pipeline.FramePost cfgs (dats m) 0 (V m) r) (c : Dev nD) (w : Fin 84) (hw : w.val < 48) :
    r.2.mem ((c.tc : Thread nD τ).loc (Pipeline.arrRef spec0 w)) = m ((c.tc : Thread nD τ).loc (Pipeline.arrRef spec0 w)) :=
  ((h c).1 w).trans (((dats m 0 c).arrAt_in w (isOut_in w hw) _).trans (A_eq m c w))

set_option backward.isDefEq.respectTransparency.types false in
set_option maxHeartbeats 400000 in
/-- Every argument ends as launched. -/
theorem args_kept (r : PUnit × MemSt nD τ sig (Elt F)) (h : Pipeline.FramePost cfgs (dats m) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35)
      ∧ r.2.mem ((c.tc : Thread nD τ).loc main_arg36) = m ((c.tc : Thread nD τ).loc main_arg36)
      ∧ r.2.mem ((c.tc : Thread nD τ).loc main_arg37) = m ((c.tc : Thread nD τ).loc main_arg37)
      ∧ r.2.mem ((c.tc : Thread nD τ).loc main_arg38) = m ((c.tc : Thread nD τ).loc main_arg38)
      ∧ r.2.mem ((c.tc : Thread nD τ).loc main_arg39) = m ((c.tc : Thread nD τ).loc main_arg39)
      ∧ r.2.mem ((c.tc : Thread nD τ).loc main_arg40) = m ((c.tc : Thread nD τ).loc main_arg40)
      ∧ r.2.mem ((c.tc : Thread nD τ).loc main_arg41) = m ((c.tc : Thread nD τ).loc main_arg41)
      ∧ r.2.mem ((c.tc : Thread nD τ).loc main_arg42) = m ((c.tc : Thread nD τ).loc main_arg42)
      ∧ r.2.mem ((c.tc : Thread nD τ).loc main_arg43) = m ((c.tc : Thread nD τ).loc main_arg43)
      ∧ r.2.mem ((c.tc : Thread nD τ).loc main_arg44) = m ((c.tc : Thread nD τ).loc main_arg44)
      ∧ r.2.mem ((c.tc : Thread nD τ).loc main_arg45) = m ((c.tc : Thread nD τ).loc main_arg45)
      ∧ r.2.mem ((c.tc : Thread nD τ).loc main_arg46) = m ((c.tc : Thread nD τ).loc main_arg46)
      ∧ r.2.mem ((c.tc : Thread nD τ).loc main_arg47) = m ((c.tc : Thread nD τ).loc main_arg47) :=
  ⟨arg_kept m r h c 0 (by decide), arg_kept m r h c 1 (by decide), arg_kept m r h c 2 (by decide), arg_kept m r h c 3 (by decide), arg_kept m r h c 4 (by decide), arg_kept m r h c 5 (by decide), arg_kept m r h c 6 (by decide), arg_kept m r h c 7 (by decide), arg_kept m r h c 8 (by decide), arg_kept m r h c 9 (by decide), arg_kept m r h c 10 (by decide), arg_kept m r h c 11 (by decide), arg_kept m r h c 12 (by decide), arg_kept m r h c 13 (by decide), arg_kept m r h c 14 (by decide), arg_kept m r h c 15 (by decide), arg_kept m r h c 16 (by decide), arg_kept m r h c 17 (by decide), arg_kept m r h c 18 (by decide), arg_kept m r h c 19 (by decide), arg_kept m r h c 20 (by decide), arg_kept m r h c 21 (by decide), arg_kept m r h c 22 (by decide), arg_kept m r h c 23 (by decide), arg_kept m r h c 24 (by decide), arg_kept m r h c 25 (by decide), arg_kept m r h c 26 (by decide), arg_kept m r h c 27 (by decide), arg_kept m r h c 28 (by decide), arg_kept m r h c 29 (by decide), arg_kept m r h c 30 (by decide), arg_kept m r h c 31 (by decide), arg_kept m r h c 32 (by decide), arg_kept m r h c 33 (by decide), arg_kept m r h c 34 (by decide), arg_kept m r h c 35 (by decide), arg_kept m r h c 36 (by decide), arg_kept m r h c 37 (by decide), arg_kept m r h c 38 (by decide), arg_kept m r h c 39 (by decide), arg_kept m r h c 40 (by decide), arg_kept m r h c 41 (by decide), arg_kept m r h c 42 (by decide), arg_kept m r h c 43 (by decide), arg_kept m r h c 44 (by decide), arg_kept m r h c 45 (by decide), arg_kept m r h c 46 (by decide), arg_kept m r h c 47 (by decide)⟩

/-- The call runs, its arguments as launched and every semaphore at zero after it. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35)
      ∧ r.2.mem ((c.tc : Thread nD τ).loc main_arg36) = m ((c.tc : Thread nD τ).loc main_arg36)
      ∧ r.2.mem ((c.tc : Thread nD τ).loc main_arg37) = m ((c.tc : Thread nD τ).loc main_arg37)
      ∧ r.2.mem ((c.tc : Thread nD τ).loc main_arg38) = m ((c.tc : Thread nD τ).loc main_arg38)
      ∧ r.2.mem ((c.tc : Thread nD τ).loc main_arg39) = m ((c.tc : Thread nD τ).loc main_arg39)
      ∧ r.2.mem ((c.tc : Thread nD τ).loc main_arg40) = m ((c.tc : Thread nD τ).loc main_arg40)
      ∧ r.2.mem ((c.tc : Thread nD τ).loc main_arg41) = m ((c.tc : Thread nD τ).loc main_arg41)
      ∧ r.2.mem ((c.tc : Thread nD τ).loc main_arg42) = m ((c.tc : Thread nD τ).loc main_arg42)
      ∧ r.2.mem ((c.tc : Thread nD τ).loc main_arg43) = m ((c.tc : Thread nD τ).loc main_arg43)
      ∧ r.2.mem ((c.tc : Thread nD τ).loc main_arg44) = m ((c.tc : Thread nD τ).loc main_arg44)
      ∧ r.2.mem ((c.tc : Thread nD τ).loc main_arg45) = m ((c.tc : Thread nD τ).loc main_arg45)
      ∧ r.2.mem ((c.tc : Thread nD τ).loc main_arg46) = m ((c.tc : Thread nD τ).loc main_arg46)
      ∧ r.2.mem ((c.tc : Thread nD τ).loc main_arg47) = m ((c.tc : Thread nD τ).loc main_arg47))
      ∧ r.2.sem = fun _ => 0) :=
  (θ_run defs _ _).mono (fun r h => ⟨args_kept m r h.1, h.2⟩) (runs m ρ)

end Cert.Kernel12Ideal.Small

end
-- ==== Proof.AdamSmall.lean ====
/-
  The optimiser's call on the twelve small weights: kernel and reference end with the same arrays.
-/
module

public import proofs.«01_k».proof.Defs
public import proofs.«01_k».proof.Proof.SmallRun
public import proofs.«01_k».proof.Proof.Gen.Reference12Ideal
public import proofs.«01_k».proof.Proof.Gen.Reference12Ideal.Run
public import proofs.«01_k».proof.Proof.Adam
public import Idealize.ShloMosaic.Adequacy

@[expose] public section

set_option maxRecDepth 16384

noncomputable section

open Idealize.ShloMosaic Idealize.ShloMosaic.TcCoe Idealize.ShloMosaic.StableHlo Idealize.SL.Sem
open Cert.Adam

namespace Cert.AdamSmall

variable {S : Shape}

/-! ## The update of a whole array, of any shape -/

def moments (g m : S.Idx → EReal) : S.Idx → EReal := fun j => moment (g j) (m j)
def squares (g v : S.Idx → EReal) : S.Idx → EReal := fun j => square (g j) (v j)
def changes (g w m v : S.Idx → EReal) : S.Idx → EReal := fun j => change (g j) (w j) (m j) (v j)

theorem moments_of {g g' m m' : S.Idx → EReal} (hg : g' = g) (hm : m' = m) : moments g' m' = moments g m := by rw [hg, hm]
theorem squares_of {g g' v v' : S.Idx → EReal} (hg : g' = g) (hv : v' = v) : squares g' v' = squares g v := by rw [hg, hv]
theorem changes_of {g g' w w' m m' v v' : S.Idx → EReal} (hg : g' = g) (hw : w' = w) (hm : m' = m) (hv : v' = v) :
    changes g' w' m' v' = changes g w m v := by rw [hg, hw, hm, hv]

section Host

variable (h : Shape.BroadcastsInDim Cert.Reference12Ideal.S_ S (![] : Fin 0 → Fin S.rank)) (g w m v : FVec Ideal S .f32)

/-- A literal in every place. -/
abbrev every (n : BitVec 32) : FVec Ideal S .f32 := broadcastInDim S ![] h (constant Cert.Reference12Ideal.S_ .f32 n)

/-- What the reference writes of a moment, -/
theorem moments_host : addf (mulf (every h 0x3F666666#32) m) (mulf (every h 0x3DCCCCCD#32) g) = moments g m := rfl

/-- of the other, -/
theorem squares_host : addf (mulf (every h 0x3F7FBE77#32) v) (mulf (every h 0x3A83126F#32) (mulf g g)) = squares g v := rfl

/-- and of a weight's change. -/
theorem changes_host :
    mulf (every h 0xBA83126F#32) (addf (Host.divf
      (Host.divf (addf (mulf (every h 0x3F666666#32) m) (mulf (every h 0x3DCCCCCD#32) g)) (every h 0x3F26BD02#32))
      (addf (Host.sqrt (Host.divf (addf (mulf (every h 0x3F7FBE77#32) v) (mulf (every h 0x3A83126F#32) (mulf g g))) (every h 0x3C231ACC#32)))
        (every h 0x322BCC77#32)))
      (mulf (every h 0x3C23D70A#32) w)) = changes g w m v := rfl

end Host

end Cert.AdamSmall

namespace Cert.Proof

open Cert.AdamSmall

/-- The reference runs and leaves its arguments as they were. -/
theorem frame12 : Cert.quiescent_Reference12Ideal := fun m g _ =>
  (θ_run Cert.Reference12Ideal.defs _ _).mono (fun r h => ⟨fun c => (h c).2.2.2.2.2.2.2.2.2.2.2.2.2.2.2.2.2.2.2.2.2.2.2.2.2.2.2.2.2.2.2.2.2.2.2.2, sem_eq_zero_of_no_sems (by decide) r.2⟩)
    (Cert.Reference12Ideal.Value.run (F := Ideal) m g)

section Kernel

open Cert.Kernel12Ideal Cert.Kernel12Ideal.Gen

variable (m : (ℓ : Loc nD τ sig) → Buf (Elt Ideal) ℓ) (r : PUnit × MemSt nD τ sig (Elt Ideal)) (h : Pipeline.FramePost cfgs (Small.dats m) 0 (Small.V m) r) (c : Dev nD)

include h

set_option backward.isDefEq.respectTransparency.types false in
set_option maxHeartbeats 400000 in
omit h in
/-- The gradients the body finds. -/
theorem found_given :
      (Small.given m c Small.pt 0 : S16x128.Idx → EReal) = m (c.tc.loc main_arg0)
      ∧ (Small.given m c Small.pt 1 : S1x1024.Idx → EReal) = m (c.tc.loc main_arg1)
      ∧ (Small.given m c Small.pt 2 : S512x128.Idx → EReal) = m (c.tc.loc main_arg2)
      ∧ (Small.given m c Small.pt 3 : S1x512.Idx → EReal) = m (c.tc.loc main_arg3)
      ∧ (Small.given m c Small.pt 4 : S4x320.Idx → EReal) = m (c.tc.loc main_arg4)
      ∧ (Small.given m c Small.pt 5 : S1x2560.Idx → EReal) = m (c.tc.loc main_arg5)
      ∧ (Small.given m c Small.pt 6 : S1x24.Idx → EReal) = m (c.tc.loc main_arg6)
      ∧ (Small.given m c Small.pt 7 : S1x24.Idx → EReal) = m (c.tc.loc main_arg7)
      ∧ (Small.given m c Small.pt 8 : S1x24.Idx → EReal) = m (c.tc.loc main_arg8)
      ∧ (Small.given m c Small.pt 9 : S1x1536.Idx → EReal) = m (c.tc.loc main_arg9)
      ∧ (Small.given m c Small.pt 10 : S1x1024.Idx → EReal) = m (c.tc.loc main_arg10)
      ∧ (Small.given m c Small.pt 11 : S1x1024.Idx → EReal) = m (c.tc.loc main_arg11) :=
  ⟨eq_of_heq (Small.given_heq m c Small.pt 0), eq_of_heq (Small.given_heq m c Small.pt 1), eq_of_heq (Small.given_heq m c Small.pt 2), eq_of_heq (Small.given_heq m c Small.pt 3), eq_of_heq (Small.given_heq m c Small.pt 4), eq_of_heq (Small.given_heq m c Small.pt 5), eq_of_heq (Small.given_heq m c Small.pt 6), eq_of_heq (Small.given_heq m c Small.pt 7), eq_of_heq (Small.given_heq m c Small.pt 8), eq_of_heq (Small.given_heq m c Small.pt 9), eq_of_heq (Small.given_heq m c Small.pt 10), eq_of_heq (Small.given_heq m c Small.pt 11)⟩

set_option backward.isDefEq.respectTransparency.types false in
set_option maxHeartbeats 400000 in
omit h in
/-- The weights the body finds. -/
theorem found_weights :
      (Small.given m c Small.pt 12 : S16x128.Idx → EReal) = m (c.tc.loc main_arg12)
      ∧ (Small.given m c Small.pt 13 : S1x1024.Idx → EReal) = m (c.tc.loc main_arg13)
      ∧ (Small.given m c Small.pt 14 : S512x128.Idx → EReal) = m (c.tc.loc main_arg14)
      ∧ (Small.given m c Small.pt 15 : S1x512.Idx → EReal) = m (c.tc.loc main_arg15)
      ∧ (Small.given m c Small.pt 16 : S4x320.Idx → EReal) = m (c.tc.loc main_arg16)
      ∧ (Small.given m c Small.pt 17 : S1x2560.Idx → EReal) = m (c.tc.loc main_arg17)
      ∧ (Small.given m c Small.pt 18 : S1x24.Idx → EReal) = m (c.tc.loc main_arg18)
      ∧ (Small.given m c Small.pt 19 : S1x24.Idx → EReal) = m (c.tc.loc main_arg19)
      ∧ (Small.given m c Small.pt 20 : S1x24.Idx → EReal) = m (c.tc.loc main_arg20)
      ∧ (Small.given m c Small.pt 21 : S1x1536.Idx → EReal) = m (c.tc.loc main_arg21)
      ∧ (Small.given m c Small.pt 22 : S1x1024.Idx → EReal) = m (c.tc.loc main_arg22)
      ∧ (Small.given m c Small.pt 23 : S1x1024.Idx → EReal) = m (c.tc.loc main_arg23) :=
  ⟨eq_of_heq (Small.given_heq m c Small.pt 12), eq_of_heq (Small.given_heq m c Small.pt 13), eq_of_heq (Small.given_heq m c Small.pt 14), eq_of_heq (Small.given_heq m c Small.pt 15), eq_of_heq (Small.given_heq m c Small.pt 16), eq_of_heq (Small.given_heq m c Small.pt 17), eq_of_heq (Small.given_heq m c Small.pt 18), eq_of_heq (Small.given_heq m c Small.pt 19), eq_of_heq (Small.given_heq m c Small.pt 20), eq_of_heq (Small.given_heq m c Small.pt 21), eq_of_heq (Small.given_heq m c Small.pt 22), eq_of_heq (Small.given_heq m c Small.pt 23)⟩

set_option backward.isDefEq.respectTransparency.types false in
set_option maxHeartbeats 400000 in
omit h in
/-- The first moments the body finds. -/
theorem found_firsts :
      (Small.given m c Small.pt 24 : S16x128.Idx → EReal) = m (c.tc.loc main_arg24)
      ∧ (Small.given m c Small.pt 25 : S1x1024.Idx → EReal) = m (c.tc.loc main_arg25)
      ∧ (Small.given m c Small.pt 26 : S512x128.Idx → EReal) = m (c.tc.loc main_arg26)
      ∧ (Small.given m c Small.pt 27 : S1x512.Idx → EReal) = m (c.tc.loc main_arg27)
      ∧ (Small.given m c Small.pt 28 : S4x320.Idx → EReal) = m (c.tc.loc main_arg28)
      ∧ (Small.given m c Small.pt 29 : S1x2560.Idx → EReal) = m (c.tc.loc main_arg29)
      ∧ (Small.given m c Small.pt 30 : S1x24.Idx → EReal) = m (c.tc.loc main_arg30)
      ∧ (Small.given m c Small.pt 31 : S1x24.Idx → EReal) = m (c.tc.loc main_arg31)
      ∧ (Small.given m c Small.pt 32 : S1x24.Idx → EReal) = m (c.tc.loc main_arg32)
      ∧ (Small.given m c Small.pt 33 : S1x1536.Idx → EReal) = m (c.tc.loc main_arg33)
      ∧ (Small.given m c Small.pt 34 : S1x1024.Idx → EReal) = m (c.tc.loc main_arg34)
      ∧ (Small.given m c Small.pt 35 : S1x1024.Idx → EReal) = m (c.tc.loc main_arg35) :=
  ⟨eq_of_heq (Small.given_heq m c Small.pt 24), eq_of_heq (Small.given_heq m c Small.pt 25), eq_of_heq (Small.given_heq m c Small.pt 26), eq_of_heq (Small.given_heq m c Small.pt 27), eq_of_heq (Small.given_heq m c Small.pt 28), eq_of_heq (Small.given_heq m c Small.pt 29), eq_of_heq (Small.given_heq m c Small.pt 30), eq_of_heq (Small.given_heq m c Small.pt 31), eq_of_heq (Small.given_heq m c Small.pt 32), eq_of_heq (Small.given_heq m c Small.pt 33), eq_of_heq (Small.given_heq m c Small.pt 34), eq_of_heq (Small.given_heq m c Small.pt 35)⟩

set_option backward.isDefEq.respectTransparency.types false in
set_option maxHeartbeats 400000 in
omit h in
/-- The second moments the body finds. -/
theorem found_seconds :
      (Small.given m c Small.pt 36 : S16x128.Idx → EReal) = m (c.tc.loc main_arg36)
      ∧ (Small.given m c Small.pt 37 : S1x1024.Idx → EReal) = m (c.tc.loc main_arg37)
      ∧ (Small.given m c Small.pt 38 : S512x128.Idx → EReal) = m (c.tc.loc main_arg38)
      ∧ (Small.given m c Small.pt 39 : S1x512.Idx → EReal) = m (c.tc.loc main_arg39)
      ∧ (Small.given m c Small.pt 40 : S4x320.Idx → EReal) = m (c.tc.loc main_arg40)
      ∧ (Small.given m c Small.pt 41 : S1x2560.Idx → EReal) = m (c.tc.loc main_arg41)
      ∧ (Small.given m c Small.pt 42 : S1x24.Idx → EReal) = m (c.tc.loc main_arg42)
      ∧ (Small.given m c Small.pt 43 : S1x24.Idx → EReal) = m (c.tc.loc main_arg43)
      ∧ (Small.given m c Small.pt 44 : S1x24.Idx → EReal) = m (c.tc.loc main_arg44)
      ∧ (Small.given m c Small.pt 45 : S1x1536.Idx → EReal) = m (c.tc.loc main_arg45)
      ∧ (Small.given m c Small.pt 46 : S1x1024.Idx → EReal) = m (c.tc.loc main_arg46)
      ∧ (Small.given m c Small.pt 47 : S1x1024.Idx → EReal) = m (c.tc.loc main_arg47) :=
  ⟨eq_of_heq (Small.given_heq m c Small.pt 36), eq_of_heq (Small.given_heq m c Small.pt 37), eq_of_heq (Small.given_heq m c Small.pt 38), eq_of_heq (Small.given_heq m c Small.pt 39), eq_of_heq (Small.given_heq m c Small.pt 40), eq_of_heq (Small.given_heq m c Small.pt 41), eq_of_heq (Small.given_heq m c Small.pt 42), eq_of_heq (Small.given_heq m c Small.pt 43), eq_of_heq (Small.given_heq m c Small.pt 44), eq_of_heq (Small.given_heq m c Small.pt 45), eq_of_heq (Small.given_heq m c Small.pt 46), eq_of_heq (Small.given_heq m c Small.pt 47)⟩

/-- An array the kernel ends with. -/
theorem ends (w : Fin 84) (hw : 48 ≤ w.val) : HEq (r.2.mem ((c.tc : Thread nD τ).loc (Pipeline.arrRef spec0 w))) (Small.left (Small.given m c Small.pt) w) :=
  (heq_of_eq ((h c).1 w)).trans (Small.arrAt_out m c w hw)

set_option backward.isDefEq.respectTransparency.types false in
set_option maxHeartbeats 400000 in
/-- The changes the kernel ends with. -/
theorem ends_changes :
      r.2.mem ((c.tc : Thread nD τ).loc main_v0_0) = changes (S := S16x128) (m (c.tc.loc main_arg0)) (m (c.tc.loc main_arg12)) (m (c.tc.loc main_arg24)) (m (c.tc.loc main_arg36))
      ∧ r.2.mem ((c.tc : Thread nD τ).loc main_v0_1) = changes (S := S1x1024) (m (c.tc.loc main_arg1)) (m (c.tc.loc main_arg13)) (m (c.tc.loc main_arg25)) (m (c.tc.loc main_arg37))
      ∧ r.2.mem ((c.tc : Thread nD τ).loc main_v0_2) = changes (S := S512x128) (m (c.tc.loc main_arg2)) (m (c.tc.loc main_arg14)) (m (c.tc.loc main_arg26)) (m (c.tc.loc main_arg38))
      ∧ r.2.mem ((c.tc : Thread nD τ).loc main_v0_3) = changes (S := S1x512) (m (c.tc.loc main_arg3)) (m (c.tc.loc main_arg15)) (m (c.tc.loc main_arg27)) (m (c.tc.loc main_arg39))
      ∧ r.2.mem ((c.tc : Thread nD τ).loc main_v0_4) = changes (S := S4x320) (m (c.tc.loc main_arg4)) (m (c.tc.loc main_arg16)) (m (c.tc.loc main_arg28)) (m (c.tc.loc main_arg40))
      ∧ r.2.mem ((c.tc : Thread nD τ).loc main_v0_5) = changes (S := S1x2560) (m (c.tc.loc main_arg5)) (m (c.tc.loc main_arg17)) (m (c.tc.loc main_arg29)) (m (c.tc.loc main_arg41))
      ∧ r.2.mem ((c.tc : Thread nD τ).loc main_v0_6) = changes (S := S1x24) (m (c.tc.loc main_arg6)) (m (c.tc.loc main_arg18)) (m (c.tc.loc main_arg30)) (m (c.tc.loc main_arg42))
      ∧ r.2.mem ((c.tc : Thread nD τ).loc main_v0_7) = changes (S := S1x24) (m (c.tc.loc main_arg7)) (m (c.tc.loc main_arg19)) (m (c.tc.loc main_arg31)) (m (c.tc.loc main_arg43))
      ∧ r.2.mem ((c.tc : Thread nD τ).loc main_v0_8) = changes (S := S1x24) (m (c.tc.loc main_arg8)) (m (c.tc.loc main_arg20)) (m (c.tc.loc main_arg32)) (m (c.tc.loc main_arg44))
      ∧ r.2.mem ((c.tc : Thread nD τ).loc main_v0_9) = changes (S := S1x1536) (m (c.tc.loc main_arg9)) (m (c.tc.loc main_arg21)) (m (c.tc.loc main_arg33)) (m (c.tc.loc main_arg45))
      ∧ r.2.mem ((c.tc : Thread nD τ).loc main_v0_10) = changes (S := S1x1024) (m (c.tc.loc main_arg10)) (m (c.tc.loc main_arg22)) (m (c.tc.loc main_arg34)) (m (c.tc.loc main_arg46))
      ∧ r.2.mem ((c.tc : Thread nD τ).loc main_v0_11) = changes (S := S1x1024) (m (c.tc.loc main_arg11)) (m (c.tc.loc main_arg23)) (m (c.tc.loc main_arg35)) (m (c.tc.loc main_arg47)) := by
  refine ⟨?_, ?_, ?_, ?_, ?_, ?_, ?_, ?_, ?_, ?_, ?_, ?_⟩
  · have a : (r.2.mem (c.tc.loc main_v0_0) : S16x128.Idx → EReal) = Small.left (Small.given m c Small.pt) 48 := eq_of_heq (ends m r h c 48 (by decide))
    have b : (Small.left (Small.given m c Small.pt) 48 : S16x128.Idx → EReal) = changes (S := S16x128) (Small.given m c Small.pt 0) (Small.given m c Small.pt 12) (Small.given m c Small.pt 24) (Small.given m c Small.pt 36) := rfl
    exact a.trans (b.trans (changes_of (S := S16x128) (found_given m c).1 (found_weights m c).1 (found_firsts m c).1 (found_seconds m c).1))
  · have a : (r.2.mem (c.tc.loc main_v0_1) : S1x1024.Idx → EReal) = Small.left (Small.given m c Small.pt) 49 := eq_of_heq (ends m r h c 49 (by decide))
    have b : (Small.left (Small.given m c Small.pt) 49 : S1x1024.Idx → EReal) = changes (S := S1x1024) (Small.given m c Small.pt 1) (Small.given m c Small.pt 13) (Small.given m c Small.pt 25) (Small.given m c Small.pt 37) := rfl
    exact a.trans (b.trans (changes_of (S := S1x1024) (found_given m c).2.1 (found_weights m c).2.1 (found_firsts m c).2.1 (found_seconds m c).2.1))
  · have a : (r.2.mem (c.tc.loc main_v0_2) : S512x128.Idx → EReal) = Small.left (Small.given m c Small.pt) 50 := eq_of_heq (ends m r h c 50 (by decide))
    have b : (Small.left (Small.given m c Small.pt) 50 : S512x128.Idx → EReal) = changes (S := S512x128) (Small.given m c Small.pt 2) (Small.given m c Small.pt 14) (Small.given m c Small.pt 26) (Small.given m c Small.pt 38) := rfl
    exact a.trans (b.trans (changes_of (S := S512x128) (found_given m c).2.2.1 (found_weights m c).2.2.1 (found_firsts m c).2.2.1 (found_seconds m c).2.2.1))
  · have a : (r.2.mem (c.tc.loc main_v0_3) : S1x512.Idx → EReal) = Small.left (Small.given m c Small.pt) 51 := eq_of_heq (ends m r h c 51 (by decide))
    have b : (Small.left (Small.given m c Small.pt) 51 : S1x512.Idx → EReal) = changes (S := S1x512) (Small.given m c Small.pt 3) (Small.given m c Small.pt 15) (Small.given m c Small.pt 27) (Small.given m c Small.pt 39) := rfl
    exact a.trans (b.trans (changes_of (S := S1x512) (found_given m c).2.2.2.1 (found_weights m c).2.2.2.1 (found_firsts m c).2.2.2.1 (found_seconds m c).2.2.2.1))
  · have a : (r.2.mem (c.tc.loc main_v0_4) : S4x320.Idx → EReal) = Small.left (Small.given m c Small.pt) 52 := eq_of_heq (ends m r h c 52 (by decide))
    have b : (Small.left (Small.given m c Small.pt) 52 : S4x320.Idx → EReal) = changes (S := S4x320) (Small.given m c Small.pt 4) (Small.given m c Small.pt 16) (Small.given m c Small.pt 28) (Small.given m c Small.pt 40) := rfl
    exact a.trans (b.trans (changes_of (S := S4x320) (found_given m c).2.2.2.2.1 (found_weights m c).2.2.2.2.1 (found_firsts m c).2.2.2.2.1 (found_seconds m c).2.2.2.2.1))
  · have a : (r.2.mem (c.tc.loc main_v0_5) : S1x2560.Idx → EReal) = Small.left (Small.given m c Small.pt) 53 := eq_of_heq (ends m r h c 53 (by decide))
    have b : (Small.left (Small.given m c Small.pt) 53 : S1x2560.Idx → EReal) = changes (S := S1x2560) (Small.given m c Small.pt 5) (Small.given m c Small.pt 17) (Small.given m c Small.pt 29) (Small.given m c Small.pt 41) := rfl
    exact a.trans (b.trans (changes_of (S := S1x2560) (found_given m c).2.2.2.2.2.1 (found_weights m c).2.2.2.2.2.1 (found_firsts m c).2.2.2.2.2.1 (found_seconds m c).2.2.2.2.2.1))
  · have a : (r.2.mem (c.tc.loc main_v0_6) : S1x24.Idx → EReal) = Small.left (Small.given m c Small.pt) 54 := eq_of_heq (ends m r h c 54 (by decide))
    have b : (Small.left (Small.given m c Small.pt) 54 : S1x24.Idx → EReal) = changes (S := S1x24) (Small.given m c Small.pt 6) (Small.given m c Small.pt 18) (Small.given m c Small.pt 30) (Small.given m c Small.pt 42) := rfl
    exact a.trans (b.trans (changes_of (S := S1x24) (found_given m c).2.2.2.2.2.2.1 (found_weights m c).2.2.2.2.2.2.1 (found_firsts m c).2.2.2.2.2.2.1 (found_seconds m c).2.2.2.2.2.2.1))
  · have a : (r.2.mem (c.tc.loc main_v0_7) : S1x24.Idx → EReal) = Small.left (Small.given m c Small.pt) 55 := eq_of_heq (ends m r h c 55 (by decide))
    have b : (Small.left (Small.given m c Small.pt) 55 : S1x24.Idx → EReal) = changes (S := S1x24) (Small.given m c Small.pt 7) (Small.given m c Small.pt 19) (Small.given m c Small.pt 31) (Small.given m c Small.pt 43) := rfl
    exact a.trans (b.trans (changes_of (S := S1x24) (found_given m c).2.2.2.2.2.2.2.1 (found_weights m c).2.2.2.2.2.2.2.1 (found_firsts m c).2.2.2.2.2.2.2.1 (found_seconds m c).2.2.2.2.2.2.2.1))
  · have a : (r.2.mem (c.tc.loc main_v0_8) : S1x24.Idx → EReal) = Small.left (Small.given m c Small.pt) 56 := eq_of_heq (ends m r h c 56 (by decide))
    have b : (Small.left (Small.given m c Small.pt) 56 : S1x24.Idx → EReal) = changes (S := S1x24) (Small.given m c Small.pt 8) (Small.given m c Small.pt 20) (Small.given m c Small.pt 32) (Small.given m c Small.pt 44) := rfl
    exact a.trans (b.trans (changes_of (S := S1x24) (found_given m c).2.2.2.2.2.2.2.2.1 (found_weights m c).2.2.2.2.2.2.2.2.1 (found_firsts m c).2.2.2.2.2.2.2.2.1 (found_seconds m c).2.2.2.2.2.2.2.2.1))
  · have a : (r.2.mem (c.tc.loc main_v0_9) : S1x1536.Idx → EReal) = Small.left (Small.given m c Small.pt) 57 := eq_of_heq (ends m r h c 57 (by decide))
    have b : (Small.left (Small.given m c Small.pt) 57 : S1x1536.Idx → EReal) = changes (S := S1x1536) (Small.given m c Small.pt 9) (Small.given m c Small.pt 21) (Small.given m c Small.pt 33) (Small.given m c Small.pt 45) := rfl
    exact a.trans (b.trans (changes_of (S := S1x1536) (found_given m c).2.2.2.2.2.2.2.2.2.1 (found_weights m c).2.2.2.2.2.2.2.2.2.1 (found_firsts m c).2.2.2.2.2.2.2.2.2.1 (found_seconds m c).2.2.2.2.2.2.2.2.2.1))
  · have a : (r.2.mem (c.tc.loc main_v0_10) : S1x1024.Idx → EReal) = Small.left (Small.given m c Small.pt) 58 := eq_of_heq (ends m r h c 58 (by decide))
    have b : (Small.left (Small.given m c Small.pt) 58 : S1x1024.Idx → EReal) = changes (S := S1x1024) (Small.given m c Small.pt 10) (Small.given m c Small.pt 22) (Small.given m c Small.pt 34) (Small.given m c Small.pt 46) := rfl
    exact a.trans (b.trans (changes_of (S := S1x1024) (found_given m c).2.2.2.2.2.2.2.2.2.2.1 (found_weights m c).2.2.2.2.2.2.2.2.2.2.1 (found_firsts m c).2.2.2.2.2.2.2.2.2.2.1 (found_seconds m c).2.2.2.2.2.2.2.2.2.2.1))
  · have a : (r.2.mem (c.tc.loc main_v0_11) : S1x1024.Idx → EReal) = Small.left (Small.given m c Small.pt) 59 := eq_of_heq (ends m r h c 59 (by decide))
    have b : (Small.left (Small.given m c Small.pt) 59 : S1x1024.Idx → EReal) = changes (S := S1x1024) (Small.given m c Small.pt 11) (Small.given m c Small.pt 23) (Small.given m c Small.pt 35) (Small.given m c Small.pt 47) := rfl
    exact a.trans (b.trans (changes_of (S := S1x1024) (found_given m c).2.2.2.2.2.2.2.2.2.2.2 (found_weights m c).2.2.2.2.2.2.2.2.2.2.2 (found_firsts m c).2.2.2.2.2.2.2.2.2.2.2 (found_seconds m c).2.2.2.2.2.2.2.2.2.2.2))

set_option backward.isDefEq.respectTransparency.types false in
set_option maxHeartbeats 400000 in
/-- The first moments the kernel ends with. -/
theorem ends_moments :
      r.2.mem ((c.tc : Thread nD τ).loc main_v0_12) = moments (S := S16x128) (m (c.tc.loc main_arg0)) (m (c.tc.loc main_arg24))
      ∧ r.2.mem ((c.tc : Thread nD τ).loc main_v0_13) = moments (S := S1x1024) (m (c.tc.loc main_arg1)) (m (c.tc.loc main_arg25))
      ∧ r.2.mem ((c.tc : Thread nD τ).loc main_v0_14) = moments (S := S512x128) (m (c.tc.loc main_arg2)) (m (c.tc.loc main_arg26))
      ∧ r.2.mem ((c.tc : Thread nD τ).loc main_v0_15) = moments (S := S1x512) (m (c.tc.loc main_arg3)) (m (c.tc.loc main_arg27))
      ∧ r.2.mem ((c.tc : Thread nD τ).loc main_v0_16) = moments (S := S4x320) (m (c.tc.loc main_arg4)) (m (c.tc.loc main_arg28))
      ∧ r.2.mem ((c.tc : Thread nD τ).loc main_v0_17) = moments (S := S1x2560) (m (c.tc.loc main_arg5)) (m (c.tc.loc main_arg29))
      ∧ r.2.mem ((c.tc : Thread nD τ).loc main_v0_18) = moments (S := S1x24) (m (c.tc.loc main_arg6)) (m (c.tc.loc main_arg30))
      ∧ r.2.mem ((c.tc : Thread nD τ).loc main_v0_19) = moments (S := S1x24) (m (c.tc.loc main_arg7)) (m (c.tc.loc main_arg31))
      ∧ r.2.mem ((c.tc : Thread nD τ).loc main_v0_20) = moments (S := S1x24) (m (c.tc.loc main_arg8)) (m (c.tc.loc main_arg32))
      ∧ r.2.mem ((c.tc : Thread nD τ).loc main_v0_21) = moments (S := S1x1536) (m (c.tc.loc main_arg9)) (m (c.tc.loc main_arg33))
      ∧ r.2.mem ((c.tc : Thread nD τ).loc main_v0_22) = moments (S := S1x1024) (m (c.tc.loc main_arg10)) (m (c.tc.loc main_arg34))
      ∧ r.2.mem ((c.tc : Thread nD τ).loc main_v0_23) = moments (S := S1x1024) (m (c.tc.loc main_arg11)) (m (c.tc.loc main_arg35)) := by
  refine ⟨?_, ?_, ?_, ?_, ?_, ?_, ?_, ?_, ?_, ?_, ?_, ?_⟩
  · have a : (r.2.mem (c.tc.loc main_v0_12) : S16x128.Idx → EReal) = Small.left (Small.given m c Small.pt) 60 := eq_of_heq (ends m r h c 60 (by decide))
    have b : (Small.left (Small.given m c Small.pt) 60 : S16x128.Idx → EReal) = moments (S := S16x128) (Small.given m c Small.pt 0) (Small.given m c Small.pt 24) := rfl
    exact a.trans (b.trans (moments_of (S := S16x128) (found_given m c).1 (found_firsts m c).1))
  · have a : (r.2.mem (c.tc.loc main_v0_13) : S1x1024.Idx → EReal) = Small.left (Small.given m c Small.pt) 61 := eq_of_heq (ends m r h c 61 (by decide))
    have b : (Small.left (Small.given m c Small.pt) 61 : S1x1024.Idx → EReal) = moments (S := S1x1024) (Small.given m c Small.pt 1) (Small.given m c Small.pt 25) := rfl
    exact a.trans (b.trans (moments_of (S := S1x1024) (found_given m c).2.1 (found_firsts m c).2.1))
  · have a : (r.2.mem (c.tc.loc main_v0_14) : S512x128.Idx → EReal) = Small.left (Small.given m c Small.pt) 62 := eq_of_heq (ends m r h c 62 (by decide))
    have b : (Small.left (Small.given m c Small.pt) 62 : S512x128.Idx → EReal) = moments (S := S512x128) (Small.given m c Small.pt 2) (Small.given m c Small.pt 26) := rfl
    exact a.trans (b.trans (moments_of (S := S512x128) (found_given m c).2.2.1 (found_firsts m c).2.2.1))
  · have a : (r.2.mem (c.tc.loc main_v0_15) : S1x512.Idx → EReal) = Small.left (Small.given m c Small.pt) 63 := eq_of_heq (ends m r h c 63 (by decide))
    have b : (Small.left (Small.given m c Small.pt) 63 : S1x512.Idx → EReal) = moments (S := S1x512) (Small.given m c Small.pt 3) (Small.given m c Small.pt 27) := rfl
    exact a.trans (b.trans (moments_of (S := S1x512) (found_given m c).2.2.2.1 (found_firsts m c).2.2.2.1))
  · have a : (r.2.mem (c.tc.loc main_v0_16) : S4x320.Idx → EReal) = Small.left (Small.given m c Small.pt) 64 := eq_of_heq (ends m r h c 64 (by decide))
    have b : (Small.left (Small.given m c Small.pt) 64 : S4x320.Idx → EReal) = moments (S := S4x320) (Small.given m c Small.pt 4) (Small.given m c Small.pt 28) := rfl
    exact a.trans (b.trans (moments_of (S := S4x320) (found_given m c).2.2.2.2.1 (found_firsts m c).2.2.2.2.1))
  · have a : (r.2.mem (c.tc.loc main_v0_17) : S1x2560.Idx → EReal) = Small.left (Small.given m c Small.pt) 65 := eq_of_heq (ends m r h c 65 (by decide))
    have b : (Small.left (Small.given m c Small.pt) 65 : S1x2560.Idx → EReal) = moments (S := S1x2560) (Small.given m c Small.pt 5) (Small.given m c Small.pt 29) := rfl
    exact a.trans (b.trans (moments_of (S := S1x2560) (found_given m c).2.2.2.2.2.1 (found_firsts m c).2.2.2.2.2.1))
  · have a : (r.2.mem (c.tc.loc main_v0_18) : S1x24.Idx → EReal) = Small.left (Small.given m c Small.pt) 66 := eq_of_heq (ends m r h c 66 (by decide))
    have b : (Small.left (Small.given m c Small.pt) 66 : S1x24.Idx → EReal) = moments (S := S1x24) (Small.given m c Small.pt 6) (Small.given m c Small.pt 30) := rfl
    exact a.trans (b.trans (moments_of (S := S1x24) (found_given m c).2.2.2.2.2.2.1 (found_firsts m c).2.2.2.2.2.2.1))
  · have a : (r.2.mem (c.tc.loc main_v0_19) : S1x24.Idx → EReal) = Small.left (Small.given m c Small.pt) 67 := eq_of_heq (ends m r h c 67 (by decide))
    have b : (Small.left (Small.given m c Small.pt) 67 : S1x24.Idx → EReal) = moments (S := S1x24) (Small.given m c Small.pt 7) (Small.given m c Small.pt 31) := rfl
    exact a.trans (b.trans (moments_of (S := S1x24) (found_given m c).2.2.2.2.2.2.2.1 (found_firsts m c).2.2.2.2.2.2.2.1))
  · have a : (r.2.mem (c.tc.loc main_v0_20) : S1x24.Idx → EReal) = Small.left (Small.given m c Small.pt) 68 := eq_of_heq (ends m r h c 68 (by decide))
    have b : (Small.left (Small.given m c Small.pt) 68 : S1x24.Idx → EReal) = moments (S := S1x24) (Small.given m c Small.pt 8) (Small.given m c Small.pt 32) := rfl
    exact a.trans (b.trans (moments_of (S := S1x24) (found_given m c).2.2.2.2.2.2.2.2.1 (found_firsts m c).2.2.2.2.2.2.2.2.1))
  · have a : (r.2.mem (c.tc.loc main_v0_21) : S1x1536.Idx → EReal) = Small.left (Small.given m c Small.pt) 69 := eq_of_heq (ends m r h c 69 (by decide))
    have b : (Small.left (Small.given m c Small.pt) 69 : S1x1536.Idx → EReal) = moments (S := S1x1536) (Small.given m c Small.pt 9) (Small.given m c Small.pt 33) := rfl
    exact a.trans (b.trans (moments_of (S := S1x1536) (found_given m c).2.2.2.2.2.2.2.2.2.1 (found_firsts m c).2.2.2.2.2.2.2.2.2.1))
  · have a : (r.2.mem (c.tc.loc main_v0_22) : S1x1024.Idx → EReal) = Small.left (Small.given m c Small.pt) 70 := eq_of_heq (ends m r h c 70 (by decide))
    have b : (Small.left (Small.given m c Small.pt) 70 : S1x1024.Idx → EReal) = moments (S := S1x1024) (Small.given m c Small.pt 10) (Small.given m c Small.pt 34) := rfl
    exact a.trans (b.trans (moments_of (S := S1x1024) (found_given m c).2.2.2.2.2.2.2.2.2.2.1 (found_firsts m c).2.2.2.2.2.2.2.2.2.2.1))
  · have a : (r.2.mem (c.tc.loc main_v0_23) : S1x1024.Idx → EReal) = Small.left (Small.given m c Small.pt) 71 := eq_of_heq (ends m r h c 71 (by decide))
    have b : (Small.left (Small.given m c Small.pt) 71 : S1x1024.Idx → EReal) = moments (S := S1x1024) (Small.given m c Small.pt 11) (Small.given m c Small.pt 35) := rfl
    exact a.trans (b.trans (moments_of (S := S1x1024) (found_given m c).2.2.2.2.2.2.2.2.2.2.2 (found_firsts m c).2.2.2.2.2.2.2.2.2.2.2))

set_option backward.isDefEq.respectTransparency.types false in
set_option maxHeartbeats 400000 in
/-- The second moments the kernel ends with. -/
theorem ends_squares :
      r.2.mem ((c.tc : Thread nD τ).loc main_v0_24) = squares (S := S16x128) (m (c.tc.loc main_arg0)) (m (c.tc.loc main_arg36))
      ∧ r.2.mem ((c.tc : Thread nD τ).loc main_v0_25) = squares (S := S1x1024) (m (c.tc.loc main_arg1)) (m (c.tc.loc main_arg37))
      ∧ r.2.mem ((c.tc : Thread nD τ).loc main_v0_26) = squares (S := S512x128) (m (c.tc.loc main_arg2)) (m (c.tc.loc main_arg38))
      ∧ r.2.mem ((c.tc : Thread nD τ).loc main_v0_27) = squares (S := S1x512) (m (c.tc.loc main_arg3)) (m (c.tc.loc main_arg39))
      ∧ r.2.mem ((c.tc : Thread nD τ).loc main_v0_28) = squares (S := S4x320) (m (c.tc.loc main_arg4)) (m (c.tc.loc main_arg40))
      ∧ r.2.mem ((c.tc : Thread nD τ).loc main_v0_29) = squares (S := S1x2560) (m (c.tc.loc main_arg5)) (m (c.tc.loc main_arg41))
      ∧ r.2.mem ((c.tc : Thread nD τ).loc main_v0_30) = squares (S := S1x24) (m (c.tc.loc main_arg6)) (m (c.tc.loc main_arg42))
      ∧ r.2.mem ((c.tc : Thread nD τ).loc main_v0_31) = squares (S := S1x24) (m (c.tc.loc main_arg7)) (m (c.tc.loc main_arg43))
      ∧ r.2.mem ((c.tc : Thread nD τ).loc main_v0_32) = squares (S := S1x24) (m (c.tc.loc main_arg8)) (m (c.tc.loc main_arg44))
      ∧ r.2.mem ((c.tc : Thread nD τ).loc main_v0_33) = squares (S := S1x1536) (m (c.tc.loc main_arg9)) (m (c.tc.loc main_arg45))
      ∧ r.2.mem ((c.tc : Thread nD τ).loc main_v0_34) = squares (S := S1x1024) (m (c.tc.loc main_arg10)) (m (c.tc.loc main_arg46))
      ∧ r.2.mem ((c.tc : Thread nD τ).loc main_v0_35) = squares (S := S1x1024) (m (c.tc.loc main_arg11)) (m (c.tc.loc main_arg47)) := by
  refine ⟨?_, ?_, ?_, ?_, ?_, ?_, ?_, ?_, ?_, ?_, ?_, ?_⟩
  · have a : (r.2.mem (c.tc.loc main_v0_24) : S16x128.Idx → EReal) = Small.left (Small.given m c Small.pt) 72 := eq_of_heq (ends m r h c 72 (by decide))
    have b : (Small.left (Small.given m c Small.pt) 72 : S16x128.Idx → EReal) = squares (S := S16x128) (Small.given m c Small.pt 0) (Small.given m c Small.pt 36) := rfl
    exact a.trans (b.trans (squares_of (S := S16x128) (found_given m c).1 (found_seconds m c).1))
  · have a : (r.2.mem (c.tc.loc main_v0_25) : S1x1024.Idx → EReal) = Small.left (Small.given m c Small.pt) 73 := eq_of_heq (ends m r h c 73 (by decide))
    have b : (Small.left (Small.given m c Small.pt) 73 : S1x1024.Idx → EReal) = squares (S := S1x1024) (Small.given m c Small.pt 1) (Small.given m c Small.pt 37) := rfl
    exact a.trans (b.trans (squares_of (S := S1x1024) (found_given m c).2.1 (found_seconds m c).2.1))
  · have a : (r.2.mem (c.tc.loc main_v0_26) : S512x128.Idx → EReal) = Small.left (Small.given m c Small.pt) 74 := eq_of_heq (ends m r h c 74 (by decide))
    have b : (Small.left (Small.given m c Small.pt) 74 : S512x128.Idx → EReal) = squares (S := S512x128) (Small.given m c Small.pt 2) (Small.given m c Small.pt 38) := rfl
    exact a.trans (b.trans (squares_of (S := S512x128) (found_given m c).2.2.1 (found_seconds m c).2.2.1))
  · have a : (r.2.mem (c.tc.loc main_v0_27) : S1x512.Idx → EReal) = Small.left (Small.given m c Small.pt) 75 := eq_of_heq (ends m r h c 75 (by decide))
    have b : (Small.left (Small.given m c Small.pt) 75 : S1x512.Idx → EReal) = squares (S := S1x512) (Small.given m c Small.pt 3) (Small.given m c Small.pt 39) := rfl
    exact a.trans (b.trans (squares_of (S := S1x512) (found_given m c).2.2.2.1 (found_seconds m c).2.2.2.1))
  · have a : (r.2.mem (c.tc.loc main_v0_28) : S4x320.Idx → EReal) = Small.left (Small.given m c Small.pt) 76 := eq_of_heq (ends m r h c 76 (by decide))
    have b : (Small.left (Small.given m c Small.pt) 76 : S4x320.Idx → EReal) = squares (S := S4x320) (Small.given m c Small.pt 4) (Small.given m c Small.pt 40) := rfl
    exact a.trans (b.trans (squares_of (S := S4x320) (found_given m c).2.2.2.2.1 (found_seconds m c).2.2.2.2.1))
  · have a : (r.2.mem (c.tc.loc main_v0_29) : S1x2560.Idx → EReal) = Small.left (Small.given m c Small.pt) 77 := eq_of_heq (ends m r h c 77 (by decide))
    have b : (Small.left (Small.given m c Small.pt) 77 : S1x2560.Idx → EReal) = squares (S := S1x2560) (Small.given m c Small.pt 5) (Small.given m c Small.pt 41) := rfl
    exact a.trans (b.trans (squares_of (S := S1x2560) (found_given m c).2.2.2.2.2.1 (found_seconds m c).2.2.2.2.2.1))
  · have a : (r.2.mem (c.tc.loc main_v0_30) : S1x24.Idx → EReal) = Small.left (Small.given m c Small.pt) 78 := eq_of_heq (ends m r h c 78 (by decide))
    have b : (Small.left (Small.given m c Small.pt) 78 : S1x24.Idx → EReal) = squares (S := S1x24) (Small.given m c Small.pt 6) (Small.given m c Small.pt 42) := rfl
    exact a.trans (b.trans (squares_of (S := S1x24) (found_given m c).2.2.2.2.2.2.1 (found_seconds m c).2.2.2.2.2.2.1))
  · have a : (r.2.mem (c.tc.loc main_v0_31) : S1x24.Idx → EReal) = Small.left (Small.given m c Small.pt) 79 := eq_of_heq (ends m r h c 79 (by decide))
    have b : (Small.left (Small.given m c Small.pt) 79 : S1x24.Idx → EReal) = squares (S := S1x24) (Small.given m c Small.pt 7) (Small.given m c Small.pt 43) := rfl
    exact a.trans (b.trans (squares_of (S := S1x24) (found_given m c).2.2.2.2.2.2.2.1 (found_seconds m c).2.2.2.2.2.2.2.1))
  · have a : (r.2.mem (c.tc.loc main_v0_32) : S1x24.Idx → EReal) = Small.left (Small.given m c Small.pt) 80 := eq_of_heq (ends m r h c 80 (by decide))
    have b : (Small.left (Small.given m c Small.pt) 80 : S1x24.Idx → EReal) = squares (S := S1x24) (Small.given m c Small.pt 8) (Small.given m c Small.pt 44) := rfl
    exact a.trans (b.trans (squares_of (S := S1x24) (found_given m c).2.2.2.2.2.2.2.2.1 (found_seconds m c).2.2.2.2.2.2.2.2.1))
  · have a : (r.2.mem (c.tc.loc main_v0_33) : S1x1536.Idx → EReal) = Small.left (Small.given m c Small.pt) 81 := eq_of_heq (ends m r h c 81 (by decide))
    have b : (Small.left (Small.given m c Small.pt) 81 : S1x1536.Idx → EReal) = squares (S := S1x1536) (Small.given m c Small.pt 9) (Small.given m c Small.pt 45) := rfl
    exact a.trans (b.trans (squares_of (S := S1x1536) (found_given m c).2.2.2.2.2.2.2.2.2.1 (found_seconds m c).2.2.2.2.2.2.2.2.2.1))
  · have a : (r.2.mem (c.tc.loc main_v0_34) : S1x1024.Idx → EReal) = Small.left (Small.given m c Small.pt) 82 := eq_of_heq (ends m r h c 82 (by decide))
    have b : (Small.left (Small.given m c Small.pt) 82 : S1x1024.Idx → EReal) = squares (S := S1x1024) (Small.given m c Small.pt 10) (Small.given m c Small.pt 46) := rfl
    exact a.trans (b.trans (squares_of (S := S1x1024) (found_given m c).2.2.2.2.2.2.2.2.2.2.1 (found_seconds m c).2.2.2.2.2.2.2.2.2.2.1))
  · have a : (r.2.mem (c.tc.loc main_v0_35) : S1x1024.Idx → EReal) = Small.left (Small.given m c Small.pt) 83 := eq_of_heq (ends m r h c 83 (by decide))
    have b : (Small.left (Small.given m c Small.pt) 83 : S1x1024.Idx → EReal) = squares (S := S1x1024) (Small.given m c Small.pt 11) (Small.given m c Small.pt 47) := rfl
    exact a.trans (b.trans (squares_of (S := S1x1024) (found_given m c).2.2.2.2.2.2.2.2.2.2.2 (found_seconds m c).2.2.2.2.2.2.2.2.2.2.2))

omit h

set_option maxHeartbeats 400000 in
/-- Kernel and reference, from the same arguments, end with equal results: the changes, the first moments, the second. -/
theorem algebraic12 : Cert.algebraic_Kernel12Ideal_Reference12Ideal := by
  intro m g m' g' _ hagree
  refine ⟨
    fun c => changes (S := S16x128) (m (c.tc.loc main_arg0)) (m (c.tc.loc main_arg12)) (m (c.tc.loc main_arg24)) (m (c.tc.loc main_arg36)),
    fun c => changes (S := S1x1024) (m (c.tc.loc main_arg1)) (m (c.tc.loc main_arg13)) (m (c.tc.loc main_arg25)) (m (c.tc.loc main_arg37)),
    fun c => changes (S := S512x128) (m (c.tc.loc main_arg2)) (m (c.tc.loc main_arg14)) (m (c.tc.loc main_arg26)) (m (c.tc.loc main_arg38)),
    fun c => changes (S := S1x512) (m (c.tc.loc main_arg3)) (m (c.tc.loc main_arg15)) (m (c.tc.loc main_arg27)) (m (c.tc.loc main_arg39)),
    fun c => changes (S := S4x320) (m (c.tc.loc main_arg4)) (m (c.tc.loc main_arg16)) (m (c.tc.loc main_arg28)) (m (c.tc.loc main_arg40)),
    fun c => changes (S := S1x2560) (m (c.tc.loc main_arg5)) (m (c.tc.loc main_arg17)) (m (c.tc.loc main_arg29)) (m (c.tc.loc main_arg41)),
    fun c => changes (S := S1x24) (m (c.tc.loc main_arg6)) (m (c.tc.loc main_arg18)) (m (c.tc.loc main_arg30)) (m (c.tc.loc main_arg42)),
    fun c => changes (S := S1x24) (m (c.tc.loc main_arg7)) (m (c.tc.loc main_arg19)) (m (c.tc.loc main_arg31)) (m (c.tc.loc main_arg43)),
    fun c => changes (S := S1x24) (m (c.tc.loc main_arg8)) (m (c.tc.loc main_arg20)) (m (c.tc.loc main_arg32)) (m (c.tc.loc main_arg44)),
    fun c => changes (S := S1x1536) (m (c.tc.loc main_arg9)) (m (c.tc.loc main_arg21)) (m (c.tc.loc main_arg33)) (m (c.tc.loc main_arg45)),
    fun c => changes (S := S1x1024) (m (c.tc.loc main_arg10)) (m (c.tc.loc main_arg22)) (m (c.tc.loc main_arg34)) (m (c.tc.loc main_arg46)),
    fun c => changes (S := S1x1024) (m (c.tc.loc main_arg11)) (m (c.tc.loc main_arg23)) (m (c.tc.loc main_arg35)) (m (c.tc.loc main_arg47)),
    fun c => moments (S := S16x128) (m (c.tc.loc main_arg0)) (m (c.tc.loc main_arg24)),
    fun c => moments (S := S1x1024) (m (c.tc.loc main_arg1)) (m (c.tc.loc main_arg25)),
    fun c => moments (S := S512x128) (m (c.tc.loc main_arg2)) (m (c.tc.loc main_arg26)),
    fun c => moments (S := S1x512) (m (c.tc.loc main_arg3)) (m (c.tc.loc main_arg27)),
    fun c => moments (S := S4x320) (m (c.tc.loc main_arg4)) (m (c.tc.loc main_arg28)),
    fun c => moments (S := S1x2560) (m (c.tc.loc main_arg5)) (m (c.tc.loc main_arg29)),
    fun c => moments (S := S1x24) (m (c.tc.loc main_arg6)) (m (c.tc.loc main_arg30)),
    fun c => moments (S := S1x24) (m (c.tc.loc main_arg7)) (m (c.tc.loc main_arg31)),
    fun c => moments (S := S1x24) (m (c.tc.loc main_arg8)) (m (c.tc.loc main_arg32)),
    fun c => moments (S := S1x1536) (m (c.tc.loc main_arg9)) (m (c.tc.loc main_arg33)),
    fun c => moments (S := S1x1024) (m (c.tc.loc main_arg10)) (m (c.tc.loc main_arg34)),
    fun c => moments (S := S1x1024) (m (c.tc.loc main_arg11)) (m (c.tc.loc main_arg35)),
    fun c => squares (S := S16x128) (m (c.tc.loc main_arg0)) (m (c.tc.loc main_arg36)),
    fun c => squares (S := S1x1024) (m (c.tc.loc main_arg1)) (m (c.tc.loc main_arg37)),
    fun c => squares (S := S512x128) (m (c.tc.loc main_arg2)) (m (c.tc.loc main_arg38)),
    fun c => squares (S := S1x512) (m (c.tc.loc main_arg3)) (m (c.tc.loc main_arg39)),
    fun c => squares (S := S4x320) (m (c.tc.loc main_arg4)) (m (c.tc.loc main_arg40)),
    fun c => squares (S := S1x2560) (m (c.tc.loc main_arg5)) (m (c.tc.loc main_arg41)),
    fun c => squares (S := S1x24) (m (c.tc.loc main_arg6)) (m (c.tc.loc main_arg42)),
    fun c => squares (S := S1x24) (m (c.tc.loc main_arg7)) (m (c.tc.loc main_arg43)),
    fun c => squares (S := S1x24) (m (c.tc.loc main_arg8)) (m (c.tc.loc main_arg44)),
    fun c => squares (S := S1x1536) (m (c.tc.loc main_arg9)) (m (c.tc.loc main_arg45)),
    fun c => squares (S := S1x1024) (m (c.tc.loc main_arg10)) (m (c.tc.loc main_arg46)),
    fun c => squares (S := S1x1024) (m (c.tc.loc main_arg11)) (m (c.tc.loc main_arg47)),
    (θ_run Cert.Kernel12Ideal.defs _ _).mono (fun r h c => ?_) (Small.runs (F := Ideal) m g), ?_⟩
  · exact ⟨(ends_changes m r h.1 c).1, (ends_changes m r h.1 c).2.1, (ends_changes m r h.1 c).2.2.1, (ends_changes m r h.1 c).2.2.2.1, (ends_changes m r h.1 c).2.2.2.2.1, (ends_changes m r h.1 c).2.2.2.2.2.1, (ends_changes m r h.1 c).2.2.2.2.2.2.1, (ends_changes m r h.1 c).2.2.2.2.2.2.2.1, (ends_changes m r h.1 c).2.2.2.2.2.2.2.2.1, (ends_changes m r h.1 c).2.2.2.2.2.2.2.2.2.1, (ends_changes m r h.1 c).2.2.2.2.2.2.2.2.2.2.1, (ends_changes m r h.1 c).2.2.2.2.2.2.2.2.2.2.2, (ends_moments m r h.1 c).1, (ends_moments m r h.1 c).2.1, (ends_moments m r h.1 c).2.2.1, (ends_moments m r h.1 c).2.2.2.1, (ends_moments m r h.1 c).2.2.2.2.1, (ends_moments m r h.1 c).2.2.2.2.2.1, (ends_moments m r h.1 c).2.2.2.2.2.2.1, (ends_moments m r h.1 c).2.2.2.2.2.2.2.1, (ends_moments m r h.1 c).2.2.2.2.2.2.2.2.1, (ends_moments m r h.1 c).2.2.2.2.2.2.2.2.2.1, (ends_moments m r h.1 c).2.2.2.2.2.2.2.2.2.2.1, (ends_moments m r h.1 c).2.2.2.2.2.2.2.2.2.2.2, (ends_squares m r h.1 c).1, (ends_squares m r h.1 c).2.1, (ends_squares m r h.1 c).2.2.1, (ends_squares m r h.1 c).2.2.2.1, (ends_squares m r h.1 c).2.2.2.2.1, (ends_squares m r h.1 c).2.2.2.2.2.1, (ends_squares m r h.1 c).2.2.2.2.2.2.1, (ends_squares m r h.1 c).2.2.2.2.2.2.2.1, (ends_squares m r h.1 c).2.2.2.2.2.2.2.2.1, (ends_squares m r h.1 c).2.2.2.2.2.2.2.2.2.1, (ends_squares m r h.1 c).2.2.2.2.2.2.2.2.2.2.1, (ends_squares m r h.1 c).2.2.2.2.2.2.2.2.2.2.2, Small.args_kept m r h.1 c⟩
  · refine (θ_run Cert.Reference12Ideal.defs _ _).mono (fun r h c => ?_) (Cert.Reference12Ideal.Value.run (F := Ideal) m' g')
    obtain ⟨e0, e1, e2, e3, e4, e5, e6, e7, e8, e9, e10, e11, e12, e13, e14, e15, e16, e17, e18, e19, e20, e21, e22, e23, e24, e25, e26, e27, e28, e29, e30, e31, e32, e33, e34, e35, e36, e37, e38, e39, e40, e41, e42, e43, e44, e45, e46, e47⟩ := hagree c
    obtain ⟨k0, k1, k2, k3, k4, k5, k6, k7, k8, k9, k10, k11, k12, k13, k14, k15, k16, k17, k18, k19, k20, k21, k22, k23, k24, k25, k26, k27, k28, k29, k30, k31, k32, k33, k34, k35, hargs⟩ := h c
    exact ⟨
      k0.trans ((changes_host _ _ _ _ _).trans (changes_of e0 e12 e24 e36)),
      k1.trans ((changes_host _ _ _ _ _).trans (changes_of e1 e13 e25 e37)),
      k2.trans ((changes_host _ _ _ _ _).trans (changes_of e2 e14 e26 e38)),
      k3.trans ((changes_host _ _ _ _ _).trans (changes_of e3 e15 e27 e39)),
      k4.trans ((changes_host _ _ _ _ _).trans (changes_of e4 e16 e28 e40)),
      k5.trans ((changes_host _ _ _ _ _).trans (changes_of e5 e17 e29 e41)),
      k6.trans ((changes_host _ _ _ _ _).trans (changes_of e6 e18 e30 e42)),
      k7.trans ((changes_host _ _ _ _ _).trans (changes_of e7 e19 e31 e43)),
      k8.trans ((changes_host _ _ _ _ _).trans (changes_of e8 e20 e32 e44)),
      k9.trans ((changes_host _ _ _ _ _).trans (changes_of e9 e21 e33 e45)),
      k10.trans ((changes_host _ _ _ _ _).trans (changes_of e10 e22 e34 e46)),
      k11.trans ((changes_host _ _ _ _ _).trans (changes_of e11 e23 e35 e47)),
      k12.trans ((moments_host _ _ _).trans (moments_of e0 e24)),
      k13.trans ((moments_host _ _ _).trans (moments_of e1 e25)),
      k14.trans ((moments_host _ _ _).trans (moments_of e2 e26)),
      k15.trans ((moments_host _ _ _).trans (moments_of e3 e27)),
      k16.trans ((moments_host _ _ _).trans (moments_of e4 e28)),
      k17.trans ((moments_host _ _ _).trans (moments_of e5 e29)),
      k18.trans ((moments_host _ _ _).trans (moments_of e6 e30)),
      k19.trans ((moments_host _ _ _).trans (moments_of e7 e31)),
      k20.trans ((moments_host _ _ _).trans (moments_of e8 e32)),
      k21.trans ((moments_host _ _ _).trans (moments_of e9 e33)),
      k22.trans ((moments_host _ _ _).trans (moments_of e10 e34)),
      k23.trans ((moments_host _ _ _).trans (moments_of e11 e35)),
      k24.trans ((squares_host _ _ _).trans (squares_of e0 e36)),
      k25.trans ((squares_host _ _ _).trans (squares_of e1 e37)),
      k26.trans ((squares_host _ _ _).trans (squares_of e2 e38)),
      k27.trans ((squares_host _ _ _).trans (squares_of e3 e39)),
      k28.trans ((squares_host _ _ _).trans (squares_of e4 e40)),
      k29.trans ((squares_host _ _ _).trans (squares_of e5 e41)),
      k30.trans ((squares_host _ _ _).trans (squares_of e6 e42)),
      k31.trans ((squares_host _ _ _).trans (squares_of e7 e43)),
      k32.trans ((squares_host _ _ _).trans (squares_of e8 e44)),
      k33.trans ((squares_host _ _ _).trans (squares_of e9 e45)),
      k34.trans ((squares_host _ _ _).trans (squares_of e10 e46)),
      k35.trans ((squares_host _ _ _).trans (squares_of e11 e47)), hargs⟩

end Kernel

end Cert.Proof

end
-- ==== Proof.AdamIn.lean ====
/-
  The optimiser's call on w_in: kernel and reference end with the same arrays.
-/
module

public import proofs.«01_k».proof.Defs
public import proofs.«01_k».proof.Proof.Gen.Kernel11Ideal.Frame
public import proofs.«01_k».proof.Proof.Gen.Reference11Ideal
public import proofs.«01_k».proof.Proof.Gen.Reference11Ideal.Run
public import proofs.«01_k».proof.Proof.Gen.Reference11Ideal.Read
public import proofs.«01_k».proof.Proof.Adam
public import Idealize.ShloMosaic.Adequacy

@[expose] public section

set_option maxRecDepth 16384

noncomputable section

open Idealize.ShloMosaic Idealize.ShloMosaic.TcCoe Idealize.ShloMosaic.StableHlo Idealize.ShloMosaic.Tactic Idealize.SL.Sem
open Idealize.ShloMosaic.Pipeline (Dat)
open Cert.Adam

namespace Cert.Kernel11Ideal.Tile

open Cert.Kernel11Ideal Cert.Kernel11Ideal.Gen

theorem hz : (![0, 0] : Fin 2 → Nat) = fun _ => 0 := funext fun a => by fin_cases a <;> rfl

/-- Part `p` of the gradient on chip `w`: its own where `p` is its number, the one received elsewhere. -/
def picked (w : BitVec 32) (p : Fin 4) (own part : EReal) : EReal := Scalar.select (Scalar.cmpi .eq w (BitVec.ofNat 32 p)) own part

/-- A choice between arrays, at an entry. -/
theorem select_at {ι : Type} (b : BitVec 1) (x y : ι → EReal) (i : ι) : Scalar.select b x y i = Scalar.select b (x i) (y i) := by
  unfold Scalar.select
  split <;> rfl

section Point

variable (c : Dev nD) (i : grid0.Coords) (arg2 : Memref sig .tc .vmem S4x256x579 .bf16) (harg2 : arg2.IsWhole)
  (arg3 : Memref sig .tc .vmem S4x256x579 .bf16) (harg3 : arg3.IsWhole) (arg4 : Memref sig .tc .vmem S256x579 .f32) (harg4 : arg4.IsWhole)
  (arg5 : Memref sig .tc .vmem S256x579 .f32) (harg5 : arg5.IsWhole) (arg6 : Memref sig .tc .vmem S256x579 .f32) (harg6 : arg6.IsWhole)
  (arg7 : Memref sig .tc .vmem S256x579 .f32) (harg7 : arg7.IsWhole) (arg8 : Memref sig .tc .vmem S256x579 .f32) (harg8 : arg8.IsWhole)
  (arg9 : Memref sig .tc .vmem S256x579 .f32) (harg9 : arg9.IsWhole) (arg10 : Memref sig .tc .vmem S256x579 .f32) (harg10 : arg10.IsWhole)
  (x0 x1 : Vec Ideal S4x256x579 .bf16) (x2 x3 x4 : Vec Ideal S256x579 .f32) (xt0 : TbBuf0 (F := Ideal) c tbM0_0) (r : Fin 256) (k : Fin 579)

/-- The chip's number, as the kernel reads it. -/
def word : BitVec 32 := (xt0 : S1.Idx → BitVec 32) (ix1 0)

/-- The sum of the parts the chip picks. -/
def summed (w : BitVec 32) (own part : Fin 4 → EReal) : EReal := total fun p => picked w p (own p) (part p)

theorem total_read : out0_A_5 (F := Ideal) c i arg2 harg2 arg3 harg3 arg4 harg4 arg5 harg5 arg6 harg6 arg7 harg7 arg8 harg8 arg9 harg9 arg10 harg10 x0 x1 x2 x3 x4 xt0 (ix2 r k)
    = summed (word c xt0) (fun p => x1 (ix3 p r k)) fun p => x0 (ix3 p r k) := by
  unfold out0_A_5
  rw [View.read_writes_eq_canon _ _ _ (cover0_A_5 c i arg2 harg2 arg3 harg3 arg4 harg4 arg5 harg5 arg6 harg6 arg7 harg7 arg8 harg8 arg9 harg9 arg10 harg10 x0 x1 x2 x3 x4 xt0)]
  unfold kernelRun0_A
  dsimp only
  sl_unfold_words
  simp +decide only [View.readAt_eq_ld, harg2.read_unread, harg3.read_unread]
  rw [View.canon_unit_zero hz]
  unfold k0_pay3 k0_pay2 k0_pay1 summed total picked
  simp only [select_at]
  pointwise
  rfl

theorem change_read : out0_A_6 (F := Ideal) c i arg2 harg2 arg3 harg3 arg4 harg4 arg5 harg5 arg6 harg6 arg7 harg7 arg8 harg8 arg9 harg9 arg10 harg10 x0 x1 x2 x3 x4 xt0 (ix2 r k)
    = change (summed (word c xt0) (fun p => x1 (ix3 p r k)) fun p => x0 (ix3 p r k)) (x2 (ix2 r k)) (x3 (ix2 r k)) (x4 (ix2 r k)) := by
  unfold out0_A_6
  rw [View.read_writes_eq_canon _ _ _ (cover0_A_6 c i arg2 harg2 arg3 harg3 arg4 harg4 arg5 harg5 arg6 harg6 arg7 harg7 arg8 harg8 arg9 harg9 arg10 harg10 x0 x1 x2 x3 x4 xt0)]
  unfold kernelRun0_A
  dsimp only
  sl_unfold_words
  simp +decide only [View.readAt_eq_ld, harg2.read_unread, harg3.read_unread, harg4.read_unread, harg5.read_unread, harg6.read_unread, View.ld_unit_zero (S := S256x579) hz]
  rw [View.canon_unit_zero hz]
  unfold k0_pay6 k0_pay5 k0_pay4 k0_pay3 k0_pay2 k0_pay1 change moment square summed total picked
  simp only [select_at]
  pointwise
  rfl

theorem moment_read : out0_A_7 (F := Ideal) c i arg2 harg2 arg3 harg3 arg4 harg4 arg5 harg5 arg6 harg6 arg7 harg7 arg8 harg8 arg9 harg9 arg10 harg10 x0 x1 x2 x3 x4 xt0 (ix2 r k)
    = moment (summed (word c xt0) (fun p => x1 (ix3 p r k)) fun p => x0 (ix3 p r k)) (x3 (ix2 r k)) := by
  unfold out0_A_7
  rw [View.read_writes_eq_canon _ _ _ (cover0_A_7 c i arg2 harg2 arg3 harg3 arg4 harg4 arg5 harg5 arg6 harg6 arg7 harg7 arg8 harg8 arg9 harg9 arg10 harg10 x0 x1 x2 x3 x4 xt0)]
  unfold kernelRun0_A
  dsimp only
  sl_unfold_words
  simp +decide only [View.readAt_eq_ld, harg2.read_unread, harg3.read_unread, harg5.read_unread, View.ld_unit_zero (S := S256x579) hz]
  rw [View.canon_unit_zero hz]
  unfold k0_pay4 k0_pay3 k0_pay2 k0_pay1 moment summed total picked
  simp only [select_at]
  pointwise
  rfl

theorem square_read : out0_A_8 (F := Ideal) c i arg2 harg2 arg3 harg3 arg4 harg4 arg5 harg5 arg6 harg6 arg7 harg7 arg8 harg8 arg9 harg9 arg10 harg10 x0 x1 x2 x3 x4 xt0 (ix2 r k)
    = square (summed (word c xt0) (fun p => x1 (ix3 p r k)) fun p => x0 (ix3 p r k)) (x4 (ix2 r k)) := by
  unfold out0_A_8
  rw [View.read_writes_eq_canon _ _ _ (cover0_A_8 c i arg2 harg2 arg3 harg3 arg4 harg4 arg5 harg5 arg6 harg6 arg7 harg7 arg8 harg8 arg9 harg9 arg10 harg10 x0 x1 x2 x3 x4 xt0)]
  unfold kernelRun0_A
  dsimp only
  sl_unfold_words
  simp +decide only [View.readAt_eq_ld, harg2.read_unread, harg3.read_unread, harg6.read_unread, View.ld_unit_zero (S := S256x579) hz]
  rw [View.canon_unit_zero hz]
  unfold k0_pay5 k0_pay3 k0_pay2 k0_pay1 square summed total picked
  simp only [select_at]
  pointwise
  rfl

end Point

/-! ## The arrays -/

section Results

variable (x0 x1 : S4x1024x579.Idx → EReal) (x2 : S1.Idx → BitVec 32) (x3 x4 x5 : S1024x579.Idx → EReal)

/-- What the four results are, entry by entry. -/
def grads : S1024x579.Idx → EReal := fun j => summed (x2 (ix1 0)) (fun p => x1 (ix3 p (j 0) (j 1))) fun p => x0 (ix3 p (j 0) (j 1))
def changes : S1024x579.Idx → EReal := fun j => change (grads x0 x1 x2 j) (x3 j) (x4 j) (x5 j)
def moments : S1024x579.Idx → EReal := fun j => moment (grads x0 x1 x2 j) (x4 j)
def squares : S1024x579.Idx → EReal := fun j => square (grads x0 x1 x2 j) (x5 j)

end Results

variable (m : (ℓ : Loc nD τ sig) → Buf (Elt Ideal) ℓ) (hO : Ok m) (c : Dev nD)

/-- The arguments: the parts received, the chip's own, its number, the weight and its two moments. -/
def inP : S4x1024x579.Idx → EReal := m ((c : Thread nD τ).loc main_arg0)
def inO : S4x1024x579.Idx → EReal := m ((c : Thread nD τ).loc main_arg1)
def inC : S1.Idx → BitVec 32 := m ((c : Thread nD τ).loc main_arg2)
def inW : S1024x579.Idx → EReal := m ((c : Thread nD τ).loc main_arg3)
def inM : S1024x579.Idx → EReal := m ((c : Thread nD τ).loc main_arg4)
def inV : S1024x579.Idx → EReal := m ((c : Thread nD τ).loc main_arg5)

/-- The number in the table is the argument's: there is one device. -/
theorem number : word c (tbl m 0) = inC m c (ix1 0) := by
  obtain rfl : c = 0 := Subsingleton.elim _ _
  rfl

theorem ix_0 : ∀ t : Fin grid0.N, cc0_transform_0 (grid0.coords t) 0 = 0 ∧ cc0_transform_0 (grid0.coords t) 1 = t.val ∧ cc0_transform_0 (grid0.coords t) 2 = 0 := by decide +kernel
theorem ix_1 : ∀ t : Fin grid0.N, cc0_transform_1 (grid0.coords t) 0 = 0 ∧ cc0_transform_1 (grid0.coords t) 1 = t.val ∧ cc0_transform_1 (grid0.coords t) 2 = 0 := by decide +kernel
theorem ix_2 : ∀ t : Fin grid0.N, cc0_transform_2 (grid0.coords t) 0 = t.val ∧ cc0_transform_2 (grid0.coords t) 1 = 0 := by decide +kernel
theorem ix_3 : ∀ t : Fin grid0.N, cc0_transform_3 (grid0.coords t) 0 = t.val ∧ cc0_transform_3 (grid0.coords t) 1 = 0 := by decide +kernel
theorem ix_4 : ∀ t : Fin grid0.N, cc0_transform_4 (grid0.coords t) 0 = t.val ∧ cc0_transform_4 (grid0.coords t) 1 = 0 := by decide +kernel
theorem ix_5 : ∀ t : Fin grid0.N, cc0_transform_5 (grid0.coords t) 0 = t.val ∧ cc0_transform_5 (grid0.coords t) 1 = 0 := by decide +kernel
theorem ix_6 : ∀ t : Fin grid0.N, cc0_transform_6 (grid0.coords t) 0 = t.val ∧ cc0_transform_6 (grid0.coords t) 1 = 0 := by decide +kernel
theorem ix_7 : ∀ t : Fin grid0.N, cc0_transform_7 (grid0.coords t) 0 = t.val ∧ cc0_transform_7 (grid0.coords t) 1 = 0 := by decide +kernel
theorem ix_8 : ∀ t : Fin grid0.N, cc0_transform_8 (grid0.coords t) 0 = t.val ∧ cc0_transform_8 (grid0.coords t) 1 = 0 := by decide +kernel

/-- Position `q` of tile `t`. -/
def place (t : Fin (cfgM m hO).N) (q : Fin 256) : Fin 1024 := ⟨t.val * 256 + q.val, by have := t.isLt; have := q.isLt; have : (cfgM m hO).N = 4 := N_0; omega⟩

theorem emb0 (t : Fin (cfgM m hO).N) (p : Fin 4) (r : Fin 256) (k : Fin 579) : ((((cfgM m hO).win 0).blk t).view.emb (ix3 p r k : S4x256x579.Idx) : S4x1024x579.Idx) = ix3 p (place m hO t r) k := by
  funext a
  apply Fin.ext
  match a with
  | ⟨0, _⟩ => show cc0_transform_0 (grid0.coords t) 0 * 4 + 1 * p.val = p.val; rw [(ix_0 t).1]; omega
  | ⟨1, _⟩ => show cc0_transform_0 (grid0.coords t) 1 * 256 + 1 * r.val = t.val * 256 + r.val; rw [(ix_0 t).2.1]; omega
  | ⟨2, _⟩ => show cc0_transform_0 (grid0.coords t) 2 * 579 + 1 * k.val = k.val; rw [(ix_0 t).2.2]; omega

theorem emb1 (t : Fin (cfgM m hO).N) (p : Fin 4) (r : Fin 256) (k : Fin 579) : ((((cfgM m hO).win 1).blk t).view.emb (ix3 p r k : S4x256x579.Idx) : S4x1024x579.Idx) = ix3 p (place m hO t r) k := by
  funext a
  apply Fin.ext
  match a with
  | ⟨0, _⟩ => show cc0_transform_1 (grid0.coords t) 0 * 4 + 1 * p.val = p.val; rw [(ix_1 t).1]; omega
  | ⟨1, _⟩ => show cc0_transform_1 (grid0.coords t) 1 * 256 + 1 * r.val = t.val * 256 + r.val; rw [(ix_1 t).2.1]; omega
  | ⟨2, _⟩ => show cc0_transform_1 (grid0.coords t) 2 * 579 + 1 * k.val = k.val; rw [(ix_1 t).2.2]; omega

theorem emb2 (t : Fin (cfgM m hO).N) (r : Fin 256) (k : Fin 579) : ((((cfgM m hO).win 2).blk t).view.emb (ix2 r k : S256x579.Idx) : S1024x579.Idx) = ix2 (place m hO t r) k := by
  funext a
  apply Fin.ext
  match a with
  | ⟨0, _⟩ => show cc0_transform_2 (grid0.coords t) 0 * 256 + 1 * r.val = t.val * 256 + r.val; rw [(ix_2 t).1]; omega
  | ⟨1, _⟩ => show cc0_transform_2 (grid0.coords t) 1 * 579 + 1 * k.val = k.val; rw [(ix_2 t).2]; omega

theorem emb3 (t : Fin (cfgM m hO).N) (r : Fin 256) (k : Fin 579) : ((((cfgM m hO).win 3).blk t).view.emb (ix2 r k : S256x579.Idx) : S1024x579.Idx) = ix2 (place m hO t r) k := by
  funext a
  apply Fin.ext
  match a with
  | ⟨0, _⟩ => show cc0_transform_3 (grid0.coords t) 0 * 256 + 1 * r.val = t.val * 256 + r.val; rw [(ix_3 t).1]; omega
  | ⟨1, _⟩ => show cc0_transform_3 (grid0.coords t) 1 * 579 + 1 * k.val = k.val; rw [(ix_3 t).2]; omega

theorem emb4 (t : Fin (cfgM m hO).N) (r : Fin 256) (k : Fin 579) : ((((cfgM m hO).win 4).blk t).view.emb (ix2 r k : S256x579.Idx) : S1024x579.Idx) = ix2 (place m hO t r) k := by
  funext a
  apply Fin.ext
  match a with
  | ⟨0, _⟩ => show cc0_transform_4 (grid0.coords t) 0 * 256 + 1 * r.val = t.val * 256 + r.val; rw [(ix_4 t).1]; omega
  | ⟨1, _⟩ => show cc0_transform_4 (grid0.coords t) 1 * 579 + 1 * k.val = k.val; rw [(ix_4 t).2]; omega

theorem emb5 (t : Fin (cfgM m hO).N) (r : Fin 256) (k : Fin 579) : ((((cfgM m hO).win 5).blk t).view.emb (ix2 r k : S256x579.Idx) : S1024x579.Idx) = ix2 (place m hO t r) k := by
  funext a
  apply Fin.ext
  match a with
  | ⟨0, _⟩ => show cc0_transform_5 (grid0.coords t) 0 * 256 + 1 * r.val = t.val * 256 + r.val; rw [(ix_5 t).1]; omega
  | ⟨1, _⟩ => show cc0_transform_5 (grid0.coords t) 1 * 579 + 1 * k.val = k.val; rw [(ix_5 t).2]; omega

theorem emb6 (t : Fin (cfgM m hO).N) (r : Fin 256) (k : Fin 579) : ((((cfgM m hO).win 6).blk t).view.emb (ix2 r k : S256x579.Idx) : S1024x579.Idx) = ix2 (place m hO t r) k := by
  funext a
  apply Fin.ext
  match a with
  | ⟨0, _⟩ => show cc0_transform_6 (grid0.coords t) 0 * 256 + 1 * r.val = t.val * 256 + r.val; rw [(ix_6 t).1]; omega
  | ⟨1, _⟩ => show cc0_transform_6 (grid0.coords t) 1 * 579 + 1 * k.val = k.val; rw [(ix_6 t).2]; omega

theorem emb7 (t : Fin (cfgM m hO).N) (r : Fin 256) (k : Fin 579) : ((((cfgM m hO).win 7).blk t).view.emb (ix2 r k : S256x579.Idx) : S1024x579.Idx) = ix2 (place m hO t r) k := by
  funext a
  apply Fin.ext
  match a with
  | ⟨0, _⟩ => show cc0_transform_7 (grid0.coords t) 0 * 256 + 1 * r.val = t.val * 256 + r.val; rw [(ix_7 t).1]; omega
  | ⟨1, _⟩ => show cc0_transform_7 (grid0.coords t) 1 * 579 + 1 * k.val = k.val; rw [(ix_7 t).2]; omega

theorem emb8 (t : Fin (cfgM m hO).N) (r : Fin 256) (k : Fin 579) : ((((cfgM m hO).win 8).blk t).view.emb (ix2 r k : S256x579.Idx) : S1024x579.Idx) = ix2 (place m hO t r) k := by
  funext a
  apply Fin.ext
  match a with
  | ⟨0, _⟩ => show cc0_transform_8 (grid0.coords t) 0 * 256 + 1 * r.val = t.val * 256 + r.val; rw [(ix_8 t).1]; omega
  | ⟨1, _⟩ => show cc0_transform_8 (grid0.coords t) 1 * 579 + 1 * k.val = k.val; rw [(ix_8 t).2]; omega

/-! What each input's block holds. -/

theorem blkP (t : Fin (cfgM m hO).N) (p : Fin 4) (r : Fin 256) (k : Fin 579) : (iblk m hO c 0 t : Vec Ideal S4x256x579 .bf16) (ix3 p r k) = inP m c (ix3 p (place m hO t r) k) :=
  congrArg (inP m c) (emb0 m hO t p r k)

theorem blkO (t : Fin (cfgM m hO).N) (p : Fin 4) (r : Fin 256) (k : Fin 579) : (iblk m hO c 1 t : Vec Ideal S4x256x579 .bf16) (ix3 p r k) = inO m c (ix3 p (place m hO t r) k) :=
  congrArg (inO m c) (emb1 m hO t p r k)

theorem blkW (t : Fin (cfgM m hO).N) (r : Fin 256) (k : Fin 579) : (iblk m hO c 2 t : Vec Ideal S256x579 .f32) (ix2 r k) = inW m c (ix2 (place m hO t r) k) :=
  congrArg (inW m c) (emb2 m hO t r k)

theorem blkM (t : Fin (cfgM m hO).N) (r : Fin 256) (k : Fin 579) : (iblk m hO c 3 t : Vec Ideal S256x579 .f32) (ix2 r k) = inM m c (ix2 (place m hO t r) k) :=
  congrArg (inM m c) (emb3 m hO t r k)

theorem blkV (t : Fin (cfgM m hO).N) (r : Fin 256) (k : Fin 579) : (iblk m hO c 4 t : Vec Ideal S256x579 .f32) (ix2 r k) = inV m c (ix2 (place m hO t r) k) :=
  congrArg (inV m c) (emb4 m hO t r k)

/-- Every entry lies in a tile. -/
theorem tiled (i : S1024x579.Idx) : ∃ (t : Fin (cfgM m hO).N) (r : Fin 256) (k : Fin 579), i = ix2 (place m hO t r) k := by
  have h : (i 0 : Nat) < 1024 := (i 0).isLt
  have hN : (cfgM m hO).N = 4 := N_0
  refine ⟨⟨(i 0 : Nat) / 256, by omega⟩, ⟨(i 0 : Nat) % 256, Nat.mod_lt _ (by omega)⟩, i 1, ?_⟩
  funext a
  apply Fin.ext
  match a with
  | ⟨0, _⟩ => show (i 0 : Nat) = (i 0 : Nat) / 256 * 256 + (i 0 : Nat) % 256; omega
  | ⟨1, _⟩ => rfl

theorem tile_grads (t : Fin (cfgM m hO).N) (j : S256x579.Idx) :
    (outsAt0 m hO c t).1 j = grads (inP m c) (inO m c) (inC m c) ((((cfgM m hO).win 5).blk t).view.emb j : S1024x579.Idx) := by
  obtain ⟨r, k, rfl⟩ : ∃ (r : Fin 256) (k : Fin 579), j = ix2 r k := ⟨j 0, j 1, eq_ix2 j⟩
  refine Eq.trans ?_ (congrArg (grads (inP m c) (inO m c) (inC m c)) (emb5 m hO t r k).symm)
  unfold outsAt0
  dsimp only
  refine (total_read c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t) (iblk m hO c 2 t) (iblk m hO c 3 t) (iblk m hO c 4 t) (tbl m 0) r k).trans ?_
  simp only [blkP, blkO, number]
  rfl

theorem final_grads : (dats m hO 0 c).arrAt 5 (cfgM m hO).N = grads (inP m c) (inO m c) (inC m c) := by
  refine (dats m hO 0 c).arrAt_eq_of_cover 5 (grads (inP m c) (inO m c) (inC m c)) (fun t hf => ?_) fun i => ?_
  · show ((cfgM m hO).win 5).cut (grid0.coords t) ((dats m hO 0 c).after 5 t) = _
    rw [after0_5]
    exact funext fun j => tile_grads m hO c t j
  · obtain ⟨t, r, k, rfl⟩ := tiled m hO i
    exact ⟨t, flush0_5 (adm m hO) t, emb5 m hO t r k ▸ View.emb_mem_set _ _⟩

theorem tile_changes (t : Fin (cfgM m hO).N) (j : S256x579.Idx) :
    (outsAt0 m hO c t).2.1 j = changes (inP m c) (inO m c) (inC m c) (inW m c) (inM m c) (inV m c) ((((cfgM m hO).win 6).blk t).view.emb j : S1024x579.Idx) := by
  obtain ⟨r, k, rfl⟩ : ∃ (r : Fin 256) (k : Fin 579), j = ix2 r k := ⟨j 0, j 1, eq_ix2 j⟩
  refine Eq.trans ?_ (congrArg (changes (inP m c) (inO m c) (inC m c) (inW m c) (inM m c) (inV m c)) (emb6 m hO t r k).symm)
  unfold outsAt0
  dsimp only
  refine (change_read c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t) (iblk m hO c 2 t) (iblk m hO c 3 t) (iblk m hO c 4 t) (tbl m 0) r k).trans ?_
  simp only [blkP, blkO, blkW, blkM, blkV, number]
  rfl

theorem final_changes : (dats m hO 0 c).arrAt 6 (cfgM m hO).N = changes (inP m c) (inO m c) (inC m c) (inW m c) (inM m c) (inV m c) := by
  refine (dats m hO 0 c).arrAt_eq_of_cover 6 (changes (inP m c) (inO m c) (inC m c) (inW m c) (inM m c) (inV m c)) (fun t hf => ?_) fun i => ?_
  · show ((cfgM m hO).win 6).cut (grid0.coords t) ((dats m hO 0 c).after 6 t) = _
    rw [after0_6]
    exact funext fun j => tile_changes m hO c t j
  · obtain ⟨t, r, k, rfl⟩ := tiled m hO i
    exact ⟨t, flush0_6 (adm m hO) t, emb6 m hO t r k ▸ View.emb_mem_set _ _⟩

theorem tile_moments (t : Fin (cfgM m hO).N) (j : S256x579.Idx) :
    (outsAt0 m hO c t).2.2.1 j = moments (inP m c) (inO m c) (inC m c) (inM m c) ((((cfgM m hO).win 7).blk t).view.emb j : S1024x579.Idx) := by
  obtain ⟨r, k, rfl⟩ : ∃ (r : Fin 256) (k : Fin 579), j = ix2 r k := ⟨j 0, j 1, eq_ix2 j⟩
  refine Eq.trans ?_ (congrArg (moments (inP m c) (inO m c) (inC m c) (inM m c)) (emb7 m hO t r k).symm)
  unfold outsAt0
  dsimp only
  refine (moment_read c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t) (iblk m hO c 2 t) (iblk m hO c 3 t) (iblk m hO c 4 t) (tbl m 0) r k).trans ?_
  simp only [blkP, blkO, blkM, number]
  rfl

theorem final_moments : (dats m hO 0 c).arrAt 7 (cfgM m hO).N = moments (inP m c) (inO m c) (inC m c) (inM m c) := by
  refine (dats m hO 0 c).arrAt_eq_of_cover 7 (moments (inP m c) (inO m c) (inC m c) (inM m c)) (fun t hf => ?_) fun i => ?_
  · show ((cfgM m hO).win 7).cut (grid0.coords t) ((dats m hO 0 c).after 7 t) = _
    rw [after0_7]
    exact funext fun j => tile_moments m hO c t j
  · obtain ⟨t, r, k, rfl⟩ := tiled m hO i
    exact ⟨t, flush0_7 (adm m hO) t, emb7 m hO t r k ▸ View.emb_mem_set _ _⟩

theorem tile_squares (t : Fin (cfgM m hO).N) (j : S256x579.Idx) :
    (outsAt0 m hO c t).2.2.2 j = squares (inP m c) (inO m c) (inC m c) (inV m c) ((((cfgM m hO).win 8).blk t).view.emb j : S1024x579.Idx) := by
  obtain ⟨r, k, rfl⟩ : ∃ (r : Fin 256) (k : Fin 579), j = ix2 r k := ⟨j 0, j 1, eq_ix2 j⟩
  refine Eq.trans ?_ (congrArg (squares (inP m c) (inO m c) (inC m c) (inV m c)) (emb8 m hO t r k).symm)
  unfold outsAt0
  dsimp only
  refine (square_read c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t) (iblk m hO c 2 t) (iblk m hO c 3 t) (iblk m hO c 4 t) (tbl m 0) r k).trans ?_
  simp only [blkP, blkO, blkV, number]
  rfl

theorem final_squares : (dats m hO 0 c).arrAt 8 (cfgM m hO).N = squares (inP m c) (inO m c) (inC m c) (inV m c) := by
  refine (dats m hO 0 c).arrAt_eq_of_cover 8 (squares (inP m c) (inO m c) (inC m c) (inV m c)) (fun t hf => ?_) fun i => ?_
  · show ((cfgM m hO).win 8).cut (grid0.coords t) ((dats m hO 0 c).after 8 t) = _
    rw [after0_8]
    exact funext fun j => tile_squares m hO c t j
  · obtain ⟨t, r, k, rfl⟩ := tiled m hO i
    exact ⟨t, flush0_8 (adm m hO) t, emb8 m hO t r k ▸ View.emb_mem_set _ _⟩

/-- The run's results and arguments. -/
theorem kernel_run (g : Dev nD → PrngReg) : θ_run (defs (F := Ideal)) (onTc (τ := τ) (main (F := Ideal))) ⟨m, fun _ => 0, g⟩ (fun r => ∀ c : Dev nD,
      r.2.mem ((c.tc : Thread nD τ).loc main_v0_0) = grads (inP m c) (inO m c) (inC m c)
      ∧ r.2.mem ((c.tc : Thread nD τ).loc main_v0_1) = changes (inP m c) (inO m c) (inC m c) (inW m c) (inM m c) (inV m c)
      ∧ r.2.mem ((c.tc : Thread nD τ).loc main_v0_2) = moments (inP m c) (inO m c) (inC m c) (inM m c)
      ∧ r.2.mem ((c.tc : Thread nD τ).loc main_v0_3) = squares (inP m c) (inO m c) (inC m c) (inV m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h.1 c).1 5).trans (final_grads m trivial c), ((h.1 c).1 6).trans (final_changes m trivial c),
      ((h.1 c).1 7).trans (final_moments m trivial c), ((h.1 c).1 8).trans (final_squares m trivial c), h.2 c⟩)
    (θ_run_and (run_main m g trivial) (unchanged m g trivial))

end Cert.Kernel11Ideal.Tile

namespace Cert.Reference11Ideal.Rows

open Cert.Reference11Ideal Cert.Reference11Ideal.Read Cert.Kernel11Ideal.Tile

variable (x0 x1 : (⟨S4x1024x579, .bf16⟩ : BufTy).Contents (Elt Ideal)) (x2 : (⟨S1, .i32⟩ : BufTy).Contents (Elt Ideal))
  (x3 x4 x5 : (⟨S1024x579, .f32⟩ : BufTy).Contents (Elt Ideal))

/-- The reference compares the numbers the other way round. -/
theorem picked_comm (w : BitVec 32) (p : Fin 4) (own part : EReal) :
    Scalar.select (IntOp.cmpi .eq (BitVec.ofNat 32 p.val) w) own part = picked w p own part := by
  unfold picked
  rw [show (IntOp.cmpi .eq (BitVec.ofNat 32 p.val) w) = Scalar.cmpi .eq w (BitVec.ofNat 32 p.val) by
    simp only [IntOp.cmpi, Scalar.cmpi]
    exact congrArg BitVec.ofBool BEq.comm]

theorem grads_read : val_main_v8 (F := Ideal) x0 x1 x2 = grads x0 x1 x2 := by
  funext j
  obtain ⟨r, k, rfl⟩ : ∃ (r : Fin 1024) (k : Fin 579), j = ix2 r k := ⟨j 0, j 1, eq_ix2 j⟩
  refine Eq.trans ?_ (total_sum fun p => picked (x2 (ix1 0)) p (x1 (ix3 p r k)) (x0 (ix3 p r k)))
  simp only [← picked_comm]
  unfold val_main_v8 val_main_v7 val_main_call0_v0 val_main_v4 val_main_v1 val_main_v0 val_main_v3 val_main_v2 val_main_v5 val_main_v6 val_main_cst
  pointwise

theorem moments_read : val_main_v13 (F := Ideal) x0 x1 x2 x4 = moments x0 x1 x2 x4 := by
  funext j
  obtain ⟨r, k, rfl⟩ : ∃ (r : Fin 1024) (k : Fin 579), j = ix2 r k := ⟨j 0, j 1, eq_ix2 j⟩
  unfold val_main_v13 val_main_v12 val_main_v11 val_main_v10 val_main_v9 moments moment
  pointwise
  rw [grads_read]
  rfl

theorem squares_read : val_main_v19 (F := Ideal) x0 x1 x2 x5 = squares x0 x1 x2 x5 := by
  funext j
  obtain ⟨r, k, rfl⟩ : ∃ (r : Fin 1024) (k : Fin 579), j = ix2 r k := ⟨j 0, j 1, eq_ix2 j⟩
  unfold val_main_v19 val_main_v18 val_main_v17 val_main_v16 val_main_v15 val_main_v14 squares square
  pointwise
  rw [grads_read]
  rfl

theorem changes_read : val_main_v32 (F := Ideal) x0 x1 x2 x3 x4 x5 = changes x0 x1 x2 x3 x4 x5 := by
  funext j
  obtain ⟨r, k, rfl⟩ : ∃ (r : Fin 1024) (k : Fin 579), j = ix2 r k := ⟨j 0, j 1, eq_ix2 j⟩
  unfold val_main_v32 val_main_v31 val_main_v30 val_main_v29 val_main_v28 val_main_v27 val_main_v26 val_main_v25 val_main_v24 val_main_v23 val_main_v22 val_main_v21 val_main_v20 changes change
  pointwise
  rw [moments_read, squares_read]
  rfl

end Cert.Reference11Ideal.Rows

namespace Cert.Proof

open Cert.Reference11Ideal.Read Cert.Reference11Ideal.Rows Cert.Kernel11Ideal.Tile

/-- The reference runs and leaves its arguments as they were. -/
theorem frame11 : Cert.quiescent_Reference11Ideal := fun m g _ =>
  (θ_run Cert.Reference11Ideal.defs _ _).mono (fun r h => ⟨fun c => (h c).2.2.2.2, sem_eq_zero_of_no_sems (by decide) r.2⟩)
    (Cert.Reference11Ideal.Value.run (F := Ideal) m g)

/-- Kernel and reference, from the same arguments, end with equal results. -/
theorem algebraic11 : Cert.algebraic_Kernel11Ideal_Reference11Ideal := by
  intro m g m' g' _ hagree
  refine ⟨fun c => grads (inP m c) (inO m c) (inC m c), fun c => changes (inP m c) (inO m c) (inC m c) (inW m c) (inM m c) (inV m c), fun c => moments (inP m c) (inO m c) (inC m c) (inM m c),
    fun c => squares (inP m c) (inO m c) (inC m c) (inV m c), kernel_run m g, ?_⟩
  refine (θ_run Cert.Reference11Ideal.defs _ _).mono (fun r h c => ?_) (Cert.Reference11Ideal.Value.run (F := Ideal) m' g')
  obtain ⟨e0, e1, e2, e3, e4, e5⟩ := hagree c
  obtain ⟨h0, h1, h2, h3, hargs⟩ := h c
  refine ⟨h0.trans ?_, h1.trans ?_, h2.trans ?_, h3.trans ?_, hargs⟩
  · refine (val_main_v8_eq _ _ _).trans ((grads_read _ _ _).trans ?_)
    rw [e0, e1, e2]
    rfl
  · refine (val_main_v32_eq _ _ _ _ _ _).trans ((changes_read _ _ _ _ _ _).trans ?_)
    rw [e0, e1, e2, e3, e4, e5]
    rfl
  · refine (val_main_v13_eq _ _ _ _).trans ((moments_read _ _ _ _).trans ?_)
    rw [e0, e1, e2, e4]
    rfl
  · refine (val_main_v19_eq _ _ _ _).trans ((squares_read _ _ _ _).trans ?_)
    rw [e0, e1, e2, e5]
    rfl

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Read
public import proofs.«01_k».proof.Proof.Equal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Read
public import proofs.«01_k».proof.Proof.Products
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Read
public import proofs.«01_k».proof.Proof.Proj
public import proofs.«01_k».proof.Proof.AdamOut
public import proofs.«01_k».proof.Proof.AdamFf1
public import proofs.«01_k».proof.Proof.AdamFf2
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Reference12Ideal
public import proofs.«01_k».proof.Proof.Gen.Reference12Ideal.Read
public import proofs.«01_k».proof.Proof.Gen.Reference12Ideal.Run
public import proofs.«01_k».proof.Proof.SmallRun
public import proofs.«01_k».proof.Proof.SmallBitsRun
public import proofs.«01_k».proof.Proof.AdamSmall
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal
public import proofs.«01_k».proof.Proof.Gen.Reference11Ideal.Read
public import proofs.«01_k».proof.Proof.AdamIn
public import Idealize.ShloMosaic.Adequacy
public import Idealize.ShloMosaic.Init

@[expose] public section

noncomputable section

namespace Cert.Proof

open Idealize.ShloMosaic Idealize.ShloMosaic.TcCoe Idealize.ShloMosaic.StableHlo Idealize.SL.Sem

/-- The call's results at the ideal instance: every result array holds what the row functions give, and the arguments
    are as they were. -/
theorem kernel_values (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v0_0) = Cert.KernelIdeal.Tile.outLoss m c
      ∧ r.2.mem ((c.tc : Thread Cert.KernelIdeal.nD Cert.KernelIdeal.τ).loc Cert.KernelIdeal.main_v0_1) = Cert.KernelIdeal.Tile.outGwf m c
      ∧ r.2.mem ((c.tc : Thread Cert.KernelIdeal.nD Cert.KernelIdeal.τ).loc Cert.KernelIdeal.main_v0_2) = Cert.KernelIdeal.Tile.outGw2 m c
      ∧ r.2.mem ((c.tc : Thread Cert.KernelIdeal.nD Cert.KernelIdeal.τ).loc Cert.KernelIdeal.main_v0_3) = Cert.KernelIdeal.Tile.outFf m c
      ∧ r.2.mem ((c.tc : Thread Cert.KernelIdeal.nD Cert.KernelIdeal.τ).loc Cert.KernelIdeal.main_v0_4) = Cert.KernelIdeal.Tile.outDa m c
      ∧ r.2.mem ((c.tc : Thread Cert.KernelIdeal.nD Cert.KernelIdeal.τ).loc Cert.KernelIdeal.main_v0_5) = Cert.KernelIdeal.Tile.outHn m c
      ∧ r.2.mem ((c.tc : Thread Cert.KernelIdeal.nD Cert.KernelIdeal.τ).loc Cert.KernelIdeal.main_v0_6) = Cert.KernelIdeal.Tile.outDhid m c
      ∧ r.2.mem ((c.tc : Thread Cert.KernelIdeal.nD Cert.KernelIdeal.τ).loc Cert.KernelIdeal.main_v0_7) = Cert.KernelIdeal.Tile.outDres m c
      ∧ r.2.mem ((c.tc : Thread Cert.KernelIdeal.nD Cert.KernelIdeal.τ).loc Cert.KernelIdeal.main_v0_8) = Cert.KernelIdeal.Tile.outDmix m c
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)) :=
  (θ_run Cert.KernelIdeal.defs _ _).mono (fun _ h c => ⟨((h.1 c).1 6).trans (Cert.KernelIdeal.Tile.finalLoss m c),
    ((h.1 c).1 7).trans (Cert.KernelIdeal.Tile.finalGwf m c),
    ((h.1 c).1 8).trans (Cert.KernelIdeal.Tile.finalGw2 m c),
    ((h.1 c).1 9).trans (Cert.KernelIdeal.Tile.finalFf m c),
    ((h.1 c).1 10).trans (Cert.KernelIdeal.Tile.finalDa m c),
    ((h.1 c).1 11).trans (Cert.KernelIdeal.Tile.finalHn m c),
    ((h.1 c).1 12).trans (Cert.KernelIdeal.Tile.finalDhid m c),
    ((h.1 c).1 13).trans (Cert.KernelIdeal.Tile.finalDres m c),
    ((h.1 c).1 14).trans (Cert.KernelIdeal.Tile.finalDmix m c),
    h.2 c⟩)
    (θ_run_and (Cert.KernelIdeal.Gen.run_main (F := Ideal) m g) (Cert.KernelIdeal.Gen.unchanged (F := Ideal) m g))

/-- The reference runs and leaves its arguments as they were. -/
theorem frame_reference : Cert.quiescent_ReferenceIdeal := fun m g _ =>
  (θ_run Cert.ReferenceIdeal.defs _ _).mono (fun r h => ⟨fun c => (h c).2.2.2.2.2.2.2.2.2, sem_eq_zero_of_no_sems (by decide) r.2⟩)
    (Cert.ReferenceIdeal.Value.run (F := Ideal) m g)

/-- Kernel and reference, from the same arguments, end with equal results. -/
theorem algebraic : Cert.algebraic_KernelIdeal_ReferenceIdeal := by
  intro m g m' g' _ hagree
  refine ⟨Cert.KernelIdeal.Tile.outLoss m, Cert.KernelIdeal.Tile.outGwf m, Cert.KernelIdeal.Tile.outGw2 m, Cert.KernelIdeal.Tile.outFf m, Cert.KernelIdeal.Tile.outDa m, Cert.KernelIdeal.Tile.outHn m, Cert.KernelIdeal.Tile.outDhid m, Cert.KernelIdeal.Tile.outDres m, Cert.KernelIdeal.Tile.outDmix m, kernel_values m g, ?_⟩
  refine (θ_run Cert.ReferenceIdeal.defs _ _).mono (fun r h c => ?_) (Cert.ReferenceIdeal.Value.run (F := Ideal) m' g')
  obtain ⟨e0, e1, e2, e3, e4, e5, e6, e7, e8⟩ := hagree c
  obtain ⟨h0, h1, h2, h3, h4, h5, h6, h7, h8, hargs⟩ := h c
  refine ⟨h0.trans ?_, h1.trans ?_, h2.trans ?_, h3.trans ?_, h4.trans ?_, h5.trans ?_, h6.trans ?_, h7.trans ?_, h8.trans ?_, hargs⟩
  · exact (Cert.ReferenceIdeal.Read.val_main_v111_eq _).trans (Cert.ReferenceIdeal.Rows.loss_eq m c _ _ _ _ _ _ _ _ _ e0 e1 e2 e3 e4 e5 e6 e7 e8)
  · exact (Cert.ReferenceIdeal.Read.val_main_v66_eq _).trans (Cert.ReferenceIdeal.Rows.gwf_eq m c _ _ _ _ _ _ _ _ _ e0 e1 e2 e3 e4 e5 e6 e7 e8)
  · exact (Cert.ReferenceIdeal.Read.val_main_v92_eq _).trans (Cert.ReferenceIdeal.Rows.gw2_eq m c _ _ _ _ _ _ _ _ _ e0 e1 e2 e3 e4 e5 e6 e7 e8)
  · exact (Cert.ReferenceIdeal.Read.val_main_v112_eq _).trans (Cert.ReferenceIdeal.Rows.ff_eq m c _ _ _ _ _ _ e0 e1 e2 e4 e5 e6)
  · exact (Cert.ReferenceIdeal.Read.val_main_v113_eq _).trans (Cert.ReferenceIdeal.Rows.da_eq m c _ _ _ _ _ _ _ _ _ e0 e1 e2 e3 e4 e5 e6 e7 e8)
  · exact (Cert.ReferenceIdeal.Read.val_main_v114_eq _).trans (Cert.ReferenceIdeal.Rows.hn_eq m c _ _ _ _ _ e0 e1 e2 e4 e5)
  · exact (Cert.ReferenceIdeal.Read.val_main_v109_eq _).trans (Cert.ReferenceIdeal.Rows.dhid_eq m c _ _ _ _ _ _ _ _ _ e0 e1 e2 e3 e4 e5 e6 e7 e8)
  · exact (Cert.ReferenceIdeal.Read.val_main_v115_eq _).trans (Cert.ReferenceIdeal.Rows.dres_eq m c _ _ _ _ _ _ _ _ _ e0 e1 e2 e3 e4 e5 e6 e7 e8)
  · exact (Cert.ReferenceIdeal.Read.val_main_v110_eq _).trans (Cert.ReferenceIdeal.Rows.dmix_eq m c _ _ _ _ _ _ _ _ _ e0 e1 e2 e3 e4 e5 e6 e7 e8)

/-- Everything that is claimed of the calls. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts,
  fun m g _ => Cert.Kernel.Gen.frame m g,
  fun m g _ => Cert.KernelIdeal.Gen.frame m g,
  frame_reference,
  fun m g _ => Cert.Kernel2.Gen.frame m g,
  fun m g _ => Cert.Kernel2Ideal.Gen.frame m g,
  frame2,
  fun m g _ => Cert.Kernel3.Gen.frame m g,
  fun m g _ => Cert.Kernel3Ideal.Gen.frame m g,
  frame3,
  fun m g _ => Cert.Kernel4.Gen.frame m g,
  fun m g _ => Cert.Kernel4Ideal.Gen.frame m g,
  frame4,
  fun m g _ => Cert.Kernel5.Gen.frame m g,
  fun m g _ => Cert.Kernel5Ideal.Gen.frame m g,
  frame5,
  fun m g _ => Cert.Kernel8.Gen.frame m g,
  fun m g _ => Cert.Kernel8Ideal.Gen.frame m g,
  frame8,
  fun m g _ => Cert.Kernel9.Gen.frame m g,
  fun m g _ => Cert.Kernel9Ideal.Gen.frame m g,
  frame9,
  fun m g _ => Cert.Kernel10.Gen.frame m g,
  fun m g _ => Cert.Kernel10Ideal.Gen.frame m g,
  frame10,
  fun m g _ => Cert.Kernel11.Gen.frame m g trivial,
  fun m g _ => Cert.Kernel11Ideal.Gen.frame m g trivial,
  frame11,
  fun m g _ => Cert.Kernel12.Small.frame m g,
  fun m g _ => Cert.Kernel12Ideal.Small.frame m g,
  frame12,
  trivial, algebraic, trivial, algebraic2, trivial, algebraic3, trivial, algebraic4, trivial, algebraic5, trivial, algebraic8, trivial, algebraic9, trivial, algebraic10, trivial, algebraic11, trivial, algebraic12⟩

end Cert.Proof

end
